-- ==== Defs.lean ====
def Pre_LnLoss (m : (ℓ : Loc Cert.LnLoss.nD Cert.LnLoss.τ Cert.LnLoss.sig) → Buf (Elt Bits) ℓ) : Prop :=
  True

def Pre_LnLossIdeal (m : (ℓ : Loc Cert.LnLossIdeal.nD Cert.LnLossIdeal.τ Cert.LnLossIdeal.sig) → Buf (Elt Ideal) ℓ) : Prop :=
  True

def Pre_LnLossIdeal_ln_loss_finite [hPre_ln_loss_finite : Cert.Pre_ln_loss_finite.Facts] (m : (ℓ : Loc Cert.LnLossIdeal.nD Cert.LnLossIdeal.τ Cert.LnLossIdeal.sig) → Buf (Elt Ideal) ℓ) : Prop :=
  ∀ c : Dev Cert.LnLossIdeal.nD,
    (Cert.Pre_ln_loss_finite.fn (F := Ideal) (m ((c.tc : Thread Cert.LnLossIdeal.nD Cert.LnLossIdeal.τ).loc Cert.LnLossIdeal.main_arg0)) (m ((c.tc : Thread Cert.LnLossIdeal.nD Cert.LnLossIdeal.τ).loc Cert.LnLossIdeal.main_arg1)) (m ((c.tc : Thread Cert.LnLossIdeal.nD Cert.LnLossIdeal.τ).loc Cert.LnLossIdeal.main_arg2)) (m ((c.tc : Thread Cert.LnLossIdeal.nD Cert.LnLossIdeal.τ).loc Cert.LnLossIdeal.main_arg3)) (m ((c.tc : Thread Cert.LnLossIdeal.nD Cert.LnLossIdeal.τ).loc Cert.LnLossIdeal.main_arg4))).1 = (fun _ => 1#1)
    ∧ (Cert.Pre_ln_loss_finite.fn (F := Ideal) (m ((c.tc : Thread Cert.LnLossIdeal.nD Cert.LnLossIdeal.τ).loc Cert.LnLossIdeal.main_arg0)) (m ((c.tc : Thread Cert.LnLossIdeal.nD Cert.LnLossIdeal.τ).loc Cert.LnLossIdeal.main_arg1)) (m ((c.tc : Thread Cert.LnLossIdeal.nD Cert.LnLossIdeal.τ).loc Cert.LnLossIdeal.main_arg2)) (m ((c.tc : Thread Cert.LnLossIdeal.nD Cert.LnLossIdeal.τ).loc Cert.LnLossIdeal.main_arg3)) (m ((c.tc : Thread Cert.LnLossIdeal.nD Cert.LnLossIdeal.τ).loc Cert.LnLossIdeal.main_arg4))).2.1 = (fun _ => 1#1)
    ∧ (Cert.Pre_ln_loss_finite.fn (F := Ideal) (m ((c.tc : Thread Cert.LnLossIdeal.nD Cert.LnLossIdeal.τ).loc Cert.LnLossIdeal.main_arg0)) (m ((c.tc : Thread Cert.LnLossIdeal.nD Cert.LnLossIdeal.τ).loc Cert.LnLossIdeal.main_arg1)) (m ((c.tc : Thread Cert.LnLossIdeal.nD Cert.LnLossIdeal.τ).loc Cert.LnLossIdeal.main_arg2)) (m ((c.tc : Thread Cert.LnLossIdeal.nD Cert.LnLossIdeal.τ).loc Cert.LnLossIdeal.main_arg3)) (m ((c.tc : Thread Cert.LnLossIdeal.nD Cert.LnLossIdeal.τ).loc Cert.LnLossIdeal.main_arg4))).2.2.1 = (fun _ => 1#1)
    ∧ (Cert.Pre_ln_loss_finite.fn (F := Ideal) (m ((c.tc : Thread Cert.LnLossIdeal.nD Cert.LnLossIdeal.τ).loc Cert.LnLossIdeal.main_arg0)) (m ((c.tc : Thread Cert.LnLossIdeal.nD Cert.LnLossIdeal.τ).loc Cert.LnLossIdeal.main_arg1)) (m ((c.tc : Thread Cert.LnLossIdeal.nD Cert.LnLossIdeal.τ).loc Cert.LnLossIdeal.main_arg2)) (m ((c.tc : Thread Cert.LnLossIdeal.nD Cert.LnLossIdeal.τ).loc Cert.LnLossIdeal.main_arg3)) (m ((c.tc : Thread Cert.LnLossIdeal.nD Cert.LnLossIdeal.τ).loc Cert.LnLossIdeal.main_arg4))).2.2.2.1 = (fun _ => 1#1)
    ∧ (Cert.Pre_ln_loss_finite.fn (F := Ideal) (m ((c.tc : Thread Cert.LnLossIdeal.nD Cert.LnLossIdeal.τ).loc Cert.LnLossIdeal.main_arg0)) (m ((c.tc : Thread Cert.LnLossIdeal.nD Cert.LnLossIdeal.τ).loc Cert.LnLossIdeal.main_arg1)) (m ((c.tc : Thread Cert.LnLossIdeal.nD Cert.LnLossIdeal.τ).loc Cert.LnLossIdeal.main_arg2)) (m ((c.tc : Thread Cert.LnLossIdeal.nD Cert.LnLossIdeal.τ).loc Cert.LnLossIdeal.main_arg3)) (m ((c.tc : Thread Cert.LnLossIdeal.nD Cert.LnLossIdeal.τ).loc Cert.LnLossIdeal.main_arg4))).2.2.2.2 = (fun _ => 1#1)

def Pre_LnLossRefIdeal (m : (ℓ : Loc Cert.LnLossRefIdeal.nD Cert.LnLossRefIdeal.τ Cert.LnLossRefIdeal.sig) → Buf (Elt Ideal) ℓ) : Prop :=
  True

def Pre_LnLossRefIdeal_ln_loss_finite [hPre_ln_loss_finite : Cert.Pre_ln_loss_finite.Facts] (m : (ℓ : Loc Cert.LnLossRefIdeal.nD Cert.LnLossRefIdeal.τ Cert.LnLossRefIdeal.sig) → Buf (Elt Ideal) ℓ) : Prop :=
  ∀ c : Dev Cert.LnLossRefIdeal.nD,
    (Cert.Pre_ln_loss_finite.fn (F := Ideal) (m ((c.tc : Thread Cert.LnLossRefIdeal.nD Cert.LnLossRefIdeal.τ).loc Cert.LnLossRefIdeal.main_arg0)) (m ((c.tc : Thread Cert.LnLossRefIdeal.nD Cert.LnLossRefIdeal.τ).loc Cert.LnLossRefIdeal.main_arg1)) (m ((c.tc : Thread Cert.LnLossRefIdeal.nD Cert.LnLossRefIdeal.τ).loc Cert.LnLossRefIdeal.main_arg2)) (m ((c.tc : Thread Cert.LnLossRefIdeal.nD Cert.LnLossRefIdeal.τ).loc Cert.LnLossRefIdeal.main_arg3)) (m ((c.tc : Thread Cert.LnLossRefIdeal.nD Cert.LnLossRefIdeal.τ).loc Cert.LnLossRefIdeal.main_arg4))).1 = (fun _ => 1#1)
    ∧ (Cert.Pre_ln_loss_finite.fn (F := Ideal) (m ((c.tc : Thread Cert.LnLossRefIdeal.nD Cert.LnLossRefIdeal.τ).loc Cert.LnLossRefIdeal.main_arg0)) (m ((c.tc : Thread Cert.LnLossRefIdeal.nD Cert.LnLossRefIdeal.τ).loc Cert.LnLossRefIdeal.main_arg1)) (m ((c.tc : Thread Cert.LnLossRefIdeal.nD Cert.LnLossRefIdeal.τ).loc Cert.LnLossRefIdeal.main_arg2)) (m ((c.tc : Thread Cert.LnLossRefIdeal.nD Cert.LnLossRefIdeal.τ).loc Cert.LnLossRefIdeal.main_arg3)) (m ((c.tc : Thread Cert.LnLossRefIdeal.nD Cert.LnLossRefIdeal.τ).loc Cert.LnLossRefIdeal.main_arg4))).2.1 = (fun _ => 1#1)
    ∧ (Cert.Pre_ln_loss_finite.fn (F := Ideal) (m ((c.tc : Thread Cert.LnLossRefIdeal.nD Cert.LnLossRefIdeal.τ).loc Cert.LnLossRefIdeal.main_arg0)) (m ((c.tc : Thread Cert.LnLossRefIdeal.nD Cert.LnLossRefIdeal.τ).loc Cert.LnLossRefIdeal.main_arg1)) (m ((c.tc : Thread Cert.LnLossRefIdeal.nD Cert.LnLossRefIdeal.τ).loc Cert.LnLossRefIdeal.main_arg2)) (m ((c.tc : Thread Cert.LnLossRefIdeal.nD Cert.LnLossRefIdeal.τ).loc Cert.LnLossRefIdeal.main_arg3)) (m ((c.tc : Thread Cert.LnLossRefIdeal.nD Cert.LnLossRefIdeal.τ).loc Cert.LnLossRefIdeal.main_arg4))).2.2.1 = (fun _ => 1#1)
    ∧ (Cert.Pre_ln_loss_finite.fn (F := Ideal) (m ((c.tc : Thread Cert.LnLossRefIdeal.nD Cert.LnLossRefIdeal.τ).loc Cert.LnLossRefIdeal.main_arg0)) (m ((c.tc : Thread Cert.LnLossRefIdeal.nD Cert.LnLossRefIdeal.τ).loc Cert.LnLossRefIdeal.main_arg1)) (m ((c.tc : Thread Cert.LnLossRefIdeal.nD Cert.LnLossRefIdeal.τ).loc Cert.LnLossRefIdeal.main_arg2)) (m ((c.tc : Thread Cert.LnLossRefIdeal.nD Cert.LnLossRefIdeal.τ).loc Cert.LnLossRefIdeal.main_arg3)) (m ((c.tc : Thread Cert.LnLossRefIdeal.nD Cert.LnLossRefIdeal.τ).loc Cert.LnLossRefIdeal.main_arg4))).2.2.2.1 = (fun _ => 1#1)
    ∧ (Cert.Pre_ln_loss_finite.fn (F := Ideal) (m ((c.tc : Thread Cert.LnLossRefIdeal.nD Cert.LnLossRefIdeal.τ).loc Cert.LnLossRefIdeal.main_arg0)) (m ((c.tc : Thread Cert.LnLossRefIdeal.nD Cert.LnLossRefIdeal.τ).loc Cert.LnLossRefIdeal.main_arg1)) (m ((c.tc : Thread Cert.LnLossRefIdeal.nD Cert.LnLossRefIdeal.τ).loc Cert.LnLossRefIdeal.main_arg2)) (m ((c.tc : Thread Cert.LnLossRefIdeal.nD Cert.LnLossRefIdeal.τ).loc Cert.LnLossRefIdeal.main_arg3)) (m ((c.tc : Thread Cert.LnLossRefIdeal.nD Cert.LnLossRefIdeal.τ).loc Cert.LnLossRefIdeal.main_arg4))).2.2.2.2 = (fun _ => 1#1)

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdRefIdeal (m : (ℓ : Loc Cert.PoolBwdRefIdeal.nD Cert.PoolBwdRefIdeal.τ Cert.PoolBwdRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdIdeal_mix_norm_finite [hPre_mix_norm_finite : Cert.Pre_mix_norm_finite.Facts] (m : (ℓ : Loc Cert.MixBwdIdeal.nD Cert.MixBwdIdeal.τ Cert.MixBwdIdeal.sig) → Buf (Elt Ideal) ℓ) : Prop :=
  ∀ c : Dev Cert.MixBwdIdeal.nD,
    (Cert.Pre_mix_norm_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6))).1 = (fun _ => 1#1)
    ∧ (Cert.Pre_mix_norm_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6))).2.1 = (fun _ => 1#1)
    ∧ (Cert.Pre_mix_norm_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6))).2.2.1 = (fun _ => 1#1)
    ∧ (Cert.Pre_mix_norm_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6))).2.2.2.1 = (fun _ => 1#1)
    ∧ (Cert.Pre_mix_norm_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6))).2.2.2.2 = (fun _ => 1#1)

def Pre_MixBwdRefIdeal (m : (ℓ : Loc Cert.MixBwdRefIdeal.nD Cert.MixBwdRefIdeal.τ Cert.MixBwdRefIdeal.sig) → Buf (Elt Ideal) ℓ) : Prop :=
  True

def Pre_MixBwdRefIdeal_mix_norm_finite [hPre_mix_norm_finite : Cert.Pre_mix_norm_finite.Facts] (m : (ℓ : Loc Cert.MixBwdRefIdeal.nD Cert.MixBwdRefIdeal.τ Cert.MixBwdRefIdeal.sig) → Buf (Elt Ideal) ℓ) : Prop :=
  ∀ c : Dev Cert.MixBwdRefIdeal.nD,
    (Cert.Pre_mix_norm_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6))).1 = (fun _ => 1#1)
    ∧ (Cert.Pre_mix_norm_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6))).2.1 = (fun _ => 1#1)
    ∧ (Cert.Pre_mix_norm_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6))).2.2.1 = (fun _ => 1#1)
    ∧ (Cert.Pre_mix_norm_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6))).2.2.2.1 = (fun _ => 1#1)
    ∧ (Cert.Pre_mix_norm_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6))).2.2.2.2 = (fun _ => 1#1)

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdRefIdeal (m : (ℓ : Loc Cert.PoolFwdRefIdeal.nD Cert.PoolFwdRefIdeal.τ Cert.PoolFwdRefIdeal.sig) → Buf (Elt Ideal) ℓ) : Prop :=
  True

def Pre_LruFwd (m : (ℓ : Loc Cert.LruFwd.nD Cert.LruFwd.τ Cert.LruFwd.sig) → Buf (Elt Bits) ℓ) : Prop :=
  True

def Pre_LruFwdIdeal (m : (ℓ : Loc Cert.LruFwdIdeal.nD Cert.LruFwdIdeal.τ Cert.LruFwdIdeal.sig) → Buf (Elt Ideal) ℓ) : Prop :=
  True

def Pre_LruFwdRefIdeal (m : (ℓ : Loc Cert.LruFwdRefIdeal.nD Cert.LruFwdRefIdeal.τ Cert.LruFwdRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MlpOut (m : (ℓ : Loc Cert.MlpOut.nD Cert.MlpOut.τ Cert.MlpOut.sig) → Buf (Elt Bits) ℓ) : Prop :=
  True

def Pre_MlpOutIdeal (m : (ℓ : Loc Cert.MlpOutIdeal.nD Cert.MlpOutIdeal.τ Cert.MlpOutIdeal.sig) → Buf (Elt Ideal) ℓ) : Prop :=
  True

def Pre_MlpOutRefIdeal (m : (ℓ : Loc Cert.MlpOutRefIdeal.nD Cert.MlpOutRefIdeal.τ Cert.MlpOutRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRefIdeal (m : (ℓ : Loc Cert.GradXRefIdeal.nD Cert.GradXRefIdeal.τ Cert.GradXRefIdeal.sig) → Buf (Elt Ideal) ℓ) : Prop :=
  True

def Pre_LossSum (m : (ℓ : Loc Cert.LossSum.nD Cert.LossSum.τ Cert.LossSum.sig) → Buf (Elt Bits) ℓ) : Prop :=
  True

def Pre_LossSumIdeal (m : (ℓ : Loc Cert.LossSumIdeal.nD Cert.LossSumIdeal.τ Cert.LossSumIdeal.sig) → Buf (Elt Ideal) ℓ) : Prop :=
  True

def Pre_LossSumRefIdeal (m : (ℓ : Loc Cert.LossSumRefIdeal.nD Cert.LossSumRefIdeal.τ Cert.LossSumRefIdeal.sig) → Buf (Elt Ideal) ℓ) : Prop :=
  True

def Pre_CastX (m : (ℓ : Loc Cert.CastX.nD Cert.CastX.τ Cert.CastX.sig) → Buf (Elt Bits) ℓ) : Prop :=
  True

def Pre_CastXIdeal (m : (ℓ : Loc Cert.CastXIdeal.nD Cert.CastXIdeal.τ Cert.CastXIdeal.sig) → Buf (Elt Ideal) ℓ) : Prop :=
  True

def Pre_CastXRefIdeal (m : (ℓ : Loc Cert.CastXRefIdeal.nD Cert.CastXRefIdeal.τ Cert.CastXRefIdeal.sig) → Buf (Elt Ideal) ℓ) : Prop :=
  True

def Pre_CastXRef (m : (ℓ : Loc Cert.CastXRef.nD Cert.CastXRef.τ Cert.CastXRef.sig) → Buf (Elt Bits) ℓ) : Prop :=
  True

def Pre_PairSum [hPre_device_ids : Cert.Pre_device_ids.Facts] (m : (ℓ : Loc Cert.PairSum.nD Cert.PairSum.τ Cert.PairSum.sig) → Buf (Elt Bits) ℓ) : Prop :=
  ∀ c : Dev Cert.PairSum.nD,
    (Cert.Pre_device_ids.fn (F := Bits) (m ((c.tc : Thread Cert.PairSum.nD Cert.PairSum.τ).loc Cert.PairSum.main_arg0)) (m ((c.tc : Thread Cert.PairSum.nD Cert.PairSum.τ).loc Cert.PairSum.main_arg1)) (m ((c.tc : Thread Cert.PairSum.nD Cert.PairSum.τ).loc Cert.PairSum.main_arg2))) = (fun _ => 1#1)

def Pre_PairSumIdeal [hPre_device_ids : Cert.Pre_device_ids.Facts] (m : (ℓ : Loc Cert.PairSumIdeal.nD Cert.PairSumIdeal.τ Cert.PairSumIdeal.sig) → Buf (Elt Ideal) ℓ) : Prop :=
  ∀ c : Dev Cert.PairSumIdeal.nD,
    (Cert.Pre_device_ids.fn (F := Ideal) (m ((c.tc : Thread Cert.PairSumIdeal.nD Cert.PairSumIdeal.τ).loc Cert.PairSumIdeal.main_arg0)) (m ((c.tc : Thread Cert.PairSumIdeal.nD Cert.PairSumIdeal.τ).loc Cert.PairSumIdeal.main_arg1)) (m ((c.tc : Thread Cert.PairSumIdeal.nD Cert.PairSumIdeal.τ).loc Cert.PairSumIdeal.main_arg2))) = (fun _ => 1#1)

def Pre_PairSumRefIdeal (m : (ℓ : Loc Cert.PairSumRefIdeal.nD Cert.PairSumRefIdeal.τ Cert.PairSumRefIdeal.sig) → Buf (Elt Ideal) ℓ) : Prop :=
  True

def Pre_PairSumRefIdeal_device_ids [hPre_device_ids : Cert.Pre_device_ids.Facts] (m : (ℓ : Loc Cert.PairSumRefIdeal.nD Cert.PairSumRefIdeal.τ Cert.PairSumRefIdeal.sig) → Buf (Elt Ideal) ℓ) : Prop :=
  ∀ c : Dev Cert.PairSumRefIdeal.nD,
    (Cert.Pre_device_ids.fn (F := Ideal) (m ((c.tc : Thread Cert.PairSumRefIdeal.nD Cert.PairSumRefIdeal.τ).loc Cert.PairSumRefIdeal.main_arg0)) (m ((c.tc : Thread Cert.PairSumRefIdeal.nD Cert.PairSumRefIdeal.τ).loc Cert.PairSumRefIdeal.main_arg1)) (m ((c.tc : Thread Cert.PairSumRefIdeal.nD Cert.PairSumRefIdeal.τ).loc Cert.PairSumRefIdeal.main_arg2))) = (fun _ => 1#1)

def Pre_PairSumRef (m : (ℓ : Loc Cert.PairSumRef.nD Cert.PairSumRef.τ Cert.PairSumRef.sig) → Buf (Elt Bits) ℓ) : Prop :=
  True

def Pre_PairSumRef_device_ids [hPre_device_ids : Cert.Pre_device_ids.Facts] (m : (ℓ : Loc Cert.PairSumRef.nD Cert.PairSumRef.τ Cert.PairSumRef.sig) → Buf (Elt Bits) ℓ) : Prop :=
  ∀ c : Dev Cert.PairSumRef.nD,
    (Cert.Pre_device_ids.fn (F := Bits) (m ((c.tc : Thread Cert.PairSumRef.nD Cert.PairSumRef.τ).loc Cert.PairSumRef.main_arg0)) (m ((c.tc : Thread Cert.PairSumRef.nD Cert.PairSumRef.τ).loc Cert.PairSumRef.main_arg1)) (m ((c.tc : Thread Cert.PairSumRef.nD Cert.PairSumRef.τ).loc Cert.PairSumRef.main_arg2))) = (fun _ => 1#1)

def Pre_AdamHead (m : (ℓ : Loc Cert.AdamHead.nD Cert.AdamHead.τ Cert.AdamHead.sig) → Buf (Elt Bits) ℓ) : Prop :=
  True

def Pre_AdamHeadIdeal (m : (ℓ : Loc Cert.AdamHeadIdeal.nD Cert.AdamHeadIdeal.τ Cert.AdamHeadIdeal.sig) → Buf (Elt Ideal) ℓ) : Prop :=
  True

def Pre_AdamHeadRefIdeal (m : (ℓ : Loc Cert.AdamHeadRefIdeal.nD Cert.AdamHeadRefIdeal.τ Cert.AdamHeadRefIdeal.sig) → Buf (Elt Ideal) ℓ) : Prop :=
  True

def Pre_AdamRep (m : (ℓ : Loc Cert.AdamRep.nD Cert.AdamRep.τ Cert.AdamRep.sig) → Buf (Elt Bits) ℓ) : Prop :=
  True

def Pre_AdamRepIdeal (m : (ℓ : Loc Cert.AdamRepIdeal.nD Cert.AdamRepIdeal.τ Cert.AdamRepIdeal.sig) → Buf (Elt Ideal) ℓ) : Prop :=
  True

def Pre_AdamRepRefIdeal (m : (ℓ : Loc Cert.AdamRepRefIdeal.nD Cert.AdamRepRefIdeal.τ Cert.AdamRepRefIdeal.sig) → Buf (Elt Ideal) ℓ) : Prop :=
  True

def quiescent_LnLoss [hLnLoss : Cert.LnLoss.Facts] : Prop :=
  ∀ (m : (ℓ : Loc Cert.LnLoss.nD Cert.LnLoss.τ Cert.LnLoss.sig) → Buf (Elt Bits) ℓ) (g : Dev Cert.LnLoss.nD → PrngReg), Pre_LnLoss m →
    θ_run (Cert.LnLoss.defs (F := Bits)) (onTc (τ := Cert.LnLoss.τ) (Cert.LnLoss.main (F := Bits))) ⟨m, fun _ => 0, g⟩ (fun r => (∀ c : Dev Cert.LnLoss.nD,
      r.2.mem ((c.tc : Thread Cert.LnLoss.nD Cert.LnLoss.τ).loc Cert.LnLoss.main_arg0) = m ((c.tc : Thread Cert.LnLoss.nD Cert.LnLoss.τ).loc Cert.LnLoss.main_arg0)
      ∧ r.2.mem ((c.tc : Thread Cert.LnLoss.nD Cert.LnLoss.τ).loc Cert.LnLoss.main_arg1) = m ((c.tc : Thread Cert.LnLoss.nD Cert.LnLoss.τ).loc Cert.LnLoss.main_arg1)
      ∧ r.2.mem ((c.tc : Thread Cert.LnLoss.nD Cert.LnLoss.τ).loc Cert.LnLoss.main_arg2) = m ((c.tc : Thread Cert.LnLoss.nD Cert.LnLoss.τ).loc Cert.LnLoss.main_arg2)
      ∧ r.2.mem ((c.tc : Thread Cert.LnLoss.nD Cert.LnLoss.τ).loc Cert.LnLoss.main_arg3) = m ((c.tc : Thread Cert.LnLoss.nD Cert.LnLoss.τ).loc Cert.LnLoss.main_arg3)
      ∧ r.2.mem ((c.tc : Thread Cert.LnLoss.nD Cert.LnLoss.τ).loc Cert.LnLoss.main_arg4) = m ((c.tc : Thread Cert.LnLoss.nD Cert.LnLoss.τ).loc Cert.LnLoss.main_arg4))
      ∧ r.2.sem = fun _ => 0)

def quiescent_LnLossIdeal [hLnLossIdeal : Cert.LnLossIdeal.Facts] : Prop :=
  ∀ (m : (ℓ : Loc Cert.LnLossIdeal.nD Cert.LnLossIdeal.τ Cert.LnLossIdeal.sig) → Buf (Elt Ideal) ℓ) (g : Dev Cert.LnLossIdeal.nD → PrngReg), Pre_LnLossIdeal m →
    θ_run (Cert.LnLossIdeal.defs (F := Ideal)) (onTc (τ := Cert.LnLossIdeal.τ) (Cert.LnLossIdeal.main (F := Ideal))) ⟨m, fun _ => 0, g⟩ (fun r => (∀ c : Dev Cert.LnLossIdeal.nD,
      r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
      ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
      ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
      ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3)
      ∧ r.2.mem ((c.tc : Thread Cert.LnLossIdeal.nD Cert.LnLossIdeal.τ).loc Cert.LnLossIdeal.main_arg4) = m ((c.tc : Thread Cert.LnLossIdeal.nD Cert.LnLossIdeal.τ).loc Cert.LnLossIdeal.main_arg4))
      ∧ r.2.sem = fun _ => 0)

def quiescent_LnLossIdeal_pre_ln_loss_finite [hLnLossIdeal : Cert.LnLossIdeal.Facts] [hPre_ln_loss_finite : Cert.Pre_ln_loss_finite.Facts] : Prop :=
  ∀ (m : (ℓ : Loc Cert.LnLossIdeal.nD Cert.LnLossIdeal.τ Cert.LnLossIdeal.sig) → Buf (Elt Ideal) ℓ) (g : Dev Cert.LnLossIdeal.nD → PrngReg), Pre_LnLossIdeal_ln_loss_finite m →
    θ_run (Cert.LnLossIdeal.defs (F := Ideal)) (onTc (τ := Cert.LnLossIdeal.τ) (Cert.LnLossIdeal.main (F := Ideal))) ⟨m, fun _ => 0, g⟩ (fun r => (∀ c : Dev Cert.LnLossIdeal.nD,
      r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
      ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
      ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
      ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3)
      ∧ r.2.mem ((c.tc : Thread Cert.LnLossIdeal.nD Cert.LnLossIdeal.τ).loc Cert.LnLossIdeal.main_arg4) = m ((c.tc : Thread Cert.LnLossIdeal.nD Cert.LnLossIdeal.τ).loc Cert.LnLossIdeal.main_arg4))
      ∧ r.2.sem = fun _ => 0)

def quiescent_LnLossRefIdeal [hLnLossRefIdeal : Cert.LnLossRefIdeal.Facts] : Prop :=
  ∀ (m : (ℓ : Loc Cert.LnLossRefIdeal.nD Cert.LnLossRefIdeal.τ Cert.LnLossRefIdeal.sig) → Buf (Elt Ideal) ℓ) (g : Dev Cert.LnLossRefIdeal.nD → PrngReg), Pre_LnLossRefIdeal m →
    θ_run (Cert.LnLossRefIdeal.defs (F := Ideal)) (onTc (τ := Cert.LnLossRefIdeal.τ) (Cert.LnLossRefIdeal.main (F := Ideal))) ⟨m, fun _ => 0, g⟩ (fun r => (∀ c : Dev Cert.LnLossRefIdeal.nD,
      r.2.mem ((c.tc : Thread Cert.LnLossRefIdeal.nD Cert.LnLossRefIdeal.τ).loc Cert.LnLossRefIdeal.main_arg0) = m ((c.tc : Thread Cert.LnLossRefIdeal.nD Cert.LnLossRefIdeal.τ).loc Cert.LnLossRefIdeal.main_arg0)
      ∧ r.2.mem ((c.tc : Thread Cert.LnLossRefIdeal.nD Cert.LnLossRefIdeal.τ).loc Cert.LnLossRefIdeal.main_arg1) = m ((c.tc : Thread Cert.LnLossRefIdeal.nD Cert.LnLossRefIdeal.τ).loc Cert.LnLossRefIdeal.main_arg1)
      ∧ r.2.mem ((c.tc : Thread Cert.LnLossRefIdeal.nD Cert.LnLossRefIdeal.τ).loc Cert.LnLossRefIdeal.main_arg2) = m ((c.tc : Thread Cert.LnLossRefIdeal.nD Cert.LnLossRefIdeal.τ).loc Cert.LnLossRefIdeal.main_arg2)
      ∧ r.2.mem ((c.tc : Thread Cert.LnLossRefIdeal.nD Cert.LnLossRefIdeal.τ).loc Cert.LnLossRefIdeal.main_arg3) = m ((c.tc : Thread Cert.LnLossRefIdeal.nD Cert.LnLossRefIdeal.τ).loc Cert.LnLossRefIdeal.main_arg3)
      ∧ r.2.mem ((c.tc : Thread Cert.LnLossRefIdeal.nD Cert.LnLossRefIdeal.τ).loc Cert.LnLossRefIdeal.main_arg4) = m ((c.tc : Thread Cert.LnLossRefIdeal.nD Cert.LnLossRefIdeal.τ).loc Cert.LnLossRefIdeal.main_arg4))
      ∧ r.2.sem = fun _ => 0)

def quiescent_LnLossRefIdeal_pre_ln_loss_finite [hLnLossRefIdeal : Cert.LnLossRefIdeal.Facts] [hPre_ln_loss_finite : Cert.Pre_ln_loss_finite.Facts] : Prop :=
  ∀ (m : (ℓ : Loc Cert.LnLossRefIdeal.nD Cert.LnLossRefIdeal.τ Cert.LnLossRefIdeal.sig) → Buf (Elt Ideal) ℓ) (g : Dev Cert.LnLossRefIdeal.nD → PrngReg), Pre_LnLossRefIdeal_ln_loss_finite m →
    θ_run (Cert.LnLossRefIdeal.defs (F := Ideal)) (onTc (τ := Cert.LnLossRefIdeal.τ) (Cert.LnLossRefIdeal.main (F := Ideal))) ⟨m, fun _ => 0, g⟩ (fun r => (∀ c : Dev Cert.LnLossRefIdeal.nD,
      r.2.mem ((c.tc : Thread Cert.LnLossRefIdeal.nD Cert.LnLossRefIdeal.τ).loc Cert.LnLossRefIdeal.main_arg0) = m ((c.tc : Thread Cert.LnLossRefIdeal.nD Cert.LnLossRefIdeal.τ).loc Cert.LnLossRefIdeal.main_arg0)
      ∧ r.2.mem ((c.tc : Thread Cert.LnLossRefIdeal.nD Cert.LnLossRefIdeal.τ).loc Cert.LnLossRefIdeal.main_arg1) = m ((c.tc : Thread Cert.LnLossRefIdeal.nD Cert.LnLossRefIdeal.τ).loc Cert.LnLossRefIdeal.main_arg1)
      ∧ r.2.mem ((c.tc : Thread Cert.LnLossRefIdeal.nD Cert.LnLossRefIdeal.τ).loc Cert.LnLossRefIdeal.main_arg2) = m ((c.tc : Thread Cert.LnLossRefIdeal.nD Cert.LnLossRefIdeal.τ).loc Cert.LnLossRefIdeal.main_arg2)
      ∧ r.2.mem ((c.tc : Thread Cert.LnLossRefIdeal.nD Cert.LnLossRefIdeal.τ).loc Cert.LnLossRefIdeal.main_arg3) = m ((c.tc : Thread Cert.LnLossRefIdeal.nD Cert.LnLossRefIdeal.τ).loc Cert.LnLossRefIdeal.main_arg3)
      ∧ r.2.mem ((c.tc : Thread Cert.LnLossRefIdeal.nD Cert.LnLossRefIdeal.τ).loc Cert.LnLossRefIdeal.main_arg4) = m ((c.tc : Thread Cert.LnLossRefIdeal.nD Cert.LnLossRefIdeal.τ).loc Cert.LnLossRefIdeal.main_arg4))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6))
      ∧ r.2.sem = fun _ => 0)

def quiescent_MixBwdIdeal_pre_mix_norm_finite [hMixBwdIdeal : Cert.MixBwdIdeal.Facts] [hPre_mix_norm_finite : Cert.Pre_mix_norm_finite.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal_mix_norm_finite m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6))
      ∧ r.2.sem = fun _ => 0)

def quiescent_MixBwdRefIdeal_pre_mix_norm_finite [hMixBwdRefIdeal : Cert.MixBwdRefIdeal.Facts] [hPre_mix_norm_finite : Cert.Pre_mix_norm_finite.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal_mix_norm_finite m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_LruFwd [hLruFwd : Cert.LruFwd.Facts] : Prop :=
  ∀ (m : (ℓ : Loc Cert.LruFwd.nD Cert.LruFwd.τ Cert.LruFwd.sig) → Buf (Elt Bits) ℓ) (g : Dev Cert.LruFwd.nD → PrngReg), Pre_LruFwd m →
    θ_run (Cert.LruFwd.defs (F := Bits)) (onTc (τ := Cert.LruFwd.τ) (Cert.LruFwd.main (F := Bits))) ⟨m, fun _ => 0, g⟩ (fun r => (∀ c : Dev Cert.LruFwd.nD,
      r.2.mem ((c.tc : Thread Cert.LruFwd.nD Cert.LruFwd.τ).loc Cert.LruFwd.main_arg0) = m ((c.tc : Thread Cert.LruFwd.nD Cert.LruFwd.τ).loc Cert.LruFwd.main_arg0)
      ∧ r.2.mem ((c.tc : Thread Cert.LruFwd.nD Cert.LruFwd.τ).loc Cert.LruFwd.main_arg1) = m ((c.tc : Thread Cert.LruFwd.nD Cert.LruFwd.τ).loc Cert.LruFwd.main_arg1)
      ∧ r.2.mem ((c.tc : Thread Cert.LruFwd.nD Cert.LruFwd.τ).loc Cert.LruFwd.main_arg2) = m ((c.tc : Thread Cert.LruFwd.nD Cert.LruFwd.τ).loc Cert.LruFwd.main_arg2)
      ∧ r.2.mem ((c.tc : Thread Cert.LruFwd.nD Cert.LruFwd.τ).loc Cert.LruFwd.main_arg3) = m ((c.tc : Thread Cert.LruFwd.nD Cert.LruFwd.τ).loc Cert.LruFwd.main_arg3)
      ∧ r.2.mem ((c.tc : Thread Cert.LruFwd.nD Cert.LruFwd.τ).loc Cert.LruFwd.main_arg4) = m ((c.tc : Thread Cert.LruFwd.nD Cert.LruFwd.τ).loc Cert.LruFwd.main_arg4)
      ∧ r.2.mem ((c.tc : Thread Cert.LruFwd.nD Cert.LruFwd.τ).loc Cert.LruFwd.main_arg5) = m ((c.tc : Thread Cert.LruFwd.nD Cert.LruFwd.τ).loc Cert.LruFwd.main_arg5)
      ∧ r.2.mem ((c.tc : Thread Cert.LruFwd.nD Cert.LruFwd.τ).loc Cert.LruFwd.main_arg6) = m ((c.tc : Thread Cert.LruFwd.nD Cert.LruFwd.τ).loc Cert.LruFwd.main_arg6)
      ∧ r.2.mem ((c.tc : Thread Cert.LruFwd.nD Cert.LruFwd.τ).loc Cert.LruFwd.main_arg7) = m ((c.tc : Thread Cert.LruFwd.nD Cert.LruFwd.τ).loc Cert.LruFwd.main_arg7))
      ∧ r.2.sem = fun _ => 0)

def quiescent_LruFwdIdeal [hLruFwdIdeal : Cert.LruFwdIdeal.Facts] : Prop :=
  ∀ (m : (ℓ : Loc Cert.LruFwdIdeal.nD Cert.LruFwdIdeal.τ Cert.LruFwdIdeal.sig) → Buf (Elt Ideal) ℓ) (g : Dev Cert.LruFwdIdeal.nD → PrngReg), Pre_LruFwdIdeal m →
    θ_run (Cert.LruFwdIdeal.defs (F := Ideal)) (onTc (τ := Cert.LruFwdIdeal.τ) (Cert.LruFwdIdeal.main (F := Ideal))) ⟨m, fun _ => 0, g⟩ (fun r => (∀ c : Dev Cert.LruFwdIdeal.nD,
      r.2.mem ((c.tc : Thread Cert.LruFwdIdeal.nD Cert.LruFwdIdeal.τ).loc Cert.LruFwdIdeal.main_arg0) = m ((c.tc : Thread Cert.LruFwdIdeal.nD Cert.LruFwdIdeal.τ).loc Cert.LruFwdIdeal.main_arg0)
      ∧ r.2.mem ((c.tc : Thread Cert.LruFwdIdeal.nD Cert.LruFwdIdeal.τ).loc Cert.LruFwdIdeal.main_arg1) = m ((c.tc : Thread Cert.LruFwdIdeal.nD Cert.LruFwdIdeal.τ).loc Cert.LruFwdIdeal.main_arg1)
      ∧ r.2.mem ((c.tc : Thread Cert.LruFwdIdeal.nD Cert.LruFwdIdeal.τ).loc Cert.LruFwdIdeal.main_arg2) = m ((c.tc : Thread Cert.LruFwdIdeal.nD Cert.LruFwdIdeal.τ).loc Cert.LruFwdIdeal.main_arg2)
      ∧ r.2.mem ((c.tc : Thread Cert.LruFwdIdeal.nD Cert.LruFwdIdeal.τ).loc Cert.LruFwdIdeal.main_arg3) = m ((c.tc : Thread Cert.LruFwdIdeal.nD Cert.LruFwdIdeal.τ).loc Cert.LruFwdIdeal.main_arg3)
      ∧ r.2.mem ((c.tc : Thread Cert.LruFwdIdeal.nD Cert.LruFwdIdeal.τ).loc Cert.LruFwdIdeal.main_arg4) = m ((c.tc : Thread Cert.LruFwdIdeal.nD Cert.LruFwdIdeal.τ).loc Cert.LruFwdIdeal.main_arg4)
      ∧ r.2.mem ((c.tc : Thread Cert.LruFwdIdeal.nD Cert.LruFwdIdeal.τ).loc Cert.LruFwdIdeal.main_arg5) = m ((c.tc : Thread Cert.LruFwdIdeal.nD Cert.LruFwdIdeal.τ).loc Cert.LruFwdIdeal.main_arg5)
      ∧ r.2.mem ((c.tc : Thread Cert.LruFwdIdeal.nD Cert.LruFwdIdeal.τ).loc Cert.LruFwdIdeal.main_arg6) = m ((c.tc : Thread Cert.LruFwdIdeal.nD Cert.LruFwdIdeal.τ).loc Cert.LruFwdIdeal.main_arg6)
      ∧ r.2.mem ((c.tc : Thread Cert.LruFwdIdeal.nD Cert.LruFwdIdeal.τ).loc Cert.LruFwdIdeal.main_arg7) = m ((c.tc : Thread Cert.LruFwdIdeal.nD Cert.LruFwdIdeal.τ).loc Cert.LruFwdIdeal.main_arg7))
      ∧ r.2.sem = fun _ => 0)

def quiescent_LruFwdRefIdeal [hLruFwdRefIdeal : Cert.LruFwdRefIdeal.Facts] : Prop :=
  ∀ (m : (ℓ : Loc Cert.LruFwdRefIdeal.nD Cert.LruFwdRefIdeal.τ Cert.LruFwdRefIdeal.sig) → Buf (Elt Ideal) ℓ) (g : Dev Cert.LruFwdRefIdeal.nD → PrngReg), Pre_LruFwdRefIdeal m →
    θ_run (Cert.LruFwdRefIdeal.defs (F := Ideal)) (onTc (τ := Cert.LruFwdRefIdeal.τ) (Cert.LruFwdRefIdeal.main (F := Ideal))) ⟨m, fun _ => 0, g⟩ (fun r => (∀ c : Dev Cert.LruFwdRefIdeal.nD,
      r.2.mem ((c.tc : Thread Cert.LruFwdRefIdeal.nD Cert.LruFwdRefIdeal.τ).loc Cert.LruFwdRefIdeal.main_arg0) = m ((c.tc : Thread Cert.LruFwdRefIdeal.nD Cert.LruFwdRefIdeal.τ).loc Cert.LruFwdRefIdeal.main_arg0)
      ∧ r.2.mem ((c.tc : Thread Cert.LruFwdRefIdeal.nD Cert.LruFwdRefIdeal.τ).loc Cert.LruFwdRefIdeal.main_arg1) = m ((c.tc : Thread Cert.LruFwdRefIdeal.nD Cert.LruFwdRefIdeal.τ).loc Cert.LruFwdRefIdeal.main_arg1)
      ∧ r.2.mem ((c.tc : Thread Cert.LruFwdRefIdeal.nD Cert.LruFwdRefIdeal.τ).loc Cert.LruFwdRefIdeal.main_arg2) = m ((c.tc : Thread Cert.LruFwdRefIdeal.nD Cert.LruFwdRefIdeal.τ).loc Cert.LruFwdRefIdeal.main_arg2)
      ∧ r.2.mem ((c.tc : Thread Cert.LruFwdRefIdeal.nD Cert.LruFwdRefIdeal.τ).loc Cert.LruFwdRefIdeal.main_arg3) = m ((c.tc : Thread Cert.LruFwdRefIdeal.nD Cert.LruFwdRefIdeal.τ).loc Cert.LruFwdRefIdeal.main_arg3)
      ∧ r.2.mem ((c.tc : Thread Cert.LruFwdRefIdeal.nD Cert.LruFwdRefIdeal.τ).loc Cert.LruFwdRefIdeal.main_arg4) = m ((c.tc : Thread Cert.LruFwdRefIdeal.nD Cert.LruFwdRefIdeal.τ).loc Cert.LruFwdRefIdeal.main_arg4)
      ∧ r.2.mem ((c.tc : Thread Cert.LruFwdRefIdeal.nD Cert.LruFwdRefIdeal.τ).loc Cert.LruFwdRefIdeal.main_arg5) = m ((c.tc : Thread Cert.LruFwdRefIdeal.nD Cert.LruFwdRefIdeal.τ).loc Cert.LruFwdRefIdeal.main_arg5)
      ∧ r.2.mem ((c.tc : Thread Cert.LruFwdRefIdeal.nD Cert.LruFwdRefIdeal.τ).loc Cert.LruFwdRefIdeal.main_arg6) = m ((c.tc : Thread Cert.LruFwdRefIdeal.nD Cert.LruFwdRefIdeal.τ).loc Cert.LruFwdRefIdeal.main_arg6)
      ∧ r.2.mem ((c.tc : Thread Cert.LruFwdRefIdeal.nD Cert.LruFwdRefIdeal.τ).loc Cert.LruFwdRefIdeal.main_arg7) = m ((c.tc : Thread Cert.LruFwdRefIdeal.nD Cert.LruFwdRefIdeal.τ).loc Cert.LruFwdRefIdeal.main_arg7))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4))
      ∧ r.2.sem = fun _ => 0)

def quiescent_MlpOut [hMlpOut : Cert.MlpOut.Facts] : Prop :=
  ∀ (m : (ℓ : Loc Cert.MlpOut.nD Cert.MlpOut.τ Cert.MlpOut.sig) → Buf (Elt Bits) ℓ) (g : Dev Cert.MlpOut.nD → PrngReg), Pre_MlpOut m →
    θ_run (Cert.MlpOut.defs (F := Bits)) (onTc (τ := Cert.MlpOut.τ) (Cert.MlpOut.main (F := Bits))) ⟨m, fun _ => 0, g⟩ (fun r => (∀ c : Dev Cert.MlpOut.nD,
      r.2.mem ((c.tc : Thread Cert.MlpOut.nD Cert.MlpOut.τ).loc Cert.MlpOut.main_arg0) = m ((c.tc : Thread Cert.MlpOut.nD Cert.MlpOut.τ).loc Cert.MlpOut.main_arg0)
      ∧ r.2.mem ((c.tc : Thread Cert.MlpOut.nD Cert.MlpOut.τ).loc Cert.MlpOut.main_arg1) = m ((c.tc : Thread Cert.MlpOut.nD Cert.MlpOut.τ).loc Cert.MlpOut.main_arg1))
      ∧ r.2.sem = fun _ => 0)

def quiescent_MlpOutIdeal [hMlpOutIdeal : Cert.MlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg), Pre_MlpOutIdeal m →
    θ_run (Cert.MlpOutIdeal.defs (F := Ideal)) (onTc (τ := Cert.MlpOutIdeal.τ) (Cert.MlpOutIdeal.main (F := Ideal))) ⟨m, fun _ => 0, g⟩ (fun r => (∀ c : Dev Cert.MlpOutIdeal.nD,
      r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
      ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1))
      ∧ r.2.sem = fun _ => 0)

def quiescent_MlpOutRefIdeal [hMlpOutRefIdeal : Cert.MlpOutRefIdeal.Facts] : Prop :=
  ∀ (m : (ℓ : Loc Cert.MlpOutRefIdeal.nD Cert.MlpOutRefIdeal.τ Cert.MlpOutRefIdeal.sig) → Buf (Elt Ideal) ℓ) (g : Dev Cert.MlpOutRefIdeal.nD → PrngReg), Pre_MlpOutRefIdeal m →
    θ_run (Cert.MlpOutRefIdeal.defs (F := Ideal)) (onTc (τ := Cert.MlpOutRefIdeal.τ) (Cert.MlpOutRefIdeal.main (F := Ideal))) ⟨m, fun _ => 0, g⟩ (fun r => (∀ c : Dev Cert.MlpOutRefIdeal.nD,
      r.2.mem ((c.tc : Thread Cert.MlpOutRefIdeal.nD Cert.MlpOutRefIdeal.τ).loc Cert.MlpOutRefIdeal.main_arg0) = m ((c.tc : Thread Cert.MlpOutRefIdeal.nD Cert.MlpOutRefIdeal.τ).loc Cert.MlpOutRefIdeal.main_arg0)
      ∧ r.2.mem ((c.tc : Thread Cert.MlpOutRefIdeal.nD Cert.MlpOutRefIdeal.τ).loc Cert.MlpOutRefIdeal.main_arg1) = m ((c.tc : Thread Cert.MlpOutRefIdeal.nD Cert.MlpOutRefIdeal.τ).loc Cert.MlpOutRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3)
      ∧ r.2.mem ((c.tc : Thread Cert.GradX.nD Cert.GradX.τ).loc Cert.GradX.main_arg4) = m ((c.tc : Thread Cert.GradX.nD Cert.GradX.τ).loc Cert.GradX.main_arg4)
      ∧ r.2.mem ((c.tc : Thread Cert.GradX.nD Cert.GradX.τ).loc Cert.GradX.main_arg5) = m ((c.tc : Thread Cert.GradX.nD Cert.GradX.τ).loc Cert.GradX.main_arg5)
      ∧ r.2.mem ((c.tc : Thread Cert.GradX.nD Cert.GradX.τ).loc Cert.GradX.main_arg6) = m ((c.tc : Thread Cert.GradX.nD Cert.GradX.τ).loc Cert.GradX.main_arg6)
      ∧ r.2.mem ((c.tc : Thread Cert.GradX.nD Cert.GradX.τ).loc Cert.GradX.main_arg7) = m ((c.tc : Thread Cert.GradX.nD Cert.GradX.τ).loc Cert.GradX.main_arg7))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
      ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4)
      ∧ r.2.mem ((c.tc : Thread Cert.GradXIdeal.nD Cert.GradXIdeal.τ).loc Cert.GradXIdeal.main_arg5) = m ((c.tc : Thread Cert.GradXIdeal.nD Cert.GradXIdeal.τ).loc Cert.GradXIdeal.main_arg5)
      ∧ r.2.mem ((c.tc : Thread Cert.GradXIdeal.nD Cert.GradXIdeal.τ).loc Cert.GradXIdeal.main_arg6) = m ((c.tc : Thread Cert.GradXIdeal.nD Cert.GradXIdeal.τ).loc Cert.GradXIdeal.main_arg6)
      ∧ r.2.mem ((c.tc : Thread Cert.GradXIdeal.nD Cert.GradXIdeal.τ).loc Cert.GradXIdeal.main_arg7) = m ((c.tc : Thread Cert.GradXIdeal.nD Cert.GradXIdeal.τ).loc Cert.GradXIdeal.main_arg7))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2)
      ∧ r.2.mem ((c.tc : Thread Cert.GradXRefIdeal.nD Cert.GradXRefIdeal.τ).loc Cert.GradXRefIdeal.main_arg3) = m ((c.tc : Thread Cert.GradXRefIdeal.nD Cert.GradXRefIdeal.τ).loc Cert.GradXRefIdeal.main_arg3)
      ∧ r.2.mem ((c.tc : Thread Cert.GradXRefIdeal.nD Cert.GradXRefIdeal.τ).loc Cert.GradXRefIdeal.main_arg4) = m ((c.tc : Thread Cert.GradXRefIdeal.nD Cert.GradXRefIdeal.τ).loc Cert.GradXRefIdeal.main_arg4)
      ∧ r.2.mem ((c.tc : Thread Cert.GradXRefIdeal.nD Cert.GradXRefIdeal.τ).loc Cert.GradXRefIdeal.main_arg5) = m ((c.tc : Thread Cert.GradXRefIdeal.nD Cert.GradXRefIdeal.τ).loc Cert.GradXRefIdeal.main_arg5)
      ∧ r.2.mem ((c.tc : Thread Cert.GradXRefIdeal.nD Cert.GradXRefIdeal.τ).loc Cert.GradXRefIdeal.main_arg6) = m ((c.tc : Thread Cert.GradXRefIdeal.nD Cert.GradXRefIdeal.τ).loc Cert.GradXRefIdeal.main_arg6)
      ∧ r.2.mem ((c.tc : Thread Cert.GradXRefIdeal.nD Cert.GradXRefIdeal.τ).loc Cert.GradXRefIdeal.main_arg7) = m ((c.tc : Thread Cert.GradXRefIdeal.nD Cert.GradXRefIdeal.τ).loc Cert.GradXRefIdeal.main_arg7))
      ∧ r.2.sem = fun _ => 0)

def quiescent_LossSum [hLossSum : Cert.LossSum.Facts] : Prop :=
  ∀ (m : (ℓ : Loc Cert.LossSum.nD Cert.LossSum.τ Cert.LossSum.sig) → Buf (Elt Bits) ℓ) (g : Dev Cert.LossSum.nD → PrngReg), Pre_LossSum m →
    θ_run (Cert.LossSum.defs (F := Bits)) (onTc (τ := Cert.LossSum.τ) (Cert.LossSum.main (F := Bits))) ⟨m, fun _ => 0, g⟩ (fun r => (∀ c : Dev Cert.LossSum.nD,
      r.2.mem ((c.tc : Thread Cert.LossSum.nD Cert.LossSum.τ).loc Cert.LossSum.main_arg0) = m ((c.tc : Thread Cert.LossSum.nD Cert.LossSum.τ).loc Cert.LossSum.main_arg0))
      ∧ r.2.sem = fun _ => 0)

def quiescent_LossSumIdeal [hLossSumIdeal : Cert.LossSumIdeal.Facts] : Prop :=
  ∀ (m : (ℓ : Loc Cert.LossSumIdeal.nD Cert.LossSumIdeal.τ Cert.LossSumIdeal.sig) → Buf (Elt Ideal) ℓ) (g : Dev Cert.LossSumIdeal.nD → PrngReg), Pre_LossSumIdeal m →
    θ_run (Cert.LossSumIdeal.defs (F := Ideal)) (onTc (τ := Cert.LossSumIdeal.τ) (Cert.LossSumIdeal.main (F := Ideal))) ⟨m, fun _ => 0, g⟩ (fun r => (∀ c : Dev Cert.LossSumIdeal.nD,
      r.2.mem ((c.tc : Thread Cert.LossSumIdeal.nD Cert.LossSumIdeal.τ).loc Cert.LossSumIdeal.main_arg0) = m ((c.tc : Thread Cert.LossSumIdeal.nD Cert.LossSumIdeal.τ).loc Cert.LossSumIdeal.main_arg0))
      ∧ r.2.sem = fun _ => 0)

def quiescent_LossSumRefIdeal [hLossSumRefIdeal : Cert.LossSumRefIdeal.Facts] : Prop :=
  ∀ (m : (ℓ : Loc Cert.LossSumRefIdeal.nD Cert.LossSumRefIdeal.τ Cert.LossSumRefIdeal.sig) → Buf (Elt Ideal) ℓ) (g : Dev Cert.LossSumRefIdeal.nD → PrngReg), Pre_LossSumRefIdeal m →
    θ_run (Cert.LossSumRefIdeal.defs (F := Ideal)) (onTc (τ := Cert.LossSumRefIdeal.τ) (Cert.LossSumRefIdeal.main (F := Ideal))) ⟨m, fun _ => 0, g⟩ (fun r => (∀ c : Dev Cert.LossSumRefIdeal.nD,
      r.2.mem ((c.tc : Thread Cert.LossSumRefIdeal.nD Cert.LossSumRefIdeal.τ).loc Cert.LossSumRefIdeal.main_arg0) = m ((c.tc : Thread Cert.LossSumRefIdeal.nD Cert.LossSumRefIdeal.τ).loc Cert.LossSumRefIdeal.main_arg0))
      ∧ r.2.sem = fun _ => 0)

def quiescent_CastX [hCastX : Cert.CastX.Facts] : Prop :=
  ∀ (m : (ℓ : Loc Cert.CastX.nD Cert.CastX.τ Cert.CastX.sig) → Buf (Elt Bits) ℓ) (g : Dev Cert.CastX.nD → PrngReg), Pre_CastX m →
    θ_run (Cert.CastX.defs (F := Bits)) (onTc (τ := Cert.CastX.τ) (Cert.CastX.main (F := Bits))) ⟨m, fun _ => 0, g⟩ (fun r => (∀ c : Dev Cert.CastX.nD,
      r.2.mem ((c.tc : Thread Cert.CastX.nD Cert.CastX.τ).loc Cert.CastX.main_arg0) = m ((c.tc : Thread Cert.CastX.nD Cert.CastX.τ).loc Cert.CastX.main_arg0))
      ∧ r.2.sem = fun _ => 0)

def quiescent_CastXIdeal [hCastXIdeal : Cert.CastXIdeal.Facts] : Prop :=
  ∀ (m : (ℓ : Loc Cert.CastXIdeal.nD Cert.CastXIdeal.τ Cert.CastXIdeal.sig) → Buf (Elt Ideal) ℓ) (g : Dev Cert.CastXIdeal.nD → PrngReg), Pre_CastXIdeal m →
    θ_run (Cert.CastXIdeal.defs (F := Ideal)) (onTc (τ := Cert.CastXIdeal.τ) (Cert.CastXIdeal.main (F := Ideal))) ⟨m, fun _ => 0, g⟩ (fun r => (∀ c : Dev Cert.CastXIdeal.nD,
      r.2.mem ((c.tc : Thread Cert.CastXIdeal.nD Cert.CastXIdeal.τ).loc Cert.CastXIdeal.main_arg0) = m ((c.tc : Thread Cert.CastXIdeal.nD Cert.CastXIdeal.τ).loc Cert.CastXIdeal.main_arg0))
      ∧ r.2.sem = fun _ => 0)

def quiescent_CastXRefIdeal [hCastXRefIdeal : Cert.CastXRefIdeal.Facts] : Prop :=
  ∀ (m : (ℓ : Loc Cert.CastXRefIdeal.nD Cert.CastXRefIdeal.τ Cert.CastXRefIdeal.sig) → Buf (Elt Ideal) ℓ) (g : Dev Cert.CastXRefIdeal.nD → PrngReg), Pre_CastXRefIdeal m →
    θ_run (Cert.CastXRefIdeal.defs (F := Ideal)) (onTc (τ := Cert.CastXRefIdeal.τ) (Cert.CastXRefIdeal.main (F := Ideal))) ⟨m, fun _ => 0, g⟩ (fun r => (∀ c : Dev Cert.CastXRefIdeal.nD,
      r.2.mem ((c.tc : Thread Cert.CastXRefIdeal.nD Cert.CastXRefIdeal.τ).loc Cert.CastXRefIdeal.main_arg0) = m ((c.tc : Thread Cert.CastXRefIdeal.nD Cert.CastXRefIdeal.τ).loc Cert.CastXRefIdeal.main_arg0))
      ∧ r.2.sem = fun _ => 0)

def quiescent_CastXRef [hCastXRef : Cert.CastXRef.Facts] : Prop :=
  ∀ (m : (ℓ : Loc Cert.CastXRef.nD Cert.CastXRef.τ Cert.CastXRef.sig) → Buf (Elt Bits) ℓ) (g : Dev Cert.CastXRef.nD → PrngReg), Pre_CastXRef m →
    θ_run (Cert.CastXRef.defs (F := Bits)) (onTc (τ := Cert.CastXRef.τ) (Cert.CastXRef.main (F := Bits))) ⟨m, fun _ => 0, g⟩ (fun r => (∀ c : Dev Cert.CastXRef.nD,
      r.2.mem ((c.tc : Thread Cert.CastXRef.nD Cert.CastXRef.τ).loc Cert.CastXRef.main_arg0) = m ((c.tc : Thread Cert.CastXRef.nD Cert.CastXRef.τ).loc Cert.CastXRef.main_arg0))
      ∧ r.2.sem = fun _ => 0)

def quiescent_PairSum [hPairSum : Cert.PairSum.Facts] [hPre_device_ids : Cert.Pre_device_ids.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0)
      ∧ r.2.mem ((c.tc : Thread Cert.PairSum.nD Cert.PairSum.τ).loc Cert.PairSum.main_arg1) = m ((c.tc : Thread Cert.PairSum.nD Cert.PairSum.τ).loc Cert.PairSum.main_arg1)
      ∧ r.2.mem ((c.tc : Thread Cert.PairSum.nD Cert.PairSum.τ).loc Cert.PairSum.main_arg2) = m ((c.tc : Thread Cert.PairSum.nD Cert.PairSum.τ).loc Cert.PairSum.main_arg2))
      ∧ r.2.sem = fun _ => 0)

def quiescent_PairSumIdeal [hPairSumIdeal : Cert.PairSumIdeal.Facts] [hPre_device_ids : Cert.Pre_device_ids.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
      ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1)
      ∧ r.2.mem ((c.tc : Thread Cert.PairSumIdeal.nD Cert.PairSumIdeal.τ).loc Cert.PairSumIdeal.main_arg2) = m ((c.tc : Thread Cert.PairSumIdeal.nD Cert.PairSumIdeal.τ).loc Cert.PairSumIdeal.main_arg2))
      ∧ r.2.sem = fun _ => 0)

def quiescent_PairSumRefIdeal [hPairSumRefIdeal : Cert.PairSumRefIdeal.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1)
      ∧ r.2.mem ((c.tc : Thread Cert.PairSumRefIdeal.nD Cert.PairSumRefIdeal.τ).loc Cert.PairSumRefIdeal.main_arg2) = m ((c.tc : Thread Cert.PairSumRefIdeal.nD Cert.PairSumRefIdeal.τ).loc Cert.PairSumRefIdeal.main_arg2))
      ∧ r.2.sem = fun _ => 0)

def quiescent_PairSumRefIdeal_pre_device_ids [hPairSumRefIdeal : Cert.PairSumRefIdeal.Facts] [hPre_device_ids : Cert.Pre_device_ids.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal_device_ids m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1)
      ∧ r.2.mem ((c.tc : Thread Cert.PairSumRefIdeal.nD Cert.PairSumRefIdeal.τ).loc Cert.PairSumRefIdeal.main_arg2) = m ((c.tc : Thread Cert.PairSumRefIdeal.nD Cert.PairSumRefIdeal.τ).loc Cert.PairSumRefIdeal.main_arg2))
      ∧ r.2.sem = fun _ => 0)

def quiescent_PairSumRef [hPairSumRef : Cert.PairSumRef.Facts] : Prop :=
  ∀ (m : (ℓ : Loc Cert.PairSumRef.nD Cert.PairSumRef.τ Cert.PairSumRef.sig) → Buf (Elt Bits) ℓ) (g : Dev Cert.PairSumRef.nD → PrngReg), Pre_PairSumRef m →
    θ_run (Cert.PairSumRef.defs (F := Bits)) (onTc (τ := Cert.PairSumRef.τ) (Cert.PairSumRef.main (F := Bits))) ⟨m, fun _ => 0, g⟩ (fun r => (∀ c : Dev Cert.PairSumRef.nD,
      r.2.mem ((c.tc : Thread Cert.PairSumRef.nD Cert.PairSumRef.τ).loc Cert.PairSumRef.main_arg0) = m ((c.tc : Thread Cert.PairSumRef.nD Cert.PairSumRef.τ).loc Cert.PairSumRef.main_arg0)
      ∧ r.2.mem ((c.tc : Thread Cert.PairSumRef.nD Cert.PairSumRef.τ).loc Cert.PairSumRef.main_arg1) = m ((c.tc : Thread Cert.PairSumRef.nD Cert.PairSumRef.τ).loc Cert.PairSumRef.main_arg1)
      ∧ r.2.mem ((c.tc : Thread Cert.PairSumRef.nD Cert.PairSumRef.τ).loc Cert.PairSumRef.main_arg2) = m ((c.tc : Thread Cert.PairSumRef.nD Cert.PairSumRef.τ).loc Cert.PairSumRef.main_arg2))
      ∧ r.2.sem = fun _ => 0)

def quiescent_PairSumRef_pre_device_ids [hPairSumRef : Cert.PairSumRef.Facts] [hPre_device_ids : Cert.Pre_device_ids.Facts] : Prop :=
  ∀ (m : (ℓ : Loc Cert.PairSumRef.nD Cert.PairSumRef.τ Cert.PairSumRef.sig) → Buf (Elt Bits) ℓ) (g : Dev Cert.PairSumRef.nD → PrngReg), Pre_PairSumRef_device_ids m →
    θ_run (Cert.PairSumRef.defs (F := Bits)) (onTc (τ := Cert.PairSumRef.τ) (Cert.PairSumRef.main (F := Bits))) ⟨m, fun _ => 0, g⟩ (fun r => (∀ c : Dev Cert.PairSumRef.nD,
      r.2.mem ((c.tc : Thread Cert.PairSumRef.nD Cert.PairSumRef.τ).loc Cert.PairSumRef.main_arg0) = m ((c.tc : Thread Cert.PairSumRef.nD Cert.PairSumRef.τ).loc Cert.PairSumRef.main_arg0)
      ∧ r.2.mem ((c.tc : Thread Cert.PairSumRef.nD Cert.PairSumRef.τ).loc Cert.PairSumRef.main_arg1) = m ((c.tc : Thread Cert.PairSumRef.nD Cert.PairSumRef.τ).loc Cert.PairSumRef.main_arg1)
      ∧ r.2.mem ((c.tc : Thread Cert.PairSumRef.nD Cert.PairSumRef.τ).loc Cert.PairSumRef.main_arg2) = m ((c.tc : Thread Cert.PairSumRef.nD Cert.PairSumRef.τ).loc Cert.PairSumRef.main_arg2))
      ∧ r.2.sem = fun _ => 0)

def quiescent_AdamHead [hAdamHead : Cert.AdamHead.Facts] : Prop :=
  ∀ (m : (ℓ : Loc Cert.AdamHead.nD Cert.AdamHead.τ Cert.AdamHead.sig) → Buf (Elt Bits) ℓ) (g : Dev Cert.AdamHead.nD → PrngReg), Pre_AdamHead m →
    θ_run (Cert.AdamHead.defs (F := Bits)) (onTc (τ := Cert.AdamHead.τ) (Cert.AdamHead.main (F := Bits))) ⟨m, fun _ => 0, g⟩ (fun r => (∀ c : Dev Cert.AdamHead.nD,
      r.2.mem ((c.tc : Thread Cert.AdamHead.nD Cert.AdamHead.τ).loc Cert.AdamHead.main_arg0) = m ((c.tc : Thread Cert.AdamHead.nD Cert.AdamHead.τ).loc Cert.AdamHead.main_arg0)
      ∧ r.2.mem ((c.tc : Thread Cert.AdamHead.nD Cert.AdamHead.τ).loc Cert.AdamHead.main_arg1) = m ((c.tc : Thread Cert.AdamHead.nD Cert.AdamHead.τ).loc Cert.AdamHead.main_arg1)
      ∧ r.2.mem ((c.tc : Thread Cert.AdamHead.nD Cert.AdamHead.τ).loc Cert.AdamHead.main_arg2) = m ((c.tc : Thread Cert.AdamHead.nD Cert.AdamHead.τ).loc Cert.AdamHead.main_arg2)
      ∧ r.2.mem ((c.tc : Thread Cert.AdamHead.nD Cert.AdamHead.τ).loc Cert.AdamHead.main_arg3) = m ((c.tc : Thread Cert.AdamHead.nD Cert.AdamHead.τ).loc Cert.AdamHead.main_arg3))
      ∧ r.2.sem = fun _ => 0)

def quiescent_AdamHeadIdeal [hAdamHeadIdeal : Cert.AdamHeadIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg), Pre_AdamHeadIdeal m →
    θ_run (Cert.AdamHeadIdeal.defs (F := Ideal)) (onTc (τ := Cert.AdamHeadIdeal.τ) (Cert.AdamHeadIdeal.main (F := Ideal))) ⟨m, fun _ => 0, g⟩ (fun r => (∀ c : Dev Cert.AdamHeadIdeal.nD,
      r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
      ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
      ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
      ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ r.2.sem = fun _ => 0)

def quiescent_AdamHeadRefIdeal [hAdamHeadRefIdeal : Cert.AdamHeadRefIdeal.Facts] : Prop :=
  ∀ (m : (ℓ : Loc Cert.AdamHeadRefIdeal.nD Cert.AdamHeadRefIdeal.τ Cert.AdamHeadRefIdeal.sig) → Buf (Elt Ideal) ℓ) (g : Dev Cert.AdamHeadRefIdeal.nD → PrngReg), Pre_AdamHeadRefIdeal m →
    θ_run (Cert.AdamHeadRefIdeal.defs (F := Ideal)) (onTc (τ := Cert.AdamHeadRefIdeal.τ) (Cert.AdamHeadRefIdeal.main (F := Ideal))) ⟨m, fun _ => 0, g⟩ (fun r => (∀ c : Dev Cert.AdamHeadRefIdeal.nD,
      r.2.mem ((c.tc : Thread Cert.AdamHeadRefIdeal.nD Cert.AdamHeadRefIdeal.τ).loc Cert.AdamHeadRefIdeal.main_arg0) = m ((c.tc : Thread Cert.AdamHeadRefIdeal.nD Cert.AdamHeadRefIdeal.τ).loc Cert.AdamHeadRefIdeal.main_arg0)
      ∧ r.2.mem ((c.tc : Thread Cert.AdamHeadRefIdeal.nD Cert.AdamHeadRefIdeal.τ).loc Cert.AdamHeadRefIdeal.main_arg1) = m ((c.tc : Thread Cert.AdamHeadRefIdeal.nD Cert.AdamHeadRefIdeal.τ).loc Cert.AdamHeadRefIdeal.main_arg1)
      ∧ r.2.mem ((c.tc : Thread Cert.AdamHeadRefIdeal.nD Cert.AdamHeadRefIdeal.τ).loc Cert.AdamHeadRefIdeal.main_arg2) = m ((c.tc : Thread Cert.AdamHeadRefIdeal.nD Cert.AdamHeadRefIdeal.τ).loc Cert.AdamHeadRefIdeal.main_arg2)
      ∧ r.2.mem ((c.tc : Thread Cert.AdamHeadRefIdeal.nD Cert.AdamHeadRefIdeal.τ).loc Cert.AdamHeadRefIdeal.main_arg3) = m ((c.tc : Thread Cert.AdamHeadRefIdeal.nD Cert.AdamHeadRefIdeal.τ).loc Cert.AdamHeadRefIdeal.main_arg3))
      ∧ r.2.sem = fun _ => 0)

def quiescent_AdamRep [hAdamRep : Cert.AdamRep.Facts] : Prop :=
  ∀ (m : (ℓ : Loc Cert.AdamRep.nD Cert.AdamRep.τ Cert.AdamRep.sig) → Buf (Elt Bits) ℓ) (g : Dev Cert.AdamRep.nD → PrngReg), Pre_AdamRep m →
    θ_run (Cert.AdamRep.defs (F := Bits)) (onTc (τ := Cert.AdamRep.τ) (Cert.AdamRep.main (F := Bits))) ⟨m, fun _ => 0, g⟩ (fun r => (∀ c : Dev Cert.AdamRep.nD,
      r.2.mem ((c.tc : Thread Cert.AdamRep.nD Cert.AdamRep.τ).loc Cert.AdamRep.main_arg0) = m ((c.tc : Thread Cert.AdamRep.nD Cert.AdamRep.τ).loc Cert.AdamRep.main_arg0)
      ∧ r.2.mem ((c.tc : Thread Cert.AdamRep.nD Cert.AdamRep.τ).loc Cert.AdamRep.main_arg1) = m ((c.tc : Thread Cert.AdamRep.nD Cert.AdamRep.τ).loc Cert.AdamRep.main_arg1)
      ∧ r.2.mem ((c.tc : Thread Cert.AdamRep.nD Cert.AdamRep.τ).loc Cert.AdamRep.main_arg2) = m ((c.tc : Thread Cert.AdamRep.nD Cert.AdamRep.τ).loc Cert.AdamRep.main_arg2)
      ∧ r.2.mem ((c.tc : Thread Cert.AdamRep.nD Cert.AdamRep.τ).loc Cert.AdamRep.main_arg3) = m ((c.tc : Thread Cert.AdamRep.nD Cert.AdamRep.τ).loc Cert.AdamRep.main_arg3))
      ∧ r.2.sem = fun _ => 0)

def quiescent_AdamRepIdeal [hAdamRepIdeal : Cert.AdamRepIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg), Pre_AdamRepIdeal m →
    θ_run (Cert.AdamRepIdeal.defs (F := Ideal)) (onTc (τ := Cert.AdamRepIdeal.τ) (Cert.AdamRepIdeal.main (F := Ideal))) ⟨m, fun _ => 0, g⟩ (fun r => (∀ c : Dev Cert.AdamRepIdeal.nD,
      r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
      ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
      ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
      ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3))
      ∧ r.2.sem = fun _ => 0)

def quiescent_AdamRepRefIdeal [hAdamRepRefIdeal : Cert.AdamRepRefIdeal.Facts] : Prop :=
  ∀ (m : (ℓ : Loc Cert.AdamRepRefIdeal.nD Cert.AdamRepRefIdeal.τ Cert.AdamRepRefIdeal.sig) → Buf (Elt Ideal) ℓ) (g : Dev Cert.AdamRepRefIdeal.nD → PrngReg), Pre_AdamRepRefIdeal m →
    θ_run (Cert.AdamRepRefIdeal.defs (F := Ideal)) (onTc (τ := Cert.AdamRepRefIdeal.τ) (Cert.AdamRepRefIdeal.main (F := Ideal))) ⟨m, fun _ => 0, g⟩ (fun r => (∀ c : Dev Cert.AdamRepRefIdeal.nD,
      r.2.mem ((c.tc : Thread Cert.AdamRepRefIdeal.nD Cert.AdamRepRefIdeal.τ).loc Cert.AdamRepRefIdeal.main_arg0) = m ((c.tc : Thread Cert.AdamRepRefIdeal.nD Cert.AdamRepRefIdeal.τ).loc Cert.AdamRepRefIdeal.main_arg0)
      ∧ r.2.mem ((c.tc : Thread Cert.AdamRepRefIdeal.nD Cert.AdamRepRefIdeal.τ).loc Cert.AdamRepRefIdeal.main_arg1) = m ((c.tc : Thread Cert.AdamRepRefIdeal.nD Cert.AdamRepRefIdeal.τ).loc Cert.AdamRepRefIdeal.main_arg1)
      ∧ r.2.mem ((c.tc : Thread Cert.AdamRepRefIdeal.nD Cert.AdamRepRefIdeal.τ).loc Cert.AdamRepRefIdeal.main_arg2) = m ((c.tc : Thread Cert.AdamRepRefIdeal.nD Cert.AdamRepRefIdeal.τ).loc Cert.AdamRepRefIdeal.main_arg2)
      ∧ r.2.mem ((c.tc : Thread Cert.AdamRepRefIdeal.nD Cert.AdamRepRefIdeal.τ).loc Cert.AdamRepRefIdeal.main_arg3) = m ((c.tc : Thread Cert.AdamRepRefIdeal.nD Cert.AdamRepRefIdeal.τ).loc Cert.AdamRepRefIdeal.main_arg3))
      ∧ r.2.sem = fun _ => 0)

def preserves_LnLoss_LnLossIdeal : Prop :=
  True

def algebraic_LnLossIdeal_LnLossRefIdeal_pre_ln_loss_finite [hLnLossIdeal : Cert.LnLossIdeal.Facts] [hLnLossRefIdeal : Cert.LnLossRefIdeal.Facts] [hPre_ln_loss_finite : Cert.Pre_ln_loss_finite.Facts] : Prop :=
  ∀ (m : (ℓ : Loc Cert.LnLossIdeal.nD Cert.LnLossIdeal.τ Cert.LnLossIdeal.sig) → Buf (Elt Ideal) ℓ) (g : Dev Cert.LnLossIdeal.nD → PrngReg)
    (m' : (ℓ : Loc Cert.LnLossRefIdeal.nD Cert.LnLossRefIdeal.τ Cert.LnLossRefIdeal.sig) → Buf (Elt Ideal) ℓ) (g' : Dev Cert.LnLossRefIdeal.nD → PrngReg), Pre_LnLossIdeal_ln_loss_finite m →
    (∀ c : Dev Cert.LnLossIdeal.nD,
      m' ((c.tc : Thread Cert.LnLossRefIdeal.nD Cert.LnLossRefIdeal.τ).loc Cert.LnLossRefIdeal.main_arg0) = m ((c.tc : Thread Cert.LnLossIdeal.nD Cert.LnLossIdeal.τ).loc Cert.LnLossIdeal.main_arg0)
      ∧ m' ((c.tc : Thread Cert.LnLossRefIdeal.nD Cert.LnLossRefIdeal.τ).loc Cert.LnLossRefIdeal.main_arg1) = m ((c.tc : Thread Cert.LnLossIdeal.nD Cert.LnLossIdeal.τ).loc Cert.LnLossIdeal.main_arg1)
      ∧ m' ((c.tc : Thread Cert.LnLossRefIdeal.nD Cert.LnLossRefIdeal.τ).loc Cert.LnLossRefIdeal.main_arg2) = m ((c.tc : Thread Cert.LnLossIdeal.nD Cert.LnLossIdeal.τ).loc Cert.LnLossIdeal.main_arg2)
      ∧ m' ((c.tc : Thread Cert.LnLossRefIdeal.nD Cert.LnLossRefIdeal.τ).loc Cert.LnLossRefIdeal.main_arg3) = m ((c.tc : Thread Cert.LnLossIdeal.nD Cert.LnLossIdeal.τ).loc Cert.LnLossIdeal.main_arg3)
      ∧ m' ((c.tc : Thread Cert.LnLossRefIdeal.nD Cert.LnLossRefIdeal.τ).loc Cert.LnLossRefIdeal.main_arg4) = m ((c.tc : Thread Cert.LnLossIdeal.nD Cert.LnLossIdeal.τ).loc Cert.LnLossIdeal.main_arg4)) →
    ∃ (v0 : (c : Dev Cert.LnLossIdeal.nD) → Buf (Elt Ideal) ((c.tc : Thread Cert.LnLossIdeal.nD Cert.LnLossIdeal.τ).loc Cert.LnLossIdeal.main_v0_0)) (v1 : (c : Dev Cert.LnLossIdeal.nD) → Buf (Elt Ideal) ((c.tc : Thread Cert.LnLossIdeal.nD Cert.LnLossIdeal.τ).loc Cert.LnLossIdeal.main_v0_1)) (v2 : (c : Dev Cert.LnLossIdeal.nD) → Buf (Elt Ideal) ((c.tc : Thread Cert.LnLossIdeal.nD Cert.LnLossIdeal.τ).loc Cert.LnLossIdeal.main_v0_2)) (v3 : (c : Dev Cert.LnLossIdeal.nD) → Buf (Elt Ideal) ((c.tc : Thread Cert.LnLossIdeal.nD Cert.LnLossIdeal.τ).loc Cert.LnLossIdeal.main_v0_3)) (v4 : (c : Dev Cert.LnLossIdeal.nD) → Buf (Elt Ideal) ((c.tc : Thread Cert.LnLossIdeal.nD Cert.LnLossIdeal.τ).loc Cert.LnLossIdeal.main_v0_4)),
      θ_run (Cert.LnLossIdeal.defs (F := Ideal)) (onTc (τ := Cert.LnLossIdeal.τ) (Cert.LnLossIdeal.main (F := Ideal))) ⟨m, fun _ => 0, g⟩ (fun r => ∀ c : Dev Cert.LnLossIdeal.nD,
          r.2.mem ((c.tc : Thread Cert.LnLossIdeal.nD Cert.LnLossIdeal.τ).loc Cert.LnLossIdeal.main_v0_0) = v0 c
          ∧ r.2.mem ((c.tc : Thread Cert.LnLossIdeal.nD Cert.LnLossIdeal.τ).loc Cert.LnLossIdeal.main_v0_1) = v1 c
          ∧ r.2.mem ((c.tc : Thread Cert.LnLossIdeal.nD Cert.LnLossIdeal.τ).loc Cert.LnLossIdeal.main_v0_2) = v2 c
          ∧ r.2.mem ((c.tc : Thread Cert.LnLossIdeal.nD Cert.LnLossIdeal.τ).loc Cert.LnLossIdeal.main_v0_3) = v3 c
          ∧ r.2.mem ((c.tc : Thread Cert.LnLossIdeal.nD Cert.LnLossIdeal.τ).loc Cert.LnLossIdeal.main_v0_4) = v4 c
          ∧ r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
          ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
          ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
          ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3)
          ∧ r.2.mem ((c.tc : Thread Cert.LnLossIdeal.nD Cert.LnLossIdeal.τ).loc Cert.LnLossIdeal.main_arg4) = m ((c.tc : Thread Cert.LnLossIdeal.nD Cert.LnLossIdeal.τ).loc Cert.LnLossIdeal.main_arg4))
      ∧ θ_run (Cert.LnLossRefIdeal.defs (F := Ideal)) (onTc (τ := Cert.LnLossRefIdeal.τ) (Cert.LnLossRefIdeal.main (F := Ideal))) ⟨m', fun _ => 0, g'⟩ (fun r => ∀ c : Dev Cert.LnLossRefIdeal.nD,
          r.2.mem ((c.tc : Thread Cert.LnLossRefIdeal.nD Cert.LnLossRefIdeal.τ).loc Cert.LnLossRefIdeal.main_v76) = v0 c
          ∧ r.2.mem ((c.tc : Thread Cert.LnLossRefIdeal.nD Cert.LnLossRefIdeal.τ).loc Cert.LnLossRefIdeal.main_v79) = v1 c
          ∧ r.2.mem ((c.tc : Thread Cert.LnLossRefIdeal.nD Cert.LnLossRefIdeal.τ).loc Cert.LnLossRefIdeal.main_v50) = v2 c
          ∧ r.2.mem ((c.tc : Thread Cert.LnLossRefIdeal.nD Cert.LnLossRefIdeal.τ).loc Cert.LnLossRefIdeal.main_v47) = v3 c
          ∧ r.2.mem ((c.tc : Thread Cert.LnLossRefIdeal.nD Cert.LnLossRefIdeal.τ).loc Cert.LnLossRefIdeal.main_v80) = v4 c
          ∧ r.2.mem ((c.tc : Thread Cert.LnLossRefIdeal.nD Cert.LnLossRefIdeal.τ).loc Cert.LnLossRefIdeal.main_arg0) = m' ((c.tc : Thread Cert.LnLossRefIdeal.nD Cert.LnLossRefIdeal.τ).loc Cert.LnLossRefIdeal.main_arg0)
          ∧ r.2.mem ((c.tc : Thread Cert.LnLossRefIdeal.nD Cert.LnLossRefIdeal.τ).loc Cert.LnLossRefIdeal.main_arg1) = m' ((c.tc : Thread Cert.LnLossRefIdeal.nD Cert.LnLossRefIdeal.τ).loc Cert.LnLossRefIdeal.main_arg1)
          ∧ r.2.mem ((c.tc : Thread Cert.LnLossRefIdeal.nD Cert.LnLossRefIdeal.τ).loc Cert.LnLossRefIdeal.main_arg2) = m' ((c.tc : Thread Cert.LnLossRefIdeal.nD Cert.LnLossRefIdeal.τ).loc Cert.LnLossRefIdeal.main_arg2)
          ∧ r.2.mem ((c.tc : Thread Cert.LnLossRefIdeal.nD Cert.LnLossRefIdeal.τ).loc Cert.LnLossRefIdeal.main_arg3) = m' ((c.tc : Thread Cert.LnLossRefIdeal.nD Cert.LnLossRefIdeal.τ).loc Cert.LnLossRefIdeal.main_arg3)
          ∧ r.2.mem ((c.tc : Thread Cert.LnLossRefIdeal.nD Cert.LnLossRefIdeal.τ).loc Cert.LnLossRefIdeal.main_arg4) = m' ((c.tc : Thread Cert.LnLossRefIdeal.nD Cert.LnLossRefIdeal.τ).loc Cert.LnLossRefIdeal.main_arg4))

def preserves_PoolBwd_PoolBwdIdeal : Prop :=
  True

def algebraic_PoolBwdIdeal_PoolBwdRefIdeal [hPoolBwdIdeal : Cert.PoolBwdIdeal.Facts] [hPoolBwdRefIdeal : Cert.PoolBwdRefIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)
      ∧ m' ((c.tc : Thread Cert.PoolBwdRefIdeal.nD Cert.PoolBwdRefIdeal.τ).loc Cert.PoolBwdRefIdeal.main_arg1) = m ((c.tc : Thread Cert.PoolBwdIdeal.nD Cert.PoolBwdIdeal.τ).loc Cert.PoolBwdIdeal.main_arg1)
      ∧ m' ((c.tc : Thread Cert.PoolBwdRefIdeal.nD Cert.PoolBwdRefIdeal.τ).loc Cert.PoolBwdRefIdeal.main_arg2) = m ((c.tc : Thread Cert.PoolBwdIdeal.nD Cert.PoolBwdIdeal.τ).loc Cert.PoolBwdIdeal.main_arg2)
      ∧ m' ((c.tc : Thread Cert.PoolBwdRefIdeal.nD Cert.PoolBwdRefIdeal.τ).loc Cert.PoolBwdRefIdeal.main_arg3) = m ((c.tc : Thread Cert.PoolBwdIdeal.nD Cert.PoolBwdIdeal.τ).loc Cert.PoolBwdIdeal.main_arg3)) →
    ∃ (v0 : (c : Dev Cert.PoolBwdIdeal.nD) → Buf (Elt Ideal) ((c.tc : Thread Cert.PoolBwdIdeal.nD Cert.PoolBwdIdeal.τ).loc Cert.PoolBwdIdeal.main_v88)) (v1 : (c : Dev Cert.PoolBwdIdeal.nD) → Buf (Elt Ideal) ((c.tc : Thread Cert.PoolBwdIdeal.nD Cert.PoolBwdIdeal.τ).loc Cert.PoolBwdIdeal.main_v87_1)) (v2 : (c : Dev Cert.PoolBwdIdeal.nD) → Buf (Elt Ideal) ((c.tc : Thread Cert.PoolBwdIdeal.nD Cert.PoolBwdIdeal.τ).loc Cert.PoolBwdIdeal.main_v87_2)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v88) = v0 c
          ∧ r.2.mem ((c.tc : Thread Cert.PoolBwdIdeal.nD Cert.PoolBwdIdeal.τ).loc Cert.PoolBwdIdeal.main_v87_1) = v1 c
          ∧ r.2.mem ((c.tc : Thread Cert.PoolBwdIdeal.nD Cert.PoolBwdIdeal.τ).loc Cert.PoolBwdIdeal.main_v87_2) = v2 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          r.2.mem ((c.tc : Thread Cert.PoolBwdRefIdeal.nD Cert.PoolBwdRefIdeal.τ).loc Cert.PoolBwdRefIdeal.main_v144) = v0 c
          ∧ r.2.mem ((c.tc : Thread Cert.PoolBwdRefIdeal.nD Cert.PoolBwdRefIdeal.τ).loc Cert.PoolBwdRefIdeal.main_v145) = v1 c
          ∧ r.2.mem ((c.tc : Thread Cert.PoolBwdRefIdeal.nD Cert.PoolBwdRefIdeal.τ).loc Cert.PoolBwdRefIdeal.main_v91) = v2 c
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0)
          ∧ r.2.mem ((c.tc : Thread Cert.PoolBwdRefIdeal.nD Cert.PoolBwdRefIdeal.τ).loc Cert.PoolBwdRefIdeal.main_arg1) = m' ((c.tc : Thread Cert.PoolBwdRefIdeal.nD Cert.PoolBwdRefIdeal.τ).loc Cert.PoolBwdRefIdeal.main_arg1)
          ∧ r.2.mem ((c.tc : Thread Cert.PoolBwdRefIdeal.nD Cert.PoolBwdRefIdeal.τ).loc Cert.PoolBwdRefIdeal.main_arg2) = m' ((c.tc : Thread Cert.PoolBwdRefIdeal.nD Cert.PoolBwdRefIdeal.τ).loc Cert.PoolBwdRefIdeal.main_arg2)
          ∧ r.2.mem ((c.tc : Thread Cert.PoolBwdRefIdeal.nD Cert.PoolBwdRefIdeal.τ).loc Cert.PoolBwdRefIdeal.main_arg3) = m' ((c.tc : Thread Cert.PoolBwdRefIdeal.nD Cert.PoolBwdRefIdeal.τ).loc Cert.PoolBwdRefIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v2_0)) (v1 : (c : Dev Cert.GateIdeal.nD) → Buf (Elt Ideal) ((c.tc : Thread Cert.GateIdeal.nD Cert.GateIdeal.τ).loc Cert.GateIdeal.main_v6)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2_0) = v0 c
          ∧ r.2.mem ((c.tc : Thread Cert.GateIdeal.nD Cert.GateIdeal.τ).loc Cert.GateIdeal.main_v6) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v15) = v0 c
          ∧ r.2.mem ((c.tc : Thread Cert.GateRefIdeal.nD Cert.GateRefIdeal.τ).loc Cert.GateRefIdeal.main_v16) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_MixBwd_MixBwdIdeal : Prop :=
  True

def algebraic_MixBwdIdeal_MixBwdRefIdeal_pre_mix_norm_finite [hMixBwdIdeal : Cert.MixBwdIdeal.Facts] [hMixBwdRefIdeal : Cert.MixBwdRefIdeal.Facts] [hPre_mix_norm_finite : Cert.Pre_mix_norm_finite.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal_mix_norm_finite m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)
      ∧ m' ((c.tc : Thread Cert.MixBwdRefIdeal.nD Cert.MixBwdRefIdeal.τ).loc Cert.MixBwdRefIdeal.main_arg3) = m ((c.tc : Thread Cert.MixBwdIdeal.nD Cert.MixBwdIdeal.τ).loc Cert.MixBwdIdeal.main_arg3)
      ∧ m' ((c.tc : Thread Cert.MixBwdRefIdeal.nD Cert.MixBwdRefIdeal.τ).loc Cert.MixBwdRefIdeal.main_arg4) = m ((c.tc : Thread Cert.MixBwdIdeal.nD Cert.MixBwdIdeal.τ).loc Cert.MixBwdIdeal.main_arg4)
      ∧ m' ((c.tc : Thread Cert.MixBwdRefIdeal.nD Cert.MixBwdRefIdeal.τ).loc Cert.MixBwdRefIdeal.main_arg5) = m ((c.tc : Thread Cert.MixBwdIdeal.nD Cert.MixBwdIdeal.τ).loc Cert.MixBwdIdeal.main_arg5)
      ∧ m' ((c.tc : Thread Cert.MixBwdRefIdeal.nD Cert.MixBwdRefIdeal.τ).loc Cert.MixBwdRefIdeal.main_arg6) = m ((c.tc : Thread Cert.MixBwdIdeal.nD Cert.MixBwdIdeal.τ).loc Cert.MixBwdIdeal.main_arg6)) →
    ∃ (v0 : (c : Dev Cert.MixBwdIdeal.nD) → Buf (Elt Ideal) ((c.tc : Thread Cert.MixBwdIdeal.nD Cert.MixBwdIdeal.τ).loc Cert.MixBwdIdeal.main_v27_0)) (v1 : (c : Dev Cert.MixBwdIdeal.nD) → Buf (Elt Ideal) ((c.tc : Thread Cert.MixBwdIdeal.nD Cert.MixBwdIdeal.τ).loc Cert.MixBwdIdeal.main_v27_1)) (v2 : (c : Dev Cert.MixBwdIdeal.nD) → Buf (Elt Ideal) ((c.tc : Thread Cert.MixBwdIdeal.nD Cert.MixBwdIdeal.τ).loc Cert.MixBwdIdeal.main_v27_2)) (v3 : (c : Dev Cert.MixBwdIdeal.nD) → Buf (Elt Ideal) ((c.tc : Thread Cert.MixBwdIdeal.nD Cert.MixBwdIdeal.τ).loc Cert.MixBwdIdeal.main_v27_3)) (v4 : (c : Dev Cert.MixBwdIdeal.nD) → Buf (Elt Ideal) ((c.tc : Thread Cert.MixBwdIdeal.nD Cert.MixBwdIdeal.τ).loc Cert.MixBwdIdeal.main_v27_4)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v27_0) = v0 c
          ∧ r.2.mem ((c.tc : Thread Cert.MixBwdIdeal.nD Cert.MixBwdIdeal.τ).loc Cert.MixBwdIdeal.main_v27_1) = v1 c
          ∧ r.2.mem ((c.tc : Thread Cert.MixBwdIdeal.nD Cert.MixBwdIdeal.τ).loc Cert.MixBwdIdeal.main_v27_2) = v2 c
          ∧ r.2.mem ((c.tc : Thread Cert.MixBwdIdeal.nD Cert.MixBwdIdeal.τ).loc Cert.MixBwdIdeal.main_v27_3) = v3 c
          ∧ r.2.mem ((c.tc : Thread Cert.MixBwdIdeal.nD Cert.MixBwdIdeal.τ).loc Cert.MixBwdIdeal.main_v27_4) = v4 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          r.2.mem ((c.tc : Thread Cert.MixBwdRefIdeal.nD Cert.MixBwdRefIdeal.τ).loc Cert.MixBwdRefIdeal.main_v70) = v0 c
          ∧ r.2.mem ((c.tc : Thread Cert.MixBwdRefIdeal.nD Cert.MixBwdRefIdeal.τ).loc Cert.MixBwdRefIdeal.main_v63) = v1 c
          ∧ r.2.mem ((c.tc : Thread Cert.MixBwdRefIdeal.nD Cert.MixBwdRefIdeal.τ).loc Cert.MixBwdRefIdeal.main_v71) = v2 c
          ∧ r.2.mem ((c.tc : Thread Cert.MixBwdRefIdeal.nD Cert.MixBwdRefIdeal.τ).loc Cert.MixBwdRefIdeal.main_v37) = v3 c
          ∧ r.2.mem ((c.tc : Thread Cert.MixBwdRefIdeal.nD Cert.MixBwdRefIdeal.τ).loc Cert.MixBwdRefIdeal.main_v34) = v4 c
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)
          ∧ r.2.mem ((c.tc : Thread Cert.MixBwdRefIdeal.nD Cert.MixBwdRefIdeal.τ).loc Cert.MixBwdRefIdeal.main_arg3) = m' ((c.tc : Thread Cert.MixBwdRefIdeal.nD Cert.MixBwdRefIdeal.τ).loc Cert.MixBwdRefIdeal.main_arg3)
          ∧ r.2.mem ((c.tc : Thread Cert.MixBwdRefIdeal.nD Cert.MixBwdRefIdeal.τ).loc Cert.MixBwdRefIdeal.main_arg4) = m' ((c.tc : Thread Cert.MixBwdRefIdeal.nD Cert.MixBwdRefIdeal.τ).loc Cert.MixBwdRefIdeal.main_arg4)
          ∧ r.2.mem ((c.tc : Thread Cert.MixBwdRefIdeal.nD Cert.MixBwdRefIdeal.τ).loc Cert.MixBwdRefIdeal.main_arg5) = m' ((c.tc : Thread Cert.MixBwdRefIdeal.nD Cert.MixBwdRefIdeal.τ).loc Cert.MixBwdRefIdeal.main_arg5)
          ∧ r.2.mem ((c.tc : Thread Cert.MixBwdRefIdeal.nD Cert.MixBwdRefIdeal.τ).loc Cert.MixBwdRefIdeal.main_arg6) = m' ((c.tc : Thread Cert.MixBwdRefIdeal.nD Cert.MixBwdRefIdeal.τ).loc Cert.MixBwdRefIdeal.main_arg6))

def preserves_PoolFwd_PoolFwdIdeal : Prop :=
  True

def algebraic_PoolFwdIdeal_PoolFwdRefIdeal [hPoolFwdIdeal : Cert.PoolFwdIdeal.Facts] [hPoolFwdRefIdeal : Cert.PoolFwdRefIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)) →
    ∃ (v0 : (c : Dev Cert.PoolFwdIdeal.nD) → Buf (Elt Ideal) ((c.tc : Thread Cert.PoolFwdIdeal.nD Cert.PoolFwdIdeal.τ).loc Cert.PoolFwdIdeal.main_v1_0)) (v1 : (c : Dev Cert.PoolFwdIdeal.nD) → Buf (Elt Ideal) ((c.tc : Thread Cert.PoolFwdIdeal.nD Cert.PoolFwdIdeal.τ).loc Cert.PoolFwdIdeal.main_v2)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v1_0) = v0 c
          ∧ r.2.mem ((c.tc : Thread Cert.PoolFwdIdeal.nD Cert.PoolFwdIdeal.τ).loc Cert.PoolFwdIdeal.main_v2) = v1 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v86) = v0 c
          ∧ r.2.mem ((c.tc : Thread Cert.PoolFwdRefIdeal.nD Cert.PoolFwdRefIdeal.τ).loc Cert.PoolFwdRefIdeal.main_v177) = v1 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2))

def preserves_LruFwd_LruFwdIdeal : Prop :=
  IdealRules.named_const.Statement Cert.LruFwdIdeal.κ "series_from" .f32 0xBC23D70A#32 ⊤

def algebraic_LruFwdIdeal_LruFwdRefIdeal [hLruFwdIdeal : Cert.LruFwdIdeal.Facts] [hLruFwdRefIdeal : Cert.LruFwdRefIdeal.Facts] : Prop :=
  ∀ (m : (ℓ : Loc Cert.LruFwdIdeal.nD Cert.LruFwdIdeal.τ Cert.LruFwdIdeal.sig) → Buf (Elt Ideal) ℓ) (g : Dev Cert.LruFwdIdeal.nD → PrngReg)
    (m' : (ℓ : Loc Cert.LruFwdRefIdeal.nD Cert.LruFwdRefIdeal.τ Cert.LruFwdRefIdeal.sig) → Buf (Elt Ideal) ℓ) (g' : Dev Cert.LruFwdRefIdeal.nD → PrngReg), Pre_LruFwdIdeal m →
    (∀ c : Dev Cert.LruFwdIdeal.nD,
      m' ((c.tc : Thread Cert.LruFwdRefIdeal.nD Cert.LruFwdRefIdeal.τ).loc Cert.LruFwdRefIdeal.main_arg0) = m ((c.tc : Thread Cert.LruFwdIdeal.nD Cert.LruFwdIdeal.τ).loc Cert.LruFwdIdeal.main_arg0)
      ∧ m' ((c.tc : Thread Cert.LruFwdRefIdeal.nD Cert.LruFwdRefIdeal.τ).loc Cert.LruFwdRefIdeal.main_arg1) = m ((c.tc : Thread Cert.LruFwdIdeal.nD Cert.LruFwdIdeal.τ).loc Cert.LruFwdIdeal.main_arg1)
      ∧ m' ((c.tc : Thread Cert.LruFwdRefIdeal.nD Cert.LruFwdRefIdeal.τ).loc Cert.LruFwdRefIdeal.main_arg2) = m ((c.tc : Thread Cert.LruFwdIdeal.nD Cert.LruFwdIdeal.τ).loc Cert.LruFwdIdeal.main_arg2)
      ∧ m' ((c.tc : Thread Cert.LruFwdRefIdeal.nD Cert.LruFwdRefIdeal.τ).loc Cert.LruFwdRefIdeal.main_arg3) = m ((c.tc : Thread Cert.LruFwdIdeal.nD Cert.LruFwdIdeal.τ).loc Cert.LruFwdIdeal.main_arg3)
      ∧ m' ((c.tc : Thread Cert.LruFwdRefIdeal.nD Cert.LruFwdRefIdeal.τ).loc Cert.LruFwdRefIdeal.main_arg4) = m ((c.tc : Thread Cert.LruFwdIdeal.nD Cert.LruFwdIdeal.τ).loc Cert.LruFwdIdeal.main_arg4)
      ∧ m' ((c.tc : Thread Cert.LruFwdRefIdeal.nD Cert.LruFwdRefIdeal.τ).loc Cert.LruFwdRefIdeal.main_arg5) = m ((c.tc : Thread Cert.LruFwdIdeal.nD Cert.LruFwdIdeal.τ).loc Cert.LruFwdIdeal.main_arg5)
      ∧ m' ((c.tc : Thread Cert.LruFwdRefIdeal.nD Cert.LruFwdRefIdeal.τ).loc Cert.LruFwdRefIdeal.main_arg6) = m ((c.tc : Thread Cert.LruFwdIdeal.nD Cert.LruFwdIdeal.τ).loc Cert.LruFwdIdeal.main_arg6)
      ∧ m' ((c.tc : Thread Cert.LruFwdRefIdeal.nD Cert.LruFwdRefIdeal.τ).loc Cert.LruFwdRefIdeal.main_arg7) = m ((c.tc : Thread Cert.LruFwdIdeal.nD Cert.LruFwdIdeal.τ).loc Cert.LruFwdIdeal.main_arg7)) →
    ∃ (v0 : (c : Dev Cert.LruFwdIdeal.nD) → Buf (Elt Ideal) ((c.tc : Thread Cert.LruFwdIdeal.nD Cert.LruFwdIdeal.τ).loc Cert.LruFwdIdeal.main_v18)) (v1 : (c : Dev Cert.LruFwdIdeal.nD) → Buf (Elt Ideal) ((c.tc : Thread Cert.LruFwdIdeal.nD Cert.LruFwdIdeal.τ).loc Cert.LruFwdIdeal.main_v17_1)) (v2 : (c : Dev Cert.LruFwdIdeal.nD) → Buf (Elt Ideal) ((c.tc : Thread Cert.LruFwdIdeal.nD Cert.LruFwdIdeal.τ).loc Cert.LruFwdIdeal.main_v17_2)),
      θ_run (Cert.LruFwdIdeal.defs (F := Ideal)) (onTc (τ := Cert.LruFwdIdeal.τ) (Cert.LruFwdIdeal.main (F := Ideal))) ⟨m, fun _ => 0, g⟩ (fun r => ∀ c : Dev Cert.LruFwdIdeal.nD,
          r.2.mem ((c.tc : Thread Cert.LruFwdIdeal.nD Cert.LruFwdIdeal.τ).loc Cert.LruFwdIdeal.main_v18) = v0 c
          ∧ r.2.mem ((c.tc : Thread Cert.LruFwdIdeal.nD Cert.LruFwdIdeal.τ).loc Cert.LruFwdIdeal.main_v17_1) = v1 c
          ∧ r.2.mem ((c.tc : Thread Cert.LruFwdIdeal.nD Cert.LruFwdIdeal.τ).loc Cert.LruFwdIdeal.main_v17_2) = v2 c
          ∧ r.2.mem ((c.tc : Thread Cert.LruFwdIdeal.nD Cert.LruFwdIdeal.τ).loc Cert.LruFwdIdeal.main_arg0) = m ((c.tc : Thread Cert.LruFwdIdeal.nD Cert.LruFwdIdeal.τ).loc Cert.LruFwdIdeal.main_arg0)
          ∧ r.2.mem ((c.tc : Thread Cert.LruFwdIdeal.nD Cert.LruFwdIdeal.τ).loc Cert.LruFwdIdeal.main_arg1) = m ((c.tc : Thread Cert.LruFwdIdeal.nD Cert.LruFwdIdeal.τ).loc Cert.LruFwdIdeal.main_arg1)
          ∧ r.2.mem ((c.tc : Thread Cert.LruFwdIdeal.nD Cert.LruFwdIdeal.τ).loc Cert.LruFwdIdeal.main_arg2) = m ((c.tc : Thread Cert.LruFwdIdeal.nD Cert.LruFwdIdeal.τ).loc Cert.LruFwdIdeal.main_arg2)
          ∧ r.2.mem ((c.tc : Thread Cert.LruFwdIdeal.nD Cert.LruFwdIdeal.τ).loc Cert.LruFwdIdeal.main_arg3) = m ((c.tc : Thread Cert.LruFwdIdeal.nD Cert.LruFwdIdeal.τ).loc Cert.LruFwdIdeal.main_arg3)
          ∧ r.2.mem ((c.tc : Thread Cert.LruFwdIdeal.nD Cert.LruFwdIdeal.τ).loc Cert.LruFwdIdeal.main_arg4) = m ((c.tc : Thread Cert.LruFwdIdeal.nD Cert.LruFwdIdeal.τ).loc Cert.LruFwdIdeal.main_arg4)
          ∧ r.2.mem ((c.tc : Thread Cert.LruFwdIdeal.nD Cert.LruFwdIdeal.τ).loc Cert.LruFwdIdeal.main_arg5) = m ((c.tc : Thread Cert.LruFwdIdeal.nD Cert.LruFwdIdeal.τ).loc Cert.LruFwdIdeal.main_arg5)
          ∧ r.2.mem ((c.tc : Thread Cert.LruFwdIdeal.nD Cert.LruFwdIdeal.τ).loc Cert.LruFwdIdeal.main_arg6) = m ((c.tc : Thread Cert.LruFwdIdeal.nD Cert.LruFwdIdeal.τ).loc Cert.LruFwdIdeal.main_arg6)
          ∧ r.2.mem ((c.tc : Thread Cert.LruFwdIdeal.nD Cert.LruFwdIdeal.τ).loc Cert.LruFwdIdeal.main_arg7) = m ((c.tc : Thread Cert.LruFwdIdeal.nD Cert.LruFwdIdeal.τ).loc Cert.LruFwdIdeal.main_arg7))
      ∧ θ_run (Cert.LruFwdRefIdeal.defs (F := Ideal)) (onTc (τ := Cert.LruFwdRefIdeal.τ) (Cert.LruFwdRefIdeal.main (F := Ideal))) ⟨m', fun _ => 0, g'⟩ (fun r => ∀ c : Dev Cert.LruFwdRefIdeal.nD,
          r.2.mem ((c.tc : Thread Cert.LruFwdRefIdeal.nD Cert.LruFwdRefIdeal.τ).loc Cert.LruFwdRefIdeal.main_v404) = v0 c
          ∧ r.2.mem ((c.tc : Thread Cert.LruFwdRefIdeal.nD Cert.LruFwdRefIdeal.τ).loc Cert.LruFwdRefIdeal.main_v405) = v1 c
          ∧ r.2.mem ((c.tc : Thread Cert.LruFwdRefIdeal.nD Cert.LruFwdRefIdeal.τ).loc Cert.LruFwdRefIdeal.main_v406) = v2 c
          ∧ r.2.mem ((c.tc : Thread Cert.LruFwdRefIdeal.nD Cert.LruFwdRefIdeal.τ).loc Cert.LruFwdRefIdeal.main_arg0) = m' ((c.tc : Thread Cert.LruFwdRefIdeal.nD Cert.LruFwdRefIdeal.τ).loc Cert.LruFwdRefIdeal.main_arg0)
          ∧ r.2.mem ((c.tc : Thread Cert.LruFwdRefIdeal.nD Cert.LruFwdRefIdeal.τ).loc Cert.LruFwdRefIdeal.main_arg1) = m' ((c.tc : Thread Cert.LruFwdRefIdeal.nD Cert.LruFwdRefIdeal.τ).loc Cert.LruFwdRefIdeal.main_arg1)
          ∧ r.2.mem ((c.tc : Thread Cert.LruFwdRefIdeal.nD Cert.LruFwdRefIdeal.τ).loc Cert.LruFwdRefIdeal.main_arg2) = m' ((c.tc : Thread Cert.LruFwdRefIdeal.nD Cert.LruFwdRefIdeal.τ).loc Cert.LruFwdRefIdeal.main_arg2)
          ∧ r.2.mem ((c.tc : Thread Cert.LruFwdRefIdeal.nD Cert.LruFwdRefIdeal.τ).loc Cert.LruFwdRefIdeal.main_arg3) = m' ((c.tc : Thread Cert.LruFwdRefIdeal.nD Cert.LruFwdRefIdeal.τ).loc Cert.LruFwdRefIdeal.main_arg3)
          ∧ r.2.mem ((c.tc : Thread Cert.LruFwdRefIdeal.nD Cert.LruFwdRefIdeal.τ).loc Cert.LruFwdRefIdeal.main_arg4) = m' ((c.tc : Thread Cert.LruFwdRefIdeal.nD Cert.LruFwdRefIdeal.τ).loc Cert.LruFwdRefIdeal.main_arg4)
          ∧ r.2.mem ((c.tc : Thread Cert.LruFwdRefIdeal.nD Cert.LruFwdRefIdeal.τ).loc Cert.LruFwdRefIdeal.main_arg5) = m' ((c.tc : Thread Cert.LruFwdRefIdeal.nD Cert.LruFwdRefIdeal.τ).loc Cert.LruFwdRefIdeal.main_arg5)
          ∧ r.2.mem ((c.tc : Thread Cert.LruFwdRefIdeal.nD Cert.LruFwdRefIdeal.τ).loc Cert.LruFwdRefIdeal.main_arg6) = m' ((c.tc : Thread Cert.LruFwdRefIdeal.nD Cert.LruFwdRefIdeal.τ).loc Cert.LruFwdRefIdeal.main_arg6)
          ∧ r.2.mem ((c.tc : Thread Cert.LruFwdRefIdeal.nD Cert.LruFwdRefIdeal.τ).loc Cert.LruFwdRefIdeal.main_arg7) = m' ((c.tc : Thread Cert.LruFwdRefIdeal.nD Cert.LruFwdRefIdeal.τ).loc Cert.LruFwdRefIdeal.main_arg7))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)) →
    ∃ (v0 : (c : Dev Cert.MixOutIdeal.nD) → Buf (Elt Ideal) ((c.tc : Thread Cert.MixOutIdeal.nD Cert.MixOutIdeal.τ).loc Cert.MixOutIdeal.main_v2_0)) (v1 : (c : Dev Cert.MixOutIdeal.nD) → Buf (Elt Ideal) ((c.tc : Thread Cert.MixOutIdeal.nD Cert.MixOutIdeal.τ).loc Cert.MixOutIdeal.main_v2_1)) (v2 : (c : Dev Cert.MixOutIdeal.nD) → Buf (Elt Ideal) ((c.tc : Thread Cert.MixOutIdeal.nD Cert.MixOutIdeal.τ).loc Cert.MixOutIdeal.main_v2_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2_0) = v0 c
          ∧ r.2.mem ((c.tc : Thread Cert.MixOutIdeal.nD Cert.MixOutIdeal.τ).loc Cert.MixOutIdeal.main_v2_1) = v1 c
          ∧ r.2.mem ((c.tc : Thread Cert.MixOutIdeal.nD Cert.MixOutIdeal.τ).loc Cert.MixOutIdeal.main_v2_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_v25) = v1 c
          ∧ r.2.mem ((c.tc : Thread Cert.MixOutRefIdeal.nD Cert.MixOutRefIdeal.τ).loc Cert.MixOutRefIdeal.main_v26) = v2 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4))

def preserves_MlpOut_MlpOutIdeal : Prop :=
  True

def algebraic_MlpOutIdeal_MlpOutRefIdeal [hMlpOutIdeal : Cert.MlpOutIdeal.Facts] [hMlpOutRefIdeal : Cert.MlpOutRefIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg)
    (m' : (ℓ : Loc Cert.MlpOutRefIdeal.nD Cert.MlpOutRefIdeal.τ Cert.MlpOutRefIdeal.sig) → Buf (Elt Ideal) ℓ) (g' : Dev Cert.MlpOutRefIdeal.nD → PrngReg), Pre_MlpOutIdeal m →
    (∀ c : Dev Cert.MlpOutIdeal.nD,
      m' ((c.tc : Thread Cert.MlpOutRefIdeal.nD Cert.MlpOutRefIdeal.τ).loc Cert.MlpOutRefIdeal.main_arg0) = m ((c.tc : Thread Cert.MlpOutIdeal.nD Cert.MlpOutIdeal.τ).loc Cert.MlpOutIdeal.main_arg0)
      ∧ m' ((c.tc : Thread Cert.MlpOutRefIdeal.nD Cert.MlpOutRefIdeal.τ).loc Cert.MlpOutRefIdeal.main_arg1) = m ((c.tc : Thread Cert.MlpOutIdeal.nD Cert.MlpOutIdeal.τ).loc Cert.MlpOutIdeal.main_arg1)) →
    ∃ (v0 : (c : Dev Cert.MlpOutIdeal.nD) → Buf (Elt Ideal) ((c.tc : Thread Cert.MlpOutIdeal.nD Cert.MlpOutIdeal.τ).loc Cert.MlpOutIdeal.main_v2)),
      θ_run (Cert.MlpOutIdeal.defs (F := Ideal)) (onTc (τ := Cert.MlpOutIdeal.τ) (Cert.MlpOutIdeal.main (F := Ideal))) ⟨m, fun _ => 0, g⟩ (fun r => ∀ c : Dev Cert.MlpOutIdeal.nD,
          r.2.mem ((c.tc : Thread Cert.MlpOutIdeal.nD Cert.MlpOutIdeal.τ).loc Cert.MlpOutIdeal.main_v2) = v0 c
          ∧ r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
          ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1))
      ∧ θ_run (Cert.MlpOutRefIdeal.defs (F := Ideal)) (onTc (τ := Cert.MlpOutRefIdeal.τ) (Cert.MlpOutRefIdeal.main (F := Ideal))) ⟨m', fun _ => 0, g'⟩ (fun r => ∀ c : Dev Cert.MlpOutRefIdeal.nD,
          r.2.mem ((c.tc : Thread Cert.MlpOutRefIdeal.nD Cert.MlpOutRefIdeal.τ).loc Cert.MlpOutRefIdeal.main_v0) = v0 c
          ∧ r.2.mem ((c.tc : Thread Cert.MlpOutRefIdeal.nD Cert.MlpOutRefIdeal.τ).loc Cert.MlpOutRefIdeal.main_arg0) = m' ((c.tc : Thread Cert.MlpOutRefIdeal.nD Cert.MlpOutRefIdeal.τ).loc Cert.MlpOutRefIdeal.main_arg0)
          ∧ r.2.mem ((c.tc : Thread Cert.MlpOutRefIdeal.nD Cert.MlpOutRefIdeal.τ).loc Cert.MlpOutRefIdeal.main_arg1) = m' ((c.tc : Thread Cert.MlpOutRefIdeal.nD Cert.MlpOutRefIdeal.τ).loc Cert.MlpOutRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)) →
    ∃ (v0 : (c : Dev Cert.AdamIdeal.nD) → Buf (Elt Ideal) ((c.tc : Thread Cert.AdamIdeal.nD Cert.AdamIdeal.τ).loc Cert.AdamIdeal.main_v1_0)) (v1 : (c : Dev Cert.AdamIdeal.nD) → Buf (Elt Ideal) ((c.tc : Thread Cert.AdamIdeal.nD Cert.AdamIdeal.τ).loc Cert.AdamIdeal.main_v1_1)) (v2 : (c : Dev Cert.AdamIdeal.nD) → Buf (Elt Ideal) ((c.tc : Thread Cert.AdamIdeal.nD Cert.AdamIdeal.τ).loc Cert.AdamIdeal.main_v1_2)) (v3 : (c : Dev Cert.AdamIdeal.nD) → Buf (Elt Ideal) ((c.tc : Thread Cert.AdamIdeal.nD Cert.AdamIdeal.τ).loc Cert.AdamIdeal.main_v1_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v1_0) = v0 c
          ∧ r.2.mem ((c.tc : Thread Cert.AdamIdeal.nD Cert.AdamIdeal.τ).loc Cert.AdamIdeal.main_v1_1) = v1 c
          ∧ r.2.mem ((c.tc : Thread Cert.AdamIdeal.nD Cert.AdamIdeal.τ).loc Cert.AdamIdeal.main_v1_2) = v2 c
          ∧ r.2.mem ((c.tc : Thread Cert.AdamIdeal.nD Cert.AdamIdeal.τ).loc Cert.AdamIdeal.main_v1_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v1) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v6) = v2 c
          ∧ r.2.mem ((c.tc : Thread Cert.AdamRefIdeal.nD Cert.AdamRefIdeal.τ).loc Cert.AdamRefIdeal.main_v12) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)
      ∧ m' ((c.tc : Thread Cert.GradXRefIdeal.nD Cert.GradXRefIdeal.τ).loc Cert.GradXRefIdeal.main_arg2) = m ((c.tc : Thread Cert.GradXIdeal.nD Cert.GradXIdeal.τ).loc Cert.GradXIdeal.main_arg2)
      ∧ m' ((c.tc : Thread Cert.GradXRefIdeal.nD Cert.GradXRefIdeal.τ).loc Cert.GradXRefIdeal.main_arg3) = m ((c.tc : Thread Cert.GradXIdeal.nD Cert.GradXIdeal.τ).loc Cert.GradXIdeal.main_arg3)
      ∧ m' ((c.tc : Thread Cert.GradXRefIdeal.nD Cert.GradXRefIdeal.τ).loc Cert.GradXRefIdeal.main_arg4) = m ((c.tc : Thread Cert.GradXIdeal.nD Cert.GradXIdeal.τ).loc Cert.GradXIdeal.main_arg4)
      ∧ m' ((c.tc : Thread Cert.GradXRefIdeal.nD Cert.GradXRefIdeal.τ).loc Cert.GradXRefIdeal.main_arg5) = m ((c.tc : Thread Cert.GradXIdeal.nD Cert.GradXIdeal.τ).loc Cert.GradXIdeal.main_arg5)
      ∧ m' ((c.tc : Thread Cert.GradXRefIdeal.nD Cert.GradXRefIdeal.τ).loc Cert.GradXRefIdeal.main_arg6) = m ((c.tc : Thread Cert.GradXIdeal.nD Cert.GradXIdeal.τ).loc Cert.GradXIdeal.main_arg6)
      ∧ m' ((c.tc : Thread Cert.GradXRefIdeal.nD Cert.GradXRefIdeal.τ).loc Cert.GradXRefIdeal.main_arg7) = m ((c.tc : Thread Cert.GradXIdeal.nD Cert.GradXIdeal.τ).loc Cert.GradXIdeal.main_arg7)) →
    ∃ (v0 : (c : Dev Cert.GradXIdeal.nD) → Buf (Elt Ideal) ((c.tc : Thread Cert.GradXIdeal.nD Cert.GradXIdeal.τ).loc Cert.GradXIdeal.main_v4_0)) (v1 : (c : Dev Cert.GradXIdeal.nD) → Buf (Elt Ideal) ((c.tc : Thread Cert.GradXIdeal.nD Cert.GradXIdeal.τ).loc Cert.GradXIdeal.main_v4_1)) (v2 : (c : Dev Cert.GradXIdeal.nD) → Buf (Elt Ideal) ((c.tc : Thread Cert.GradXIdeal.nD Cert.GradXIdeal.τ).loc Cert.GradXIdeal.main_v4_2)) (v3 : (c : Dev Cert.GradXIdeal.nD) → Buf (Elt Ideal) ((c.tc : Thread Cert.GradXIdeal.nD Cert.GradXIdeal.τ).loc Cert.GradXIdeal.main_v4_3)) (v4 : (c : Dev Cert.GradXIdeal.nD) → Buf (Elt Ideal) ((c.tc : Thread Cert.GradXIdeal.nD Cert.GradXIdeal.τ).loc Cert.GradXIdeal.main_v4_4)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v4_0) = v0 c
          ∧ r.2.mem ((c.tc : Thread Cert.GradXIdeal.nD Cert.GradXIdeal.τ).loc Cert.GradXIdeal.main_v4_1) = v1 c
          ∧ r.2.mem ((c.tc : Thread Cert.GradXIdeal.nD Cert.GradXIdeal.τ).loc Cert.GradXIdeal.main_v4_2) = v2 c
          ∧ r.2.mem ((c.tc : Thread Cert.GradXIdeal.nD Cert.GradXIdeal.τ).loc Cert.GradXIdeal.main_v4_3) = v3 c
          ∧ r.2.mem ((c.tc : Thread Cert.GradXIdeal.nD Cert.GradXIdeal.τ).loc Cert.GradXIdeal.main_v4_4) = v4 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
          ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4)
          ∧ r.2.mem ((c.tc : Thread Cert.GradXIdeal.nD Cert.GradXIdeal.τ).loc Cert.GradXIdeal.main_arg5) = m ((c.tc : Thread Cert.GradXIdeal.nD Cert.GradXIdeal.τ).loc Cert.GradXIdeal.main_arg5)
          ∧ r.2.mem ((c.tc : Thread Cert.GradXIdeal.nD Cert.GradXIdeal.τ).loc Cert.GradXIdeal.main_arg6) = m ((c.tc : Thread Cert.GradXIdeal.nD Cert.GradXIdeal.τ).loc Cert.GradXIdeal.main_arg6)
          ∧ r.2.mem ((c.tc : Thread Cert.GradXIdeal.nD Cert.GradXIdeal.τ).loc Cert.GradXIdeal.main_arg7) = m ((c.tc : Thread Cert.GradXIdeal.nD Cert.GradXIdeal.τ).loc Cert.GradXIdeal.main_arg7))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v7) = v0 c
          ∧ r.2.mem ((c.tc : Thread Cert.GradXRefIdeal.nD Cert.GradXRefIdeal.τ).loc Cert.GradXRefIdeal.main_v9) = v1 c
          ∧ r.2.mem ((c.tc : Thread Cert.GradXRefIdeal.nD Cert.GradXRefIdeal.τ).loc Cert.GradXRefIdeal.main_v33) = v2 c
          ∧ r.2.mem ((c.tc : Thread Cert.GradXRefIdeal.nD Cert.GradXRefIdeal.τ).loc Cert.GradXRefIdeal.main_v14) = v3 c
          ∧ r.2.mem ((c.tc : Thread Cert.GradXRefIdeal.nD Cert.GradXRefIdeal.τ).loc Cert.GradXRefIdeal.main_v20) = v4 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1)
          ∧ r.2.mem ((c.tc : Thread Cert.GradXRefIdeal.nD Cert.GradXRefIdeal.τ).loc Cert.GradXRefIdeal.main_arg2) = m' ((c.tc : Thread Cert.GradXRefIdeal.nD Cert.GradXRefIdeal.τ).loc Cert.GradXRefIdeal.main_arg2)
          ∧ r.2.mem ((c.tc : Thread Cert.GradXRefIdeal.nD Cert.GradXRefIdeal.τ).loc Cert.GradXRefIdeal.main_arg3) = m' ((c.tc : Thread Cert.GradXRefIdeal.nD Cert.GradXRefIdeal.τ).loc Cert.GradXRefIdeal.main_arg3)
          ∧ r.2.mem ((c.tc : Thread Cert.GradXRefIdeal.nD Cert.GradXRefIdeal.τ).loc Cert.GradXRefIdeal.main_arg4) = m' ((c.tc : Thread Cert.GradXRefIdeal.nD Cert.GradXRefIdeal.τ).loc Cert.GradXRefIdeal.main_arg4)
          ∧ r.2.mem ((c.tc : Thread Cert.GradXRefIdeal.nD Cert.GradXRefIdeal.τ).loc Cert.GradXRefIdeal.main_arg5) = m' ((c.tc : Thread Cert.GradXRefIdeal.nD Cert.GradXRefIdeal.τ).loc Cert.GradXRefIdeal.main_arg5)
          ∧ r.2.mem ((c.tc : Thread Cert.GradXRefIdeal.nD Cert.GradXRefIdeal.τ).loc Cert.GradXRefIdeal.main_arg6) = m' ((c.tc : Thread Cert.GradXRefIdeal.nD Cert.GradXRefIdeal.τ).loc Cert.GradXRefIdeal.main_arg6)
          ∧ r.2.mem ((c.tc : Thread Cert.GradXRefIdeal.nD Cert.GradXRefIdeal.τ).loc Cert.GradXRefIdeal.main_arg7) = m' ((c.tc : Thread Cert.GradXRefIdeal.nD Cert.GradXRefIdeal.τ).loc Cert.GradXRefIdeal.main_arg7))

def preserves_LossSum_LossSumIdeal : Prop :=
  True

def algebraic_LossSumIdeal_LossSumRefIdeal [hLossSumIdeal : Cert.LossSumIdeal.Facts] [hLossSumRefIdeal : Cert.LossSumRefIdeal.Facts] : Prop :=
  ∀ (m : (ℓ : Loc Cert.LossSumIdeal.nD Cert.LossSumIdeal.τ Cert.LossSumIdeal.sig) → Buf (Elt Ideal) ℓ) (g : Dev Cert.LossSumIdeal.nD → PrngReg)
    (m' : (ℓ : Loc Cert.LossSumRefIdeal.nD Cert.LossSumRefIdeal.τ Cert.LossSumRefIdeal.sig) → Buf (Elt Ideal) ℓ) (g' : Dev Cert.LossSumRefIdeal.nD → PrngReg), Pre_LossSumIdeal m →
    (∀ c : Dev Cert.LossSumIdeal.nD,
      m' ((c.tc : Thread Cert.LossSumRefIdeal.nD Cert.LossSumRefIdeal.τ).loc Cert.LossSumRefIdeal.main_arg0) = m ((c.tc : Thread Cert.LossSumIdeal.nD Cert.LossSumIdeal.τ).loc Cert.LossSumIdeal.main_arg0)) →
    ∃ (v0 : (c : Dev Cert.LossSumIdeal.nD) → Buf (Elt Ideal) ((c.tc : Thread Cert.LossSumIdeal.nD Cert.LossSumIdeal.τ).loc Cert.LossSumIdeal.main_v0)),
      θ_run (Cert.LossSumIdeal.defs (F := Ideal)) (onTc (τ := Cert.LossSumIdeal.τ) (Cert.LossSumIdeal.main (F := Ideal))) ⟨m, fun _ => 0, g⟩ (fun r => ∀ c : Dev Cert.LossSumIdeal.nD,
          r.2.mem ((c.tc : Thread Cert.LossSumIdeal.nD Cert.LossSumIdeal.τ).loc Cert.LossSumIdeal.main_v0) = v0 c
          ∧ r.2.mem ((c.tc : Thread Cert.LossSumIdeal.nD Cert.LossSumIdeal.τ).loc Cert.LossSumIdeal.main_arg0) = m ((c.tc : Thread Cert.LossSumIdeal.nD Cert.LossSumIdeal.τ).loc Cert.LossSumIdeal.main_arg0))
      ∧ θ_run (Cert.LossSumRefIdeal.defs (F := Ideal)) (onTc (τ := Cert.LossSumRefIdeal.τ) (Cert.LossSumRefIdeal.main (F := Ideal))) ⟨m', fun _ => 0, g'⟩ (fun r => ∀ c : Dev Cert.LossSumRefIdeal.nD,
          r.2.mem ((c.tc : Thread Cert.LossSumRefIdeal.nD Cert.LossSumRefIdeal.τ).loc Cert.LossSumRefIdeal.main_v0) = v0 c
          ∧ r.2.mem ((c.tc : Thread Cert.LossSumRefIdeal.nD Cert.LossSumRefIdeal.τ).loc Cert.LossSumRefIdeal.main_arg0) = m' ((c.tc : Thread Cert.LossSumRefIdeal.nD Cert.LossSumRefIdeal.τ).loc Cert.LossSumRefIdeal.main_arg0))

def preserves_CastX_CastXIdeal : Prop :=
  True

def algebraic_CastXIdeal_CastXRefIdeal [hCastXIdeal : Cert.CastXIdeal.Facts] [hCastXRefIdeal : Cert.CastXRefIdeal.Facts] : Prop :=
  ∀ (m : (ℓ : Loc Cert.CastXIdeal.nD Cert.CastXIdeal.τ Cert.CastXIdeal.sig) → Buf (Elt Ideal) ℓ) (g : Dev Cert.CastXIdeal.nD → PrngReg)
    (m' : (ℓ : Loc Cert.CastXRefIdeal.nD Cert.CastXRefIdeal.τ Cert.CastXRefIdeal.sig) → Buf (Elt Ideal) ℓ) (g' : Dev Cert.CastXRefIdeal.nD → PrngReg), Pre_CastXIdeal m →
    (∀ c : Dev Cert.CastXIdeal.nD,
      m' ((c.tc : Thread Cert.CastXRefIdeal.nD Cert.CastXRefIdeal.τ).loc Cert.CastXRefIdeal.main_arg0) = m ((c.tc : Thread Cert.CastXIdeal.nD Cert.CastXIdeal.τ).loc Cert.CastXIdeal.main_arg0)) →
    ∃ (v0 : (c : Dev Cert.CastXIdeal.nD) → Buf (Elt Ideal) ((c.tc : Thread Cert.CastXIdeal.nD Cert.CastXIdeal.τ).loc Cert.CastXIdeal.main_v1)),
      θ_run (Cert.CastXIdeal.defs (F := Ideal)) (onTc (τ := Cert.CastXIdeal.τ) (Cert.CastXIdeal.main (F := Ideal))) ⟨m, fun _ => 0, g⟩ (fun r => ∀ c : Dev Cert.CastXIdeal.nD,
          r.2.mem ((c.tc : Thread Cert.CastXIdeal.nD Cert.CastXIdeal.τ).loc Cert.CastXIdeal.main_v1) = v0 c
          ∧ r.2.mem ((c.tc : Thread Cert.CastXIdeal.nD Cert.CastXIdeal.τ).loc Cert.CastXIdeal.main_arg0) = m ((c.tc : Thread Cert.CastXIdeal.nD Cert.CastXIdeal.τ).loc Cert.CastXIdeal.main_arg0))
      ∧ θ_run (Cert.CastXRefIdeal.defs (F := Ideal)) (onTc (τ := Cert.CastXRefIdeal.τ) (Cert.CastXRefIdeal.main (F := Ideal))) ⟨m', fun _ => 0, g'⟩ (fun r => ∀ c : Dev Cert.CastXRefIdeal.nD,
          r.2.mem ((c.tc : Thread Cert.CastXRefIdeal.nD Cert.CastXRefIdeal.τ).loc Cert.CastXRefIdeal.main_v0) = v0 c
          ∧ r.2.mem ((c.tc : Thread Cert.CastXRefIdeal.nD Cert.CastXRefIdeal.τ).loc Cert.CastXRefIdeal.main_arg0) = m' ((c.tc : Thread Cert.CastXRefIdeal.nD Cert.CastXRefIdeal.τ).loc Cert.CastXRefIdeal.main_arg0))

def bitexact_CastX_CastXRef [hCastX : Cert.CastX.Facts] [hCastXRef : Cert.CastXRef.Facts] : Prop :=
  ∀ (m : (ℓ : Loc Cert.CastX.nD Cert.CastX.τ Cert.CastX.sig) → Buf (Elt Bits) ℓ) (g : Dev Cert.CastX.nD → PrngReg)
    (m' : (ℓ : Loc Cert.CastXRef.nD Cert.CastXRef.τ Cert.CastXRef.sig) → Buf (Elt Bits) ℓ) (g' : Dev Cert.CastXRef.nD → PrngReg), Pre_CastX m →
    (∀ c : Dev Cert.CastX.nD,
      m' ((c.tc : Thread Cert.CastXRef.nD Cert.CastXRef.τ).loc Cert.CastXRef.main_arg0) = m ((c.tc : Thread Cert.CastX.nD Cert.CastX.τ).loc Cert.CastX.main_arg0)) →
    ∃ (v0 : (c : Dev Cert.CastX.nD) → Buf (Elt Bits) ((c.tc : Thread Cert.CastX.nD Cert.CastX.τ).loc Cert.CastX.main_v1)),
      θ_run (Cert.CastX.defs (F := Bits)) (onTc (τ := Cert.CastX.τ) (Cert.CastX.main (F := Bits))) ⟨m, fun _ => 0, g⟩ (fun r => ∀ c : Dev Cert.CastX.nD,
          r.2.mem ((c.tc : Thread Cert.CastX.nD Cert.CastX.τ).loc Cert.CastX.main_v1) = v0 c
          ∧ r.2.mem ((c.tc : Thread Cert.CastX.nD Cert.CastX.τ).loc Cert.CastX.main_arg0) = m ((c.tc : Thread Cert.CastX.nD Cert.CastX.τ).loc Cert.CastX.main_arg0))
      ∧ θ_run (Cert.CastXRef.defs (F := Bits)) (onTc (τ := Cert.CastXRef.τ) (Cert.CastXRef.main (F := Bits))) ⟨m', fun _ => 0, g'⟩ (fun r => ∀ c : Dev Cert.CastXRef.nD,
          r.2.mem ((c.tc : Thread Cert.CastXRef.nD Cert.CastXRef.τ).loc Cert.CastXRef.main_v0) = v0 c
          ∧ r.2.mem ((c.tc : Thread Cert.CastXRef.nD Cert.CastXRef.τ).loc Cert.CastXRef.main_arg0) = m' ((c.tc : Thread Cert.CastXRef.nD Cert.CastXRef.τ).loc Cert.CastXRef.main_arg0))

def preserves_PairSum_PairSumIdeal : Prop :=
  True

def algebraic_PairSumIdeal_PairSumRefIdeal [hPairSumIdeal : Cert.PairSumIdeal.Facts] [hPairSumRefIdeal : Cert.PairSumRefIdeal.Facts] [hPre_device_ids : Cert.Pre_device_ids.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.PairSumRefIdeal.nD Cert.PairSumRefIdeal.τ Cert.PairSumRefIdeal.sig) → Buf (Elt Ideal) ℓ) (g' : Dev Cert.PairSumRefIdeal.nD → PrngReg), Pre_PairSumIdeal m →
    (∀ c : Dev Cert.PairSumIdeal.nD,
      m' ((c.tc : Thread Cert.PairSumRefIdeal.nD Cert.PairSumRefIdeal.τ).loc Cert.PairSumRefIdeal.main_arg0) = m ((c.tc : Thread Cert.PairSumIdeal.nD Cert.PairSumIdeal.τ).loc Cert.PairSumIdeal.main_arg0)
      ∧ m' ((c.tc : Thread Cert.PairSumRefIdeal.nD Cert.PairSumRefIdeal.τ).loc Cert.PairSumRefIdeal.main_arg1) = m ((c.tc : Thread Cert.PairSumIdeal.nD Cert.PairSumIdeal.τ).loc Cert.PairSumIdeal.main_arg1)
      ∧ m' ((c.tc : Thread Cert.PairSumRefIdeal.nD Cert.PairSumRefIdeal.τ).loc Cert.PairSumRefIdeal.main_arg2) = m ((c.tc : Thread Cert.PairSumIdeal.nD Cert.PairSumIdeal.τ).loc Cert.PairSumIdeal.main_arg2)) →
    ∃ (v0 : (c : Dev Cert.PairSumIdeal.nD) → Buf (Elt Ideal) ((c.tc : Thread Cert.PairSumIdeal.nD Cert.PairSumIdeal.τ).loc Cert.PairSumIdeal.main_v0_0)) (v1 : (c : Dev Cert.PairSumIdeal.nD) → Buf (Elt Ideal) ((c.tc : Thread Cert.PairSumIdeal.nD Cert.PairSumIdeal.τ).loc Cert.PairSumIdeal.main_v0_1)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          r.2.mem ((c.tc : Thread Cert.PairSumIdeal.nD Cert.PairSumIdeal.τ).loc Cert.PairSumIdeal.main_v0_0) = v0 c
          ∧ r.2.mem ((c.tc : Thread Cert.PairSumIdeal.nD Cert.PairSumIdeal.τ).loc Cert.PairSumIdeal.main_v0_1) = v1 c
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
          ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1)
          ∧ r.2.mem ((c.tc : Thread Cert.PairSumIdeal.nD Cert.PairSumIdeal.τ).loc Cert.PairSumIdeal.main_arg2) = m ((c.tc : Thread Cert.PairSumIdeal.nD Cert.PairSumIdeal.τ).loc Cert.PairSumIdeal.main_arg2))
      ∧ θ_run (Cert.PairSumRefIdeal.defs (F := Ideal)) (onTc (τ := Cert.PairSumRefIdeal.τ) (Cert.PairSumRefIdeal.main (F := Ideal))) ⟨m', fun _ => 0, g'⟩ (fun r => ∀ c : Dev Cert.PairSumRefIdeal.nD,
          r.2.mem ((c.tc : Thread Cert.PairSumRefIdeal.nD Cert.PairSumRefIdeal.τ).loc Cert.PairSumRefIdeal.main_v31) = v0 c
          ∧ r.2.mem ((c.tc : Thread Cert.PairSumRefIdeal.nD Cert.PairSumRefIdeal.τ).loc Cert.PairSumRefIdeal.main_v32) = v1 c
          ∧ r.2.mem ((c.tc : Thread Cert.PairSumRefIdeal.nD Cert.PairSumRefIdeal.τ).loc Cert.PairSumRefIdeal.main_arg0) = m' ((c.tc : Thread Cert.PairSumRefIdeal.nD Cert.PairSumRefIdeal.τ).loc Cert.PairSumRefIdeal.main_arg0)
          ∧ r.2.mem ((c.tc : Thread Cert.PairSumRefIdeal.nD Cert.PairSumRefIdeal.τ).loc Cert.PairSumRefIdeal.main_arg1) = m' ((c.tc : Thread Cert.PairSumRefIdeal.nD Cert.PairSumRefIdeal.τ).loc Cert.PairSumRefIdeal.main_arg1)
          ∧ r.2.mem ((c.tc : Thread Cert.PairSumRefIdeal.nD Cert.PairSumRefIdeal.τ).loc Cert.PairSumRefIdeal.main_arg2) = m' ((c.tc : Thread Cert.PairSumRefIdeal.nD Cert.PairSumRefIdeal.τ).loc Cert.PairSumRefIdeal.main_arg2))

def bitexact_PairSum_PairSumRef [hPairSum : Cert.PairSum.Facts] [hPairSumRef : Cert.PairSumRef.Facts] [hPre_device_ids : Cert.Pre_device_ids.Facts] : Prop :=
  ∀ (m : (ℓ : Loc Cert.PairSum.nD Cert.PairSum.τ Cert.PairSum.sig) → Buf (Elt Bits) ℓ) (g : Dev Cert.PairSum.nD → PrngReg)
    (m' : (ℓ : Loc Cert.PairSumRef.nD Cert.PairSumRef.τ Cert.PairSumRef.sig) → Buf (Elt Bits) ℓ) (g' : Dev Cert.PairSumRef.nD → PrngReg), Pre_PairSum m →
    (∀ c : Dev Cert.PairSum.nD,
      m' ((c.tc : Thread Cert.PairSumRef.nD Cert.PairSumRef.τ).loc Cert.PairSumRef.main_arg0) = m ((c.tc : Thread Cert.PairSum.nD Cert.PairSum.τ).loc Cert.PairSum.main_arg0)
      ∧ m' ((c.tc : Thread Cert.PairSumRef.nD Cert.PairSumRef.τ).loc Cert.PairSumRef.main_arg1) = m ((c.tc : Thread Cert.PairSum.nD Cert.PairSum.τ).loc Cert.PairSum.main_arg1)
      ∧ m' ((c.tc : Thread Cert.PairSumRef.nD Cert.PairSumRef.τ).loc Cert.PairSumRef.main_arg2) = m ((c.tc : Thread Cert.PairSum.nD Cert.PairSum.τ).loc Cert.PairSum.main_arg2)) →
    ∃ (v0 : (c : Dev Cert.PairSum.nD) → Buf (Elt Bits) ((c.tc : Thread Cert.PairSum.nD Cert.PairSum.τ).loc Cert.PairSum.main_v0_0)) (v1 : (c : Dev Cert.PairSum.nD) → Buf (Elt Bits) ((c.tc : Thread Cert.PairSum.nD Cert.PairSum.τ).loc Cert.PairSum.main_v0_1)),
      θ_run (Cert.PairSum.defs (F := Bits)) (onTc (τ := Cert.PairSum.τ) (Cert.PairSum.main (F := Bits))) ⟨m, fun _ => 0, g⟩ (fun r => ∀ c : Dev Cert.PairSum.nD,
          r.2.mem ((c.tc : Thread Cert.PairSum.nD Cert.PairSum.τ).loc Cert.PairSum.main_v0_0) = v0 c
          ∧ r.2.mem ((c.tc : Thread Cert.PairSum.nD Cert.PairSum.τ).loc Cert.PairSum.main_v0_1) = v1 c
          ∧ r.2.mem ((c.tc : Thread Cert.PairSum.nD Cert.PairSum.τ).loc Cert.PairSum.main_arg0) = m ((c.tc : Thread Cert.PairSum.nD Cert.PairSum.τ).loc Cert.PairSum.main_arg0)
          ∧ r.2.mem ((c.tc : Thread Cert.PairSum.nD Cert.PairSum.τ).loc Cert.PairSum.main_arg1) = m ((c.tc : Thread Cert.PairSum.nD Cert.PairSum.τ).loc Cert.PairSum.main_arg1)
          ∧ r.2.mem ((c.tc : Thread Cert.PairSum.nD Cert.PairSum.τ).loc Cert.PairSum.main_arg2) = m ((c.tc : Thread Cert.PairSum.nD Cert.PairSum.τ).loc Cert.PairSum.main_arg2))
      ∧ θ_run (Cert.PairSumRef.defs (F := Bits)) (onTc (τ := Cert.PairSumRef.τ) (Cert.PairSumRef.main (F := Bits))) ⟨m', fun _ => 0, g'⟩ (fun r => ∀ c : Dev Cert.PairSumRef.nD,
          r.2.mem ((c.tc : Thread Cert.PairSumRef.nD Cert.PairSumRef.τ).loc Cert.PairSumRef.main_v31) = v0 c
          ∧ r.2.mem ((c.tc : Thread Cert.PairSumRef.nD Cert.PairSumRef.τ).loc Cert.PairSumRef.main_v32) = v1 c
          ∧ r.2.mem ((c.tc : Thread Cert.PairSumRef.nD Cert.PairSumRef.τ).loc Cert.PairSumRef.main_arg0) = m' ((c.tc : Thread Cert.PairSumRef.nD Cert.PairSumRef.τ).loc Cert.PairSumRef.main_arg0)
          ∧ r.2.mem ((c.tc : Thread Cert.PairSumRef.nD Cert.PairSumRef.τ).loc Cert.PairSumRef.main_arg1) = m' ((c.tc : Thread Cert.PairSumRef.nD Cert.PairSumRef.τ).loc Cert.PairSumRef.main_arg1)
          ∧ r.2.mem ((c.tc : Thread Cert.PairSumRef.nD Cert.PairSumRef.τ).loc Cert.PairSumRef.main_arg2) = m' ((c.tc : Thread Cert.PairSumRef.nD Cert.PairSumRef.τ).loc Cert.PairSumRef.main_arg2))

def preserves_AdamHead_AdamHeadIdeal : Prop :=
  True

def algebraic_AdamHeadIdeal_AdamHeadRefIdeal [hAdamHeadIdeal : Cert.AdamHeadIdeal.Facts] [hAdamHeadRefIdeal : Cert.AdamHeadRefIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg)
    (m' : (ℓ : Loc Cert.AdamHeadRefIdeal.nD Cert.AdamHeadRefIdeal.τ Cert.AdamHeadRefIdeal.sig) → Buf (Elt Ideal) ℓ) (g' : Dev Cert.AdamHeadRefIdeal.nD → PrngReg), Pre_AdamHeadIdeal m →
    (∀ c : Dev Cert.AdamHeadIdeal.nD,
      m' ((c.tc : Thread Cert.AdamHeadRefIdeal.nD Cert.AdamHeadRefIdeal.τ).loc Cert.AdamHeadRefIdeal.main_arg0) = m ((c.tc : Thread Cert.AdamHeadIdeal.nD Cert.AdamHeadIdeal.τ).loc Cert.AdamHeadIdeal.main_arg0)
      ∧ m' ((c.tc : Thread Cert.AdamHeadRefIdeal.nD Cert.AdamHeadRefIdeal.τ).loc Cert.AdamHeadRefIdeal.main_arg1) = m ((c.tc : Thread Cert.AdamHeadIdeal.nD Cert.AdamHeadIdeal.τ).loc Cert.AdamHeadIdeal.main_arg1)
      ∧ m' ((c.tc : Thread Cert.AdamHeadRefIdeal.nD Cert.AdamHeadRefIdeal.τ).loc Cert.AdamHeadRefIdeal.main_arg2) = m ((c.tc : Thread Cert.AdamHeadIdeal.nD Cert.AdamHeadIdeal.τ).loc Cert.AdamHeadIdeal.main_arg2)
      ∧ m' ((c.tc : Thread Cert.AdamHeadRefIdeal.nD Cert.AdamHeadRefIdeal.τ).loc Cert.AdamHeadRefIdeal.main_arg3) = m ((c.tc : Thread Cert.AdamHeadIdeal.nD Cert.AdamHeadIdeal.τ).loc Cert.AdamHeadIdeal.main_arg3)) →
    ∃ (v0 : (c : Dev Cert.AdamHeadIdeal.nD) → Buf (Elt Ideal) ((c.tc : Thread Cert.AdamHeadIdeal.nD Cert.AdamHeadIdeal.τ).loc Cert.AdamHeadIdeal.main_v0_0)) (v1 : (c : Dev Cert.AdamHeadIdeal.nD) → Buf (Elt Ideal) ((c.tc : Thread Cert.AdamHeadIdeal.nD Cert.AdamHeadIdeal.τ).loc Cert.AdamHeadIdeal.main_v0_1)) (v2 : (c : Dev Cert.AdamHeadIdeal.nD) → Buf (Elt Ideal) ((c.tc : Thread Cert.AdamHeadIdeal.nD Cert.AdamHeadIdeal.τ).loc Cert.AdamHeadIdeal.main_v0_2)) (v3 : (c : Dev Cert.AdamHeadIdeal.nD) → Buf (Elt Ideal) ((c.tc : Thread Cert.AdamHeadIdeal.nD Cert.AdamHeadIdeal.τ).loc Cert.AdamHeadIdeal.main_v0_3)),
      θ_run (Cert.AdamHeadIdeal.defs (F := Ideal)) (onTc (τ := Cert.AdamHeadIdeal.τ) (Cert.AdamHeadIdeal.main (F := Ideal))) ⟨m, fun _ => 0, g⟩ (fun r => ∀ c : Dev Cert.AdamHeadIdeal.nD,
          r.2.mem ((c.tc : Thread Cert.AdamHeadIdeal.nD Cert.AdamHeadIdeal.τ).loc Cert.AdamHeadIdeal.main_v0_0) = v0 c
          ∧ r.2.mem ((c.tc : Thread Cert.AdamHeadIdeal.nD Cert.AdamHeadIdeal.τ).loc Cert.AdamHeadIdeal.main_v0_1) = v1 c
          ∧ r.2.mem ((c.tc : Thread Cert.AdamHeadIdeal.nD Cert.AdamHeadIdeal.τ).loc Cert.AdamHeadIdeal.main_v0_2) = v2 c
          ∧ r.2.mem ((c.tc : Thread Cert.AdamHeadIdeal.nD Cert.AdamHeadIdeal.τ).loc Cert.AdamHeadIdeal.main_v0_3) = v3 c
          ∧ r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
          ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
          ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
          ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ θ_run (Cert.AdamHeadRefIdeal.defs (F := Ideal)) (onTc (τ := Cert.AdamHeadRefIdeal.τ) (Cert.AdamHeadRefIdeal.main (F := Ideal))) ⟨m', fun _ => 0, g'⟩ (fun r => ∀ c : Dev Cert.AdamHeadRefIdeal.nD,
          r.2.mem ((c.tc : Thread Cert.AdamHeadRefIdeal.nD Cert.AdamHeadRefIdeal.τ).loc Cert.AdamHeadRefIdeal.main_v0) = v0 c
          ∧ r.2.mem ((c.tc : Thread Cert.AdamHeadRefIdeal.nD Cert.AdamHeadRefIdeal.τ).loc Cert.AdamHeadRefIdeal.main_v24) = v1 c
          ∧ r.2.mem ((c.tc : Thread Cert.AdamHeadRefIdeal.nD Cert.AdamHeadRefIdeal.τ).loc Cert.AdamHeadRefIdeal.main_v5) = v2 c
          ∧ r.2.mem ((c.tc : Thread Cert.AdamHeadRefIdeal.nD Cert.AdamHeadRefIdeal.τ).loc Cert.AdamHeadRefIdeal.main_v11) = v3 c
          ∧ r.2.mem ((c.tc : Thread Cert.AdamHeadRefIdeal.nD Cert.AdamHeadRefIdeal.τ).loc Cert.AdamHeadRefIdeal.main_arg0) = m' ((c.tc : Thread Cert.AdamHeadRefIdeal.nD Cert.AdamHeadRefIdeal.τ).loc Cert.AdamHeadRefIdeal.main_arg0)
          ∧ r.2.mem ((c.tc : Thread Cert.AdamHeadRefIdeal.nD Cert.AdamHeadRefIdeal.τ).loc Cert.AdamHeadRefIdeal.main_arg1) = m' ((c.tc : Thread Cert.AdamHeadRefIdeal.nD Cert.AdamHeadRefIdeal.τ).loc Cert.AdamHeadRefIdeal.main_arg1)
          ∧ r.2.mem ((c.tc : Thread Cert.AdamHeadRefIdeal.nD Cert.AdamHeadRefIdeal.τ).loc Cert.AdamHeadRefIdeal.main_arg2) = m' ((c.tc : Thread Cert.AdamHeadRefIdeal.nD Cert.AdamHeadRefIdeal.τ).loc Cert.AdamHeadRefIdeal.main_arg2)
          ∧ r.2.mem ((c.tc : Thread Cert.AdamHeadRefIdeal.nD Cert.AdamHeadRefIdeal.τ).loc Cert.AdamHeadRefIdeal.main_arg3) = m' ((c.tc : Thread Cert.AdamHeadRefIdeal.nD Cert.AdamHeadRefIdeal.τ).loc Cert.AdamHeadRefIdeal.main_arg3))

def preserves_AdamRep_AdamRepIdeal : Prop :=
  True

def algebraic_AdamRepIdeal_AdamRepRefIdeal [hAdamRepIdeal : Cert.AdamRepIdeal.Facts] [hAdamRepRefIdeal : Cert.AdamRepRefIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg)
    (m' : (ℓ : Loc Cert.AdamRepRefIdeal.nD Cert.AdamRepRefIdeal.τ Cert.AdamRepRefIdeal.sig) → Buf (Elt Ideal) ℓ) (g' : Dev Cert.AdamRepRefIdeal.nD → PrngReg), Pre_AdamRepIdeal m →
    (∀ c : Dev Cert.AdamRepIdeal.nD,
      m' ((c.tc : Thread Cert.AdamRepRefIdeal.nD Cert.AdamRepRefIdeal.τ).loc Cert.AdamRepRefIdeal.main_arg0) = m ((c.tc : Thread Cert.AdamRepIdeal.nD Cert.AdamRepIdeal.τ).loc Cert.AdamRepIdeal.main_arg0)
      ∧ m' ((c.tc : Thread Cert.AdamRepRefIdeal.nD Cert.AdamRepRefIdeal.τ).loc Cert.AdamRepRefIdeal.main_arg1) = m ((c.tc : Thread Cert.AdamRepIdeal.nD Cert.AdamRepIdeal.τ).loc Cert.AdamRepIdeal.main_arg1)
      ∧ m' ((c.tc : Thread Cert.AdamRepRefIdeal.nD Cert.AdamRepRefIdeal.τ).loc Cert.AdamRepRefIdeal.main_arg2) = m ((c.tc : Thread Cert.AdamRepIdeal.nD Cert.AdamRepIdeal.τ).loc Cert.AdamRepIdeal.main_arg2)
      ∧ m' ((c.tc : Thread Cert.AdamRepRefIdeal.nD Cert.AdamRepRefIdeal.τ).loc Cert.AdamRepRefIdeal.main_arg3) = m ((c.tc : Thread Cert.AdamRepIdeal.nD Cert.AdamRepIdeal.τ).loc Cert.AdamRepIdeal.main_arg3)) →
    ∃ (v0 : (c : Dev Cert.AdamRepIdeal.nD) → Buf (Elt Ideal) ((c.tc : Thread Cert.AdamRepIdeal.nD Cert.AdamRepIdeal.τ).loc Cert.AdamRepIdeal.main_v0_0)) (v1 : (c : Dev Cert.AdamRepIdeal.nD) → Buf (Elt Ideal) ((c.tc : Thread Cert.AdamRepIdeal.nD Cert.AdamRepIdeal.τ).loc Cert.AdamRepIdeal.main_v0_1)) (v2 : (c : Dev Cert.AdamRepIdeal.nD) → Buf (Elt Ideal) ((c.tc : Thread Cert.AdamRepIdeal.nD Cert.AdamRepIdeal.τ).loc Cert.AdamRepIdeal.main_v0_2)) (v3 : (c : Dev Cert.AdamRepIdeal.nD) → Buf (Elt Ideal) ((c.tc : Thread Cert.AdamRepIdeal.nD Cert.AdamRepIdeal.τ).loc Cert.AdamRepIdeal.main_v0_3)),
      θ_run (Cert.AdamRepIdeal.defs (F := Ideal)) (onTc (τ := Cert.AdamRepIdeal.τ) (Cert.AdamRepIdeal.main (F := Ideal))) ⟨m, fun _ => 0, g⟩ (fun r => ∀ c : Dev Cert.AdamRepIdeal.nD,
          r.2.mem ((c.tc : Thread Cert.AdamRepIdeal.nD Cert.AdamRepIdeal.τ).loc Cert.AdamRepIdeal.main_v0_0) = v0 c
          ∧ r.2.mem ((c.tc : Thread Cert.AdamRepIdeal.nD Cert.AdamRepIdeal.τ).loc Cert.AdamRepIdeal.main_v0_1) = v1 c
          ∧ r.2.mem ((c.tc : Thread Cert.AdamRepIdeal.nD Cert.AdamRepIdeal.τ).loc Cert.AdamRepIdeal.main_v0_2) = v2 c
          ∧ r.2.mem ((c.tc : Thread Cert.AdamRepIdeal.nD Cert.AdamRepIdeal.τ).loc Cert.AdamRepIdeal.main_v0_3) = v3 c
          ∧ r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
          ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
          ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
          ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3))
      ∧ θ_run (Cert.AdamRepRefIdeal.defs (F := Ideal)) (onTc (τ := Cert.AdamRepRefIdeal.τ) (Cert.AdamRepRefIdeal.main (F := Ideal))) ⟨m', fun _ => 0, g'⟩ (fun r => ∀ c : Dev Cert.AdamRepRefIdeal.nD,
          r.2.mem ((c.tc : Thread Cert.AdamRepRefIdeal.nD Cert.AdamRepRefIdeal.τ).loc Cert.AdamRepRefIdeal.main_v1) = v0 c
          ∧ r.2.mem ((c.tc : Thread Cert.AdamRepRefIdeal.nD Cert.AdamRepRefIdeal.τ).loc Cert.AdamRepRefIdeal.main_v25) = v1 c
          ∧ r.2.mem ((c.tc : Thread Cert.AdamRepRefIdeal.nD Cert.AdamRepRefIdeal.τ).loc Cert.AdamRepRefIdeal.main_v6) = v2 c
          ∧ r.2.mem ((c.tc : Thread Cert.AdamRepRefIdeal.nD Cert.AdamRepRefIdeal.τ).loc Cert.AdamRepRefIdeal.main_v12) = v3 c
          ∧ r.2.mem ((c.tc : Thread Cert.AdamRepRefIdeal.nD Cert.AdamRepRefIdeal.τ).loc Cert.AdamRepRefIdeal.main_arg0) = m' ((c.tc : Thread Cert.AdamRepRefIdeal.nD Cert.AdamRepRefIdeal.τ).loc Cert.AdamRepRefIdeal.main_arg0)
          ∧ r.2.mem ((c.tc : Thread Cert.AdamRepRefIdeal.nD Cert.AdamRepRefIdeal.τ).loc Cert.AdamRepRefIdeal.main_arg1) = m' ((c.tc : Thread Cert.AdamRepRefIdeal.nD Cert.AdamRepRefIdeal.τ).loc Cert.AdamRepRefIdeal.main_arg1)
          ∧ r.2.mem ((c.tc : Thread Cert.AdamRepRefIdeal.nD Cert.AdamRepRefIdeal.τ).loc Cert.AdamRepRefIdeal.main_arg2) = m' ((c.tc : Thread Cert.AdamRepRefIdeal.nD Cert.AdamRepRefIdeal.τ).loc Cert.AdamRepRefIdeal.main_arg2)
          ∧ r.2.mem ((c.tc : Thread Cert.AdamRepRefIdeal.nD Cert.AdamRepRefIdeal.τ).loc Cert.AdamRepRefIdeal.main_arg3) = m' ((c.tc : Thread Cert.AdamRepRefIdeal.nD Cert.AdamRepRefIdeal.τ).loc Cert.AdamRepRefIdeal.main_arg3))

def Claim : Prop :=
  ∃ (hLnLoss : Cert.LnLoss.Facts) (hLnLossIdeal : Cert.LnLossIdeal.Facts) (hLnLossRefIdeal : Cert.LnLossRefIdeal.Facts) (hPoolBwd : Cert.PoolBwd.Facts) (hPoolBwdIdeal : Cert.PoolBwdIdeal.Facts) (hPoolBwdRefIdeal : Cert.PoolBwdRefIdeal.Facts) (hGate : Cert.Gate.Facts) (hGateIdeal : Cert.GateIdeal.Facts) (hGateRefIdeal : Cert.GateRefIdeal.Facts) (hMixBwd : Cert.MixBwd.Facts) (hMixBwdIdeal : Cert.MixBwdIdeal.Facts) (hMixBwdRefIdeal : Cert.MixBwdRefIdeal.Facts) (hPoolFwd : Cert.PoolFwd.Facts) (hPoolFwdIdeal : Cert.PoolFwdIdeal.Facts) (hPoolFwdRefIdeal : Cert.PoolFwdRefIdeal.Facts) (hLruFwd : Cert.LruFwd.Facts) (hLruFwdIdeal : Cert.LruFwdIdeal.Facts) (hLruFwdRefIdeal : Cert.LruFwdRefIdeal.Facts) (hMixOut : Cert.MixOut.Facts) (hMixOutIdeal : Cert.MixOutIdeal.Facts) (hMixOutRefIdeal : Cert.MixOutRefIdeal.Facts) (hMlpOut : Cert.MlpOut.Facts) (hMlpOutIdeal : Cert.MlpOutIdeal.Facts) (hMlpOutRefIdeal : Cert.MlpOutRefIdeal.Facts) (hAdam : Cert.Adam.Facts) (hAdamIdeal : Cert.AdamIdeal.Facts) (hAdamRefIdeal : Cert.AdamRefIdeal.Facts) (hGradX : Cert.GradX.Facts) (hGradXIdeal : Cert.GradXIdeal.Facts) (hGradXRefIdeal : Cert.GradXRefIdeal.Facts) (hLossSum : Cert.LossSum.Facts) (hLossSumIdeal : Cert.LossSumIdeal.Facts) (hLossSumRefIdeal : Cert.LossSumRefIdeal.Facts) (hCastX : Cert.CastX.Facts) (hCastXIdeal : Cert.CastXIdeal.Facts) (hCastXRefIdeal : Cert.CastXRefIdeal.Facts) (hCastXRef : Cert.CastXRef.Facts) (hPairSum : Cert.PairSum.Facts) (hPairSumIdeal : Cert.PairSumIdeal.Facts) (hPairSumRefIdeal : Cert.PairSumRefIdeal.Facts) (hPairSumRef : Cert.PairSumRef.Facts) (hAdamHead : Cert.AdamHead.Facts) (hAdamHeadIdeal : Cert.AdamHeadIdeal.Facts) (hAdamHeadRefIdeal : Cert.AdamHeadRefIdeal.Facts) (hAdamRep : Cert.AdamRep.Facts) (hAdamRepIdeal : Cert.AdamRepIdeal.Facts) (hAdamRepRefIdeal : Cert.AdamRepRefIdeal.Facts) (hPre_ln_loss_finite : Cert.Pre_ln_loss_finite.Facts) (hPre_mix_norm_finite : Cert.Pre_mix_norm_finite.Facts) (hPre_device_ids : Cert.Pre_device_ids.Facts),
    quiescent_LnLoss (hLnLoss := hLnLoss)
    ∧ quiescent_LnLossIdeal (hLnLossIdeal := hLnLossIdeal)
    ∧ quiescent_LnLossIdeal_pre_ln_loss_finite (hLnLossIdeal := hLnLossIdeal) (hPre_ln_loss_finite := hPre_ln_loss_finite)
    ∧ quiescent_LnLossRefIdeal (hLnLossRefIdeal := hLnLossRefIdeal)
    ∧ quiescent_LnLossRefIdeal_pre_ln_loss_finite (hLnLossRefIdeal := hLnLossRefIdeal) (hPre_ln_loss_finite := hPre_ln_loss_finite)
    ∧ quiescent_PoolBwd (hPoolBwd := hPoolBwd)
    ∧ quiescent_PoolBwdIdeal (hPoolBwdIdeal := hPoolBwdIdeal)
    ∧ quiescent_PoolBwdRefIdeal (hPoolBwdRefIdeal := hPoolBwdRefIdeal)
    ∧ quiescent_Gate (hGate := hGate)
    ∧ quiescent_GateIdeal (hGateIdeal := hGateIdeal)
    ∧ quiescent_GateRefIdeal (hGateRefIdeal := hGateRefIdeal)
    ∧ quiescent_MixBwd (hMixBwd := hMixBwd)
    ∧ quiescent_MixBwdIdeal (hMixBwdIdeal := hMixBwdIdeal)
    ∧ quiescent_MixBwdIdeal_pre_mix_norm_finite (hMixBwdIdeal := hMixBwdIdeal) (hPre_mix_norm_finite := hPre_mix_norm_finite)
    ∧ quiescent_MixBwdRefIdeal (hMixBwdRefIdeal := hMixBwdRefIdeal)
    ∧ quiescent_MixBwdRefIdeal_pre_mix_norm_finite (hMixBwdRefIdeal := hMixBwdRefIdeal) (hPre_mix_norm_finite := hPre_mix_norm_finite)
    ∧ quiescent_PoolFwd (hPoolFwd := hPoolFwd)
    ∧ quiescent_PoolFwdIdeal (hPoolFwdIdeal := hPoolFwdIdeal)
    ∧ quiescent_PoolFwdRefIdeal (hPoolFwdRefIdeal := hPoolFwdRefIdeal)
    ∧ quiescent_LruFwd (hLruFwd := hLruFwd)
    ∧ quiescent_LruFwdIdeal (hLruFwdIdeal := hLruFwdIdeal)
    ∧ quiescent_LruFwdRefIdeal (hLruFwdRefIdeal := hLruFwdRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MlpOut (hMlpOut := hMlpOut)
    ∧ quiescent_MlpOutIdeal (hMlpOutIdeal := hMlpOutIdeal)
    ∧ quiescent_MlpOutRefIdeal (hMlpOutRefIdeal := hMlpOutRefIdeal)
    ∧ quiescent_Adam (hAdam := hAdam)
    ∧ quiescent_AdamIdeal (hAdamIdeal := hAdamIdeal)
    ∧ quiescent_AdamRefIdeal (hAdamRefIdeal := hAdamRefIdeal)
    ∧ quiescent_GradX (hGradX := hGradX)
    ∧ quiescent_GradXIdeal (hGradXIdeal := hGradXIdeal)
    ∧ quiescent_GradXRefIdeal (hGradXRefIdeal := hGradXRefIdeal)
    ∧ quiescent_LossSum (hLossSum := hLossSum)
    ∧ quiescent_LossSumIdeal (hLossSumIdeal := hLossSumIdeal)
    ∧ quiescent_LossSumRefIdeal (hLossSumRefIdeal := hLossSumRefIdeal)
    ∧ quiescent_CastX (hCastX := hCastX)
    ∧ quiescent_CastXIdeal (hCastXIdeal := hCastXIdeal)
    ∧ quiescent_CastXRefIdeal (hCastXRefIdeal := hCastXRefIdeal)
    ∧ quiescent_CastXRef (hCastXRef := hCastXRef)
    ∧ quiescent_PairSum (hPairSum := hPairSum) (hPre_device_ids := hPre_device_ids)
    ∧ quiescent_PairSumIdeal (hPairSumIdeal := hPairSumIdeal) (hPre_device_ids := hPre_device_ids)
    ∧ quiescent_PairSumRefIdeal (hPairSumRefIdeal := hPairSumRefIdeal)
    ∧ quiescent_PairSumRefIdeal_pre_device_ids (hPairSumRefIdeal := hPairSumRefIdeal) (hPre_device_ids := hPre_device_ids)
    ∧ quiescent_PairSumRef (hPairSumRef := hPairSumRef)
    ∧ quiescent_PairSumRef_pre_device_ids (hPairSumRef := hPairSumRef) (hPre_device_ids := hPre_device_ids)
    ∧ quiescent_AdamHead (hAdamHead := hAdamHead)
    ∧ quiescent_AdamHeadIdeal (hAdamHeadIdeal := hAdamHeadIdeal)
    ∧ quiescent_AdamHeadRefIdeal (hAdamHeadRefIdeal := hAdamHeadRefIdeal)
    ∧ quiescent_AdamRep (hAdamRep := hAdamRep)
    ∧ quiescent_AdamRepIdeal (hAdamRepIdeal := hAdamRepIdeal)
    ∧ quiescent_AdamRepRefIdeal (hAdamRepRefIdeal := hAdamRepRefIdeal)
    ∧ preserves_LnLoss_LnLossIdeal
    ∧ algebraic_LnLossIdeal_LnLossRefIdeal_pre_ln_loss_finite (hLnLossIdeal := hLnLossIdeal) (hLnLossRefIdeal := hLnLossRefIdeal) (hPre_ln_loss_finite := hPre_ln_loss_finite)
    ∧ preserves_PoolBwd_PoolBwdIdeal
    ∧ algebraic_PoolBwdIdeal_PoolBwdRefIdeal (hPoolBwdIdeal := hPoolBwdIdeal) (hPoolBwdRefIdeal := hPoolBwdRefIdeal)
    ∧ preserves_Gate_GateIdeal
    ∧ algebraic_GateIdeal_GateRefIdeal (hGateIdeal := hGateIdeal) (hGateRefIdeal := hGateRefIdeal)
    ∧ preserves_MixBwd_MixBwdIdeal
    ∧ algebraic_MixBwdIdeal_MixBwdRefIdeal_pre_mix_norm_finite (hMixBwdIdeal := hMixBwdIdeal) (hMixBwdRefIdeal := hMixBwdRefIdeal) (hPre_mix_norm_finite := hPre_mix_norm_finite)
    ∧ preserves_PoolFwd_PoolFwdIdeal
    ∧ algebraic_PoolFwdIdeal_PoolFwdRefIdeal (hPoolFwdIdeal := hPoolFwdIdeal) (hPoolFwdRefIdeal := hPoolFwdRefIdeal)
    ∧ preserves_LruFwd_LruFwdIdeal
    ∧ algebraic_LruFwdIdeal_LruFwdRefIdeal (hLruFwdIdeal := hLruFwdIdeal) (hLruFwdRefIdeal := hLruFwdRefIdeal)
    ∧ preserves_MixOut_MixOutIdeal
    ∧ algebraic_MixOutIdeal_MixOutRefIdeal (hMixOutIdeal := hMixOutIdeal) (hMixOutRefIdeal := hMixOutRefIdeal)
    ∧ preserves_MlpOut_MlpOutIdeal
    ∧ algebraic_MlpOutIdeal_MlpOutRefIdeal (hMlpOutIdeal := hMlpOutIdeal) (hMlpOutRefIdeal := hMlpOutRefIdeal)
    ∧ preserves_Adam_AdamIdeal
    ∧ algebraic_AdamIdeal_AdamRefIdeal (hAdamIdeal := hAdamIdeal) (hAdamRefIdeal := hAdamRefIdeal)
    ∧ preserves_GradX_GradXIdeal
    ∧ algebraic_GradXIdeal_GradXRefIdeal (hGradXIdeal := hGradXIdeal) (hGradXRefIdeal := hGradXRefIdeal)
    ∧ preserves_LossSum_LossSumIdeal
    ∧ algebraic_LossSumIdeal_LossSumRefIdeal (hLossSumIdeal := hLossSumIdeal) (hLossSumRefIdeal := hLossSumRefIdeal)
    ∧ preserves_CastX_CastXIdeal
    ∧ algebraic_CastXIdeal_CastXRefIdeal (hCastXIdeal := hCastXIdeal) (hCastXRefIdeal := hCastXRefIdeal)
    ∧ bitexact_CastX_CastXRef (hCastX := hCastX) (hCastXRef := hCastXRef)
    ∧ preserves_PairSum_PairSumIdeal
    ∧ algebraic_PairSumIdeal_PairSumRefIdeal (hPairSumIdeal := hPairSumIdeal) (hPairSumRefIdeal := hPairSumRefIdeal) (hPre_device_ids := hPre_device_ids)
    ∧ bitexact_PairSum_PairSumRef (hPairSum := hPairSum) (hPairSumRef := hPairSumRef) (hPre_device_ids := hPre_device_ids)
    ∧ preserves_AdamHead_AdamHeadIdeal
    ∧ algebraic_AdamHeadIdeal_AdamHeadRefIdeal (hAdamHeadIdeal := hAdamHeadIdeal) (hAdamHeadRefIdeal := hAdamHeadRefIdeal)
    ∧ preserves_AdamRep_AdamRepIdeal
    ∧ algebraic_AdamRepIdeal_AdamRepRefIdeal (hAdamRepIdeal := hAdamRepIdeal) (hAdamRepRefIdeal := hAdamRepRefIdeal)
-- ==== Pre_device_ids.lean ====
abbrev S4x2x2048x1024 : Shape := ⟨4, ![4, 2, 2048, 1024]⟩
abbrev S4x1x2048x1024 : Shape := ⟨4, ![4, 1, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S4x2x2048x1024 .bf16) (main_arg1 : FVec F S4x1x2048x1024 .bf16) (main_arg2 : IVec S2 32) : IVec S_ 1 :=
  let main_v0 : IVec S1 32 := (extractStridedSlice S1 ![0] · slices_S2_S1_0) main_arg2
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg2
  let main_v4 : IVec S_ 32 := shapeCast S_ main_v3 shapeCasts_S1_S_
  let main_c_0 : IVec S_ 32 := constantI S_ 32 2#32
  let main_v5 : IVec S_ 1 := cmpi .slt main_v4 main_c_0
  let main_v6 : IVec S_ 1 := andi main_v2 main_v5
  let main_v7 : IVec S1 32 := (extractStridedSlice S1 ![1] · slices_S2_S1_1) main_arg2
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg2
  let main_v12 : IVec S_ 32 := shapeCast S_ main_v11 shapeCasts_S1_S_
  let main_c_2 : IVec S_ 32 := constantI S_ 32 4#32
  let main_v13 : IVec S_ 1 := cmpi .slt main_v12 main_c_2
  let main_v14 : IVec S_ 1 := andi main_v10 main_v13
  main_v14
-- ==== Pre_ln_loss_finite.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S4096x2048 .f32) (main_arg2 : FVec F S4096x2048 .f32) (main_arg3 : FVec F S1x2048 .f32) (main_arg4 : FVec F S1x2048 .f32) : IVec S4096x2048 1 × IVec S4096x2048 1 × IVec S4096x2048 1 × IVec S1x2048 1 × IVec S1x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S1x2048 .f32 := Host.absf main_arg4
  let main_cst_3 : FVec F S_ .f32 := constant S_ .f32 0x7F800000#32
  let main_v13 : FVec F S1x2048 .f32 := broadcastInDim S1x2048 ![] bcast_S_S1x2048 main_cst_3
  let main_v14 : IVec S1x2048 1 := cmpf .olt main_v12 main_v13
  (main_v2, main_v5, main_v8, main_v11, main_v14)
-- ==== Pre_mix_norm_finite.lean ====
abbrev S4096x2048 : Shape := ⟨2, ![4096, 2048]⟩
abbrev S1x2048 : Shape := ⟨2, ![1, 2048]⟩
abbrev S4096x8192 : Shape := ⟨2, ![4096, 8192]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S4096x2048 .f32) (main_arg2 : FVec F S1x2048 .f32) (main_arg3 : FVec F S1x2048 .f32) (main_arg4 : FVec F S4096x8192 .f32) (main_arg5 : FVec F S4096x2048 .f32) (main_arg6 : FVec F S4096x2048 .f32) : IVec S4096x2048 1 × IVec S4096x2048 1 × IVec S1x2048 1 × IVec S4096x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S4096x2048 .f32 := Host.absf main_arg5
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_v12 : FVec F S4096x2048 .f32 := Host.absf main_arg6
  let main_cst_3 : FVec F S_ .f32 := constant S_ .f32 0x7F800000#32
  let main_v13 : FVec F S4096x2048 .f32 := broadcastInDim S4096x2048 ![] bcast_S_S4096x2048 main_cst_3
  let main_v14 : IVec S4096x2048 1 := cmpf .olt main_v12 main_v13
  (main_v2, main_v5, main_v8, main_v11, main_v14)
-- ==== LnLoss.lean ====
abbrev S4096x2048 : Shape := ⟨2, ![4096, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .hbm, ⟨8, _⟩ => ⟨S1x2048, .f32⟩
  | .hbm, ⟨9, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x2048, .f32⟩
  | .local _ .vmem, ⟨14, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v66 : BitVec 1 := Scalar.cmpi .eq arg0 c0_i32
  let v67 : BitVec 32 := Scalar.extui v66
  let c0_i32_29 : BitVec 32 := 0#32
  let v68 : BitVec 1 := Scalar.cmpi .ne v67 c0_i32_29
  v68

def k0_cond2 (i : grid0.Coords) : BitVec 1 :=
  let arg0 : BitVec 32 := BitVec.ofNat 32 (i 0).val
  let c0_i32 : BitVec 32 := 0#32
  let v66 : BitVec 1 := Scalar.cmpi .eq arg0 c0_i32
  let v_true : BitVec 1 := 1#1
  let v69 : BitVec 1 := Scalar.xori v66 v_true
  let v70 : BitVec 32 := Scalar.extui v69
  let c0_i32_30 : BitVec 32 := 0#32
  let v71 : BitVec 1 := Scalar.cmpi .ne v70 c0_i32_30
  v71

def k0_cond3 (i : grid0.Coords) : BitVec 1 :=
  let arg0 : BitVec 32 := BitVec.ofNat 32 (i 0).val
  let c0_i32_31 : BitVec 32 := 0#32
  let v72 : BitVec 1 := Scalar.cmpi .eq arg0 c0_i32_31
  let v73 : BitVec 32 := Scalar.extui v72
  let c0_i32_32 : BitVec 32 := 0#32
  let v74 : BitVec 1 := Scalar.cmpi .ne v73 c0_i32_32
  v74

def k0_cond4 (i : grid0.Coords) : BitVec 1 :=
  let arg0 : BitVec 32 := BitVec.ofNat 32 (i 0).val
  let c0_i32_31 : BitVec 32 := 0#32
  let v72 : BitVec 1 := Scalar.cmpi .eq arg0 c0_i32_31
  let true_33 : BitVec 1 := 1#1
  let v75 : BitVec 1 := Scalar.xori v72 true_33
  let v76 : BitVec 32 := Scalar.extui v75
  let c0_i32_34 : BitVec 32 := 0#32
  let v77 : BitVec 1 := Scalar.cmpi .ne v76 c0_i32_34
  v77

def k0_cond5 (i : grid0.Coords) : BitVec 1 :=
  let arg0 : BitVec 32 := BitVec.ofNat 32 (i 0).val
  let c0_i32_35 : BitVec 32 := 0#32
  let v78 : BitVec 1 := Scalar.cmpi .eq arg0 c0_i32_35
  let v81 : BitVec 32 := Scalar.extui v78
  let c0_i32_36 : BitVec 32 := 0#32
  let v82 : BitVec 1 := Scalar.cmpi .ne v81 c0_i32_36
  v82

def k0_cond6 (i : grid0.Coords) : BitVec 1 :=
  let arg0 : BitVec 32 := BitVec.ofNat 32 (i 0).val
  let c0_i32_35 : BitVec 32 := 0#32
  let v78 : BitVec 1 := Scalar.cmpi .eq arg0 c0_i32_35
  let true_37 : BitVec 1 := 1#1
  let v83 : BitVec 1 := Scalar.xori v78 true_37
  let v84 : BitVec 32 := Scalar.extui v83
  let c0_i32_38 : BitVec 32 := 0#32
  let v85 : BitVec 1 := Scalar.cmpi .ne v84 c0_i32_38
  v85

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LnLossRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S8x128 : Shape := ⟨2, ![8, 128]⟩

abbrev nBuf : Space → Nat
  | .hbm => 112
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S_, .f32⟩
  | .hbm, ⟨68, _⟩ => ⟨S2048, .f32⟩
  | .hbm, ⟨69, _⟩ => ⟨S1x2048, .f32⟩
  | .hbm, ⟨70, _⟩ => ⟨S4096x2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x2048, .f32⟩
  | .hbm, ⟨81, _⟩ => ⟨S4096x2048, .f32⟩
  | .hbm, ⟨82, _⟩ => ⟨S4096x1, .f32⟩
  | .hbm, ⟨83, _⟩ => ⟨S4096x2048, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x2048, .f32⟩
  | .hbm, ⟨93, _⟩ => ⟨S4096x2048, .f32⟩
  | .hbm, ⟨94, _⟩ => ⟨S4096x2048, .f32⟩
  | .hbm, ⟨95, _⟩ => ⟨S_, .f32⟩
  | .hbm, ⟨96, _⟩ => ⟨S4096, .f32⟩
  | .hbm, ⟨97, _⟩ => ⟨S4096x1, .f32⟩
  | .hbm, ⟨98, _⟩ => ⟨S4096x2048, .f32⟩
  | .hbm, ⟨99, _⟩ => ⟨S4096x1, .f32⟩
  | .hbm, ⟨100, _⟩ => ⟨S_, .f32⟩
  | .hbm, ⟨101, _⟩ => ⟨S4096x1, .f32⟩
  | .hbm, ⟨102, _⟩ => ⟨S4096x1, .f32⟩
  | .hbm, ⟨103, _⟩ => ⟨S_, .f32⟩
  | .hbm, ⟨104, _⟩ => ⟨S4096, .f32⟩
  | .hbm, ⟨105, _⟩ => ⟨S4096x2048, .f32⟩
  | .hbm, ⟨106, _⟩ => ⟨S4096x2048, .f32⟩
  | .hbm, ⟨107, _⟩ => ⟨S_, .f32⟩
  | .hbm, ⟨108, _⟩ => ⟨S4096x2048, .f32⟩
  | .hbm, ⟨109, _⟩ => ⟨S4096x2048, .f32⟩
  | .hbm, ⟨110, _⟩ => ⟨S4096x2048, .bf16⟩
  | .hbm, ⟨111, _⟩ => ⟨S8x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_cst_12 : Ref sig .tc := ⟨.hbm, 57, rfl⟩
abbrev main_cst_13 : Ref sig .tc := ⟨.hbm, 58, rfl⟩
abbrev main_v39 : Ref sig .tc := ⟨.hbm, 59, rfl⟩
abbrev main_v40 : Ref sig .tc := ⟨.hbm, 60, rfl⟩
abbrev main_cst_14 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_15 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_16 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_17 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_18 : Ref sig .tc := ⟨.hbm, 84, rfl⟩
abbrev main_v60 : Ref sig .tc := ⟨.hbm, 85, rfl⟩
abbrev main_v61 : Ref sig .tc := ⟨.hbm, 86, rfl⟩
abbrev main_cst_19 : Ref sig .tc := ⟨.hbm, 87, rfl⟩
abbrev main_v62 : Ref sig .tc := ⟨.hbm, 88, rfl⟩
abbrev main_v63 : Ref sig .tc := ⟨.hbm, 89, rfl⟩
abbrev main_cst_20 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_21 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_22 : Ref sig .tc := ⟨.hbm, 100, rfl⟩
abbrev main_v72 : Ref sig .tc := ⟨.hbm, 101, rfl⟩
abbrev main_v73 : Ref sig .tc := ⟨.hbm, 102, rfl⟩
abbrev main_cst_23 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_24 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]
-- ==== PoolBwd.lean ====
abbrev S4096x1024 : Shape := ⟨2, ![4096, 1024]⟩
abbrev S4x256x256 : Shape := ⟨3, ![4, 256, 256]⟩
abbrev S1x1024 : Shape := ⟨2, ![1, 1024]⟩
abbrev S4096x2048 : Shape := ⟨2, ![4096, 2048]⟩
abbrev S4096x4x256 : Shape := ⟨3, ![4096, 4, 256]⟩
abbrev S4096x1x256 : Shape := ⟨3, ![4096, 1, 256]⟩
abbrev S4096x256 : Shape := ⟨2, ![4096, 256]⟩
abbrev S4096 : Shape := ⟨1, ![4096]⟩
abbrev S_ : Shape := ⟨0, ![]⟩
abbrev S4096x1 : Shape := ⟨2, ![4096, 1]⟩
abbrev S8x128 : Shape := ⟨2, ![8, 128]⟩
abbrev S4096x3072 : Shape := ⟨2, ![4096, 3072]⟩
abbrev S8x4x32x256 : Shape := ⟨4, ![8, 4, 32, 256]⟩
abbrev S1x256x256 : Shape := ⟨3, ![1, 256, 256]⟩
abbrev S1x256 : Shape := ⟨2, ![1, 256]⟩
abbrev S8x1x32x256 : Shape := ⟨4, ![8, 1, 32, 256]⟩
abbrev S4128x256 : Shape := ⟨2, ![4128, 256]⟩
abbrev S256x256 : Shape := ⟨2, ![256, 256]⟩
abbrev S16x256 : Shape := ⟨2, ![16, 256]⟩
abbrev S512x256 : Shape := ⟨2, ![512, 256]⟩
abbrev S256 : Shape := ⟨1, ![256]⟩
abbrev S512x1 : Shape := ⟨2, ![512, 1]⟩
abbrev S8x32x256 : Shape := ⟨3, ![8, 32, 256]⟩
abbrev S544x256 : Shape := ⟨2, ![544, 256]⟩

abbrev nBuf : Space → Nat
  | .hbm => 116
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4x256x256, .f32⟩
  | .hbm, ⟨2, _⟩ => ⟨S1x1024, .f32⟩
  | .hbm, ⟨3, _⟩ => ⟨S4096x2048, .f32⟩
  | .hbm, ⟨4, _⟩ => ⟨S4096x4x256, .f32⟩
  | .hbm, ⟨5, _⟩ => ⟨S4096x1x256, .f32⟩
  | .hbm, ⟨6, _⟩ => ⟨S4096x256, .f32⟩
  | .hbm, ⟨7, _⟩ => ⟨S4096, .i32⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S_, .f32⟩
  | .hbm, ⟨23, _⟩ => ⟨S_, .f32⟩
  | .hbm, ⟨24, _⟩ => ⟨S4096x256, .f32⟩
  | .hbm, ⟨25, _⟩ => ⟨S4096, .f32⟩
  | .hbm, ⟨26, _⟩ => ⟨S4096x1, .f32⟩
  | .hbm, ⟨27, _⟩ => ⟨S4096x256, .f32⟩
  | .hbm, ⟨28, _⟩ => ⟨S4096x256, .f32⟩
  | .hbm, ⟨29, _⟩ => ⟨S4096x1x256, .f32⟩
  | .hbm, ⟨30, _⟩ => ⟨S4096x256, .f32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S_, .f32⟩
  | .hbm, ⟨47, _⟩ => ⟨S_, .f32⟩
  | .hbm, ⟨48, _⟩ => ⟨S4096x256, .f32⟩
  | .hbm, ⟨49, _⟩ => ⟨S4096, .f32⟩
  | .hbm, ⟨50, _⟩ => ⟨S4096x1, .f32⟩
  | .hbm, ⟨51, _⟩ => ⟨S4096x256, .f32⟩
  | .hbm, ⟨52, _⟩ => ⟨S4096x256, .f32⟩
  | .hbm, ⟨53, _⟩ => ⟨S4096x1x256, .f32⟩
  | .hbm, ⟨54, _⟩ => ⟨S4096x256, .f32⟩
  | .hbm, ⟨55, _⟩ => ⟨S4096, .i32⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S4096, .i32⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S_, .i32⟩
  | .hbm, ⟨67, _⟩ => ⟨S4096, .i32⟩
  | .hbm, ⟨68, _⟩ => ⟨S4096, .i32⟩
  | .hbm, ⟨69, _⟩ => ⟨S4096, .i32⟩
  | .hbm, ⟨70, _⟩ => ⟨S_, .f32⟩
  | .hbm, ⟨71, _⟩ => ⟨S_, .f32⟩
  | .hbm, ⟨72, _⟩ => ⟨S4096x256, .f32⟩
  | .hbm, ⟨73, _⟩ => ⟨S4096, .f32⟩
  | .hbm, ⟨74, _⟩ => ⟨S4096x1, .f32⟩
  | .hbm, ⟨75, _⟩ => ⟨S4096x256, .f32⟩
  | .hbm, ⟨76, _⟩ => ⟨S4096x256, .f32⟩
  | .hbm, ⟨77, _⟩ => ⟨S4096x1x256, .f32⟩
  | .hbm, ⟨78, _⟩ => ⟨S4096x256, .f32⟩
  | .hbm, ⟨79, _⟩ => ⟨S4096, .i32⟩
  | .hbm, ⟨80, _⟩ => ⟨S_, .i32⟩
  | .hbm, ⟨81, _⟩ => ⟨S4096, .i32⟩
  | .hbm, ⟨82, _⟩ => ⟨S4096, .i32⟩
  | .hbm, ⟨83, _⟩ => ⟨S_, .i32⟩
  | .hbm, ⟨84, _⟩ => ⟨S4096, .i32⟩
  | .hbm, ⟨85, _⟩ => ⟨S4096, .i32⟩
  | .hbm, ⟨86, _⟩ => ⟨S4096, .i32⟩
  | .hbm, ⟨87, _⟩ => ⟨S_, .i32⟩
  | .hbm, ⟨88, _⟩ => ⟨S4096, .i32⟩
  | .hbm, ⟨89, _⟩ => ⟨S4096, .i32⟩
  | .hbm, ⟨90, _⟩ => ⟨S_, .i32⟩
  | .hbm, ⟨91, _⟩ => ⟨S4096, .i32⟩
  | .hbm, ⟨92, _⟩ => ⟨S4096, .i32⟩
  | .hbm, ⟨93, _⟩ => ⟨S4096, .i32⟩
  | .hbm, ⟨94, _⟩ => ⟨S_, .f32⟩
  | .hbm, ⟨95, _⟩ => ⟨S_, .f32⟩
  | .hbm, ⟨96, _⟩ => ⟨S4096x256, .f32⟩
  | .hbm, ⟨97, _⟩ => ⟨S4096, .f32⟩
  | .hbm, ⟨98, _⟩ => ⟨S4096x1, .f32⟩
  | .hbm, ⟨99, _⟩ => ⟨S4096x256, .f32⟩
  | .hbm, ⟨100, _⟩ => ⟨S4096x256, .f32⟩
  | .hbm, ⟨101, _⟩ => ⟨S4096x1x256, .f32⟩
  | .hbm, ⟨102, _⟩ => ⟨S4096x1x256, .f32⟩
  | .hbm, ⟨103, _⟩ => ⟨S4096x1x256, .f32⟩
  | .hbm, ⟨104, _⟩ => ⟨S4096x1x256, .f32⟩
  | .hbm, ⟨105, _⟩ => ⟨S4096x4x256, .f32⟩
  | .hbm, ⟨106, _⟩ => ⟨S4096x4x256, .f32⟩
  | .hbm, ⟨107, _⟩ => ⟨S4096x1024, .f32⟩
  | .hbm, ⟨108, _⟩ => ⟨S4096x1024, .bf16⟩
  | .hbm, ⟨109, _⟩ => ⟨S4x256x256, .bf16⟩
  | .hbm, ⟨110, _⟩ => ⟨S_, .f32⟩
  | .hbm, ⟨111, _⟩ => ⟨S8x128, .f32⟩
  | .hbm, ⟨112, _⟩ => ⟨S4096x3072, .bf16⟩
  | .hbm, ⟨113, _⟩ => ⟨S8x4x32x256, .bf16⟩
  | .hbm, ⟨114, _⟩ => ⟨S1x1024, .f32⟩
  | .hbm, ⟨115, _⟩ => ⟨S4096x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .f32⟩
  | .local _ .vmem, ⟨3, _⟩ => ⟨S4096x256, .f32⟩
  | .local _ .vmem, ⟨4, _⟩ => ⟨S1x256x256, .bf16⟩
  | .local _ .vmem, ⟨5, _⟩ => ⟨S1x256x256, .bf16⟩
  | .local _ .vmem, ⟨6, _⟩ => ⟨S1x256, .f32⟩
  | .local _ .vmem, ⟨7, _⟩ => ⟨S1x256, .f32⟩
  | .local _ .vmem, ⟨8, _⟩ => ⟨S8x128, .f32⟩
  | .local _ .vmem, ⟨9, _⟩ => ⟨S4096x256, .bf16⟩
  | .local _ .vmem, ⟨10, _⟩ => ⟨S4096x256, .bf16⟩
  | .local _ .vmem, ⟨11, _⟩ => ⟨S8x1x32x256, .bf16⟩
  | .local _ .vmem, ⟨12, _⟩ => ⟨S8x1x32x256, .bf16⟩
  | .local _ .vmem, ⟨13, _⟩ => ⟨S1x256, .f32⟩
  | .local _ .vmem, ⟨14, _⟩ => ⟨S1x256, .f32⟩
  | .local _ .vmem, ⟨15, _⟩ => ⟨S4128x256, .f32⟩
  | .local _ .vmem, ⟨16, _⟩ => ⟨S4096x256, .f32⟩
  | .local _ .vmem, ⟨17, _⟩ => ⟨S256x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_8 : Ref sig .tc := ⟨.hbm, 56, rfl⟩
abbrev main_v42 : Ref sig .tc := ⟨.hbm, 57, rfl⟩
abbrev main_v43 : Ref sig .tc := ⟨.hbm, 58, rfl⟩
abbrev main_c_9 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_10 : Ref sig .tc := ⟨.hbm, 63, rfl⟩
abbrev main_v47 : Ref sig .tc := ⟨.hbm, 64, rfl⟩
abbrev main_v48 : Ref sig .tc := ⟨.hbm, 65, rfl⟩
abbrev main_c_11 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_12 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_13 : Ref sig .tc := ⟨.hbm, 80, rfl⟩
abbrev main_v61 : Ref sig .tc := ⟨.hbm, 81, rfl⟩
abbrev main_v62 : Ref sig .tc := ⟨.hbm, 82, rfl⟩
abbrev main_c_14 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_15 : Ref sig .tc := ⟨.hbm, 87, rfl⟩
abbrev main_v66 : Ref sig .tc := ⟨.hbm, 88, rfl⟩
abbrev main_v67 : Ref sig .tc := ⟨.hbm, 89, rfl⟩
abbrev main_c_16 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_17 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_18 : Ref sig .tc := ⟨.hbm, 110, rfl⟩
abbrev main_v86 : Ref sig .tc := ⟨.hbm, 111, rfl⟩
abbrev main_v87_0 : Ref sig .tc := ⟨.hbm, 112, rfl⟩
abbrev main_v87_1 : Ref sig .tc := ⟨.hbm, 113, rfl⟩
abbrev main_v87_2 : Ref sig .tc := ⟨.hbm, 114, rfl⟩
abbrev main_v88 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_7 : BitVec 32 := 0#32
  let v12 : BitVec 1 := Scalar.cmpi .ne v11 c0_i32_7
  v12

@[reducible] def k0_t1_loop : Scf.Loop 32 :=
  let c0_i32_15 : BitVec 32 := 0#32
  let c4_i32 : BitVec 32 := 4#32
  let v27 : BitVec 32 := Scalar.addi c0_i32_15 c4_i32
  let c1_i32_16 : BitVec 32 := 1#32
  ⟨c0_i32_15, v27, c1_i32_16⟩
def k0_mult1 (k0_t1 : Fin k0_t1_loop.trips) : BitVec 32 :=
  let c2_i32_31 : BitVec 32 := 2#32
  let c0_i32_15 : BitVec 32 := 0#32
  let c1_i32_16 : BitVec 32 := 1#32
  let arg12 : BitVec 32 := Scf.iv c0_i32_15 c1_i32_16 k0_t1
  let v39 : BitVec 32 := Scalar.muli c2_i32_31 arg12
  let c512_i32 : BitVec 32 := 512#32
  let v40 : BitVec 32 := Scalar.muli v39 c512_i32
  v40
def k0_off1 (k0_t1 : Fin k0_t1_loop.trips) : Fin 2 → Nat :=
  let c2_i32_31 : BitVec 32 := 2#32
  let c0_i32_15 : BitVec 32 := 0#32
  let c1_i32_16 : BitVec 32 := 1#32
  let arg12 : BitVec 32 := Scf.iv c0_i32_15 c1_i32_16 k0_t1
  let v39 : BitVec 32 := Scalar.muli c2_i32_31 arg12
  let c512_i32 : BitVec 32 := 512#32
  let v40 : BitVec 32 := Scalar.muli v39 c512_i32
  let v41 : BitVec 32 := v40
  let v42 : Index := Scalar.indexCast v41
  let c0_32 : Index := 0#32
  ![v42.toNat, 0]
def k0_off2 (k0_t1 : Fin k0_t1_loop.trips) : Fin 2 → Nat :=
  let c16_i32 : BitVec 32 := 16#32
  let c2_i32_31 : BitVec 32 := 2#32
  let c0_i32_15 : BitVec 32 := 0#32
  let c1_i32_16 : BitVec 32 := 1#32
  let arg12 : BitVec 32 := Scf.iv c0_i32_15 c1_i32_16 k0_t1
  let v39 : BitVec 32 := Scalar.muli c2_i32_31 arg12
  let c512_i32 : BitVec 32 := 512#32
  let v40 : BitVec 32 := Scalar.muli v39 c512_i32
  let v41 : BitVec 32 := v40
  let v83 : BitVec 32 := Scalar.addi c16_i32 v41
  let v84 : Index := Scalar.indexCast v83
  let c0_47 : Index := 0#32
  ![v84.toNat, 0]
def k0_mult2 (k0_t1 : Fin k0_t1_loop.trips) : BitVec 32 :=
  let c2_i32_29 : BitVec 32 := 2#32
  let c0_i32_15 : BitVec 32 := 0#32
  let c1_i32_16 : BitVec 32 := 1#32
  let arg12 : BitVec 32 := Scf.iv c0_i32_15 c1_i32_16 k0_t1
  let v37 : BitVec 32 := Scalar.muli c2_i32_29 arg12
  let c1_i32_30 : BitVec 32 := 1#32
  let v38 : BitVec 32 := Scalar.addi v37 c1_i32_30
  let c512_i32_48 : BitVec 32 := 512#32
  let v88 : BitVec 32 := Scalar.muli v38 c512_i32_48
  v88
def k0_off3 (k0_t1 : Fin k0_t1_loop.trips) : Fin 2 → Nat :=
  let c2_i32_29 : BitVec 32 := 2#32
  let c0_i32_15 : BitVec 32 := 0#32
  let c1_i32_16 : BitVec 32 := 1#32
  let arg12 : BitVec 32 := Scf.iv c0_i32_15 c1_i32_16 k0_t1
  let v37 : BitVec 32 := Scalar.muli c2_i32_29 arg12
  let c1_i32_30 : BitVec 32 := 1#32
  let v38 : BitVec 32 := Scalar.addi v37 c1_i32_30
  let c512_i32_48 : BitVec 32 := 512#32
  let v88 : BitVec 32 := Scalar.muli v38 c512_i32_48
  let v89 : BitVec 32 := v88
  let v90 : Index := Scalar.indexCast v89
  let c0_49 : Index := 0#32
  ![v90.toNat, 0]
def k0_off4 (k0_t1 : Fin k0_t1_loop.trips) : Fin 2 → Nat :=
  let c16_i32_65 : BitVec 32 := 16#32
  let c2_i32_29 : BitVec 32 := 2#32
  let c0_i32_15 : BitVec 32 := 0#32
  let c1_i32_16 : BitVec 32 := 1#32
  let arg12 : BitVec 32 := Scf.iv c0_i32_15 c1_i32_16 k0_t1
  let v37 : BitVec 32 := Scalar.muli c2_i32_29 arg12
  let c1_i32_30 : BitVec 32 := 1#32
  let v38 : BitVec 32 := Scalar.addi v37 c1_i32_30
  let c512_i32_48 : BitVec 32 := 512#32
  let v88 : BitVec 32 := Scalar.muli v38 c512_i32_48
  let v89 : BitVec 32 := v88
  let v131 : BitVec 32 := Scalar.addi c16_i32_65 v89
  let v132 : Index := Scalar.indexCast v131
  let c0_66 : Index := 0#32
  ![v132.toNat, 0]
@[reducible] def k0_t2_loop : Scf.Loop 32 :=
  let c0_i32_26 : BitVec 32 := 0#32
  let c8_i32 : BitVec 32 := 8#32
  let v36 : BitVec 32 := Scalar.addi c0_i32_26 c8_i32
  let c1_i32_27 : BitVec 32 := 1#32
  ⟨c0_i32_26, v36, c1_i32_27⟩
def k0_mult3 (k0_t2 : Fin k0_t2_loop.trips) : BitVec 32 :=
  let c0_i32_26 : BitVec 32 := 0#32
  let c1_i32_27 : BitVec 32 := 1#32
  let arg12 : BitVec 32 := Scf.iv c0_i32_26 c1_i32_27 k0_t2
  let c512_i32 : BitVec 32 := 512#32
  let v37 : BitVec 32 := Scalar.muli arg12 c512_i32
  v37
def k0_off5 (k0_t2 : Fin k0_t2_loop.trips) : Fin 2 → Nat :=
  let c0_i32_26 : BitVec 32 := 0#32
  let c1_i32_27 : BitVec 32 := 1#32
  let arg12 : BitVec 32 := Scf.iv c0_i32_26 c1_i32_27 k0_t2
  let c512_i32 : BitVec 32 := 512#32
  let v37 : BitVec 32 := Scalar.muli arg12 c512_i32
  let v38 : BitVec 32 := v37
  let v39 : Index := Scalar.indexCast v38
  let c0_29 : Index := 0#32
  ![v39.toNat, 0]
def k0_off6 (k0_t2 : Fin k0_t2_loop.trips) : Fin 2 → Nat :=
  let c0_i32_26 : BitVec 32 := 0#32
  let c1_i32_27 : BitVec 32 := 1#32
  let arg12 : BitVec 32 := Scf.iv c0_i32_26 c1_i32_27 k0_t2
  let c512_i32 : BitVec 32 := 512#32
  let v37 : BitVec 32 := Scalar.muli arg12 c512_i32
  let v38 : BitVec 32 := v37
  let v45 : Index := Scalar.indexCast v38
  let c0_31 : Index := 0#32
  ![v45.toNat, 0]
def k0_cond2 (i : grid0.Coords) : BitVec 1 :=
  let arg0 : BitVec 32 := BitVec.ofNat 32 (i 0).val
  let c1_i32 : BitVec 32 := 1#32
  let v13 : BitVec 1 := Scalar.cmpi .eq arg0 c1_i32
  let v14 : BitVec 32 := Scalar.extui v13
  let c0_i32_8 : BitVec 32 := 0#32
  let v15 : BitVec 1 := Scalar.cmpi .ne v14 c0_i32_8
  v15

@[reducible] def k0_t3_loop : Scf.Loop 32 :=
  let c0_i32_15 : BitVec 32 := 0#32
  let c4_i32 : BitVec 32 := 4#32
  let v27 : BitVec 32 := Scalar.addi c0_i32_15 c4_i32
  let c1_i32_16 : BitVec 32 := 1#32
  ⟨c0_i32_15, v27, c1_i32_16⟩
def k0_mult4 (k0_t3 : Fin k0_t3_loop.trips) : BitVec 32 :=
  let c2_i32_31 : BitVec 32 := 2#32
  let c0_i32_15 : BitVec 32 := 0#32
  let c1_i32_16 : BitVec 32 := 1#32
  let arg12 : BitVec 32 := Scf.iv c0_i32_15 c1_i32_16 k0_t3
  let v39 : BitVec 32 := Scalar.muli c2_i32_31 arg12
  let c512_i32 : BitVec 32 := 512#32
  let v40 : BitVec 32 := Scalar.muli v39 c512_i32
  v40
def k0_off7 (k0_t3 : Fin k0_t3_loop.trips) : Fin 2 → Nat :=
  let c2_i32_31 : BitVec 32 := 2#32
  let c0_i32_15 : BitVec 32 := 0#32
  let c1_i32_16 : BitVec 32 := 1#32
  let arg12 : BitVec 32 := Scf.iv c0_i32_15 c1_i32_16 k0_t3
  let v39 : BitVec 32 := Scalar.muli c2_i32_31 arg12
  let c512_i32 : BitVec 32 := 512#32
  let v40 : BitVec 32 := Scalar.muli v39 c512_i32
  let v41 : BitVec 32 := v40
  let v42 : Index := Scalar.indexCast v41
  let c0_32 : Index := 0#32
  ![v42.toNat, 0]
def k0_off8 (k0_t3 : Fin k0_t3_loop.trips) : Fin 2 → Nat :=
  let c16_i32 : BitVec 32 := 16#32
  let c2_i32_31 : BitVec 32 := 2#32
  let c0_i32_15 : BitVec 32 := 0#32
  let c1_i32_16 : BitVec 32 := 1#32
  let arg12 : BitVec 32 := Scf.iv c0_i32_15 c1_i32_16 k0_t3
  let v39 : BitVec 32 := Scalar.muli c2_i32_31 arg12
  let c512_i32 : BitVec 32 := 512#32
  let v40 : BitVec 32 := Scalar.muli v39 c512_i32
  let v41 : BitVec 32 := v40
  let v83 : BitVec 32 := Scalar.addi c16_i32 v41
  let v84 : Index := Scalar.indexCast v83
  let c0_47 : Index := 0#32
  ![v84.toNat, 0]
def k0_mult5 (k0_t3 : Fin k0_t3_loop.trips) : BitVec 32 :=
  let c2_i32_29 : BitVec 32 := 2#32
  let c0_i32_15 : BitVec 32 := 0#32
  let c1_i32_16 : BitVec 32 := 1#32
  let arg12 : BitVec 32 := Scf.iv c0_i32_15 c1_i32_16 k0_t3
  let v37 : BitVec 32 := Scalar.muli c2_i32_29 arg12
  let c1_i32_30 : BitVec 32 := 1#32
  let v38 : BitVec 32 := Scalar.addi v37 c1_i32_30
  let c512_i32_48 : BitVec 32 := 512#32
  let v88 : BitVec 32 := Scalar.muli v38 c512_i32_48
  v88
def k0_off9 (k0_t3 : Fin k0_t3_loop.trips) : Fin 2 → Nat :=
  let c2_i32_29 : BitVec 32 := 2#32
  let c0_i32_15 : BitVec 32 := 0#32
  let c1_i32_16 : BitVec 32 := 1#32
  let arg12 : BitVec 32 := Scf.iv c0_i32_15 c1_i32_16 k0_t3
  let v37 : BitVec 32 := Scalar.muli c2_i32_29 arg12
  let c1_i32_30 : BitVec 32 := 1#32
  let v38 : BitVec 32 := Scalar.addi v37 c1_i32_30
  let c512_i32_48 : BitVec 32 := 512#32
  let v88 : BitVec 32 := Scalar.muli v38 c512_i32_48
  let v89 : BitVec 32 := v88
  let v90 : Index := Scalar.indexCast v89
  let c0_49 : Index := 0#32
  ![v90.toNat, 0]
def k0_off10 (k0_t3 : Fin k0_t3_loop.trips) : Fin 2 → Nat :=
  let c16_i32_65 : BitVec 32 := 16#32
  let c2_i32_29 : BitVec 32 := 2#32
  let c0_i32_15 : BitVec 32 := 0#32
  let c1_i32_16 : BitVec 32 := 1#32
  let arg12 : BitVec 32 := Scf.iv c0_i32_15 c1_i32_16 k0_t3
  let v37 : BitVec 32 := Scalar.muli c2_i32_29 arg12
  let c1_i32_30 : BitVec 32 := 1#32
  let v38 : BitVec 32 := Scalar.addi v37 c1_i32_30
  let c512_i32_48 : BitVec 32 := 512#32
  let v88 : BitVec 32 := Scalar.muli v38 c512_i32_48
  let v89 : BitVec 32 := v88
  let v131 : BitVec 32 := Scalar.addi c16_i32_65 v89
  let v132 : Index := Scalar.indexCast v131
  let c0_66 : Index := 0#32
  ![v132.toNat, 0]
@[reducible] def k0_t4_loop : Scf.Loop 32 :=
  let c0_i32_26 : BitVec 32 := 0#32
  let c8_i32 : BitVec 32 := 8#32
  let v36 : BitVec 32 := Scalar.addi c0_i32_26 c8_i32
  let c1_i32_27 : BitVec 32 := 1#32
  ⟨c0_i32_26, v36, c1_i32_27⟩
def k0_mult6 (k0_t4 : Fin k0_t4_loop.trips) : BitVec 32 :=
  let c0_i32_26 : BitVec 32 := 0#32
  let c1_i32_27 : BitVec 32 := 1#32
  let arg12 : BitVec 32 := Scf.iv c0_i32_26 c1_i32_27 k0_t4
  let c512_i32 : BitVec 32 := 512#32
  let v37 : BitVec 32 := Scalar.muli arg12 c512_i32
  v37
def k0_off11 (k0_t4 : Fin k0_t4_loop.trips) : Fin 2 → Nat :=
  let c0_i32_26 : BitVec 32 := 0#32
  let c1_i32_27 : BitVec 32 := 1#32
  let arg12 : BitVec 32 := Scf.iv c0_i32_26 c1_i32_27 k0_t4
  let c512_i32 : BitVec 32 := 512#32
  let v37 : BitVec 32 := Scalar.muli arg12 c512_i32
  let v38 : BitVec 32 := v37
  let v39 : Index := Scalar.indexCast v38
  let c0_29 : Index := 0#32
  ![v39.toNat, 0]
def k0_off12 (k0_t4 : Fin k0_t4_loop.trips) : Fin 2 → Nat :=
  let c0_i32_26 : BitVec 32 := 0#32
  let c1_i32_27 : BitVec 32 := 1#32
  let arg12 : BitVec 32 := Scf.iv c0_i32_26 c1_i32_27 k0_t4
  let c512_i32 : BitVec 32 := 512#32
  let v37 : BitVec 32 := Scalar.muli arg12 c512_i32
  let v38 : BitVec 32 := v37
  let v48 : Index := Scalar.indexCast v38
  let c0_33 : Index := 0#32
  ![v48.toNat, 0]
def k0_cond3 (i : grid0.Coords) : BitVec 1 :=
  let arg0 : BitVec 32 := BitVec.ofNat 32 (i 0).val
  let c2_i32 : BitVec 32 := 2#32
  let v16 : BitVec 1 := Scalar.cmpi .eq arg0 c2_i32
  let v17 : BitVec 32 := Scalar.extui v16
  let c0_i32_9 : BitVec 32 := 0#32
  let v18 : BitVec 1 := Scalar.cmpi .ne v17 c0_i32_9
  v18

@[reducible] def k0_t5_loop : Scf.Loop 32 :=
  let c0_i32_15 : BitVec 32 := 0#32
  let c4_i32 : BitVec 32 := 4#32
  let v27 : BitVec 32 := Scalar.addi c0_i32_15 c4_i32
  let c1_i32_16 : BitVec 32 := 1#32
  ⟨c0_i32_15, v27, c1_i32_16⟩
def k0_mult7 (k0_t5 : Fin k0_t5_loop.trips) : BitVec 32 :=
  let c2_i32_31 : BitVec 32 := 2#32
  let c0_i32_15 : BitVec 32 := 0#32
  let c1_i32_16 : BitVec 32 := 1#32
  let arg12 : BitVec 32 := Scf.iv c0_i32_15 c1_i32_16 k0_t5
  let v39 : BitVec 32 := Scalar.muli c2_i32_31 arg12
  let c512_i32 : BitVec 32 := 512#32
  let v40 : BitVec 32 := Scalar.muli v39 c512_i32
  v40
def k0_off13 (k0_t5 : Fin k0_t5_loop.trips) : Fin 2 → Nat :=
  let c2_i32_31 : BitVec 32 := 2#32
  let c0_i32_15 : BitVec 32 := 0#32
  let c1_i32_16 : BitVec 32 := 1#32
  let arg12 : BitVec 32 := Scf.iv c0_i32_15 c1_i32_16 k0_t5
  let v39 : BitVec 32 := Scalar.muli c2_i32_31 arg12
  let c512_i32 : BitVec 32 := 512#32
  let v40 : BitVec 32 := Scalar.muli v39 c512_i32
  let v41 : BitVec 32 := v40
  let v42 : Index := Scalar.indexCast v41
  let c0_32 : Index := 0#32
  ![v42.toNat, 0]
def k0_off14 (k0_t5 : Fin k0_t5_loop.trips) : Fin 2 → Nat :=
  let c16_i32 : BitVec 32 := 16#32
  let c2_i32_31 : BitVec 32 := 2#32
  let c0_i32_15 : BitVec 32 := 0#32
  let c1_i32_16 : BitVec 32 := 1#32
  let arg12 : BitVec 32 := Scf.iv c0_i32_15 c1_i32_16 k0_t5
  let v39 : BitVec 32 := Scalar.muli c2_i32_31 arg12
  let c512_i32 : BitVec 32 := 512#32
  let v40 : BitVec 32 := Scalar.muli v39 c512_i32
  let v41 : BitVec 32 := v40
  let v83 : BitVec 32 := Scalar.addi c16_i32 v41
  let v84 : Index := Scalar.indexCast v83
  let c0_47 : Index := 0#32
  ![v84.toNat, 0]
def k0_mult8 (k0_t5 : Fin k0_t5_loop.trips) : BitVec 32 :=
  let c2_i32_29 : BitVec 32 := 2#32
  let c0_i32_15 : BitVec 32 := 0#32
  let c1_i32_16 : BitVec 32 := 1#32
  let arg12 : BitVec 32 := Scf.iv c0_i32_15 c1_i32_16 k0_t5
  let v37 : BitVec 32 := Scalar.muli c2_i32_29 arg12
  let c1_i32_30 : BitVec 32 := 1#32
  let v38 : BitVec 32 := Scalar.addi v37 c1_i32_30
  let c512_i32_48 : BitVec 32 := 512#32
  let v88 : BitVec 32 := Scalar.muli v38 c512_i32_48
  v88
def k0_off15 (k0_t5 : Fin k0_t5_loop.trips) : Fin 2 → Nat :=
  let c2_i32_29 : BitVec 32 := 2#32
  let c0_i32_15 : BitVec 32 := 0#32
  let c1_i32_16 : BitVec 32 := 1#32
  let arg12 : BitVec 32 := Scf.iv c0_i32_15 c1_i32_16 k0_t5
  let v37 : BitVec 32 := Scalar.muli c2_i32_29 arg12
  let c1_i32_30 : BitVec 32 := 1#32
  let v38 : BitVec 32 := Scalar.addi v37 c1_i32_30
  let c512_i32_48 : BitVec 32 := 512#32
  let v88 : BitVec 32 := Scalar.muli v38 c512_i32_48
  let v89 : BitVec 32 := v88
  let v90 : Index := Scalar.indexCast v89
  let c0_49 : Index := 0#32
  ![v90.toNat, 0]
def k0_off16 (k0_t5 : Fin k0_t5_loop.trips) : Fin 2 → Nat :=
  let c16_i32_65 : BitVec 32 := 16#32
  let c2_i32_29 : BitVec 32 := 2#32
  let c0_i32_15 : BitVec 32 := 0#32
  let c1_i32_16 : BitVec 32 := 1#32
  let arg12 : BitVec 32 := Scf.iv c0_i32_15 c1_i32_16 k0_t5
  let v37 : BitVec 32 := Scalar.muli c2_i32_29 arg12
  let c1_i32_30 : BitVec 32 := 1#32
  let v38 : BitVec 32 := Scalar.addi v37 c1_i32_30
  let c512_i32_48 : BitVec 32 := 512#32
  let v88 : BitVec 32 := Scalar.muli v38 c512_i32_48
  let v89 : BitVec 32 := v88
  let v131 : BitVec 32 := Scalar.addi c16_i32_65 v89
  let v132 : Index := Scalar.indexCast v131
  let c0_66 : Index := 0#32
  ![v132.toNat, 0]
@[reducible] def k0_t6_loop : Scf.Loop 32 :=
  let c0_i32_26 : BitVec 32 := 0#32
  let c8_i32 : BitVec 32 := 8#32
  let v36 : BitVec 32 := Scalar.addi c0_i32_26 c8_i32
  let c1_i32_27 : BitVec 32 := 1#32
  ⟨c0_i32_26, v36, c1_i32_27⟩
def k0_mult9 (k0_t6 : Fin k0_t6_loop.trips) : BitVec 32 :=
  let c0_i32_26 : BitVec 32 := 0#32
  let c1_i32_27 : BitVec 32 := 1#32
  let arg12 : BitVec 32 := Scf.iv c0_i32_26 c1_i32_27 k0_t6
  let c512_i32 : BitVec 32 := 512#32
  let v37 : BitVec 32 := Scalar.muli arg12 c512_i32
  v37
def k0_off17 (k0_t6 : Fin k0_t6_loop.trips) : Fin 2 → Nat :=
  let c0_i32_26 : BitVec 32 := 0#32
  let c1_i32_27 : BitVec 32 := 1#32
  let arg12 : BitVec 32 := Scf.iv c0_i32_26 c1_i32_27 k0_t6
  let c512_i32 : BitVec 32 := 512#32
  let v37 : BitVec 32 := Scalar.muli arg12 c512_i32
  let v38 : BitVec 32 := v37
  let v39 : Index := Scalar.indexCast v38
  let c0_29 : Index := 0#32
  ![v39.toNat, 0]
def k0_off18 (k0_t6 : Fin k0_t6_loop.trips) : Fin 2 → Nat :=
  let c0_i32_26 : BitVec 32 := 0#32
  let c1_i32_27 : BitVec 32 := 1#32
  let arg12 : BitVec 32 := Scf.iv c0_i32_26 c1_i32_27 k0_t6
  let c512_i32 : BitVec 32 := 512#32
  let v37 : BitVec 32 := Scalar.muli arg12 c512_i32
  let v38 : BitVec 32 := v37
  let v51 : Index := Scalar.indexCast v38
  let c0_34 : Index := 0#32
  ![v51.toNat, 0]
def k0_cond4 (i : grid0.Coords) : BitVec 1 :=
  let arg0 : BitVec 32 := BitVec.ofNat 32 (i 0).val
  let c3_i32 : BitVec 32 := 3#32
  let v19 : BitVec 1 := Scalar.cmpi .eq arg0 c3_i32
  let v20 : BitVec 32 := Scalar.extui v19
  let c0_i32_10 : BitVec 32 := 0#32
  let v21 : BitVec 1 := Scalar.cmpi .ne v20 c0_i32_10
  v21

@[reducible] def k0_t7_loop : Scf.Loop 32 :=
  let c0_i32_15 : BitVec 32 := 0#32
  let c4_i32 : BitVec 32 := 4#32
  let v27 : BitVec 32 := Scalar.addi c0_i32_15 c4_i32
  let c1_i32_16 : BitVec 32 := 1#32
  ⟨c0_i32_15, v27, c1_i32_16⟩
def k0_mult10 (k0_t7 : Fin k0_t7_loop.trips) : BitVec 32 :=
  let c2_i32_31 : BitVec 32 := 2#32
  let c0_i32_15 : BitVec 32 := 0#32
  let c1_i32_16 : BitVec 32 := 1#32
  let arg12 : BitVec 32 := Scf.iv c0_i32_15 c1_i32_16 k0_t7
  let v39 : BitVec 32 := Scalar.muli c2_i32_31 arg12
  let c512_i32 : BitVec 32 := 512#32
  let v40 : BitVec 32 := Scalar.muli v39 c512_i32
  v40
def k0_off19 (k0_t7 : Fin k0_t7_loop.trips) : Fin 2 → Nat :=
  let c2_i32_31 : BitVec 32 := 2#32
  let c0_i32_15 : BitVec 32 := 0#32
  let c1_i32_16 : BitVec 32 := 1#32
  let arg12 : BitVec 32 := Scf.iv c0_i32_15 c1_i32_16 k0_t7
  let v39 : BitVec 32 := Scalar.muli c2_i32_31 arg12
  let c512_i32 : BitVec 32 := 512#32
  let v40 : BitVec 32 := Scalar.muli v39 c512_i32
  let v41 : BitVec 32 := v40
  let v42 : Index := Scalar.indexCast v41
  let c0_32 : Index := 0#32
  ![v42.toNat, 0]
def k0_off20 (k0_t7 : Fin k0_t7_loop.trips) : Fin 2 → Nat :=
  let c16_i32 : BitVec 32 := 16#32
  let c2_i32_31 : BitVec 32 := 2#32
  let c0_i32_15 : BitVec 32 := 0#32
  let c1_i32_16 : BitVec 32 := 1#32
  let arg12 : BitVec 32 := Scf.iv c0_i32_15 c1_i32_16 k0_t7
  let v39 : BitVec 32 := Scalar.muli c2_i32_31 arg12
  let c512_i32 : BitVec 32 := 512#32
  let v40 : BitVec 32 := Scalar.muli v39 c512_i32
  let v41 : BitVec 32 := v40
  let v83 : BitVec 32 := Scalar.addi c16_i32 v41
  let v84 : Index := Scalar.indexCast v83
  let c0_47 : Index := 0#32
  ![v84.toNat, 0]
def k0_mult11 (k0_t7 : Fin k0_t7_loop.trips) : BitVec 32 :=
  let c2_i32_29 : BitVec 32 := 2#32
  let c0_i32_15 : BitVec 32 := 0#32
  let c1_i32_16 : BitVec 32 := 1#32
  let arg12 : BitVec 32 := Scf.iv c0_i32_15 c1_i32_16 k0_t7
  let v37 : BitVec 32 := Scalar.muli c2_i32_29 arg12
  let c1_i32_30 : BitVec 32 := 1#32
  let v38 : BitVec 32 := Scalar.addi v37 c1_i32_30
  let c512_i32_48 : BitVec 32 := 512#32
  let v88 : BitVec 32 := Scalar.muli v38 c512_i32_48
  v88
def k0_off21 (k0_t7 : Fin k0_t7_loop.trips) : Fin 2 → Nat :=
  let c2_i32_29 : BitVec 32 := 2#32
  let c0_i32_15 : BitVec 32 := 0#32
  let c1_i32_16 : BitVec 32 := 1#32
  let arg12 : BitVec 32 := Scf.iv c0_i32_15 c1_i32_16 k0_t7
  let v37 : BitVec 32 := Scalar.muli c2_i32_29 arg12
  let c1_i32_30 : BitVec 32 := 1#32
  let v38 : BitVec 32 := Scalar.addi v37 c1_i32_30
  let c512_i32_48 : BitVec 32 := 512#32
  let v88 : BitVec 32 := Scalar.muli v38 c512_i32_48
  let v89 : BitVec 32 := v88
  let v90 : Index := Scalar.indexCast v89
  let c0_49 : Index := 0#32
  ![v90.toNat, 0]
def k0_off22 (k0_t7 : Fin k0_t7_loop.trips) : Fin 2 → Nat :=
  let c16_i32_65 : BitVec 32 := 16#32
  let c2_i32_29 : BitVec 32 := 2#32
  let c0_i32_15 : BitVec 32 := 0#32
  let c1_i32_16 : BitVec 32 := 1#32
  let arg12 : BitVec 32 := Scf.iv c0_i32_15 c1_i32_16 k0_t7
  let v37 : BitVec 32 := Scalar.muli c2_i32_29 arg12
  let c1_i32_30 : BitVec 32 := 1#32
  let v38 : BitVec 32 := Scalar.addi v37 c1_i32_30
  let c512_i32_48 : BitVec 32 := 512#32
  let v88 : BitVec 32 := Scalar.muli v38 c512_i32_48
  let v89 : BitVec 32 := v88
  let v131 : BitVec 32 := Scalar.addi c16_i32_65 v89
  let v132 : Index := Scalar.indexCast v131
  let c0_66 : Index := 0#32
  ![v132.toNat, 0]
@[reducible] def k0_t8_loop : Scf.Loop 32 :=
  let c0_i32_26 : BitVec 32 := 0#32
  let c8_i32 : BitVec 32 := 8#32
  let v36 : BitVec 32 := Scalar.addi c0_i32_26 c8_i32
  let c1_i32_27 : BitVec 32 := 1#32
  ⟨c0_i32_26, v36, c1_i32_27⟩
def k0_mult12 (k0_t8 : Fin k0_t8_loop.trips) : BitVec 32 :=
  let c0_i32_26 : BitVec 32 := 0#32
  let c1_i32_27 : BitVec 32 := 1#32
  let arg12 : BitVec 32 := Scf.iv c0_i32_26 c1_i32_27 k0_t8
  let c512_i32 : BitVec 32 := 512#32
  let v37 : BitVec 32 := Scalar.muli arg12 c512_i32
  v37
def k0_off23 (k0_t8 : Fin k0_t8_loop.trips) : Fin 2 → Nat :=
  let c0_i32_26 : BitVec 32 := 0#32
  let c1_i32_27 : BitVec 32 := 1#32
  let arg12 : BitVec 32 := Scf.iv c0_i32_26 c1_i32_27 k0_t8
  let c512_i32 : BitVec 32 := 512#32
  let v37 : BitVec 32 := Scalar.muli arg12 c512_i32
  let v38 : BitVec 32 := v37
  let v39 : Index := Scalar.indexCast v38
  let c0_29 : Index := 0#32
  ![v39.toNat, 0]
def k0_off24 (k0_t8 : Fin k0_t8_loop.trips) : Fin 2 → Nat :=
  let c0_i32_26 : BitVec 32 := 0#32
  let c1_i32_27 : BitVec 32 := 1#32
  let arg12 : BitVec 32 := Scf.iv c0_i32_26 c1_i32_27 k0_t8
  let c512_i32 : BitVec 32 := 512#32
  let v37 : BitVec 32 := Scalar.muli arg12 c512_i32
  let v38 : BitVec 32 := v37
  let v54 : Index := Scalar.indexCast v38
  let c0_35 : Index := 0#32
  ![v54.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1x32x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PoolBwdRefIdeal.lean ====
abbrev S4096x1024 : Shape := ⟨2, ![4096, 1024]⟩
abbrev S4x256x256 : Shape := ⟨3, ![4, 256, 256]⟩
abbrev S1x1024 : Shape := ⟨2, ![1, 1024]⟩
abbrev S4096x2048 : Shape := ⟨2, ![4096, 2048]⟩
abbrev S4096x4x256 : Shape := ⟨3, ![4096, 4, 256]⟩
abbrev S4096x1x256 : Shape := ⟨3, ![4096, 1, 256]⟩
abbrev S4096x256 : Shape := ⟨2, ![4096, 256]⟩
abbrev S4096 : Shape := ⟨1, ![4096]⟩
abbrev S_ : Shape := ⟨0, ![]⟩
abbrev S4096x1 : Shape := ⟨2, ![4096, 1]⟩
abbrev S4x256x4096 : Shape := ⟨3, ![4, 256, 4096]⟩
abbrev S1024 : Shape := ⟨1, ![1024]⟩
abbrev S4x4096x256 : Shape := ⟨3, ![4, 4096, 256]⟩
abbrev S4111x256 : Shape := ⟨2, ![4111, 256]⟩
abbrev S4103x256 : Shape := ⟨2, ![4103, 256]⟩
abbrev S4099x256 : Shape := ⟨2, ![4099, 256]⟩
abbrev S4097x256 : Shape := ⟨2, ![4097, 256]⟩
abbrev S4x8x32x256 : Shape := ⟨4, ![4, 8, 32, 256]⟩
abbrev S8x4x32x256 : Shape := ⟨4, ![8, 4, 32, 256]⟩

abbrev nBuf : Space → Nat
  | .hbm => 183
  | .vmem => 0
  | .smem => 0
  | _ => 0

abbrev hbmTy0_0 (i : Nat) : BufTy := match i % 128 with
  | 0 => ⟨S4096x1024, .f32⟩
  | 1 => ⟨S4x256x256, .f32⟩
  | 2 => ⟨S1x1024, .f32⟩
  | 3 => ⟨S4096x2048, .f32⟩
  | 4 => ⟨S4096x4x256, .f32⟩
  | 5 => ⟨S4096x1x256, .f32⟩
  | 6 => ⟨S4096x256, .f32⟩
  | 7 => ⟨S4096, .i32⟩
  | 8 => ⟨S_, .i32⟩
  | 9 => ⟨S4096, .i32⟩
  | 10 => ⟨S4096, .i32⟩
  | 11 => ⟨S_, .i32⟩
  | 12 => ⟨S4096, .i32⟩
  | 13 => ⟨S4096, .i32⟩
  | 14 => ⟨S4096, .i32⟩
  | 15 => ⟨S_, .i32⟩
  | 16 => ⟨S4096, .i32⟩
  | 17 => ⟨S4096, .i32⟩
  | 18 => ⟨S_, .i32⟩
  | 19 => ⟨S4096, .i32⟩
  | 20 => ⟨S4096, .i32⟩
  | 21 => ⟨S4096, .i32⟩
  | 22 => ⟨S_, .f32⟩
  | 23 => ⟨S_, .f32⟩
  | 24 => ⟨S4096x256, .f32⟩
  | 25 => ⟨S4096, .f32⟩
  | 26 => ⟨S4096x1, .f32⟩
  | 27 => ⟨S4096x256, .f32⟩
  | 28 => ⟨S4096x256, .f32⟩
  | 29 => ⟨S4096x1x256, .f32⟩
  | 30 => ⟨S4096x256, .f32⟩
  | 31 => ⟨S4096, .i32⟩
  | 32 => ⟨S_, .i32⟩
  | 33 => ⟨S4096, .i32⟩
  | 34 => ⟨S4096, .i32⟩
  | 35 => ⟨S_, .i32⟩
  | 36 => ⟨S4096, .i32⟩
  | 37 => ⟨S4096, .i32⟩
  | 38 => ⟨S4096, .i32⟩
  | 39 => ⟨S_, .i32⟩
  | 40 => ⟨S4096, .i32⟩
  | 41 => ⟨S4096, .i32⟩
  | 42 => ⟨S_, .i32⟩
  | 43 => ⟨S4096, .i32⟩
  | 44 => ⟨S4096, .i32⟩
  | 45 => ⟨S4096, .i32⟩
  | 46 => ⟨S_, .f32⟩
  | 47 => ⟨S_, .f32⟩
  | 48 => ⟨S4096x256, .f32⟩
  | 49 => ⟨S4096, .f32⟩
  | 50 => ⟨S4096x1, .f32⟩
  | 51 => ⟨S4096x256, .f32⟩
  | 52 => ⟨S4096x256, .f32⟩
  | 53 => ⟨S4096x1x256, .f32⟩
  | 54 => ⟨S4096x256, .f32⟩
  | 55 => ⟨S4096, .i32⟩
  | 56 => ⟨S_, .i32⟩
  | 57 => ⟨S4096, .i32⟩
  | 58 => ⟨S4096, .i32⟩
  | 59 => ⟨S_, .i32⟩
  | 60 => ⟨S4096, .i32⟩
  | 61 => ⟨S4096, .i32⟩
  | 62 => ⟨S4096, .i32⟩
  | 63 => ⟨S_, .i32⟩
  | 64 => ⟨S4096, .i32⟩
  | 65 => ⟨S4096, .i32⟩
  | 66 => ⟨S_, .i32⟩
  | 67 => ⟨S4096, .i32⟩
  | 68 => ⟨S4096, .i32⟩
  | 69 => ⟨S4096, .i32⟩
  | 70 => ⟨S_, .f32⟩
  | 71 => ⟨S_, .f32⟩
  | 72 => ⟨S4096x256, .f32⟩
  | 73 => ⟨S4096, .f32⟩
  | 74 => ⟨S4096x1, .f32⟩
  | 75 => ⟨S4096x256, .f32⟩
  | 76 => ⟨S4096x256, .f32⟩
  | 77 => ⟨S4096x1x256, .f32⟩
  | 78 => ⟨S4096x256, .f32⟩
  | 79 => ⟨S4096, .i32⟩
  | 80 => ⟨S_, .i32⟩
  | 81 => ⟨S4096, .i32⟩
  | 82 => ⟨S4096, .i32⟩
  | 83 => ⟨S_, .i32⟩
  | 84 => ⟨S4096, .i32⟩
  | 85 => ⟨S4096, .i32⟩
  | 86 => ⟨S4096, .i32⟩
  | 87 => ⟨S_, .i32⟩
  | 88 => ⟨S4096, .i32⟩
  | 89 => ⟨S4096, .i32⟩
  | 90 => ⟨S_, .i32⟩
  | 91 => ⟨S4096, .i32⟩
  | 92 => ⟨S4096, .i32⟩
  | 93 => ⟨S4096, .i32⟩
  | 94 => ⟨S_, .f32⟩
  | 95 => ⟨S_, .f32⟩
  | 96 => ⟨S4096x256, .f32⟩
  | 97 => ⟨S4096, .f32⟩
  | 98 => ⟨S4096x1, .f32⟩
  | 99 => ⟨S4096x256, .f32⟩
  | 100 => ⟨S4096x256, .f32⟩
  | 101 => ⟨S4096x1x256, .f32⟩
  | 102 => ⟨S4096x1x256, .f32⟩
  | 103 => ⟨S4096x1x256, .f32⟩
  | 104 => ⟨S4096x1x256, .f32⟩
  | 105 => ⟨S4096x4x256, .f32⟩
  | 106 => ⟨S4096x4x256, .f32⟩
  | 107 => ⟨S4x256x4096, .f32⟩
  | 108 => ⟨S4096x4x256, .f32⟩
  | 109 => ⟨S4096x1024, .f32⟩
  | 110 => ⟨S4096x1024, .f32⟩
  | 111 => ⟨S4096x1024, .f32⟩
  | 112 => ⟨S4096x1024, .f32⟩
  | 113 => ⟨S4096x1024, .f32⟩
  | 114 => ⟨S_, .f32⟩
  | 115 => ⟨S1024, .f32⟩
  | 116 => ⟨S1x1024, .f32⟩
  | 117 => ⟨S4096x1024, .f32⟩
  | 118 => ⟨S4096x1024, .f32⟩
  | 119 => ⟨S4096x4x256, .f32⟩
  | 120 => ⟨S4x256x4096, .f32⟩
  | 121 => ⟨S4x4096x256, .f32⟩
  | 122 => ⟨S4096x4x256, .f32⟩
  | 123 => ⟨S4x256x256, .f32⟩
  | 124 => ⟨S4x256x256, .f32⟩
  | 125 => ⟨S4096x4x256, .f32⟩
  | 126 => ⟨S4096x1x256, .f32⟩
  | 127 => ⟨S4096x256, .f32⟩
  | _ => ⟨S4096x1024, .f32⟩

abbrev hbmTy0_1 (i : Nat) : BufTy := match i % 128 with
  | 0 => ⟨S4096x1x256, .f32⟩
  | 1 => ⟨S4096x256, .f32⟩
  | 2 => ⟨S4096x1x256, .f32⟩
  | 3 => ⟨S4096x256, .f32⟩
  | 4 => ⟨S4096x1x256, .f32⟩
  | 5 => ⟨S4096x256, .f32⟩
  | 6 => ⟨S4096x256, .f32⟩
  | 7 => ⟨S4096x256, .f32⟩
  | 8 => ⟨S_, .f32⟩
  | 9 => ⟨S4111x256, .f32⟩
  | 10 => ⟨S_, .f32⟩
  | 11 => ⟨S_, .f32⟩
  | 12 => ⟨S4096x256, .f32⟩
  | 13 => ⟨S4096x1x256, .f32⟩
  | 14 => ⟨S_, .f32⟩
  | 15 => ⟨S4096x4x256, .f32⟩
  | 16 => ⟨S4096x4x256, .f32⟩
  | 17 => ⟨S4096x256, .f32⟩
  | 18 => ⟨S4096x256, .f32⟩
  | 19 => ⟨S_, .f32⟩
  | 20 => ⟨S4103x256, .f32⟩
  | 21 => ⟨S_, .f32⟩
  | 22 => ⟨S_, .f32⟩
  | 23 => ⟨S4096x256, .f32⟩
  | 24 => ⟨S4096x1x256, .f32⟩
  | 25 => ⟨S_, .f32⟩
  | 26 => ⟨S4096x4x256, .f32⟩
  | 27 => ⟨S4096x4x256, .f32⟩
  | 28 => ⟨S4096x256, .f32⟩
  | 29 => ⟨S4096x256, .f32⟩
  | 30 => ⟨S_, .f32⟩
  | 31 => ⟨S4099x256, .f32⟩
  | 32 => ⟨S_, .f32⟩
  | 33 => ⟨S_, .f32⟩
  | 34 => ⟨S4096x256, .f32⟩
  | 35 => ⟨S4096x1x256, .f32⟩
  | 36 => ⟨S_, .f32⟩
  | 37 => ⟨S4096x4x256, .f32⟩
  | 38 => ⟨S4096x4x256, .f32⟩
  | 39 => ⟨S4096x256, .f32⟩
  | 40 => ⟨S4096x256, .f32⟩
  | 41 => ⟨S_, .f32⟩
  | 42 => ⟨S4097x256, .f32⟩
  | 43 => ⟨S_, .f32⟩
  | 44 => ⟨S_, .f32⟩
  | 45 => ⟨S4096x256, .f32⟩
  | 46 => ⟨S4096x1x256, .f32⟩
  | 47 => ⟨S_, .f32⟩
  | 48 => ⟨S4096x4x256, .f32⟩
  | 49 => ⟨S4096x4x256, .f32⟩
  | 50 => ⟨S4096x1024, .f32⟩
  | 51 => ⟨S4x8x32x256, .f32⟩
  | 52 => ⟨S8x4x32x256, .f32⟩
  | 53 => ⟨S4096x1024, .bf16⟩
  | 54 => ⟨S8x4x32x256, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_8 : Ref sig .tc := ⟨.hbm, 56, rfl⟩
abbrev main_v42 : Ref sig .tc := ⟨.hbm, 57, rfl⟩
abbrev main_v43 : Ref sig .tc := ⟨.hbm, 58, rfl⟩
abbrev main_c_9 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_10 : Ref sig .tc := ⟨.hbm, 63, rfl⟩
abbrev main_v47 : Ref sig .tc := ⟨.hbm, 64, rfl⟩
abbrev main_v48 : Ref sig .tc := ⟨.hbm, 65, rfl⟩
abbrev main_c_11 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_12 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_13 : Ref sig .tc := ⟨.hbm, 80, rfl⟩
abbrev main_v61 : Ref sig .tc := ⟨.hbm, 81, rfl⟩
abbrev main_v62 : Ref sig .tc := ⟨.hbm, 82, rfl⟩
abbrev main_c_14 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_15 : Ref sig .tc := ⟨.hbm, 87, rfl⟩
abbrev main_v66 : Ref sig .tc := ⟨.hbm, 88, rfl⟩
abbrev main_v67 : Ref sig .tc := ⟨.hbm, 89, rfl⟩
abbrev main_c_16 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_17 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_18 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_cst_19 : Ref sig .tc := ⟨.hbm, 136, rfl⟩
abbrev main_v111 : Ref sig .tc := ⟨.hbm, 137, rfl⟩
abbrev main_cst_20 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_cst_21 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_cst_22 : Ref sig .tc := ⟨.hbm, 147, rfl⟩
abbrev main_v119 : Ref sig .tc := ⟨.hbm, 148, rfl⟩
abbrev main_cst_23 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_24 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_cst_25 : Ref sig .tc := ⟨.hbm, 158, rfl⟩
abbrev main_v127 : Ref sig .tc := ⟨.hbm, 159, rfl⟩
abbrev main_cst_26 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_cst_27 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_cst_28 : Ref sig .tc := ⟨.hbm, 169, rfl⟩
abbrev main_v135 : Ref sig .tc := ⟨.hbm, 170, rfl⟩
abbrev main_cst_29 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_cst_30 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩

abbrev nD : Nat := 1
abbrev τ : Topo := Topo.v7x

variable {F : FTy → Type} [FloatOps F]
-- ==== Gate.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S1024x2048 : Shape := ⟨2, ![1024, 2048]⟩
abbrev S2048x2048 : Shape := ⟨2, ![2048, 2048]⟩
abbrev S2048x512 : Shape := ⟨2, ![2048, 512]⟩
abbrev S1024x512 : Shape := ⟨2, ![1024, 512]⟩
abbrev S_ : Shape := ⟨0, ![]⟩
abbrev S8x128 : Shape := ⟨2, ![8, 128]⟩
abbrev S512x2048 : Shape := ⟨2, ![512, 2048]⟩

abbrev nBuf : Space → Nat
  | .hbm => 13
  | .vmem => 17
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x2048, .bf16⟩
  | .hbm, ⟨5, _⟩ => ⟨S2048x8192, .bf16⟩
  | .hbm, ⟨6, _⟩ => ⟨S4096x8192, .bf16⟩
  | .hbm, ⟨7, _⟩ => ⟨S4096x8192, .bf16⟩
  | .hbm, ⟨8, _⟩ => ⟨S4096x2048, .bf16⟩
  | .hbm, ⟨9, _⟩ => ⟨S8192x2048, .bf16⟩
  | .hbm, ⟨10, _⟩ => ⟨S_, .f32⟩
  | .hbm, ⟨11, _⟩ => ⟨S8x128, .f32⟩
  | .hbm, ⟨12, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S2048x2048, .bf16⟩
  | .local _ .vmem, ⟨11, _⟩ => ⟨S2048x2048, .bf16⟩
  | .local _ .vmem, ⟨12, _⟩ => ⟨S1024x2048, .bf16⟩
  | .local _ .vmem, ⟨13, _⟩ => ⟨S1024x2048, .bf16⟩
  | .local _ .vmem, ⟨14, _⟩ => ⟨S8x128, .f32⟩
  | .local _ .vmem, ⟨15, _⟩ => ⟨S1024x2048, .bf16⟩
  | .local _ .vmem, ⟨16, _⟩ => ⟨S1024x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false]

abbrev stage1_1 : Fin 2 → Memref sig .tc .vmem S2048x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1024x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]
-- ==== GateRefIdeal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .i1⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x2048, .f32⟩
  | .hbm, ⟨22, _⟩ => ⟨S4096x8192, .f32⟩
  | .hbm, ⟨23, _⟩ => ⟨S4096x8192, .f32⟩
  | .hbm, ⟨24, _⟩ => ⟨S_, .f32⟩
  | .hbm, ⟨25, _⟩ => ⟨S4096x8192, .f32⟩
  | .hbm, ⟨26, _⟩ => ⟨S4096x8192, .f32⟩
  | .hbm, ⟨27, _⟩ => ⟨S4096x8192, .bf16⟩
  | .hbm, ⟨28, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_call1_cst : Ref sig .tc := ⟨.hbm, 9, rfl⟩
abbrev main_call1_v0 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== MixBwd.lean ====
abbrev S4096x2048 : Shape := ⟨2, ![4096, 2048]⟩
abbrev S1x2048 : Shape := ⟨2, ![1, 2048]⟩
abbrev S4096x8192 : Shape := ⟨2, ![4096, 8192]⟩
abbrev S_ : Shape := ⟨0, ![]⟩
abbrev S4096 : Shape := ⟨1, ![4096]⟩
abbrev S4096x1 : Shape := ⟨2, ![4096, 1]⟩
abbrev S8x2048x1024 : Shape := ⟨3, ![8, 2048, 1024]⟩
abbrev S4096x512 : Shape := ⟨2, ![4096, 512]⟩
abbrev S4096x1024 : Shape := ⟨2, ![4096, 1024]⟩
abbrev S128x2048 : Shape := ⟨2, ![128, 2048]⟩
abbrev S1x512x1024 : Shape := ⟨3, ![1, 512, 1024]⟩
abbrev S128 : Shape := ⟨1, ![128]⟩
abbrev S128x1 : Shape := ⟨2, ![128, 1]⟩
abbrev S2048 : Shape := ⟨1, ![2048]⟩
abbrev S512x1024 : Shape := ⟨2, ![512, 1024]⟩

abbrev nBuf : Space → Nat
  | .hbm => 45
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .bf16⟩
  | .hbm, ⟨39, _⟩ => ⟨S4096x8192, .bf16⟩
  | .hbm, ⟨40, _⟩ => ⟨S8x2048x1024, .bf16⟩
  | .hbm, ⟨41, _⟩ => ⟨S4096x2048, .f32⟩
  | .hbm, ⟨42, _⟩ => ⟨S4096x2048, .bf16⟩
  | .hbm, ⟨43, _⟩ => ⟨S1x2048, .f32⟩
  | .hbm, ⟨44, _⟩ => ⟨S1x2048, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S1x2048, .f32⟩
  | .local _ .vmem, ⟨11, _⟩ => ⟨S1x2048, .f32⟩
  | .local _ .vmem, ⟨12, _⟩ => ⟨S1x512x1024, .bf16⟩
  | .local _ .vmem, ⟨13, _⟩ => ⟨S1x512x1024, .bf16⟩
  | .local _ .vmem, ⟨14, _⟩ => ⟨S128x2048, .f32⟩
  | .local _ .vmem, ⟨15, _⟩ => ⟨S128x2048, .f32⟩
  | .local _ .vmem, ⟨16, _⟩ => ⟨S128x2048, .bf16⟩
  | .local _ .vmem, ⟨17, _⟩ => ⟨S128x2048, .bf16⟩
  | .local _ .vmem, ⟨18, _⟩ => ⟨S1x2048, .f32⟩
  | .local _ .vmem, ⟨19, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev main_v27_2 : Ref sig .tc := ⟨.hbm, 42, rfl⟩
abbrev main_v27_3 : Ref sig .tc := ⟨.hbm, 43, rfl⟩
abbrev main_v27_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨3, ![8, 4, 1], ![false, false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v52 : BitVec 1 := Scalar.cmpi .eq v1 c0_i32
  let v53 : BitVec 32 := Scalar.extui v52
  let c0_i32_22 : BitVec 32 := 0#32
  let v54 : BitVec 1 := Scalar.cmpi .ne v53 c0_i32_22
  v54

def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v52 : BitVec 1 := Scalar.cmpi .eq v1 c0_i32
  let v_true : BitVec 1 := 1#1
  let v55 : BitVec 1 := Scalar.xori v52 v_true
  let v56 : BitVec 32 := Scalar.extui v55
  let c0_i32_23 : BitVec 32 := 0#32
  let v57 : BitVec 1 := Scalar.cmpi .ne v56 c0_i32_23
  v57

def k0_cond3 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_24 : BitVec 32 := 0#32
  let v58 : BitVec 1 := Scalar.cmpi .eq v1 c0_i32_24
  let v59 : BitVec 32 := Scalar.extui v58
  let c0_i32_25 : BitVec 32 := 0#32
  let v60 : BitVec 1 := Scalar.cmpi .ne v59 c0_i32_25
  v60

def k0_cond4 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_24 : BitVec 32 := 0#32
  let v58 : BitVec 1 := Scalar.cmpi .eq v1 c0_i32_24
  let true_26 : BitVec 1 := 1#1
  let v61 : BitVec 1 := Scalar.xori v58 true_26
  let v62 : BitVec 32 := Scalar.extui v61
  let c0_i32_27 : BitVec 32 := 0#32
  let v63 : BitVec 1 := Scalar.cmpi .ne v62 c0_i32_27
  v63

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]
-- ==== MixBwdRefIdeal.lean ====
abbrev S4096x2048 : Shape := ⟨2, ![4096, 2048]⟩
abbrev S1x2048 : Shape := ⟨2, ![1, 2048]⟩
abbrev S4096x8192 : Shape := ⟨2, ![4096, 8192]⟩
abbrev S_ : Shape := ⟨0, ![]⟩
abbrev S4096 : Shape := ⟨1, ![4096]⟩
abbrev S4096x1 : Shape := ⟨2, ![4096, 1]⟩
abbrev S2048 : Shape := ⟨1, ![2048]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 98
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x2048, .f32⟩
  | .hbm, ⟨63, _⟩ => ⟨S4096x2048, .f32⟩
  | .hbm, ⟨64, _⟩ => ⟨S4096x1, .f32⟩
  | .hbm, ⟨65, _⟩ => ⟨S4096x2048, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x2048, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096, .f32⟩
  | .hbm, ⟨87, _⟩ => ⟨S4096x2048, .f32⟩
  | .hbm, ⟨88, _⟩ => ⟨S4096x2048, .f32⟩
  | .hbm, ⟨89, _⟩ => ⟨S_, .f32⟩
  | .hbm, ⟨90, _⟩ => ⟨S2048x8192, .f32⟩
  | .hbm, ⟨91, _⟩ => ⟨S4096x8192, .f32⟩
  | .hbm, ⟨92, _⟩ => ⟨S8192x2048, .f32⟩
  | .hbm, ⟨93, _⟩ => ⟨S2048x8192, .f32⟩
  | .hbm, ⟨94, _⟩ => ⟨S2048x8x1024, .f32⟩
  | .hbm, ⟨95, _⟩ => ⟨S8x2048x1024, .f32⟩
  | .hbm, ⟨96, _⟩ => ⟨S8x2048x1024, .bf16⟩
  | .hbm, ⟨97, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_cst_13 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_14 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_15 : Ref sig .tc := ⟨.hbm, 82, rfl⟩
abbrev main_v59 : Ref sig .tc := ⟨.hbm, 83, rfl⟩
abbrev main_v60 : Ref sig .tc := ⟨.hbm, 84, rfl⟩
abbrev main_cst_16 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_17 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== PoolFwd.lean ====
abbrev S3x4096x1024 : Shape := ⟨3, ![3, 4096, 1024]⟩
abbrev S4x256x256 : Shape := ⟨3, ![4, 256, 256]⟩
abbrev S1x1024 : Shape := ⟨2, ![1, 1024]⟩
abbrev S4096x1024 : Shape := ⟨2, ![4096, 1024]⟩
abbrev S4096x2048 : Shape := ⟨2, ![4096, 2048]⟩
abbrev S1x4096x256 : Shape := ⟨3, ![1, 4096, 256]⟩
abbrev S1x256x256 : Shape := ⟨3, ![1, 256, 256]⟩
abbrev S1x256 : Shape := ⟨2, ![1, 256]⟩
abbrev S4096x256 : Shape := ⟨2, ![4096, 256]⟩
abbrev S4128x256 : Shape := ⟨2, ![4128, 256]⟩
abbrev S16x256 : Shape := ⟨2, ![16, 256]⟩
abbrev S1x512x256 : Shape := ⟨3, ![1, 512, 256]⟩
abbrev S512x256 : Shape := ⟨2, ![512, 256]⟩
abbrev S256x256 : Shape := ⟨2, ![256, 256]⟩
abbrev S544x256 : Shape := ⟨2, ![544, 256]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S3x4096x1024, .f32⟩
  | .hbm, ⟨1, _⟩ => ⟨S4x256x256, .f32⟩
  | .hbm, ⟨2, _⟩ => ⟨S1x1024, .f32⟩
  | .hbm, ⟨3, _⟩ => ⟨S4x256x256, .bf16⟩
  | .hbm, ⟨4, _⟩ => ⟨S4096x1024, .bf16⟩
  | .hbm, ⟨5, _⟩ => ⟨S4096x2048, .bf16⟩
  | .hbm, ⟨6, _⟩ => ⟨S4096x1024, .bf16⟩
  | .local _ .vmem, ⟨0, _⟩ => ⟨S1x4096x256, .f32⟩
  | .local _ .vmem, ⟨1, _⟩ => ⟨S1x4096x256, .f32⟩
  | .local _ .vmem, ⟨2, _⟩ => ⟨S1x256x256, .bf16⟩
  | .local _ .vmem, ⟨3, _⟩ => ⟨S1x256x256, .bf16⟩
  | .local _ .vmem, ⟨4, _⟩ => ⟨S1x256, .f32⟩
  | .local _ .vmem, ⟨5, _⟩ => ⟨S1x256, .f32⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4128x256, .f32⟩
  | _, _ => ⟨S3x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v7 : BitVec 32 := Scalar.addi c0_i32 c8_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v23 : BitVec 32 := Scalar.muli arg7 c512_i32
  v23
def k0_off1 (k0_t1 : Fin k0_t1_loop.trips) : Fin 3 → Nat :=
  let c0_14 : Index := 0#32
  let c0_i32 : BitVec 32 := 0#32
  let c1_i32 : BitVec 32 := 1#32
  let arg7 : BitVec 32 := Scf.iv c0_i32 c1_i32 k0_t1
  let c512_i32 : BitVec 32 := 512#32
  let v23 : BitVec 32 := Scalar.muli arg7 c512_i32
  let v24 : BitVec 32 := v23
  let v25 : Index := Scalar.indexCast v24
  let c0_15 : Index := 0#32
  ![0, v25.toNat, 0]
def k0_off2 (k0_t1 : Fin k0_t1_loop.trips) : Fin 2 → Nat :=
  let c16_i32 : BitVec 32 := 16#32
  let c0_i32 : BitVec 32 := 0#32
  let c1_i32 : BitVec 32 := 1#32
  let arg7 : BitVec 32 := Scf.iv c0_i32 c1_i32 k0_t1
  let c512_i32 : BitVec 32 := 512#32
  let v23 : BitVec 32 := Scalar.muli arg7 c512_i32
  let v24 : BitVec 32 := v23
  let v28 : BitVec 32 := Scalar.addi c16_i32 v24
  let v29 : Index := Scalar.indexCast v28
  let c0_16 : Index := 0#32
  ![v29.toNat, 0]
def k0_cond1 (i : grid0.Coords) : BitVec 1 :=
  let arg0 : BitVec 32 := BitVec.ofNat 32 (i 0).val
  let c0_i32_8 : BitVec 32 := 0#32
  let v11 : BitVec 1 := Scalar.cmpi .eq arg0 c0_i32_8
  let v12 : BitVec 32 := Scalar.extui v11
  let c0_i32_9 : BitVec 32 := 0#32
  let v13 : BitVec 1 := Scalar.cmpi .ne v12 c0_i32_9
  v13

@[reducible] def k0_t2_loop : Scf.Loop 32 :=
  let c0_i32_14 : BitVec 32 := 0#32
  let c8_i32_15 : BitVec 32 := 8#32
  let v23 : BitVec 32 := Scalar.addi c0_i32_14 c8_i32_15
  let c1_i32_16 : BitVec 32 := 1#32
  ⟨c0_i32_14, v23, c1_i32_16⟩
def k0_mult2 (k0_t2 : Fin k0_t2_loop.trips) : BitVec 32 :=
  let c0_i32_14 : BitVec 32 := 0#32
  let c1_i32_16 : BitVec 32 := 1#32
  let arg7 : BitVec 32 := Scf.iv c0_i32_14 c1_i32_16 k0_t2
  let c512_i32 : BitVec 32 := 512#32
  let v24 : BitVec 32 := Scalar.muli arg7 c512_i32
  v24
def k0_off3 (k0_t2 : Fin k0_t2_loop.trips) : Fin 2 → Nat :=
  let c0_i32_14 : BitVec 32 := 0#32
  let c1_i32_16 : BitVec 32 := 1#32
  let arg7 : BitVec 32 := Scf.iv c0_i32_14 c1_i32_16 k0_t2
  let c512_i32 : BitVec 32 := 512#32
  let v24 : BitVec 32 := Scalar.muli arg7 c512_i32
  let v25 : BitVec 32 := v24
  let v26 : Index := Scalar.indexCast v25
  let c0_18 : Index := 0#32
  ![v26.toNat, 0]
def k0_off4 (k0_t2 : Fin k0_t2_loop.trips) : Fin 2 → Nat :=
  let c0_i32_14 : BitVec 32 := 0#32
  let c1_i32_16 : BitVec 32 := 1#32
  let arg7 : BitVec 32 := Scf.iv c0_i32_14 c1_i32_16 k0_t2
  let c512_i32 : BitVec 32 := 512#32
  let v24 : BitVec 32 := Scalar.muli arg7 c512_i32
  let v25 : BitVec 32 := v24
  let v51 : Index := Scalar.indexCast v25
  let c0_24 : Index := 0#32
  ![v51.toNat, 0]
def k0_cond2 (i : grid0.Coords) : BitVec 1 :=
  let arg0 : BitVec 32 := BitVec.ofNat 32 (i 0).val
  let c1_i32_10 : BitVec 32 := 1#32
  let v14 : BitVec 1 := Scalar.cmpi .eq arg0 c1_i32_10
  let v15 : BitVec 32 := Scalar.extui v14
  let c0_i32_11 : BitVec 32 := 0#32
  let v16 : BitVec 1 := Scalar.cmpi .ne v15 c0_i32_11
  v16

@[reducible] def k0_t3_loop : Scf.Loop 32 :=
  let c0_i32_14 : BitVec 32 := 0#32
  let c8_i32_15 : BitVec 32 := 8#32
  let v23 : BitVec 32 := Scalar.addi c0_i32_14 c8_i32_15
  let c1_i32_16 : BitVec 32 := 1#32
  ⟨c0_i32_14, v23, c1_i32_16⟩
def k0_mult3 (k0_t3 : Fin k0_t3_loop.trips) : BitVec 32 :=
  let c0_i32_14 : BitVec 32 := 0#32
  let c1_i32_16 : BitVec 32 := 1#32
  let arg7 : BitVec 32 := Scf.iv c0_i32_14 c1_i32_16 k0_t3
  let c512_i32 : BitVec 32 := 512#32
  let v24 : BitVec 32 := Scalar.muli arg7 c512_i32
  v24
def k0_off5 (k0_t3 : Fin k0_t3_loop.trips) : Fin 2 → Nat :=
  let c0_i32_14 : BitVec 32 := 0#32
  let c1_i32_16 : BitVec 32 := 1#32
  let arg7 : BitVec 32 := Scf.iv c0_i32_14 c1_i32_16 k0_t3
  let c512_i32 : BitVec 32 := 512#32
  let v24 : BitVec 32 := Scalar.muli arg7 c512_i32
  let v25 : BitVec 32 := v24
  let v26 : Index := Scalar.indexCast v25
  let c0_18 : Index := 0#32
  ![v26.toNat, 0]
def k0_off6 (k0_t3 : Fin k0_t3_loop.trips) : Fin 2 → Nat :=
  let c0_i32_14 : BitVec 32 := 0#32
  let c1_i32_16 : BitVec 32 := 1#32
  let arg7 : BitVec 32 := Scf.iv c0_i32_14 c1_i32_16 k0_t3
  let c512_i32 : BitVec 32 := 512#32
  let v24 : BitVec 32 := Scalar.muli arg7 c512_i32
  let v25 : BitVec 32 := v24
  let v54 : Index := Scalar.indexCast v25
  let c0_25 : Index := 0#32
  ![v54.toNat, 0]
def k0_cond3 (i : grid0.Coords) : BitVec 1 :=
  let arg0 : BitVec 32 := BitVec.ofNat 32 (i 0).val
  let c2_i32 : BitVec 32 := 2#32
  let v17 : BitVec 1 := Scalar.cmpi .eq arg0 c2_i32
  let v18 : BitVec 32 := Scalar.extui v17
  let c0_i32_12 : BitVec 32 := 0#32
  let v19 : BitVec 1 := Scalar.cmpi .ne v18 c0_i32_12
  v19

@[reducible] def k0_t4_loop : Scf.Loop 32 :=
  let c0_i32_14 : BitVec 32 := 0#32
  let c8_i32_15 : BitVec 32 := 8#32
  let v23 : BitVec 32 := Scalar.addi c0_i32_14 c8_i32_15
  let c1_i32_16 : BitVec 32 := 1#32
  ⟨c0_i32_14, v23, c1_i32_16⟩
def k0_mult4 (k0_t4 : Fin k0_t4_loop.trips) : BitVec 32 :=
  let c0_i32_14 : BitVec 32 := 0#32
  let c1_i32_16 : BitVec 32 := 1#32
  let arg7 : BitVec 32 := Scf.iv c0_i32_14 c1_i32_16 k0_t4
  let c512_i32 : BitVec 32 := 512#32
  let v24 : BitVec 32 := Scalar.muli arg7 c512_i32
  v24
def k0_off7 (k0_t4 : Fin k0_t4_loop.trips) : Fin 2 → Nat :=
  let c0_i32_14 : BitVec 32 := 0#32
  let c1_i32_16 : BitVec 32 := 1#32
  let arg7 : BitVec 32 := Scf.iv c0_i32_14 c1_i32_16 k0_t4
  let c512_i32 : BitVec 32 := 512#32
  let v24 : BitVec 32 := Scalar.muli arg7 c512_i32
  let v25 : BitVec 32 := v24
  let v26 : Index := Scalar.indexCast v25
  let c0_18 : Index := 0#32
  ![v26.toNat, 0]
def k0_off8 (k0_t4 : Fin k0_t4_loop.trips) : Fin 2 → Nat :=
  let c0_i32_14 : BitVec 32 := 0#32
  let c1_i32_16 : BitVec 32 := 1#32
  let arg7 : BitVec 32 := Scf.iv c0_i32_14 c1_i32_16 k0_t4
  let c512_i32 : BitVec 32 := 512#32
  let v24 : BitVec 32 := Scalar.muli arg7 c512_i32
  let v25 : BitVec 32 := v24
  let v57 : Index := Scalar.indexCast v25
  let c0_25 : Index := 0#32
  ![v57.toNat, 0]
def k0_cond4 (i : grid0.Coords) : BitVec 1 :=
  let arg0 : BitVec 32 := BitVec.ofNat 32 (i 0).val
  let c3_i32 : BitVec 32 := 3#32
  let v20 : BitVec 1 := Scalar.cmpi .eq arg0 c3_i32
  let v21 : BitVec 32 := Scalar.extui v20
  let c0_i32_13 : BitVec 32 := 0#32
  let v22 : BitVec 1 := Scalar.cmpi .ne v21 c0_i32_13
  v22

@[reducible] def k0_t5_loop : Scf.Loop 32 :=
  let c0_i32_14 : BitVec 32 := 0#32
  let c8_i32_15 : BitVec 32 := 8#32
  let v23 : BitVec 32 := Scalar.addi c0_i32_14 c8_i32_15
  let c1_i32_16 : BitVec 32 := 1#32
  ⟨c0_i32_14, v23, c1_i32_16⟩
def k0_mult5 (k0_t5 : Fin k0_t5_loop.trips) : BitVec 32 :=
  let c0_i32_14 : BitVec 32 := 0#32
  let c1_i32_16 : BitVec 32 := 1#32
  let arg7 : BitVec 32 := Scf.iv c0_i32_14 c1_i32_16 k0_t5
  let c512_i32 : BitVec 32 := 512#32
  let v24 : BitVec 32 := Scalar.muli arg7 c512_i32
  v24
def k0_off9 (k0_t5 : Fin k0_t5_loop.trips) : Fin 2 → Nat :=
  let c0_i32_14 : BitVec 32 := 0#32
  let c1_i32_16 : BitVec 32 := 1#32
  let arg7 : BitVec 32 := Scf.iv c0_i32_14 c1_i32_16 k0_t5
  let c512_i32 : BitVec 32 := 512#32
  let v24 : BitVec 32 := Scalar.muli arg7 c512_i32
  let v25 : BitVec 32 := v24
  let v26 : Index := Scalar.indexCast v25
  let c0_18 : Index := 0#32
  ![v26.toNat, 0]
def k0_off10 (k0_t5 : Fin k0_t5_loop.trips) : Fin 2 → Nat :=
  let c0_i32_14 : BitVec 32 := 0#32
  let c1_i32_16 : BitVec 32 := 1#32
  let arg7 : BitVec 32 := Scf.iv c0_i32_14 c1_i32_16 k0_t5
  let c512_i32 : BitVec 32 := 512#32
  let v24 : BitVec 32 := Scalar.muli arg7 c512_i32
  let v25 : BitVec 32 := v24
  let v60 : Index := Scalar.indexCast v25
  let c0_26 : Index := 0#32
  ![v60.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolFwdRefIdeal.lean ====
abbrev S3x4096x1024 : Shape := ⟨3, ![3, 4096, 1024]⟩
abbrev S4x256x256 : Shape := ⟨3, ![4, 256, 256]⟩
abbrev S1x1024 : Shape := ⟨2, ![1, 1024]⟩
abbrev S1x4096x1024 : Shape := ⟨3, ![1, 4096, 1024]⟩
abbrev S4096x1024 : Shape := ⟨2, ![4096, 1024]⟩
abbrev S4096x4x256 : Shape := ⟨3, ![4096, 4, 256]⟩
abbrev S4096x1x256 : Shape := ⟨3, ![4096, 1, 256]⟩
abbrev S4096x256 : Shape := ⟨2, ![4096, 256]⟩
abbrev S4096 : Shape := ⟨1, ![4096]⟩
abbrev S_ : Shape := ⟨0, ![]⟩
abbrev S4096x1 : Shape := ⟨2, ![4096, 1]⟩
abbrev S4x256x4096 : Shape := ⟨3, ![4, 256, 4096]⟩

abbrev nBuf : Space → Nat
  | .hbm => 221
  | .vmem => 0
  | .smem => 0
  | _ => 0

abbrev hbmTy0_0 (i : Nat) : BufTy := match i % 128 with
  | 0 => ⟨S3x4096x1024, .f32⟩
  | 1 => ⟨S4x256x256, .f32⟩
  | 2 => ⟨S1x1024, .f32⟩
  | 3 => ⟨S1x4096x1024, .f32⟩
  | 4 => ⟨S4096x1024, .f32⟩
  | 5 => ⟨S4096x4x256, .f32⟩
  | 6 => ⟨S4096x1x256, .f32⟩
  | 7 => ⟨S4096x256, .f32⟩
  | 8 => ⟨S4096, .i32⟩
  | 9 => ⟨S_, .i32⟩
  | 10 => ⟨S4096, .i32⟩
  | 11 => ⟨S4096, .i32⟩
  | 12 => ⟨S_, .i32⟩
  | 13 => ⟨S4096, .i32⟩
  | 14 => ⟨S4096, .i32⟩
  | 15 => ⟨S4096, .i32⟩
  | 16 => ⟨S_, .i32⟩
  | 17 => ⟨S4096, .i32⟩
  | 18 => ⟨S4096, .i32⟩
  | 19 => ⟨S_, .i32⟩
  | 20 => ⟨S4096, .i32⟩
  | 21 => ⟨S4096, .i32⟩
  | 22 => ⟨S4096, .i32⟩
  | 23 => ⟨S_, .f32⟩
  | 24 => ⟨S_, .f32⟩
  | 25 => ⟨S4096x256, .f32⟩
  | 26 => ⟨S4096, .f32⟩
  | 27 => ⟨S4096x1, .f32⟩
  | 28 => ⟨S4096x256, .f32⟩
  | 29 => ⟨S4096x256, .f32⟩
  | 30 => ⟨S4096x1x256, .f32⟩
  | 31 => ⟨S4096x256, .f32⟩
  | 32 => ⟨S4096, .i32⟩
  | 33 => ⟨S_, .i32⟩
  | 34 => ⟨S4096, .i32⟩
  | 35 => ⟨S4096, .i32⟩
  | 36 => ⟨S_, .i32⟩
  | 37 => ⟨S4096, .i32⟩
  | 38 => ⟨S4096, .i32⟩
  | 39 => ⟨S4096, .i32⟩
  | 40 => ⟨S_, .i32⟩
  | 41 => ⟨S4096, .i32⟩
  | 42 => ⟨S4096, .i32⟩
  | 43 => ⟨S_, .i32⟩
  | 44 => ⟨S4096, .i32⟩
  | 45 => ⟨S4096, .i32⟩
  | 46 => ⟨S4096, .i32⟩
  | 47 => ⟨S_, .f32⟩
  | 48 => ⟨S_, .f32⟩
  | 49 => ⟨S4096x256, .f32⟩
  | 50 => ⟨S4096, .f32⟩
  | 51 => ⟨S4096x1, .f32⟩
  | 52 => ⟨S4096x256, .f32⟩
  | 53 => ⟨S4096x256, .f32⟩
  | 54 => ⟨S4096x1x256, .f32⟩
  | 55 => ⟨S4096x256, .f32⟩
  | 56 => ⟨S4096, .i32⟩
  | 57 => ⟨S_, .i32⟩
  | 58 => ⟨S4096, .i32⟩
  | 59 => ⟨S4096, .i32⟩
  | 60 => ⟨S_, .i32⟩
  | 61 => ⟨S4096, .i32⟩
  | 62 => ⟨S4096, .i32⟩
  | 63 => ⟨S4096, .i32⟩
  | 64 => ⟨S_, .i32⟩
  | 65 => ⟨S4096, .i32⟩
  | 66 => ⟨S4096, .i32⟩
  | 67 => ⟨S_, .i32⟩
  | 68 => ⟨S4096, .i32⟩
  | 69 => ⟨S4096, .i32⟩
  | 70 => ⟨S4096, .i32⟩
  | 71 => ⟨S_, .f32⟩
  | 72 => ⟨S_, .f32⟩
  | 73 => ⟨S4096x256, .f32⟩
  | 74 => ⟨S4096, .f32⟩
  | 75 => ⟨S4096x1, .f32⟩
  | 76 => ⟨S4096x256, .f32⟩
  | 77 => ⟨S4096x256, .f32⟩
  | 78 => ⟨S4096x1x256, .f32⟩
  | 79 => ⟨S4096x256, .f32⟩
  | 80 => ⟨S4096, .i32⟩
  | 81 => ⟨S_, .i32⟩
  | 82 => ⟨S4096, .i32⟩
  | 83 => ⟨S4096, .i32⟩
  | 84 => ⟨S_, .i32⟩
  | 85 => ⟨S4096, .i32⟩
  | 86 => ⟨S4096, .i32⟩
  | 87 => ⟨S4096, .i32⟩
  | 88 => ⟨S_, .i32⟩
  | 89 => ⟨S4096, .i32⟩
  | 90 => ⟨S4096, .i32⟩
  | 91 => ⟨S_, .i32⟩
  | 92 => ⟨S4096, .i32⟩
  | 93 => ⟨S4096, .i32⟩
  | 94 => ⟨S4096, .i32⟩
  | 95 => ⟨S_, .f32⟩
  | 96 => ⟨S_, .f32⟩
  | 97 => ⟨S4096x256, .f32⟩
  | 98 => ⟨S4096, .f32⟩
  | 99 => ⟨S4096x1, .f32⟩
  | 100 => ⟨S4096x256, .f32⟩
  | 101 => ⟨S4096x256, .f32⟩
  | 102 => ⟨S4096x1x256, .f32⟩
  | 103 => ⟨S4096x1x256, .f32⟩
  | 104 => ⟨S4096x1x256, .f32⟩
  | 105 => ⟨S4096x1x256, .f32⟩
  | 106 => ⟨S4096x4x256, .f32⟩
  | 107 => ⟨S4096x4x256, .f32⟩
  | 108 => ⟨S4096x1024, .f32⟩
  | 109 => ⟨S4096x1024, .bf16⟩
  | 110 => ⟨S1x4096x1024, .f32⟩
  | 111 => ⟨S4096x1024, .f32⟩
  | 112 => ⟨S4096x4x256, .f32⟩
  | 113 => ⟨S4096x1x256, .f32⟩
  | 114 => ⟨S4096x256, .f32⟩
  | 115 => ⟨S4096, .i32⟩
  | 116 => ⟨S_, .i32⟩
  | 117 => ⟨S4096, .i32⟩
  | 118 => ⟨S4096, .i32⟩
  | 119 => ⟨S_, .i32⟩
  | 120 => ⟨S4096, .i32⟩
  | 121 => ⟨S4096, .i32⟩
  | 122 => ⟨S4096, .i32⟩
  | 123 => ⟨S_, .i32⟩
  | 124 => ⟨S4096, .i32⟩
  | 125 => ⟨S4096, .i32⟩
  | 126 => ⟨S_, .i32⟩
  | 127 => ⟨S4096, .i32⟩
  | _ => ⟨S3x4096x1024, .f32⟩

abbrev hbmTy0_1 (i : Nat) : BufTy := match i % 128 with
  | 0 => ⟨S4096, .i32⟩
  | 1 => ⟨S4096, .i32⟩
  | 2 => ⟨S_, .f32⟩
  | 3 => ⟨S_, .f32⟩
  | 4 => ⟨S4096x256, .f32⟩
  | 5 => ⟨S4096, .f32⟩
  | 6 => ⟨S4096x1, .f32⟩
  | 7 => ⟨S4096x256, .f32⟩
  | 8 => ⟨S4096x256, .f32⟩
  | 9 => ⟨S4096x1x256, .f32⟩
  | 10 => ⟨S4096x256, .f32⟩
  | 11 => ⟨S4096, .i32⟩
  | 12 => ⟨S_, .i32⟩
  | 13 => ⟨S4096, .i32⟩
  | 14 => ⟨S4096, .i32⟩
  | 15 => ⟨S_, .i32⟩
  | 16 => ⟨S4096, .i32⟩
  | 17 => ⟨S4096, .i32⟩
  | 18 => ⟨S4096, .i32⟩
  | 19 => ⟨S_, .i32⟩
  | 20 => ⟨S4096, .i32⟩
  | 21 => ⟨S4096, .i32⟩
  | 22 => ⟨S_, .i32⟩
  | 23 => ⟨S4096, .i32⟩
  | 24 => ⟨S4096, .i32⟩
  | 25 => ⟨S4096, .i32⟩
  | 26 => ⟨S_, .f32⟩
  | 27 => ⟨S_, .f32⟩
  | 28 => ⟨S4096x256, .f32⟩
  | 29 => ⟨S4096, .f32⟩
  | 30 => ⟨S4096x1, .f32⟩
  | 31 => ⟨S4096x256, .f32⟩
  | 32 => ⟨S4096x256, .f32⟩
  | 33 => ⟨S4096x1x256, .f32⟩
  | 34 => ⟨S4096x256, .f32⟩
  | 35 => ⟨S4096, .i32⟩
  | 36 => ⟨S_, .i32⟩
  | 37 => ⟨S4096, .i32⟩
  | 38 => ⟨S4096, .i32⟩
  | 39 => ⟨S_, .i32⟩
  | 40 => ⟨S4096, .i32⟩
  | 41 => ⟨S4096, .i32⟩
  | 42 => ⟨S4096, .i32⟩
  | 43 => ⟨S_, .i32⟩
  | 44 => ⟨S4096, .i32⟩
  | 45 => ⟨S4096, .i32⟩
  | 46 => ⟨S_, .i32⟩
  | 47 => ⟨S4096, .i32⟩
  | 48 => ⟨S4096, .i32⟩
  | 49 => ⟨S4096, .i32⟩
  | 50 => ⟨S_, .f32⟩
  | 51 => ⟨S_, .f32⟩
  | 52 => ⟨S4096x256, .f32⟩
  | 53 => ⟨S4096, .f32⟩
  | 54 => ⟨S4096x1, .f32⟩
  | 55 => ⟨S4096x256, .f32⟩
  | 56 => ⟨S4096x256, .f32⟩
  | 57 => ⟨S4096x1x256, .f32⟩
  | 58 => ⟨S4096x256, .f32⟩
  | 59 => ⟨S4096, .i32⟩
  | 60 => ⟨S_, .i32⟩
  | 61 => ⟨S4096, .i32⟩
  | 62 => ⟨S4096, .i32⟩
  | 63 => ⟨S_, .i32⟩
  | 64 => ⟨S4096, .i32⟩
  | 65 => ⟨S4096, .i32⟩
  | 66 => ⟨S4096, .i32⟩
  | 67 => ⟨S_, .i32⟩
  | 68 => ⟨S4096, .i32⟩
  | 69 => ⟨S4096, .i32⟩
  | 70 => ⟨S_, .i32⟩
  | 71 => ⟨S4096, .i32⟩
  | 72 => ⟨S4096, .i32⟩
  | 73 => ⟨S4096, .i32⟩
  | 74 => ⟨S_, .f32⟩
  | 75 => ⟨S_, .f32⟩
  | 76 => ⟨S4096x256, .f32⟩
  | 77 => ⟨S4096, .f32⟩
  | 78 => ⟨S4096x1, .f32⟩
  | 79 => ⟨S4096x256, .f32⟩
  | 80 => ⟨S4096x256, .f32⟩
  | 81 => ⟨S4096x1x256, .f32⟩
  | 82 => ⟨S4096x1x256, .f32⟩
  | 83 => ⟨S4096x1x256, .f32⟩
  | 84 => ⟨S4096x1x256, .f32⟩
  | 85 => ⟨S4096x4x256, .f32⟩
  | 86 => ⟨S4096x4x256, .f32⟩
  | 87 => ⟨S4x256x4096, .f32⟩
  | 88 => ⟨S4096x4x256, .f32⟩
  | 89 => ⟨S4096x1024, .f32⟩
  | 90 => ⟨S4096x1024, .f32⟩
  | 91 => ⟨S4096x1024, .f32⟩
  | 92 => ⟨S4096x1024, .bf16⟩
  | _ => ⟨S3x4096x1024, .f32⟩

abbrev hbmTy (i : Nat) : BufTy := match i / 128 with
  | 0 => hbmTy0_0 i
  | 1 => hbmTy0_1 i
  | _ => ⟨S3x4096x1024, .f32⟩

abbrev bufTy : (tb : Table) → Fin (tcTables nBuf tb) → BufTy
  | .hbm, ⟨i, _⟩ => hbmTy i
  | _, _ => ⟨S3x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_3 : Ref sig .tc := ⟨.hbm, 33, rfl⟩
abbrev main_v25 : Ref sig .tc := ⟨.hbm, 34, rfl⟩
abbrev main_v26 : Ref sig .tc := ⟨.hbm, 35, rfl⟩
abbrev main_c_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_5 : Ref sig .tc := ⟨.hbm, 40, rfl⟩
abbrev main_v30 : Ref sig .tc := ⟨.hbm, 41, rfl⟩
abbrev main_v31 : Ref sig .tc := ⟨.hbm, 42, rfl⟩
abbrev main_c_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_8 : Ref sig .tc := ⟨.hbm, 57, rfl⟩
abbrev main_v44 : Ref sig .tc := ⟨.hbm, 58, rfl⟩
abbrev main_v45 : Ref sig .tc := ⟨.hbm, 59, rfl⟩
abbrev main_c_9 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_10 : Ref sig .tc := ⟨.hbm, 64, rfl⟩
abbrev main_v49 : Ref sig .tc := ⟨.hbm, 65, rfl⟩
abbrev main_v50 : Ref sig .tc := ⟨.hbm, 66, rfl⟩
abbrev main_c_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_c_13 : Ref sig .tc := ⟨.hbm, 81, rfl⟩
abbrev main_v63 : Ref sig .tc := ⟨.hbm, 82, rfl⟩
abbrev main_v64 : Ref sig .tc := ⟨.hbm, 83, rfl⟩
abbrev main_c_14 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_c_15 : Ref sig .tc := ⟨.hbm, 88, rfl⟩
abbrev main_v68 : Ref sig .tc := ⟨.hbm, 89, rfl⟩
abbrev main_v69 : Ref sig .tc := ⟨.hbm, 90, rfl⟩
abbrev main_c_16 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_17 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_c_18 : Ref sig .tc := ⟨.hbm, 116, rfl⟩
abbrev main_v93 : Ref sig .tc := ⟨.hbm, 117, rfl⟩
abbrev main_v94 : Ref sig .tc := ⟨.hbm, 118, rfl⟩
abbrev main_c_19 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_c_20 : Ref sig .tc := ⟨.hbm, 123, rfl⟩
abbrev main_v98 : Ref sig .tc := ⟨.hbm, 124, rfl⟩
abbrev main_v99 : Ref sig .tc := ⟨.hbm, 125, rfl⟩
abbrev main_c_21 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_22 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_c_23 : Ref sig .tc := ⟨.hbm, 140, rfl⟩
abbrev main_v112 : Ref sig .tc := ⟨.hbm, 141, rfl⟩
abbrev main_v113 : Ref sig .tc := ⟨.hbm, 142, rfl⟩
abbrev main_c_24 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_c_25 : Ref sig .tc := ⟨.hbm, 147, rfl⟩
abbrev main_v117 : Ref sig .tc := ⟨.hbm, 148, rfl⟩
abbrev main_v118 : Ref sig .tc := ⟨.hbm, 149, rfl⟩
abbrev main_c_26 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_cst_27 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_c_28 : Ref sig .tc := ⟨.hbm, 164, rfl⟩
abbrev main_v131 : Ref sig .tc := ⟨.hbm, 165, rfl⟩
abbrev main_v132 : Ref sig .tc := ⟨.hbm, 166, rfl⟩
abbrev main_c_29 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_c_30 : Ref sig .tc := ⟨.hbm, 171, rfl⟩
abbrev main_v136 : Ref sig .tc := ⟨.hbm, 172, rfl⟩
abbrev main_v137 : Ref sig .tc := ⟨.hbm, 173, rfl⟩
abbrev main_c_31 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_cst_32 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_c_33 : Ref sig .tc := ⟨.hbm, 188, rfl⟩
abbrev main_v150 : Ref sig .tc := ⟨.hbm, 189, rfl⟩
abbrev main_v151 : Ref sig .tc := ⟨.hbm, 190, rfl⟩
abbrev main_c_34 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_c_35 : Ref sig .tc := ⟨.hbm, 195, rfl⟩
abbrev main_v155 : Ref sig .tc := ⟨.hbm, 196, rfl⟩
abbrev main_v156 : Ref sig .tc := ⟨.hbm, 197, rfl⟩
abbrev main_c_36 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_cst_37 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩

abbrev nD : Nat := 1
abbrev τ : Topo := Topo.v7x

variable {F : FTy → Type} [FloatOps F]
-- ==== LruFwd.lean ====
abbrev S3x4096x1024 : Shape := ⟨3, ![3, 4096, 1024]⟩
abbrev S4x1024 : Shape := ⟨2, ![4, 1024]⟩
abbrev S1024 : Shape := ⟨1, ![1024]⟩
abbrev S2x8x128x128 : Shape := ⟨4, ![2, 8, 128, 128]⟩
abbrev S2x1024 : Shape := ⟨2, ![2, 1024]⟩
abbrev S_ : Shape := ⟨0, ![]⟩
abbrev S6x1024 : Shape := ⟨2, ![6, 1024]⟩
abbrev S16x1024 : Shape := ⟨2, ![16, 1024]⟩
abbrev S16x8x128 : Shape := ⟨3, ![16, 8, 128]⟩
abbrev S8x16x128 : Shape := ⟨3, ![8, 16, 128]⟩
abbrev S1x8x128x128 : Shape := ⟨4, ![1, 8, 128, 128]⟩
abbrev S8x128x128 : Shape := ⟨3, ![8, 128, 128]⟩
abbrev S8x128x512 : Shape := ⟨3, ![8, 128, 512]⟩
abbrev S4096x2048 : Shape := ⟨2, ![4096, 2048]⟩
abbrev S1x1024 : Shape := ⟨2, ![1, 1024]⟩
abbrev S8x128 : Shape := ⟨2, ![8, 128]⟩
abbrev S4112x1024 : Shape := ⟨2, ![4112, 1024]⟩
abbrev S1x4096x128 : Shape := ⟨3, ![1, 4096, 128]⟩
abbrev S1x16x128 : Shape := ⟨3, ![1, 16, 128]⟩
abbrev S1x128 : Shape := ⟨2, ![1, 128]⟩
abbrev S1x128x512 : Shape := ⟨3, ![1, 128, 512]⟩
abbrev S4096x128 : Shape := ⟨2, ![4096, 128]⟩
abbrev S4112x128 : Shape := ⟨2, ![4112, 128]⟩
abbrev S2x4096x128 : Shape := ⟨3, ![2, 4096, 128]⟩
abbrev S1x256x128 : Shape := ⟨3, ![1, 256, 128]⟩
abbrev S256x128 : Shape := ⟨2, ![256, 128]⟩
abbrev S1x1x128 : Shape := ⟨3, ![1, 1, 128]⟩
abbrev S272x128 : Shape := ⟨2, ![272, 128]⟩
abbrev S128x512 : Shape := ⟨2, ![128, 512]⟩
abbrev S256x512 : Shape := ⟨2, ![256, 512]⟩
abbrev S1x8x128 : Shape := ⟨3, ![1, 8, 128]⟩
abbrev S4096x1024 : Shape := ⟨2, ![4096, 1024]⟩

abbrev nBuf : Space → Nat
  | .hbm => 32
  | .vmem => 20
  | .smem => 0
  | _ => 0

abbrev bufTy : (tb : Table) → Fin (tcTables nBuf tb) → BufTy
  | .hbm, ⟨0, _⟩ => ⟨S3x4096x1024, .f32⟩
  | .hbm, ⟨1, _⟩ => ⟨S4x1024, .f32⟩
  | .hbm, ⟨2, _⟩ => ⟨S1024, .f32⟩
  | .hbm, ⟨3, _⟩ => ⟨S2x8x128x128, .f32⟩
  | .hbm, ⟨4, _⟩ => ⟨S2x1024, .f32⟩
  | .hbm, ⟨5, _⟩ => ⟨S2x8x128x128, .f32⟩
  | .hbm, ⟨6, _⟩ => ⟨S2x1024, .f32⟩
  | .hbm, ⟨7, _⟩ => ⟨S2x1024, .f32⟩
  | .hbm, ⟨8, _⟩ => ⟨S_, .f32⟩
  | .hbm, ⟨9, _⟩ => ⟨S6x1024, .f32⟩
  | .hbm, ⟨10, _⟩ => ⟨S16x1024, .f32⟩
  | .hbm, ⟨11, _⟩ => ⟨S16x8x128, .f32⟩
  | .hbm, ⟨12, _⟩ => ⟨S8x16x128, .f32⟩
  | .hbm, ⟨13, _⟩ => ⟨S1x8x128x128, .f32⟩
  | .hbm, ⟨14, _⟩ => ⟨S8x128x128, .f32⟩
  | .hbm, ⟨15, _⟩ => ⟨S1x8x128x128, .f32⟩
  | .hbm, ⟨16, _⟩ => ⟨S8x128x128, .f32⟩
  | .hbm, ⟨17, _⟩ => ⟨S1x8x128x128, .f32⟩
  | .hbm, ⟨18, _⟩ => ⟨S8x128x128, .f32⟩
  | .hbm, ⟨19, _⟩ => ⟨S1x8x128x128, .f32⟩
  | .hbm, ⟨20, _⟩ => ⟨S8x128x128, .f32⟩
  | .hbm, ⟨21, _⟩ => ⟨S8x128x512, .f32⟩
  | .hbm, ⟨22, _⟩ => ⟨S8x128x512, .bf16⟩
  | .hbm, ⟨23, _⟩ => ⟨S_, .bf16⟩
  | .hbm, ⟨24, _⟩ => ⟨S4096x2048, .bf16⟩
  | .hbm, ⟨25, _⟩ => ⟨S1x1024, .f32⟩
  | .hbm, ⟨26, _⟩ => ⟨S_, .f32⟩
  | .hbm, ⟨27, _⟩ => ⟨S8x128, .f32⟩
  | .hbm, ⟨28, _⟩ => ⟨S4096x2048, .bf16⟩
  | .hbm, ⟨29, _⟩ => ⟨S4112x1024, .f32⟩
  | .hbm, ⟨30, _⟩ => ⟨S4112x1024, .f32⟩
  | .hbm, ⟨31, _⟩ => ⟨S4096x1024, .bf16⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x16x128, .f32⟩
  | .local _ .vmem, ⟨5, _⟩ => ⟨S1x16x128, .f32⟩
  | .local _ .vmem, ⟨6, _⟩ => ⟨S1x128, .f32⟩
  | .local _ .vmem, ⟨7, _⟩ => ⟨S1x128, .f32⟩
  | .local _ .vmem, ⟨8, _⟩ => ⟨S1x128x512, .bf16⟩
  | .local _ .vmem, ⟨9, _⟩ => ⟨S1x128x512, .bf16⟩
  | .local _ .vmem, ⟨10, _⟩ => ⟨S8x128, .f32⟩
  | .local _ .vmem, ⟨11, _⟩ => ⟨S4096x128, .bf16⟩
  | .local _ .vmem, ⟨12, _⟩ => ⟨S4096x128, .bf16⟩
  | .local _ .vmem, ⟨13, _⟩ => ⟨S4112x128, .f32⟩
  | .local _ .vmem, ⟨14, _⟩ => ⟨S4112x128, .f32⟩
  | .local _ .vmem, ⟨15, _⟩ => ⟨S4112x128, .f32⟩
  | .local _ .vmem, ⟨16, _⟩ => ⟨S4112x128, .f32⟩
  | .local _ .vmem, ⟨17, _⟩ => ⟨S4112x128, .f32⟩
  | .local _ .vmem, ⟨18, _⟩ => ⟨S2x4096x128, .f32⟩
  | .local _ .vmem, ⟨19, _⟩ => ⟨S2x4096x128, .f32⟩
  | _, _ => ⟨S3x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v11 : BitVec 32 := Scalar.addi c0_i32 c16_i32
  let c1_i32 : BitVec 32 := 1#32
  ⟨c0_i32, v11, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c256_i32 : BitVec 32 := 256#32
  let v70 : BitVec 32 := Scalar.muli arg14 c256_i32
  v70
def k0_off1 (k0_t1 : Fin k0_t1_loop.trips) : Fin 3 → Nat :=
  let c0_45 : Index := 0#32
  let c0_i32 : BitVec 32 := 0#32
  let c1_i32 : BitVec 32 := 1#32
  let arg14 : BitVec 32 := Scf.iv c0_i32 c1_i32 k0_t1
  let c256_i32 : BitVec 32 := 256#32
  let v70 : BitVec 32 := Scalar.muli arg14 c256_i32
  let v71 : BitVec 32 := v70
  let v72 : Index := Scalar.indexCast v71
  let c0_46 : Index := 0#32
  ![0, v72.toNat, 0]
def k0_off2 (k0_t1 : Fin k0_t1_loop.trips) : Fin 2 → Nat :=
  let c8_i32 : BitVec 32 := 8#32
  let c0_i32 : BitVec 32 := 0#32
  let c1_i32 : BitVec 32 := 1#32
  let arg14 : BitVec 32 := Scf.iv c0_i32 c1_i32 k0_t1
  let c256_i32 : BitVec 32 := 256#32
  let v70 : BitVec 32 := Scalar.muli arg14 c256_i32
  let v71 : BitVec 32 := v70
  let v75 : BitVec 32 := Scalar.addi c8_i32 v71
  let v76 : Index := Scalar.indexCast v75
  let c0_47 : Index := 0#32
  ![v76.toNat, 0]
@[reducible] def k0_t2_loop : Scf.Loop 32 :=
  let c0_i32_33 : BitVec 32 := 0#32
  let c16_i32_34 : BitVec 32 := 16#32
  let v64 : BitVec 32 := Scalar.addi c0_i32_33 c16_i32_34
  let c1_i32_35 : BitVec 32 := 1#32
  ⟨c0_i32_33, v64, c1_i32_35⟩
def k0_mult2 (k0_t2 : Fin k0_t2_loop.trips) : BitVec 32 :=
  let c0_i32_33 : BitVec 32 := 0#32
  let c1_i32_35 : BitVec 32 := 1#32
  let arg14 : BitVec 32 := Scf.iv c0_i32_33 c1_i32_35 k0_t2
  let c256_i32 : BitVec 32 := 256#32
  let v70 : BitVec 32 := Scalar.muli arg14 c256_i32
  v70
def k0_off3 (k0_t2 : Fin k0_t2_loop.trips) : Fin 2 → Nat :=
  let c0_i32_33 : BitVec 32 := 0#32
  let c1_i32_35 : BitVec 32 := 1#32
  let arg14 : BitVec 32 := Scf.iv c0_i32_33 c1_i32_35 k0_t2
  let c256_i32 : BitVec 32 := 256#32
  let v70 : BitVec 32 := Scalar.muli arg14 c256_i32
  let v71 : BitVec 32 := v70
  let v72 : Index := Scalar.indexCast v71
  let c0_45 : Index := 0#32
  ![v72.toNat, 0]
def k0_off4 (k0_t2 : Fin k0_t2_loop.trips) : Fin 3 → Nat :=
  let c0_78 : Index := 0#32
  let c0_i32_33 : BitVec 32 := 0#32
  let c1_i32_35 : BitVec 32 := 1#32
  let arg14 : BitVec 32 := Scf.iv c0_i32_33 c1_i32_35 k0_t2
  let c256_i32 : BitVec 32 := 256#32
  let v70 : BitVec 32 := Scalar.muli arg14 c256_i32
  let v71 : BitVec 32 := v70
  let v151 : Index := Scalar.indexCast v71
  let c0_79 : Index := 0#32
  ![0, v151.toNat, 0]
def k0_off5 (k0_t2 : Fin k0_t2_loop.trips) : Fin 3 → Nat :=
  let c1_100 : Index := 1#32
  let c0_i32_33 : BitVec 32 := 0#32
  let c1_i32_35 : BitVec 32 := 1#32
  let arg14 : BitVec 32 := Scf.iv c0_i32_33 c1_i32_35 k0_t2
  let c256_i32 : BitVec 32 := 256#32
  let v70 : BitVec 32 := Scalar.muli arg14 c256_i32
  let v71 : BitVec 32 := v70
  let v209 : Index := Scalar.indexCast v71
  let c0_101 : Index := 0#32
  ![1, v209.toNat, 0]
@[reducible] def k0_t3_loop : Scf.Loop 32 :=
  let c0_i32_38 : BitVec 32 := 0#32
  let c64_i32 : BitVec 32 := 64#32
  let v67 : BitVec 32 := Scalar.addi c0_i32_38 c64_i32
  let c1_i32_39 : BitVec 32 := 1#32
  ⟨c0_i32_38, v67, c1_i32_39⟩
def k0_mult3 (k0_t3 : Fin k0_t3_loop.trips) : BitVec 32 :=
  let c0_i32_38 : BitVec 32 := 0#32
  let c1_i32_39 : BitVec 32 := 1#32
  let arg14 : BitVec 32 := Scf.iv c0_i32_38 c1_i32_39 k0_t3
  let c8_i32 : BitVec 32 := 8#32
  let v70 : BitVec 32 := Scalar.muli arg14 c8_i32
  let c0_i32_45 : BitVec 32 := 0#32
  let v71 : BitVec 32 := Scalar.addi v70 c0_i32_45
  let c8_i32_54 : BitVec 32 := 8#32
  let v86 : BitVec 32 := Scalar.muli v71 c8_i32_54
  v86
def k0_off6 (k0_t3 : Fin k0_t3_loop.trips) (c0_i32_45 : BitVec 32) : Fin 3 → Nat :=
  let c0_55 : Index := 0#32
  let c0_i32_38 : BitVec 32 := 0#32
  let c1_i32_39 : BitVec 32 := 1#32
  let arg14 : BitVec 32 := Scf.iv c0_i32_38 c1_i32_39 k0_t3
  let c8_i32 : BitVec 32 := 8#32
  let v70 : BitVec 32 := Scalar.muli arg14 c8_i32
  let v71 : BitVec 32 := Scalar.addi v70 c0_i32_45
  let c8_i32_54 : BitVec 32 := 8#32
  let v86 : BitVec 32 := Scalar.muli v71 c8_i32_54
  let v87 : BitVec 32 := v86
  let v88 : Index := Scalar.indexCast v87
  let c0_56 : Index := 0#32
  ![0, v88.toNat, 0]
def k0_mult4 (k0_t3 : Fin k0_t3_loop.trips) : BitVec 32 :=
  let c0_i32_38 : BitVec 32 := 0#32
  let c1_i32_39 : BitVec 32 := 1#32
  let arg14 : BitVec 32 := Scf.iv c0_i32_38 c1_i32_39 k0_t3
  let c8_i32_46 : BitVec 32 := 8#32
  let v72 : BitVec 32 := Scalar.muli arg14 c8_i32_46
  let c1_i32_47 : BitVec 32 := 1#32
  let v73 : BitVec 32 := Scalar.addi v72 c1_i32_47
  let c8_i32_74 : BitVec 32 := 8#32
  let v127 : BitVec 32 := Scalar.muli v73 c8_i32_74
  v127
def k0_mult5 (k0_t3 : Fin k0_t3_loop.trips) : BitVec 32 :=
  let c0_i32_38 : BitVec 32 := 0#32
  let c1_i32_39 : BitVec 32 := 1#32
  let arg14 : BitVec 32 := Scf.iv c0_i32_38 c1_i32_39 k0_t3
  let c8_i32_48 : BitVec 32 := 8#32
  let v74 : BitVec 32 := Scalar.muli arg14 c8_i32_48
  let c2_i32 : BitVec 32 := 2#32
  let v75 : BitVec 32 := Scalar.addi v74 c2_i32
  let c8_i32_94 : BitVec 32 := 8#32
  let v168 : BitVec 32 := Scalar.muli v75 c8_i32_94
  v168
def k0_mult6 (k0_t3 : Fin k0_t3_loop.trips) : BitVec 32 :=
  let c0_i32_38 : BitVec 32 := 0#32
  let c1_i32_39 : BitVec 32 := 1#32
  let arg14 : BitVec 32 := Scf.iv c0_i32_38 c1_i32_39 k0_t3
  let c8_i32_49 : BitVec 32 := 8#32
  let v76 : BitVec 32 := Scalar.muli arg14 c8_i32_49
  let c3_i32 : BitVec 32 := 3#32
  let v77 : BitVec 32 := Scalar.addi v76 c3_i32
  let c8_i32_114 : BitVec 32 := 8#32
  let v209 : BitVec 32 := Scalar.muli v77 c8_i32_114
  v209
def k0_mult7 (k0_t3 : Fin k0_t3_loop.trips) : BitVec 32 :=
  let c0_i32_38 : BitVec 32 := 0#32
  let c1_i32_39 : BitVec 32 := 1#32
  let arg14 : BitVec 32 := Scf.iv c0_i32_38 c1_i32_39 k0_t3
  let c8_i32_50 : BitVec 32 := 8#32
  let v78 : BitVec 32 := Scalar.muli arg14 c8_i32_50
  let c4_i32 : BitVec 32 := 4#32
  let v79 : BitVec 32 := Scalar.addi v78 c4_i32
  let c8_i32_134 : BitVec 32 := 8#32
  let v250 : BitVec 32 := Scalar.muli v79 c8_i32_134
  v250
def k0_mult8 (k0_t3 : Fin k0_t3_loop.trips) : BitVec 32 :=
  let c0_i32_38 : BitVec 32 := 0#32
  let c1_i32_39 : BitVec 32 := 1#32
  let arg14 : BitVec 32 := Scf.iv c0_i32_38 c1_i32_39 k0_t3
  let c8_i32_51 : BitVec 32 := 8#32
  let v80 : BitVec 32 := Scalar.muli arg14 c8_i32_51
  let c5_i32 : BitVec 32 := 5#32
  let v81 : BitVec 32 := Scalar.addi v80 c5_i32
  let c8_i32_154 : BitVec 32 := 8#32
  let v291 : BitVec 32 := Scalar.muli v81 c8_i32_154
  v291
def k0_mult9 (k0_t3 : Fin k0_t3_loop.trips) : BitVec 32 :=
  let c0_i32_38 : BitVec 32 := 0#32
  let c1_i32_39 : BitVec 32 := 1#32
  let arg14 : BitVec 32 := Scf.iv c0_i32_38 c1_i32_39 k0_t3
  let c8_i32_52 : BitVec 32 := 8#32
  let v82 : BitVec 32 := Scalar.muli arg14 c8_i32_52
  let c6_i32 : BitVec 32 := 6#32
  let v83 : BitVec 32 := Scalar.addi v82 c6_i32
  let c8_i32_174 : BitVec 32 := 8#32
  let v332 : BitVec 32 := Scalar.muli v83 c8_i32_174
  v332
def k0_mult10 (k0_t3 : Fin k0_t3_loop.trips) : BitVec 32 :=
  let c0_i32_38 : BitVec 32 := 0#32
  let c1_i32_39 : BitVec 32 := 1#32
  let arg14 : BitVec 32 := Scf.iv c0_i32_38 c1_i32_39 k0_t3
  let c8_i32_53 : BitVec 32 := 8#32
  let v84 : BitVec 32 := Scalar.muli arg14 c8_i32_53
  let c7_i32 : BitVec 32 := 7#32
  let v85 : BitVec 32 := Scalar.addi v84 c7_i32
  let c8_i32_194 : BitVec 32 := 8#32
  let v373 : BitVec 32 := Scalar.muli v85 c8_i32_194
  v373
def k0_mult11 (k0_t3 : Fin k0_t3_loop.trips) : BitVec 32 :=
  let c8_i32_215 : BitVec 32 := 8#32
  let c0_i32_38 : BitVec 32 := 0#32
  let c1_i32_39 : BitVec 32 := 1#32
  let arg14 : BitVec 32 := Scf.iv c0_i32_38 c1_i32_39 k0_t3
  let c8_i32 : BitVec 32 := 8#32
  let v70 : BitVec 32 := Scalar.muli arg14 c8_i32
  let c0_i32_45 : BitVec 32 := 0#32
  let v71 : BitVec 32 := Scalar.addi v70 c0_i32_45
  let c8_i32_214 : BitVec 32 := 8#32
  let v416 : BitVec 32 := Scalar.muli v71 c8_i32_214
  let v417 : BitVec 32 := Scalar.addi c8_i32_215 v416
  v417
def k0_off7 (k0_t3 : Fin k0_t3_loop.trips) (c0_i32_45 : BitVec 32) : Fin 2 → Nat :=
  let c8_i32_215 : BitVec 32 := 8#32
  let c0_i32_38 : BitVec 32 := 0#32
  let c1_i32_39 : BitVec 32 := 1#32
  let arg14 : BitVec 32 := Scf.iv c0_i32_38 c1_i32_39 k0_t3
  let c8_i32 : BitVec 32 := 8#32
  let v70 : BitVec 32 := Scalar.muli arg14 c8_i32
  let v71 : BitVec 32 := Scalar.addi v70 c0_i32_45
  let c8_i32_214 : BitVec 32 := 8#32
  let v416 : BitVec 32 := Scalar.muli v71 c8_i32_214
  let v417 : BitVec 32 := Scalar.addi c8_i32_215 v416
  let v418 : BitVec 32 := v417
  let v419 : Index := Scalar.indexCast v418
  let c0_216 : Index := 0#32
  ![v419.toNat, 0]
def k0_mult12 (k0_t3 : Fin k0_t3_loop.trips) : BitVec 32 :=
  let c8_i32_218 : BitVec 32 := 8#32
  let c0_i32_38 : BitVec 32 := 0#32
  let c1_i32_39 : BitVec 32 := 1#32
  let arg14 : BitVec 32 := Scf.iv c0_i32_38 c1_i32_39 k0_t3
  let c8_i32_46 : BitVec 32 := 8#32
  let v72 : BitVec 32 := Scalar.muli arg14 c8_i32_46
  let c1_i32_47 : BitVec 32 := 1#32
  let v73 : BitVec 32 := Scalar.addi v72 c1_i32_47
  let c8_i32_217 : BitVec 32 := 8#32
  let v426 : BitVec 32 := Scalar.muli v73 c8_i32_217
  let v427 : BitVec 32 := Scalar.addi c8_i32_218 v426
  v427
def k0_mult13 (k0_t3 : Fin k0_t3_loop.trips) : BitVec 32 :=
  let c8_i32_221 : BitVec 32 := 8#32
  let c0_i32_38 : BitVec 32 := 0#32
  let c1_i32_39 : BitVec 32 := 1#32
  let arg14 : BitVec 32 := Scf.iv c0_i32_38 c1_i32_39 k0_t3
  let c8_i32_48 : BitVec 32 := 8#32
  let v74 : BitVec 32 := Scalar.muli arg14 c8_i32_48
  let c2_i32 : BitVec 32 := 2#32
  let v75 : BitVec 32 := Scalar.addi v74 c2_i32
  let c8_i32_220 : BitVec 32 := 8#32
  let v436 : BitVec 32 := Scalar.muli v75 c8_i32_220
  let v437 : BitVec 32 := Scalar.addi c8_i32_221 v436
  v437
def k0_mult14 (k0_t3 : Fin k0_t3_loop.trips) : BitVec 32 :=
  let c8_i32_224 : BitVec 32 := 8#32
  let c0_i32_38 : BitVec 32 := 0#32
  let c1_i32_39 : BitVec 32 := 1#32
  let arg14 : BitVec 32 := Scf.iv c0_i32_38 c1_i32_39 k0_t3
  let c8_i32_49 : BitVec 32 := 8#32
  let v76 : BitVec 32 := Scalar.muli arg14 c8_i32_49
  let c3_i32 : BitVec 32 := 3#32
  let v77 : BitVec 32 := Scalar.addi v76 c3_i32
  let c8_i32_223 : BitVec 32 := 8#32
  let v446 : BitVec 32 := Scalar.muli v77 c8_i32_223
  let v447 : BitVec 32 := Scalar.addi c8_i32_224 v446
  v447
def k0_mult15 (k0_t3 : Fin k0_t3_loop.trips) : BitVec 32 :=
  let c8_i32_227 : BitVec 32 := 8#32
  let c0_i32_38 : BitVec 32 := 0#32
  let c1_i32_39 : BitVec 32 := 1#32
  let arg14 : BitVec 32 := Scf.iv c0_i32_38 c1_i32_39 k0_t3
  let c8_i32_50 : BitVec 32 := 8#32
  let v78 : BitVec 32 := Scalar.muli arg14 c8_i32_50
  let c4_i32 : BitVec 32 := 4#32
  let v79 : BitVec 32 := Scalar.addi v78 c4_i32
  let c8_i32_226 : BitVec 32 := 8#32
  let v456 : BitVec 32 := Scalar.muli v79 c8_i32_226
  let v457 : BitVec 32 := Scalar.addi c8_i32_227 v456
  v457
def k0_mult16 (k0_t3 : Fin k0_t3_loop.trips) : BitVec 32 :=
  let c8_i32_230 : BitVec 32 := 8#32
  let c0_i32_38 : BitVec 32 := 0#32
  let c1_i32_39 : BitVec 32 := 1#32
  let arg14 : BitVec 32 := Scf.iv c0_i32_38 c1_i32_39 k0_t3
  let c8_i32_51 : BitVec 32 := 8#32
  let v80 : BitVec 32 := Scalar.muli arg14 c8_i32_51
  let c5_i32 : BitVec 32 := 5#32
  let v81 : BitVec 32 := Scalar.addi v80 c5_i32
  let c8_i32_229 : BitVec 32 := 8#32
  let v466 : BitVec 32 := Scalar.muli v81 c8_i32_229
  let v467 : BitVec 32 := Scalar.addi c8_i32_230 v466
  v467
def k0_mult17 (k0_t3 : Fin k0_t3_loop.trips) : BitVec 32 :=
  let c8_i32_233 : BitVec 32 := 8#32
  let c0_i32_38 : BitVec 32 := 0#32
  let c1_i32_39 : BitVec 32 := 1#32
  let arg14 : BitVec 32 := Scf.iv c0_i32_38 c1_i32_39 k0_t3
  let c8_i32_52 : BitVec 32 := 8#32
  let v82 : BitVec 32 := Scalar.muli arg14 c8_i32_52
  let c6_i32 : BitVec 32 := 6#32
  let v83 : BitVec 32 := Scalar.addi v82 c6_i32
  let c8_i32_232 : BitVec 32 := 8#32
  let v476 : BitVec 32 := Scalar.muli v83 c8_i32_232
  let v477 : BitVec 32 := Scalar.addi c8_i32_233 v476
  v477
def k0_mult18 (k0_t3 : Fin k0_t3_loop.trips) : BitVec 32 :=
  let c8_i32_236 : BitVec 32 := 8#32
  let c0_i32_38 : BitVec 32 := 0#32
  let c1_i32_39 : BitVec 32 := 1#32
  let arg14 : BitVec 32 := Scf.iv c0_i32_38 c1_i32_39 k0_t3
  let c8_i32_53 : BitVec 32 := 8#32
  let v84 : BitVec 32 := Scalar.muli arg14 c8_i32_53
  let c7_i32 : BitVec 32 := 7#32
  let v85 : BitVec 32 := Scalar.addi v84 c7_i32
  let c8_i32_235 : BitVec 32 := 8#32
  let v486 : BitVec 32 := Scalar.muli v85 c8_i32_235
  let v487 : BitVec 32 := Scalar.addi c8_i32_236 v486
  v487
def k0_mult19 (k0_t3 : Fin k0_t3_loop.trips) : BitVec 32 :=
  let c511_i32 : BitVec 32 := 511#32
  let c0_i32_38 : BitVec 32 := 0#32
  let c1_i32_39 : BitVec 32 := 1#32
  let arg14 : BitVec 32 := Scf.iv c0_i32_38 c1_i32_39 k0_t3
  let c8_i32_238 : BitVec 32 := 8#32
  let v494 : BitVec 32 := Scalar.muli arg14 c8_i32_238
  let c0_i32_239 : BitVec 32 := 0#32
  let v495 : BitVec 32 := Scalar.addi v494 c0_i32_239
  let v496 : BitVec 32 := Scalar.subi c511_i32 v495
  let c8_i32_261 : BitVec 32 := 8#32
  let v518 : BitVec 32 := Scalar.muli v496 c8_i32_261
  v518
def k0_off8 (k0_t3 : Fin k0_t3_loop.trips) (c0_i32_239 : BitVec 32) : Fin 3 → Nat :=
  let c1 : Index := 1#32
  let c511_i32 : BitVec 32 := 511#32
  let c0_i32_38 : BitVec 32 := 0#32
  let c1_i32_39 : BitVec 32 := 1#32
  let arg14 : BitVec 32 := Scf.iv c0_i32_38 c1_i32_39 k0_t3
  let c8_i32_238 : BitVec 32 := 8#32
  let v494 : BitVec 32 := Scalar.muli arg14 c8_i32_238
  let v495 : BitVec 32 := Scalar.addi v494 c0_i32_239
  let v496 : BitVec 32 := Scalar.subi c511_i32 v495
  let c8_i32_261 : BitVec 32 := 8#32
  let v518 : BitVec 32 := Scalar.muli v496 c8_i32_261
  let v519 : BitVec 32 := v518
  let v520 : Index := Scalar.indexCast v519
  let c0_262 : Index := 0#32
  ![1, v520.toNat, 0]
def k0_mult20 (k0_t3 : Fin k0_t3_loop.trips) : BitVec 32 :=
  let c511_i32_242 : BitVec 32 := 511#32
  let c0_i32_38 : BitVec 32 := 0#32
  let c1_i32_39 : BitVec 32 := 1#32
  let arg14 : BitVec 32 := Scf.iv c0_i32_38 c1_i32_39 k0_t3
  let c8_i32_240 : BitVec 32 := 8#32
  let v497 : BitVec 32 := Scalar.muli arg14 c8_i32_240
  let c1_i32_241 : BitVec 32 := 1#32
  let v498 : BitVec 32 := Scalar.addi v497 c1_i32_241
  let v499 : BitVec 32 := Scalar.subi c511_i32_242 v498
  let c8_i32_280 : BitVec 32 := 8#32
  let v559 : BitVec 32 := Scalar.muli v499 c8_i32_280
  v559
def k0_mult21 (k0_t3 : Fin k0_t3_loop.trips) : BitVec 32 :=
  let c511_i32_245 : BitVec 32 := 511#32
  let c0_i32_38 : BitVec 32 := 0#32
  let c1_i32_39 : BitVec 32 := 1#32
  let arg14 : BitVec 32 := Scf.iv c0_i32_38 c1_i32_39 k0_t3
  let c8_i32_243 : BitVec 32 := 8#32
  let v500 : BitVec 32 := Scalar.muli arg14 c8_i32_243
  let c2_i32_244 : BitVec 32 := 2#32
  let v501 : BitVec 32 := Scalar.addi v500 c2_i32_244
  let v502 : BitVec 32 := Scalar.subi c511_i32_245 v501
  let c8_i32_300 : BitVec 32 := 8#32
  let v600 : BitVec 32 := Scalar.muli v502 c8_i32_300
  v600
def k0_mult22 (k0_t3 : Fin k0_t3_loop.trips) : BitVec 32 :=
  let c511_i32_248 : BitVec 32 := 511#32
  let c0_i32_38 : BitVec 32 := 0#32
  let c1_i32_39 : BitVec 32 := 1#32
  let arg14 : BitVec 32 := Scf.iv c0_i32_38 c1_i32_39 k0_t3
  let c8_i32_246 : BitVec 32 := 8#32
  let v503 : BitVec 32 := Scalar.muli arg14 c8_i32_246
  let c3_i32_247 : BitVec 32 := 3#32
  let v504 : BitVec 32 := Scalar.addi v503 c3_i32_247
  let v505 : BitVec 32 := Scalar.subi c511_i32_248 v504
  let c8_i32_320 : BitVec 32 := 8#32
  let v641 : BitVec 32 := Scalar.muli v505 c8_i32_320
  v641
def k0_mult23 (k0_t3 : Fin k0_t3_loop.trips) : BitVec 32 :=
  let c511_i32_251 : BitVec 32 := 511#32
  let c0_i32_38 : BitVec 32 := 0#32
  let c1_i32_39 : BitVec 32 := 1#32
  let arg14 : BitVec 32 := Scf.iv c0_i32_38 c1_i32_39 k0_t3
  let c8_i32_249 : BitVec 32 := 8#32
  let v506 : BitVec 32 := Scalar.muli arg14 c8_i32_249
  let c4_i32_250 : BitVec 32 := 4#32
  let v507 : BitVec 32 := Scalar.addi v506 c4_i32_250
  let v508 : BitVec 32 := Scalar.subi c511_i32_251 v507
  let c8_i32_340 : BitVec 32 := 8#32
  let v682 : BitVec 32 := Scalar.muli v508 c8_i32_340
  v682
def k0_mult24 (k0_t3 : Fin k0_t3_loop.trips) : BitVec 32 :=
  let c511_i32_254 : BitVec 32 := 511#32
  let c0_i32_38 : BitVec 32 := 0#32
  let c1_i32_39 : BitVec 32 := 1#32
  let arg14 : BitVec 32 := Scf.iv c0_i32_38 c1_i32_39 k0_t3
  let c8_i32_252 : BitVec 32 := 8#32
  let v509 : BitVec 32 := Scalar.muli arg14 c8_i32_252
  let c5_i32_253 : BitVec 32 := 5#32
  let v510 : BitVec 32 := Scalar.addi v509 c5_i32_253
  let v511 : BitVec 32 := Scalar.subi c511_i32_254 v510
  let c8_i32_360 : BitVec 32 := 8#32
  let v723 : BitVec 32 := Scalar.muli v511 c8_i32_360
  v723
def k0_mult25 (k0_t3 : Fin k0_t3_loop.trips) : BitVec 32 :=
  let c511_i32_257 : BitVec 32 := 511#32
  let c0_i32_38 : BitVec 32 := 0#32
  let c1_i32_39 : BitVec 32 := 1#32
  let arg14 : BitVec 32 := Scf.iv c0_i32_38 c1_i32_39 k0_t3
  let c8_i32_255 : BitVec 32 := 8#32
  let v512 : BitVec 32 := Scalar.muli arg14 c8_i32_255
  let c6_i32_256 : BitVec 32 := 6#32
  let v513 : BitVec 32 := Scalar.addi v512 c6_i32_256
  let v514 : BitVec 32 := Scalar.subi c511_i32_257 v513
  let c8_i32_380 : BitVec 32 := 8#32
  let v764 : BitVec 32 := Scalar.muli v514 c8_i32_380
  v764
def k0_mult26 (k0_t3 : Fin k0_t3_loop.trips) : BitVec 32 :=
  let c511_i32_260 : BitVec 32 := 511#32
  let c0_i32_38 : BitVec 32 := 0#32
  let c1_i32_39 : BitVec 32 := 1#32
  let arg14 : BitVec 32 := Scf.iv c0_i32_38 c1_i32_39 k0_t3
  let c8_i32_258 : BitVec 32 := 8#32
  let v515 : BitVec 32 := Scalar.muli arg14 c8_i32_258
  let c7_i32_259 : BitVec 32 := 7#32
  let v516 : BitVec 32 := Scalar.addi v515 c7_i32_259
  let v517 : BitVec 32 := Scalar.subi c511_i32_260 v516
  let c8_i32_400 : BitVec 32 := 8#32
  let v805 : BitVec 32 := Scalar.muli v517 c8_i32_400
  v805
def k0_mult27 (k0_t3 : Fin k0_t3_loop.trips) : BitVec 32 :=
  let c8_i32_421 : BitVec 32 := 8#32
  let c511_i32 : BitVec 32 := 511#32
  let c0_i32_38 : BitVec 32 := 0#32
  let c1_i32_39 : BitVec 32 := 1#32
  let arg14 : BitVec 32 := Scf.iv c0_i32_38 c1_i32_39 k0_t3
  let c8_i32_238 : BitVec 32 := 8#32
  let v494 : BitVec 32 := Scalar.muli arg14 c8_i32_238
  let c0_i32_239 : BitVec 32 := 0#32
  let v495 : BitVec 32 := Scalar.addi v494 c0_i32_239
  let v496 : BitVec 32 := Scalar.subi c511_i32 v495
  let c8_i32_420 : BitVec 32 := 8#32
  let v848 : BitVec 32 := Scalar.muli v496 c8_i32_420
  let v849 : BitVec 32 := Scalar.addi c8_i32_421 v848
  v849
def k0_off9 (k0_t3 : Fin k0_t3_loop.trips) (c0_i32_239 : BitVec 32) : Fin 2 → Nat :=
  let c8_i32_421 : BitVec 32 := 8#32
  let c511_i32 : BitVec 32 := 511#32
  let c0_i32_38 : BitVec 32 := 0#32
  let c1_i32_39 : BitVec 32 := 1#32
  let arg14 : BitVec 32 := Scf.iv c0_i32_38 c1_i32_39 k0_t3
  let c8_i32_238 : BitVec 32 := 8#32
  let v494 : BitVec 32 := Scalar.muli arg14 c8_i32_238
  let v495 : BitVec 32 := Scalar.addi v494 c0_i32_239
  let v496 : BitVec 32 := Scalar.subi c511_i32 v495
  let c8_i32_420 : BitVec 32 := 8#32
  let v848 : BitVec 32 := Scalar.muli v496 c8_i32_420
  let v849 : BitVec 32 := Scalar.addi c8_i32_421 v848
  let v850 : BitVec 32 := v849
  let v851 : Index := Scalar.indexCast v850
  let c0_422 : Index := 0#32
  ![v851.toNat, 0]
def k0_mult28 (k0_t3 : Fin k0_t3_loop.trips) : BitVec 32 :=
  let c8_i32_424 : BitVec 32 := 8#32
  let c511_i32_242 : BitVec 32 := 511#32
  let c0_i32_38 : BitVec 32 := 0#32
  let c1_i32_39 : BitVec 32 := 1#32
  let arg14 : BitVec 32 := Scf.iv c0_i32_38 c1_i32_39 k0_t3
  let c8_i32_240 : BitVec 32 := 8#32
  let v497 : BitVec 32 := Scalar.muli arg14 c8_i32_240
  let c1_i32_241 : BitVec 32 := 1#32
  let v498 : BitVec 32 := Scalar.addi v497 c1_i32_241
  let v499 : BitVec 32 := Scalar.subi c511_i32_242 v498
  let c8_i32_423 : BitVec 32 := 8#32
  let v858 : BitVec 32 := Scalar.muli v499 c8_i32_423
  let v859 : BitVec 32 := Scalar.addi c8_i32_424 v858
  v859
def k0_mult29 (k0_t3 : Fin k0_t3_loop.trips) : BitVec 32 :=
  let c8_i32_427 : BitVec 32 := 8#32
  let c511_i32_245 : BitVec 32 := 511#32
  let c0_i32_38 : BitVec 32 := 0#32
  let c1_i32_39 : BitVec 32 := 1#32
  let arg14 : BitVec 32 := Scf.iv c0_i32_38 c1_i32_39 k0_t3
  let c8_i32_243 : BitVec 32 := 8#32
  let v500 : BitVec 32 := Scalar.muli arg14 c8_i32_243
  let c2_i32_244 : BitVec 32 := 2#32
  let v501 : BitVec 32 := Scalar.addi v500 c2_i32_244
  let v502 : BitVec 32 := Scalar.subi c511_i32_245 v501
  let c8_i32_426 : BitVec 32 := 8#32
  let v868 : BitVec 32 := Scalar.muli v502 c8_i32_426
  let v869 : BitVec 32 := Scalar.addi c8_i32_427 v868
  v869
def k0_mult30 (k0_t3 : Fin k0_t3_loop.trips) : BitVec 32 :=
  let c8_i32_430 : BitVec 32 := 8#32
  let c511_i32_248 : BitVec 32 := 511#32
  let c0_i32_38 : BitVec 32 := 0#32
  let c1_i32_39 : BitVec 32 := 1#32
  let arg14 : BitVec 32 := Scf.iv c0_i32_38 c1_i32_39 k0_t3
  let c8_i32_246 : BitVec 32 := 8#32
  let v503 : BitVec 32 := Scalar.muli arg14 c8_i32_246
  let c3_i32_247 : BitVec 32 := 3#32
  let v504 : BitVec 32 := Scalar.addi v503 c3_i32_247
  let v505 : BitVec 32 := Scalar.subi c511_i32_248 v504
  let c8_i32_429 : BitVec 32 := 8#32
  let v878 : BitVec 32 := Scalar.muli v505 c8_i32_429
  let v879 : BitVec 32 := Scalar.addi c8_i32_430 v878
  v879
def k0_mult31 (k0_t3 : Fin k0_t3_loop.trips) : BitVec 32 :=
  let c8_i32_433 : BitVec 32 := 8#32
  let c511_i32_251 : BitVec 32 := 511#32
  let c0_i32_38 : BitVec 32 := 0#32
  let c1_i32_39 : BitVec 32 := 1#32
  let arg14 : BitVec 32 := Scf.iv c0_i32_38 c1_i32_39 k0_t3
  let c8_i32_249 : BitVec 32 := 8#32
  let v506 : BitVec 32 := Scalar.muli arg14 c8_i32_249
  let c4_i32_250 : BitVec 32 := 4#32
  let v507 : BitVec 32 := Scalar.addi v506 c4_i32_250
  let v508 : BitVec 32 := Scalar.subi c511_i32_251 v507
  let c8_i32_432 : BitVec 32 := 8#32
  let v888 : BitVec 32 := Scalar.muli v508 c8_i32_432
  let v889 : BitVec 32 := Scalar.addi c8_i32_433 v888
  v889
def k0_mult32 (k0_t3 : Fin k0_t3_loop.trips) : BitVec 32 :=
  let c8_i32_436 : BitVec 32 := 8#32
  let c511_i32_254 : BitVec 32 := 511#32
  let c0_i32_38 : BitVec 32 := 0#32
  let c1_i32_39 : BitVec 32 := 1#32
  let arg14 : BitVec 32 := Scf.iv c0_i32_38 c1_i32_39 k0_t3
  let c8_i32_252 : BitVec 32 := 8#32
  let v509 : BitVec 32 := Scalar.muli arg14 c8_i32_252
  let c5_i32_253 : BitVec 32 := 5#32
  let v510 : BitVec 32 := Scalar.addi v509 c5_i32_253
  let v511 : BitVec 32 := Scalar.subi c511_i32_254 v510
  let c8_i32_435 : BitVec 32 := 8#32
  let v898 : BitVec 32 := Scalar.muli v511 c8_i32_435
  let v899 : BitVec 32 := Scalar.addi c8_i32_436 v898
  v899
def k0_mult33 (k0_t3 : Fin k0_t3_loop.trips) : BitVec 32 :=
  let c8_i32_439 : BitVec 32 := 8#32
  let c511_i32_257 : BitVec 32 := 511#32
  let c0_i32_38 : BitVec 32 := 0#32
  let c1_i32_39 : BitVec 32 := 1#32
  let arg14 : BitVec 32 := Scf.iv c0_i32_38 c1_i32_39 k0_t3
  let c8_i32_255 : BitVec 32 := 8#32
  let v512 : BitVec 32 := Scalar.muli arg14 c8_i32_255
  let c6_i32_256 : BitVec 32 := 6#32
  let v513 : BitVec 32 := Scalar.addi v512 c6_i32_256
  let v514 : BitVec 32 := Scalar.subi c511_i32_257 v513
  let c8_i32_438 : BitVec 32 := 8#32
  let v908 : BitVec 32 := Scalar.muli v514 c8_i32_438
  let v909 : BitVec 32 := Scalar.addi c8_i32_439 v908
  v909
def k0_mult34 (k0_t3 : Fin k0_t3_loop.trips) : BitVec 32 :=
  let c8_i32_442 : BitVec 32 := 8#32
  let c511_i32_260 : BitVec 32 := 511#32
  let c0_i32_38 : BitVec 32 := 0#32
  let c1_i32_39 : BitVec 32 := 1#32
  let arg14 : BitVec 32 := Scf.iv c0_i32_38 c1_i32_39 k0_t3
  let c8_i32_258 : BitVec 32 := 8#32
  let v515 : BitVec 32 := Scalar.muli arg14 c8_i32_258
  let c7_i32_259 : BitVec 32 := 7#32
  let v516 : BitVec 32 := Scalar.addi v515 c7_i32_259
  let v517 : BitVec 32 := Scalar.subi c511_i32_260 v516
  let c8_i32_441 : BitVec 32 := 8#32
  let v918 : BitVec 32 := Scalar.muli v517 c8_i32_441
  let v919 : BitVec 32 := Scalar.addi c8_i32_442 v918
  v919
@[reducible] def k0_t4_loop : Scf.Loop 32 :=
  let c0_i32_41 : BitVec 32 := 0#32
  let c16_i32_42 : BitVec 32 := 16#32
  let v69 : BitVec 32 := Scalar.addi c0_i32_41 c16_i32_42
  let c1_i32_43 : BitVec 32 := 1#32
  ⟨c0_i32_41, v69, c1_i32_43⟩
def k0_mult35 (k0_t4 : Fin k0_t4_loop.trips) : BitVec 32 :=
  let c0_i32_41 : BitVec 32 := 0#32
  let c1_i32_43 : BitVec 32 := 1#32
  let arg14 : BitVec 32 := Scf.iv c0_i32_41 c1_i32_43 k0_t4
  let c256_i32 : BitVec 32 := 256#32
  let v70 : BitVec 32 := Scalar.muli arg14 c256_i32
  v70
def k0_off10 (k0_t4 : Fin k0_t4_loop.trips) : Fin 2 → Nat :=
  let c8_i32 : BitVec 32 := 8#32
  let c0_i32_41 : BitVec 32 := 0#32
  let c1_i32_43 : BitVec 32 := 1#32
  let arg14 : BitVec 32 := Scf.iv c0_i32_41 c1_i32_43 k0_t4
  let c256_i32 : BitVec 32 := 256#32
  let v70 : BitVec 32 := Scalar.muli arg14 c256_i32
  let v71 : BitVec 32 := v70
  let v72 : BitVec 32 := Scalar.addi c8_i32 v71
  let v73 : Index := Scalar.indexCast v72
  let c0_45 : Index := 0#32
  ![v73.toNat, 0]
def k0_off11 (k0_t4 : Fin k0_t4_loop.trips) : Fin 3 → Nat :=
  let c0_48 : Index := 0#32
  let c0_i32_41 : BitVec 32 := 0#32
  let c1_i32_43 : BitVec 32 := 1#32
  let arg14 : BitVec 32 := Scf.iv c0_i32_41 c1_i32_43 k0_t4
  let c256_i32 : BitVec 32 := 256#32
  let v70 : BitVec 32 := Scalar.muli arg14 c256_i32
  let v71 : BitVec 32 := v70
  let v81 : Index := Scalar.indexCast v71
  let c0_49 : Index := 0#32
  ![0, v81.toNat, 0]
def k0_off12 (k0_t4 : Fin k0_t4_loop.trips) : Fin 2 → Nat :=
  let c0_i32_41 : BitVec 32 := 0#32
  let c1_i32_43 : BitVec 32 := 1#32
  let arg14 : BitVec 32 := Scf.iv c0_i32_41 c1_i32_43 k0_t4
  let c256_i32 : BitVec 32 := 256#32
  let v70 : BitVec 32 := Scalar.muli arg14 c256_i32
  let v71 : BitVec 32 := v70
  let v99 : Index := Scalar.indexCast v71
  let c0_54 : Index := 0#32
  ![v99.toNat, 0]
def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4112x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4112x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LruFwdIdeal.lean ====
variable {F : FTy → Type} [FloatOps F] [Named F]
def κ : String → Option EReal := fun
  | "series_from" => some ⊤
  | _ => none
-- ==== LruFwdRefIdeal.lean ====
abbrev S3x4096x1024 : Shape := ⟨3, ![3, 4096, 1024]⟩
abbrev S4x1024 : Shape := ⟨2, ![4, 1024]⟩
abbrev S1024 : Shape := ⟨1, ![1024]⟩
abbrev S2x8x128x128 : Shape := ⟨4, ![2, 8, 128, 128]⟩
abbrev S2x1024 : Shape := ⟨2, ![2, 1024]⟩
abbrev S1x4096x1024 : Shape := ⟨3, ![1, 4096, 1024]⟩
abbrev S4096x1024 : Shape := ⟨2, ![4096, 1024]⟩
abbrev S_ : Shape := ⟨0, ![]⟩
abbrev S1x1024 : Shape := ⟨2, ![1, 1024]⟩
abbrev S4099x1024 : Shape := ⟨2, ![4099, 1024]⟩
abbrev S4096x8x128 : Shape := ⟨3, ![4096, 8, 128]⟩
abbrev S8x2x128x4096 : Shape := ⟨4, ![8, 2, 128, 4096]⟩
abbrev S2x4096x8x128 : Shape := ⟨4, ![2, 4096, 8, 128]⟩
abbrev S2x4096x1024 : Shape := ⟨3, ![2, 4096, 1024]⟩
abbrev S2x1x1024 : Shape := ⟨3, ![2, 1, 1024]⟩
abbrev S2x2048x1024 : Shape := ⟨3, ![2, 2048, 1024]⟩
abbrev S2x1024x1024 : Shape := ⟨3, ![2, 1024, 1024]⟩
abbrev S2x512x1024 : Shape := ⟨3, ![2, 512, 1024]⟩
abbrev S2x256x1024 : Shape := ⟨3, ![2, 256, 1024]⟩
abbrev S2x128x1024 : Shape := ⟨3, ![2, 128, 1024]⟩
abbrev S2x64x1024 : Shape := ⟨3, ![2, 64, 1024]⟩
abbrev S2x32x1024 : Shape := ⟨3, ![2, 32, 1024]⟩
abbrev S2x16x1024 : Shape := ⟨3, ![2, 16, 1024]⟩
abbrev S2x8x1024 : Shape := ⟨3, ![2, 8, 1024]⟩
abbrev S2x4x1024 : Shape := ⟨3, ![2, 4, 1024]⟩
abbrev S2x2x1024 : Shape := ⟨3, ![2, 2, 1024]⟩
abbrev S2x0x1024 : Shape := ⟨3, ![2, 0, 1024]⟩
abbrev S2x3x1024 : Shape := ⟨3, ![2, 3, 1024]⟩
abbrev S2x7x1024 : Shape := ⟨3, ![2, 7, 1024]⟩
abbrev S2x15x1024 : Shape := ⟨3, ![2, 15, 1024]⟩
abbrev S2x31x1024 : Shape := ⟨3, ![2, 31, 1024]⟩
abbrev S2x63x1024 : Shape := ⟨3, ![2, 63, 1024]⟩
abbrev S2x127x1024 : Shape := ⟨3, ![2, 127, 1024]⟩
abbrev S2x255x1024 : Shape := ⟨3, ![2, 255, 1024]⟩
abbrev S2x511x1024 : Shape := ⟨3, ![2, 511, 1024]⟩
abbrev S2x1023x1024 : Shape := ⟨3, ![2, 1023, 1024]⟩
abbrev S2x2047x1024 : Shape := ⟨3, ![2, 2047, 1024]⟩
abbrev S8x1024 : Shape := ⟨2, ![8, 1024]⟩
abbrev S4112x1024 : Shape := ⟨2, ![4112, 1024]⟩

abbrev nBuf : Space → Nat
  | .hbm => 489
  | .vmem => 0
  | .smem => 0
  | _ => 0

abbrev hbmTy0_0 (i : Nat) : BufTy := match i % 128 with
  | 0 => ⟨S3x4096x1024, .f32⟩
  | 1 => ⟨S4x1024, .f32⟩
  | 2 => ⟨S1024, .f32⟩
  | 3 => ⟨S2x8x128x128, .f32⟩
  | 4 => ⟨S2x1024, .f32⟩
  | 5 => ⟨S2x8x128x128, .f32⟩
  | 6 => ⟨S2x1024, .f32⟩
  | 7 => ⟨S2x1024, .f32⟩
  | 8 => ⟨S1x4096x1024, .f32⟩
  | 9 => ⟨S4096x1024, .f32⟩
  | 10 => ⟨S_, .f32⟩
  | 11 => ⟨S1x1024, .f32⟩
  | 12 => ⟨S_, .f32⟩
  | 13 => ⟨S2x1024, .f32⟩
  | 14 => ⟨S4099x1024, .f32⟩
  | 15 => ⟨S1x1024, .f32⟩
  | 16 => ⟨S1024, .f32⟩
  | 17 => ⟨S4096x1024, .f32⟩
  | 18 => ⟨S1x1024, .f32⟩
  | 19 => ⟨S4096x1024, .f32⟩
  | 20 => ⟨S4096x1024, .f32⟩
  | 21 => ⟨S1x1024, .f32⟩
  | 22 => ⟨S1024, .f32⟩
  | 23 => ⟨S4096x1024, .f32⟩
  | 24 => ⟨S1x1024, .f32⟩
  | 25 => ⟨S4096x1024, .f32⟩
  | 26 => ⟨S4096x1024, .f32⟩
  | 27 => ⟨S4096x1024, .f32⟩
  | 28 => ⟨S1x1024, .f32⟩
  | 29 => ⟨S1024, .f32⟩
  | 30 => ⟨S4096x1024, .f32⟩
  | 31 => ⟨S1x1024, .f32⟩
  | 32 => ⟨S4096x1024, .f32⟩
  | 33 => ⟨S4096x1024, .f32⟩
  | 34 => ⟨S4096x1024, .f32⟩
  | 35 => ⟨S1x1024, .f32⟩
  | 36 => ⟨S1024, .f32⟩
  | 37 => ⟨S4096x1024, .f32⟩
  | 38 => ⟨S1x1024, .f32⟩
  | 39 => ⟨S4096x1024, .f32⟩
  | 40 => ⟨S4096x1024, .f32⟩
  | 41 => ⟨S4096x1024, .f32⟩
  | 42 => ⟨S1x1024, .f32⟩
  | 43 => ⟨S4096x1024, .f32⟩
  | 44 => ⟨S4096x1024, .f32⟩
  | 45 => ⟨S4096x8x128, .f32⟩
  | 46 => ⟨S8x2x128x4096, .f32⟩
  | 47 => ⟨S2x4096x8x128, .f32⟩
  | 48 => ⟨S2x4096x1024, .f32⟩
  | 49 => ⟨S8x2x128x4096, .f32⟩
  | 50 => ⟨S2x4096x8x128, .f32⟩
  | 51 => ⟨S2x4096x1024, .f32⟩
  | 52 => ⟨S2x1x1024, .f32⟩
  | 53 => ⟨S2x4096x1024, .f32⟩
  | 54 => ⟨S2x4096x1024, .f32⟩
  | 55 => ⟨S2x4096x1024, .f32⟩
  | 56 => ⟨S2x4096x1024, .f32⟩
  | 57 => ⟨S_, .f32⟩
  | 58 => ⟨S2x4096x1024, .f32⟩
  | 59 => ⟨S2x4096x1024, .f32⟩
  | 60 => ⟨S_, .f32⟩
  | 61 => ⟨S2x4096x1024, .f32⟩
  | 62 => ⟨S2x4096x1024, .f32⟩
  | 63 => ⟨S2x1x1024, .f32⟩
  | 64 => ⟨S2x4096x1024, .f32⟩
  | 65 => ⟨S2x4096x1024, .f32⟩
  | 66 => ⟨S2x4096x1024, .f32⟩
  | 67 => ⟨S2x4096x1024, .f32⟩
  | 68 => ⟨S_, .f32⟩
  | 69 => ⟨S2x4096x1024, .f32⟩
  | 70 => ⟨S2x4096x1024, .f32⟩
  | 71 => ⟨S_, .f32⟩
  | 72 => ⟨S2x4096x1024, .f32⟩
  | 73 => ⟨S2x4096x1024, .f32⟩
  | 74 => ⟨S_, .f32⟩
  | 75 => ⟨S2x4096x1024, .f32⟩
  | 76 => ⟨S2x4096x1024, .f32⟩
  | 77 => ⟨S2x1024, .f32⟩
  | 78 => ⟨S_, .f32⟩
  | 79 => ⟨S2x1024, .f32⟩
  | 80 => ⟨S2x1024, .f32⟩
  | 81 => ⟨S2x1024, .f32⟩
  | 82 => ⟨S2x1024, .f32⟩
  | 83 => ⟨S2x1024, .i1⟩
  | 84 => ⟨S2x1024, .f32⟩
  | 85 => ⟨S2x1024, .f32⟩
  | 86 => ⟨S2x1024, .f32⟩
  | 87 => ⟨S2x1024, .f32⟩
  | 88 => ⟨S2x1024, .f32⟩
  | 89 => ⟨S2x1024, .f32⟩
  | 90 => ⟨S2x1024, .f32⟩
  | 91 => ⟨S2x1024, .f32⟩
  | 92 => ⟨S2x1x1024, .f32⟩
  | 93 => ⟨S2x4096x1024, .f32⟩
  | 94 => ⟨S2x4096x1024, .f32⟩
  | 95 => ⟨S2x4096x1024, .f32⟩
  | 96 => ⟨S_, .f32⟩
  | 97 => ⟨S2x4096x1024, .f32⟩
  | 98 => ⟨S2x4096x1024, .f32⟩
  | 99 => ⟨S2x4096x1024, .f32⟩
  | 100 => ⟨S2x4096x1024, .f32⟩
  | 101 => ⟨S2x4096x1024, .f32⟩
  | 102 => ⟨S2x4096x1024, .f32⟩
  | 103 => ⟨S1x4096x1024, .f32⟩
  | 104 => ⟨S2x4096x1024, .f32⟩
  | 105 => ⟨S2x4096x1024, .f32⟩
  | 106 => ⟨S1x4096x1024, .f32⟩
  | 107 => ⟨S4096x1024, .f32⟩
  | 108 => ⟨S1x4096x1024, .f32⟩
  | 109 => ⟨S1x4096x1024, .f32⟩
  | 110 => ⟨S4096x1024, .f32⟩
  | 111 => ⟨S1x4096x1024, .f32⟩
  | 112 => ⟨S1x4096x1024, .f32⟩
  | 113 => ⟨S2x4096x1024, .f32⟩
  | 114 => ⟨S1x4096x1024, .f32⟩
  | 115 => ⟨S4096x1024, .f32⟩
  | 116 => ⟨S1x4096x1024, .f32⟩
  | 117 => ⟨S1x4096x1024, .f32⟩
  | 118 => ⟨S4096x1024, .f32⟩
  | 119 => ⟨S1x4096x1024, .f32⟩
  | 120 => ⟨S1x4096x1024, .f32⟩
  | 121 => ⟨S2x4096x1024, .f32⟩
  | 122 => ⟨S2x2048x1024, .f32⟩
  | 123 => ⟨S2x2048x1024, .f32⟩
  | 124 => ⟨S2x2048x1024, .f32⟩
  | 125 => ⟨S2x2048x1024, .f32⟩
  | 126 => ⟨S2x2048x1024, .f32⟩
  | 127 => ⟨S2x2048x1024, .f32⟩
  | _ => ⟨S3x4096x1024, .f32⟩

abbrev hbmTy0_1 (i : Nat) : BufTy := match i % 128 with
  | 0 => ⟨S2x2048x1024, .f32⟩
  | 1 => ⟨S2x1024x1024, .f32⟩
  | 2 => ⟨S2x1024x1024, .f32⟩
  | 3 => ⟨S2x1024x1024, .f32⟩
  | 4 => ⟨S2x1024x1024, .f32⟩
  | 5 => ⟨S2x1024x1024, .f32⟩
  | 6 => ⟨S2x1024x1024, .f32⟩
  | 7 => ⟨S2x1024x1024, .f32⟩
  | 8 => ⟨S2x512x1024, .f32⟩
  | 9 => ⟨S2x512x1024, .f32⟩
  | 10 => ⟨S2x512x1024, .f32⟩
  | 11 => ⟨S2x512x1024, .f32⟩
  | 12 => ⟨S2x512x1024, .f32⟩
  | 13 => ⟨S2x512x1024, .f32⟩
  | 14 => ⟨S2x512x1024, .f32⟩
  | 15 => ⟨S2x256x1024, .f32⟩
  | 16 => ⟨S2x256x1024, .f32⟩
  | 17 => ⟨S2x256x1024, .f32⟩
  | 18 => ⟨S2x256x1024, .f32⟩
  | 19 => ⟨S2x256x1024, .f32⟩
  | 20 => ⟨S2x256x1024, .f32⟩
  | 21 => ⟨S2x256x1024, .f32⟩
  | 22 => ⟨S2x128x1024, .f32⟩
  | 23 => ⟨S2x128x1024, .f32⟩
  | 24 => ⟨S2x128x1024, .f32⟩
  | 25 => ⟨S2x128x1024, .f32⟩
  | 26 => ⟨S2x128x1024, .f32⟩
  | 27 => ⟨S2x128x1024, .f32⟩
  | 28 => ⟨S2x128x1024, .f32⟩
  | 29 => ⟨S2x64x1024, .f32⟩
  | 30 => ⟨S2x64x1024, .f32⟩
  | 31 => ⟨S2x64x1024, .f32⟩
  | 32 => ⟨S2x64x1024, .f32⟩
  | 33 => ⟨S2x64x1024, .f32⟩
  | 34 => ⟨S2x64x1024, .f32⟩
  | 35 => ⟨S2x64x1024, .f32⟩
  | 36 => ⟨S2x32x1024, .f32⟩
  | 37 => ⟨S2x32x1024, .f32⟩
  | 38 => ⟨S2x32x1024, .f32⟩
  | 39 => ⟨S2x32x1024, .f32⟩
  | 40 => ⟨S2x32x1024, .f32⟩
  | 41 => ⟨S2x32x1024, .f32⟩
  | 42 => ⟨S2x32x1024, .f32⟩
  | 43 => ⟨S2x16x1024, .f32⟩
  | 44 => ⟨S2x16x1024, .f32⟩
  | 45 => ⟨S2x16x1024, .f32⟩
  | 46 => ⟨S2x16x1024, .f32⟩
  | 47 => ⟨S2x16x1024, .f32⟩
  | 48 => ⟨S2x16x1024, .f32⟩
  | 49 => ⟨S2x16x1024, .f32⟩
  | 50 => ⟨S2x8x1024, .f32⟩
  | 51 => ⟨S2x8x1024, .f32⟩
  | 52 => ⟨S2x8x1024, .f32⟩
  | 53 => ⟨S2x8x1024, .f32⟩
  | 54 => ⟨S2x8x1024, .f32⟩
  | 55 => ⟨S2x8x1024, .f32⟩
  | 56 => ⟨S2x8x1024, .f32⟩
  | 57 => ⟨S2x4x1024, .f32⟩
  | 58 => ⟨S2x4x1024, .f32⟩
  | 59 => ⟨S2x4x1024, .f32⟩
  | 60 => ⟨S2x4x1024, .f32⟩
  | 61 => ⟨S2x4x1024, .f32⟩
  | 62 => ⟨S2x4x1024, .f32⟩
  | 63 => ⟨S2x4x1024, .f32⟩
  | 64 => ⟨S2x2x1024, .f32⟩
  | 65 => ⟨S2x2x1024, .f32⟩
  | 66 => ⟨S2x2x1024, .f32⟩
  | 67 => ⟨S2x2x1024, .f32⟩
  | 68 => ⟨S2x2x1024, .f32⟩
  | 69 => ⟨S2x2x1024, .f32⟩
  | 70 => ⟨S2x2x1024, .f32⟩
  | 71 => ⟨S2x1x1024, .f32⟩
  | 72 => ⟨S2x1x1024, .f32⟩
  | 73 => ⟨S2x1x1024, .f32⟩
  | 74 => ⟨S2x1x1024, .f32⟩
  | 75 => ⟨S2x1x1024, .f32⟩
  | 76 => ⟨S2x1x1024, .f32⟩
  | 77 => ⟨S2x1x1024, .f32⟩
  | 78 => ⟨S2x0x1024, .f32⟩
  | 79 => ⟨S2x0x1024, .f32⟩
  | 80 => ⟨S2x0x1024, .f32⟩
  | 81 => ⟨S2x0x1024, .f32⟩
  | 82 => ⟨S2x0x1024, .f32⟩
  | 83 => ⟨S2x0x1024, .f32⟩
  | 84 => ⟨S2x0x1024, .f32⟩
  | 85 => ⟨S2x1x1024, .f32⟩
  | 86 => ⟨S2x1x1024, .f32⟩
  | 87 => ⟨S2x1x1024, .f32⟩
  | 88 => ⟨S2x1x1024, .f32⟩
  | 89 => ⟨S_, .f32⟩
  | 90 => ⟨S2x2x1024, .f32⟩
  | 91 => ⟨S_, .f32⟩
  | 92 => ⟨S2x2x1024, .f32⟩
  | 93 => ⟨S2x2x1024, .f32⟩
  | 94 => ⟨S_, .f32⟩
  | 95 => ⟨S2x2x1024, .f32⟩
  | 96 => ⟨S_, .f32⟩
  | 97 => ⟨S2x2x1024, .f32⟩
  | 98 => ⟨S2x2x1024, .f32⟩
  | 99 => ⟨S2x1x1024, .f32⟩
  | 100 => ⟨S2x1x1024, .f32⟩
  | 101 => ⟨S2x1x1024, .f32⟩
  | 102 => ⟨S2x1x1024, .f32⟩
  | 103 => ⟨S2x1x1024, .f32⟩
  | 104 => ⟨S2x1x1024, .f32⟩
  | 105 => ⟨S2x1x1024, .f32⟩
  | 106 => ⟨S2x1x1024, .f32⟩
  | 107 => ⟨S2x2x1024, .f32⟩
  | 108 => ⟨S2x1x1024, .f32⟩
  | 109 => ⟨S2x2x1024, .f32⟩
  | 110 => ⟨S_, .f32⟩
  | 111 => ⟨S2x4x1024, .f32⟩
  | 112 => ⟨S_, .f32⟩
  | 113 => ⟨S2x4x1024, .f32⟩
  | 114 => ⟨S2x4x1024, .f32⟩
  | 115 => ⟨S_, .f32⟩
  | 116 => ⟨S2x4x1024, .f32⟩
  | 117 => ⟨S_, .f32⟩
  | 118 => ⟨S2x4x1024, .f32⟩
  | 119 => ⟨S2x4x1024, .f32⟩
  | 120 => ⟨S2x3x1024, .f32⟩
  | 121 => ⟨S2x3x1024, .f32⟩
  | 122 => ⟨S2x3x1024, .f32⟩
  | 123 => ⟨S2x3x1024, .f32⟩
  | 124 => ⟨S2x3x1024, .f32⟩
  | 125 => ⟨S2x3x1024, .f32⟩
  | 126 => ⟨S2x3x1024, .f32⟩
  | 127 => ⟨S2x1x1024, .f32⟩
  | _ => ⟨S3x4096x1024, .f32⟩

abbrev hbmTy0_2 (i : Nat) : BufTy := match i % 128 with
  | 0 => ⟨S2x4x1024, .f32⟩
  | 1 => ⟨S2x1x1024, .f32⟩
  | 2 => ⟨S2x4x1024, .f32⟩
  | 3 => ⟨S_, .f32⟩
  | 4 => ⟨S2x8x1024, .f32⟩
  | 5 => ⟨S_, .f32⟩
  | 6 => ⟨S2x8x1024, .f32⟩
  | 7 => ⟨S2x8x1024, .f32⟩
  | 8 => ⟨S_, .f32⟩
  | 9 => ⟨S2x8x1024, .f32⟩
  | 10 => ⟨S_, .f32⟩
  | 11 => ⟨S2x8x1024, .f32⟩
  | 12 => ⟨S2x8x1024, .f32⟩
  | 13 => ⟨S2x7x1024, .f32⟩
  | 14 => ⟨S2x7x1024, .f32⟩
  | 15 => ⟨S2x7x1024, .f32⟩
  | 16 => ⟨S2x7x1024, .f32⟩
  | 17 => ⟨S2x7x1024, .f32⟩
  | 18 => ⟨S2x7x1024, .f32⟩
  | 19 => ⟨S2x7x1024, .f32⟩
  | 20 => ⟨S2x1x1024, .f32⟩
  | 21 => ⟨S2x8x1024, .f32⟩
  | 22 => ⟨S2x1x1024, .f32⟩
  | 23 => ⟨S2x8x1024, .f32⟩
  | 24 => ⟨S_, .f32⟩
  | 25 => ⟨S2x16x1024, .f32⟩
  | 26 => ⟨S_, .f32⟩
  | 27 => ⟨S2x16x1024, .f32⟩
  | 28 => ⟨S2x16x1024, .f32⟩
  | 29 => ⟨S_, .f32⟩
  | 30 => ⟨S2x16x1024, .f32⟩
  | 31 => ⟨S_, .f32⟩
  | 32 => ⟨S2x16x1024, .f32⟩
  | 33 => ⟨S2x16x1024, .f32⟩
  | 34 => ⟨S2x15x1024, .f32⟩
  | 35 => ⟨S2x15x1024, .f32⟩
  | 36 => ⟨S2x15x1024, .f32⟩
  | 37 => ⟨S2x15x1024, .f32⟩
  | 38 => ⟨S2x15x1024, .f32⟩
  | 39 => ⟨S2x15x1024, .f32⟩
  | 40 => ⟨S2x15x1024, .f32⟩
  | 41 => ⟨S2x1x1024, .f32⟩
  | 42 => ⟨S2x16x1024, .f32⟩
  | 43 => ⟨S2x1x1024, .f32⟩
  | 44 => ⟨S2x16x1024, .f32⟩
  | 45 => ⟨S_, .f32⟩
  | 46 => ⟨S2x32x1024, .f32⟩
  | 47 => ⟨S_, .f32⟩
  | 48 => ⟨S2x32x1024, .f32⟩
  | 49 => ⟨S2x32x1024, .f32⟩
  | 50 => ⟨S_, .f32⟩
  | 51 => ⟨S2x32x1024, .f32⟩
  | 52 => ⟨S_, .f32⟩
  | 53 => ⟨S2x32x1024, .f32⟩
  | 54 => ⟨S2x32x1024, .f32⟩
  | 55 => ⟨S2x31x1024, .f32⟩
  | 56 => ⟨S2x31x1024, .f32⟩
  | 57 => ⟨S2x31x1024, .f32⟩
  | 58 => ⟨S2x31x1024, .f32⟩
  | 59 => ⟨S2x31x1024, .f32⟩
  | 60 => ⟨S2x31x1024, .f32⟩
  | 61 => ⟨S2x31x1024, .f32⟩
  | 62 => ⟨S2x1x1024, .f32⟩
  | 63 => ⟨S2x32x1024, .f32⟩
  | 64 => ⟨S2x1x1024, .f32⟩
  | 65 => ⟨S2x32x1024, .f32⟩
  | 66 => ⟨S_, .f32⟩
  | 67 => ⟨S2x64x1024, .f32⟩
  | 68 => ⟨S_, .f32⟩
  | 69 => ⟨S2x64x1024, .f32⟩
  | 70 => ⟨S2x64x1024, .f32⟩
  | 71 => ⟨S_, .f32⟩
  | 72 => ⟨S2x64x1024, .f32⟩
  | 73 => ⟨S_, .f32⟩
  | 74 => ⟨S2x64x1024, .f32⟩
  | 75 => ⟨S2x64x1024, .f32⟩
  | 76 => ⟨S2x63x1024, .f32⟩
  | 77 => ⟨S2x63x1024, .f32⟩
  | 78 => ⟨S2x63x1024, .f32⟩
  | 79 => ⟨S2x63x1024, .f32⟩
  | 80 => ⟨S2x63x1024, .f32⟩
  | 81 => ⟨S2x63x1024, .f32⟩
  | 82 => ⟨S2x63x1024, .f32⟩
  | 83 => ⟨S2x1x1024, .f32⟩
  | 84 => ⟨S2x64x1024, .f32⟩
  | 85 => ⟨S2x1x1024, .f32⟩
  | 86 => ⟨S2x64x1024, .f32⟩
  | 87 => ⟨S_, .f32⟩
  | 88 => ⟨S2x128x1024, .f32⟩
  | 89 => ⟨S_, .f32⟩
  | 90 => ⟨S2x128x1024, .f32⟩
  | 91 => ⟨S2x128x1024, .f32⟩
  | 92 => ⟨S_, .f32⟩
  | 93 => ⟨S2x128x1024, .f32⟩
  | 94 => ⟨S_, .f32⟩
  | 95 => ⟨S2x128x1024, .f32⟩
  | 96 => ⟨S2x128x1024, .f32⟩
  | 97 => ⟨S2x127x1024, .f32⟩
  | 98 => ⟨S2x127x1024, .f32⟩
  | 99 => ⟨S2x127x1024, .f32⟩
  | 100 => ⟨S2x127x1024, .f32⟩
  | 101 => ⟨S2x127x1024, .f32⟩
  | 102 => ⟨S2x127x1024, .f32⟩
  | 103 => ⟨S2x127x1024, .f32⟩
  | 104 => ⟨S2x1x1024, .f32⟩
  | 105 => ⟨S2x128x1024, .f32⟩
  | 106 => ⟨S2x1x1024, .f32⟩
  | 107 => ⟨S2x128x1024, .f32⟩
  | 108 => ⟨S_, .f32⟩
  | 109 => ⟨S2x256x1024, .f32⟩
  | 110 => ⟨S_, .f32⟩
  | 111 => ⟨S2x256x1024, .f32⟩
  | 112 => ⟨S2x256x1024, .f32⟩
  | 113 => ⟨S_, .f32⟩
  | 114 => ⟨S2x256x1024, .f32⟩
  | 115 => ⟨S_, .f32⟩
  | 116 => ⟨S2x256x1024, .f32⟩
  | 117 => ⟨S2x256x1024, .f32⟩
  | 118 => ⟨S2x255x1024, .f32⟩
  | 119 => ⟨S2x255x1024, .f32⟩
  | 120 => ⟨S2x255x1024, .f32⟩
  | 121 => ⟨S2x255x1024, .f32⟩
  | 122 => ⟨S2x255x1024, .f32⟩
  | 123 => ⟨S2x255x1024, .f32⟩
  | 124 => ⟨S2x255x1024, .f32⟩
  | 125 => ⟨S2x1x1024, .f32⟩
  | 126 => ⟨S2x256x1024, .f32⟩
  | 127 => ⟨S2x1x1024, .f32⟩
  | _ => ⟨S3x4096x1024, .f32⟩

abbrev hbmTy0_3 (i : Nat) : BufTy := match i % 128 with
  | 0 => ⟨S2x256x1024, .f32⟩
  | 1 => ⟨S_, .f32⟩
  | 2 => ⟨S2x512x1024, .f32⟩
  | 3 => ⟨S_, .f32⟩
  | 4 => ⟨S2x512x1024, .f32⟩
  | 5 => ⟨S2x512x1024, .f32⟩
  | 6 => ⟨S_, .f32⟩
  | 7 => ⟨S2x512x1024, .f32⟩
  | 8 => ⟨S_, .f32⟩
  | 9 => ⟨S2x512x1024, .f32⟩
  | 10 => ⟨S2x512x1024, .f32⟩
  | 11 => ⟨S2x511x1024, .f32⟩
  | 12 => ⟨S2x511x1024, .f32⟩
  | 13 => ⟨S2x511x1024, .f32⟩
  | 14 => ⟨S2x511x1024, .f32⟩
  | 15 => ⟨S2x511x1024, .f32⟩
  | 16 => ⟨S2x511x1024, .f32⟩
  | 17 => ⟨S2x511x1024, .f32⟩
  | 18 => ⟨S2x1x1024, .f32⟩
  | 19 => ⟨S2x512x1024, .f32⟩
  | 20 => ⟨S2x1x1024, .f32⟩
  | 21 => ⟨S2x512x1024, .f32⟩
  | 22 => ⟨S_, .f32⟩
  | 23 => ⟨S2x1024x1024, .f32⟩
  | 24 => ⟨S_, .f32⟩
  | 25 => ⟨S2x1024x1024, .f32⟩
  | 26 => ⟨S2x1024x1024, .f32⟩
  | 27 => ⟨S_, .f32⟩
  | 28 => ⟨S2x1024x1024, .f32⟩
  | 29 => ⟨S_, .f32⟩
  | 30 => ⟨S2x1024x1024, .f32⟩
  | 31 => ⟨S2x1024x1024, .f32⟩
  | 32 => ⟨S2x1023x1024, .f32⟩
  | 33 => ⟨S2x1023x1024, .f32⟩
  | 34 => ⟨S2x1023x1024, .f32⟩
  | 35 => ⟨S2x1023x1024, .f32⟩
  | 36 => ⟨S2x1023x1024, .f32⟩
  | 37 => ⟨S2x1023x1024, .f32⟩
  | 38 => ⟨S2x1023x1024, .f32⟩
  | 39 => ⟨S2x1x1024, .f32⟩
  | 40 => ⟨S2x1024x1024, .f32⟩
  | 41 => ⟨S2x1x1024, .f32⟩
  | 42 => ⟨S2x1024x1024, .f32⟩
  | 43 => ⟨S_, .f32⟩
  | 44 => ⟨S2x2048x1024, .f32⟩
  | 45 => ⟨S_, .f32⟩
  | 46 => ⟨S2x2048x1024, .f32⟩
  | 47 => ⟨S2x2048x1024, .f32⟩
  | 48 => ⟨S_, .f32⟩
  | 49 => ⟨S2x2048x1024, .f32⟩
  | 50 => ⟨S_, .f32⟩
  | 51 => ⟨S2x2048x1024, .f32⟩
  | 52 => ⟨S2x2048x1024, .f32⟩
  | 53 => ⟨S2x2047x1024, .f32⟩
  | 54 => ⟨S2x2047x1024, .f32⟩
  | 55 => ⟨S2x2047x1024, .f32⟩
  | 56 => ⟨S2x2047x1024, .f32⟩
  | 57 => ⟨S2x2047x1024, .f32⟩
  | 58 => ⟨S2x2047x1024, .f32⟩
  | 59 => ⟨S2x2047x1024, .f32⟩
  | 60 => ⟨S2x1x1024, .f32⟩
  | 61 => ⟨S2x2048x1024, .f32⟩
  | 62 => ⟨S2x1x1024, .f32⟩
  | 63 => ⟨S2x2048x1024, .f32⟩
  | 64 => ⟨S_, .f32⟩
  | 65 => ⟨S2x4096x1024, .f32⟩
  | 66 => ⟨S_, .f32⟩
  | 67 => ⟨S2x4096x1024, .f32⟩
  | 68 => ⟨S2x4096x1024, .f32⟩
  | 69 => ⟨S_, .f32⟩
  | 70 => ⟨S2x4096x1024, .f32⟩
  | 71 => ⟨S_, .f32⟩
  | 72 => ⟨S2x4096x1024, .f32⟩
  | 73 => ⟨S2x4096x1024, .f32⟩
  | 74 => ⟨S1x4096x1024, .f32⟩
  | 75 => ⟨S4096x1024, .f32⟩
  | 76 => ⟨S1x4096x1024, .f32⟩
  | 77 => ⟨S1x4096x1024, .f32⟩
  | 78 => ⟨S4096x1024, .f32⟩
  | 79 => ⟨S4096x1024, .f32⟩
  | 80 => ⟨S1x4096x1024, .f32⟩
  | 81 => ⟨S4096x1024, .f32⟩
  | 82 => ⟨S4096x1024, .f32⟩
  | 83 => ⟨S4096x1024, .f32⟩
  | 84 => ⟨S_, .f32⟩
  | 85 => ⟨S4096x1024, .f32⟩
  | 86 => ⟨S4096x1024, .f32⟩
  | 87 => ⟨S4096x1024, .f32⟩
  | 88 => ⟨S_, .f32⟩
  | 89 => ⟨S4096x1024, .f32⟩
  | 90 => ⟨S4096x1024, .f32⟩
  | 91 => ⟨S4096x1024, .f32⟩
  | 92 => ⟨S_, .f32⟩
  | 93 => ⟨S4096x1024, .f32⟩
  | 94 => ⟨S4096x1024, .f32⟩
  | 95 => ⟨S_, .f32⟩
  | 96 => ⟨S4096x1024, .f32⟩
  | 97 => ⟨S4096x1024, .f32⟩
  | 98 => ⟨S4096x1024, .f32⟩
  | 99 => ⟨S4096x1024, .f32⟩
  | 100 => ⟨S_, .f32⟩
  | 101 => ⟨S8x1024, .f32⟩
  | 102 => ⟨S4096x1024, .bf16⟩
  | 103 => ⟨S4112x1024, .f32⟩
  | 104 => ⟨S4112x1024, .f32⟩
  | _ => ⟨S3x4096x1024, .f32⟩

abbrev hbmTy (i : Nat) : BufTy := match i / 128 with
  | 0 => hbmTy0_0 i
  | 1 => hbmTy0_1 i
  | 2 => hbmTy0_2 i
  | 3 => hbmTy0_3 i
  | _ => ⟨S3x4096x1024, .f32⟩

abbrev bufTy : (tb : Table) → Fin (tcTables nBuf tb) → BufTy
  | .hbm, ⟨i, _⟩ => hbmTy i
  | _, _ => ⟨S3x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_1 : Ref sig .tc := ⟨.hbm, 57, rfl⟩
abbrev main_v47 : Ref sig .tc := ⟨.hbm, 58, rfl⟩
abbrev main_v48 : Ref sig .tc := ⟨.hbm, 59, rfl⟩
abbrev main_cst_2 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_3 : Ref sig .tc := ⟨.hbm, 68, rfl⟩
abbrev main_v56 : Ref sig .tc := ⟨.hbm, 69, rfl⟩
abbrev main_v57 : Ref sig .tc := ⟨.hbm, 70, rfl⟩
abbrev main_cst_4 : Ref sig .tc := ⟨.hbm, 71, rfl⟩
abbrev main_v58 : Ref sig .tc := ⟨.hbm, 72, rfl⟩
abbrev main_v59 : Ref sig .tc := ⟨.hbm, 73, rfl⟩
abbrev main_cst_5 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_v8 : Ref sig .tc := ⟨.hbm, 87, rfl⟩
abbrev main_call0_v9 : Ref sig .tc := ⟨.hbm, 88, rfl⟩
abbrev main_call0_v10 : Ref sig .tc := ⟨.hbm, 89, rfl⟩
abbrev main_call0_v11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_6 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_cst_7 : Ref sig .tc := ⟨.hbm, 217, rfl⟩
abbrev main_v188 : Ref sig .tc := ⟨.hbm, 218, rfl⟩
abbrev main_cst_8 : Ref sig .tc := ⟨.hbm, 219, rfl⟩
abbrev main_v189 : Ref sig .tc := ⟨.hbm, 220, rfl⟩
abbrev main_v190 : Ref sig .tc := ⟨.hbm, 221, rfl⟩
abbrev main_cst_9 : Ref sig .tc := ⟨.hbm, 222, rfl⟩
abbrev main_v191 : Ref sig .tc := ⟨.hbm, 223, rfl⟩
abbrev main_cst_10 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_cst_11 : Ref sig .tc := ⟨.hbm, 238, rfl⟩
abbrev main_v205 : Ref sig .tc := ⟨.hbm, 239, rfl⟩
abbrev main_cst_12 : Ref sig .tc := ⟨.hbm, 240, rfl⟩
abbrev main_v206 : Ref sig .tc := ⟨.hbm, 241, rfl⟩
abbrev main_v207 : Ref sig .tc := ⟨.hbm, 242, rfl⟩
abbrev main_cst_13 : Ref sig .tc := ⟨.hbm, 243, rfl⟩
abbrev main_v208 : Ref sig .tc := ⟨.hbm, 244, rfl⟩
abbrev main_cst_14 : Ref sig .tc := ⟨.hbm, 245, rfl⟩
abbrev main_v209 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_cst_15 : Ref sig .tc := ⟨.hbm, 259, rfl⟩
abbrev main_v222 : Ref sig .tc := ⟨.hbm, 260, rfl⟩
abbrev main_cst_16 : Ref sig .tc := ⟨.hbm, 261, rfl⟩
abbrev main_v223 : Ref sig .tc := ⟨.hbm, 262, rfl⟩
abbrev main_v224 : Ref sig .tc := ⟨.hbm, 263, rfl⟩
abbrev main_cst_17 : Ref sig .tc := ⟨.hbm, 264, rfl⟩
abbrev main_v225 : Ref sig .tc := ⟨.hbm, 265, rfl⟩
abbrev main_cst_18 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_cst_19 : Ref sig .tc := ⟨.hbm, 280, rfl⟩
abbrev main_v239 : Ref sig .tc := ⟨.hbm, 281, rfl⟩
abbrev main_cst_20 : Ref sig .tc := ⟨.hbm, 282, rfl⟩
abbrev main_v240 : Ref sig .tc := ⟨.hbm, 283, rfl⟩
abbrev main_v241 : Ref sig .tc := ⟨.hbm, 284, rfl⟩
abbrev main_cst_21 : Ref sig .tc := ⟨.hbm, 285, rfl⟩
abbrev main_v242 : Ref sig .tc := ⟨.hbm, 286, rfl⟩
abbrev main_cst_22 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_cst_23 : Ref sig .tc := ⟨.hbm, 301, rfl⟩
abbrev main_v256 : Ref sig .tc := ⟨.hbm, 302, rfl⟩
abbrev main_cst_24 : Ref sig .tc := ⟨.hbm, 303, rfl⟩
abbrev main_v257 : Ref sig .tc := ⟨.hbm, 304, rfl⟩
abbrev main_v258 : Ref sig .tc := ⟨.hbm, 305, rfl⟩
abbrev main_cst_25 : Ref sig .tc := ⟨.hbm, 306, rfl⟩
abbrev main_v259 : Ref sig .tc := ⟨.hbm, 307, rfl⟩
abbrev main_cst_26 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_v264 : Ref sig .tc := ⟨.hbm, 313, rfl⟩
abbrev main_v265 : Ref sig .tc := ⟨.hbm, 314, rfl⟩
abbrev main_v266 : Ref sig .tc := ⟨.hbm, 315, rfl⟩
abbrev main_v267 : Ref sig .tc := ⟨.hbm, 316, rfl⟩
abbrev main_v268 : Ref sig .tc := ⟨.hbm, 317, rfl⟩
abbrev main_v269 : Ref sig .tc := ⟨.hbm, 318, rfl⟩
abbrev main_v270 : Ref sig .tc := ⟨.hbm, 319, rfl⟩
abbrev main_v271 : Ref sig .tc := ⟨.hbm, 320, rfl⟩
abbrev main_v272 : Ref sig .tc := ⟨.hbm, 321, rfl⟩
abbrev main_cst_27 : Ref sig .tc := ⟨.hbm, 322, rfl⟩
abbrev main_v273 : Ref sig .tc := ⟨.hbm, 323, rfl⟩
abbrev main_cst_28 : Ref sig .tc := ⟨.hbm, 324, rfl⟩
abbrev main_v274 : Ref sig .tc := ⟨.hbm, 325, rfl⟩
abbrev main_v275 : Ref sig .tc := ⟨.hbm, 326, rfl⟩
abbrev main_cst_29 : Ref sig .tc := ⟨.hbm, 327, rfl⟩
abbrev main_v276 : Ref sig .tc := ⟨.hbm, 328, rfl⟩
abbrev main_cst_30 : Ref sig .tc := ⟨.hbm, 329, rfl⟩
abbrev main_v277 : Ref sig .tc := ⟨.hbm, 330, rfl⟩
abbrev main_v278 : Ref sig .tc := ⟨.hbm, 331, rfl⟩
abbrev main_v279 : Ref sig .tc := ⟨.hbm, 332, rfl⟩
abbrev main_v280 : Ref sig .tc := ⟨.hbm, 333, rfl⟩
abbrev main_v281 : Ref sig .tc := ⟨.hbm, 334, rfl⟩
abbrev main_v282 : Ref sig .tc := ⟨.hbm, 335, rfl⟩
abbrev main_v283 : Ref sig .tc := ⟨.hbm, 336, rfl⟩
abbrev main_v284 : Ref sig .tc := ⟨.hbm, 337, rfl⟩
abbrev main_v285 : Ref sig .tc := ⟨.hbm, 338, rfl⟩
abbrev main_v286 : Ref sig .tc := ⟨.hbm, 339, rfl⟩
abbrev main_v287 : Ref sig .tc := ⟨.hbm, 340, rfl⟩
abbrev main_v288 : Ref sig .tc := ⟨.hbm, 341, rfl⟩
abbrev main_v289 : Ref sig .tc := ⟨.hbm, 342, rfl⟩
abbrev main_cst_31 : Ref sig .tc := ⟨.hbm, 343, rfl⟩
abbrev main_v290 : Ref sig .tc := ⟨.hbm, 344, rfl⟩
abbrev main_cst_32 : Ref sig .tc := ⟨.hbm, 345, rfl⟩
abbrev main_v291 : Ref sig .tc := ⟨.hbm, 346, rfl⟩
abbrev main_v292 : Ref sig .tc := ⟨.hbm, 347, rfl⟩
abbrev main_cst_33 : Ref sig .tc := ⟨.hbm, 348, rfl⟩
abbrev main_v293 : Ref sig .tc := ⟨.hbm, 349, rfl⟩
abbrev main_cst_34 : Ref sig .tc := ⟨.hbm, 350, rfl⟩
abbrev main_v294 : Ref sig .tc := ⟨.hbm, 351, rfl⟩
abbrev main_v295 : Ref sig .tc := ⟨.hbm, 352, rfl⟩
abbrev main_v296 : Ref sig .tc := ⟨.hbm, 353, rfl⟩
abbrev main_v297 : Ref sig .tc := ⟨.hbm, 354, rfl⟩
abbrev main_v298 : Ref sig .tc := ⟨.hbm, 355, rfl⟩
abbrev main_v299 : Ref sig .tc := ⟨.hbm, 356, rfl⟩
abbrev main_v300 : Ref sig .tc := ⟨.hbm, 357, rfl⟩
abbrev main_v301 : Ref sig .tc := ⟨.hbm, 358, rfl⟩
abbrev main_v302 : Ref sig .tc := ⟨.hbm, 359, rfl⟩
abbrev main_v303 : Ref sig .tc := ⟨.hbm, 360, rfl⟩
abbrev main_v304 : Ref sig .tc := ⟨.hbm, 361, rfl⟩
abbrev main_v305 : Ref sig .tc := ⟨.hbm, 362, rfl⟩
abbrev main_v306 : Ref sig .tc := ⟨.hbm, 363, rfl⟩
abbrev main_cst_35 : Ref sig .tc := ⟨.hbm, 364, rfl⟩
abbrev main_v307 : Ref sig .tc := ⟨.hbm, 365, rfl⟩
abbrev main_cst_36 : Ref sig .tc := ⟨.hbm, 366, rfl⟩
abbrev main_v308 : Ref sig .tc := ⟨.hbm, 367, rfl⟩
abbrev main_v309 : Ref sig .tc := ⟨.hbm, 368, rfl⟩
abbrev main_cst_37 : Ref sig .tc := ⟨.hbm, 369, rfl⟩
abbrev main_v310 : Ref sig .tc := ⟨.hbm, 370, rfl⟩
abbrev main_cst_38 : Ref sig .tc := ⟨.hbm, 371, rfl⟩
abbrev main_v311 : Ref sig .tc := ⟨.hbm, 372, rfl⟩
abbrev main_v312 : Ref sig .tc := ⟨.hbm, 373, rfl⟩
abbrev main_v313 : Ref sig .tc := ⟨.hbm, 374, rfl⟩
abbrev main_v314 : Ref sig .tc := ⟨.hbm, 375, rfl⟩
abbrev main_v315 : Ref sig .tc := ⟨.hbm, 376, rfl⟩
abbrev main_v316 : Ref sig .tc := ⟨.hbm, 377, rfl⟩
abbrev main_v317 : Ref sig .tc := ⟨.hbm, 378, rfl⟩
abbrev main_v318 : Ref sig .tc := ⟨.hbm, 379, rfl⟩
abbrev main_v319 : Ref sig .tc := ⟨.hbm, 380, rfl⟩
abbrev main_v320 : Ref sig .tc := ⟨.hbm, 381, rfl⟩
abbrev main_v321 : Ref sig .tc := ⟨.hbm, 382, rfl⟩
abbrev main_v322 : Ref sig .tc := ⟨.hbm, 383, rfl⟩
abbrev main_v323 : Ref sig .tc := ⟨.hbm, 384, rfl⟩
abbrev main_cst_39 : Ref sig .tc := ⟨.hbm, 385, rfl⟩
abbrev main_v324 : Ref sig .tc := ⟨.hbm, 386, rfl⟩
abbrev main_cst_40 : Ref sig .tc := ⟨.hbm, 387, rfl⟩
abbrev main_v325 : Ref sig .tc := ⟨.hbm, 388, rfl⟩
abbrev main_v326 : Ref sig .tc := ⟨.hbm, 389, rfl⟩
abbrev main_cst_41 : Ref sig .tc := ⟨.hbm, 390, rfl⟩
abbrev main_v327 : Ref sig .tc := ⟨.hbm, 391, rfl⟩
abbrev main_cst_42 : Ref sig .tc := ⟨.hbm, 392, rfl⟩
abbrev main_v328 : Ref sig .tc := ⟨.hbm, 393, rfl⟩
abbrev main_v329 : Ref sig .tc := ⟨.hbm, 394, rfl⟩
abbrev main_v330 : Ref sig .tc := ⟨.hbm, 395, rfl⟩
abbrev main_v331 : Ref sig .tc := ⟨.hbm, 396, rfl⟩
abbrev main_v332 : Ref sig .tc := ⟨.hbm, 397, rfl⟩
abbrev main_v333 : Ref sig .tc := ⟨.hbm, 398, rfl⟩
abbrev main_v334 : Ref sig .tc := ⟨.hbm, 399, rfl⟩
abbrev main_v335 : Ref sig .tc := ⟨.hbm, 400, rfl⟩
abbrev main_v336 : Ref sig .tc := ⟨.hbm, 401, rfl⟩
abbrev main_v337 : Ref sig .tc := ⟨.hbm, 402, rfl⟩
abbrev main_v338 : Ref sig .tc := ⟨.hbm, 403, rfl⟩
abbrev main_v339 : Ref sig .tc := ⟨.hbm, 404, rfl⟩
abbrev main_v340 : Ref sig .tc := ⟨.hbm, 405, rfl⟩
abbrev main_cst_43 : Ref sig .tc := ⟨.hbm, 406, rfl⟩
abbrev main_v341 : Ref sig .tc := ⟨.hbm, 407, rfl⟩
abbrev main_cst_44 : Ref sig .tc := ⟨.hbm, 408, rfl⟩
abbrev main_v342 : Ref sig .tc := ⟨.hbm, 409, rfl⟩
abbrev main_v343 : Ref sig .tc := ⟨.hbm, 410, rfl⟩
abbrev main_cst_45 : Ref sig .tc := ⟨.hbm, 411, rfl⟩
abbrev main_v344 : Ref sig .tc := ⟨.hbm, 412, rfl⟩
abbrev main_cst_46 : Ref sig .tc := ⟨.hbm, 413, rfl⟩
abbrev main_v345 : Ref sig .tc := ⟨.hbm, 414, rfl⟩
abbrev main_v346 : Ref sig .tc := ⟨.hbm, 415, rfl⟩
abbrev main_v347 : Ref sig .tc := ⟨.hbm, 416, rfl⟩
abbrev main_v348 : Ref sig .tc := ⟨.hbm, 417, rfl⟩
abbrev main_v349 : Ref sig .tc := ⟨.hbm, 418, rfl⟩
abbrev main_v350 : Ref sig .tc := ⟨.hbm, 419, rfl⟩
abbrev main_v351 : Ref sig .tc := ⟨.hbm, 420, rfl⟩
abbrev main_v352 : Ref sig .tc := ⟨.hbm, 421, rfl⟩
abbrev main_v353 : Ref sig .tc := ⟨.hbm, 422, rfl⟩
abbrev main_v354 : Ref sig .tc := ⟨.hbm, 423, rfl⟩
abbrev main_v355 : Ref sig .tc := ⟨.hbm, 424, rfl⟩
abbrev main_v356 : Ref sig .tc := ⟨.hbm, 425, rfl⟩
abbrev main_v357 : Ref sig .tc := ⟨.hbm, 426, rfl⟩
abbrev main_cst_47 : Ref sig .tc := ⟨.hbm, 427, rfl⟩
abbrev main_v358 : Ref sig .tc := ⟨.hbm, 428, rfl⟩
abbrev main_cst_48 : Ref sig .tc := ⟨.hbm, 429, rfl⟩
abbrev main_v359 : Ref sig .tc := ⟨.hbm, 430, rfl⟩
abbrev main_v360 : Ref sig .tc := ⟨.hbm, 431, rfl⟩
abbrev main_cst_49 : Ref sig .tc := ⟨.hbm, 432, rfl⟩
abbrev main_v361 : Ref sig .tc := ⟨.hbm, 433, rfl⟩
abbrev main_cst_50 : Ref sig .tc := ⟨.hbm, 434, rfl⟩
abbrev main_v362 : Ref sig .tc := ⟨.hbm, 435, rfl⟩
abbrev main_v363 : Ref sig .tc := ⟨.hbm, 436, rfl⟩
abbrev main_v364 : Ref sig .tc := ⟨.hbm, 437, rfl⟩
abbrev main_v365 : Ref sig .tc := ⟨.hbm, 438, rfl⟩
abbrev main_v366 : Ref sig .tc := ⟨.hbm, 439, rfl⟩
abbrev main_v367 : Ref sig .tc := ⟨.hbm, 440, rfl⟩
abbrev main_v368 : Ref sig .tc := ⟨.hbm, 441, rfl⟩
abbrev main_v369 : Ref sig .tc := ⟨.hbm, 442, rfl⟩
abbrev main_v370 : Ref sig .tc := ⟨.hbm, 443, rfl⟩
abbrev main_v371 : Ref sig .tc := ⟨.hbm, 444, rfl⟩
abbrev main_v372 : Ref sig .tc := ⟨.hbm, 445, rfl⟩
abbrev main_v373 : Ref sig .tc := ⟨.hbm, 446, rfl⟩
abbrev main_v374 : Ref sig .tc := ⟨.hbm, 447, rfl⟩
abbrev main_cst_51 : Ref sig .tc := ⟨.hbm, 448, rfl⟩
abbrev main_v375 : Ref sig .tc := ⟨.hbm, 449, rfl⟩
abbrev main_cst_52 : Ref sig .tc := ⟨.hbm, 450, rfl⟩
abbrev main_v376 : Ref sig .tc := ⟨.hbm, 451, rfl⟩
abbrev main_v377 : Ref sig .tc := ⟨.hbm, 452, rfl⟩
abbrev main_cst_53 : Ref sig .tc := ⟨.hbm, 453, rfl⟩
abbrev main_v378 : Ref sig .tc := ⟨.hbm, 454, rfl⟩
abbrev main_cst_54 : Ref sig .tc := ⟨.hbm, 455, rfl⟩
abbrev main_v379 : Ref sig .tc := ⟨.hbm, 456, rfl⟩
abbrev main_v380 : Ref sig .tc := ⟨.hbm, 457, rfl⟩
abbrev main_v381 : Ref sig .tc := ⟨.hbm, 458, rfl⟩
abbrev main_v382 : Ref sig .tc := ⟨.hbm, 459, rfl⟩
abbrev main_v383 : Ref sig .tc := ⟨.hbm, 460, rfl⟩
abbrev main_v384 : Ref sig .tc := ⟨.hbm, 461, rfl⟩
abbrev main_v385 : Ref sig .tc := ⟨.hbm, 462, rfl⟩
abbrev main_v386 : Ref sig .tc := ⟨.hbm, 463, rfl⟩
abbrev main_v387 : Ref sig .tc := ⟨.hbm, 464, rfl⟩
abbrev main_v388 : Ref sig .tc := ⟨.hbm, 465, rfl⟩
abbrev main_v389 : Ref sig .tc := ⟨.hbm, 466, rfl⟩
abbrev main_v390 : Ref sig .tc := ⟨.hbm, 467, rfl⟩
abbrev main_cst_55 : Ref sig .tc := ⟨.hbm, 468, rfl⟩
abbrev main_v391 : Ref sig .tc := ⟨.hbm, 469, rfl⟩
abbrev main_v392 : Ref sig .tc := ⟨.hbm, 470, rfl⟩
abbrev main_v393 : Ref sig .tc := ⟨.hbm, 471, rfl⟩
abbrev main_cst_56 : Ref sig .tc := ⟨.hbm, 472, rfl⟩
abbrev main_v394 : Ref sig .tc := ⟨.hbm, 473, rfl⟩
abbrev main_v395 : Ref sig .tc := ⟨.hbm, 474, rfl⟩
abbrev main_v396 : Ref sig .tc := ⟨.hbm, 475, rfl⟩
abbrev main_cst_57 : Ref sig .tc := ⟨.hbm, 476, rfl⟩
abbrev main_v397 : Ref sig .tc := ⟨.hbm, 477, rfl⟩
abbrev main_v398 : Ref sig .tc := ⟨.hbm, 478, rfl⟩
abbrev main_cst_58 : Ref sig .tc := ⟨.hbm, 479, rfl⟩
abbrev main_v399 : Ref sig .tc := ⟨.hbm, 480, rfl⟩
abbrev main_v400 : Ref sig .tc := ⟨.hbm, 481, rfl⟩
abbrev main_v401 : Ref sig .tc := ⟨.hbm, 482, rfl⟩
abbrev main_v402 : Ref sig .tc := ⟨.hbm, 483, rfl⟩
abbrev main_cst_59 : Ref sig .tc := ⟨.hbm, 484, rfl⟩
abbrev main_v403 : Ref sig .tc := ⟨.hbm, 485, rfl⟩
abbrev main_v404 : Ref sig .tc := ⟨.hbm, 486, rfl⟩
abbrev main_v405 : Ref sig .tc := ⟨.hbm, 487, rfl⟩
abbrev main_v406 : Ref sig .tc := ⟨.hbm, 488, rfl⟩

abbrev nD : Nat := 1
abbrev τ : Topo := Topo.v7x

variable {F : FTy → Type} [FloatOps F]
-- ==== MixOut.lean ====
abbrev S4096x2048 : Shape := ⟨2, ![4096, 2048]⟩
abbrev S2048x2048 : Shape := ⟨2, ![2048, 2048]⟩
abbrev S1x2048 : Shape := ⟨2, ![1, 2048]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S4096x2048, .bf16⟩
  | .hbm, ⟨6, _⟩ => ⟨S2048x2048, .bf16⟩
  | .hbm, ⟨7, _⟩ => ⟨S4096x2048, .f32⟩
  | .hbm, ⟨8, _⟩ => ⟨S4096x2048, .f32⟩
  | .hbm, ⟨9, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== MixOutRefIdeal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== MlpOut.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x2048 : Shape := ⟨2, ![2048, 2048]⟩

abbrev nBuf : Space → Nat
  | .hbm => 5
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x8192, .bf16⟩
  | .hbm, ⟨3, _⟩ => ⟨S8192x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .f32⟩
  | .local _ .vmem, ⟨5, _⟩ => ⟨S1024x2048, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== MlpOutRefIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Adam.lean ====
abbrev S2048x1024 : Shape := ⟨2, ![2048, 1024]⟩
abbrev S3x2048x1024 : Shape := ⟨3, ![3, 2048, 1024]⟩
abbrev S512x1024 : Shape := ⟨2, ![512, 1024]⟩
abbrev S3x512x1024 : Shape := ⟨3, ![3, 512, 1024]⟩
abbrev S1x512x1024 : Shape := ⟨3, ![1, 512, 1024]⟩

abbrev nBuf : Space → Nat
  | .hbm => 10
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S3x2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S3x2048x1024, .bf16⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S3x512x1024, .bf16⟩
  | .local _ .vmem, ⟨3, _⟩ => ⟨S3x512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamRefIdeal.lean ====
abbrev S2048x1024 : Shape := ⟨2, ![2048, 1024]⟩
abbrev S3x2048x1024 : Shape := ⟨3, ![3, 2048, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S3x2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== GradX.lean ====
abbrev S4096x2048 : Shape := ⟨2, ![4096, 2048]⟩
abbrev S4096x3072 : Shape := ⟨2, ![4096, 3072]⟩
abbrev S2048x3072 : Shape := ⟨2, ![2048, 3072]⟩
abbrev S256x2048 : Shape := ⟨2, ![256, 2048]⟩
abbrev S3x256x2048 : Shape := ⟨3, ![3, 256, 2048]⟩
abbrev S_ : Shape := ⟨0, ![]⟩
abbrev S8x128 : Shape := ⟨2, ![8, 128]⟩
abbrev S512x3072 : Shape := ⟨2, ![512, 3072]⟩
abbrev S512x2048 : Shape := ⟨2, ![512, 2048]⟩
abbrev S32x2048 : Shape := ⟨2, ![32, 2048]⟩
abbrev S3x32x2048 : Shape := ⟨3, ![3, 32, 2048]⟩
abbrev S1x32x2048 : Shape := ⟨3, ![1, 32, 2048]⟩

abbrev nBuf : Space → Nat
  | .hbm => 18
  | .vmem => 26
  | .smem => 0
  | _ => 0

abbrev bufTy : (tb : Table) → Fin (tcTables nBuf tb) → BufTy
  | .hbm, ⟨0, _⟩ => ⟨S4096x2048, .f32⟩
  | .hbm, ⟨1, _⟩ => ⟨S4096x3072, .f32⟩
  | .hbm, ⟨2, _⟩ => ⟨S2048x3072, .f32⟩
  | .hbm, ⟨3, _⟩ => ⟨S256x2048, .f32⟩
  | .hbm, ⟨4, _⟩ => ⟨S3x256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S4096x3072, .bf16⟩
  | .hbm, ⟨9, _⟩ => ⟨S2048x3072, .bf16⟩
  | .hbm, ⟨10, _⟩ => ⟨S_, .f32⟩
  | .hbm, ⟨11, _⟩ => ⟨S8x128, .f32⟩
  | .hbm, ⟨12, _⟩ => ⟨S3x256x2048, .bf16⟩
  | .hbm, ⟨13, _⟩ => ⟨S4096x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .f32⟩
  | .local _ .vmem, ⟨0, _⟩ => ⟨S512x3072, .bf16⟩
  | .local _ .vmem, ⟨1, _⟩ => ⟨S512x3072, .bf16⟩
  | .local _ .vmem, ⟨2, _⟩ => ⟨S2048x3072, .bf16⟩
  | .local _ .vmem, ⟨3, _⟩ => ⟨S512x2048, .f32⟩
  | .local _ .vmem, ⟨4, _⟩ => ⟨S512x2048, .f32⟩
  | .local _ .vmem, ⟨5, _⟩ => ⟨S8x128, .f32⟩
  | .local _ .vmem, ⟨6, _⟩ => ⟨S32x2048, .f32⟩
  | .local _ .vmem, ⟨7, _⟩ => ⟨S32x2048, .f32⟩
  | .local _ .vmem, ⟨8, _⟩ => ⟨S3x32x2048, .bf16⟩
  | .local _ .vmem, ⟨9, _⟩ => ⟨S3x32x2048, .bf16⟩
  | .local _ .vmem, ⟨10, _⟩ => ⟨S32x2048, .f32⟩
  | .local _ .vmem, ⟨11, _⟩ => ⟨S32x2048, .f32⟩
  | .local _ .vmem, ⟨12, _⟩ => ⟨S32x2048, .f32⟩
  | .local _ .vmem, ⟨13, _⟩ => ⟨S32x2048, .f32⟩
  | .local _ .vmem, ⟨14, _⟩ => ⟨S32x2048, .f32⟩
  | .local _ .vmem, ⟨15, _⟩ => ⟨S32x2048, .f32⟩
  | .local _ .vmem, ⟨16, _⟩ => ⟨S512x2048, .f32⟩
  | .local _ .vmem, ⟨17, _⟩ => ⟨S512x2048, .f32⟩
  | .local _ .vmem, ⟨18, _⟩ => ⟨S32x2048, .f32⟩
  | .local _ .vmem, ⟨19, _⟩ => ⟨S32x2048, .f32⟩
  | .local _ .vmem, ⟨20, _⟩ => ⟨S32x2048, .f32⟩
  | .local _ .vmem, ⟨21, _⟩ => ⟨S32x2048, .f32⟩
  | .local _ .vmem, ⟨22, _⟩ => ⟨S32x2048, .f32⟩
  | .local _ .vmem, ⟨23, _⟩ => ⟨S32x2048, .f32⟩
  | .local _ .vmem, ⟨24, _⟩ => ⟨S32x2048, .f32⟩
  | .local _ .vmem, ⟨25, _⟩ => ⟨S32x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S3x32x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S32x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S32x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S32x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S32x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S32x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== GradXRefIdeal.lean ====
abbrev S4096x2048 : Shape := ⟨2, ![4096, 2048]⟩
abbrev S4096x3072 : Shape := ⟨2, ![4096, 3072]⟩
abbrev S2048x3072 : Shape := ⟨2, ![2048, 3072]⟩
abbrev S256x2048 : Shape := ⟨2, ![256, 2048]⟩
abbrev S3x256x2048 : Shape := ⟨3, ![3, 256, 2048]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x3072, .f32⟩
  | .hbm, ⟨2, _⟩ => ⟨S2048x3072, .f32⟩
  | .hbm, ⟨3, _⟩ => ⟨S256x2048, .f32⟩
  | .hbm, ⟨4, _⟩ => ⟨S3x256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S_, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x3072, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | .hbm, ⟨40, _⟩ => ⟨S_, .f32⟩
  | .hbm, ⟨41, _⟩ => ⟨S256x2048, .f32⟩
  | .hbm, ⟨42, _⟩ => ⟨S256x2048, .f32⟩
  | .hbm, ⟨43, _⟩ => ⟨S256x2048, .f32⟩
  | .hbm, ⟨44, _⟩ => ⟨S_, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S_, .f32⟩
  | .hbm, ⟨49, _⟩ => ⟨S256x2048, .f32⟩
  | .hbm, ⟨50, _⟩ => ⟨S256x2048, .f32⟩
  | .hbm, ⟨51, _⟩ => ⟨S256x2048, .f32⟩
  | .hbm, ⟨52, _⟩ => ⟨S_, .f32⟩
  | .hbm, ⟨53, _⟩ => ⟨S256x2048, .f32⟩
  | .hbm, ⟨54, _⟩ => ⟨S256x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_cst_8 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== LossSum.lean ====
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .local _ .vmem, ⟨0, _⟩ => ⟨S8x8x128, .f32⟩
  | .local _ .vmem, ⟨1, _⟩ => ⟨S8x128, .f32⟩
  | _, _ => ⟨S8x8x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LossSumRefIdeal.lean ====
abbrev S8x8x128 : Shape := ⟨3, ![8, 8, 128]⟩
abbrev S_ : Shape := ⟨0, ![]⟩
abbrev S8x128 : Shape := ⟨2, ![8, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x8x128, .f32⟩
  | .hbm, ⟨1, _⟩ => ⟨S_, .f32⟩
  | .hbm, ⟨2, _⟩ => ⟨S8x128, .f32⟩
  | _, _ => ⟨S8x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== CastX.lean ====
abbrev S4096x2048 : Shape := ⟨2, ![4096, 2048]⟩
abbrev S_ : Shape := ⟨0, ![]⟩
abbrev S8x128 : Shape := ⟨2, ![8, 128]⟩
abbrev S512x2048 : Shape := ⟨2, ![512, 2048]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S_, .f32⟩
  | .hbm, ⟨2, _⟩ => ⟨S8x128, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S8x128, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CastXRef.lean ====
abbrev S4096x2048 : Shape := ⟨2, ![4096, 2048]⟩

abbrev nBuf : Space → Nat
  | .hbm => 2
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== PairSum.lean ====
abbrev S4x2x2048x1024 : Shape := ⟨4, ![4, 2, 2048, 1024]⟩
abbrev S4x1x2048x1024 : Shape := ⟨4, ![4, 1, 2048, 1024]⟩
abbrev S2 : Shape := ⟨1, ![2]⟩
abbrev S2048x1024 : Shape := ⟨2, ![2048, 1024]⟩
abbrev S4x2048x1024 : Shape := ⟨3, ![4, 2048, 1024]⟩
abbrev S1x1x1024x1024 : Shape := ⟨4, ![1, 1, 1024, 1024]⟩
abbrev S1 : Shape := ⟨1, ![1]⟩
abbrev S1024x1024 : Shape := ⟨2, ![1024, 1024]⟩
abbrev S1x1024x1024 : Shape := ⟨3, ![1, 1024, 1024]⟩

abbrev nBuf : Space → Nat
  | .hbm => 4
  | .vmem => 8
  | .smem => 1
  | _ => 0

abbrev bufTy : (tb : Table) → Fin (tcTables nBuf tb) → BufTy
  | .hbm, ⟨0, _⟩ => ⟨S4x2x2048x1024, .bf16⟩
  | .hbm, ⟨1, _⟩ => ⟨S4x1x2048x1024, .bf16⟩
  | .hbm, ⟨2, _⟩ => ⟨S2048x1024, .f32⟩
  | .hbm, ⟨3, _⟩ => ⟨S4x2048x1024, .bf16⟩
  | .local _ .vmem, ⟨0, _⟩ => ⟨S1x1x1024x1024, .bf16⟩
  | .local _ .vmem, ⟨1, _⟩ => ⟨S1x1x1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024x1024, .bf16⟩
  | .local _ .vmem, ⟨7, _⟩ => ⟨S1x1024x1024, .bf16⟩
  | .local _ .smem, ⟨0, _⟩ => ⟨S2, .i32⟩
  | _, _ => ⟨S4x2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v11 : BitVec 32) : BitVec 1 :=
  let arg1 : BitVec 32 := BitVec.ofNat 32 (i 1).val
  let v12 : BitVec 1 := Scalar.cmpi .eq arg1 v11
  let v13 : BitVec 32 := Scalar.extui v12
  let c0_i32 : BitVec 32 := 0#32
  let v14 : BitVec 1 := Scalar.cmpi .ne v13 c0_i32
  v14

def cc0_transform_0 (inb_S2_S1_0 : ∀ a, (![0] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![arg1.toNat, v0.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PairSumRef.lean ====
abbrev S4x2x2048x1024 : Shape := ⟨4, ![4, 2, 2048, 1024]⟩
abbrev S4x1x2048x1024 : Shape := ⟨4, ![4, 1, 2048, 1024]⟩
abbrev S2 : Shape := ⟨1, ![2]⟩
abbrev S1 : Shape := ⟨1, ![1]⟩
abbrev S_ : Shape := ⟨0, ![]⟩
abbrev S4x2048x1024 : Shape := ⟨3, ![4, 2048, 1024]⟩
abbrev S1x2048x1024 : Shape := ⟨3, ![1, 2048, 1024]⟩
abbrev S2048x1024 : Shape := ⟨2, ![2048, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x2x2048x1024, .bf16⟩
  | .hbm, ⟨1, _⟩ => ⟨S4x1x2048x1024, .bf16⟩
  | .hbm, ⟨2, _⟩ => ⟨S2, .i32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S4x1x2048x1024, .bf16⟩
  | .hbm, ⟨8, _⟩ => ⟨S4x2048x1024, .bf16⟩
  | .hbm, ⟨9, _⟩ => ⟨S4x1x2048x1024, .bf16⟩
  | .hbm, ⟨10, _⟩ => ⟨S4x2048x1024, .bf16⟩
  | .hbm, ⟨11, _⟩ => ⟨S4x2048x1024, .bf16⟩
  | .hbm, ⟨12, _⟩ => ⟨S4x2048x1024, .f32⟩
  | .hbm, ⟨13, _⟩ => ⟨S4x2048x1024, .bf16⟩
  | .hbm, ⟨14, _⟩ => ⟨S4x2048x1024, .f32⟩
  | .hbm, ⟨15, _⟩ => ⟨S4x2048x1024, .f32⟩
  | .hbm, ⟨16, _⟩ => ⟨S1, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S1x2048x1024, .f32⟩
  | .hbm, ⟨21, _⟩ => ⟨S2048x1024, .f32⟩
  | .hbm, ⟨22, _⟩ => ⟨S1, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S1x2048x1024, .f32⟩
  | .hbm, ⟨27, _⟩ => ⟨S2048x1024, .f32⟩
  | .hbm, ⟨28, _⟩ => ⟨S1, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S1x2048x1024, .f32⟩
  | .hbm, ⟨33, _⟩ => ⟨S2048x1024, .f32⟩
  | .hbm, ⟨34, _⟩ => ⟨S1x2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S4x2048x1024, .bf16⟩
  | _, _ => ⟨S4x2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== AdamHead.lean ====
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .local _ .vmem, ⟨0, _⟩ => ⟨S8x16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamHeadRefIdeal.lean ====
abbrev S8x16x128 : Shape := ⟨3, ![8, 16, 128]⟩
abbrev S16x128 : Shape := ⟨2, ![16, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S_, .f32⟩
  | .hbm, ⟨7, _⟩ => ⟨S16x128, .f32⟩
  | .hbm, ⟨8, _⟩ => ⟨S16x128, .f32⟩
  | .hbm, ⟨9, _⟩ => ⟨S_, .f32⟩
  | .hbm, ⟨10, _⟩ => ⟨S16x128, .f32⟩
  | .hbm, ⟨11, _⟩ => ⟨S16x128, .f32⟩
  | .hbm, ⟨12, _⟩ => ⟨S16x128, .f32⟩
  | .hbm, ⟨13, _⟩ => ⟨S_, .f32⟩
  | .hbm, ⟨14, _⟩ => ⟨S16x128, .f32⟩
  | .hbm, ⟨15, _⟩ => ⟨S16x128, .f32⟩
  | .hbm, ⟨16, _⟩ => ⟨S16x128, .f32⟩
  | .hbm, ⟨17, _⟩ => ⟨S_, .f32⟩
  | .hbm, ⟨18, _⟩ => ⟨S16x128, .f32⟩
  | .hbm, ⟨19, _⟩ => ⟨S16x128, .f32⟩
  | .hbm, ⟨20, _⟩ => ⟨S16x128, .f32⟩
  | .hbm, ⟨21, _⟩ => ⟨S_, .f32⟩
  | .hbm, ⟨22, _⟩ => ⟨S16x128, .f32⟩
  | .hbm, ⟨23, _⟩ => ⟨S16x128, .f32⟩
  | .hbm, ⟨24, _⟩ => ⟨S_, .f32⟩
  | .hbm, ⟨25, _⟩ => ⟨S16x128, .f32⟩
  | .hbm, ⟨26, _⟩ => ⟨S16x128, .f32⟩
  | .hbm, ⟨27, _⟩ => ⟨S16x128, .f32⟩
  | .hbm, ⟨28, _⟩ => ⟨S_, .f32⟩
  | .hbm, ⟨29, _⟩ => ⟨S16x128, .f32⟩
  | .hbm, ⟨30, _⟩ => ⟨S16x128, .f32⟩
  | .hbm, ⟨31, _⟩ => ⟨S16x128, .f32⟩
  | .hbm, ⟨32, _⟩ => ⟨S_, .f32⟩
  | .hbm, ⟨33, _⟩ => ⟨S16x128, .f32⟩
  | .hbm, ⟨34, _⟩ => ⟨S16x128, .f32⟩
  | .hbm, ⟨35, _⟩ => ⟨S16x128, .f32⟩
  | .hbm, ⟨36, _⟩ => ⟨S_, .f32⟩
  | .hbm, ⟨37, _⟩ => ⟨S16x128, .f32⟩
  | .hbm, ⟨38, _⟩ => ⟨S16x128, .f32⟩
  | _, _ => ⟨S8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamRep.lean ====
abbrev S8x4312x128 : Shape := ⟨3, ![8, 4312, 128]⟩
abbrev S4176x128 : Shape := ⟨2, ![4176, 128]⟩
abbrev S8x2088x128 : Shape := ⟨3, ![8, 2088, 128]⟩
abbrev S2088x128 : Shape := ⟨2, ![2088, 128]⟩
abbrev S1x2088x128 : Shape := ⟨3, ![1, 2088, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x4312x128, .f32⟩
  | .hbm, ⟨1, _⟩ => ⟨S4176x128, .f32⟩
  | .hbm, ⟨2, _⟩ => ⟨S4176x128, .f32⟩
  | .hbm, ⟨3, _⟩ => ⟨S4176x128, .f32⟩
  | .hbm, ⟨4, _⟩ => ⟨S4176x128, .f32⟩
  | .hbm, ⟨5, _⟩ => ⟨S4176x128, .f32⟩
  | .hbm, ⟨6, _⟩ => ⟨S4176x128, .f32⟩
  | .hbm, ⟨7, _⟩ => ⟨S4176x128, .f32⟩
  | .local _ .vmem, ⟨0, _⟩ => ⟨S8x2088x128, .f32⟩
  | .local _ .vmem, ⟨1, _⟩ => ⟨S8x2088x128, .f32⟩
  | .local _ .vmem, ⟨2, _⟩ => ⟨S2088x128, .f32⟩
  | .local _ .vmem, ⟨3, _⟩ => ⟨S2088x128, .f32⟩
  | .local _ .vmem, ⟨4, _⟩ => ⟨S2088x128, .f32⟩
  | .local _ .vmem, ⟨5, _⟩ => ⟨S2088x128, .f32⟩
  | .local _ .vmem, ⟨6, _⟩ => ⟨S2088x128, .f32⟩
  | .local _ .vmem, ⟨7, _⟩ => ⟨S2088x128, .f32⟩
  | .local _ .vmem, ⟨8, _⟩ => ⟨S2088x128, .f32⟩
  | .local _ .vmem, ⟨9, _⟩ => ⟨S2088x128, .f32⟩
  | .local _ .vmem, ⟨10, _⟩ => ⟨S2088x128, .f32⟩
  | .local _ .vmem, ⟨11, _⟩ => ⟨S2088x128, .f32⟩
  | .local _ .vmem, ⟨12, _⟩ => ⟨S2088x128, .f32⟩
  | .local _ .vmem, ⟨13, _⟩ => ⟨S2088x128, .f32⟩
  | .local _ .vmem, ⟨14, _⟩ => ⟨S2088x128, .f32⟩
  | .local _ .vmem, ⟨15, _⟩ => ⟨S2088x128, .f32⟩
  | _, _ => ⟨S8x4312x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2088x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2088x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2088x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2088x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2088x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2088x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2088x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRepRefIdeal.lean ====
abbrev S8x4312x128 : Shape := ⟨3, ![8, 4312, 128]⟩
abbrev S4176x128 : Shape := ⟨2, ![4176, 128]⟩
abbrev S8x4176x128 : Shape := ⟨3, ![8, 4176, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4312x128, .f32⟩
  | .hbm, ⟨1, _⟩ => ⟨S4176x128, .f32⟩
  | .hbm, ⟨2, _⟩ => ⟨S4176x128, .f32⟩
  | .hbm, ⟨3, _⟩ => ⟨S4176x128, .f32⟩
  | .hbm, ⟨4, _⟩ => ⟨S8x4176x128, .f32⟩
  | .hbm, ⟨5, _⟩ => ⟨S_, .f32⟩
  | .hbm, ⟨6, _⟩ => ⟨S4176x128, .f32⟩
  | .hbm, ⟨7, _⟩ => ⟨S_, .f32⟩
  | .hbm, ⟨8, _⟩ => ⟨S4176x128, .f32⟩
  | .hbm, ⟨9, _⟩ => ⟨S4176x128, .f32⟩
  | .hbm, ⟨10, _⟩ => ⟨S_, .f32⟩
  | .hbm, ⟨11, _⟩ => ⟨S4176x128, .f32⟩
  | .hbm, ⟨12, _⟩ => ⟨S4176x128, .f32⟩
  | .hbm, ⟨13, _⟩ => ⟨S4176x128, .f32⟩
  | .hbm, ⟨14, _⟩ => ⟨S_, .f32⟩
  | .hbm, ⟨15, _⟩ => ⟨S4176x128, .f32⟩
  | .hbm, ⟨16, _⟩ => ⟨S4176x128, .f32⟩
  | .hbm, ⟨17, _⟩ => ⟨S4176x128, .f32⟩
  | .hbm, ⟨18, _⟩ => ⟨S_, .f32⟩
  | .hbm, ⟨19, _⟩ => ⟨S4176x128, .f32⟩
  | .hbm, ⟨20, _⟩ => ⟨S4176x128, .f32⟩
  | .hbm, ⟨21, _⟩ => ⟨S4176x128, .f32⟩
  | .hbm, ⟨22, _⟩ => ⟨S_, .f32⟩
  | .hbm, ⟨23, _⟩ => ⟨S4176x128, .f32⟩
  | .hbm, ⟨24, _⟩ => ⟨S4176x128, .f32⟩
  | .hbm, ⟨25, _⟩ => ⟨S_, .f32⟩
  | .hbm, ⟨26, _⟩ => ⟨S4176x128, .f32⟩
  | .hbm, ⟨27, _⟩ => ⟨S4176x128, .f32⟩
  | .hbm, ⟨28, _⟩ => ⟨S4176x128, .f32⟩
  | .hbm, ⟨29, _⟩ => ⟨S_, .f32⟩
  | .hbm, ⟨30, _⟩ => ⟨S4176x128, .f32⟩
  | .hbm, ⟨31, _⟩ => ⟨S4176x128, .f32⟩
  | .hbm, ⟨32, _⟩ => ⟨S4176x128, .f32⟩
  | .hbm, ⟨33, _⟩ => ⟨S_, .f32⟩
  | .hbm, ⟨34, _⟩ => ⟨S4176x128, .f32⟩
  | .hbm, ⟨35, _⟩ => ⟨S4176x128, .f32⟩
  | .hbm, ⟨36, _⟩ => ⟨S4176x128, .f32⟩
  | .hbm, ⟨37, _⟩ => ⟨S_, .f32⟩
  | .hbm, ⟨38, _⟩ => ⟨S4176x128, .f32⟩
  | .hbm, ⟨39, _⟩ => ⟨S4176x128, .f32⟩
  | _, _ => ⟨S8x4312x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.LnMath.lean ====
module

public import Idealize.ShloMosaic.Lib.Pipeline.ValueKit
public import Idealize.ShloMosaic.PureOps.Ideal.Laws
public import Idealize.ShloMosaic.Lib.IdealHost

/-! # Layer norm and its gradient over one row of real numbers

The two programs' row formulas over the extended reals (`xc` the centred row, `rs` the inverse deviation, `dzK` the
three-term gradient the kernel writes, `dzR` the gradient the derivative of the forward lines spells out), and that at a
row of real numbers the two gradients are the same number. -/

@[expose] public section

noncomputable section

namespace Cert.LnMath

open Idealize.ShloMosaic

/-- The coercion of a finite sum of reals. -/
theorem coe_sum' {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A real factor that is not negative goes into a sum of extended reals. -/
theorem mul_sum_nn {ι : Type} (s : Finset ι) (a : ℝ) (ha : 0 ≤ a) (f : ι → EReal) :
    (a : EReal) * ∑ k ∈ s, f k = ∑ k ∈ s, (a : EReal) * f k := by
  classical
  induction s using Finset.induction_on with
  | empty => simp
  | insert b s hb ih =>
    rw [Finset.sum_insert hb, Finset.sum_insert hb,
      EReal.left_distrib_of_nonneg_of_ne_top (EReal.coe_nonneg.mpr ha) (EReal.coe_ne_top a), ih]

theorem c2048 : Ideal.ofBits .f32 0x45000000#32 = ((2048 : ℝ) : EReal) := by
  simp [Ideal.ofBits, Ideal.ieee, -EReal.coe_mul]; norm_num

theorem chalf : Ideal.ofBits .f32 0x3F000000#32 = ((1 / 2 : ℝ) : EReal) := by
  simp [Ideal.ofBits, Ideal.ieee, -EReal.coe_mul]; norm_num

theorem cneghalf : Ideal.ofBits .f32 0xBF000000#32 = ((-(1 / 2) : ℝ) : EReal) := by
  simp [Ideal.ofBits, Ideal.ieee, -EReal.coe_mul]; norm_num

theorem ctwo : Ideal.ofBits .f32 0x40000000#32 = ((2 : ℝ) : EReal) := by
  simp [Ideal.ofBits, Ideal.ieee, -EReal.coe_mul]; norm_num

theorem cinv2048 : Ideal.ofBits .f32 0x3A000000#32 = ((1 / 2048 : ℝ) : EReal) := by
  simp [Ideal.ofBits, Ideal.ieee, -EReal.coe_mul]; norm_num

/-- The small number under the root. -/
def ε : ℝ := (10995116 : ℝ) * (2 : ℝ) ^ (-40 : ℤ)

theorem ε_pos : 0 < ε := by unfold ε; positivity

theorem ceps : Ideal.ofBits .f32 0x3727C5AC#32 = ((ε : ℝ) : EReal) := by
  simp [Ideal.ofBits, Ideal.ieee, ε, -EReal.coe_mul]

/-- 2 to the quarter, rounded: the weight of the residual. -/
def α : ℝ := (9975792 : ℝ) * (2 : ℝ) ^ (-23 : ℤ)

theorem calpha : Ideal.ofBits .f32 0x3F9837F0#32 = ((α : ℝ) : EReal) := by
  simp [Ideal.ofBits, Ideal.ieee, α, -EReal.coe_mul]

/-- The centred row. -/
def xc (z : Fin 2048 → EReal) (j : Fin 2048) : EReal :=
  z j - Ideal.div (∑ k, z k) (Ideal.ofBits .f32 0x45000000#32)

/-- The variance plus the small number. -/
def ve (z : Fin 2048 → EReal) : EReal :=
  Ideal.div (∑ k, xc z k * xc z k) (Ideal.ofBits .f32 0x45000000#32) + Ideal.ofBits .f32 0x3727C5AC#32

/-- The inverse deviation. -/
def rs (z : Fin 2048 → EReal) : EReal := Ideal.rsqrt (ve z)

/-- The normalised row. -/
def xh (z : Fin 2048 → EReal) (j : Fin 2048) : EReal := xc z j * rs z

/-- The kernel's gradient of the row: `dx` is the cotangent times the gain. -/
def dzK (z dx : Fin 2048 → EReal) (j : Fin 2048) : EReal :=
  rs z * (dx j - Ideal.div (∑ k, dx k) (Ideal.ofBits .f32 0x45000000#32)
    - xh z j * Ideal.div (∑ k, dx k * xh z k) (Ideal.ofBits .f32 0x45000000#32))

/-- The term of the derivative through the variance. -/
def tv (z dx : Fin 2048 → EReal) (j : Fin 2048) : EReal :=
  Ideal.div ((∑ k, xc z k * dx k) * (Ideal.ofBits .f32 0xBF000000#32 * Ideal.div (rs z) (ve z)))
    (Ideal.ofBits .f32 0x45000000#32) * (Ideal.ofBits .f32 0x40000000#32 * xc z j)

/-- The derivative's gradient of the row. -/
def dzR (z dx : Fin 2048 → EReal) (j : Fin 2048) : EReal :=
  (dx j * rs z + tv z dx j) + Ideal.div ((∑ k, -(dx k * rs z)) + ∑ k, -(tv z dx k)) (Ideal.ofBits .f32 0x45000000#32)

/-! ## The rows of the two programs' arrays -/

section rows
variable (f x t : Vec Ideal (⟨2, ![4096, 2048]⟩ : Shape) .f32) (g b : Vec Ideal (⟨2, ![1, 2048]⟩ : Shape) .f32)

/-- Row `i` of the sum the norm is taken of. -/
def zrow (i : Fin 4096) (k : Fin 2048) : EReal := Ideal.ofBits .f32 0x3F9837F0#32 * x (ix2 i k) + f (ix2 i k)

/-- The error of the normalised row against the target. -/
def er (i : Fin 4096) (k : Fin 2048) : EReal :=
  xh (zrow f x i) k * g (ix2 0 k) + b (ix2 0 k) - t (ix2 i k)

/-- The cotangent of the normalised row, as the kernel spells it. -/
def ctK (i : Fin 4096) (k : Fin 2048) : EReal := er f x t g b i k * Ideal.ofBits .f32 0x3A000000#32

/-- The cotangent of the normalised row, as the derivative spells it. -/
def ctR (i : Fin 4096) (k : Fin 2048) : EReal :=
  Ideal.div (Ideal.ofBits .f32 0x3F000000#32) (Ideal.ofBits .f32 0x45000000#32)
    * (Ideal.ofBits .f32 0x40000000#32 * er f x t g b i k)

end rows

section real
variable (z : Fin 2048 → ℝ)

def xcr (j : Fin 2048) : ℝ := z j - (∑ k, z k) / 2048
def ver : ℝ := (∑ k, xcr z k * xcr z k) / 2048 + ε
def rsr : ℝ := (Real.sqrt (ver z))⁻¹

theorem ver_pos : 0 < ver z := by
  unfold ver
  have h : 0 ≤ ∑ k, xcr z k * xcr z k := Finset.sum_nonneg fun k _ => mul_self_nonneg _
  have := ε_pos
  positivity

theorem div2048 (x : ℝ) : Ideal.div (x : EReal) (Ideal.ofBits .f32 0x45000000#32) = ((x / 2048 : ℝ) : EReal) := by
  rw [c2048, Ideal.div_coe (by norm_num), ← EReal.coe_mul, mul_one_div]

theorem xc_coe (j : Fin 2048) : xc (fun k => (z k : EReal)) j = (xcr z j : EReal) := by
  unfold xc xcr
  rw [← coe_sum', div2048, ← EReal.coe_sub]

theorem ve_coe : ve (fun k => (z k : EReal)) = (ver z : EReal) := by
  unfold ve ver
  simp only [xc_coe, ← EReal.coe_mul]
  rw [← coe_sum', div2048, ceps, ← EReal.coe_add]

theorem rs_coe : rs (fun k => (z k : EReal)) = (rsr z : EReal) := by
  unfold rs rsr
  rw [ve_coe, Ideal.rsqrt_coe, if_neg (not_lt.mpr (ver_pos z).le), if_neg (ver_pos z).ne']

theorem xh_coe (j : Fin 2048) : xh (fun k => (z k : EReal)) j = ((xcr z j * rsr z : ℝ) : EReal) := by
  unfold xh
  rw [xc_coe, rs_coe, ← EReal.coe_mul]

theorem sum_xcr : ∑ k, xcr z k = 0 := by
  unfold xcr
  rw [Finset.sum_sub_distrib]
  simp
  ring

theorem rsr_div : rsr z / ver z = rsr z * (rsr z * rsr z) := by
  have h : rsr z * rsr z = (ver z)⁻¹ := by
    unfold rsr
    rw [← mul_inv, Real.mul_self_sqrt (ver_pos z).le]
  rw [h, div_eq_mul_inv]

/-- At real numbers the two gradients of the row agree. -/
theorem dz_eq (dx : Fin 2048 → ℝ) (j : Fin 2048) :
    dzK (fun k => (z k : EReal)) (fun k => (dx k : EReal)) j = dzR (fun k => (z k : EReal)) (fun k => (dx k : EReal)) j := by
  have hv : (ver z) ≠ 0 := (ver_pos z).ne'
  have htv : ∀ j, tv (fun k => (z k : EReal)) (fun k => (dx k : EReal)) j
      = ((((∑ k, xcr z k * dx k) * (-(1 / 2) * (rsr z / ver z))) / 2048 * (2 * xcr z j) : ℝ) : EReal) := by
    intro j
    unfold tv
    simp only [xc_coe, rs_coe, ve_coe, ← EReal.coe_mul]
    rw [Ideal.div_coe hv, cneghalf, ctwo, ← coe_sum', ← EReal.coe_mul, ← EReal.coe_mul, ← EReal.coe_mul, div2048,
      ← EReal.coe_mul, ← EReal.coe_mul, mul_one_div]
  unfold dzK dzR
  simp only [htv, xh_coe, rs_coe, ← EReal.coe_mul, ← EReal.coe_neg, ← coe_sum', ← EReal.coe_add, div2048, ← EReal.coe_sub]
  rw [EReal.coe_eq_coe_iff]
  have h1 : ∑ k, -((∑ k, xcr z k * dx k) * (-(1 / 2) * (rsr z / ver z)) / 2048 * (2 * xcr z k)) = 0 := by
    have : ∀ k, -((∑ k, xcr z k * dx k) * (-(1 / 2) * (rsr z / ver z)) / 2048 * (2 * xcr z k))
        = (-((∑ k, xcr z k * dx k) * (-(1 / 2) * (rsr z / ver z)) / 2048 * 2)) * xcr z k := fun k => by ring
    simp only [this]
    rw [← Finset.mul_sum, sum_xcr, mul_zero]
  have h2 : ∑ k, -(dx k * rsr z) = -((∑ k, dx k) * rsr z) := by
    rw [Finset.sum_neg_distrib, Finset.sum_mul]
  have h3 : ∑ k, dx k * (xcr z k * rsr z) = (∑ k, xcr z k * dx k) * rsr z := by
    rw [Finset.sum_mul]
    exact Finset.sum_congr rfl fun k _ => by ring
  rw [h1, h2, h3, rsr_div]
  ring

end real

section reals
variable {f x t : Vec Ideal (⟨2, ![4096, 2048]⟩ : Shape) .f32} {g b : Vec Ideal (⟨2, ![1, 2048]⟩ : Shape) .f32}

theorem zrow_coe (hf : ∀ i, ∃ r : ℝ, f i = (r : EReal)) (hx : ∀ i, ∃ r : ℝ, x i = (r : EReal)) (i : Fin 4096) :
    ∃ z : Fin 2048 → ℝ, zrow f x i = fun k => (z k : EReal) := by
  choose f' hf using hf
  choose x' hx using hx
  refine ⟨fun k => α * x' (ix2 i k) + f' (ix2 i k), funext fun k => ?_⟩
  unfold zrow
  rw [hf, hx, calpha, ← EReal.coe_mul, ← EReal.coe_add]

theorem er_coe (hf : ∀ i, ∃ r : ℝ, f i = (r : EReal)) (hx : ∀ i, ∃ r : ℝ, x i = (r : EReal))
    (ht : ∀ i, ∃ r : ℝ, t i = (r : EReal)) (hg : ∀ i, ∃ r : ℝ, g i = (r : EReal)) (hb : ∀ i, ∃ r : ℝ, b i = (r : EReal))
    (i : Fin 4096) (k : Fin 2048) : ∃ e : ℝ, er f x t g b i k = (e : EReal) := by
  obtain ⟨z, hz⟩ := zrow_coe hf hx i
  obtain ⟨t', ht⟩ := ht (ix2 i k)
  obtain ⟨g', hg⟩ := hg (ix2 0 k)
  obtain ⟨b', hb⟩ := hb (ix2 0 k)
  refine ⟨xcr z k * rsr z * g' + b' - t', ?_⟩
  unfold er
  rw [hz, xh_coe, ht, hg, hb, ← EReal.coe_mul, ← EReal.coe_add, ← EReal.coe_sub]

theorem ctK_coe {i : Fin 4096} {k : Fin 2048} {e : ℝ} (h : er f x t g b i k = (e : EReal)) :
    ctK f x t g b i k = ((e * (1 / 2048) : ℝ) : EReal) := by
  unfold ctK
  rw [h, cinv2048, ← EReal.coe_mul]

/-- The two spellings of the cotangent of the normalised row. -/
theorem ct_eq {i : Fin 4096} {k : Fin 2048} {e : ℝ} (h : er f x t g b i k = (e : EReal)) :
    ctR f x t g b i k = ctK f x t g b i k := by
  rw [ctK_coe h]
  unfold ctR
  rw [h, chalf, ctwo, div2048, ← EReal.coe_mul, ← EReal.coe_mul]
  congr 1
  ring

/-- The two gradients of a row of the sum. -/
theorem dz_row (hf : ∀ i, ∃ r : ℝ, f i = (r : EReal)) (hx : ∀ i, ∃ r : ℝ, x i = (r : EReal))
    (ht : ∀ i, ∃ r : ℝ, t i = (r : EReal)) (hg : ∀ i, ∃ r : ℝ, g i = (r : EReal)) (hb : ∀ i, ∃ r : ℝ, b i = (r : EReal))
    (i : Fin 4096) (j : Fin 2048) :
    dzR (zrow f x i) (fun k => ctR f x t g b i k * g (ix2 0 k)) j = dzK (zrow f x i) (fun k => ctK f x t g b i k * g (ix2 0 k)) j := by
  have he := fun k => er_coe hf hx ht hg hb i k
  choose e he using he
  obtain ⟨z, hz⟩ := zrow_coe hf hx i
  choose g' hg using hg
  have h1 : (fun k => ctR f x t g b i k * g (ix2 0 k)) = fun k => ((e k * (1 / 2048) * g' (ix2 0 k) : ℝ) : EReal) := by
    funext k
    rw [ct_eq (he k), ctK_coe (he k), hg, ← EReal.coe_mul]
  have h2 : (fun k => ctK f x t g b i k * g (ix2 0 k)) = fun k => ((e k * (1 / 2048) * g' (ix2 0 k) : ℝ) : EReal) := by
    funext k
    rw [ctK_coe (he k), hg, ← EReal.coe_mul]
  rw [h1, h2, hz]
  exact (dz_eq z _ j).symm

end reals

end Cert.LnMath
-- ==== Proof.LnLossVal.lean ====
module

public import proofs.«01_k».proof.Proof.Gen.LnLossIdeal.Value
public import proofs.«01_k».proof.Proof.LnMath

/-! # The layer norm and loss call: its five result arrays at an index -/

@[expose] public section

set_option maxRecDepth 16384

noncomputable section

namespace Cert.LnLossIdeal.Val

open Cert.LnLossIdeal Cert.LnLossIdeal.Gen Cert.LnMath
open Idealize.ShloMosaic Idealize.ShloMosaic.TcCoe Idealize.SL.Sem
open Idealize.ShloMosaic.Pipeline (Dat)

/-! ## The payloads at an index -/

section pay
variable (x f t : Vec Ideal S256x2048 .f32) (g b : Vec Ideal S1x2048 .f32)

/-- A row of the block the norm is taken of. -/
def zt (r : Fin 256) (k : Fin 2048) : EReal := Ideal.ofBits .f32 0x3F9837F0#32 * x (ix2 r k) + f (ix2 r k)

def et (r : Fin 256) (k : Fin 2048) : EReal := xh (zt x f r) k * g (ix2 0 k) + b (ix2 0 k) - t (ix2 r k)

theorem p4 (r : Fin 256) (k : Fin 2048) : k0_pay4 (F := Ideal) x f (ix2 r k) = xc (zt x f r) k := by
  pointwise [k0_pay4, xc, zt]

theorem p5 (r : Fin 256) (k : Fin 1) : k0_pay5 (F := Ideal) x f (ix2 r k) = rs (zt x f r) := by
  pointwise [k0_pay5, p4, rs, ve]

theorem p6 (r : Fin 256) (k : Fin 2048) : k0_pay6 (F := Ideal) x f (ix2 r k) = xh (zt x f r) k := by
  pointwise [k0_pay6, p4, p5, xh]

theorem p7 (r : Fin 256) (k : Fin 2048) : k0_pay7 (F := Ideal) g x f b t (ix2 r k) = et x f t g b r k := by
  pointwise [k0_pay7, p6, et]

theorem p8 (r k : Fin 1) : k0_pay8 (F := Ideal) g x f b t (ix2 r k)
    = Ideal.ofBits .f32 0x3F000000#32 * ∑ r : Fin 256, Ideal.div (∑ k, et x f t g b r k * et x f t g b r k) (Ideal.ofBits .f32 0x45000000#32) := by
  pointwise [k0_pay8, p7]

theorem p9 (r : Fin 256) (k : Fin 2048) (e : FVec Ideal S256x2048 .f32) (c : EReal) :
    k0_pay9 (F := Ideal) e c (ix2 r k) = e (ix2 r k) * c := by
  pointwise [k0_pay9]

theorem p10 (r : Fin 256) (k : Fin 2048) (c : EReal) :
    k0_pay10 (F := Ideal) g (k0_pay5 x f) (k0_pay6 x f) (k0_pay7 g x f b t) c (ix2 r k)
      = dzK (zt x f r) (fun k => et x f t g b r k * c * g (ix2 0 k)) k := by
  pointwise [k0_pay10, p9, p5, p6, p7, dzK]

theorem p11 (r : Fin 1) (k : Fin 2048) (c : EReal) :
    k0_pay11 (F := Ideal) (k0_pay6 x f) (k0_pay7 g x f b t) c (ix2 r k)
      = ∑ r : Fin 256, et x f t g b r k * c * xh (zt x f r) k := by
  pointwise [k0_pay11, p9, p6, p7]

theorem p12 (r : Fin 1) (k : Fin 2048) (c : EReal) :
    k0_pay12 (F := Ideal) (k0_pay7 g x f b t) c (ix2 r k) = ∑ r : Fin 256, et x f t g b r k * c := by
  pointwise [k0_pay12, p9, p7]

theorem p13 (r : Fin 256) (k : Fin 2048) (c : EReal) :
    k0_pay13 (F := Ideal) g (k0_pay5 x f) (k0_pay6 x f) (k0_pay7 g x f b t) c (ix2 r k)
      = dzK (zt x f r) (fun k => et x f t g b r k * c * g (ix2 0 k)) k := by
  pointwise [k0_pay13, p10]

theorem p1 (r : Fin 1) (k : Fin 2048) (c : EReal) (v : Vec Ideal S1x2048 .f32) :
    k0_pay1 (F := Ideal) (k0_pay12 (k0_pay7 g x f b t) c) v (ix2 r k) = v (ix2 r k) + ∑ r : Fin 256, et x f t g b r k * c := by
  pointwise [k0_pay1, p12]

theorem p14 (r : Fin 1) (k : Fin 2048) (c : EReal) (v : Vec Ideal S1x2048 .f32) :
    k0_pay14 (F := Ideal) (k0_pay6 x f) (k0_pay7 g x f b t) c v (ix2 r k)
      = v (ix2 r k) + ∑ r : Fin 256, et x f t g b r k * c * xh (zt x f r) k := by
  pointwise [k0_pay14, p11]

theorem p2 (r : Fin 8) (k : Fin 128) : k0_pay2 (F := Ideal) (k0_pay8 g x f b t) (ix2 r k)
    = Ideal.ofBits .f32 0x3F000000#32 * ∑ r : Fin 256, Ideal.div (∑ k, et x f t g b r k * et x f t g b r k) (Ideal.ofBits .f32 0x45000000#32) := by
  pointwise [k0_pay2, p8]

theorem p3 (r : Fin 8) (k : Fin 128) (v : Vec Ideal S8x128 .f32) : k0_pay3 (F := Ideal) (k0_pay8 g x f b t) v (ix2 r k)
    = v (ix2 r k) + Ideal.ofBits .f32 0x3F000000#32 * ∑ r : Fin 256, Ideal.div (∑ k, et x f t g b r k * et x f t g b r k) (Ideal.ofBits .f32 0x45000000#32) := by
  pointwise [k0_pay3, p2]
end pay

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- The row of the array that row `r` of block `t` is. -/
abbrev row (t : Fin cfg0.N) (r : Fin 256) : Fin 4096 := ⟨t.val * 256 + r.val, by have := lt_of_lt_of_eq t.isLt N_0; omega⟩

section blocks
variable (c : Dev nD)

abbrev F0 : Vec Ideal S4096x2048 .f32 := m ((c.tc : Thread nD τ).loc main_arg0)
abbrev X1 : Vec Ideal S4096x2048 .f32 := m ((c.tc : Thread nD τ).loc main_arg1)
abbrev T2 : Vec Ideal S4096x2048 .f32 := m ((c.tc : Thread nD τ).loc main_arg2)
abbrev G3 : Vec Ideal S1x2048 .f32 := m ((c.tc : Thread nD τ).loc main_arg3)
abbrev B4 : Vec Ideal S1x2048 .f32 := m ((c.tc : Thread nD τ).loc main_arg4)

theorem b0 (t : Fin cfg0.N) (r : Fin 256) (k : Fin 2048) : iblk m c 0 t (ix2 r k) = F0 m c (ix2 (row t r) k) := by
  blk_point [iblk, V, idx t]
theorem b1 (t : Fin cfg0.N) (r : Fin 256) (k : Fin 2048) : iblk m c 1 t (ix2 r k) = X1 m c (ix2 (row t r) k) := by
  blk_point [iblk, V, idx t]
theorem b2 (t : Fin cfg0.N) (r : Fin 256) (k : Fin 2048) : iblk m c 2 t (ix2 r k) = T2 m c (ix2 (row t r) k) := by
  blk_point [iblk, V, idx t]
theorem b3 (t : Fin cfg0.N) (r : Fin 1) (k : Fin 2048) : iblk m c 3 t (ix2 r k) = G3 m c (ix2 r k) := by
  blk_point [iblk, V, idx t]
theorem b4 (t : Fin cfg0.N) (r : Fin 1) (k : Fin 2048) : iblk m c 4 t (ix2 r k) = B4 m c (ix2 r k) := by
  blk_point [iblk, V, idx t]

theorem ztb (t : Fin cfg0.N) (r : Fin 256) : zt (iblk m c 1 t) (iblk m c 0 t) r = zrow (F0 m c) (X1 m c) (row t r) := by
  funext k
  unfold zt zrow
  rw [b0, b1]

theorem etb (t : Fin cfg0.N) (r : Fin 256) (k : Fin 2048) :
    et (iblk m c 1 t) (iblk m c 0 t) (iblk m c 2 t) (iblk m c 3 t) (iblk m c 4 t) r k
      = er (F0 m c) (X1 m c) (T2 m c) (G3 m c) (B4 m c) (row t r) k := by
  unfold et er
  rw [ztb, b2, b3, b4]

/-- The gradient of the sum, the whole array. -/
def dzA : Vec Ideal S4096x2048 .f32 := fun j =>
  dzK (zrow (F0 m c) (X1 m c) (j 0))
    (fun k => ctK (F0 m c) (X1 m c) (T2 m c) (G3 m c) (B4 m c) (j 0) k * (G3 m c) (ix2 0 k)) (j 1)

/-- The same, stored in the narrow format. -/
def dzB : Vec Ideal S4096x2048 .bf16 := fun j => dzA m c j

theorem emb5 (W : Vec Ideal S4096x2048 .f32) (t : Fin cfg0.N) (r : Fin 256) (k : Fin 2048) :
    W (((View.whole main_v0_0).slice (win0_5.rect t)).emb (ix2 r k)) = W (ix2 (row t r) k) := by
  blk_point [idx t]

theorem emb6 (W : Vec Ideal S4096x2048 .bf16) (t : Fin cfg0.N) (r : Fin 256) (k : Fin 2048) :
    W (((View.whole main_v0_1).slice (win0_6.rect t)).emb (ix2 r k)) = W (ix2 (row t r) k) := by
  blk_point [idx t]

theorem pt5 (t : Fin cfg0.N) (r : Fin 256) (k : Fin 2048) :
    k0_pay10 (F := Ideal) (iblk m c 3 t) (k0_pay5 (iblk m c 1 t) (iblk m c 0 t)) (k0_pay6 (iblk m c 1 t) (iblk m c 0 t))
      (k0_pay7 (iblk m c 3 t) (iblk m c 1 t) (iblk m c 0 t) (iblk m c 4 t) (iblk m c 2 t))
      (FloatOps.ofBits FTy.f32 973078528#32) (ix2 r k) = dzA m c (ix2 (row t r) k) := by
  rw [p10]
  simp only [ztb, etb, b3]
  rfl

theorem pt6 (t : Fin cfg0.N) (r : Fin 256) (k : Fin 2048) :
    k0_pay13 (F := Ideal) (iblk m c 3 t) (k0_pay5 (iblk m c 1 t) (iblk m c 0 t)) (k0_pay6 (iblk m c 1 t) (iblk m c 0 t))
      (k0_pay7 (iblk m c 3 t) (iblk m c 1 t) (iblk m c 0 t) (iblk m c 4 t) (iblk m c 2 t))
      (FloatOps.ofBits FTy.f32 973078528#32) (ix2 r k) = dzB m c (ix2 (row t r) k) := by
  rw [p13]
  simp only [ztb, etb, b3]
  rfl

theorem final5 : (dats m 0 c).arrAt 5 cfg0.N = dzA m c := by
  refine (dats m 0 c).arrAt_eq_of_covers 5 (dzA m c) (by decide +kernel) fun t hf y => ?_
  blk_simp
  rw [after0_5]
  have ht : t.val < 16 := lt_of_lt_of_eq t.isLt N_0
  by_cases h : t.val % 16 = 0
  · rw [outsAt0_A m c t h (by omega) h (by omega) h (by omega)]
    frame_out
    idx_vars y
    exact (pt5 m c t y0 y1).trans (emb5 (dzA m c) t y0 y1).symm
  · rw [outsAt0_B m c t h (by omega) h (by omega) h (by omega)]
    frame_out
    idx_vars y
    exact (pt5 m c t y0 y1).trans (emb5 (dzA m c) t y0 y1).symm

theorem final6 : (dats m 0 c).arrAt 6 cfg0.N = dzB m c := by
  refine (dats m 0 c).arrAt_eq_of_covers 6 (dzB m c) (by decide +kernel) fun t hf y => ?_
  blk_simp
  rw [after0_6]
  have ht : t.val < 16 := lt_of_lt_of_eq t.isLt N_0
  by_cases h : t.val % 16 = 0
  · rw [outsAt0_A m c t h (by omega) h (by omega) h (by omega)]
    frame_out
    idx_vars y
    exact (pt6 m c t y0 y1).trans (emb6 (dzB m c) t y0 y1).symm
  · rw [outsAt0_B m c t h (by omega) h (by omega) h (by omega)]
    frame_out
    idx_vars y
    exact (pt6 m c t y0 y1).trans (emb6 (dzB m c) t y0 y1).symm

theorem sum_rows (f : Fin 4096 → EReal) : ∑ p : Fin cfg0.N, ∑ r : Fin 256, f (row p r) = ∑ i, f i :=
  (Finset.sum_equiv (finCongr N_0) (by simp) fun p _ => rfl).trans (Fin.sum_mul_add_fin 16 256 f rfl)

theorem half_rows (f : Fin 4096 → EReal) :
    ∑ p : Fin cfg0.N, Ideal.ofBits .f32 0x3F000000#32 * ∑ r : Fin 256, f (row p r) = Ideal.ofBits .f32 0x3F000000#32 * ∑ i, f i := by
  rw [chalf, ← sum_rows f, mul_sum_nn _ _ (by norm_num)]

/-- The gradient of the gain. -/
def dgA : Vec Ideal S1x2048 .f32 := fun j => ∑ i : Fin 4096, ctK (F0 m c) (X1 m c) (T2 m c) (G3 m c) (B4 m c) i (j 1) * xh (zrow (F0 m c) (X1 m c) i) (j 1)

theorem final7 : (dats m 0 c).arrAt 7 cfg0.N = dgA m c := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => 0)
    (fun t j => ∑ r : Fin 256, ctK (F0 m c) (X1 m c) (T2 m c) (G3 m c) (B4 m c) (row t r) (j 1) * xh (zrow (F0 m c) (X1 m c) (row t r)) (j 1))
    (fun t h j => ?_) (fun t h j => ?_) (le_of_eq N_0) t0_15 rfl j]
  · rw [zero_add]
    exact sum_rows fun i => ctK (F0 m c) (X1 m c) (T2 m c) (G3 m c) (B4 m c) i (j 1) * xh (zrow (F0 m c) (X1 m c) i) (j 1)
  · have ht : t.val < 16 := lt_of_lt_of_eq t.isLt N_0
    rw [outsAt0_A m c t h (by omega) h (by omega) h (by omega)]
    frame_out
    idx_vars j
    rw [zero_add]
    rw [p11]
    simp only [ztb, etb]
    rfl
  · have ht : t.val < 16 := lt_of_lt_of_eq t.isLt N_0
    rw [outsAt0_B m c t h (by omega) h (by omega) h (by omega)]
    frame_out
    idx_vars j
    rw [p14]
    simp only [ztb, etb]
    rfl

/-- The gradient of the shift. -/
def dbA : Vec Ideal S1x2048 .f32 := fun j => ∑ i : Fin 4096, ctK (F0 m c) (X1 m c) (T2 m c) (G3 m c) (B4 m c) i (j 1)

theorem final8 : (dats m 0 c).arrAt 8 cfg0.N = dbA m c := by
  refine (dats m 0 c).arrAt_eq_of_after_last 8 t0_15 (by decide +kernel) _ fun j => ?_
  blk_simp
  rw [after0_8, Pipeline.eq_sum_fin_of_reset_step_apply_last (fun n h => (outsAt0 m c n h).2.2.2.1) 16 (fun _ => 0)
    (fun t j => ∑ r : Fin 256, ctK (F0 m c) (X1 m c) (T2 m c) (G3 m c) (B4 m c) (row t r) (j 1))
    (fun t h j => ?_) (fun t h j => ?_) (le_of_eq N_0) t0_15 rfl j]
  · rw [zero_add]
    exact sum_rows fun i => ctK (F0 m c) (X1 m c) (T2 m c) (G3 m c) (B4 m c) i (j 1)
  · have ht : t.val < 16 := lt_of_lt_of_eq t.isLt N_0
    rw [outsAt0_A m c t h (by omega) h (by omega) h (by omega)]
    frame_out
    idx_vars j
    rw [zero_add]
    rw [p12]
    simp only [etb]
    rfl
  · have ht : t.val < 16 := lt_of_lt_of_eq t.isLt N_0
    rw [outsAt0_B m c t h (by omega) h (by omega) h (by omega)]
    frame_out
    idx_vars j
    rw [p1]
    simp only [etb]
    rfl

/-- The loss, in every place of its tile. -/
def lsA : Vec Ideal S8x128 .f32 := fun j => Ideal.ofBits .f32 0x3F000000#32 * ∑ i : Fin 4096, Ideal.div (∑ k, er (F0 m c) (X1 m c) (T2 m c) (G3 m c) (B4 m c) i k * er (F0 m c) (X1 m c) (T2 m c) (G3 m c) (B4 m c) i k) (Ideal.ofBits .f32 0x45000000#32)

theorem final9 : (dats m 0 c).arrAt 9 cfg0.N = lsA m c := by
  refine (dats m 0 c).arrAt_eq_of_after_last 9 t0_15 (by decide +kernel) _ fun j => ?_
  blk_simp
  rw [after0_9, Pipeline.eq_sum_fin_of_reset_step_apply_last (fun n h => (outsAt0 m c n h).2.2.2.2) 16 (fun _ => 0)
    (fun t j => Ideal.ofBits .f32 0x3F000000#32 * ∑ r : Fin 256, Ideal.div (∑ k, er (F0 m c) (X1 m c) (T2 m c) (G3 m c) (B4 m c) (row t r) k * er (F0 m c) (X1 m c) (T2 m c) (G3 m c) (B4 m c) (row t r) k) (Ideal.ofBits .f32 0x45000000#32))
    (fun t h j => ?_) (fun t h j => ?_) (le_of_eq N_0) t0_15 rfl j]
  · rw [zero_add]
    exact half_rows fun i => Ideal.div (∑ k, er (F0 m c) (X1 m c) (T2 m c) (G3 m c) (B4 m c) i k * er (F0 m c) (X1 m c) (T2 m c) (G3 m c) (B4 m c) i k) (Ideal.ofBits .f32 0x45000000#32)
  · have ht : t.val < 16 := lt_of_lt_of_eq t.isLt N_0
    rw [outsAt0_A m c t h (by omega) h (by omega) h (by omega)]
    frame_out
    idx_vars j
    rw [zero_add]
    rw [p2]
    simp only [etb]
  · have ht : t.val < 16 := lt_of_lt_of_eq t.isLt N_0
    rw [outsAt0_B m c t h (by omega) h (by omega) h (by omega)]
    frame_out
    idx_vars j
    rw [p3]
    simp only [etb]

end blocks

end Cert.LnLossIdeal.Val
-- ==== Proof.LnLossRef.lean ====
module

public import proofs.«01_k».proof.Proof.Gen.LnLossRefIdeal.Read
public import proofs.«01_k».proof.Proof.LnMath

/-! # The reference's values of the layer norm and loss, at an index -/

@[expose] public section

set_option maxRecDepth 16384

noncomputable section

namespace Cert.LnLossRefIdeal.Val

open Cert.LnLossRefIdeal Cert.LnLossRefIdeal.Gen Cert.LnLossRefIdeal.Read Cert.LnMath
open Idealize.ShloMosaic Idealize.ShloMosaic.TcCoe Idealize.SL.Sem

variable (f x t : Vec Ideal S4096x2048 .f32) (g b : Vec Ideal S1x2048 .f32)

theorem r8 (i : Fin 4096) (k : Fin 2048) : val_main_v8 (F := Ideal) f x (ix2 i k) = xc (zrow f x i) k := by
  pointwise [val_main_v8, val_main_v7, val_main_v6, val_main_v5, val_main_v4, val_main_v3, val_main_v2, val_main_v1, val_main_v0, val_main_cst, val_main_cst_0, val_main_cst_1, xc, zrow]

theorem r17 (i : Fin 4096) (k : Fin 2048) : val_main_v17 (F := Ideal) f x (ix2 i k) = xc (zrow f x i) k := by
  pointwise [val_main_v17, val_main_v16, val_main_v6, val_main_v5, val_main_v4, val_main_v3, val_main_v2, val_main_v1, val_main_v0, val_main_cst, val_main_cst_0, val_main_cst_1, xc, zrow]

theorem r19 (i : Fin 4096) (k : Fin 1) : val_main_v19 (F := Ideal) f x (ix2 i k) = ve (zrow f x i) := by
  pointwise [val_main_v19, val_main_v18, val_main_v15, val_main_v14, val_main_v13, val_main_v12, val_main_v9, val_main_cst_3, val_main_cst_4, val_main_cst_5, r8, ve]

theorem r20 (i : Fin 4096) (k : Fin 1) : val_main_v20 (F := Ideal) f x (ix2 i k) = rs (zrow f x i) := by
  pointwise [val_main_v20, r19, rs]

theorem r23 (i : Fin 4096) (k : Fin 1) : val_main_v23 (F := Ideal) f x (ix2 i k)
    = Ideal.ofBits .f32 0xBF000000#32 * Ideal.div (rs (zrow f x i)) (ve (zrow f x i)) := by
  pointwise [val_main_v23, val_main_v22, val_main_v21, val_main_cst_6, r19, r20]

theorem r25 (i : Fin 4096) (k : Fin 2048) : val_main_v25 (F := Ideal) f x (ix2 i k) = xh (zrow f x i) k := by
  pointwise [val_main_v25, val_main_v24, r20, r17, xh]

theorem r30 (i : Fin 4096) (k : Fin 2048) : val_main_v30 (F := Ideal) f x t g b (ix2 i k) = er f x t g b i k := by
  pointwise [val_main_v30, val_main_v29, val_main_v28, val_main_v27, val_main_v26, r25, er]

theorem r44 (i : Fin 4096) (k : Fin 2048) : val_main_v44 (F := Ideal) f x t g b (ix2 i k) = ctR f x t g b i k := by
  pointwise [val_main_v44, val_main_v43, val_main_v42, val_main_v41, val_main_v40, val_main_v39, val_main_cst_12, val_main_cst_13, val_main_cst_14, val_main_v33, val_main_v32, val_main_cst_7, r30, ctR]

/-- The gradient of the shift. -/
theorem r47 (k : Fin 1) (j : Fin 2048) : val_main_v47 (F := Ideal) f x t g b (ix2 k j) = ∑ i : Fin 4096, ctR f x t g b i j := by
  pointwise [val_main_v47, val_main_v46, val_main_cst_15, r44]

/-- The gradient of the gain. -/
theorem r50 (k : Fin 1) (j : Fin 2048) : val_main_v50 (F := Ideal) f x t g b (ix2 k j)
    = ∑ i : Fin 4096, xh (zrow f x i) j * ctR f x t g b i j := by
  pointwise [val_main_v50, val_main_v49, val_main_cst_16, val_main_v48, r25, r44]

theorem r52 (i : Fin 4096) (k : Fin 2048) : val_main_v52 (F := Ideal) f x t g b (ix2 i k)
    = ctR f x t g b i k * g (ix2 0 k) := by
  pointwise [val_main_v52, val_main_v51, r44]

theorem r57 (i : Fin 4096) (k : Fin 2048) : val_main_v57 (F := Ideal) f x t g b (ix2 i k)
    = ctR f x t g b i k * g (ix2 0 k) * rs (zrow f x i) := by
  pointwise [val_main_v57, val_main_v56, r52, r20]

theorem r63 (i : Fin 4096) (k : Fin 1) : val_main_v63 (F := Ideal) f x t g b (ix2 i k)
    = Ideal.div ((∑ k, xc (zrow f x i) k * (ctR f x t g b i k * g (ix2 0 k)))
        * (Ideal.ofBits .f32 0xBF000000#32 * Ideal.div (rs (zrow f x i)) (ve (zrow f x i)))) (Ideal.ofBits .f32 0x45000000#32) := by
  pointwise [val_main_v63, val_main_v62, val_main_cst_19, val_main_v58, val_main_v55, val_main_v54, val_main_cst_17, val_main_v53, r23, r52, r17]

theorem r66 (i : Fin 4096) (k : Fin 2048) : val_main_v66 (F := Ideal) f x t g b (ix2 i k)
    = tv (zrow f x i) (fun k => ctR f x t g b i k * g (ix2 0 k)) k := by
  pointwise [val_main_v66, val_main_v65, val_main_v64, val_main_cst_20, val_main_v11, val_main_v10, val_main_cst_2, r63, r8, tv]
  simp only [Fin.sum_univ_one]

/-- The gradient of the sum. -/
theorem r76 (i : Fin 4096) (k : Fin 2048) : val_main_v76 (F := Ideal) f x t g b (ix2 i k)
    = dzR (zrow f x i) (fun k => ctR f x t g b i k * g (ix2 0 k)) k := by
  pointwise [val_main_v76, val_main_v75, val_main_v74, val_main_v73, val_main_v72, val_main_v71, val_main_v70, val_main_v69, val_main_v68, val_main_v67, val_main_v61, val_main_v60, val_main_v59, val_main_cst_18, val_main_cst_21, val_main_cst_22, val_main_cst_23, r57, r66, dzR]
  simp only [Fin.sum_univ_one]

/-- The loss. -/
theorem r80 (i : Fin 8) (k : Fin 128) : val_main_v80 (F := Ideal) f x t g b (ix2 i k)
    = Ideal.ofBits .f32 0x3F000000#32 * ∑ i : Fin 4096, Ideal.div (∑ j : Fin 2048, er f x t g b i j * er f x t g b i j) (Ideal.ofBits .f32 0x45000000#32) := by
  pointwise [val_main_v80, val_main_v38, val_main_v37, val_main_v36, val_main_v35, val_main_v34, val_main_v31, val_main_cst_8, val_main_cst_9, val_main_cst_10, val_main_cst_11, r30]

end Cert.LnLossRefIdeal.Val
-- ==== Proof.FinArg.lean ====
module

public import Idealize.ShloMosaic.Lib.Pipeline.ValueKit
public import Idealize.ShloMosaic.PureOps.Ideal.Laws
public import Idealize.ShloMosaic.Lib.IdealHost

/-! # Arrays of real numbers: what the test "absolute value below infinity" says of an argument -/

@[expose] public section

noncomputable section

namespace Cert.FinArg

open Idealize.ShloMosaic

theorem real_of_olt (v : EReal) (h : Ideal.cmp .olt (max v (-v)) (Ideal.ofBits .f32 0x7F800000#32) = 1#1) : ∃ r : ℝ, v = r := by
  have hi : Ideal.ofBits .f32 0x7F800000#32 = ⊤ := by simp [Ideal.ofBits, Ideal.ieee]
  rw [hi] at h
  induction v with
  | bot => simp [Ideal.cmp] at h
  | top => simp [Ideal.cmp] at h
  | coe r => exact ⟨r, rfl⟩

/-- Every element of an array that passes the test is a real number. -/
theorem real_of_fin {s s0 : Shape} {d : Fin s0.rank → Fin s.rank} (x : FVec Ideal s .f32) (hb : s0.BroadcastsInDim s d)
    (h : cmpf .olt (Host.absf x) (broadcastInDim s d hb (constant s0 .f32 0x7F800000#32)) = fun _ => 1#1) (i : s.Idx) :
    ∃ r : ℝ, x i = (r : EReal) :=
  real_of_olt (x i) (congrFun h i)

end Cert.FinArg
-- ==== Proof.LnLossClaim.lean ====
module

public import proofs.«01_k».proof.Defs
public import proofs.«01_k».proof.Proof.Gen.LnLoss.Frame
public import proofs.«01_k».proof.Proof.Gen.Pre_ln_loss_finite
public import proofs.«01_k».proof.Proof.LnLossVal
public import proofs.«01_k».proof.Proof.LnLossRef
public import proofs.«01_k».proof.Proof.FinArg
public import Idealize.ShloMosaic.Lib.Claim

/-! # The layer norm and loss call against the derivative of its forward lines -/

@[expose] public section

set_option maxRecDepth 16384

noncomputable section

namespace Cert.LnLossClaim

open Idealize.ShloMosaic Idealize.ShloMosaic.TcCoe Idealize.SL.Sem Cert.LnMath Cert.LnLossRefIdeal.Read

section values
variable {f x t : Vec Ideal (⟨2, ![4096, 2048]⟩ : Shape) .f32} {g b : Vec Ideal (⟨2, ![1, 2048]⟩ : Shape) .f32}
variable (hf : ∀ i, ∃ r : ℝ, f i = (r : EReal)) (hx : ∀ i, ∃ r : ℝ, x i = (r : EReal))
    (ht : ∀ i, ∃ r : ℝ, t i = (r : EReal)) (hg : ∀ i, ∃ r : ℝ, g i = (r : EReal)) (hb : ∀ i, ∃ r : ℝ, b i = (r : EReal))
include hf hx ht hg hb

theorem v76 (j : Cert.LnLossRefIdeal.S4096x2048.Idx) : val_main_v76 (F := Ideal) f x t g b j
    = dzK (zrow f x (j 0)) (fun k => ctK f x t g b (j 0) k * g (ix2 0 k)) (j 1) := by
  idx_vars j
  exact (Cert.LnLossRefIdeal.Val.r76 f x t g b j0 j1).trans (dz_row hf hx ht hg hb j0 j1)

theorem v50 (j : Cert.LnLossRefIdeal.S1x2048.Idx) : val_main_v50 (F := Ideal) f x t g b j
    = ∑ i : Fin 4096, ctK f x t g b i (j 1) * xh (zrow f x i) (j 1) := by
  idx_vars j
  refine (Cert.LnLossRefIdeal.Val.r50 f x t g b j0 j1).trans (Finset.sum_congr rfl fun i _ => ?_)
  obtain ⟨e, he⟩ := er_coe hf hx ht hg hb i j1
  show _ = ctK f x t g b i j1 * xh (zrow f x i) j1
  rw [ct_eq he, mul_comm]

theorem v47 (j : Cert.LnLossRefIdeal.S1x2048.Idx) : val_main_v47 (F := Ideal) f x t g b j
    = ∑ i : Fin 4096, ctK f x t g b i (j 1) := by
  idx_vars j
  refine (Cert.LnLossRefIdeal.Val.r47 f x t g b j0 j1).trans (Finset.sum_congr rfl fun i _ => ?_)
  obtain ⟨e, he⟩ := er_coe hf hx ht hg hb i j1
  exact ct_eq he
end values

theorem ref_frame : Cert.quiescent_LnLossRefIdeal := by
  intro m g _
  exact (θ_run _ _ _).mono (fun r h => ⟨fun c => (h c).2.2.2.2.2, sem_eq_zero_of_no_sems (by decide) _⟩)
    (Cert.LnLossRefIdeal.Value.run m g)

theorem ref_frame_pre : Cert.quiescent_LnLossRefIdeal_pre_ln_loss_finite := fun m g _ => ref_frame m g trivial

theorem frame_pre : Cert.quiescent_LnLossIdeal_pre_ln_loss_finite := fun m g _ => Cert.LnLossIdeal.Gen.frame m g

theorem algebraic : Cert.algebraic_LnLossIdeal_LnLossRefIdeal_pre_ln_loss_finite := by
  intro m g m' g' hpre hagree
  refine ⟨fun c => _, fun c => _, fun c => _, fun c => _, fun c => _, Cert.LnLossIdeal.Value.run_blocks m g,
    (θ_run _ _ _).mono (fun r h c => ?_) (Cert.LnLossRefIdeal.Value.run m' g')⟩
  obtain ⟨h0, h1, h2, h3, h4⟩ := hagree c
  obtain ⟨p0, p1, p2, p3, p4⟩ := hpre c
  have hf := Cert.FinArg.real_of_fin _ _ p0
  have hx := Cert.FinArg.real_of_fin _ _ p1
  have ht := Cert.FinArg.real_of_fin _ _ p2
  have hg := Cert.FinArg.real_of_fin _ _ p3
  have hb := Cert.FinArg.real_of_fin _ _ p4
  refine ⟨((h c).1.trans (val_main_v76_eq m' c)).trans ?_,
    ((h c).2.1.trans (val_main_v79_eq m' c)).trans ?_,
    ((h c).2.2.1.trans (val_main_v50_eq m' c)).trans ?_,
    ((h c).2.2.2.1.trans (val_main_v47_eq _ _ _ _ _)).trans ?_,
    ((h c).2.2.2.2.1.trans (val_main_v80_eq m' c)).trans ?_, (h c).2.2.2.2.2⟩
  · rw [h0, h1, h2, h3, h4]; exact (funext fun j => v76 hf hx ht hg hb j).trans (Cert.LnLossIdeal.Val.final5 m c).symm
  · rw [h0, h1, h2, h3, h4]; exact (funext fun j => v76 hf hx ht hg hb j).trans (Cert.LnLossIdeal.Val.final6 m c).symm
  · rw [h0, h1, h2, h3, h4]; exact (funext fun j => v50 hf hx ht hg hb j).trans (Cert.LnLossIdeal.Val.final7 m c).symm
  · rw [h0, h1, h2, h3, h4]; exact (funext fun j => v47 hf hx ht hg hb j).trans (Cert.LnLossIdeal.Val.final8 m c).symm
  · rw [h0, h1, h2, h3, h4]
    refine (funext fun j => ?_).trans (Cert.LnLossIdeal.Val.final9 m c).symm
    idx_vars j
    exact Cert.LnLossRefIdeal.Val.r80 _ _ _ _ _ j0 j1

end Cert.LnLossClaim
-- ==== Proof.PoolRows.lean ====
module

public import Idealize.ShloMosaic.Lib.WritesUnit
public import Idealize.ShloMosaic.Lib.WholeRead
public import Idealize.ShloMosaic.Lib.Pipeline.ValueKit

/-! # Rows of a matrix buffer, read and written a block at a time

What a load of a block of whole rows reads, and what a buffer reads after one more trip of a loop that fills it from the
top, one or two blocks of 512 rows per trip. -/

@[expose] public section

noncomputable section

namespace Cert.PoolRows

open Idealize.ShloMosaic

/-- `T` rows of `x` from row `o` on. -/
def rows {α : Type} {R : ℕ} [NeZero R] (T o : ℕ) (x : (⟨2, ![R, 256]⟩ : Shape).Idx → α) :
    (⟨2, ![T, 256]⟩ : Shape).Idx → α :=
  fun z => x (ix2 (Fin.ofNat R (o + (z (0 : Fin 2)).val)) (z (1 : Fin 2)))

variable {sig : RefSig} {κ : Kind} {sp : Space} {R : ℕ} [NeZero R] {e : EltTy} {Val : EltTy → Type}

/-- A load of `T` whole rows from row `o` on reads those rows of the buffer. -/
theorem readAt_rows (v : View sig κ sp ⟨2, ![R, 256]⟩ e) {off : Fin 2 → ℕ} (T o : ℕ) (hoff : off = ![o, 0])
    (inb : ∀ a : Fin 2, off a + (![T, 256] : Fin 2 → ℕ) a ≤ (![R, 256] : Fin 2 → ℕ) a) (f : v.ty.Contents Val) :
    v.readAt Val (Rect.unit (s := ⟨2, ![R, 256]⟩) off ![T, 256] inb).toLoadRect f = rows T o (v.read Val f) := by
  subst hoff
  funext z
  show v.read Val f _ = v.read Val f _
  have h0 : o + T ≤ R := inb 0
  have hz : (z (0 : Fin 2)).val < T := (z (0 : Fin 2)).isLt
  congr 1
  funext a
  refine Fin.ext ?_
  match a with
  | ⟨0, _⟩ =>
    show o + 1 * (z (0 : Fin 2)).val = (o + (z (0 : Fin 2)).val) % R
    rw [Nat.mod_eq_of_lt (by omega)]; omega
  | ⟨1, _⟩ =>
    show 0 + 1 * (z (1 : Fin 2)).val = (z (1 : Fin 2)).val
    omega

/-- A load of the whole matrix reads the buffer. -/
theorem readAt_full (v : View sig κ sp ⟨2, ![R, 256]⟩ e)
    (inb : ∀ a : Fin 2, (![0, 0] : Fin 2 → ℕ) a + (![R, 256] : Fin 2 → ℕ) a ≤ (![R, 256] : Fin 2 → ℕ) a) (f : v.ty.Contents Val) :
    v.readAt Val (Rect.unit (s := ⟨2, ![R, 256]⟩) ![0, 0] ![R, 256] inb).toLoadRect f = v.read Val f := by
  funext z
  show v.read Val f _ = v.read Val f z
  congr 1
  funext a
  refine Fin.ext ?_
  match a with
  | ⟨0, _⟩ => show 0 + 1 * (z (0 : Fin 2)).val = (z (0 : Fin 2)).val; omega
  | ⟨1, _⟩ => show 0 + 1 * (z (1 : Fin 2)).val = (z (1 : Fin 2)).val; omega

/-- After a store of the whole matrix the buffer reads what was stored. -/
theorem read_full (v : View sig κ sp ⟨2, ![R, 256]⟩ e) (f : v.ty.Contents Val)
    (inb : ∀ a : Fin 2, (![0, 0] : Fin 2 → ℕ) a + (![R, 256] : Fin 2 → ℕ) a ≤ (![R, 256] : Fin 2 → ℕ) a)
    (w : (⟨2, ![R, 256]⟩ : Shape).Idx → Val e) (L : List (View.Piece Val (⟨2, ![R, 256]⟩ : Shape) e)) :
    v.read Val (v.writes Val f
        ((⟨Rect.unit (s := ⟨2, ![R, 256]⟩) ![0, 0] ![R, 256] inb, w⟩ : View.Piece Val (⟨2, ![R, 256]⟩ : Shape) e) :: L)) = w :=
  funext fun y => View.read_writes_cons_rows_of_mem v f (o := 0) inb w L y y rfl (Nat.zero_add _).symm rfl

/-- The local index under `r` rows. -/
def loc (z : ℕ) (y : (⟨2, ![R, 256]⟩ : Shape).Idx) : (⟨2, ![512, 256]⟩ : Shape).Idx :=
  ix2 (Fin.ofNat 512 z) (y (1 : Fin 2))

/-- The blocks of 512 rows `pe 0, po 0, pe 1, po 1, …` one under the other, from row `s` on: what row `y` holds. -/
def pairRows {α : Type} (s : ℕ) (pe po : Fin 4 → (⟨2, ![512, 256]⟩ : Shape).Idx → α) (y : (⟨2, ![R, 256]⟩ : Shape).Idx) : α :=
  if ((y (0 : Fin 2)).val - s) % 1024 < 512
  then pe (Fin.ofNat 4 (((y (0 : Fin 2)).val - s) / 1024)) (loc ((y (0 : Fin 2)).val - s) y)
  else po (Fin.ofNat 4 (((y (0 : Fin 2)).val - s) / 1024)) (loc ((y (0 : Fin 2)).val - s) y)

/-- The blocks of 512 rows `p 0, p 1, …` one under the other. -/
def oneRows {α : Type} (p : Fin 8 → (⟨2, ![512, 256]⟩ : Shape).Idx → α) (y : (⟨2, ![R, 256]⟩ : Shape).Idx) : α :=
  p (Fin.ofNat 8 ((y (0 : Fin 2)).val / 512)) (loc (y (0 : Fin 2)).val y)

/-- Newest wins for a block of 512 rows from row `o` on. -/
theorem rd (v : View sig κ sp ⟨2, ![R, 256]⟩ e) (f : v.ty.Contents Val) {off : Fin 2 → ℕ} {o : ℕ}
    (inb : ∀ a : Fin 2, off a + (![512, 256] : Fin 2 → ℕ) a ≤ (![R, 256] : Fin 2 → ℕ) a)
    (w : (⟨2, ![512, 256]⟩ : Shape).Idx → Val e) (L : List (View.Piece Val (⟨2, ![R, 256]⟩ : Shape) e))
    (y : (⟨2, ![R, 256]⟩ : Shape).Idx) (hoff : off = ![o, 0]) :
    v.read Val (v.writes Val f
        ((⟨Rect.unit (s := ⟨2, ![R, 256]⟩) off ![512, 256] inb, w⟩ : View.Piece Val (⟨2, ![R, 256]⟩ : Shape) e) :: L)) y
      = if h : o ≤ (y (0 : Fin 2)).val ∧ (y (0 : Fin 2)).val < o + 512 then
          w (ix2 ⟨(y (0 : Fin 2)).val - o, by omega⟩ (y (1 : Fin 2)))
        else v.read Val (v.writes Val f L) y := by
  by_cases h : o ≤ (y (0 : Fin 2)).val ∧ (y (0 : Fin 2)).val < o + 512
  · rw [dif_pos h]
    exact View.read_writes_cons_rows_of_mem v f inb w L y (ix2 ⟨(y (0 : Fin 2)).val - o, by omega⟩ (y (1 : Fin 2))) hoff
      (show (y (0 : Fin 2)).val = o + ((y (0 : Fin 2)).val - o) by omega) rfl
  · rw [dif_neg h]
    exact View.read_writes_cons_rows_of_not_mem v f (W := 512) inb w L y hoff rfl (by omega)

/-- The rows filled by the first `k` trips of a loop storing two blocks per trip, the rest as before. -/
def filled {α : Type} (s : ℕ) (pe po : Fin 4 → (⟨2, ![512, 256]⟩ : Shape).Idx → α) (b : (⟨2, ![R, 256]⟩ : Shape).Idx → α) :
    ℕ → (⟨2, ![R, 256]⟩ : Shape).Idx → α
  | 0 => b
  | k + 1 => fun y => if s ≤ (y (0 : Fin 2)).val ∧ (y (0 : Fin 2)).val < s + 1024 * (k + 1) then pairRows s pe po y else b y

theorem filled_apply {α : Type} (s : ℕ) (pe po : Fin 4 → (⟨2, ![512, 256]⟩ : Shape).Idx → α) (b : (⟨2, ![R, 256]⟩ : Shape).Idx → α)
    (k : ℕ) (y : (⟨2, ![R, 256]⟩ : Shape).Idx) :
    filled s pe po b k y = if s ≤ (y (0 : Fin 2)).val ∧ (y (0 : Fin 2)).val < s + 1024 * k then pairRows s pe po y else b y := by
  cases k with
  | zero => rw [if_neg (by omega)]; rfl
  | succ k => rfl

/-- The rows filled by the first `k` trips of a loop storing one block per trip, the rest as before. -/
def filled1 {α : Type} (p : Fin 8 → (⟨2, ![512, 256]⟩ : Shape).Idx → α) (b : (⟨2, ![R, 256]⟩ : Shape).Idx → α) :
    ℕ → (⟨2, ![R, 256]⟩ : Shape).Idx → α
  | 0 => b
  | k + 1 => fun y => if (y (0 : Fin 2)).val < 512 * (k + 1) then oneRows p y else b y

theorem filled1_apply {α : Type} (p : Fin 8 → (⟨2, ![512, 256]⟩ : Shape).Idx → α) (b : (⟨2, ![R, 256]⟩ : Shape).Idx → α)
    (k : ℕ) (y : (⟨2, ![R, 256]⟩ : Shape).Idx) :
    filled1 p b k y = if (y (0 : Fin 2)).val < 512 * k then oneRows p y else b y := by
  cases k with
  | zero => rw [if_neg (by omega)]; rfl
  | succ k => rfl

/-- All the rows filled. -/
theorem filled_all {α : Type} (pe po : Fin 4 → (⟨2, ![512, 256]⟩ : Shape).Idx → α) (b : (⟨2, ![4096, 256]⟩ : Shape).Idx → α)
    (k : ℕ) (hk : k = 4) : filled 0 pe po b k = pairRows 0 pe po := by
  subst hk
  funext y
  have hy : (y (0 : Fin 2)).val < 4096 := (y (0 : Fin 2)).isLt
  rw [filled_apply, if_pos (by omega)]

/-- All the rows filled. -/
theorem filled1_all {α : Type} (p : Fin 8 → (⟨2, ![512, 256]⟩ : Shape).Idx → α) (b : (⟨2, ![4096, 256]⟩ : Shape).Idx → α)
    (k : ℕ) (hk : k = 8) : filled1 p b k = oneRows p := by
  subst hk
  funext y
  have hy : (y (0 : Fin 2)).val < 4096 := (y (0 : Fin 2)).isLt
  rw [filled1_apply, if_pos (by omega)]

/-- One more trip, two blocks of 512 rows. -/
theorem step_pair (v : View sig κ sp ⟨2, ![R, 256]⟩ e) (s k : ℕ) (hk : k < 4)
    (pe po : Fin 4 → (⟨2, ![512, 256]⟩ : Shape).Idx → Val e) (g f : v.ty.Contents Val)
    (hf : ∀ y, v.read Val f y = if s ≤ (y (0 : Fin 2)).val ∧ (y (0 : Fin 2)).val < s + 1024 * k
      then pairRows s pe po y else v.read Val g y)
    {off off' : Fin 2 → ℕ} (ho : off = ![s + 1024 * k, 0]) (ho' : off' = ![s + 1024 * k + 512, 0])
    (inb : ∀ a : Fin 2, off a + (![512, 256] : Fin 2 → ℕ) a ≤ (![R, 256] : Fin 2 → ℕ) a)
    (inb' : ∀ a : Fin 2, off' a + (![512, 256] : Fin 2 → ℕ) a ≤ (![R, 256] : Fin 2 → ℕ) a)
    (w w' : (⟨2, ![512, 256]⟩ : Shape).Idx → Val e) (hw : w = pe (Fin.ofNat 4 k)) (hw' : w' = po (Fin.ofNat 4 k)) :
    ∀ y, v.read Val (v.writes Val f
        [(⟨Rect.unit (s := ⟨2, ![R, 256]⟩) off' ![512, 256] inb', w'⟩ : View.Piece Val (⟨2, ![R, 256]⟩ : Shape) e),
         (⟨Rect.unit (s := ⟨2, ![R, 256]⟩) off ![512, 256] inb, w⟩ : View.Piece Val (⟨2, ![R, 256]⟩ : Shape) e)]) y
      = if s ≤ (y (0 : Fin 2)).val ∧ (y (0 : Fin 2)).val < s + 1024 * (k + 1)
        then pairRows s pe po y else v.read Val g y := by
  intro y
  rw [rd v f inb' w' _ y ho']
  by_cases h2 : s + 1024 * k + 512 ≤ (y (0 : Fin 2)).val ∧ (y (0 : Fin 2)).val < s + 1024 * k + 512 + 512
  · rw [dif_pos h2, if_pos (by omega)]
    unfold pairRows
    have hd : ((y (0 : Fin 2)).val - s) / 1024 = k := by omega
    rw [if_neg (by omega), hd, hw']
    congr 1
    funext a
    refine Fin.ext ?_
    match a with
    | ⟨0, _⟩ =>
      show (y (0 : Fin 2)).val - (s + 1024 * k + 512) = ((y (0 : Fin 2)).val - s) % 512
      omega
    | ⟨1, _⟩ =>
      rfl
  rw [dif_neg h2, rd v f inb w _ y ho]
  by_cases h1 : s + 1024 * k ≤ (y (0 : Fin 2)).val ∧ (y (0 : Fin 2)).val < s + 1024 * k + 512
  · rw [dif_pos h1, if_pos (by omega)]
    unfold pairRows
    have hd : ((y (0 : Fin 2)).val - s) / 1024 = k := by omega
    rw [if_pos (by omega), hd, hw]
    congr 1
    funext a
    refine Fin.ext ?_
    match a with
    | ⟨0, _⟩ =>
      show (y (0 : Fin 2)).val - (s + 1024 * k) = ((y (0 : Fin 2)).val - s) % 512
      omega
    | ⟨1, _⟩ =>
      rfl
  rw [dif_neg h1]
  refine (hf y).trans ?_
  by_cases h0 : s ≤ (y (0 : Fin 2)).val ∧ (y (0 : Fin 2)).val < s + 1024 * k
  · rw [if_pos h0, if_pos (by omega)]
  · rw [if_neg h0, if_neg (by omega)]

/-- One more trip, one block of 512 rows. -/
theorem step_one (v : View sig κ sp ⟨2, ![R, 256]⟩ e) (k : ℕ) (hk : k < 8)
    (p : Fin 8 → (⟨2, ![512, 256]⟩ : Shape).Idx → Val e) (g f : v.ty.Contents Val)
    (hf : ∀ y, v.read Val f y = if (y (0 : Fin 2)).val < 512 * k then oneRows p y else v.read Val g y)
    {off : Fin 2 → ℕ} (ho : off = ![512 * k, 0])
    (inb : ∀ a : Fin 2, off a + (![512, 256] : Fin 2 → ℕ) a ≤ (![R, 256] : Fin 2 → ℕ) a)
    (w : (⟨2, ![512, 256]⟩ : Shape).Idx → Val e) (hw : w = p (Fin.ofNat 8 k)) :
    ∀ y, v.read Val (v.writes Val f
        [(⟨Rect.unit (s := ⟨2, ![R, 256]⟩) off ![512, 256] inb, w⟩ : View.Piece Val (⟨2, ![R, 256]⟩ : Shape) e)]) y
      = if (y (0 : Fin 2)).val < 512 * (k + 1) then oneRows p y else v.read Val g y := by
  intro y
  rw [rd v f inb w _ y ho]
  by_cases h1 : 512 * k ≤ (y (0 : Fin 2)).val ∧ (y (0 : Fin 2)).val < 512 * k + 512
  · rw [dif_pos h1, if_pos (by omega)]
    unfold oneRows
    have hd : (y (0 : Fin 2)).val / 512 = k := by omega
    rw [hd, hw]
    congr 1
    funext a
    refine Fin.ext ?_
    match a with
    | ⟨0, _⟩ =>
      show (y (0 : Fin 2)).val - 512 * k = (y (0 : Fin 2)).val % 512
      omega
    | ⟨1, _⟩ =>
      rfl
  rw [dif_neg h1]
  refine (hf y).trans ?_
  by_cases h0 : (y (0 : Fin 2)).val < 512 * k
  · rw [if_pos h0, if_pos (by omega)]
  · rw [if_neg h0, if_neg (by omega)]

/-- A load of `T` whole rows of a memref held at the contents that read `X` reads those rows of `X`. -/
theorem load_rows {m : Memref sig κ sp ⟨2, ![R, 256]⟩ e} (h : m.IsWhole) (X : (⟨2, ![R, 256]⟩ : Shape).Idx → Val e) (T o : ℕ)
    {off : Fin 2 → ℕ} (hoff : off = ![o, 0]) (inb : ∀ a : Fin 2, off a + (![T, 256] : Fin 2 → ℕ) a ≤ (![R, 256] : Fin 2 → ℕ) a) :
    m.view.readAt Val (Rect.unit (s := ⟨2, ![R, 256]⟩) off ![T, 256] inb).toLoadRect (h.unread X) = rows T o X :=
  (readAt_rows m.view T o hoff inb _).trans (congrArg _ (h.read_unread X))

/-- The filled rows after one more trip, two blocks of 512 rows. -/
theorem filled_succ (v : View sig κ sp ⟨2, ![R, 256]⟩ e) (s k : ℕ) (hk : k < 4)
    (pe po : Fin 4 → (⟨2, ![512, 256]⟩ : Shape).Idx → Val e) (g f : v.ty.Contents Val)
    (hf : v.read Val f = filled s pe po (v.read Val g) k)
    {off off' : Fin 2 → ℕ} {a a' : ℕ} (ho : off = ![a, 0]) (ho' : off' = ![a', 0]) (ha : a = s + 1024 * k) (ha' : a' = s + 1024 * k + 512)
    (inb : ∀ a : Fin 2, off a + (![512, 256] : Fin 2 → ℕ) a ≤ (![R, 256] : Fin 2 → ℕ) a)
    (inb' : ∀ a : Fin 2, off' a + (![512, 256] : Fin 2 → ℕ) a ≤ (![R, 256] : Fin 2 → ℕ) a)
    (w w' : (⟨2, ![512, 256]⟩ : Shape).Idx → Val e) (hw : w = pe ⟨k, hk⟩) (hw' : w' = po ⟨k, hk⟩) :
    v.read Val (v.writes Val f
        [(⟨Rect.unit (s := ⟨2, ![R, 256]⟩) off' ![512, 256] inb', w'⟩ : View.Piece Val (⟨2, ![R, 256]⟩ : Shape) e),
         (⟨Rect.unit (s := ⟨2, ![R, 256]⟩) off ![512, 256] inb, w⟩ : View.Piece Val (⟨2, ![R, 256]⟩ : Shape) e)])
      = filled s pe po (v.read Val g) (k + 1) := by
  subst ha ha'
  have h4 : (⟨k, hk⟩ : Fin 4) = Fin.ofNat 4 k := Fin.ext (Nat.mod_eq_of_lt hk).symm
  rw [h4] at hw hw'
  exact funext fun y => (step_pair v s k hk pe po g f (fun y => (congrFun hf y).trans (filled_apply _ _ _ _ _ y)) ho ho' inb inb' w w' hw hw' y).trans
    (filled_apply _ _ _ _ _ y).symm

/-- The filled rows after one more trip, one block of 512 rows. -/
theorem filled1_succ (v : View sig κ sp ⟨2, ![R, 256]⟩ e) (k : ℕ) (hk : k < 8)
    (p : Fin 8 → (⟨2, ![512, 256]⟩ : Shape).Idx → Val e) (g f : v.ty.Contents Val)
    (hf : v.read Val f = filled1 p (v.read Val g) k) {off : Fin 2 → ℕ} (ho : off = ![512 * k, 0])
    (inb : ∀ a : Fin 2, off a + (![512, 256] : Fin 2 → ℕ) a ≤ (![R, 256] : Fin 2 → ℕ) a)
    (w : (⟨2, ![512, 256]⟩ : Shape).Idx → Val e) (hw : w = p ⟨k, hk⟩) :
    v.read Val (v.writes Val f
        [(⟨Rect.unit (s := ⟨2, ![R, 256]⟩) off ![512, 256] inb, w⟩ : View.Piece Val (⟨2, ![R, 256]⟩ : Shape) e)])
      = filled1 p (v.read Val g) (k + 1) := by
  rw [show (⟨k, hk⟩ : Fin 8) = Fin.ofNat 8 k from Fin.ext (Nat.mod_eq_of_lt hk).symm] at hw
  exact funext fun y => (step_one v k hk p g f (fun y => (congrFun hf y).trans (filled1_apply _ _ _ y)) ho inb w hw y).trans
    (filled1_apply _ _ _ y).symm

theorem congr3 {A B C D : Type} (f : A → B → C → D) {a a' : A} {b b' : B} {c c' : C} (ha : a = a') (hb : b = b') (hc : c = c') :
    f a b c = f a' b' c' := by rw [ha, hb, hc]

theorem congr4 {A B C D G : Type} (f : A → B → C → D → G) {a a' : A} {b b' : B} {c c' : C} {d d' : D} (ha : a = a') (hb : b = b') (hc : c = c')
    (hd : d = d') : f a b c d = f a' b' c' d' := by rw [ha, hb, hc, hd]

/-- What a covered load of the whole matrix reads after one store over it. -/
theorem readCov_full [∀ e, Nonempty (Val e)] (v : View sig κ sp ⟨2, ![R, 256]⟩ e) (f : v.ty.Contents Val)
    (P : ((⟨2, ![R, 256]⟩ : Shape).Idx → Val e) → (⟨2, ![R, 256]⟩ : Shape).Idx → Val e) {X : (⟨2, ![R, 256]⟩ : Shape).Idx → Val e}
    (h : v.read Val f = X) (inb : ∀ a : Fin 2, (![0, 0] : Fin 2 → ℕ) a + (![R, 256] : Fin 2 → ℕ) a ≤ (![R, 256] : Fin 2 → ℕ) a) :
    v.readCov (Val := Val) [(⟨Rect.unit (s := ⟨2, ![R, 256]⟩) ![0, 0] ![R, 256] inb,
        P (v.readAt Val (Rect.unit (s := ⟨2, ![R, 256]⟩) ![0, 0] ![R, 256] inb).toLoadRect f)⟩ : View.Piece Val (⟨2, ![R, 256]⟩ : Shape) e)]
      (Rect.unit (s := ⟨2, ![R, 256]⟩) ![0, 0] ![R, 256] inb).toLoadRect = P X :=
  (readAt_full v _ _).trans ((read_full v _ _ _ _).trans (congrArg P ((readAt_full v _ _).trans h)))

/-- A load of a whole memref held at the contents that read `X` reads `X`. -/
theorem readAt_whole {s : Shape} {m : Memref sig κ sp s e} (h : m.IsWhole) (X : s.Idx → Val e) (off : Fin s.rank → ℕ)
    (hoff : ∀ a, off a = 0) (inb : ∀ a, off a + s.size a ≤ s.size a) :
    m.view.readAt Val (Rect.unit (s := s) off s.size inb).toLoadRect (h.unread X) = X :=
  funext fun x => (h.readAt_unread X _ x).trans (congrArg X (funext fun a => Fin.ext (by
    show off a + 1 * (x a).val = (x a).val
    rw [hoff a]; omega)))

/-- After a store of a whole array its buffer reads what was stored. -/
theorem read_whole {s : Shape} (v : View sig κ sp s e) (f : v.ty.Contents Val) (off : Fin s.rank → ℕ)
    (hoff : ∀ a, off a = 0) (inb : ∀ a, off a + s.size a ≤ s.size a) (w : s.Idx → Val e) (L : List (View.Piece Val s e)) :
    v.read Val (v.writes Val f ((⟨Rect.unit (s := s) off s.size inb, w⟩ : View.Piece Val s e) :: L)) = w :=
  funext fun y => View.read_writes_cons_unit_of_mem v f inb w L y y rfl (fun a => by rw [hoff a]; omega)

/-- A matrix of 4096 rows between two blocks of 16: what row `y` holds. -/
def framed {α : Type} (top bot : (⟨2, ![16, 256]⟩ : Shape).Idx → α) (mid : (⟨2, ![4128, 256]⟩ : Shape).Idx → α)
    (y : (⟨2, ![4128, 256]⟩ : Shape).Idx) : α :=
  if 16 ≤ (y (0 : Fin 2)).val ∧ (y (0 : Fin 2)).val < 4112 then mid y
  else if (y (0 : Fin 2)).val < 16 then top (ix2 (Fin.ofNat 16 (y (0 : Fin 2)).val) (y (1 : Fin 2)))
  else bot (ix2 (Fin.ofNat 16 ((y (0 : Fin 2)).val - 4112)) (y (1 : Fin 2)))

/-- The buffer with the two blocks of 16 rows stored, then filled between them. -/
theorem read_framed (v : View sig κ sp ⟨2, ![4128, 256]⟩ e) (f g : v.ty.Contents Val)
    (top bot : (⟨2, ![16, 256]⟩ : Shape).Idx → Val e) (mid : (⟨2, ![4128, 256]⟩ : Shape).Idx → Val e)
    (inb : ∀ a : Fin 2, (![0, 0] : Fin 2 → ℕ) a + (![16, 256] : Fin 2 → ℕ) a ≤ (![4128, 256] : Fin 2 → ℕ) a)
    (inb' : ∀ a : Fin 2, (![4112, 0] : Fin 2 → ℕ) a + (![16, 256] : Fin 2 → ℕ) a ≤ (![4128, 256] : Fin 2 → ℕ) a)
    (n : ℕ) (hn : n = 4112)
    (hf : ∀ y, v.read Val f y = if 16 ≤ (y (0 : Fin 2)).val ∧ (y (0 : Fin 2)).val < n then mid y
      else v.read Val (v.writes Val g
        [(⟨Rect.unit (s := ⟨2, ![4128, 256]⟩) ![4112, 0] ![16, 256] inb', bot⟩ : View.Piece Val (⟨2, ![4128, 256]⟩ : Shape) e),
         (⟨Rect.unit (s := ⟨2, ![4128, 256]⟩) ![0, 0] ![16, 256] inb, top⟩ : View.Piece Val (⟨2, ![4128, 256]⟩ : Shape) e)]) y) :
    v.read Val f = framed top bot mid := by
  subst hn
  funext y
  rw [hf y]
  unfold framed
  have hy : (y (0 : Fin 2)).val < 4128 := (y (0 : Fin 2)).isLt
  by_cases h : 16 ≤ (y (0 : Fin 2)).val ∧ (y (0 : Fin 2)).val < 4112
  · rw [if_pos h, if_pos h]
  rw [if_neg h, if_neg h]
  by_cases h0 : (y (0 : Fin 2)).val < 16
  · rw [if_pos h0]
    refine (View.read_writes_cons_rows_of_not_mem v g (o := 4112) (W := 16) inb' bot _ y rfl rfl (Or.inl (by omega))).trans ?_
    exact View.read_writes_cons_rows_of_mem v g (o := 0) inb top _ y (ix2 (Fin.ofNat 16 (y (0 : Fin 2)).val) (y (1 : Fin 2))) rfl
      (show (y (0 : Fin 2)).val = 0 + (y (0 : Fin 2)).val % 16 by omega) rfl
  · rw [if_neg h0]
    exact View.read_writes_cons_rows_of_mem v g (o := 4112) inb' bot _ y (ix2 (Fin.ofNat 16 ((y (0 : Fin 2)).val - 4112)) (y (1 : Fin 2))) rfl
      (show (y (0 : Fin 2)).val = 4112 + ((y (0 : Fin 2)).val - 4112) % 16 by omega) rfl

end Cert.PoolRows
-- ==== Proof.PoolLoops.lean ====
module

public import proofs.«01_k».proof.Proof.Gen.PoolBwdIdeal.Loops
public import proofs.«01_k».proof.Proof.PoolRows

/-! # The loops of the pool gradient, one trip at a time

Per window: the first loop fills the rows of the output gradient taken back through the group's matrix and scale, and of
the same divided by the window's counts, and adds up the weight's gradient and the scale's; the second loop pools the
divided rows back. Both invariants say what the buffers READ after the trips done so far. -/

@[expose] public section

set_option maxRecDepth 16384
set_option maxHeartbeats 4000000

noncomputable section

namespace Cert.PoolBwdIdeal.Pool

open Cert.PoolRows
open Cert.PoolBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Ownership of a memref's whole buffer, with its contents. -/
abbrev holds {sp : Space} {s : Shape} {e : EltTy} (c : Dev nD) (m : Memref sig .tc sp s e) (f : m.view.ty.Contents (Elt F)) : sProp 𝕄 :=
  iprop(m.view.loc (c : Thread nD τ) ↦[m.view.set]{fullShare} f)

/-- The invariant of a window's first loop: rows, scale's and weight's gradient as far as `k` trips make them. -/
abbrev kept (c : Dev nD) (arg1 : Memref sig .tc .vmem S4096x256 .bf16) (harg1 : arg1.IsWhole) (arg2 : Memref sig .tc .vmem S4096x256 .f32) (harg2 : arg2.IsWhole)
    (arg9 : Memref sig .tc .vmem S4128x256 .f32) (arg10 : Memref sig .tc .vmem S4096x256 .f32) (arg11 : Memref sig .tc .vmem S256x256 .f32)
    (x1 : Vec F S4096x256 .bf16) (x2 : Vec F S4096x256 .f32)
    (g9 : arg9.view.ty.Contents (Elt F)) (g10 : arg10.view.ty.Contents (Elt F)) (g11 : arg11.view.ty.Contents (Elt F))
    (paE paO ddE ddO : Fin 4 → FVec F S512x256 .f32) (wa : FVec F S256x256 .f32 → ℕ → FVec F S256x256 .f32) (sc : ℕ → FVec F S1x256 .f32)
    (k : ℕ) (acc : FVec F S1x256 .f32) : sProp 𝕄 :=
  iprop(holds c arg1 (harg1.unread x1) ∗ holds c arg2 (harg2.unread x2)
    ∗ (∃ f, holds c arg9 f ∗ ⌜arg9.view.read (Elt F) f = filled (R := 4128) 16 paE paO (arg9.view.read (Elt F) g9) k⌝)
    ∗ (∃ f, holds c arg10 f ∗ ⌜arg10.view.read (Elt F) f = filled (R := 4096) 0 ddE ddO (arg10.view.read (Elt F) g10) k⌝)
    ∗ (∃ f, holds c arg11 f ∗ ⌜arg11.view.read (Elt F) f = wa (arg11.view.read (Elt F) g11) k⌝)
    ∗ ⌜acc = sc k⌝)

/-! ## Window 1 -/

section Values0

variable (x1 : Vec F S4096x256 .bf16) (x2 : Vec F S4096x256 .f32) (v7 : Vec F S1x256x256 .bf16) (v9 : Vec F S1x256 .f32)

/-- The trip's number. -/
abbrev tr0 (k : Fin 4) : Fin k0_t1_loop.trips := ⟨k.val, lt_of_lt_of_le k.isLt (by decide)⟩

/-- The output gradient's rows taken back through scale and matrix: block `2k`. -/
def ddE0 (k : Fin 4) : FVec F S512x256 .f32 := k0_pay30 (k0_pay4 v7) v9 (rows 512 (1024 * k.val) x2)
/-- Block `2k+1`. -/
def ddO0 (k : Fin 4) : FVec F S512x256 .f32 := k0_pay40 (k0_pay4 v7) v9 (rows 512 (1024 * k.val + 512) x2)
/-- The same divided by the counts. -/
def paE0 (k : Fin 4) : FVec F S512x256 .f32 :=
  k0_pay34 (k0_pay29 (k0_pay4 v7) v9 (rows 512 (1024 * k.val) x2)) (k0_pay32 0#32 1#32 (tr0 k)) (k0_pay33 0#32 1#32 (tr0 k)) 0#32
/-- Block `2k+1`. -/
def paO0 (k : Fin 4) : FVec F S512x256 .f32 :=
  k0_pay7 (k0_pay39 (k0_pay4 v7) v9 (rows 512 (1024 * k.val + 512) x2)) (k0_pay41 (Scalar.addi (Scalar.muli 2#32 (Scf.iv 0#32 1#32 (tr0 k))) 1#32))

/-- The scale's gradient after `k` trips. -/
def sc0 (init : FVec F S1x256 .f32) : ℕ → FVec F S1x256 .f32
  | 0 => init
  | k + 1 => k0_pay36 (k0_pay4 v7) (k0_pay26 (k0_pay4 v7) (sc0 init k) (rows 512 (1024 * k) x1) (rows 512 (1024 * k) x2))
      (rows 512 (1024 * k + 512) x1) (rows 512 (1024 * k + 512) x2)

/-- The weight's gradient after `k` trips. -/
def wa0 (init : FVec F S256x256 .f32) : ℕ → FVec F S256x256 .f32
  | 0 => init
  | k + 1 => k0_pay38 v9 (rows 512 (1024 * k + 512) x1) (rows 512 (1024 * k + 512) x2)
      (k0_pay28 v9 (rows 512 (1024 * k) x1) (rows 512 (1024 * k) x2) (wa0 init k))

end Values0

variable (𝒱 : Variants) (c : Dev nD) (bd : Option 𝒱.V) (E : Set ℕ) (i : grid0.Coords) (arg1 : Memref sig .tc .vmem S4096x256 .bf16) (harg1 : arg1.IsWhole) (arg2 : Memref sig .tc .vmem S4096x256 .f32) (harg2 : arg2.IsWhole) (arg3 : Memref sig .tc .vmem S1x256x256 .bf16) (harg3 : arg3.IsWhole) (arg4 : Memref sig .tc .vmem S1x256 .f32) (harg4 : arg4.IsWhole) (arg5 : Memref sig .tc .vmem S8x128 .f32) (harg5 : arg5.IsWhole) (arg6 : Memref sig .tc .vmem S4096x256 .bf16) (harg6 : arg6.IsWhole) (arg7 : Memref sig .tc .vmem S8x1x32x256 .bf16) (harg7 : arg7.IsWhole) (arg8 : Memref sig .tc .vmem S1x256 .f32) (harg8 : arg8.IsWhole) (arg9 : Memref sig .tc .vmem S4128x256 .f32) (harg9 : arg9.IsWhole) (arg10 : Memref sig .tc .vmem S4096x256 .f32) (harg10 : arg10.IsWhole) (arg11 : Memref sig .tc .vmem S256x256 .f32) (harg11 : arg11.IsWhole)

set_option warn.classDefReducibility false in
/-- The first loop by its invariant. -/
@[sl_loop] def loop1 (x1 : Vec F S4096x256 .bf16) (x2 : Vec F S4096x256 .f32) (v7 : Vec F S1x256x256 .bf16) (v9 : Vec F S1x256 .f32) (k0_h : k0_cond1 i = 1#1)
    (g9 : arg9.view.ty.Contents (Elt F)) (g10 : arg10.view.ty.Contents (Elt F)) (g11 : arg11.view.ty.Contents (Elt F)) (init : FVec F S1x256 .f32) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 v7 v9 k0_h init where
  inv := kept (F := F) c arg1 harg1 arg2 harg2 arg9 arg10 arg11 x1 x2 g9 g10 g11 (paE0 x2 v7 v9) (paO0 x2 v7 v9) (ddE0 x2 v7 v9) (ddO0 x2 v7 v9) (wa0 x1 x2 v9) (sc0 x1 x2 v7 init)
  step k acc := by
    have hk : k.val < 4 := Nat.lt_of_lt_of_le k.isLt k0_t1_abs.2.1
    unfold kept
    iintro ⟨H1, H2, ⟨%f9, H9, %h9⟩, ⟨%f10, H10, %h10⟩, ⟨%f11, H11, %h11⟩, %hacc⟩
    unfold k0_t1_body
    sl_exec
    sl_step
    isplitl [H1]; · iexact H1
    isplitl [H2]; · iexact H2
    have e1 := load_rows harg1 x1 512 _ (k0_off1_eq k) (k0_off1_inb i k k0_h)
    have e2 := load_rows harg2 x2 512 _ (k0_off1_eq k) (k0_off1_inb i k k0_h)
    have o1 := load_rows harg1 x1 512 _ (k0_off3_eq k) (k0_off3_inb i k k0_h)
    have o2 := load_rows harg2 x2 512 _ (k0_off3_eq k) (k0_off3_inb i k k0_h)
    isplitl [H9]
    · iexists _; isplitl [H9]; · iexact H9
      ipureintro
      exact filled_succ (R := 4128) arg9.view 16 k.val hk (paE0 x2 v7 v9) (paO0 x2 v7 v9) g9 f9 h9 (k0_off2_eq k) (k0_off4_eq k) (by omega) (by omega) _ _ _ _
        (congrArg (fun v => k0_pay34 (k0_pay29 (k0_pay4 v7) v9 v) (k0_pay32 0#32 1#32 k) (k0_pay33 0#32 1#32 k) 0#32) e2)
        (congrArg (fun v => k0_pay7 (k0_pay39 (k0_pay4 v7) v9 v) (k0_pay41 (Scalar.addi (Scalar.muli 2#32 (Scf.iv 0#32 1#32 k)) 1#32))) o2)
    isplitl [H10]
    · iexists _; isplitl [H10]; · iexact H10
      ipureintro
      exact filled_succ (R := 4096) arg10.view 0 k.val hk (ddE0 x2 v7 v9) (ddO0 x2 v7 v9) g10 f10 h10 (k0_off1_eq k) (k0_off3_eq k) (by omega) (by omega) _ _ _ _
        (congrArg (fun v => k0_pay30 (k0_pay4 v7) v9 v) e2)
        (congrArg (fun v => k0_pay40 (k0_pay4 v7) v9 v) o2)
    isplitl [H11]
    · iexists _; isplitl [H11]; · iexact H11
      ipureintro
      refine (read_full (R := 256) arg11.view _ _ _ _).trans ?_
      have r := (readCov_full (R := 256) arg11.view f11 (k0_pay28 v9 _ _) h11 inb_S256x256_S256x256_0_0).trans
        (congrArg₂ (fun v w => k0_pay28 v9 v w (wa0 x1 x2 v9 (arg11.view.read (Elt F) g11) k.val)) e1 e2)
      exact congr3 (fun v w u => k0_pay38 v9 v w u) o1 o2 r
    ipureintro
    subst hacc
    exact congr4 (fun v w y z => k0_pay36 (k0_pay4 v7) (k0_pay26 (k0_pay4 v7) (sc0 x1 x2 v7 init k.val) v w) y z) e1 e2 o1 o2

/-- The pooled rows' block `k`. -/
def ot0 (x9 : Vec F S4128x256 .f32) (x10 : Vec F S4096x256 .f32) (k : Fin 8) : FVec F S512x256 .bf16 :=
  k0_pay9 (rows 544 (512 * k.val) x9) (rows 512 (512 * k.val) x10)

set_option warn.classDefReducibility false in
/-- The second loop by its invariant. -/
@[sl_loop] def loop2 (k0_h : k0_cond1 i = 1#1)
    (g9 : arg9.view.ty.Contents (Elt F)) (g10 : arg10.view.ty.Contents (Elt F)) (g6 : arg6.view.ty.Contents (Elt F)) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 k0_h where
  inv := fun k _ => iprop(holds c arg9 g9 ∗ holds c arg10 g10
    ∗ (∃ f, holds c arg6 f ∗ ⌜arg6.view.read (Elt F) f = filled1 (R := 4096) (ot0 (arg9.view.read (Elt F) g9) (arg10.view.read (Elt F) g10)) (arg6.view.read (Elt F) g6) k⌝))
  step k _ := by
    have hk : k.val < 8 := Nat.lt_of_lt_of_le k.isLt k0_t2_abs.2.1
    iintro ⟨H9, H10, ⟨%f6, H6, %h6⟩⟩
    unfold k0_t2_body
    sl_exec
    sl_step
    have e9 := readAt_rows (R := 4128) arg9.view 544 _ (k0_off5_eq k) (k0_off5_inb i k k0_h) g9
    have e10 := readAt_rows (R := 4096) arg10.view 512 _ (k0_off6_eq k) (k0_off6_inb i k k0_h) g10
    isplitl [H9]; · iexact H9
    isplitl [H10]; · iexact H10
    iexists _; isplitl [H6]; · iexact H6
    ipureintro
    exact filled1_succ (R := 4096) arg6.view k.val hk (ot0 (arg9.view.read (Elt F) g9) (arg10.view.read (Elt F) g10)) g6 f6 h6 (k0_off6_eq k) _ _ (congrArg₂ (fun v w => k0_pay9 v w) e9 e10)

/-! ## Window 2 -/

section Values1

variable (x1 : Vec F S4096x256 .bf16) (x2 : Vec F S4096x256 .f32) (v7 : Vec F S1x256x256 .bf16) (v9 : Vec F S1x256 .f32)

/-- The trip's number. -/
abbrev tr1 (k : Fin 4) : Fin k0_t3_loop.trips := ⟨k.val, lt_of_lt_of_le k.isLt (by decide)⟩

/-- The output gradient's rows taken back through scale and matrix: block `2k`. -/
def ddE1 (k : Fin 4) : FVec F S512x256 .f32 := k0_pay47 (k0_pay4 v7) v9 (rows 512 (1024 * k.val) x2)
/-- Block `2k+1`. -/
def ddO1 (k : Fin 4) : FVec F S512x256 .f32 := k0_pay57 (k0_pay4 v7) v9 (rows 512 (1024 * k.val + 512) x2)
/-- The same divided by the counts. -/
def paE1 (k : Fin 4) : FVec F S512x256 .f32 :=
  k0_pay51 (k0_pay46 (k0_pay4 v7) v9 (rows 512 (1024 * k.val) x2)) (k0_pay49 0#32 1#32 (tr1 k)) (k0_pay50 0#32 1#32 (tr1 k)) 0#32
/-- Block `2k+1`. -/
def paO1 (k : Fin 4) : FVec F S512x256 .f32 :=
  k0_pay12 (k0_pay56 (k0_pay4 v7) v9 (rows 512 (1024 * k.val + 512) x2)) (k0_pay58 (Scalar.addi (Scalar.muli 2#32 (Scf.iv 0#32 1#32 (tr1 k))) 1#32))

/-- The scale's gradient after `k` trips. -/
def sc1 (init : FVec F S1x256 .f32) : ℕ → FVec F S1x256 .f32
  | 0 => init
  | k + 1 => k0_pay53 (k0_pay4 v7) (k0_pay43 (k0_pay4 v7) (sc1 init k) (rows 512 (1024 * k) x1) (rows 512 (1024 * k) x2))
      (rows 512 (1024 * k + 512) x1) (rows 512 (1024 * k + 512) x2)

/-- The weight's gradient after `k` trips. -/
def wa1 (init : FVec F S256x256 .f32) : ℕ → FVec F S256x256 .f32
  | 0 => init
  | k + 1 => k0_pay55 v9 (rows 512 (1024 * k + 512) x1) (rows 512 (1024 * k + 512) x2)
      (k0_pay45 v9 (rows 512 (1024 * k) x1) (rows 512 (1024 * k) x2) (wa1 init k))

end Values1

set_option warn.classDefReducibility false in
/-- The first loop by its invariant. -/
@[sl_loop] def loop3 (x1 : Vec F S4096x256 .bf16) (x2 : Vec F S4096x256 .f32) (v7 : Vec F S1x256x256 .bf16) (v9 : Vec F S1x256 .f32) (k0_h : k0_cond2 i = 1#1)
    (g9 : arg9.view.ty.Contents (Elt F)) (g10 : arg10.view.ty.Contents (Elt F)) (g11 : arg11.view.ty.Contents (Elt F)) (init : FVec F S1x256 .f32) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 v7 v9 k0_h init where
  inv := kept (F := F) c arg1 harg1 arg2 harg2 arg9 arg10 arg11 x1 x2 g9 g10 g11 (paE1 x2 v7 v9) (paO1 x2 v7 v9) (ddE1 x2 v7 v9) (ddO1 x2 v7 v9) (wa1 x1 x2 v9) (sc1 x1 x2 v7 init)
  step k acc := by
    have hk : k.val < 4 := Nat.lt_of_lt_of_le k.isLt k0_t3_abs.2.1
    unfold kept
    iintro ⟨H1, H2, ⟨%f9, H9, %h9⟩, ⟨%f10, H10, %h10⟩, ⟨%f11, H11, %h11⟩, %hacc⟩
    unfold k0_t3_body
    sl_exec
    sl_step
    isplitl [H1]; · iexact H1
    isplitl [H2]; · iexact H2
    have e1 := load_rows harg1 x1 512 _ (k0_off7_eq k) (k0_off7_inb i k k0_h)
    have e2 := load_rows harg2 x2 512 _ (k0_off7_eq k) (k0_off7_inb i k k0_h)
    have o1 := load_rows harg1 x1 512 _ (k0_off9_eq k) (k0_off9_inb i k k0_h)
    have o2 := load_rows harg2 x2 512 _ (k0_off9_eq k) (k0_off9_inb i k k0_h)
    isplitl [H9]
    · iexists _; isplitl [H9]; · iexact H9
      ipureintro
      exact filled_succ (R := 4128) arg9.view 16 k.val hk (paE1 x2 v7 v9) (paO1 x2 v7 v9) g9 f9 h9 (k0_off8_eq k) (k0_off10_eq k) (by omega) (by omega) _ _ _ _
        (congrArg (fun v => k0_pay51 (k0_pay46 (k0_pay4 v7) v9 v) (k0_pay49 0#32 1#32 k) (k0_pay50 0#32 1#32 k) 0#32) e2)
        (congrArg (fun v => k0_pay12 (k0_pay56 (k0_pay4 v7) v9 v) (k0_pay58 (Scalar.addi (Scalar.muli 2#32 (Scf.iv 0#32 1#32 k)) 1#32))) o2)
    isplitl [H10]
    · iexists _; isplitl [H10]; · iexact H10
      ipureintro
      exact filled_succ (R := 4096) arg10.view 0 k.val hk (ddE1 x2 v7 v9) (ddO1 x2 v7 v9) g10 f10 h10 (k0_off7_eq k) (k0_off9_eq k) (by omega) (by omega) _ _ _ _
        (congrArg (fun v => k0_pay47 (k0_pay4 v7) v9 v) e2)
        (congrArg (fun v => k0_pay57 (k0_pay4 v7) v9 v) o2)
    isplitl [H11]
    · iexists _; isplitl [H11]; · iexact H11
      ipureintro
      refine (read_full (R := 256) arg11.view _ _ _ _).trans ?_
      have r := (readCov_full (R := 256) arg11.view f11 (k0_pay45 v9 _ _) h11 inb_S256x256_S256x256_0_0).trans
        (congrArg₂ (fun v w => k0_pay45 v9 v w (wa1 x1 x2 v9 (arg11.view.read (Elt F) g11) k.val)) e1 e2)
      exact congr3 (fun v w u => k0_pay55 v9 v w u) o1 o2 r
    ipureintro
    subst hacc
    exact congr4 (fun v w y z => k0_pay53 (k0_pay4 v7) (k0_pay43 (k0_pay4 v7) (sc1 x1 x2 v7 init k.val) v w) y z) e1 e2 o1 o2

/-- The pooled rows' block `k`. -/
def ot1 (x9 : Vec F S4128x256 .f32) (x10 : Vec F S4096x256 .f32) (k : Fin 8) : FVec F S512x256 .bf16 :=
  k0_pay14 (rows 544 (512 * k.val) x9) (rows 512 (512 * k.val) x10)

set_option warn.classDefReducibility false in
/-- The second loop by its invariant. -/
@[sl_loop] def loop4 (k0_h : k0_cond2 i = 1#1)
    (g9 : arg9.view.ty.Contents (Elt F)) (g10 : arg10.view.ty.Contents (Elt F)) (g6 : arg6.view.ty.Contents (Elt F)) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 k0_h where
  inv := fun k _ => iprop(holds c arg9 g9 ∗ holds c arg10 g10
    ∗ (∃ f, holds c arg6 f ∗ ⌜arg6.view.read (Elt F) f = filled1 (R := 4096) (ot1 (arg9.view.read (Elt F) g9) (arg10.view.read (Elt F) g10)) (arg6.view.read (Elt F) g6) k⌝))
  step k _ := by
    have hk : k.val < 8 := Nat.lt_of_lt_of_le k.isLt k0_t4_abs.2.1
    iintro ⟨H9, H10, ⟨%f6, H6, %h6⟩⟩
    unfold k0_t4_body
    sl_exec
    sl_step
    have e9 := readAt_rows (R := 4128) arg9.view 544 _ (k0_off11_eq k) (k0_off11_inb i k k0_h) g9
    have e10 := readAt_rows (R := 4096) arg10.view 512 _ (k0_off12_eq k) (k0_off12_inb i k k0_h) g10
    isplitl [H9]; · iexact H9
    isplitl [H10]; · iexact H10
    iexists _; isplitl [H6]; · iexact H6
    ipureintro
    exact filled1_succ (R := 4096) arg6.view k.val hk (ot1 (arg9.view.read (Elt F) g9) (arg10.view.read (Elt F) g10)) g6 f6 h6 (k0_off12_eq k) _ _ (congrArg₂ (fun v w => k0_pay14 v w) e9 e10)

/-! ## Window 3 -/

section Values2

variable (x1 : Vec F S4096x256 .bf16) (x2 : Vec F S4096x256 .f32) (v7 : Vec F S1x256x256 .bf16) (v9 : Vec F S1x256 .f32)

/-- The trip's number. -/
abbrev tr2 (k : Fin 4) : Fin k0_t5_loop.trips := ⟨k.val, lt_of_lt_of_le k.isLt (by decide)⟩

/-- The output gradient's rows taken back through scale and matrix: block `2k`. -/
def ddE2 (k : Fin 4) : FVec F S512x256 .f32 := k0_pay64 (k0_pay4 v7) v9 (rows 512 (1024 * k.val) x2)
/-- Block `2k+1`. -/
def ddO2 (k : Fin 4) : FVec F S512x256 .f32 := k0_pay74 (k0_pay4 v7) v9 (rows 512 (1024 * k.val + 512) x2)
/-- The same divided by the counts. -/
def paE2 (k : Fin 4) : FVec F S512x256 .f32 :=
  k0_pay68 (k0_pay63 (k0_pay4 v7) v9 (rows 512 (1024 * k.val) x2)) (k0_pay66 0#32 1#32 (tr2 k)) (k0_pay67 0#32 1#32 (tr2 k)) 0#32
/-- Block `2k+1`. -/
def paO2 (k : Fin 4) : FVec F S512x256 .f32 :=
  k0_pay17 (k0_pay73 (k0_pay4 v7) v9 (rows 512 (1024 * k.val + 512) x2)) (k0_pay75 (Scalar.addi (Scalar.muli 2#32 (Scf.iv 0#32 1#32 (tr2 k))) 1#32))

/-- The scale's gradient after `k` trips. -/
def sc2 (init : FVec F S1x256 .f32) : ℕ → FVec F S1x256 .f32
  | 0 => init
  | k + 1 => k0_pay70 (k0_pay4 v7) (k0_pay60 (k0_pay4 v7) (sc2 init k) (rows 512 (1024 * k) x1) (rows 512 (1024 * k) x2))
      (rows 512 (1024 * k + 512) x1) (rows 512 (1024 * k + 512) x2)

/-- The weight's gradient after `k` trips. -/
def wa2 (init : FVec F S256x256 .f32) : ℕ → FVec F S256x256 .f32
  | 0 => init
  | k + 1 => k0_pay72 v9 (rows 512 (1024 * k + 512) x1) (rows 512 (1024 * k + 512) x2)
      (k0_pay62 v9 (rows 512 (1024 * k) x1) (rows 512 (1024 * k) x2) (wa2 init k))

end Values2

set_option warn.classDefReducibility false in
/-- The first loop by its invariant. -/
@[sl_loop] def loop5 (x1 : Vec F S4096x256 .bf16) (x2 : Vec F S4096x256 .f32) (v7 : Vec F S1x256x256 .bf16) (v9 : Vec F S1x256 .f32) (k0_h : k0_cond3 i = 1#1)
    (g9 : arg9.view.ty.Contents (Elt F)) (g10 : arg10.view.ty.Contents (Elt F)) (g11 : arg11.view.ty.Contents (Elt F)) (init : FVec F S1x256 .f32) :
    LoopInvTy_k0_t5 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 v7 v9 k0_h init where
  inv := kept (F := F) c arg1 harg1 arg2 harg2 arg9 arg10 arg11 x1 x2 g9 g10 g11 (paE2 x2 v7 v9) (paO2 x2 v7 v9) (ddE2 x2 v7 v9) (ddO2 x2 v7 v9) (wa2 x1 x2 v9) (sc2 x1 x2 v7 init)
  step k acc := by
    have hk : k.val < 4 := Nat.lt_of_lt_of_le k.isLt k0_t5_abs.2.1
    unfold kept
    iintro ⟨H1, H2, ⟨%f9, H9, %h9⟩, ⟨%f10, H10, %h10⟩, ⟨%f11, H11, %h11⟩, %hacc⟩
    unfold k0_t5_body
    sl_exec
    sl_step
    isplitl [H1]; · iexact H1
    isplitl [H2]; · iexact H2
    have e1 := load_rows harg1 x1 512 _ (k0_off13_eq k) (k0_off13_inb i k k0_h)
    have e2 := load_rows harg2 x2 512 _ (k0_off13_eq k) (k0_off13_inb i k k0_h)
    have o1 := load_rows harg1 x1 512 _ (k0_off15_eq k) (k0_off15_inb i k k0_h)
    have o2 := load_rows harg2 x2 512 _ (k0_off15_eq k) (k0_off15_inb i k k0_h)
    isplitl [H9]
    · iexists _; isplitl [H9]; · iexact H9
      ipureintro
      exact filled_succ (R := 4128) arg9.view 16 k.val hk (paE2 x2 v7 v9) (paO2 x2 v7 v9) g9 f9 h9 (k0_off14_eq k) (k0_off16_eq k) (by omega) (by omega) _ _ _ _
        (congrArg (fun v => k0_pay68 (k0_pay63 (k0_pay4 v7) v9 v) (k0_pay66 0#32 1#32 k) (k0_pay67 0#32 1#32 k) 0#32) e2)
        (congrArg (fun v => k0_pay17 (k0_pay73 (k0_pay4 v7) v9 v) (k0_pay75 (Scalar.addi (Scalar.muli 2#32 (Scf.iv 0#32 1#32 k)) 1#32))) o2)
    isplitl [H10]
    · iexists _; isplitl [H10]; · iexact H10
      ipureintro
      exact filled_succ (R := 4096) arg10.view 0 k.val hk (ddE2 x2 v7 v9) (ddO2 x2 v7 v9) g10 f10 h10 (k0_off13_eq k) (k0_off15_eq k) (by omega) (by omega) _ _ _ _
        (congrArg (fun v => k0_pay64 (k0_pay4 v7) v9 v) e2)
        (congrArg (fun v => k0_pay74 (k0_pay4 v7) v9 v) o2)
    isplitl [H11]
    · iexists _; isplitl [H11]; · iexact H11
      ipureintro
      refine (read_full (R := 256) arg11.view _ _ _ _).trans ?_
      have r := (readCov_full (R := 256) arg11.view f11 (k0_pay62 v9 _ _) h11 inb_S256x256_S256x256_0_0).trans
        (congrArg₂ (fun v w => k0_pay62 v9 v w (wa2 x1 x2 v9 (arg11.view.read (Elt F) g11) k.val)) e1 e2)
      exact congr3 (fun v w u => k0_pay72 v9 v w u) o1 o2 r
    ipureintro
    subst hacc
    exact congr4 (fun v w y z => k0_pay70 (k0_pay4 v7) (k0_pay60 (k0_pay4 v7) (sc2 x1 x2 v7 init k.val) v w) y z) e1 e2 o1 o2

/-- The pooled rows' block `k`. -/
def ot2 (x9 : Vec F S4128x256 .f32) (x10 : Vec F S4096x256 .f32) (k : Fin 8) : FVec F S512x256 .bf16 :=
  k0_pay19 (rows 544 (512 * k.val) x9) (rows 512 (512 * k.val) x10)

set_option warn.classDefReducibility false in
/-- The second loop by its invariant. -/
@[sl_loop] def loop6 (k0_h : k0_cond3 i = 1#1)
    (g9 : arg9.view.ty.Contents (Elt F)) (g10 : arg10.view.ty.Contents (Elt F)) (g6 : arg6.view.ty.Contents (Elt F)) :
    LoopInvTy_k0_t6 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 k0_h where
  inv := fun k _ => iprop(holds c arg9 g9 ∗ holds c arg10 g10
    ∗ (∃ f, holds c arg6 f ∗ ⌜arg6.view.read (Elt F) f = filled1 (R := 4096) (ot2 (arg9.view.read (Elt F) g9) (arg10.view.read (Elt F) g10)) (arg6.view.read (Elt F) g6) k⌝))
  step k _ := by
    have hk : k.val < 8 := Nat.lt_of_lt_of_le k.isLt k0_t6_abs.2.1
    iintro ⟨H9, H10, ⟨%f6, H6, %h6⟩⟩
    unfold k0_t6_body
    sl_exec
    sl_step
    have e9 := readAt_rows (R := 4128) arg9.view 544 _ (k0_off17_eq k) (k0_off17_inb i k k0_h) g9
    have e10 := readAt_rows (R := 4096) arg10.view 512 _ (k0_off18_eq k) (k0_off18_inb i k k0_h) g10
    isplitl [H9]; · iexact H9
    isplitl [H10]; · iexact H10
    iexists _; isplitl [H6]; · iexact H6
    ipureintro
    exact filled1_succ (R := 4096) arg6.view k.val hk (ot2 (arg9.view.read (Elt F) g9) (arg10.view.read (Elt F) g10)) g6 f6 h6 (k0_off18_eq k) _ _ (congrArg₂ (fun v w => k0_pay19 v w) e9 e10)

/-! ## Window 4 -/

section Values3

variable (x1 : Vec F S4096x256 .bf16) (x2 : Vec F S4096x256 .f32) (v7 : Vec F S1x256x256 .bf16) (v9 : Vec F S1x256 .f32)

/-- The trip's number. -/
abbrev tr3 (k : Fin 4) : Fin k0_t7_loop.trips := ⟨k.val, lt_of_lt_of_le k.isLt (by decide)⟩

/-- The output gradient's rows taken back through scale and matrix: block `2k`. -/
def ddE3 (k : Fin 4) : FVec F S512x256 .f32 := k0_pay81 (k0_pay4 v7) v9 (rows 512 (1024 * k.val) x2)
/-- Block `2k+1`. -/
def ddO3 (k : Fin 4) : FVec F S512x256 .f32 := k0_pay91 (k0_pay4 v7) v9 (rows 512 (1024 * k.val + 512) x2)
/-- The same divided by the counts. -/
def paE3 (k : Fin 4) : FVec F S512x256 .f32 :=
  k0_pay85 (k0_pay80 (k0_pay4 v7) v9 (rows 512 (1024 * k.val) x2)) (k0_pay83 0#32 1#32 (tr3 k)) (k0_pay84 0#32 1#32 (tr3 k)) 0#32
/-- Block `2k+1`. -/
def paO3 (k : Fin 4) : FVec F S512x256 .f32 :=
  k0_pay22 (k0_pay90 (k0_pay4 v7) v9 (rows 512 (1024 * k.val + 512) x2)) (k0_pay92 (Scalar.addi (Scalar.muli 2#32 (Scf.iv 0#32 1#32 (tr3 k))) 1#32))

/-- The scale's gradient after `k` trips. -/
def sc3 (init : FVec F S1x256 .f32) : ℕ → FVec F S1x256 .f32
  | 0 => init
  | k + 1 => k0_pay87 (k0_pay4 v7) (k0_pay77 (k0_pay4 v7) (sc3 init k) (rows 512 (1024 * k) x1) (rows 512 (1024 * k) x2))
      (rows 512 (1024 * k + 512) x1) (rows 512 (1024 * k + 512) x2)

/-- The weight's gradient after `k` trips. -/
def wa3 (init : FVec F S256x256 .f32) : ℕ → FVec F S256x256 .f32
  | 0 => init
  | k + 1 => k0_pay89 v9 (rows 512 (1024 * k + 512) x1) (rows 512 (1024 * k + 512) x2)
      (k0_pay79 v9 (rows 512 (1024 * k) x1) (rows 512 (1024 * k) x2) (wa3 init k))

end Values3

set_option warn.classDefReducibility false in
/-- The first loop by its invariant. -/
@[sl_loop] def loop7 (x1 : Vec F S4096x256 .bf16) (x2 : Vec F S4096x256 .f32) (v7 : Vec F S1x256x256 .bf16) (v9 : Vec F S1x256 .f32) (k0_h : k0_cond4 i = 1#1)
    (g9 : arg9.view.ty.Contents (Elt F)) (g10 : arg10.view.ty.Contents (Elt F)) (g11 : arg11.view.ty.Contents (Elt F)) (init : FVec F S1x256 .f32) :
    LoopInvTy_k0_t7 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 v7 v9 k0_h init where
  inv := kept (F := F) c arg1 harg1 arg2 harg2 arg9 arg10 arg11 x1 x2 g9 g10 g11 (paE3 x2 v7 v9) (paO3 x2 v7 v9) (ddE3 x2 v7 v9) (ddO3 x2 v7 v9) (wa3 x1 x2 v9) (sc3 x1 x2 v7 init)
  step k acc := by
    have hk : k.val < 4 := Nat.lt_of_lt_of_le k.isLt k0_t7_abs.2.1
    unfold kept
    iintro ⟨H1, H2, ⟨%f9, H9, %h9⟩, ⟨%f10, H10, %h10⟩, ⟨%f11, H11, %h11⟩, %hacc⟩
    unfold k0_t7_body
    sl_exec
    sl_step
    isplitl [H1]; · iexact H1
    isplitl [H2]; · iexact H2
    have e1 := load_rows harg1 x1 512 _ (k0_off19_eq k) (k0_off19_inb i k k0_h)
    have e2 := load_rows harg2 x2 512 _ (k0_off19_eq k) (k0_off19_inb i k k0_h)
    have o1 := load_rows harg1 x1 512 _ (k0_off21_eq k) (k0_off21_inb i k k0_h)
    have o2 := load_rows harg2 x2 512 _ (k0_off21_eq k) (k0_off21_inb i k k0_h)
    isplitl [H9]
    · iexists _; isplitl [H9]; · iexact H9
      ipureintro
      exact filled_succ (R := 4128) arg9.view 16 k.val hk (paE3 x2 v7 v9) (paO3 x2 v7 v9) g9 f9 h9 (k0_off20_eq k) (k0_off22_eq k) (by omega) (by omega) _ _ _ _
        (congrArg (fun v => k0_pay85 (k0_pay80 (k0_pay4 v7) v9 v) (k0_pay83 0#32 1#32 k) (k0_pay84 0#32 1#32 k) 0#32) e2)
        (congrArg (fun v => k0_pay22 (k0_pay90 (k0_pay4 v7) v9 v) (k0_pay92 (Scalar.addi (Scalar.muli 2#32 (Scf.iv 0#32 1#32 k)) 1#32))) o2)
    isplitl [H10]
    · iexists _; isplitl [H10]; · iexact H10
      ipureintro
      exact filled_succ (R := 4096) arg10.view 0 k.val hk (ddE3 x2 v7 v9) (ddO3 x2 v7 v9) g10 f10 h10 (k0_off19_eq k) (k0_off21_eq k) (by omega) (by omega) _ _ _ _
        (congrArg (fun v => k0_pay81 (k0_pay4 v7) v9 v) e2)
        (congrArg (fun v => k0_pay91 (k0_pay4 v7) v9 v) o2)
    isplitl [H11]
    · iexists _; isplitl [H11]; · iexact H11
      ipureintro
      refine (read_full (R := 256) arg11.view _ _ _ _).trans ?_
      have r := (readCov_full (R := 256) arg11.view f11 (k0_pay79 v9 _ _) h11 inb_S256x256_S256x256_0_0).trans
        (congrArg₂ (fun v w => k0_pay79 v9 v w (wa3 x1 x2 v9 (arg11.view.read (Elt F) g11) k.val)) e1 e2)
      exact congr3 (fun v w u => k0_pay89 v9 v w u) o1 o2 r
    ipureintro
    subst hacc
    exact congr4 (fun v w y z => k0_pay87 (k0_pay4 v7) (k0_pay77 (k0_pay4 v7) (sc3 x1 x2 v7 init k.val) v w) y z) e1 e2 o1 o2

/-- The pooled rows' block `k`. -/
def ot3 (x9 : Vec F S4128x256 .f32) (x10 : Vec F S4096x256 .f32) (k : Fin 8) : FVec F S512x256 .bf16 :=
  k0_pay24 (rows 544 (512 * k.val) x9) (rows 512 (512 * k.val) x10)

set_option warn.classDefReducibility false in
/-- The second loop by its invariant. -/
@[sl_loop] def loop8 (k0_h : k0_cond4 i = 1#1)
    (g9 : arg9.view.ty.Contents (Elt F)) (g10 : arg10.view.ty.Contents (Elt F)) (g6 : arg6.view.ty.Contents (Elt F)) :
    LoopInvTy_k0_t8 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 k0_h where
  inv := fun k _ => iprop(holds c arg9 g9 ∗ holds c arg10 g10
    ∗ (∃ f, holds c arg6 f ∗ ⌜arg6.view.read (Elt F) f = filled1 (R := 4096) (ot3 (arg9.view.read (Elt F) g9) (arg10.view.read (Elt F) g10)) (arg6.view.read (Elt F) g6) k⌝))
  step k _ := by
    have hk : k.val < 8 := Nat.lt_of_lt_of_le k.isLt k0_t8_abs.2.1
    iintro ⟨H9, H10, ⟨%f6, H6, %h6⟩⟩
    unfold k0_t8_body
    sl_exec
    sl_step
    have e9 := readAt_rows (R := 4128) arg9.view 544 _ (k0_off23_eq k) (k0_off23_inb i k k0_h) g9
    have e10 := readAt_rows (R := 4096) arg10.view 512 _ (k0_off24_eq k) (k0_off24_inb i k k0_h) g10
    isplitl [H9]; · iexact H9
    isplitl [H10]; · iexact H10
    iexists _; isplitl [H6]; · iexact H6
    ipureintro
    exact filled1_succ (R := 4096) arg6.view k.val hk (ot3 (arg9.view.read (Elt F) g9) (arg10.view.read (Elt F) g10)) g6 f6 h6 (k0_off24_eq k) _ _ (congrArg₂ (fun v w => k0_pay24 v w) e9 e10)

end Cert.PoolBwdIdeal.Pool
-- ==== Proof.PoolBody.lean ====
module

public import proofs.«01_k».proof.Proof.PoolLoops
public import proofs.«01_k».proof.Proof.Gen.PoolBwdIdeal.Frame
public import proofs.«01_k».proof.Proof.PoolRows

/-! # One grid point of the pool gradient

What the body leaves in its three output blocks, per window. -/

@[expose] public section

set_option maxRecDepth 16384
set_option maxHeartbeats 4000000

noncomputable section

namespace Cert.PoolBwdIdeal.Pool

open Cert.PoolRows
open Cert.PoolBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A buffer's ownership, by what it reads. -/
theorem reads {c : Dev nD} {sp : Space} {s : Shape} {e : EltTy} {m : Memref sig .tc sp s e} {f : m.view.ty.Contents (Elt F)} {x : s.Idx → Elt F e}
    (h : m.view.read (Elt F) f = x) :
    iprop(m.view.loc (c : Thread nD τ) ↦[m.view.set]{fullShare} f)
      ⊢ (iprop(∃ f, ⌜m.view.read (Elt F) f = x⌝ ∗ m.view.loc (c : Thread nD τ) ↦[m.view.set]{fullShare} f) : sProp 𝕄) := by
  iintro H
  iexists f; isplitr; · ipureintro; exact h
  iexact H

/-- The body runs from the inputs' blocks `x0`, … to those and the results' blocks `o6`, …. -/
abbrev Runs (c : Dev nD) (E : Set ℕ) (i : grid0.Coords) (arg1 : Memref sig .tc .vmem S4096x256 .bf16) (harg1 : arg1.IsWhole) (arg2 : Memref sig .tc .vmem S4096x256 .f32) (harg2 : arg2.IsWhole) (arg3 : Memref sig .tc .vmem S1x256x256 .bf16) (harg3 : arg3.IsWhole) (arg4 : Memref sig .tc .vmem S1x256 .f32) (harg4 : arg4.IsWhole) (arg5 : Memref sig .tc .vmem S8x128 .f32) (harg5 : arg5.IsWhole) (arg6 : Memref sig .tc .vmem S4096x256 .bf16) (harg6 : arg6.IsWhole) (arg7 : Memref sig .tc .vmem S8x1x32x256 .bf16) (harg7 : arg7.IsWhole) (arg8 : Memref sig .tc .vmem S1x256 .f32) (harg8 : arg8.IsWhole) (arg9 : Memref sig .tc .vmem S4128x256 .f32) (harg9 : arg9.IsWhole) (arg10 : Memref sig .tc .vmem S4096x256 .f32) (harg10 : arg10.IsWhole) (arg11 : Memref sig .tc .vmem S256x256 .f32) (harg11 : arg11.IsWhole)
    (x0 : Vec F S4096x256 .bf16) (x1 : Vec F S4096x256 .f32) (x2 : Vec F S1x256x256 .bf16) (x3 : Vec F S1x256 .f32) (x4 : Vec F S8x128 .f32) (o6 : Vec F S4096x256 .bf16) (o7 : Vec F S8x1x32x256 .bf16) (o8 : Vec F S1x256 .f32) : Prop :=
  ∀ K : PUnit → sProp 𝕄,
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare o6 ∗ owns (c : Thread nD τ) arg7 fullShare o7 ∗ owns (c : Thread nD τ) arg8 fullShare o8 ∗ (∃ d, owns (c : Thread nD τ) arg9 fullShare d) ∗ (∃ d, owns (c : Thread nD τ) arg10 fullShare d) ∗ (∃ d, owns (c : Thread nD τ) arg11 fullShare d) ) -∗ K ⟨⟩))
    ⊢ wp frame (wpE (defs₀ (F := F)) Variants.none (c : Thread nD τ) none) E (cc0_pool_bwd i arg1 harg1 arg2 harg2 arg3 harg3 arg4 harg4 arg5 harg5 arg6 harg6 arg7 harg7 arg8 harg8 arg9 harg9 arg10 harg10 arg11 harg11) K

/-! ## Window 1 -/

/-- The divided rows between their two zero blocks. -/
def padded0 (x1 : Vec F S4096x256 .f32) (x2 : Vec F S1x256x256 .bf16) (x3 : Vec F S1x256 .f32) : Vec F S4128x256 .f32 :=
  framed (k0_pay2 (F := F)) (k0_pay3 (F := F)) (pairRows 16 (paE0 x1 x2 x3) (paO0 x1 x2 x3))
/-- The rows themselves. -/
def dds0 (x1 : Vec F S4096x256 .f32) (x2 : Vec F S1x256x256 .bf16) (x3 : Vec F S1x256 .f32) : Vec F S4096x256 .f32 :=
  pairRows 0 (ddE0 x1 x2 x3) (ddO0 x1 x2 x3)
/-- The block of the input's gradient. -/
def o6_0 (x1 : Vec F S4096x256 .f32) (x2 : Vec F S1x256x256 .bf16) (x3 : Vec F S1x256 .f32) : Vec F S4096x256 .bf16 :=
  oneRows (ot0 (padded0 x1 x2 x3) (dds0 x1 x2 x3))
/-- The block of the matrix's gradient. -/
def o7_0 (x0 : Vec F S4096x256 .bf16) (x1 : Vec F S4096x256 .f32) (x3 : Vec F S1x256 .f32) : Vec F S8x1x32x256 .bf16 :=
  k0_pay8 (wa0 x0 x1 x3 (k0_pay5 (F := F)) 4)
/-- The block of the scale's gradient. -/
def o8_0 (x0 : Vec F S4096x256 .bf16) (x1 : Vec F S4096x256 .f32) (x2 : Vec F S1x256x256 .bf16) : Vec F S1x256 .f32 :=
  sc0 x0 x1 x2 (k0_pay6 (F := F)) 4

variable (c : Dev nD) (E : Set ℕ) (i : grid0.Coords) (arg1 : Memref sig .tc .vmem S4096x256 .bf16) (harg1 : arg1.IsWhole) (arg2 : Memref sig .tc .vmem S4096x256 .f32) (harg2 : arg2.IsWhole) (arg3 : Memref sig .tc .vmem S1x256x256 .bf16) (harg3 : arg3.IsWhole) (arg4 : Memref sig .tc .vmem S1x256 .f32) (harg4 : arg4.IsWhole) (arg5 : Memref sig .tc .vmem S8x128 .f32) (harg5 : arg5.IsWhole) (arg6 : Memref sig .tc .vmem S4096x256 .bf16) (harg6 : arg6.IsWhole) (arg7 : Memref sig .tc .vmem S8x1x32x256 .bf16) (harg7 : arg7.IsWhole) (arg8 : Memref sig .tc .vmem S1x256 .f32) (harg8 : arg8.IsWhole) (arg9 : Memref sig .tc .vmem S4128x256 .f32) (harg9 : arg9.IsWhole) (arg10 : Memref sig .tc .vmem S4096x256 .f32) (harg10 : arg10.IsWhole) (arg11 : Memref sig .tc .vmem S256x256 .f32) (harg11 : arg11.IsWhole)

/-- The body at window 1. -/
theorem body0 (hc0 : k0_cond1 i = 1#1) (hc1 : ¬k0_cond2 i = 1#1) (hc2 : ¬k0_cond3 i = 1#1) (hc3 : ¬k0_cond4 i = 1#1)
    (x0 : Vec F S4096x256 .bf16) (x1 : Vec F S4096x256 .f32) (x2 : Vec F S1x256x256 .bf16) (x3 : Vec F S1x256 .f32) (x4 : Vec F S8x128 .f32) :
    Runs c E i arg1 harg1 arg2 harg2 arg3 harg3 arg4 harg4 arg5 harg5 arg6 harg6 arg7 harg7 arg8 harg8 arg9 harg9 arg10 harg10 arg11 harg11 x0 x1 x2 x3 x4 (o6_0 x1 x2 x3) (o7_0 x0 x1 x3) (o8_0 x0 x1 x2) := by
  intro K
  simp only [cc0_pool_bwd_eq_skeleton]
  unfold cc0_pool_bwd_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
  obtain rfl := harg1.eq_unread hf0
  obtain rfl := harg2.eq_unread hf1
  obtain rfl := harg3.eq_unread hf2
  obtain rfl := harg4.eq_unread hf3
  obtain rfl := harg5.eq_unread hf4
  sl_exec (disch := first | sl_exact hc0 | sl_exact hc1 | sl_exact hc2 | sl_exact hc3)
  sl_step
  iapply Hk
  have hv7 := readAt_whole harg3 x2 ![0, 0, 0] (by decide) inb_S1x256x256_S1x256x256_0_0_0
  have hv9 := readAt_whole harg4 x3 ![0, 0] (by decide) inb_S1x256_S1x256_0_0
  have r9 : arg9.view.read (Elt F) fL0 = padded0 x1 x2 x3 := by
    rw [hv7, hv9] at hL3
    exact read_framed arg9.view fL0 fs0 _ _ _ _ _ _ (show 16 + 1024 * Scf.trips k0_t1_loop.lb k0_t1_loop.ub k0_t1_loop.st = 4112 by decide) (fun y => (congrFun hL3 y).trans (filled_apply (R := 4128) _ _ _ _ _ y))
  have r10 : arg10.view.read (Elt F) fL1 = dds0 x1 x2 x3 := by
    rw [hv7, hv9] at hL5
    exact hL5.trans (filled_all _ _ _ _ (by decide))
  have r11 : arg11.view.read (Elt F) fL2 = wa0 x0 x1 x3 (k0_pay5 (F := F)) 4 := by
    rw [hv9] at hL7
    exact hL7.trans (congrArg (fun b => wa0 x0 x1 x3 b 4) (read_full (R := 256) arg11.view _ _ _ _))
  have r6 : arg6.view.read (Elt F) fL3 = o6_0 x1 x2 x3 := by
    rw [r9, r10] at hL12
    exact hL12.trans (filled1_all _ _ _ (by decide))
  isplitl [H0]; · iapply (reads hf0); iexact H0
  isplitl [H1]; · iapply (reads hf1); iexact H1
  isplitl [H2]; · iapply (reads hf2); iexact H2
  isplitl [H3]; · iapply (reads hf3); iexact H3
  isplitl [H4]; · iapply (reads hf4); iexact H4
  isplitl [H5]; · iapply (reads r6); iexact H5
  isplitl [H6]
  · iexists _
    isplitr; swap; · iexact H6
    · ipureintro
      refine (read_whole (s := S8x1x32x256) arg7.view _ ![0, 0, 0, 0] (by decide) _ _ _).trans ?_
      exact (congrArg (fun b => k0_pay8 b) ((readAt_full (R := 256) arg11.view _ _).trans r11))
  isplitl [H7]
  · iexists _
    isplitr; swap; · iexact H7
    · ipureintro
      refine (read_whole (s := S1x256) arg8.view _ ![0, 0] (by decide) _ _ _).trans ?_
      exact (congrArg (fun w => sc0 x0 x1 w (k0_pay6 (F := F)) 4) hv7)
  isplitl [HS0]
  · iexists _; iexists _; isplitr; swap; · iexact HS0
    ipureintro; rfl
  isplitl [HS1]
  · iexists _; iexists _; isplitr; swap; · iexact HS1
    ipureintro; rfl
  iexists _; iexists _; isplitr; swap; · iexact HS2
  ipureintro; rfl

/-! ## Window 2 -/

/-- The divided rows between their two zero blocks. -/
def padded1 (x1 : Vec F S4096x256 .f32) (x2 : Vec F S1x256x256 .bf16) (x3 : Vec F S1x256 .f32) : Vec F S4128x256 .f32 :=
  framed (k0_pay2 (F := F)) (k0_pay3 (F := F)) (pairRows 16 (paE1 x1 x2 x3) (paO1 x1 x2 x3))
/-- The rows themselves. -/
def dds1 (x1 : Vec F S4096x256 .f32) (x2 : Vec F S1x256x256 .bf16) (x3 : Vec F S1x256 .f32) : Vec F S4096x256 .f32 :=
  pairRows 0 (ddE1 x1 x2 x3) (ddO1 x1 x2 x3)
/-- The block of the input's gradient. -/
def o6_1 (x1 : Vec F S4096x256 .f32) (x2 : Vec F S1x256x256 .bf16) (x3 : Vec F S1x256 .f32) : Vec F S4096x256 .bf16 :=
  oneRows (ot1 (padded1 x1 x2 x3) (dds1 x1 x2 x3))
/-- The block of the matrix's gradient. -/
def o7_1 (x0 : Vec F S4096x256 .bf16) (x1 : Vec F S4096x256 .f32) (x3 : Vec F S1x256 .f32) : Vec F S8x1x32x256 .bf16 :=
  k0_pay13 (wa1 x0 x1 x3 (k0_pay10 (F := F)) 4)
/-- The block of the scale's gradient. -/
def o8_1 (x0 : Vec F S4096x256 .bf16) (x1 : Vec F S4096x256 .f32) (x2 : Vec F S1x256x256 .bf16) : Vec F S1x256 .f32 :=
  sc1 x0 x1 x2 (k0_pay11 (F := F)) 4

/-- The body at window 2. -/
theorem body1 (hc0 : ¬k0_cond1 i = 1#1) (hc1 : k0_cond2 i = 1#1) (hc2 : ¬k0_cond3 i = 1#1) (hc3 : ¬k0_cond4 i = 1#1)
    (x0 : Vec F S4096x256 .bf16) (x1 : Vec F S4096x256 .f32) (x2 : Vec F S1x256x256 .bf16) (x3 : Vec F S1x256 .f32) (x4 : Vec F S8x128 .f32) :
    Runs c E i arg1 harg1 arg2 harg2 arg3 harg3 arg4 harg4 arg5 harg5 arg6 harg6 arg7 harg7 arg8 harg8 arg9 harg9 arg10 harg10 arg11 harg11 x0 x1 x2 x3 x4 (o6_1 x1 x2 x3) (o7_1 x0 x1 x3) (o8_1 x0 x1 x2) := by
  intro K
  simp only [cc0_pool_bwd_eq_skeleton]
  unfold cc0_pool_bwd_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
  obtain rfl := harg1.eq_unread hf0
  obtain rfl := harg2.eq_unread hf1
  obtain rfl := harg3.eq_unread hf2
  obtain rfl := harg4.eq_unread hf3
  obtain rfl := harg5.eq_unread hf4
  sl_exec (disch := first | sl_exact hc0 | sl_exact hc1 | sl_exact hc2 | sl_exact hc3)
  sl_step
  iapply Hk
  have hv7 := readAt_whole harg3 x2 ![0, 0, 0] (by decide) inb_S1x256x256_S1x256x256_0_0_0
  have hv9 := readAt_whole harg4 x3 ![0, 0] (by decide) inb_S1x256_S1x256_0_0
  have r9 : arg9.view.read (Elt F) fL0 = padded1 x1 x2 x3 := by
    rw [hv7, hv9] at hL3
    exact read_framed arg9.view fL0 fs0 _ _ _ _ _ _ (show 16 + 1024 * Scf.trips k0_t3_loop.lb k0_t3_loop.ub k0_t3_loop.st = 4112 by decide) (fun y => (congrFun hL3 y).trans (filled_apply (R := 4128) _ _ _ _ _ y))
  have r10 : arg10.view.read (Elt F) fL1 = dds1 x1 x2 x3 := by
    rw [hv7, hv9] at hL5
    exact hL5.trans (filled_all _ _ _ _ (by decide))
  have r11 : arg11.view.read (Elt F) fL2 = wa1 x0 x1 x3 (k0_pay10 (F := F)) 4 := by
    rw [hv9] at hL7
    exact hL7.trans (congrArg (fun b => wa1 x0 x1 x3 b 4) (read_full (R := 256) arg11.view _ _ _ _))
  have r6 : arg6.view.read (Elt F) fL3 = o6_1 x1 x2 x3 := by
    rw [r9, r10] at hL12
    exact hL12.trans (filled1_all _ _ _ (by decide))
  isplitl [H0]; · iapply (reads hf0); iexact H0
  isplitl [H1]; · iapply (reads hf1); iexact H1
  isplitl [H2]; · iapply (reads hf2); iexact H2
  isplitl [H3]; · iapply (reads hf3); iexact H3
  isplitl [H4]; · iapply (reads hf4); iexact H4
  isplitl [H5]; · iapply (reads r6); iexact H5
  isplitl [H6]
  · iexists _
    isplitr; swap; · iexact H6
    · ipureintro
      refine (read_whole (s := S8x1x32x256) arg7.view _ ![0, 0, 0, 0] (by decide) _ _ _).trans ?_
      exact (congrArg (fun b => k0_pay13 b) ((readAt_full (R := 256) arg11.view _ _).trans r11))
  isplitl [H7]
  · iexists _
    isplitr; swap; · iexact H7
    · ipureintro
      refine (read_whole (s := S1x256) arg8.view _ ![0, 0] (by decide) _ _ _).trans ?_
      exact (congrArg (fun w => sc1 x0 x1 w (k0_pay11 (F := F)) 4) hv7)
  isplitl [HS0]
  · iexists _; iexists _; isplitr; swap; · iexact HS0
    ipureintro; rfl
  isplitl [HS1]
  · iexists _; iexists _; isplitr; swap; · iexact HS1
    ipureintro; rfl
  iexists _; iexists _; isplitr; swap; · iexact HS2
  ipureintro; rfl

/-! ## Window 3 -/

/-- The divided rows between their two zero blocks. -/
def padded2 (x1 : Vec F S4096x256 .f32) (x2 : Vec F S1x256x256 .bf16) (x3 : Vec F S1x256 .f32) : Vec F S4128x256 .f32 :=
  framed (k0_pay2 (F := F)) (k0_pay3 (F := F)) (pairRows 16 (paE2 x1 x2 x3) (paO2 x1 x2 x3))
/-- The rows themselves. -/
def dds2 (x1 : Vec F S4096x256 .f32) (x2 : Vec F S1x256x256 .bf16) (x3 : Vec F S1x256 .f32) : Vec F S4096x256 .f32 :=
  pairRows 0 (ddE2 x1 x2 x3) (ddO2 x1 x2 x3)
/-- The block of the input's gradient. -/
def o6_2 (x1 : Vec F S4096x256 .f32) (x2 : Vec F S1x256x256 .bf16) (x3 : Vec F S1x256 .f32) : Vec F S4096x256 .bf16 :=
  oneRows (ot2 (padded2 x1 x2 x3) (dds2 x1 x2 x3))
/-- The block of the matrix's gradient. -/
def o7_2 (x0 : Vec F S4096x256 .bf16) (x1 : Vec F S4096x256 .f32) (x3 : Vec F S1x256 .f32) : Vec F S8x1x32x256 .bf16 :=
  k0_pay18 (wa2 x0 x1 x3 (k0_pay15 (F := F)) 4)
/-- The block of the scale's gradient. -/
def o8_2 (x0 : Vec F S4096x256 .bf16) (x1 : Vec F S4096x256 .f32) (x2 : Vec F S1x256x256 .bf16) : Vec F S1x256 .f32 :=
  sc2 x0 x1 x2 (k0_pay16 (F := F)) 4

/-- The body at window 3. -/
theorem body2 (hc0 : ¬k0_cond1 i = 1#1) (hc1 : ¬k0_cond2 i = 1#1) (hc2 : k0_cond3 i = 1#1) (hc3 : ¬k0_cond4 i = 1#1)
    (x0 : Vec F S4096x256 .bf16) (x1 : Vec F S4096x256 .f32) (x2 : Vec F S1x256x256 .bf16) (x3 : Vec F S1x256 .f32) (x4 : Vec F S8x128 .f32) :
    Runs c E i arg1 harg1 arg2 harg2 arg3 harg3 arg4 harg4 arg5 harg5 arg6 harg6 arg7 harg7 arg8 harg8 arg9 harg9 arg10 harg10 arg11 harg11 x0 x1 x2 x3 x4 (o6_2 x1 x2 x3) (o7_2 x0 x1 x3) (o8_2 x0 x1 x2) := by
  intro K
  simp only [cc0_pool_bwd_eq_skeleton]
  unfold cc0_pool_bwd_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
  obtain rfl := harg1.eq_unread hf0
  obtain rfl := harg2.eq_unread hf1
  obtain rfl := harg3.eq_unread hf2
  obtain rfl := harg4.eq_unread hf3
  obtain rfl := harg5.eq_unread hf4
  sl_exec (disch := first | sl_exact hc0 | sl_exact hc1 | sl_exact hc2 | sl_exact hc3)
  sl_step
  iapply Hk
  have hv7 := readAt_whole harg3 x2 ![0, 0, 0] (by decide) inb_S1x256x256_S1x256x256_0_0_0
  have hv9 := readAt_whole harg4 x3 ![0, 0] (by decide) inb_S1x256_S1x256_0_0
  have r9 : arg9.view.read (Elt F) fL0 = padded2 x1 x2 x3 := by
    rw [hv7, hv9] at hL3
    exact read_framed arg9.view fL0 fs0 _ _ _ _ _ _ (show 16 + 1024 * Scf.trips k0_t5_loop.lb k0_t5_loop.ub k0_t5_loop.st = 4112 by decide) (fun y => (congrFun hL3 y).trans (filled_apply (R := 4128) _ _ _ _ _ y))
  have r10 : arg10.view.read (Elt F) fL1 = dds2 x1 x2 x3 := by
    rw [hv7, hv9] at hL5
    exact hL5.trans (filled_all _ _ _ _ (by decide))
  have r11 : arg11.view.read (Elt F) fL2 = wa2 x0 x1 x3 (k0_pay15 (F := F)) 4 := by
    rw [hv9] at hL7
    exact hL7.trans (congrArg (fun b => wa2 x0 x1 x3 b 4) (read_full (R := 256) arg11.view _ _ _ _))
  have r6 : arg6.view.read (Elt F) fL3 = o6_2 x1 x2 x3 := by
    rw [r9, r10] at hL12
    exact hL12.trans (filled1_all _ _ _ (by decide))
  isplitl [H0]; · iapply (reads hf0); iexact H0
  isplitl [H1]; · iapply (reads hf1); iexact H1
  isplitl [H2]; · iapply (reads hf2); iexact H2
  isplitl [H3]; · iapply (reads hf3); iexact H3
  isplitl [H4]; · iapply (reads hf4); iexact H4
  isplitl [H5]; · iapply (reads r6); iexact H5
  isplitl [H6]
  · iexists _
    isplitr; swap; · iexact H6
    · ipureintro
      refine (read_whole (s := S8x1x32x256) arg7.view _ ![0, 0, 0, 0] (by decide) _ _ _).trans ?_
      exact (congrArg (fun b => k0_pay18 b) ((readAt_full (R := 256) arg11.view _ _).trans r11))
  isplitl [H7]
  · iexists _
    isplitr; swap; · iexact H7
    · ipureintro
      refine (read_whole (s := S1x256) arg8.view _ ![0, 0] (by decide) _ _ _).trans ?_
      exact (congrArg (fun w => sc2 x0 x1 w (k0_pay16 (F := F)) 4) hv7)
  isplitl [HS0]
  · iexists _; iexists _; isplitr; swap; · iexact HS0
    ipureintro; rfl
  isplitl [HS1]
  · iexists _; iexists _; isplitr; swap; · iexact HS1
    ipureintro; rfl
  iexists _; iexists _; isplitr; swap; · iexact HS2
  ipureintro; rfl

/-! ## Window 4 -/

/-- The divided rows between their two zero blocks. -/
def padded3 (x1 : Vec F S4096x256 .f32) (x2 : Vec F S1x256x256 .bf16) (x3 : Vec F S1x256 .f32) : Vec F S4128x256 .f32 :=
  framed (k0_pay2 (F := F)) (k0_pay3 (F := F)) (pairRows 16 (paE3 x1 x2 x3) (paO3 x1 x2 x3))
/-- The rows themselves. -/
def dds3 (x1 : Vec F S4096x256 .f32) (x2 : Vec F S1x256x256 .bf16) (x3 : Vec F S1x256 .f32) : Vec F S4096x256 .f32 :=
  pairRows 0 (ddE3 x1 x2 x3) (ddO3 x1 x2 x3)
/-- The block of the input's gradient. -/
def o6_3 (x1 : Vec F S4096x256 .f32) (x2 : Vec F S1x256x256 .bf16) (x3 : Vec F S1x256 .f32) : Vec F S4096x256 .bf16 :=
  oneRows (ot3 (padded3 x1 x2 x3) (dds3 x1 x2 x3))
/-- The block of the matrix's gradient. -/
def o7_3 (x0 : Vec F S4096x256 .bf16) (x1 : Vec F S4096x256 .f32) (x3 : Vec F S1x256 .f32) : Vec F S8x1x32x256 .bf16 :=
  k0_pay23 (wa3 x0 x1 x3 (k0_pay20 (F := F)) 4)
/-- The block of the scale's gradient. -/
def o8_3 (x0 : Vec F S4096x256 .bf16) (x1 : Vec F S4096x256 .f32) (x2 : Vec F S1x256x256 .bf16) : Vec F S1x256 .f32 :=
  sc3 x0 x1 x2 (k0_pay21 (F := F)) 4

/-- The body at window 4. -/
theorem body3 (hc0 : ¬k0_cond1 i = 1#1) (hc1 : ¬k0_cond2 i = 1#1) (hc2 : ¬k0_cond3 i = 1#1) (hc3 : k0_cond4 i = 1#1)
    (x0 : Vec F S4096x256 .bf16) (x1 : Vec F S4096x256 .f32) (x2 : Vec F S1x256x256 .bf16) (x3 : Vec F S1x256 .f32) (x4 : Vec F S8x128 .f32) :
    Runs c E i arg1 harg1 arg2 harg2 arg3 harg3 arg4 harg4 arg5 harg5 arg6 harg6 arg7 harg7 arg8 harg8 arg9 harg9 arg10 harg10 arg11 harg11 x0 x1 x2 x3 x4 (o6_3 x1 x2 x3) (o7_3 x0 x1 x3) (o8_3 x0 x1 x2) := by
  intro K
  simp only [cc0_pool_bwd_eq_skeleton]
  unfold cc0_pool_bwd_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
  obtain rfl := harg1.eq_unread hf0
  obtain rfl := harg2.eq_unread hf1
  obtain rfl := harg3.eq_unread hf2
  obtain rfl := harg4.eq_unread hf3
  obtain rfl := harg5.eq_unread hf4
  sl_exec (disch := first | sl_exact hc0 | sl_exact hc1 | sl_exact hc2 | sl_exact hc3)
  sl_step
  iapply Hk
  have hv7 := readAt_whole harg3 x2 ![0, 0, 0] (by decide) inb_S1x256x256_S1x256x256_0_0_0
  have hv9 := readAt_whole harg4 x3 ![0, 0] (by decide) inb_S1x256_S1x256_0_0
  have r9 : arg9.view.read (Elt F) fL0 = padded3 x1 x2 x3 := by
    rw [hv7, hv9] at hL3
    exact read_framed arg9.view fL0 fs0 _ _ _ _ _ _ (show 16 + 1024 * Scf.trips k0_t7_loop.lb k0_t7_loop.ub k0_t7_loop.st = 4112 by decide) (fun y => (congrFun hL3 y).trans (filled_apply (R := 4128) _ _ _ _ _ y))
  have r10 : arg10.view.read (Elt F) fL1 = dds3 x1 x2 x3 := by
    rw [hv7, hv9] at hL5
    exact hL5.trans (filled_all _ _ _ _ (by decide))
  have r11 : arg11.view.read (Elt F) fL2 = wa3 x0 x1 x3 (k0_pay20 (F := F)) 4 := by
    rw [hv9] at hL7
    exact hL7.trans (congrArg (fun b => wa3 x0 x1 x3 b 4) (read_full (R := 256) arg11.view _ _ _ _))
  have r6 : arg6.view.read (Elt F) fL3 = o6_3 x1 x2 x3 := by
    rw [r9, r10] at hL12
    exact hL12.trans (filled1_all _ _ _ (by decide))
  isplitl [H0]; · iapply (reads hf0); iexact H0
  isplitl [H1]; · iapply (reads hf1); iexact H1
  isplitl [H2]; · iapply (reads hf2); iexact H2
  isplitl [H3]; · iapply (reads hf3); iexact H3
  isplitl [H4]; · iapply (reads hf4); iexact H4
  isplitl [H5]; · iapply (reads r6); iexact H5
  isplitl [H6]
  · iexists _
    isplitr; swap; · iexact H6
    · ipureintro
      refine (read_whole (s := S8x1x32x256) arg7.view _ ![0, 0, 0, 0] (by decide) _ _ _).trans ?_
      exact (congrArg (fun b => k0_pay23 b) ((readAt_full (R := 256) arg11.view _ _).trans r11))
  isplitl [H7]
  · iexists _
    isplitr; swap; · iexact H7
    · ipureintro
      refine (read_whole (s := S1x256) arg8.view _ ![0, 0] (by decide) _ _ _).trans ?_
      exact (congrArg (fun w => sc3 x0 x1 w (k0_pay21 (F := F)) 4) hv7)
  isplitl [HS0]
  · iexists _; iexists _; isplitr; swap; · iexact HS0
    ipureintro; rfl
  isplitl [HS1]
  · iexists _; iexists _; isplitr; swap; · iexact HS1
    ipureintro; rfl
  iexists _; iexists _; isplitr; swap; · iexact HS2
  ipureintro; rfl

end Cert.PoolBwdIdeal.Pool
-- ==== Proof.PoolRun.lean ====
module

public import proofs.«01_k».proof.Proof.PoolBody

/-! # The pool gradient's launch

The pipeline's data (what the body leaves at each of its four points), the body's triple there, the run of @main and
the frame. -/

@[expose] public section

set_option maxRecDepth 16384

noncomputable section

namespace Cert.PoolBwdIdeal.Pool

open Cert.PoolBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave -/

/-- The gradient of the pooled input at point `n`. -/
def du (n : ℕ) (x1 : Vec F S4096x256 .f32) (x2 : Vec F S1x256x256 .bf16) (x3 : Vec F S1x256 .f32) : Vec F S4096x256 .bf16 :=
  match n with
  | 0 => o6_0 x1 x2 x3
  | 1 => o6_1 x1 x2 x3
  | 2 => o6_2 x1 x2 x3
  | _ => o6_3 x1 x2 x3

/-- The gradient of the group matrix at point `n`. -/
def dw (n : ℕ) (x0 : Vec F S4096x256 .bf16) (x1 : Vec F S4096x256 .f32) (x3 : Vec F S1x256 .f32) : Vec F S8x1x32x256 .bf16 :=
  match n with
  | 0 => o7_0 x0 x1 x3
  | 1 => o7_1 x0 x1 x3
  | 2 => o7_2 x0 x1 x3
  | _ => o7_3 x0 x1 x3

/-- The gradient of the scale at point `n`. -/
def ds (n : ℕ) (x0 : Vec F S4096x256 .bf16) (x1 : Vec F S4096x256 .f32) (x2 : Vec F S1x256x256 .bf16) : Vec F S1x256 .f32 :=
  match n with
  | 0 => o8_0 x0 x1 x2
  | 1 => o8_1 x0 x1 x2
  | 2 => o8_2 x0 x1 x2
  | _ => o8_3 x0 x1 x2

/-- The pipeline's data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => du t.val (iblk m c 1 t) (iblk m c 2 t) (iblk m c 3 t)
    | ⟨6, _⟩ => dw t.val (iblk m c 0 t) (iblk m c 1 t) (iblk m c 3 t)
    | ⟨7, _⟩ => ds t.val (iblk m c 0 t) (iblk m c 1 t) (iblk m c 2 t)
  Φ _ := Pipeline.ΦA spec0 c
  q _ := fullShare
  owed _ := 0

theorem dats_A (c : Dev nD) (w : Fin cfg0.W) : (dats m 0 c).A w = V m c (Pipeline.arrRef spec0 w) := by
  dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = du t.val (iblk m c 1 t) (iblk m c 2 t) (iblk m c 3 t) := by dsimp only [dats]
theorem left6 (c : Dev nD) (t : Fin cfg0.N) : (dats m 0 c).after 6 t = dw t.val (iblk m c 0 t) (iblk m c 1 t) (iblk m c 3 t) := by dsimp only [dats]
theorem left7 (c : Dev nD) (t : Fin cfg0.N) : (dats m 0 c).after 7 t = ds t.val (iblk m c 0 t) (iblk m c 1 t) (iblk m c 2 t) := by dsimp only [dats]
theorem found0 (c : Dev nD) (t : Fin cfg0.N) (d) : (dats m 0 c).before 0 t d = iblk m c 0 t :=
  before0_0_of m (dats m 0 c) (dats_A m c 0) (left0 m c) t d
theorem found1 (c : Dev nD) (t : Fin cfg0.N) (d) : (dats m 0 c).before 1 t d = iblk m c 1 t :=
  before0_1_of m (dats m 0 c) (dats_A m c 1) (left1 m c) t d
theorem found2 (c : Dev nD) (t : Fin cfg0.N) (d) : (dats m 0 c).before 2 t d = iblk m c 2 t :=
  before0_2_of m (dats m 0 c) (dats_A m c 2) (left2 m c) t d
theorem found3 (c : Dev nD) (t : Fin cfg0.N) (d) : (dats m 0 c).before 3 t d = iblk m c 3 t :=
  before0_3_of m (dats m 0 c) (dats_A m c 3) (left3 m c) t d
theorem found4 (c : Dev nD) (t : Fin cfg0.N) (d) : (dats m 0 c).before 4 t d = iblk m c 4 t :=
  before0_4_of m (dats m 0 c) (dats_A m c 4) (left4 m c) t d

/-! ## The body's triple at a point -/

abbrev st0 (t : Fin cfg0.N) : Memref sig .tc .vmem S4096x256 .bf16 := win0_0.stage (cfg0.slots t 0)
abbrev st1 (t : Fin cfg0.N) : Memref sig .tc .vmem S4096x256 .f32 := win0_1.stage (cfg0.slots t 1)
abbrev st2 (t : Fin cfg0.N) : Memref sig .tc .vmem S1x256x256 .bf16 := win0_2.stage (cfg0.slots t 2)
abbrev st3 (t : Fin cfg0.N) : Memref sig .tc .vmem S1x256 .f32 := win0_3.stage (cfg0.slots t 3)
abbrev st4 (t : Fin cfg0.N) : Memref sig .tc .vmem S8x128 .f32 := win0_4.stage (cfg0.slots t 4)
abbrev st5 (t : Fin cfg0.N) : Memref sig .tc .vmem S4096x256 .bf16 := win0_5.stage (cfg0.slots t 5)
abbrev st6 (t : Fin cfg0.N) : Memref sig .tc .vmem S8x1x32x256 .bf16 := win0_6.stage (cfg0.slots t 6)
abbrev st7 (t : Fin cfg0.N) : Memref sig .tc .vmem S1x256 .f32 := win0_7.stage (cfg0.slots t 7)
theorem keeps (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact
  rw [(by decide +kernel : ∀ (w : Fin cfg0.W) (t : Fin cfg0.N), cfg0.idle w (grid0.coords t) = false) w t]

theorem invariant_eq (c : Dev nD) : (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- The windows' buffers as the body finds them at a point. -/
def given (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d)))

/-- And as it leaves them. -/
def returned (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem returned_eq (c : Dev nD) (t : Fin cfg0.N) : returned m c t =
  iprop(iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) ∗ (dats m 0 c).owesAt () t.castSucc
    ∗ owns (c : Thread nD τ) (st0 t) fullShare (iblk m c 0 t)
    ∗ owns (c : Thread nD τ) (st1 t) fullShare (iblk m c 1 t)
    ∗ owns (c : Thread nD τ) (st2 t) fullShare (iblk m c 2 t)
    ∗ owns (c : Thread nD τ) (st3 t) fullShare (iblk m c 3 t)
    ∗ owns (c : Thread nD τ) (st4 t) fullShare (iblk m c 4 t)
    ∗ owns (c : Thread nD τ) (st5 t) fullShare (du t.val (iblk m c 1 t) (iblk m c 2 t) (iblk m c 3 t))
    ∗ owns (c : Thread nD τ) (st6 t) fullShare (dw t.val (iblk m c 0 t) (iblk m c 1 t) (iblk m c 3 t))
    ∗ owns (c : Thread nD τ) (st7 t) fullShare (ds t.val (iblk m c 0 t) (iblk m c 1 t) (iblk m c 2 t))) := by
  unfold returned
  rw [show (dats m 0 c).Φ t.succ = Pipeline.ΦA spec0 c from rfl,
    show (dats m 0 c).owesAt () t.succ = (dats m 0 c).owesAt () t.castSucc from rfl, invariant_eq]
  rw [keeps, keeps, keeps, keeps, keeps, keeps, keeps, keeps]
  rw [left0, left1, left2, left3, left4, left5, left6, left7]

set_option maxHeartbeats 1600000 in
/-- A point, from the body's triple there. -/
theorem point (c : Dev nD) (t : Fin cfg0.N)
    (h : Runs c Set.univ (grid0.coords t) (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) (st4 t) (hstage0_4 ((cfg0.slots t 4).cast nbuf0_4)) (st5 t) (hstage0_5 ((cfg0.slots t 5).cast nbuf0_5)) (st6 t) (hstage0_6 ((cfg0.slots t 6).cast nbuf0_6)) (st7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _)
      (iblk m c 0 t) (iblk m c 1 t) (iblk m c 2 t) (iblk m c 3 t) (iblk m c 4 t) (du t.val (iblk m c 1 t) (iblk m c 2 t) (iblk m c 3 t)) (dw t.val (iblk m c 0 t) (iblk m c 1 t) (iblk m c 3 t)) (ds t.val (iblk m c 0 t) (iblk m c 1 t) (iblk m c 2 t))) :
    given m c t ⊢ wp frame (wpE (defs₀ (F := F)) Variants.none c none) Set.univ (bodyAt0 t) (fun _ => returned m c t) := by
  simp only [returned_eq]
  unfold given bodyAt0
  simp only [found0, found1, found2, found3, found4]
  rw [show (dats m 0 c).Φ (Fin.castSucc t) = Pipeline.ΦA spec0 c from rfl, invariant_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (h _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  refine triple_restated (?_ : given m c t ⊢ wp frame (wpE (defs₀ (F := F)) Variants.none c none) Set.univ (bodyAt0 t) (fun _ => returned m c t)) rfl .rfl fun _ => .rfl
  obtain ⟨n, h⟩ := t
  match n, h with
  | 0, h => exact point m c ⟨0, h⟩ (body0 c Set.univ (grid0.coords ⟨0, h⟩) _ _ _ _ _ _ _ _ _ _ _ _ _ _ _ _ _ _ _ _ _ _ (by decide +kernel +revert) (by decide +kernel +revert) (by decide +kernel +revert) (by decide +kernel +revert) _ _ _ _ _)
  | 1, h => exact point m c ⟨1, h⟩ (body1 c Set.univ (grid0.coords ⟨1, h⟩) _ _ _ _ _ _ _ _ _ _ _ _ _ _ _ _ _ _ _ _ _ _ (by decide +kernel +revert) (by decide +kernel +revert) (by decide +kernel +revert) (by decide +kernel +revert) _ _ _ _ _)
  | 2, h => exact point m c ⟨2, h⟩ (body2 c Set.univ (grid0.coords ⟨2, h⟩) _ _ _ _ _ _ _ _ _ _ _ _ _ _ _ _ _ _ _ _ _ _ (by decide +kernel +revert) (by decide +kernel +revert) (by decide +kernel +revert) (by decide +kernel +revert) _ _ _ _ _)
  | 3, h => exact point m c ⟨3, h⟩ (body3 c Set.univ (grid0.coords ⟨3, h⟩) _ _ _ _ _ _ _ _ _ _ _ _ _ _ _ _ _ _ _ _ _ _ (by decide +kernel +revert) (by decide +kernel +revert) (by decide +kernel +revert) (by decide +kernel +revert) _ _ _ _ _)
  | k + 4, h => exact absurd (lt_of_lt_of_eq h N_0) (by omega)

/-! ## The run and the frame -/

set_option backward.isDefEq.respectTransparency.types false in
set_option maxHeartbeats 800000 in
/-- Every execution ends, with the arrays as the data say and no semaphore raised. -/
theorem run_sems : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

theorem run_post : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_sems m ρ)

/-- The arguments end as they began, and so do the semaphores. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (dats_A m) (run_post m ρ)) ((θ_run defs _ _).mono (fun _ h => h.2) (run_sems m ρ))

end Cert.PoolBwdIdeal.Pool
-- ==== Proof.PoolMath.lean ====
module

public import Idealize.ShloMosaic.Lib.Pipeline.ValueKit
public import Idealize.ShloMosaic.PureOps.Ideal.Laws
public import Idealize.ShloMosaic.Lib.IdealHost
public import Idealize.ShloMosaic.Lib.KernelVsHost

/-! # The pool gradient's formulas

One group of 256 columns over 4096 positions: the output gradient taken back through the scale and the group's matrix
(`back`), the number of positions a window of half width `w` holds at a position (`cnt`), and sums of a family that is
zero outside the positions. -/

@[expose] public section

noncomputable section

namespace Cert.PoolMath

open Idealize.ShloMosaic

/-- How many positions the window of half width `w` holds at position `b`. -/
def cnt (w b : BitVec 32) : BitVec 32 := IntOp.subi (IntOp.minsi (IntOp.addi b w) 4096#32) (IntOp.maxsi (IntOp.subi b w) 0#32)

theorem cnt1 : ∀ p : Fin 4096, cnt 1#32 (BitVec.ofNat 32 p.val) ≠ 0#32 := by decide +kernel
theorem cnt2 : ∀ p : Fin 4096, cnt 2#32 (BitVec.ofNat 32 p.val) ≠ 0#32 := by decide +kernel
theorem cnt4 : ∀ p : Fin 4096, cnt 4#32 (BitVec.ofNat 32 p.val) ≠ 0#32 := by decide +kernel
theorem cnt8 : ∀ p : Fin 4096, cnt 8#32 (BitVec.ofNat 32 p.val) ≠ 0#32 := by decide +kernel

/-- The count as a number. -/
def num (b : BitVec 32) : EReal := ((b.toInt : ℝ) : EReal)

theorem num_ne (b : BitVec 32) (h : b ≠ 0#32) : num b ≠ 0 := by
  unfold num
  intro h0
  have h1 : (b.toInt : ℝ) = 0 := by exact_mod_cast h0
  have h2 : b.toInt = 0 := by exact_mod_cast h1
  exact h (BitVec.eq_of_toInt_eq (by simpa using h2))

/-- A family over the positions read at a place `s` further on: zero outside them. -/
def at' (s : ℕ) (f : Fin 4096 → EReal) (p : ℕ) : EReal :=
  if h : s ≤ p ∧ p < s + 4096 then f ⟨p - s, by omega⟩ else 0

/-- One row of the input taken through the rest of the row's gradient. -/
def through (x : Fin 4096 → Fin 256 → EReal) (s : Fin 256 → EReal) (W : Fin 256 → Fin 256 → EReal) (t : Fin 4096) (i : Fin 256) : EReal :=
  ∑ o : Fin 256, (x t o * s o) * W i o

/-- The same divided by the counts. -/
def share (w : BitVec 32) (x : Fin 4096 → Fin 256 → EReal) (s : Fin 256 → EReal) (W : Fin 256 → Fin 256 → EReal) (i : Fin 256) (p : Fin 4096) : EReal :=
  Ideal.div (through x s W p i) (num (cnt w (BitVec.ofNat 32 p.val)))

theorem posE (k : Fin 4) (z : ℕ) : IntOp.addi (Scalar.muli (Scalar.muli 2#32 (Scf.iv 0#32 1#32 k.val)) 512#32) (BitVec.ofNat 32 z)
    = BitVec.ofNat 32 (1024 * k.val + z) := by
  have h : Scalar.muli (Scalar.muli 2#32 (Scf.iv 0#32 1#32 k.val)) 512#32 = BitVec.ofNat 32 (1024 * k.val) := by
    revert k; decide +kernel
  rw [h, BitVec.ofNat_add]; rfl
theorem posO (k : Fin 4) (z : ℕ) : IntOp.addi (Scalar.muli (Scalar.addi (Scalar.muli 2#32 (Scf.iv 0#32 1#32 k.val)) 1#32) 512#32) (BitVec.ofNat 32 z)
    = BitVec.ofNat 32 (1024 * k.val + 512 + z) := by
  have h : Scalar.muli (Scalar.addi (Scalar.muli 2#32 (Scf.iv 0#32 1#32 k.val)) 1#32) 512#32 = BitVec.ofNat 32 (1024 * k.val + 512) := by
    revert k; decide +kernel
  rw [h, BitVec.ofNat_add _ z]; rfl

/-- Four passes of two blocks each add up to the sum over all positions. -/
theorem sum_blocks (h : ℕ → EReal) (S : ℕ → EReal) (h0 : S 0 = 0)
    (hs : ∀ k, S (k + 1) = (S k + ∑ z : Fin 512, h (1024 * k + z.val)) + ∑ z : Fin 512, h (1024 * k + 512 + z.val)) (k : ℕ) :
    S k = ∑ n ∈ Finset.range (1024 * k), h n := by
  induction k with
  | zero => simpa using h0
  | succ k ih =>
    rw [hs, ih, Fin.sum_univ_eq_sum_range (fun z => h (1024 * k + z)) 512, Fin.sum_univ_eq_sum_range (fun z => h (1024 * k + 512 + z)) 512,
      show 1024 * (k + 1) = 1024 * k + 512 + 512 by ring, Finset.sum_range_add, Finset.sum_range_add]

theorem sum_all (h : ℕ → EReal) (f : Fin 4096 → EReal) (hf : ∀ t : Fin 4096, h t.val = f t) :
    ∑ n ∈ Finset.range (1024 * 4), h n = ∑ t, f t := by
  rw [← Fin.sum_univ_eq_sum_range h (1024 * 4)]
  exact Finset.sum_congr rfl fun t _ => hf t

theorem at'_shift (s s' : ℕ) (f : Fin 4096 → EReal) (p p' : ℕ) (h : p + s' = p' + s) : at' s f p = at' s' f p' := by
  unfold at'
  by_cases hc : s ≤ p ∧ p < s + 4096
  · rw [dif_pos hc, dif_pos (by omega)]
    exact congrArg f (Fin.ext (by show p - s = p' - s'; omega))
  · rw [dif_neg hc, dif_neg (by omega)]

/-! ## The arrays of one window: columns `256 g …` of the wide ones, block `g` of the matrices -/

def gx (x3 : Vec Ideal (⟨2, ![4096, 2048]⟩ : Shape) .f32) (g : Fin 4) (t : Fin 4096) (o : Fin 256) : EReal := x3 (ix2 t ⟨256 * g.val + o.val, by omega⟩)
def gs (x2 : Vec Ideal (⟨2, ![1, 1024]⟩ : Shape) .f32) (g : Fin 4) (o : Fin 256) : EReal := x2 (ix2 0 ⟨256 * g.val + o.val, by omega⟩)
def gw (x1 : Vec Ideal (⟨3, ![4, 256, 256]⟩ : Shape) .f32) (g : Fin 4) (i o : Fin 256) : EReal := x1 (ix3 g i o)

/-- The gradient that reaches the pool's input through window `g`. -/
def back (w : BitVec 32) (W h : ℕ) (x1 : Vec Ideal (⟨3, ![4, 256, 256]⟩ : Shape) .f32) (x2 : Vec Ideal (⟨2, ![1, 1024]⟩ : Shape) .f32)
    (x3 : Vec Ideal (⟨2, ![4096, 2048]⟩ : Shape) .f32) (g : Fin 4) (t : Fin 4096) (i : Fin 256) : EReal :=
  (∑ n : Fin W, at' (h - 1) (share w (gx x3 g) (gs x2 g) (gw x1 g) i) (t.val + n.val)) - through (gx x3 g) (gs x2 g) (gw x1 g) t i

/-- The matrix gradient's entry and the scale gradient's, of differences `d`. -/
def matG (d : Fin 4096 → Fin 256 → EReal) (x2 : Vec Ideal (⟨2, ![1, 1024]⟩ : Shape) .f32)
    (x3 : Vec Ideal (⟨2, ![4096, 2048]⟩ : Shape) .f32) (g : Fin 4) (i o : Fin 256) : EReal := ∑ t : Fin 4096, d t i * (gx x3 g t o * gs x2 g o)
def sclG (d : Fin 4096 → Fin 256 → EReal) (x1 : Vec Ideal (⟨3, ![4, 256, 256]⟩ : Shape) .f32)
    (x3 : Vec Ideal (⟨2, ![4096, 2048]⟩ : Shape) .f32) (g : Fin 4) (o : Fin 256) : EReal :=
  ∑ t : Fin 4096, gx x3 g t o * ∑ i : Fin 256, d t i * gw x1 g i o

/-! ## A sum over a window of the padded family -/

theorem fold_sum {n : ℕ} (v : EReal) (f : Fin n → EReal) : (List.finRange n).foldl (fun r k => r + f k) v = v + ∑ k, f k := by
  rw [Fin.sum_univ_def]
  generalize List.finRange n = l
  induction l generalizing v with
  | nil => simp
  | cons a l ih => simp only [List.foldl_cons, List.map_cons, List.sum_cons]; rw [ih, add_assoc]

theorem window_sum {n w : ℕ} (hn : 4096 + w = n + 1) (x : Vec Ideal (⟨2, ![n, 256]⟩ : Shape) .f32) (v : Vec Ideal (⟨0, ![]⟩ : Shape) .f32)
    (h : (⟨2, ![n, 256]⟩ : Shape).ReduceWindows ![w, 1] ![1, 1] ![0, 0] ![0, 0] ⟨2, ![4096, 256]⟩) (hu : 0 < (⟨0, ![]⟩ : Shape).numel)
    (hv : v (Shape.Idx.first hu) = 0) (t : Fin 4096) (i : Fin 256) :
    Host.reduceWindowAdd (F := Ideal) (φ := .f32) ![w, 1] ![1, 1] ![0, 0] ![0, 0] x v h hu (ix2 t i)
      = ∑ k : Fin w, x (ix2 ⟨t.val + k.val, by omega⟩ i) := by
  show Ideal.hostReduceWindowAdd ![w, 1] ![1, 1] ![0, 0] ![0, 0] h x (v (Shape.Idx.first hu)) (ix2 t i) = _
  unfold Ideal.hostReduceWindowAdd Host.reduceWindow
  simp only [hv]
  rw [fold_sum, zero_add]
  refine (Equiv.sum_comp ((⟨2, ![w, 1]⟩ : Shape).rowMajor.symm) (fun y : (⟨2, ![w, 1]⟩ : Shape).Idx =>
    if hin : ∀ a : Fin 2, (![0, 0] : Fin 2 → ℕ) a ≤ ((ix2 t i : (⟨2, ![4096, 256]⟩ : Shape).Idx) a).val * (![1, 1] : Fin 2 → ℕ) a + (y a).val
        ∧ ((ix2 t i : (⟨2, ![4096, 256]⟩ : Shape).Idx) a).val * (![1, 1] : Fin 2 → ℕ) a + (y a).val - (![0, 0] : Fin 2 → ℕ) a < (⟨2, ![n, 256]⟩ : Shape).size a
      then x (fun a => ⟨((ix2 t i : (⟨2, ![4096, 256]⟩ : Shape).Idx) a).val * (![1, 1] : Fin 2 → ℕ) a + (y a).val - (![0, 0] : Fin 2 → ℕ) a, (hin a).2⟩) else 0)).trans ?_
  rw [sum_idx2]
  refine Finset.sum_congr rfl fun k _ => ?_
  rw [Fin.sum_univ_one, dif_pos]
  · refine congrArg x (funext fun a => ?_)
    match a with
    | ⟨0, _⟩ => exact Fin.ext (by show t.val * 1 + k.val - 0 = t.val + k.val; omega)
    | ⟨1, _⟩ => exact Fin.ext (by show i.val * 1 + 0 - 0 = i.val; omega)
  · intro a
    match a with
    | ⟨0, _⟩ => exact ⟨Nat.zero_le _, by show t.val * 1 + k.val - 0 < n; omega⟩
    | ⟨1, _⟩ => exact ⟨Nat.zero_le _, by show i.val * 1 + 0 - 0 < 256; omega⟩

theorem pad_at {n lo hi : ℕ} (x : Vec Ideal (⟨2, ![4096, 256]⟩ : Shape) .f32) (v : Vec Ideal (⟨0, ![]⟩ : Shape) .f32)
    (h : (⟨2, ![4096, 256]⟩ : Shape).Pads ![lo, 0] ![hi, 0] ![0, 0] ⟨2, ![n, 256]⟩) (hu : 0 < (⟨0, ![]⟩ : Shape).numel)
    (hv : v (Shape.Idx.first hu) = 0) (p : Fin n) (i : Fin 256) :
    pad (⟨2, ![n, 256]⟩ : Shape) ![lo, 0] ![hi, 0] ![0, 0] x v h hu (ix2 p i) = at' lo (fun q => x (ix2 q i)) p.val := by
  unfold at'
  split
  · rename_i hp
    refine pad_apply_of_inside _ _ _ x v h hu _ (ix2 ⟨p.val - lo, by omega⟩ i) fun a => ?_
    match a with
    | ⟨0, _⟩ => show p.val = lo + (p.val - lo) * (0 + 1); omega
    | ⟨1, _⟩ => show i.val = 0 + i.val * (0 + 1); omega
  · rename_i hp
    refine (pad_apply_of_not_inside _ _ _ x v h hu _ (0 : Fin 2) fun hc => hp ?_).trans hv
    have h1 : lo ≤ p.val := hc.1
    have h2 : (p.val - lo) / (0 + 1) < 4096 := hc.2.2
    omega

theorem pad3_at {k hi : ℕ} (x : Vec Ideal (⟨3, ![4096, 1, 256]⟩ : Shape) .f32) (v : Vec Ideal (⟨0, ![]⟩ : Shape) .f32)
    (h : (⟨3, ![4096, 1, 256]⟩ : Shape).Pads ![0, k, 0] ![0, hi, 0] ![0, 0, 0] ⟨3, ![4096, 4, 256]⟩) (hu : 0 < (⟨0, ![]⟩ : Shape).numel)
    (hv : v (Shape.Idx.first hu) = 0) (t : Fin 4096) (g : Fin 4) (i : Fin 256) :
    pad (⟨3, ![4096, 4, 256]⟩ : Shape) ![0, k, 0] ![0, hi, 0] ![0, 0, 0] x v h hu (ix3 t g i) = if g.val = k then x (ix3 t 0 i) else 0 := by
  split
  · rename_i hp
    refine pad_apply_of_inside _ _ _ x v h hu _ (ix3 t 0 i) fun a => ?_
    match a with
    | ⟨0, _⟩ => show t.val = 0 + t.val * (0 + 1); omega
    | ⟨1, _⟩ => show g.val = k + 0 * (0 + 1); omega
    | ⟨2, _⟩ => show i.val = 0 + i.val * (0 + 1); omega
  · rename_i hp
    refine (pad_apply_of_not_inside _ _ _ x v h hu _ (1 : Fin 3) fun hc => hp ?_).trans hv
    have h1 : k ≤ g.val := hc.1
    have h2 : (g.val - k) / (0 + 1) < 1 := hc.2.2
    omega

end Cert.PoolMath
-- ==== Proof.PoolVal.lean ====
module

public import proofs.«01_k».proof.Proof.PoolRun
public import proofs.«01_k».proof.Proof.PoolMath

/-! # What a grid point of the pool gradient leaves, at an index -/

@[expose] public section

set_option maxRecDepth 16384
set_option maxHeartbeats 1600000

noncomputable section

namespace Cert.PoolBwdIdeal.Val

open Cert.PoolBwdIdeal Cert.PoolBwdIdeal.Gen Cert.PoolBwdIdeal.Pool Cert.PoolRows Cert.PoolMath
open Idealize.ShloMosaic Idealize.ShloMosaic.TcCoe Idealize.SL.Sem

theorem one : Ideal.ofBits .f32 0x3F800000#32 = 1 := by
  simp [Ideal.ofBits, Ideal.ieee, -EReal.coe_mul]; norm_num

variable (x0 : Vec Ideal S4096x256 .bf16) (x1 : Vec Ideal S4096x256 .f32) (x2 : Vec Ideal S1x256x256 .bf16) (x3 : Vec Ideal S1x256 .f32)

/-- The block's rows and columns as functions. -/
def fx (x1 : Vec Ideal S4096x256 .f32) : Fin 4096 → Fin 256 → EReal := fun t o => x1 (ix2 t o)
def fs (x3 : Vec Ideal S1x256 .f32) : Fin 256 → EReal := fun o => x3 (ix2 0 o)
def fw (x2 : Vec Ideal S1x256x256 .bf16) : Fin 256 → Fin 256 → EReal := fun i o => x2 (ix3 0 i o)
def fd (x0 : Vec Ideal S4096x256 .bf16) : Fin 4096 → Fin 256 → EReal := fun t i => x0 (ix2 t i)

theorem ofNat_eq (t : Fin 4096) (n : ℕ) (h : n = t.val) : Fin.ofNat 4096 n = t := by
  subst h; exact Fin.ext (Nat.mod_eq_of_lt t.isLt)

theorem zero_top (r : Fin 16) (i : Fin 256) : k0_pay2 (F := Ideal) (ix2 r i) = 0 := by pointwise [k0_pay2, k0_pay1]
theorem zero_bot (r : Fin 16) (i : Fin 256) : k0_pay3 (F := Ideal) (ix2 r i) = 0 := by pointwise [k0_pay3, k0_pay1]

/-- Two halves of each pass make up one family of rows. -/
theorem pairRows_at {R : ℕ} [NeZero R] (s : ℕ) (pe po : Fin 4 → Vec Ideal S512x256 .f32) (f : Fin 4096 → EReal) (i : Fin 256)
    (he : ∀ (k : Fin 4) (z : Fin 512), pe k (ix2 z i) = f (Fin.ofNat 4096 (1024 * k.val + z.val)))
    (ho : ∀ (k : Fin 4) (z : Fin 512), po k (ix2 z i) = f (Fin.ofNat 4096 (1024 * k.val + 512 + z.val)))
    (r : Fin R) (t : Fin 4096) (h : r.val = t.val + s) : pairRows (R := R) s pe po (ix2 r i) = f t := by
  have ht : t.val < 4096 := t.isLt
  have e : r.val - s = t.val := by omega
  have h4 : (Fin.ofNat 4 (t.val / 1024)).val = t.val / 1024 := Nat.mod_eq_of_lt (by omega)
  have h5 : (Fin.ofNat 512 t.val).val = t.val % 512 := rfl
  unfold pairRows
  show (if (r.val - s) % 1024 < 512 then pe (Fin.ofNat 4 ((r.val - s) / 1024)) (ix2 (Fin.ofNat 512 (r.val - s)) i)
    else po (Fin.ofNat 4 ((r.val - s) / 1024)) (ix2 (Fin.ofNat 512 (r.val - s)) i)) = _
  rw [e]
  split
  · rw [he]; exact congrArg f (ofNat_eq t _ (by rw [h4, h5]; omega))
  · rw [ho]; exact congrArg f (ofNat_eq t _ (by rw [h4, h5]; omega))

theorem framed_at (pe po : Fin 4 → Vec Ideal S512x256 .f32) (f : Fin 4096 → EReal) (i : Fin 256)
    (he : ∀ (k : Fin 4) (z : Fin 512), pe k (ix2 z i) = f (Fin.ofNat 4096 (1024 * k.val + z.val)))
    (ho : ∀ (k : Fin 4) (z : Fin 512), po k (ix2 z i) = f (Fin.ofNat 4096 (1024 * k.val + 512 + z.val)))
    (r : Fin 4128) : framed (k0_pay2 (F := Ideal)) (k0_pay3 (F := Ideal)) (pairRows (R := 4128) 16 pe po) (ix2 r i) = at' 16 f r.val := by
  unfold framed at'
  show (if 16 ≤ r.val ∧ r.val < 4112 then pairRows (R := 4128) 16 pe po (ix2 r i)
    else if r.val < 16 then k0_pay2 (F := Ideal) (ix2 (Fin.ofNat 16 r.val) i) else k0_pay3 (F := Ideal) (ix2 (Fin.ofNat 16 (r.val - 4112)) i)) = _
  by_cases h : 16 ≤ r.val ∧ r.val < 4112
  · rw [if_pos h, dif_pos (by omega)]
    exact pairRows_at 16 pe po f i he ho r ⟨r.val - 16, by omega⟩ (by show r.val = r.val - 16 + 16; omega)
  · rw [if_neg h, dif_neg (by omega)]
    split
    · exact zero_top _ _
    · exact zero_bot _ _

/-! ## The rolls that add up a window -/

def roll0 (v : FVec Ideal S544x256 .f32) : FVec Ideal S544x256 .f32 := addf v (dynamicRotate 0 1#32 none v rotates_S544x256_d0)
def roll1 (v : FVec Ideal S544x256 .f32) : FVec Ideal S544x256 .f32 := addf (dynamicRotate 0 1#32 none v rotates_S544x256_d0) (dynamicRotate 0 543#32 none v rotates_S544x256_d0)
def roll2 (v : FVec Ideal S544x256 .f32) : FVec Ideal S544x256 .f32 := addf (dynamicRotate 0 2#32 none v rotates_S544x256_d0) (dynamicRotate 0 542#32 none v rotates_S544x256_d0)
def roll4 (v : FVec Ideal S544x256 .f32) : FVec Ideal S544x256 .f32 := addf (dynamicRotate 0 4#32 none v rotates_S544x256_d0) (dynamicRotate 0 540#32 none v rotates_S544x256_d0)
def rest (v : FVec Ideal S544x256 .f32) (u : FVec Ideal S512x256 .f32) : FVec Ideal S512x256 .bf16 :=
  truncf .bf16 (subf (extractStridedSlice S512x256 ![16, 0] (dynamicRotate 0 543#32 none v rotates_S544x256_d0) slices_S544x256_o16_0_S512x256) u) bitsLt_bf16_f32

theorem roll0_at (v : FVec Ideal S544x256 .f32) (i : Fin 256) (f : ℕ → EReal) (hv : ∀ (m : ℕ) (hm : m < 544), v (ix2 ⟨m, hm⟩ i) = f m)
    (m : ℕ) (hm : m < 544) (h : 1 ≤ m) : roll0 v (ix2 ⟨m, hm⟩ i) = f m + f (m - 1) := by
  have e : (m + 544 - 1) % 544 = m - 1 := by omega
  pointwise [roll0]
  simp only [hv, e]

theorem roll1_at (v : FVec Ideal S544x256 .f32) (i : Fin 256) (f : ℕ → EReal) (a b : ℕ)
    (hv : ∀ (m : ℕ) (hm : m < 544), a ≤ m → m < b → v (ix2 ⟨m, hm⟩ i) = f m) (hb : b ≤ 544)
    (m : ℕ) (hm : m < 544) (h : a + 1 ≤ m) (h' : m + 1 < b) : roll1 v (ix2 ⟨m, hm⟩ i) = f (m - 1) + f (m + 1) := by
  have e : (m + 544 - 1) % 544 = m - 1 := by omega
  have e' : (m + 544 - 543) % 544 = m + 1 := by omega
  pointwise [roll1]
  simp only [e, e']
  rw [hv _ _ (by omega) (by omega), hv _ _ (by omega) (by omega)]

theorem roll2_at (v : FVec Ideal S544x256 .f32) (i : Fin 256) (f : ℕ → EReal) (a b : ℕ)
    (hv : ∀ (m : ℕ) (hm : m < 544), a ≤ m → m < b → v (ix2 ⟨m, hm⟩ i) = f m) (hb : b ≤ 544)
    (m : ℕ) (hm : m < 544) (h : a + 2 ≤ m) (h' : m + 2 < b) : roll2 v (ix2 ⟨m, hm⟩ i) = f (m - 2) + f (m + 2) := by
  have e : (m + 544 - 2) % 544 = m - 2 := by omega
  have e' : (m + 544 - 542) % 544 = m + 2 := by omega
  pointwise [roll2]
  simp only [e, e']
  rw [hv _ _ (by omega) (by omega), hv _ _ (by omega) (by omega)]

theorem roll4_at (v : FVec Ideal S544x256 .f32) (i : Fin 256) (f : ℕ → EReal) (a b : ℕ)
    (hv : ∀ (m : ℕ) (hm : m < 544), a ≤ m → m < b → v (ix2 ⟨m, hm⟩ i) = f m) (hb : b ≤ 544)
    (m : ℕ) (hm : m < 544) (h : a + 4 ≤ m) (h' : m + 4 < b) : roll4 v (ix2 ⟨m, hm⟩ i) = f (m - 4) + f (m + 4) := by
  have e : (m + 544 - 4) % 544 = m - 4 := by omega
  have e' : (m + 544 - 540) % 544 = m + 4 := by omega
  pointwise [roll4]
  simp only [e, e']
  rw [hv _ _ (by omega) (by omega), hv _ _ (by omega) (by omega)]

theorem rest_at (v : FVec Ideal S544x256 .f32) (u : FVec Ideal S512x256 .f32) (z : Fin 512) (i : Fin 256) :
    rest v u (ix2 z i) = v (ix2 ⟨z.val + 17, by omega⟩ i) - u (ix2 z i) := by
  have e : (16 + z.val + 544 - 543) % 544 = z.val + 17 := by omega
  pointwise [rest]
  simp only [e]

/-- The window sums over the padded rows, less the rows, block by block. -/
theorem oneRows_at (N q s : ℕ) (hq : q + s = 16) (hN : N ≤ 17 + s) (ot : Fin 8 → Vec Ideal S512x256 .bf16) (pd : Vec Ideal S4128x256 .f32) (dd : Vec Ideal S4096x256 .f32)
    (sh th : Fin 4096 → EReal) (i : Fin 256)
    (ho : ∀ (k : Fin 8) (z : Fin 512), ot k (ix2 z i) = (∑ n : Fin N, pd (ix2 (Fin.ofNat 4128 (512 * k.val + (z.val + q + n.val))) i))
      - dd (ix2 (Fin.ofNat 4096 (512 * k.val + z.val)) i))
    (hp : ∀ r : Fin 4128, pd (ix2 r i) = at' 16 sh r.val) (hd : ∀ t : Fin 4096, dd (ix2 t i) = th t) (t : Fin 4096) :
    oneRows (R := 4096) ot (ix2 t i) = (∑ n : Fin N, at' s sh (t.val + n.val)) - th t := by
  have ht : t.val < 4096 := t.isLt
  have h8 : (Fin.ofNat 8 (t.val / 512)).val = t.val / 512 := Nat.mod_eq_of_lt (by omega)
  have h5 : (Fin.ofNat 512 t.val).val = t.val % 512 := rfl
  show ot (Fin.ofNat 8 (t.val / 512)) (ix2 (Fin.ofNat 512 t.val) i) = _
  rw [ho, h8, h5, ofNat_eq t _ (by omega), hd]
  refine congrArg (fun a : EReal => a - th t) (Finset.sum_congr rfl fun n _ => ?_)
  have hn : n.val < N := n.isLt
  have hm : (Fin.ofNat 4128 (512 * (t.val / 512) + (t.val % 512 + q + n.val))).val = 512 * (t.val / 512) + (t.val % 512 + q + n.val) :=
    Nat.mod_eq_of_lt (by omega)
  rw [hp, hm]
  exact at'_shift _ _ _ _ _ (by omega)

/-! ## The window of 2 positions -/

theorem ddE0_at (k : Fin 4) (z : Fin 512) (i : Fin 256) :
    ddE0 x1 x2 x3 k (ix2 z i) = through (fx x1) (fs x3) (fw x2) (Fin.ofNat 4096 (1024 * k.val + z.val)) i := by
  pointwise [ddE0, k0_pay30, k0_pay29, k0_pay27, k0_pay4]
  rfl

theorem ddO0_at (k : Fin 4) (z : Fin 512) (i : Fin 256) :
    ddO0 x1 x2 x3 k (ix2 z i) = through (fx x1) (fs x3) (fw x2) (Fin.ofNat 4096 (1024 * k.val + 512 + z.val)) i := by
  pointwise [ddO0, k0_pay40, k0_pay39, k0_pay37, k0_pay4]
  rfl

theorem paE0_at (k : Fin 4) (z : Fin 512) (i : Fin 256) :
    paE0 x1 x2 x3 k (ix2 z i) = share 1#32 (fx x1) (fs x3) (fw x2) i (Fin.ofNat 4096 (1024 * k.val + z.val)) := by
  have h : paE0 x1 x2 x3 k (ix2 z i) = ddE0 x1 x2 x3 k (ix2 z i) * Ideal.div 1 (num (cnt 1#32 (BitVec.ofNat 32 (1024 * k.val + z.val)))) := by
    pointwise [paE0, ddE0, k0_pay34, k0_pay32, k0_pay33, k0_pay31, k0_pay30, k0_pay29, k0_pay27, k0_pay4, one, posE]
    rfl
  have hv : (Fin.ofNat 4096 (1024 * k.val + z.val)).val = 1024 * k.val + z.val := Nat.mod_eq_of_lt (by omega)
  rw [h, ddE0_at, share, hv]
  exact Ideal.mul_one_div (num_ne _ (hv ▸ cnt1 (Fin.ofNat 4096 (1024 * k.val + z.val))))

theorem paO0_at (k : Fin 4) (z : Fin 512) (i : Fin 256) :
    paO0 x1 x2 x3 k (ix2 z i) = share 1#32 (fx x1) (fs x3) (fw x2) i (Fin.ofNat 4096 (1024 * k.val + 512 + z.val)) := by
  have h : paO0 x1 x2 x3 k (ix2 z i) = ddO0 x1 x2 x3 k (ix2 z i) * Ideal.div 1 (num (cnt 1#32 (BitVec.ofNat 32 (1024 * k.val + 512 + z.val)))) := by
    pointwise [paO0, ddO0, k0_pay7, k0_pay41, k0_pay40, k0_pay39, k0_pay37, k0_pay4, one, posO]
    rfl
  have hv : (Fin.ofNat 4096 (1024 * k.val + 512 + z.val)).val = 1024 * k.val + 512 + z.val := Nat.mod_eq_of_lt (by omega)
  rw [h, ddO0_at, share, hv]
  exact Ideal.mul_one_div (num_ne _ (hv ▸ cnt1 (Fin.ofNat 4096 (1024 * k.val + 512 + z.val))))

theorem padded0_at (r : Fin 4128) (i : Fin 256) :
    padded0 x1 x2 x3 (ix2 r i) = at' 16 (share 1#32 (fx x1) (fs x3) (fw x2) i) r.val :=
  framed_at _ _ _ i (fun k z => paE0_at x1 x2 x3 k z i) (fun k z => paO0_at x1 x2 x3 k z i) r

theorem dds0_at (t : Fin 4096) (i : Fin 256) :
    dds0 x1 x2 x3 (ix2 t i) = through (fx x1) (fs x3) (fw x2) t i :=
  pairRows_at (R := 4096) 0 _ _ (fun t => through (fx x1) (fs x3) (fw x2) t i) i (fun k z => ddE0_at x1 x2 x3 k z i) (fun k z => ddO0_at x1 x2 x3 k z i) t t rfl

theorem ot0_at (x9 : Vec Ideal S4128x256 .f32) (x10 : Vec Ideal S4096x256 .f32) (k : Fin 8) (z : Fin 512) (i : Fin 256) :
    ot0 x9 x10 k (ix2 z i) = (∑ n : Fin 2, x9 (ix2 (Fin.ofNat 4128 (512 * k.val + (z.val + 16 + n.val))) i))
      - x10 (ix2 (Fin.ofNat 4096 (512 * k.val + z.val)) i) := by
  have hz : z.val < 512 := z.isLt
  generalize hf : (fun m : ℕ => x9 (ix2 (Fin.ofNat 4128 (512 * k.val + m)) i)) = f
  have e : ∀ m : ℕ, x9 (ix2 (Fin.ofNat 4128 (512 * k.val + m)) i) = f m := fun m => congrFun hf m
  have r : ∀ (m : ℕ) (hm : m < 544), rows (R := 4128) 544 (512 * k.val) x9 (ix2 ⟨m, hm⟩ i) = f m := fun m hm => e m
  have r0 := roll0_at _ i f r
  show rest (roll0 (rows (R := 4128) 544 (512 * k.val) x9)) (rows (R := 4096) 512 (512 * k.val) x10) (ix2 z i) = _
  rw [rest_at, r0 _ _ (by omega) ]
  show _ - x10 (ix2 (Fin.ofNat 4096 (512 * k.val + z.val)) i) = _
  refine congrArg (fun a : EReal => a - x10 (ix2 (Fin.ofNat 4096 (512 * k.val + z.val)) i)) ?_
  simp only [e]
  rw [Fin.sum_univ_eq_sum_range (fun n => f (z.val + 16 + n)) 2]
  simp only [Finset.sum_range_succ, Finset.sum_range_zero, zero_add]
  simp (disch := omega) only [Nat.add_assoc, Nat.add_sub_assoc]
  simp only [Nat.reduceAdd, Nat.reduceSub, Nat.add_zero]
  abel

/-- The block of the input's gradient. -/
theorem o6_0_at (t : Fin 4096) (i : Fin 256) :
    o6_0 x1 x2 x3 (ix2 t i) = (∑ n : Fin 2, at' 0 (share 1#32 (fx x1) (fs x3) (fw x2) i) (t.val + n.val))
      - through (fx x1) (fs x3) (fw x2) t i :=
  oneRows_at 2 16 0 rfl (by decide) _ _ _ _ (fun t => through (fx x1) (fs x3) (fw x2) t i) i (fun k z => ot0_at _ _ k z i) (fun r => padded0_at x1 x2 x3 r i)
    (fun t => dds0_at x1 x2 x3 t i) t

/-- The block of the scale's gradient. -/
theorem o8_0_at (o : Fin 256) :
    o8_0 x0 x1 x2 (ix2 0 o) = ∑ t : Fin 4096, fx x1 t o * ∑ i : Fin 256, fd x0 t i * fw x2 i o := by
  refine (sum_blocks (fun n => fx x1 (Fin.ofNat 4096 n) o * ∑ i : Fin 256, fd x0 (Fin.ofNat 4096 n) i * fw x2 i o)
    (fun k => sc0 x0 x1 x2 (k0_pay6 (F := Ideal)) k (ix2 0 o)) ?_ ?_ 4).trans ?_
  · show k0_pay6 (F := Ideal) (ix2 0 o) = 0
    pointwise [k0_pay6]
  · intro k
    show k0_pay36 (k0_pay4 x2) (k0_pay26 (k0_pay4 x2) (sc0 x0 x1 x2 (k0_pay6 (F := Ideal)) k) (rows 512 (1024 * k) x0) (rows 512 (1024 * k) x1))
      (rows 512 (1024 * k + 512) x0) (rows 512 (1024 * k + 512) x1) (ix2 0 o) = _
    pointwise [k0_pay36, k0_pay35, k0_pay26, k0_pay25, k0_pay4]
    rfl
  · exact sum_all _ _ fun t => by rw [ofNat_eq t _ rfl]

theorem wa0_at (i o : Fin 256) :
    wa0 x0 x1 x3 (k0_pay5 (F := Ideal)) 4 (ix2 i o) = ∑ t : Fin 4096, fd x0 t i * (fx x1 t o * fs x3 o) := by
  refine (sum_blocks (fun n => fd x0 (Fin.ofNat 4096 n) i * (fx x1 (Fin.ofNat 4096 n) o * fs x3 o))
    (fun k => wa0 x0 x1 x3 (k0_pay5 (F := Ideal)) k (ix2 i o)) ?_ ?_ 4).trans ?_
  · show k0_pay5 (F := Ideal) (ix2 i o) = 0
    pointwise [k0_pay5]
  · intro k
    show k0_pay38 x3 (rows 512 (1024 * k + 512) x0) (rows 512 (1024 * k + 512) x1)
      (k0_pay28 x3 (rows 512 (1024 * k) x0) (rows 512 (1024 * k) x1) (wa0 x0 x1 x3 (k0_pay5 (F := Ideal)) k)) (ix2 i o) = _
    pointwise [k0_pay38, k0_pay37, k0_pay35, k0_pay28, k0_pay27, k0_pay25]
    rfl
  · exact sum_all _ _ fun t => by rw [ofNat_eq t _ rfl]

/-- The block of the matrix's gradient. -/
theorem o7_0_at (a : Fin 8) (u : Fin 1) (b : Fin 32) (o : Fin 256) :
    o7_0 x0 x1 x3 (ix4 a u b o) = ∑ t : Fin 4096, fd x0 t ⟨a.val * 32 + b.val, by omega⟩ * (fx x1 t o * fs x3 o) := by
  have h : o7_0 x0 x1 x3 (ix4 a u b o) = wa0 x0 x1 x3 (k0_pay5 (F := Ideal)) 4 (ix2 ⟨a.val * 32 + b.val, by omega⟩ o) := by
    pointwise [o7_0, k0_pay8]
  exact h.trans (wa0_at x0 x1 x3 _ o)

/-! ## The window of 4 positions -/

theorem ddE1_at (k : Fin 4) (z : Fin 512) (i : Fin 256) :
    ddE1 x1 x2 x3 k (ix2 z i) = through (fx x1) (fs x3) (fw x2) (Fin.ofNat 4096 (1024 * k.val + z.val)) i := by
  pointwise [ddE1, k0_pay47, k0_pay46, k0_pay44, k0_pay4]
  rfl

theorem ddO1_at (k : Fin 4) (z : Fin 512) (i : Fin 256) :
    ddO1 x1 x2 x3 k (ix2 z i) = through (fx x1) (fs x3) (fw x2) (Fin.ofNat 4096 (1024 * k.val + 512 + z.val)) i := by
  pointwise [ddO1, k0_pay57, k0_pay56, k0_pay54, k0_pay4]
  rfl

theorem paE1_at (k : Fin 4) (z : Fin 512) (i : Fin 256) :
    paE1 x1 x2 x3 k (ix2 z i) = share 2#32 (fx x1) (fs x3) (fw x2) i (Fin.ofNat 4096 (1024 * k.val + z.val)) := by
  have h : paE1 x1 x2 x3 k (ix2 z i) = ddE1 x1 x2 x3 k (ix2 z i) * Ideal.div 1 (num (cnt 2#32 (BitVec.ofNat 32 (1024 * k.val + z.val)))) := by
    pointwise [paE1, ddE1, k0_pay51, k0_pay49, k0_pay50, k0_pay48, k0_pay47, k0_pay46, k0_pay44, k0_pay4, one, posE]
    rfl
  have hv : (Fin.ofNat 4096 (1024 * k.val + z.val)).val = 1024 * k.val + z.val := Nat.mod_eq_of_lt (by omega)
  rw [h, ddE1_at, share, hv]
  exact Ideal.mul_one_div (num_ne _ (hv ▸ cnt2 (Fin.ofNat 4096 (1024 * k.val + z.val))))

theorem paO1_at (k : Fin 4) (z : Fin 512) (i : Fin 256) :
    paO1 x1 x2 x3 k (ix2 z i) = share 2#32 (fx x1) (fs x3) (fw x2) i (Fin.ofNat 4096 (1024 * k.val + 512 + z.val)) := by
  have h : paO1 x1 x2 x3 k (ix2 z i) = ddO1 x1 x2 x3 k (ix2 z i) * Ideal.div 1 (num (cnt 2#32 (BitVec.ofNat 32 (1024 * k.val + 512 + z.val)))) := by
    pointwise [paO1, ddO1, k0_pay12, k0_pay58, k0_pay57, k0_pay56, k0_pay54, k0_pay4, one, posO]
    rfl
  have hv : (Fin.ofNat 4096 (1024 * k.val + 512 + z.val)).val = 1024 * k.val + 512 + z.val := Nat.mod_eq_of_lt (by omega)
  rw [h, ddO1_at, share, hv]
  exact Ideal.mul_one_div (num_ne _ (hv ▸ cnt2 (Fin.ofNat 4096 (1024 * k.val + 512 + z.val))))

theorem padded1_at (r : Fin 4128) (i : Fin 256) :
    padded1 x1 x2 x3 (ix2 r i) = at' 16 (share 2#32 (fx x1) (fs x3) (fw x2) i) r.val :=
  framed_at _ _ _ i (fun k z => paE1_at x1 x2 x3 k z i) (fun k z => paO1_at x1 x2 x3 k z i) r

theorem dds1_at (t : Fin 4096) (i : Fin 256) :
    dds1 x1 x2 x3 (ix2 t i) = through (fx x1) (fs x3) (fw x2) t i :=
  pairRows_at (R := 4096) 0 _ _ (fun t => through (fx x1) (fs x3) (fw x2) t i) i (fun k z => ddE1_at x1 x2 x3 k z i) (fun k z => ddO1_at x1 x2 x3 k z i) t t rfl

theorem ot1_at (x9 : Vec Ideal S4128x256 .f32) (x10 : Vec Ideal S4096x256 .f32) (k : Fin 8) (z : Fin 512) (i : Fin 256) :
    ot1 x9 x10 k (ix2 z i) = (∑ n : Fin 4, x9 (ix2 (Fin.ofNat 4128 (512 * k.val + (z.val + 15 + n.val))) i))
      - x10 (ix2 (Fin.ofNat 4096 (512 * k.val + z.val)) i) := by
  have hz : z.val < 512 := z.isLt
  generalize hf : (fun m : ℕ => x9 (ix2 (Fin.ofNat 4128 (512 * k.val + m)) i)) = f
  have e : ∀ m : ℕ, x9 (ix2 (Fin.ofNat 4128 (512 * k.val + m)) i) = f m := fun m => congrFun hf m
  have r : ∀ (m : ℕ) (hm : m < 544), rows (R := 4128) 544 (512 * k.val) x9 (ix2 ⟨m, hm⟩ i) = f m := fun m hm => e m
  have r0 := roll0_at _ i f r
  have r1 := roll1_at _ i (fun m => f m + f (m - 1)) 1 544 (fun m hm h _ => r0 m hm h) (by omega)
  show rest (roll1 (roll0 (rows (R := 4128) 544 (512 * k.val) x9))) (rows (R := 4096) 512 (512 * k.val) x10) (ix2 z i) = _
  rw [rest_at, r1 _ _ (by omega) (by omega)]
  show _ - x10 (ix2 (Fin.ofNat 4096 (512 * k.val + z.val)) i) = _
  refine congrArg (fun a : EReal => a - x10 (ix2 (Fin.ofNat 4096 (512 * k.val + z.val)) i)) ?_
  simp only [e]
  rw [Fin.sum_univ_eq_sum_range (fun n => f (z.val + 15 + n)) 4]
  simp only [Finset.sum_range_succ, Finset.sum_range_zero, zero_add]
  simp (disch := omega) only [Nat.add_assoc, Nat.add_sub_assoc]
  simp only [Nat.reduceAdd, Nat.reduceSub, Nat.add_zero]
  abel

/-- The block of the input's gradient. -/
theorem o6_1_at (t : Fin 4096) (i : Fin 256) :
    o6_1 x1 x2 x3 (ix2 t i) = (∑ n : Fin 4, at' 1 (share 2#32 (fx x1) (fs x3) (fw x2) i) (t.val + n.val))
      - through (fx x1) (fs x3) (fw x2) t i :=
  oneRows_at 4 15 1 rfl (by decide) _ _ _ _ (fun t => through (fx x1) (fs x3) (fw x2) t i) i (fun k z => ot1_at _ _ k z i) (fun r => padded1_at x1 x2 x3 r i)
    (fun t => dds1_at x1 x2 x3 t i) t

/-- The block of the scale's gradient. -/
theorem o8_1_at (o : Fin 256) :
    o8_1 x0 x1 x2 (ix2 0 o) = ∑ t : Fin 4096, fx x1 t o * ∑ i : Fin 256, fd x0 t i * fw x2 i o := by
  refine (sum_blocks (fun n => fx x1 (Fin.ofNat 4096 n) o * ∑ i : Fin 256, fd x0 (Fin.ofNat 4096 n) i * fw x2 i o)
    (fun k => sc1 x0 x1 x2 (k0_pay11 (F := Ideal)) k (ix2 0 o)) ?_ ?_ 4).trans ?_
  · show k0_pay11 (F := Ideal) (ix2 0 o) = 0
    pointwise [k0_pay11]
  · intro k
    show k0_pay53 (k0_pay4 x2) (k0_pay43 (k0_pay4 x2) (sc1 x0 x1 x2 (k0_pay11 (F := Ideal)) k) (rows 512 (1024 * k) x0) (rows 512 (1024 * k) x1))
      (rows 512 (1024 * k + 512) x0) (rows 512 (1024 * k + 512) x1) (ix2 0 o) = _
    pointwise [k0_pay53, k0_pay52, k0_pay43, k0_pay42, k0_pay4]
    rfl
  · exact sum_all _ _ fun t => by rw [ofNat_eq t _ rfl]

theorem wa1_at (i o : Fin 256) :
    wa1 x0 x1 x3 (k0_pay10 (F := Ideal)) 4 (ix2 i o) = ∑ t : Fin 4096, fd x0 t i * (fx x1 t o * fs x3 o) := by
  refine (sum_blocks (fun n => fd x0 (Fin.ofNat 4096 n) i * (fx x1 (Fin.ofNat 4096 n) o * fs x3 o))
    (fun k => wa1 x0 x1 x3 (k0_pay10 (F := Ideal)) k (ix2 i o)) ?_ ?_ 4).trans ?_
  · show k0_pay10 (F := Ideal) (ix2 i o) = 0
    pointwise [k0_pay10]
  · intro k
    show k0_pay55 x3 (rows 512 (1024 * k + 512) x0) (rows 512 (1024 * k + 512) x1)
      (k0_pay45 x3 (rows 512 (1024 * k) x0) (rows 512 (1024 * k) x1) (wa1 x0 x1 x3 (k0_pay10 (F := Ideal)) k)) (ix2 i o) = _
    pointwise [k0_pay55, k0_pay54, k0_pay52, k0_pay45, k0_pay44, k0_pay42]
    rfl
  · exact sum_all _ _ fun t => by rw [ofNat_eq t _ rfl]

/-- The block of the matrix's gradient. -/
theorem o7_1_at (a : Fin 8) (u : Fin 1) (b : Fin 32) (o : Fin 256) :
    o7_1 x0 x1 x3 (ix4 a u b o) = ∑ t : Fin 4096, fd x0 t ⟨a.val * 32 + b.val, by omega⟩ * (fx x1 t o * fs x3 o) := by
  have h : o7_1 x0 x1 x3 (ix4 a u b o) = wa1 x0 x1 x3 (k0_pay10 (F := Ideal)) 4 (ix2 ⟨a.val * 32 + b.val, by omega⟩ o) := by
    pointwise [o7_1, k0_pay13]
  exact h.trans (wa1_at x0 x1 x3 _ o)

/-! ## The window of 8 positions -/

theorem ddE2_at (k : Fin 4) (z : Fin 512) (i : Fin 256) :
    ddE2 x1 x2 x3 k (ix2 z i) = through (fx x1) (fs x3) (fw x2) (Fin.ofNat 4096 (1024 * k.val + z.val)) i := by
  pointwise [ddE2, k0_pay64, k0_pay63, k0_pay61, k0_pay4]
  rfl

theorem ddO2_at (k : Fin 4) (z : Fin 512) (i : Fin 256) :
    ddO2 x1 x2 x3 k (ix2 z i) = through (fx x1) (fs x3) (fw x2) (Fin.ofNat 4096 (1024 * k.val + 512 + z.val)) i := by
  pointwise [ddO2, k0_pay74, k0_pay73, k0_pay71, k0_pay4]
  rfl

theorem paE2_at (k : Fin 4) (z : Fin 512) (i : Fin 256) :
    paE2 x1 x2 x3 k (ix2 z i) = share 4#32 (fx x1) (fs x3) (fw x2) i (Fin.ofNat 4096 (1024 * k.val + z.val)) := by
  have h : paE2 x1 x2 x3 k (ix2 z i) = ddE2 x1 x2 x3 k (ix2 z i) * Ideal.div 1 (num (cnt 4#32 (BitVec.ofNat 32 (1024 * k.val + z.val)))) := by
    pointwise [paE2, ddE2, k0_pay68, k0_pay66, k0_pay67, k0_pay65, k0_pay64, k0_pay63, k0_pay61, k0_pay4, one, posE]
    rfl
  have hv : (Fin.ofNat 4096 (1024 * k.val + z.val)).val = 1024 * k.val + z.val := Nat.mod_eq_of_lt (by omega)
  rw [h, ddE2_at, share, hv]
  exact Ideal.mul_one_div (num_ne _ (hv ▸ cnt4 (Fin.ofNat 4096 (1024 * k.val + z.val))))

theorem paO2_at (k : Fin 4) (z : Fin 512) (i : Fin 256) :
    paO2 x1 x2 x3 k (ix2 z i) = share 4#32 (fx x1) (fs x3) (fw x2) i (Fin.ofNat 4096 (1024 * k.val + 512 + z.val)) := by
  have h : paO2 x1 x2 x3 k (ix2 z i) = ddO2 x1 x2 x3 k (ix2 z i) * Ideal.div 1 (num (cnt 4#32 (BitVec.ofNat 32 (1024 * k.val + 512 + z.val)))) := by
    pointwise [paO2, ddO2, k0_pay17, k0_pay75, k0_pay74, k0_pay73, k0_pay71, k0_pay4, one, posO]
    rfl
  have hv : (Fin.ofNat 4096 (1024 * k.val + 512 + z.val)).val = 1024 * k.val + 512 + z.val := Nat.mod_eq_of_lt (by omega)
  rw [h, ddO2_at, share, hv]
  exact Ideal.mul_one_div (num_ne _ (hv ▸ cnt4 (Fin.ofNat 4096 (1024 * k.val + 512 + z.val))))

theorem padded2_at (r : Fin 4128) (i : Fin 256) :
    padded2 x1 x2 x3 (ix2 r i) = at' 16 (share 4#32 (fx x1) (fs x3) (fw x2) i) r.val :=
  framed_at _ _ _ i (fun k z => paE2_at x1 x2 x3 k z i) (fun k z => paO2_at x1 x2 x3 k z i) r

theorem dds2_at (t : Fin 4096) (i : Fin 256) :
    dds2 x1 x2 x3 (ix2 t i) = through (fx x1) (fs x3) (fw x2) t i :=
  pairRows_at (R := 4096) 0 _ _ (fun t => through (fx x1) (fs x3) (fw x2) t i) i (fun k z => ddE2_at x1 x2 x3 k z i) (fun k z => ddO2_at x1 x2 x3 k z i) t t rfl

theorem ot2_at (x9 : Vec Ideal S4128x256 .f32) (x10 : Vec Ideal S4096x256 .f32) (k : Fin 8) (z : Fin 512) (i : Fin 256) :
    ot2 x9 x10 k (ix2 z i) = (∑ n : Fin 8, x9 (ix2 (Fin.ofNat 4128 (512 * k.val + (z.val + 13 + n.val))) i))
      - x10 (ix2 (Fin.ofNat 4096 (512 * k.val + z.val)) i) := by
  have hz : z.val < 512 := z.isLt
  generalize hf : (fun m : ℕ => x9 (ix2 (Fin.ofNat 4128 (512 * k.val + m)) i)) = f
  have e : ∀ m : ℕ, x9 (ix2 (Fin.ofNat 4128 (512 * k.val + m)) i) = f m := fun m => congrFun hf m
  have r : ∀ (m : ℕ) (hm : m < 544), rows (R := 4128) 544 (512 * k.val) x9 (ix2 ⟨m, hm⟩ i) = f m := fun m hm => e m
  have r0 := roll0_at _ i f r
  have r1 := roll1_at _ i (fun m => f m + f (m - 1)) 1 544 (fun m hm h _ => r0 m hm h) (by omega)
  have r2 := roll2_at _ i (fun m => (fun m => f m + f (m - 1)) (m - 1) + (fun m => f m + f (m - 1)) (m + 1)) 2 543 (fun m hm h h2 => r1 m hm (by omega) (by omega)) (by omega)
  show rest (roll2 (roll1 (roll0 (rows (R := 4128) 544 (512 * k.val) x9)))) (rows (R := 4096) 512 (512 * k.val) x10) (ix2 z i) = _
  rw [rest_at, r2 _ _ (by omega) (by omega)]
  show _ - x10 (ix2 (Fin.ofNat 4096 (512 * k.val + z.val)) i) = _
  refine congrArg (fun a : EReal => a - x10 (ix2 (Fin.ofNat 4096 (512 * k.val + z.val)) i)) ?_
  simp only [e]
  rw [Fin.sum_univ_eq_sum_range (fun n => f (z.val + 13 + n)) 8]
  simp only [Finset.sum_range_succ, Finset.sum_range_zero, zero_add]
  simp (disch := omega) only [Nat.add_assoc, Nat.add_sub_assoc]
  simp only [Nat.reduceAdd, Nat.reduceSub, Nat.add_zero]
  abel

/-- The block of the input's gradient. -/
theorem o6_2_at (t : Fin 4096) (i : Fin 256) :
    o6_2 x1 x2 x3 (ix2 t i) = (∑ n : Fin 8, at' 3 (share 4#32 (fx x1) (fs x3) (fw x2) i) (t.val + n.val))
      - through (fx x1) (fs x3) (fw x2) t i :=
  oneRows_at 8 13 3 rfl (by decide) _ _ _ _ (fun t => through (fx x1) (fs x3) (fw x2) t i) i (fun k z => ot2_at _ _ k z i) (fun r => padded2_at x1 x2 x3 r i)
    (fun t => dds2_at x1 x2 x3 t i) t

/-- The block of the scale's gradient. -/
theorem o8_2_at (o : Fin 256) :
    o8_2 x0 x1 x2 (ix2 0 o) = ∑ t : Fin 4096, fx x1 t o * ∑ i : Fin 256, fd x0 t i * fw x2 i o := by
  refine (sum_blocks (fun n => fx x1 (Fin.ofNat 4096 n) o * ∑ i : Fin 256, fd x0 (Fin.ofNat 4096 n) i * fw x2 i o)
    (fun k => sc2 x0 x1 x2 (k0_pay16 (F := Ideal)) k (ix2 0 o)) ?_ ?_ 4).trans ?_
  · show k0_pay16 (F := Ideal) (ix2 0 o) = 0
    pointwise [k0_pay16]
  · intro k
    show k0_pay70 (k0_pay4 x2) (k0_pay60 (k0_pay4 x2) (sc2 x0 x1 x2 (k0_pay16 (F := Ideal)) k) (rows 512 (1024 * k) x0) (rows 512 (1024 * k) x1))
      (rows 512 (1024 * k + 512) x0) (rows 512 (1024 * k + 512) x1) (ix2 0 o) = _
    pointwise [k0_pay70, k0_pay69, k0_pay60, k0_pay59, k0_pay4]
    rfl
  · exact sum_all _ _ fun t => by rw [ofNat_eq t _ rfl]

theorem wa2_at (i o : Fin 256) :
    wa2 x0 x1 x3 (k0_pay15 (F := Ideal)) 4 (ix2 i o) = ∑ t : Fin 4096, fd x0 t i * (fx x1 t o * fs x3 o) := by
  refine (sum_blocks (fun n => fd x0 (Fin.ofNat 4096 n) i * (fx x1 (Fin.ofNat 4096 n) o * fs x3 o))
    (fun k => wa2 x0 x1 x3 (k0_pay15 (F := Ideal)) k (ix2 i o)) ?_ ?_ 4).trans ?_
  · show k0_pay15 (F := Ideal) (ix2 i o) = 0
    pointwise [k0_pay15]
  · intro k
    show k0_pay72 x3 (rows 512 (1024 * k + 512) x0) (rows 512 (1024 * k + 512) x1)
      (k0_pay62 x3 (rows 512 (1024 * k) x0) (rows 512 (1024 * k) x1) (wa2 x0 x1 x3 (k0_pay15 (F := Ideal)) k)) (ix2 i o) = _
    pointwise [k0_pay72, k0_pay71, k0_pay69, k0_pay62, k0_pay61, k0_pay59]
    rfl
  · exact sum_all _ _ fun t => by rw [ofNat_eq t _ rfl]

/-- The block of the matrix's gradient. -/
theorem o7_2_at (a : Fin 8) (u : Fin 1) (b : Fin 32) (o : Fin 256) :
    o7_2 x0 x1 x3 (ix4 a u b o) = ∑ t : Fin 4096, fd x0 t ⟨a.val * 32 + b.val, by omega⟩ * (fx x1 t o * fs x3 o) := by
  have h : o7_2 x0 x1 x3 (ix4 a u b o) = wa2 x0 x1 x3 (k0_pay15 (F := Ideal)) 4 (ix2 ⟨a.val * 32 + b.val, by omega⟩ o) := by
    pointwise [o7_2, k0_pay18]
  exact h.trans (wa2_at x0 x1 x3 _ o)

/-! ## The window of 16 positions -/

theorem ddE3_at (k : Fin 4) (z : Fin 512) (i : Fin 256) :
    ddE3 x1 x2 x3 k (ix2 z i) = through (fx x1) (fs x3) (fw x2) (Fin.ofNat 4096 (1024 * k.val + z.val)) i := by
  pointwise [ddE3, k0_pay81, k0_pay80, k0_pay78, k0_pay4]
  rfl

theorem ddO3_at (k : Fin 4) (z : Fin 512) (i : Fin 256) :
    ddO3 x1 x2 x3 k (ix2 z i) = through (fx x1) (fs x3) (fw x2) (Fin.ofNat 4096 (1024 * k.val + 512 + z.val)) i := by
  pointwise [ddO3, k0_pay91, k0_pay90, k0_pay88, k0_pay4]
  rfl

theorem paE3_at (k : Fin 4) (z : Fin 512) (i : Fin 256) :
    paE3 x1 x2 x3 k (ix2 z i) = share 8#32 (fx x1) (fs x3) (fw x2) i (Fin.ofNat 4096 (1024 * k.val + z.val)) := by
  have h : paE3 x1 x2 x3 k (ix2 z i) = ddE3 x1 x2 x3 k (ix2 z i) * Ideal.div 1 (num (cnt 8#32 (BitVec.ofNat 32 (1024 * k.val + z.val)))) := by
    pointwise [paE3, ddE3, k0_pay85, k0_pay83, k0_pay84, k0_pay82, k0_pay81, k0_pay80, k0_pay78, k0_pay4, one, posE]
    rfl
  have hv : (Fin.ofNat 4096 (1024 * k.val + z.val)).val = 1024 * k.val + z.val := Nat.mod_eq_of_lt (by omega)
  rw [h, ddE3_at, share, hv]
  exact Ideal.mul_one_div (num_ne _ (hv ▸ cnt8 (Fin.ofNat 4096 (1024 * k.val + z.val))))

theorem paO3_at (k : Fin 4) (z : Fin 512) (i : Fin 256) :
    paO3 x1 x2 x3 k (ix2 z i) = share 8#32 (fx x1) (fs x3) (fw x2) i (Fin.ofNat 4096 (1024 * k.val + 512 + z.val)) := by
  have h : paO3 x1 x2 x3 k (ix2 z i) = ddO3 x1 x2 x3 k (ix2 z i) * Ideal.div 1 (num (cnt 8#32 (BitVec.ofNat 32 (1024 * k.val + 512 + z.val)))) := by
    pointwise [paO3, ddO3, k0_pay22, k0_pay92, k0_pay91, k0_pay90, k0_pay88, k0_pay4, one, posO]
    rfl
  have hv : (Fin.ofNat 4096 (1024 * k.val + 512 + z.val)).val = 1024 * k.val + 512 + z.val := Nat.mod_eq_of_lt (by omega)
  rw [h, ddO3_at, share, hv]
  exact Ideal.mul_one_div (num_ne _ (hv ▸ cnt8 (Fin.ofNat 4096 (1024 * k.val + 512 + z.val))))

theorem padded3_at (r : Fin 4128) (i : Fin 256) :
    padded3 x1 x2 x3 (ix2 r i) = at' 16 (share 8#32 (fx x1) (fs x3) (fw x2) i) r.val :=
  framed_at _ _ _ i (fun k z => paE3_at x1 x2 x3 k z i) (fun k z => paO3_at x1 x2 x3 k z i) r

theorem dds3_at (t : Fin 4096) (i : Fin 256) :
    dds3 x1 x2 x3 (ix2 t i) = through (fx x1) (fs x3) (fw x2) t i :=
  pairRows_at (R := 4096) 0 _ _ (fun t => through (fx x1) (fs x3) (fw x2) t i) i (fun k z => ddE3_at x1 x2 x3 k z i) (fun k z => ddO3_at x1 x2 x3 k z i) t t rfl

theorem ot3_at (x9 : Vec Ideal S4128x256 .f32) (x10 : Vec Ideal S4096x256 .f32) (k : Fin 8) (z : Fin 512) (i : Fin 256) :
    ot3 x9 x10 k (ix2 z i) = (∑ n : Fin 16, x9 (ix2 (Fin.ofNat 4128 (512 * k.val + (z.val + 9 + n.val))) i))
      - x10 (ix2 (Fin.ofNat 4096 (512 * k.val + z.val)) i) := by
  have hz : z.val < 512 := z.isLt
  generalize hf : (fun m : ℕ => x9 (ix2 (Fin.ofNat 4128 (512 * k.val + m)) i)) = f
  have e : ∀ m : ℕ, x9 (ix2 (Fin.ofNat 4128 (512 * k.val + m)) i) = f m := fun m => congrFun hf m
  have r : ∀ (m : ℕ) (hm : m < 544), rows (R := 4128) 544 (512 * k.val) x9 (ix2 ⟨m, hm⟩ i) = f m := fun m hm => e m
  have r0 := roll0_at _ i f r
  have r1 := roll1_at _ i (fun m => f m + f (m - 1)) 1 544 (fun m hm h _ => r0 m hm h) (by omega)
  have r2 := roll2_at _ i (fun m => (fun m => f m + f (m - 1)) (m - 1) + (fun m => f m + f (m - 1)) (m + 1)) 2 543 (fun m hm h h2 => r1 m hm (by omega) (by omega)) (by omega)
  have r3 := roll4_at _ i (fun m => (fun m => (fun m => f m + f (m - 1)) (m - 1) + (fun m => f m + f (m - 1)) (m + 1)) (m - 2) + (fun m => (fun m => f m + f (m - 1)) (m - 1) + (fun m => f m + f (m - 1)) (m + 1)) (m + 2)) 4 541 (fun m hm h h2 => r2 m hm (by omega) (by omega)) (by omega)
  show rest (roll4 (roll2 (roll1 (roll0 (rows (R := 4128) 544 (512 * k.val) x9))))) (rows (R := 4096) 512 (512 * k.val) x10) (ix2 z i) = _
  rw [rest_at, r3 _ _ (by omega) (by omega)]
  show _ - x10 (ix2 (Fin.ofNat 4096 (512 * k.val + z.val)) i) = _
  refine congrArg (fun a : EReal => a - x10 (ix2 (Fin.ofNat 4096 (512 * k.val + z.val)) i)) ?_
  simp only [e]
  rw [Fin.sum_univ_eq_sum_range (fun n => f (z.val + 9 + n)) 16]
  simp only [Finset.sum_range_succ, Finset.sum_range_zero, zero_add]
  simp (disch := omega) only [Nat.add_assoc, Nat.add_sub_assoc]
  simp only [Nat.reduceAdd, Nat.reduceSub, Nat.add_zero]
  abel

/-- The block of the input's gradient. -/
theorem o6_3_at (t : Fin 4096) (i : Fin 256) :
    o6_3 x1 x2 x3 (ix2 t i) = (∑ n : Fin 16, at' 7 (share 8#32 (fx x1) (fs x3) (fw x2) i) (t.val + n.val))
      - through (fx x1) (fs x3) (fw x2) t i :=
  oneRows_at 16 9 7 rfl (by decide) _ _ _ _ (fun t => through (fx x1) (fs x3) (fw x2) t i) i (fun k z => ot3_at _ _ k z i) (fun r => padded3_at x1 x2 x3 r i)
    (fun t => dds3_at x1 x2 x3 t i) t

/-- The block of the scale's gradient. -/
theorem o8_3_at (o : Fin 256) :
    o8_3 x0 x1 x2 (ix2 0 o) = ∑ t : Fin 4096, fx x1 t o * ∑ i : Fin 256, fd x0 t i * fw x2 i o := by
  refine (sum_blocks (fun n => fx x1 (Fin.ofNat 4096 n) o * ∑ i : Fin 256, fd x0 (Fin.ofNat 4096 n) i * fw x2 i o)
    (fun k => sc3 x0 x1 x2 (k0_pay21 (F := Ideal)) k (ix2 0 o)) ?_ ?_ 4).trans ?_
  · show k0_pay21 (F := Ideal) (ix2 0 o) = 0
    pointwise [k0_pay21]
  · intro k
    show k0_pay87 (k0_pay4 x2) (k0_pay77 (k0_pay4 x2) (sc3 x0 x1 x2 (k0_pay21 (F := Ideal)) k) (rows 512 (1024 * k) x0) (rows 512 (1024 * k) x1))
      (rows 512 (1024 * k + 512) x0) (rows 512 (1024 * k + 512) x1) (ix2 0 o) = _
    pointwise [k0_pay87, k0_pay86, k0_pay77, k0_pay76, k0_pay4]
    rfl
  · exact sum_all _ _ fun t => by rw [ofNat_eq t _ rfl]

theorem wa3_at (i o : Fin 256) :
    wa3 x0 x1 x3 (k0_pay20 (F := Ideal)) 4 (ix2 i o) = ∑ t : Fin 4096, fd x0 t i * (fx x1 t o * fs x3 o) := by
  refine (sum_blocks (fun n => fd x0 (Fin.ofNat 4096 n) i * (fx x1 (Fin.ofNat 4096 n) o * fs x3 o))
    (fun k => wa3 x0 x1 x3 (k0_pay20 (F := Ideal)) k (ix2 i o)) ?_ ?_ 4).trans ?_
  · show k0_pay20 (F := Ideal) (ix2 i o) = 0
    pointwise [k0_pay20]
  · intro k
    show k0_pay89 x3 (rows 512 (1024 * k + 512) x0) (rows 512 (1024 * k + 512) x1)
      (k0_pay79 x3 (rows 512 (1024 * k) x0) (rows 512 (1024 * k) x1) (wa3 x0 x1 x3 (k0_pay20 (F := Ideal)) k)) (ix2 i o) = _
    pointwise [k0_pay89, k0_pay88, k0_pay86, k0_pay79, k0_pay78, k0_pay76]
    rfl
  · exact sum_all _ _ fun t => by rw [ofNat_eq t _ rfl]

/-- The block of the matrix's gradient. -/
theorem o7_3_at (a : Fin 8) (u : Fin 1) (b : Fin 32) (o : Fin 256) :
    o7_3 x0 x1 x3 (ix4 a u b o) = ∑ t : Fin 4096, fd x0 t ⟨a.val * 32 + b.val, by omega⟩ * (fx x1 t o * fs x3 o) := by
  have h : o7_3 x0 x1 x3 (ix4 a u b o) = wa3 x0 x1 x3 (k0_pay20 (F := Ideal)) 4 (ix2 ⟨a.val * 32 + b.val, by omega⟩ o) := by
    pointwise [o7_3, k0_pay23]
  exact h.trans (wa3_at x0 x1 x3 _ o)

end Cert.PoolBwdIdeal.Val
-- ==== Proof.PoolRef.lean ====
module

public import proofs.«01_k».proof.Proof.Gen.PoolBwdRefIdeal.Read
public import proofs.«01_k».proof.Proof.PoolMath

/-! # The pool reference's values at an index -/

@[expose] public section

set_option maxRecDepth 16384
set_option maxHeartbeats 1000000

noncomputable section

namespace Cert.PoolBwdRefIdeal.Val

open Cert.PoolBwdRefIdeal Cert.PoolBwdRefIdeal.Gen Cert.PoolBwdRefIdeal.Read Cert.PoolMath
open Idealize.ShloMosaic Idealize.ShloMosaic.TcCoe Idealize.SL.Sem

theorem nil : Ideal.ofBits .f32 0x00000000#32 = 0 := by
  simp [Ideal.ofBits, Ideal.ieee, -EReal.coe_mul]

variable (x0 : Vec Ideal S4096x1024 .f32) (x1 : Vec Ideal S4x256x256 .f32) (x2 : Vec Ideal S1x1024 .f32) (x3 : Vec Ideal S4096x2048 .f32)

/-- The pooled differences, by group. -/
def dif (g : Fin 4) (t : Fin 4096) (i : Fin 256) : EReal := val_main_v82 (F := Ideal) x0 (ix3 t g i)

theorem r83 (g : Fin 4) (o : Fin 256) (t : Fin 4096) :
    val_main_v83 (F := Ideal) x0 x1 (ix3 g o t) = ∑ i : Fin 256, gw x1 g i o * dif x0 g t i := by
  pointwise [val_main_v83, dif, gw]

theorem r84 (t : Fin 4096) (g : Fin 4) (o : Fin 256) :
    val_main_v84 (F := Ideal) x0 x1 (ix3 t g o) = ∑ i : Fin 256, gw x1 g i o * dif x0 g t i := by
  pointwise [val_main_v84, r83]

theorem at2 (v : Vec Ideal S4096x4x256 .f32) (t : Fin 4096) (g : Fin 4) (o : Fin 256) :
    shapeCast S4096x1024 v shapeCasts_S4096x4x256_S4096x1024 (ix2 t ⟨256 * g.val + o.val, by omega⟩) = v (ix3 t g o) := by
  pointwise []

theorem r85 (t : Fin 4096) (g : Fin 4) (o : Fin 256) :
    val_main_v85 (F := Ideal) x0 x1 (ix2 t ⟨256 * g.val + o.val, by omega⟩) = ∑ i : Fin 256, gw x1 g i o * dif x0 g t i :=
  (at2 _ t g o).trans (r84 x0 x1 t g o)

theorem r89 (t : Fin 4096) (g : Fin 4) (o : Fin 256) :
    val_main_v89 (F := Ideal) x0 x1 x3 (ix2 t ⟨256 * g.val + o.val, by omega⟩) = (∑ i : Fin 256, gw x1 g i o * dif x0 g t i) * gx x3 g t o := by
  pointwise [val_main_v89, val_main_v88, r85, gx]

theorem r91 (g : Fin 4) (o : Fin 256) :
    val_main_v91 (F := Ideal) x0 x1 x3 (ix2 0 ⟨256 * g.val + o.val, by omega⟩) = sclG (dif x0 g) x1 x3 g o := by
  have e : val_main_v91 (F := Ideal) x0 x1 x3 (ix2 0 ⟨256 * g.val + o.val, by omega⟩)
      = ∑ t : Fin 4096, (∑ i : Fin 256, gw x1 g i o * dif x0 g t i) * gx x3 g t o := by
    pointwise [val_main_v91, val_main_v90, val_main_cst_18, nil, r89]
  rw [e]
  unfold sclG
  refine Finset.sum_congr rfl fun t _ => (mul_comm _ _).trans (congrArg _ (Finset.sum_congr rfl fun i _ => mul_comm _ _))

theorem r93 (t : Fin 4096) (g : Fin 4) (o : Fin 256) :
    val_main_v93 (F := Ideal) x2 x3 (ix2 t ⟨256 * g.val + o.val, by omega⟩) = gx x3 g t o * gs x2 g o := by
  pointwise [val_main_v93, val_main_v92, val_main_v88, gx, gs]

theorem at3 (v : Vec Ideal S4096x1024 .f32) (t : Fin 4096) (g : Fin 4) (o : Fin 256) :
    shapeCast S4096x4x256 v shapeCasts_S4096x1024_S4096x4x256 (ix3 t g o) = v (ix2 t ⟨256 * g.val + o.val, by omega⟩) := by
  pointwise []
  exact congrArg v (congrArg (ix2 t) (Fin.ext (by show g.val * 256 + o.val = 256 * g.val + o.val; omega)))

theorem r95 (g : Fin 4) (o : Fin 256) (t : Fin 4096) :
    val_main_v95 (F := Ideal) x2 x3 (ix3 g o t) = gx x3 g t o * gs x2 g o := by
  have e : val_main_v95 (F := Ideal) x2 x3 (ix3 g o t) = val_main_v94 (F := Ideal) x2 x3 (ix3 t g o) := by
    pointwise [val_main_v95]
  exact e.trans ((at3 _ t g o).trans (r93 x2 x3 t g o))

theorem r97 (t : Fin 4096) (g : Fin 4) (i : Fin 256) :
    val_main_v97 (F := Ideal) x1 x2 x3 (ix3 t g i) = through (gx x3 g) (gs x2 g) (gw x1 g) t i := by
  pointwise [val_main_v97, val_main_v96, r95, through, gw]

theorem r98 (g : Fin 4) (o i : Fin 256) :
    val_main_v98 (F := Ideal) x0 x2 x3 (ix3 g o i) = ∑ t : Fin 4096, (gx x3 g t o * gs x2 g o) * dif x0 g t i := by
  pointwise [val_main_v98, r95, dif]

theorem r99 (g : Fin 4) (i o : Fin 256) :
    val_main_v99 (F := Ideal) x0 x2 x3 (ix3 g i o) = matG (dif x0 g) x2 x3 g i o := by
  have e : val_main_v99 (F := Ideal) x0 x2 x3 (ix3 g i o) = val_main_v98 (F := Ideal) x0 x2 x3 (ix3 g o i) := by
    pointwise [val_main_v99]
  rw [e, r98]
  unfold matG
  exact Finset.sum_congr rfl fun t _ => mul_comm _ _

theorem r145 (a : Fin 8) (g : Fin 4) (b : Fin 32) (o : Fin 256) :
    val_main_v145 (F := Ideal) x0 x2 x3 (ix4 a g b o) = matG (dif x0 g) x2 x3 g ⟨a.val * 32 + b.val, by omega⟩ o := by
  have e : val_main_v145 (F := Ideal) x0 x2 x3 (ix4 a g b o) = val_main_v99 (F := Ideal) x0 x2 x3 (ix3 g ⟨a.val * 32 + b.val, by omega⟩ o) := by
    pointwise [val_main_v145, val_main_v143, val_main_v142]
  rw [e, r99]

/-! ## Window 0: 2 positions -/

theorem n0 (t : Fin 4096) (k : Fin 1) : val_main_v17 (F := Ideal) (ix2 t k) = num (cnt 1#32 (BitVec.ofNat 32 t.val)) := by
  pointwise [val_main_c_2, val_main_c_1, val_main_c_0, val_main_c, val_main_v17, val_main_v16, val_main_v13, val_main_v12, val_main_v11, val_main_v10, val_main_v9, val_main_v8, val_main_v7, val_main_v6, val_main_v5, val_main_v4, val_main_v3]
  rfl

theorem d0 (t : Fin 4096) (i : Fin 256) :
    val_main_v134 (F := Ideal) x1 x2 x3 (ix2 t i) = share 1#32 (gx x3 0) (gs x2 0) (gw x1 0) i t := by
  pointwise [val_main_v134, val_main_v133, val_main_v102, val_main_v101, n0, r97, share]

theorem s0 (t : Fin 4096) (i : Fin 256) : val_main_v137 (F := Ideal) x1 x2 x3 (ix2 t i)
    = ∑ n : Fin 2, at' (1 - 1) (share 1#32 (gx x3 0) (gs x2 0) (gw x1 0) i) (t.val + n.val) := by
  refine (window_sum (n := 4097) (w := 2) rfl (val_main_v135 (F := Ideal) x1 x2 x3) (val_main_v136 (F := Ideal)) reduceWindows_S4097x256_S4096x256_w2s1p0_0_w1s1p0_0 h_S_ nil t i).trans ?_
  refine Finset.sum_congr rfl fun n _ => ?_
  refine (pad_at (val_main_v134 (F := Ideal) x1 x2 x3) (val_main_cst_28 (F := Ideal)) pads_S4096x256_S4097x256_010_000 h_S_ nil _ i).trans ?_
  exact congrArg (fun f => at' (1 - 1) f (t.val + n.val)) (funext fun q => d0 x1 x2 x3 q i)

theorem p0 (t : Fin 4096) (g : Fin 4) (i : Fin 256) : val_main_v139 (F := Ideal) x1 x2 x3 (ix3 t g i)
    = if g.val = 0 then ∑ n : Fin 2, at' (1 - 1) (share 1#32 (gx x3 0) (gs x2 0) (gw x1 0) i) (t.val + n.val) else 0 := by
  refine (pad3_at (val_main_v138 (F := Ideal) x1 x2 x3) (val_main_cst_30 (F := Ideal)) pads_S4096x1x256_S4096x4x256_000_030_000 h_S_ nil t g i).trans ?_
  have e : val_main_v138 (F := Ideal) x1 x2 x3 (ix3 t 0 i) = val_main_v137 (F := Ideal) x1 x2 x3 (ix2 t i) := by
    pointwise [val_main_v138]
  rw [e, s0]

/-! ## Window 1: 4 positions -/

theorem n1 (t : Fin 4096) (k : Fin 1) : val_main_v36 (F := Ideal) (ix2 t k) = num (cnt 2#32 (BitVec.ofNat 32 t.val)) := by
  pointwise [val_main_c_6, val_main_c_5, val_main_c_4, val_main_c_3, val_main_v36, val_main_v35, val_main_v32, val_main_v31, val_main_v30, val_main_v29, val_main_v28, val_main_v27, val_main_v26, val_main_v25, val_main_v24, val_main_v23, val_main_v22]
  rfl

theorem d1 (t : Fin 4096) (i : Fin 256) :
    val_main_v126 (F := Ideal) x1 x2 x3 (ix2 t i) = share 2#32 (gx x3 1) (gs x2 1) (gw x1 1) i t := by
  pointwise [val_main_v126, val_main_v125, val_main_v104, val_main_v103, n1, r97, share]

theorem s1 (t : Fin 4096) (i : Fin 256) : val_main_v129 (F := Ideal) x1 x2 x3 (ix2 t i)
    = ∑ n : Fin 4, at' (2 - 1) (share 2#32 (gx x3 1) (gs x2 1) (gw x1 1) i) (t.val + n.val) := by
  refine (window_sum (n := 4099) (w := 4) rfl (val_main_v127 (F := Ideal) x1 x2 x3) (val_main_v128 (F := Ideal)) reduceWindows_S4099x256_S4096x256_w4s1p0_0_w1s1p0_0 h_S_ nil t i).trans ?_
  refine Finset.sum_congr rfl fun n _ => ?_
  refine (pad_at (val_main_v126 (F := Ideal) x1 x2 x3) (val_main_cst_25 (F := Ideal)) pads_S4096x256_S4099x256_120_000 h_S_ nil _ i).trans ?_
  exact congrArg (fun f => at' (2 - 1) f (t.val + n.val)) (funext fun q => d1 x1 x2 x3 q i)

theorem p1 (t : Fin 4096) (g : Fin 4) (i : Fin 256) : val_main_v131 (F := Ideal) x1 x2 x3 (ix3 t g i)
    = if g.val = 1 then ∑ n : Fin 4, at' (2 - 1) (share 2#32 (gx x3 1) (gs x2 1) (gw x1 1) i) (t.val + n.val) else 0 := by
  refine (pad3_at (val_main_v130 (F := Ideal) x1 x2 x3) (val_main_cst_27 (F := Ideal)) pads_S4096x1x256_S4096x4x256_000_120_000 h_S_ nil t g i).trans ?_
  have e : val_main_v130 (F := Ideal) x1 x2 x3 (ix3 t 0 i) = val_main_v129 (F := Ideal) x1 x2 x3 (ix2 t i) := by
    pointwise [val_main_v130]
  rw [e, s1]

/-! ## Window 2: 8 positions -/

theorem n2 (t : Fin 4096) (k : Fin 1) : val_main_v55 (F := Ideal) (ix2 t k) = num (cnt 4#32 (BitVec.ofNat 32 t.val)) := by
  pointwise [val_main_c_11, val_main_c_10, val_main_c_9, val_main_c_8, val_main_v55, val_main_v54, val_main_v51, val_main_v50, val_main_v49, val_main_v48, val_main_v47, val_main_v46, val_main_v45, val_main_v44, val_main_v43, val_main_v42, val_main_v41]
  rfl

theorem d2 (t : Fin 4096) (i : Fin 256) :
    val_main_v118 (F := Ideal) x1 x2 x3 (ix2 t i) = share 4#32 (gx x3 2) (gs x2 2) (gw x1 2) i t := by
  pointwise [val_main_v118, val_main_v117, val_main_v106, val_main_v105, n2, r97, share]

theorem s2 (t : Fin 4096) (i : Fin 256) : val_main_v121 (F := Ideal) x1 x2 x3 (ix2 t i)
    = ∑ n : Fin 8, at' (4 - 1) (share 4#32 (gx x3 2) (gs x2 2) (gw x1 2) i) (t.val + n.val) := by
  refine (window_sum (n := 4103) (w := 8) rfl (val_main_v119 (F := Ideal) x1 x2 x3) (val_main_v120 (F := Ideal)) reduceWindows_S4103x256_S4096x256_w8s1p0_0_w1s1p0_0 h_S_ nil t i).trans ?_
  refine Finset.sum_congr rfl fun n _ => ?_
  refine (pad_at (val_main_v118 (F := Ideal) x1 x2 x3) (val_main_cst_22 (F := Ideal)) pads_S4096x256_S4103x256_340_000 h_S_ nil _ i).trans ?_
  exact congrArg (fun f => at' (4 - 1) f (t.val + n.val)) (funext fun q => d2 x1 x2 x3 q i)

theorem p2 (t : Fin 4096) (g : Fin 4) (i : Fin 256) : val_main_v123 (F := Ideal) x1 x2 x3 (ix3 t g i)
    = if g.val = 2 then ∑ n : Fin 8, at' (4 - 1) (share 4#32 (gx x3 2) (gs x2 2) (gw x1 2) i) (t.val + n.val) else 0 := by
  refine (pad3_at (val_main_v122 (F := Ideal) x1 x2 x3) (val_main_cst_24 (F := Ideal)) pads_S4096x1x256_S4096x4x256_000_210_000 h_S_ nil t g i).trans ?_
  have e : val_main_v122 (F := Ideal) x1 x2 x3 (ix3 t 0 i) = val_main_v121 (F := Ideal) x1 x2 x3 (ix2 t i) := by
    pointwise [val_main_v122]
  rw [e, s2]

/-! ## Window 3: 16 positions -/

theorem n3 (t : Fin 4096) (k : Fin 1) : val_main_v74 (F := Ideal) (ix2 t k) = num (cnt 8#32 (BitVec.ofNat 32 t.val)) := by
  pointwise [val_main_c_16, val_main_c_15, val_main_c_14, val_main_c_13, val_main_v74, val_main_v73, val_main_v70, val_main_v69, val_main_v68, val_main_v67, val_main_v66, val_main_v65, val_main_v64, val_main_v63, val_main_v62, val_main_v61, val_main_v60]
  rfl

theorem d3 (t : Fin 4096) (i : Fin 256) :
    val_main_v110 (F := Ideal) x1 x2 x3 (ix2 t i) = share 8#32 (gx x3 3) (gs x2 3) (gw x1 3) i t := by
  pointwise [val_main_v110, val_main_v109, val_main_v108, val_main_v107, n3, r97, share]

theorem s3 (t : Fin 4096) (i : Fin 256) : val_main_v113 (F := Ideal) x1 x2 x3 (ix2 t i)
    = ∑ n : Fin 16, at' (8 - 1) (share 8#32 (gx x3 3) (gs x2 3) (gw x1 3) i) (t.val + n.val) := by
  refine (window_sum (n := 4111) (w := 16) rfl (val_main_v111 (F := Ideal) x1 x2 x3) (val_main_v112 (F := Ideal)) reduceWindows_S4111x256_S4096x256_w16s1p0_0_w1s1p0_0 h_S_ nil t i).trans ?_
  refine Finset.sum_congr rfl fun n _ => ?_
  refine (pad_at (val_main_v110 (F := Ideal) x1 x2 x3) (val_main_cst_19 (F := Ideal)) pads_S4096x256_S4111x256_780_000 h_S_ nil _ i).trans ?_
  exact congrArg (fun f => at' (8 - 1) f (t.val + n.val)) (funext fun q => d3 x1 x2 x3 q i)

theorem p3 (t : Fin 4096) (g : Fin 4) (i : Fin 256) : val_main_v115 (F := Ideal) x1 x2 x3 (ix3 t g i)
    = if g.val = 3 then ∑ n : Fin 16, at' (8 - 1) (share 8#32 (gx x3 3) (gs x2 3) (gw x1 3) i) (t.val + n.val) else 0 := by
  refine (pad3_at (val_main_v114 (F := Ideal) x1 x2 x3) (val_main_cst_21 (F := Ideal)) pads_S4096x1x256_S4096x4x256_000_300_000 h_S_ nil t g i).trans ?_
  have e : val_main_v114 (F := Ideal) x1 x2 x3 (ix3 t 0 i) = val_main_v113 (F := Ideal) x1 x2 x3 (ix2 t i) := by
    pointwise [val_main_v114]
  rw [e, s3]

/-! ## The gradient of the input -/

theorem r140 (t : Fin 4096) (g : Fin 4) (i : Fin 256) : val_main_v140 (F := Ideal) x1 x2 x3 (ix3 t g i)
    = -through (gx x3 g) (gs x2 g) (gw x1 g) t i + val_main_v115 (F := Ideal) x1 x2 x3 (ix3 t g i) + val_main_v123 (F := Ideal) x1 x2 x3 (ix3 t g i)
      + val_main_v131 (F := Ideal) x1 x2 x3 (ix3 t g i) + val_main_v139 (F := Ideal) x1 x2 x3 (ix3 t g i) := by
  rw [← r97]
  rfl

theorem r144_0 (t : Fin 4096) (i : Fin 256) : val_main_v144 (F := Ideal) x1 x2 x3 (ix2 t ⟨256 * 0 + i.val, by omega⟩)
    = back 1#32 2 1 x1 x2 x3 0 t i := by
  refine (at2 (val_main_v140 (F := Ideal) x1 x2 x3) t 0 i).trans ?_
  rw [r140, p0, p1, p2, p3]
  unfold back
  rw [sub_eq_add_neg]
  rw [if_neg (show ¬(((0 : Fin 4)).val = 3) by decide), if_neg (show ¬(((0 : Fin 4)).val = 2) by decide), if_neg (show ¬(((0 : Fin 4)).val = 1) by decide), if_pos (show (((0 : Fin 4)).val = 0) from rfl)]
  simp only [add_zero]
  exact add_comm (_ : EReal) _

theorem r144_1 (t : Fin 4096) (i : Fin 256) : val_main_v144 (F := Ideal) x1 x2 x3 (ix2 t ⟨256 * 1 + i.val, by omega⟩)
    = back 2#32 4 2 x1 x2 x3 1 t i := by
  refine (at2 (val_main_v140 (F := Ideal) x1 x2 x3) t 1 i).trans ?_
  rw [r140, p0, p1, p2, p3]
  unfold back
  rw [sub_eq_add_neg]
  rw [if_neg (show ¬(((1 : Fin 4)).val = 3) by decide), if_neg (show ¬(((1 : Fin 4)).val = 2) by decide), if_pos (show (((1 : Fin 4)).val = 1) from rfl), if_neg (show ¬(((1 : Fin 4)).val = 0) by decide)]
  simp only [add_zero]
  exact add_comm (_ : EReal) _

theorem r144_2 (t : Fin 4096) (i : Fin 256) : val_main_v144 (F := Ideal) x1 x2 x3 (ix2 t ⟨256 * 2 + i.val, by omega⟩)
    = back 4#32 8 4 x1 x2 x3 2 t i := by
  refine (at2 (val_main_v140 (F := Ideal) x1 x2 x3) t 2 i).trans ?_
  rw [r140, p0, p1, p2, p3]
  unfold back
  rw [sub_eq_add_neg]
  rw [if_neg (show ¬(((2 : Fin 4)).val = 3) by decide), if_pos (show (((2 : Fin 4)).val = 2) from rfl), if_neg (show ¬(((2 : Fin 4)).val = 1) by decide), if_neg (show ¬(((2 : Fin 4)).val = 0) by decide)]
  simp only [add_zero]
  exact add_comm (_ : EReal) _

theorem r144_3 (t : Fin 4096) (i : Fin 256) : val_main_v144 (F := Ideal) x1 x2 x3 (ix2 t ⟨256 * 3 + i.val, by omega⟩)
    = back 8#32 16 8 x1 x2 x3 3 t i := by
  refine (at2 (val_main_v140 (F := Ideal) x1 x2 x3) t 3 i).trans ?_
  rw [r140, p0, p1, p2, p3]
  unfold back
  rw [sub_eq_add_neg]
  rw [if_pos (show (((3 : Fin 4)).val = 3) from rfl), if_neg (show ¬(((3 : Fin 4)).val = 2) by decide), if_neg (show ¬(((3 : Fin 4)).val = 1) by decide), if_neg (show ¬(((3 : Fin 4)).val = 0) by decide)]
  simp only [add_zero]
  exact add_comm (_ : EReal) _

end Cert.PoolBwdRefIdeal.Val
-- ==== Proof.PoolHost.lean ====
module

public import proofs.«01_k».proof.Proof.PoolRun
public import proofs.«01_k».proof.Proof.PoolRef
public import Idealize.ShloMosaic.Lib.StableHlo.RunRead

/-! # What the pool gradient's host lines hand the call -/

@[expose] public section

set_option maxRecDepth 16384
set_option maxHeartbeats 2000000

noncomputable section

namespace Cert.PoolBwdIdeal.Val

open Cert.PoolBwdIdeal Cert.PoolBwdIdeal.Gen Cert.PoolMath
open Idealize.ShloMosaic Idealize.ShloMosaic.TcCoe Idealize.SL.Sem

variable (m : (ℓ : Loc nD τ sig) → Buf (Elt Ideal) ℓ) (c : Dev nD)

/-- The matrices come narrowed. -/
theorem host_w : V m c main_v85 = truncf (F := Ideal) (φ := .f32) .bf16 (m ((c : Thread nD τ).loc main_arg1)) (by decide) := by
  unfold V V0
  after_reads_simp
  try rfl

/-- The differences come as the reference computes them, flattened and narrowed. -/
theorem host_d : V m c main_v84 = truncf (F := Ideal) (φ := .f32) .bf16
    (shapeCast S4096x1024 (Cert.PoolBwdRefIdeal.Read.val_main_v82 (F := Ideal) (m ((c : Thread nD τ).loc main_arg0))) shapeCasts_S4096x4x256_S4096x1024) (by decide) := by
  unfold V V0
  after_reads_simp
  try rfl

end Cert.PoolBwdIdeal.Val
-- ==== Proof.PoolArr.lean ====
module

public import proofs.«01_k».proof.Proof.PoolVal
public import proofs.«01_k».proof.Proof.PoolHost

/-! # The pool gradient's result arrays -/

@[expose] public section

set_option maxRecDepth 16384
set_option maxHeartbeats 2000000

noncomputable section

namespace Cert.PoolBwdIdeal.Val

open Cert.PoolBwdIdeal Cert.PoolBwdIdeal.Gen Cert.PoolBwdIdeal.Pool Cert.PoolMath
open Idealize.ShloMosaic Idealize.ShloMosaic.TcCoe Idealize.SL.Sem
open Idealize.ShloMosaic.Pipeline (Dat)
open Cert.PoolBwdRefIdeal.Read (val_main_v82 val_main_v91 val_main_v140 val_main_v144 val_main_v145)
open Cert.PoolBwdRefIdeal.Val (dif r91 r145 r144_0 r144_1 r144_2 r144_3)

variable (m : (ℓ : Loc nD τ sig) → Buf (Elt Ideal) ℓ) (c : Dev nD)

/-- The arguments. -/
abbrev au : Vec Ideal S4096x1024 .f32 := m ((c : Thread nD τ).loc main_arg0)
abbrev aw : Vec Ideal S4x256x256 .f32 := m ((c : Thread nD τ).loc main_arg1)
abbrev ac : Vec Ideal S1x1024 .f32 := m ((c : Thread nD τ).loc main_arg2)
abbrev ay : Vec Ideal S4096x2048 .f32 := m ((c : Thread nD τ).loc main_arg3)

abbrev gp (t : Fin cfg0.N) : Fin 4 := ⟨t.val, lt_of_lt_of_eq t.isLt N_0⟩
abbrev colA (t : Fin cfg0.N) (k : Fin 256) : Fin 1024 := ⟨256 * t.val + k.val, by have := (gp t).isLt; have : t.val < 4 := this; omega⟩
abbrev colB (t : Fin cfg0.N) (k : Fin 256) : Fin 2048 := ⟨256 * t.val + k.val, by have := (gp t).isLt; have : t.val < 4 := this; omega⟩
abbrev colC (t : Fin cfg0.N) (k : Fin 256) : Fin 3072 := ⟨256 * t.val + k.val, by have := (gp t).isLt; have : t.val < 4 := this; omega⟩

theorem idx : ∀ t : Fin cfg0.N, win0_0.index t = ![0, t.val] ∧ win0_1.index t = ![0, t.val] ∧ win0_2.index t = ![t.val, 0, 0]
    ∧ win0_3.index t = ![0, t.val] ∧ win0_5.index t = ![0, t.val] ∧ win0_6.index t = ![0, t.val, 0, 0] ∧ win0_7.index t = ![0, t.val] :=
  (by decide +kernel : ∀ t : Fin grid0.N, _)

/-! ## The blocks a point reads -/

theorem b0 (t : Fin cfg0.N) (r : Fin 4096) (k : Fin 256) : iblk m c 0 t (ix2 r k) = V m c main_v84 (ix2 r (colA t k)) := by
  blk_point [iblk, idx t]

theorem b1 (t : Fin cfg0.N) (r : Fin 4096) (k : Fin 256) : iblk m c 1 t (ix2 r k) = V m c main_arg3 (ix2 r (colB t k)) := by
  blk_point [iblk, idx t]

theorem b2 (t : Fin cfg0.N) (z : Fin 1) (r k : Fin 256) : iblk m c 2 t (ix3 z r k) = V m c main_v85 (ix3 (gp t) r k) := by
  blk_point [iblk, idx t]

theorem b3 (t : Fin cfg0.N) (z : Fin 1) (k : Fin 256) : iblk m c 3 t (ix2 z k) = V m c main_arg2 (ix2 0 (colA t k)) := by
  blk_point [iblk, idx t]

theorem fd_eq (t : Fin cfg0.N) : fd (iblk m c 0 t) = dif (au m c) (gp t) := by
  funext r k
  show iblk m c 0 t (ix2 r k) = _
  rw [b0, host_d]
  exact Cert.PoolBwdRefIdeal.Val.at2 (val_main_v82 (F := Ideal) (au m c)) r (gp t) k

theorem fx_eq (t : Fin cfg0.N) : fx (iblk m c 1 t) = gx (ay m c) (gp t) := by
  funext r k
  show iblk m c 1 t (ix2 r k) = _
  rw [b1, V_main_arg3]
  rfl

theorem fw_eq (t : Fin cfg0.N) : fw (iblk m c 2 t) = gw (aw m c) (gp t) := by
  funext r k
  show iblk m c 2 t (ix3 0 r k) = _
  rw [b2, host_w]
  rfl

theorem fs_eq (t : Fin cfg0.N) : fs (iblk m c 3 t) = gs (ac m c) (gp t) := by
  funext k
  show iblk m c 3 t (ix2 0 k) = _
  rw [b3, V_main_arg2]
  rfl

/-! ## What a point leaves, against the reference's arrays -/

/-- The padded array the first result is cut from. -/
def wide : Vec Ideal S4096x3072 .bf16 := fun j =>
  if h : (j 1).val < 1024 then val_main_v144 (F := Ideal) (aw m c) (ac m c) (ay m c) (ix2 (j 0) ⟨(j 1).val, h⟩) else 0

theorem point7 (t : Fin cfg0.N) (z : Fin 1) (k : Fin 256) :
    (ds t.val (iblk m c 0 t) (iblk m c 1 t) (iblk m c 2 t) : Vec Ideal S1x256 .f32) (ix2 z k)
      = val_main_v91 (F := Ideal) (au m c) (aw m c) (ay m c) (ix2 0 (colA t k)) := by
  refine Eq.trans ?_ (r91 (au m c) (aw m c) (ay m c) (gp t) k).symm
  unfold sclG
  rw [← fd_eq, ← fx_eq, ← fw_eq]
  obtain ⟨t, ht⟩ := t
  obtain rfl : z = 0 := Subsingleton.elim _ _
  match t, ht with
  | 0, _ => exact o8_0_at _ _ _ k
  | 1, _ => exact o8_1_at _ _ _ k
  | 2, _ => exact o8_2_at _ _ _ k
  | 3, _ => exact o8_3_at _ _ _ k

theorem point6 (t : Fin cfg0.N) (a : Fin 8) (z : Fin 1) (b : Fin 32) (k : Fin 256) :
    (dw t.val (iblk m c 0 t) (iblk m c 1 t) (iblk m c 3 t) : Vec Ideal S8x1x32x256 .bf16) (ix4 a z b k)
      = val_main_v145 (F := Ideal) (au m c) (ac m c) (ay m c) (ix4 a (gp t) b k) := by
  refine Eq.trans ?_ (r145 (au m c) (ac m c) (ay m c) a (gp t) b k).symm
  unfold matG
  rw [← fd_eq, ← fx_eq, ← fs_eq]
  obtain ⟨t, ht⟩ := t
  match t, ht with
  | 0, _ => exact o7_0_at _ _ _ a z b k
  | 1, _ => exact o7_1_at _ _ _ a z b k
  | 2, _ => exact o7_2_at _ _ _ a z b k
  | 3, _ => exact o7_3_at _ _ _ a z b k

theorem point5_0 (t : Fin cfg0.N) (h : t.val = 0) (r : Fin 4096) (k : Fin 256) :
    (du t.val (iblk m c 1 t) (iblk m c 2 t) (iblk m c 3 t) : Vec Ideal S4096x256 .bf16) (ix2 r k)
      = val_main_v144 (F := Ideal) (aw m c) (ac m c) (ay m c) (ix2 r (colA t k)) := by
  have e0 : colA t k = ⟨256 * 0 + k.val, by omega⟩ := Fin.ext (by show 256 * t.val + k.val = 256 * 0 + k.val; rw [h])
  have eg : gp t = 0 := Fin.ext h
  rw [e0, r144_0, h]
  refine (o6_0_at (iblk m c 1 t) (iblk m c 2 t) (iblk m c 3 t) r k).trans ?_
  rw [fx_eq, fw_eq, fs_eq, eg]
  unfold back
  exact Eq.refl _

theorem point5_1 (t : Fin cfg0.N) (h : t.val = 1) (r : Fin 4096) (k : Fin 256) :
    (du t.val (iblk m c 1 t) (iblk m c 2 t) (iblk m c 3 t) : Vec Ideal S4096x256 .bf16) (ix2 r k)
      = val_main_v144 (F := Ideal) (aw m c) (ac m c) (ay m c) (ix2 r (colA t k)) := by
  have e0 : colA t k = ⟨256 * 1 + k.val, by omega⟩ := Fin.ext (by show 256 * t.val + k.val = 256 * 1 + k.val; rw [h])
  have eg : gp t = 1 := Fin.ext h
  rw [e0, r144_1, h]
  refine (o6_1_at (iblk m c 1 t) (iblk m c 2 t) (iblk m c 3 t) r k).trans ?_
  rw [fx_eq, fw_eq, fs_eq, eg]
  unfold back
  exact Eq.refl _

theorem point5_2 (t : Fin cfg0.N) (h : t.val = 2) (r : Fin 4096) (k : Fin 256) :
    (du t.val (iblk m c 1 t) (iblk m c 2 t) (iblk m c 3 t) : Vec Ideal S4096x256 .bf16) (ix2 r k)
      = val_main_v144 (F := Ideal) (aw m c) (ac m c) (ay m c) (ix2 r (colA t k)) := by
  have e0 : colA t k = ⟨256 * 2 + k.val, by omega⟩ := Fin.ext (by show 256 * t.val + k.val = 256 * 2 + k.val; rw [h])
  have eg : gp t = 2 := Fin.ext h
  rw [e0, r144_2, h]
  refine (o6_2_at (iblk m c 1 t) (iblk m c 2 t) (iblk m c 3 t) r k).trans ?_
  rw [fx_eq, fw_eq, fs_eq, eg]
  unfold back
  exact Eq.refl _

theorem point5_3 (t : Fin cfg0.N) (h : t.val = 3) (r : Fin 4096) (k : Fin 256) :
    (du t.val (iblk m c 1 t) (iblk m c 2 t) (iblk m c 3 t) : Vec Ideal S4096x256 .bf16) (ix2 r k)
      = val_main_v144 (F := Ideal) (aw m c) (ac m c) (ay m c) (ix2 r (colA t k)) := by
  have e0 : colA t k = ⟨256 * 3 + k.val, by omega⟩ := Fin.ext (by show 256 * t.val + k.val = 256 * 3 + k.val; rw [h])
  have eg : gp t = 3 := Fin.ext h
  rw [e0, r144_3, h]
  refine (o6_3_at (iblk m c 1 t) (iblk m c 2 t) (iblk m c 3 t) r k).trans ?_
  rw [fx_eq, fw_eq, fs_eq, eg]
  unfold back
  exact Eq.refl _

theorem point5 (t : Fin cfg0.N) (r : Fin 4096) (k : Fin 256) :
    (du t.val (iblk m c 1 t) (iblk m c 2 t) (iblk m c 3 t) : Vec Ideal S4096x256 .bf16) (ix2 r k)
      = wide m c (ix2 r (colC t k)) := by
  have hw : wide m c (ix2 r (colC t k)) = val_main_v144 (F := Ideal) (aw m c) (ac m c) (ay m c) (ix2 r (colA t k)) :=
    dif_pos (show 256 * t.val + k.val < 1024 from (colA t k).isLt)
  rw [hw]
  have ht : t.val < 4 := (gp t).isLt
  have h4 : t.val = 0 ∨ t.val = 1 ∨ t.val = 2 ∨ t.val = 3 := by omega
  rcases h4 with h | h | h | h
  · exact point5_0 m c t h r k
  · exact point5_1 m c t h r k
  · exact point5_2 m c t h r k
  · exact point5_3 m c t h r k

/-! ## The result arrays -/

theorem emb5 (W : Vec Ideal S4096x3072 .bf16) (t : Fin cfg0.N) (r : Fin 4096) (k : Fin 256) :
    W (((View.whole main_v87_0).slice (win0_5.rect t)).emb (ix2 r k)) = W (ix2 r (colC t k)) := by
  blk_point [idx t]

theorem emb6 (W : Vec Ideal S8x4x32x256 .bf16) (t : Fin cfg0.N) (a : Fin 8) (z : Fin 1) (b : Fin 32) (k : Fin 256) :
    W (((View.whole main_v87_1).slice (win0_6.rect t)).emb (ix4 a z b k)) = W (ix4 a (gp t) b k) := by
  blk_point [idx t]

theorem emb7 (W : Vec Ideal S1x1024 .f32) (t : Fin cfg0.N) (z : Fin 1) (k : Fin 256) :
    W (((View.whole main_v87_2).slice (win0_7.rect t)).emb (ix2 z k)) = W (ix2 0 (colA t k)) := by
  blk_point [idx t]

theorem final6 : (dats m 0 c).arrAt 6 cfg0.N = val_main_v145 (F := Ideal) (au m c) (ac m c) (ay m c) := by
  refine (dats m 0 c).arrAt_eq_of_covers 6 (val_main_v145 (F := Ideal) (au m c) (ac m c) (ay m c)) (by decide +kernel) fun t hf y => ?_
  blk_simp
  rw [left6]
  idx_vars y
  exact (point6 m c t y0 y1 y2 y3).trans (emb6 (val_main_v145 (F := Ideal) (au m c) (ac m c) (ay m c)) t y0 y1 y2 y3).symm

theorem final7 : (dats m 0 c).arrAt 7 cfg0.N = val_main_v91 (F := Ideal) (au m c) (aw m c) (ay m c) := by
  refine (dats m 0 c).arrAt_eq_of_covers 7 (val_main_v91 (F := Ideal) (au m c) (aw m c) (ay m c)) (by decide +kernel) fun t hf y => ?_
  blk_simp
  rw [left7]
  idx_vars y
  exact (point7 m c t y0 y1).trans (emb7 (val_main_v91 (F := Ideal) (au m c) (aw m c) (ay m c)) t y0 y1).symm

theorem final5 (r : Fin 4096) (k : Fin 1024) : (dats m 0 c).arrAt 5 cfg0.N (ix2 r ⟨k.val, by omega⟩ : S4096x3072.Idx)
    = val_main_v144 (F := Ideal) (aw m c) (ac m c) (ay m c) (ix2 r k) := by
  have e := (dats m 0 c).arrAt_eq_of_coversWhere 5 (wide m c) (P := fun i => (i (1 : Fin 2)).val < 1024) (fun β => β (1 : Fin 2) < 4)
    (by decide +kernel) (fun t hf y => by
      blk_simp
      rw [left5]
      idx_vars y
      exact (point5 m c t y0 y1).trans (emb5 (wide m c) t y0 y1).symm) (fun j => by blk_simp [Pipeline.Window.cell_apply]; omega)
  rw [e]
  have hk : ((ix2 r ⟨k.val, by omega⟩ : S4096x3072.Idx) 1).val < 1024 := k.isLt
  exact (if_pos hk).trans (dif_pos hk)

/-- The first result, cut from the padded array by the host. -/
theorem final88 : Pipeline.afterTail₀ cfgs (dats m) 0 (V0 m) [hostOps1] c main_v88
    = val_main_v144 (F := Ideal) (aw m c) (ac m c) (ay m c) := by
  have e : Pipeline.afterTail₀ cfgs (dats m) 0 (V0 m) [hostOps1] c main_v88
      = extractStridedSlice S4096x1024 ![0, 0] ((dats m 0 c).arrAt 5 cfg0.N : Vec Ideal S4096x3072 .bf16) slices_S4096x3072_S4096x1024_0_0 := by
    unfold Pipeline.afterTail₀
    after_reads_simp
    exact congrArg (fun v : Vec Ideal S4096x3072 .bf16 => extractStridedSlice S4096x1024 ![0, 0] v slices_S4096x3072_S4096x1024_0_0)
      (Pipeline.withArrays_arr spec0 (by decide +kernel) c (V0 m c) (fun w => (dats m 0 c).arrAt w cfg0.N) 5)
  rw [e]
  funext j
  idx_vars j
  refine Eq.trans ?_ (final5 m c j0 j1)
  pointwise []

/-- The run, its results the reference's values. -/
theorem run_vals (ρ : Dev nD → PrngReg) :
    θ_run defs (onTc (τ := τ) (main (F := Ideal))) ⟨m, fun _ => 0, ρ⟩ fun r => ∀ c : Dev nD,
      r.2.mem ((c.tc : Thread nD τ).loc main_v88) = val_main_v144 (F := Ideal) (aw m c) (ac m c) (ay m c)
      ∧ r.2.mem ((c.tc : Thread nD τ).loc main_v87_1) = val_main_v145 (F := Ideal) (au m c) (ac m c) (ay m c)
      ∧ r.2.mem ((c.tc : Thread nD τ).loc main_v87_2) = val_main_v91 (F := Ideal) (au m c) (aw m c) (ay m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h.1 c).2 main_v88 (Pipeline.mem_restRefs_of main_v88 (by decide) (by decide))).trans (final88 m c),
      ((h.1 c).1 6).trans (final6 m c), ((h.1 c).1 7).trans (final7 m c), h.2.1 c⟩) (θ_run_and (run_post m ρ) (frame m ρ))

end Cert.PoolBwdIdeal.Val
-- ==== Proof.PoolClaim.lean ====
module

public import proofs.«01_k».proof.Defs
public import proofs.«01_k».proof.Proof.PoolArr
public import proofs.«01_k».proof.Proof.PoolRun
public import proofs.«01_k».proof.Proof.Gen.PoolBwd
public import Idealize.ShloMosaic.Lib.Claim

/-! # The pool gradient call against the derivative of its forward lines -/

@[expose] public section

set_option maxRecDepth 16384

noncomputable section

namespace Cert.PoolClaim

open Idealize.ShloMosaic Idealize.ShloMosaic.TcCoe Idealize.SL.Sem Cert.PoolBwdRefIdeal.Read

/-- The kernel's frame over words, stated of the text that is read over the reals: it is the same text. -/
def frameStated : Prop :=
  ∀ (m : (ℓ : Loc PoolBwdIdeal.nD PoolBwdIdeal.τ PoolBwdIdeal.sig) → Buf (Elt Bits) ℓ) (g : Dev PoolBwdIdeal.nD → PrngReg), True →
    θ_run (PoolBwdIdeal.defs (F := Bits)) (onTc (τ := PoolBwdIdeal.τ) (PoolBwdIdeal.main (F := Bits))) ⟨m, fun _ => 0, g⟩ (fun r => (∀ c : Dev PoolBwdIdeal.nD,
      r.2.mem ((c.tc : Thread PoolBwdIdeal.nD PoolBwdIdeal.τ).loc PoolBwdIdeal.main_arg0) = m ((c.tc : Thread PoolBwdIdeal.nD PoolBwdIdeal.τ).loc PoolBwdIdeal.main_arg0)
      ∧ r.2.mem ((c.tc : Thread PoolBwdIdeal.nD PoolBwdIdeal.τ).loc PoolBwdIdeal.main_arg1) = m ((c.tc : Thread PoolBwdIdeal.nD PoolBwdIdeal.τ).loc PoolBwdIdeal.main_arg1)
      ∧ r.2.mem ((c.tc : Thread PoolBwdIdeal.nD PoolBwdIdeal.τ).loc PoolBwdIdeal.main_arg2) = m ((c.tc : Thread PoolBwdIdeal.nD PoolBwdIdeal.τ).loc PoolBwdIdeal.main_arg2)
      ∧ r.2.mem ((c.tc : Thread PoolBwdIdeal.nD PoolBwdIdeal.τ).loc PoolBwdIdeal.main_arg3) = m ((c.tc : Thread PoolBwdIdeal.nD PoolBwdIdeal.τ).loc PoolBwdIdeal.main_arg3))
      ∧ r.2.sem = fun _ => 0)

theorem frameStated_eq : frameStated = Cert.quiescent_PoolBwd := by sl_kernel_rfl

theorem frame_bits : Cert.quiescent_PoolBwd := frameStated_eq ▸ (fun m ρ _ => Cert.PoolBwdIdeal.Pool.frame (F := Bits) m ρ : frameStated)

theorem frame_ideal : Cert.quiescent_PoolBwdIdeal := fun m ρ _ => Cert.PoolBwdIdeal.Pool.frame m ρ

theorem ref_frame : Cert.quiescent_PoolBwdRefIdeal := by
  intro m g _
  exact (θ_run _ _ _).mono (fun r h => ⟨fun c => (h c).2.2.2, sem_eq_zero_of_no_sems (by decide) _⟩)
    (Cert.PoolBwdRefIdeal.Value.run m g)

theorem algebraic : Cert.algebraic_PoolBwdIdeal_PoolBwdRefIdeal := by
  intro m g m' g' _ hagree
  refine ⟨fun c => _, fun c => _, fun c => _, Cert.PoolBwdIdeal.Val.run_vals m g,
    (θ_run _ _ _).mono (fun r h c => ?_) (Cert.PoolBwdRefIdeal.Value.run m' g')⟩
  obtain ⟨h0, h1, h2, h3⟩ := hagree c
  refine ⟨((h c).1.trans (val_main_v144_eq m' c)).trans ?_,
    ((h c).2.1.trans (val_main_v145_eq m' c)).trans ?_,
    ((h c).2.2.1.trans (val_main_v91_eq m' c)).trans ?_, (h c).2.2.2⟩
  · rw [h1, h2, h3]
  · rw [h0, h2, h3]
  · rw [h0, h1, h3]

end Cert.PoolClaim
-- ==== Proof.GateVal.lean ====
module

public import proofs.«01_k».proof.Proof.Gen.GateIdeal.Frame
public import Idealize.ShloMosaic.Lib.Pipeline.Value
public import Idealize.ShloMosaic.Lib.StableHlo.RunRead
public import Idealize.ShloMosaic.Lib.Pipeline.ValueKit
public import Idealize.ShloMosaic.PureOps.Ideal.Laws
public import Idealize.ShloMosaic.Lib.IdealHost

/-! # The squared relu and its gradient: the result arrays of the two calls at an index -/

@[expose] public section

set_option maxRecDepth 16384

noncomputable section

namespace Cert.GateIdeal.Val

open Cert.GateIdeal Cert.GateIdeal.Gen
open Idealize.ShloMosaic Idealize.ShloMosaic.TcCoe Idealize.SL.Sem
open Idealize.ShloMosaic.Pipeline (Dat)

/-! ## The first call's payloads at an index -/

section pay
variable (x : Vec Ideal S1024x2048 .bf16) (w : Vec Ideal S2048x512 .bf16)

/-- The relu of an entry of the product of two blocks. -/
def rl (r : Fin 1024) (k : Fin 512) : EReal :=
  max (∑ i : Fin 2048, x (ix2 r i) * w (ix2 i k)) (Ideal.ofBits .f32 0x00000000#32)

theorem p8 (r : Fin 1024) (k : Fin 512) : k0_pay8 (F := Ideal) x w (ix2 r k) = rl x w r k := by
  pointwise [k0_pay8, k0_pay7, rl]
theorem p11 (r : Fin 1024) (k : Fin 512) : k0_pay11 (F := Ideal) x w (ix2 r k) = rl x w r k := by
  pointwise [k0_pay11, k0_pay7, rl]
theorem p4 (r : Fin 1024) (k : Fin 512) : k0_pay4 (F := Ideal) (k0_pay7 x) w (ix2 r k) = rl x w r k := by
  pointwise [k0_pay4, k0_pay7, rl]
theorem p1 (z : EReal) (r : Fin 1024) (k : Fin 512) :
    k0_pay1 (F := Ideal) (k0_pay14 x w) z (ix2 r k) = max z (∑ i : Fin 2048, x (ix2 r i) * w (ix2 i k)) := by
  pointwise [k0_pay1, k0_pay14, k0_pay7]
  exact max_comm _ _

theorem p9 (r : Fin 1024) (k : Fin 512) : k0_pay9 (F := Ideal) x w (ix2 r k) = rl x w r k * rl x w r k := by
  pointwise [k0_pay9, p8]
theorem p12 (r : Fin 1024) (k : Fin 512) : k0_pay12 (F := Ideal) x w (ix2 r k) = rl x w r k * rl x w r k := by
  pointwise [k0_pay12, p11]
theorem p5 (r : Fin 1024) (k : Fin 512) : k0_pay5 (F := Ideal) (k0_pay7 x) w (ix2 r k) = rl x w r k * rl x w r k := by
  pointwise [k0_pay5, p4]
theorem p2 (z : EReal) (r : Fin 1024) (k : Fin 512) :
    k0_pay2 (F := Ideal) (k0_pay14 x w) z (ix2 r k)
      = max z (∑ i : Fin 2048, x (ix2 r i) * w (ix2 i k)) * max z (∑ i : Fin 2048, x (ix2 r i) * w (ix2 i k)) := by
  pointwise [k0_pay2, p1]

theorem p10 (r : Fin 1024) (k : Fin 512) : k0_pay10 (F := Ideal) x w (ix2 r k) = Ideal.ofBits .f32 0x40000000#32 * rl x w r k := by
  pointwise [k0_pay10, p8]
theorem p13 (r : Fin 1024) (k : Fin 512) : k0_pay13 (F := Ideal) x w (ix2 r k) = Ideal.ofBits .f32 0x40000000#32 * rl x w r k := by
  pointwise [k0_pay13, p11]
theorem p6 (r : Fin 1024) (k : Fin 512) :
    k0_pay6 (F := Ideal) (k0_pay7 x) w (ix2 r k) = Ideal.ofBits .f32 0x40000000#32 * rl x w r k := by
  pointwise [k0_pay6, p4]
theorem p3 (z : EReal) (r : Fin 1024) (k : Fin 512) :
    k0_pay3 (F := Ideal) (k0_pay14 x w) z (ix2 r k)
      = Ideal.ofBits .f32 0x40000000#32 * max z (∑ i : Fin 2048, x (ix2 r i) * w (ix2 i k)) := by
  pointwise [k0_pay3, p1]

end pay

/-! ## The first call's blocks -/

/-- The relu of an entry of the product, whole arrays. -/
def relu (x : Vec Ideal S1024x2048 .bf16) (w : Vec Ideal S2048x2048 .bf16) (r : Fin 1024) (k : Fin 2048) : EReal :=
  max (∑ i : Fin 2048, x (ix2 r i) * w (ix2 i k)) (Ideal.ofBits .f32 0x00000000#32)

theorem rl_ld (x : Vec Ideal S1024x2048 .bf16) (w : Vec Ideal S2048x2048 .bf16) (o : Nat) (h) (r : Fin 1024) (k : Fin 512)
    (r' : Fin 1024) (k' : Fin 2048) (hr : r'.val = r.val) (hk : k'.val = o + k.val) :
    rl (View.ld x r0_0) (View.ld w (Rect.unit (s := S2048x2048) ![0, o] S2048x512.size h)) r k = relu x w r' k' := by
  unfold rl relu
  congr 1
  refine Finset.sum_congr rfl fun i _ => ?_
  refine congrArg₂ (fun a b : EReal => a * b) ?_ ?_
  · refine View.ld_unit_apply_of (S := S1024x2048) x ![0, 0] S1024x2048.size inb_S1024x2048_S1024x2048_0_0 (ix2 r i) (ix2 r' i) ?_
    intro a
    match a with
    | 0 => simpa using hr
    | 1 => simp
  · refine View.ld_unit_apply_of (S := S2048x2048) w ![0, o] S2048x512.size h (ix2 i k) (ix2 i k') ?_
    intro a
    match a with
    | 0 => simp
    | 1 => simpa using hk

theorem hid_blk (x : Vec Ideal S1024x2048 .bf16) (w : Vec Ideal S2048x2048 .bf16) (r : Fin 1024) (k : Fin 2048) :
    out0_2 (F := Ideal) x w (ix2 r k) = relu x w r k * relu x w r k := by
  unfold_out out0_2
  canon_tiles y h
  all_goals idx_vars y
  · rw [p5, rl_ld x w 1536 _ y0 y1 r k h0 h1]
  · refine (p2 _ _ _ y0 y1).trans ?_
    rw [max_comm, ← rl_ld x w 1024 inb_S2048x2048_S2048x512_0_1024 y0 y1 r k h0 h1]
    rfl
  · rw [p12, rl_ld x w 512 _ y0 y1 r k h0 h1]
  · rw [p9, rl_ld x w 0 _ y0 y1 r k h0 (h1.trans (Nat.zero_add _).symm)]

theorem act_blk (x : Vec Ideal S1024x2048 .bf16) (w : Vec Ideal S2048x2048 .bf16) (r : Fin 1024) (k : Fin 2048) :
    out0_3 (F := Ideal) x w (ix2 r k) = Ideal.ofBits .f32 0x40000000#32 * relu x w r k := by
  unfold_out out0_3
  canon_tiles y h
  all_goals idx_vars y
  · rw [p6, rl_ld x w 1536 _ y0 y1 r k h0 h1]
  · refine (p3 _ _ _ y0 y1).trans ?_
    rw [max_comm, ← rl_ld x w 1024 inb_S2048x2048_S2048x512_0_1024 y0 y1 r k h0 h1]
    rfl
  · rw [p13, rl_ld x w 512 _ y0 y1 r k h0 h1]
  · rw [p10, rl_ld x w 0 _ y0 y1 r k h0 (h1.trans (Nat.zero_add _).symm)]

/-! ## The second call's payloads and block -/

section pay1
variable (d : Vec Ideal S1024x2048 .bf16) (w : Vec Ideal S512x2048 .bf16) (a : Vec Ideal S1024x512 .bf16)

/-- An entry of the product of two blocks (the second transposed), times an entry of a third. -/
def ga (r : Fin 1024) (k : Fin 512) : EReal := (∑ i : Fin 2048, d (ix2 r i) * w (ix2 k i)) * a (ix2 r k)

theorem q1 (r : Fin 1024) (k : Fin 512) : k1_pay1 (F := Ideal) (k1_pay2 d) w a (ix2 r k) = ga d w a r k := by
  pointwise [k1_pay1, k1_pay2, ga]
theorem q3 (r : Fin 1024) (k : Fin 512) : k1_pay3 (F := Ideal) d w a (ix2 r k) = ga d w a r k := by
  pointwise [k1_pay3, k1_pay2, ga]
theorem q4 (r : Fin 1024) (k : Fin 512) : k1_pay4 (F := Ideal) d w a (ix2 r k) = ga d w a r k := by
  pointwise [k1_pay4, k1_pay2, ga]
theorem q5 (r : Fin 1024) (k : Fin 512) : k1_pay5 (F := Ideal) d w a (ix2 r k) = ga d w a r k := by
  pointwise [k1_pay5, k1_pay2, ga]
end pay1

/-- An entry of the product, times an entry of the third array, whole blocks. -/
def gated (d : Vec Ideal S1024x2048 .bf16) (w : Vec Ideal S2048x2048 .bf16) (a : Vec Ideal S1024x2048 .bf16)
    (r : Fin 1024) (k : Fin 2048) : EReal := (∑ i : Fin 2048, d (ix2 r i) * w (ix2 k i)) * a (ix2 r k)

theorem ga_ld (d : Vec Ideal S1024x2048 .bf16) (w : Vec Ideal S2048x2048 .bf16) (a : Vec Ideal S1024x2048 .bf16) (o : Nat) (h) (h')
    (r : Fin 1024) (k : Fin 512) (r' : Fin 1024) (k' : Fin 2048) (hr : r'.val = r.val) (hk : k'.val = o + k.val) :
    ga (View.ld d r1_0) (View.ld w (Rect.unit (s := S2048x2048) ![o, 0] S512x2048.size h))
      (View.ld a (Rect.unit (s := S1024x2048) ![0, o] S1024x512.size h')) r k = gated d w a r' k' := by
  unfold ga gated
  refine congrArg₂ (fun a b : EReal => a * b) (Finset.sum_congr rfl fun i _ => congrArg₂ (fun a b : EReal => a * b) ?_ ?_) ?_
  · refine View.ld_unit_apply_of (S := S1024x2048) d ![0, 0] S1024x2048.size inb_S1024x2048_S1024x2048_0_0 (ix2 r i) (ix2 r' i) ?_
    intro a
    match a with
    | 0 => simpa using hr
    | 1 => simp
  · refine View.ld_unit_apply_of (S := S2048x2048) w ![o, 0] S512x2048.size h (ix2 k i) (ix2 k' i) ?_
    intro a
    match a with
    | 0 => simpa using hk
    | 1 => simp
  · refine View.ld_unit_apply_of (S := S1024x2048) a ![0, o] S1024x512.size h' (ix2 r k) (ix2 r' k') ?_
    intro a
    match a with
    | 0 => simpa using hr
    | 1 => simpa using hk

theorem dpre_blk (d : Vec Ideal S1024x2048 .bf16) (w : Vec Ideal S2048x2048 .bf16) (a : Vec Ideal S1024x2048 .bf16)
    (e : Vec Ideal S8x128 .f32) (r : Fin 1024) (k : Fin 2048) :
    out1_4 (F := Ideal) d w a e (ix2 r k) = gated d w a r k := by
  unfold out1_4
  canon_tiles y h
  all_goals idx_vars y
  · rw [q1, ga_ld d w a 1536 _ _ y0 y1 r k h0 h1]
  · rw [q5, ga_ld d w a 1024 _ _ y0 y1 r k h0 h1]
  · rw [q4, ga_ld d w a 512 _ _ y0 y1 r k h0 h1]
  · rw [q3, ga_ld d w a 0 _ _ y0 y1 r k h0 (h1.trans (Nat.zero_add _).symm)]

/-! ## The arrays the two calls leave -/

variable (m : (ℓ : Loc nD τ sig) → Buf (Elt Ideal) ℓ) (ρ : Dev nD → PrngReg)

theorem idx0 : ∀ t : Fin cfg0.N, win0_0.index t = ![t.val % 4, 0] ∧ win0_1.index t = ![0, t.val / 4]
    ∧ win0_2.index t = ![t.val % 4, t.val / 4] ∧ win0_3.index t = ![t.val % 4, t.val / 4] :=
  (by decide +kernel : ∀ t : Fin grid0.N, _)

theorem idx1 : ∀ t : Fin cfg1.N, win1_0.index t = ![t.val % 4, 0] ∧ win1_1.index t = ![t.val / 4, 0]
    ∧ win1_2.index t = ![t.val % 4, t.val / 4] ∧ win1_4.index t = ![t.val % 4, t.val / 4] :=
  (by decide +kernel : ∀ t : Fin grid1.N, _)

/-- The row of the arrays that row `r` of a block at point `t` is. -/
abbrev row (t : Nat) (r : Fin 1024) : Fin 4096 := ⟨t % 4 * 1024 + r.val, by omega⟩
/-- The column that column `k` of a block at point `t` is. -/
abbrev col (t : Nat) (ht : t < 16) (k : Fin 2048) : Fin 8192 := ⟨t / 4 * 2048 + k.val, by omega⟩

theorem lt0 (t : Fin cfg0.N) : t.val < 16 := lt_of_lt_of_eq t.isLt N_0
theorem lt1 (t : Fin cfg1.N) : t.val < 16 := lt_of_lt_of_eq t.isLt N_1

section blocks
variable (V : (c : Dev nD) → (b : Ref sig .tc) → Buf (Elt Ideal) ((c : Thread nD τ).loc b)) (c : Dev nD)

theorem b00 (t : Fin cfg0.N) (r : Fin 1024) (k : Fin 2048) :
    iblk0 V c 0 t (ix2 r k) = (V c main_v0 : Vec Ideal S4096x2048 .bf16) (ix2 (row t r) k) := by
  blk_point [iblk0, idx0 t]
theorem b01 (t : Fin cfg0.N) (r : Fin 2048) (k : Fin 2048) :
    iblk0 V c 1 t (ix2 r k) = (V c main_v1 : Vec Ideal S2048x8192 .bf16) (ix2 r (col t (lt0 t) k)) := by
  blk_point [iblk0, idx0 t]
theorem b10 (t : Fin cfg1.N) (r : Fin 1024) (k : Fin 2048) :
    iblk1 V c 0 t (ix2 r k) = (V c main_v3 : Vec Ideal S4096x2048 .bf16) (ix2 (row t r) k) := by
  blk_point [iblk1, idx1 t]
theorem b11 (t : Fin cfg1.N) (r : Fin 2048) (k : Fin 2048) :
    iblk1 V c 1 t (ix2 r k) = (V c main_v4 : Vec Ideal S8192x2048 .bf16) (ix2 (col t (lt1 t) r) k) := by
  blk_point [iblk1, idx1 t]
theorem b12 (t : Fin cfg1.N) (r : Fin 1024) (k : Fin 2048) :
    iblk1 V c 2 t (ix2 r k) = (V c main_v2_1 : Vec Ideal S4096x8192 .bf16) (ix2 (row t r) (col t (lt1 t) k)) := by
  blk_point [iblk1, idx1 t]

theorem emb02 (W : Vec Ideal S4096x8192 .bf16) (t : Fin cfg0.N) (r : Fin 1024) (k : Fin 2048) :
    W (((View.whole main_v2_0).slice (win0_2.rect t)).emb (ix2 r k)) = W (ix2 (row t r) (col t (lt0 t) k)) := by
  blk_point [idx0 t]
theorem emb03 (W : Vec Ideal S4096x8192 .bf16) (t : Fin cfg0.N) (r : Fin 1024) (k : Fin 2048) :
    W (((View.whole main_v2_1).slice (win0_3.rect t)).emb (ix2 r k)) = W (ix2 (row t r) (col t (lt0 t) k)) := by
  blk_point [idx0 t]
theorem emb14 (W : Vec Ideal S4096x8192 .bf16) (t : Fin cfg1.N) (r : Fin 1024) (k : Fin 2048) :
    W (((View.whole main_v6).slice (win1_4.rect t)).emb (ix2 r k)) = W (ix2 (row t r) (col t (lt1 t) k)) := by
  blk_point [idx1 t]

/-- The relu of the product, at a row and a column. -/
def reluA (x : Vec Ideal S4096x2048 .f32) (w : Vec Ideal S2048x8192 .f32) (s : Fin 4096) (f : Fin 8192) : EReal :=
  max (∑ i : Fin 2048, x (ix2 s i) * w (ix2 i f)) (Ideal.ofBits .f32 0x00000000#32)

def hidA (x : Vec Ideal S4096x2048 .f32) (w : Vec Ideal S2048x8192 .f32) : Vec Ideal S4096x8192 .bf16 :=
  fun j => reluA x w (j 0) (j 1) * reluA x w (j 0) (j 1)
def actA (x : Vec Ideal S4096x2048 .f32) (w : Vec Ideal S2048x8192 .f32) : Vec Ideal S4096x8192 .bf16 :=
  fun j => Ideal.ofBits .f32 0x40000000#32 * reluA x w (j 0) (j 1)
def dpreA (d : Vec Ideal S4096x2048 .f32) (w : Vec Ideal S8192x2048 .f32) (a : Vec Ideal S4096x8192 .bf16) : Vec Ideal S4096x8192 .bf16 :=
  fun j => (∑ i : Fin 2048, d (ix2 (j 0) i) * w (ix2 (j 1) i)) * a j

theorem relub (t : Fin cfg0.N) (r : Fin 1024) (k : Fin 2048) :
    relu (iblk0 V c 0 t) (iblk0 V c 1 t) r k = reluA (V c main_v0) (V c main_v1) (row t r) (col t (lt0 t) k) := by
  unfold relu reluA
  simp only [b00, b01]

theorem final02 : (dat0 V c).arrAt 2 cfg0.N = hidA (V c main_v0) (V c main_v1) := by
  refine (dat0 V c).arrAt_eq_of_covers 2 (hidA (V c main_v0) (V c main_v1)) (by decide +kernel) fun t hf y => ?_
  blk_simp
  rw [after0_2]
  idx_vars y
  exact ((hid_blk _ _ y0 y1).trans (by rw [relub]; rfl)).trans (emb02 (hidA (V c main_v0) (V c main_v1)) t y0 y1).symm

theorem final03 : (dat0 V c).arrAt 3 cfg0.N = actA (V c main_v0) (V c main_v1) := by
  refine (dat0 V c).arrAt_eq_of_covers 3 (actA (V c main_v0) (V c main_v1)) (by decide +kernel) fun t hf y => ?_
  blk_simp
  rw [after0_3]
  idx_vars y
  exact ((act_blk _ _ y0 y1).trans (by rw [relub]; rfl)).trans (emb03 (actA (V c main_v0) (V c main_v1)) t y0 y1).symm

theorem gatedb (t : Fin cfg1.N) (r : Fin 1024) (k : Fin 2048) :
    gated (iblk1 V c 0 t) (iblk1 V c 1 t) (iblk1 V c 2 t) r k
      = dpreA (V c main_v3) (V c main_v4) (V c main_v2_1) (ix2 (row t r) (col t (lt1 t) k)) := by
  unfold gated dpreA
  simp only [b10, b11, b12]
  rfl

theorem final14 : (dat1 V c).arrAt 4 cfg1.N = dpreA (V c main_v3) (V c main_v4) (V c main_v2_1) := by
  refine (dat1 V c).arrAt_eq_of_covers 4 (dpreA (V c main_v3) (V c main_v4) (V c main_v2_1)) (by decide +kernel) fun t hf y => ?_
  blk_simp
  rw [after1_4]
  idx_vars y
  exact ((dpre_blk _ _ _ _ y0 y1).trans (gatedb V c t y0 y1)).trans (emb14 (dpreA (V c main_v3) (V c main_v4) (V c main_v2_1)) t y0 y1).symm

end blocks

end Cert.GateIdeal.Val
end
-- ==== Proof.GateRun.lean ====
module

public import proofs.«01_k».proof.Proof.GateVal

/-! # The squared relu and its gradient: the run and its two results -/

@[expose] public section

set_option maxRecDepth 16384

noncomputable section

namespace Cert.GateIdeal.Val

open Cert.GateIdeal Cert.GateIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

local notation "𝕄" => MT nD τ sig Unit (Elt Ideal) ℕ (UR sig nD τ) ℕ

variable (m : (ℓ : Loc nD τ sig) → Buf (Elt Ideal) ℓ) (ρ : Dev nD → PrngReg)

section arrays
variable (c : Dev nD)

abbrev X0 : Vec Ideal S4096x2048 .f32 := m ((c.tc : Thread nD τ).loc main_arg0)
abbrev W1' : Vec Ideal S2048x8192 .f32 := m ((c.tc : Thread nD τ).loc main_arg1)
abbrev W2' : Vec Ideal S8192x2048 .f32 := m ((c.tc : Thread nD τ).loc main_arg2)
abbrev D3 : Vec Ideal S4096x2048 .f32 := m ((c.tc : Thread nD τ).loc main_arg3)

theorem host0 : V1 (F := Ideal) m ρ c main_v0 = truncf (F := Ideal) (φ := .f32) .bf16 (m ((c : Thread nD τ).loc main_arg0)) (by decide) := by
  unfold V1 W1 W0
  after_reads_simp
  try rfl
theorem host1 : V1 (F := Ideal) m ρ c main_v1 = truncf (F := Ideal) (φ := .f32) .bf16 (m ((c : Thread nD τ).loc main_arg1)) (by decide) := by
  unfold V1 W1 W0
  after_reads_simp
  try rfl

theorem host3 : V3 (F := Ideal) m ρ c main_v3 = truncf (F := Ideal) (φ := .f32) .bf16 (m ((c : Thread nD τ).loc main_arg3)) (by decide) := by
  have h := W2_args (F := Ideal) m ρ c main_arg3 (by decide)
  rw [← h]
  unfold V3 W3
  after_reads_simp
  try rfl
theorem host4 : V3 (F := Ideal) m ρ c main_v4 = truncf (F := Ideal) (φ := .f32) .bf16 (m ((c : Thread nD τ).loc main_arg2)) (by decide) := by
  have h := W2_args (F := Ideal) m ρ c main_arg2 (by decide)
  rw [← h]
  unfold V3 W3
  after_reads_simp
  try rfl

theorem hid_eq : (dat0 (F := Ideal) (V1 m ρ) c).arrAt 2 cfg0.N = hidA (X0 m c) (W1' m c) := by
  rw [final02, host0, host1]
  rfl
theorem act_eq : (dat0 (F := Ideal) (V1 m ρ) c).arrAt 3 cfg0.N = actA (X0 m c) (W1' m c) := by
  rw [final03, host0, host1]
  rfl
theorem v2_1 : V3 (F := Ideal) m ρ c main_v2_1 = actA (X0 m c) (W1' m c) :=
  (W3_of m ρ c main_v2_1 (by decide)).trans ((W2_arr m ρ c 3).trans (act_eq m ρ c))
theorem dpre_eq : (dat1 (F := Ideal) (V3 m ρ) c).arrAt 4 cfg1.N = dpreA (D3 m c) (W2' m c) (actA (X0 m c) (W1' m c)) := by
  rw [final14, host3, host4, v2_1]
  rfl

theorem end_hid : W4 (F := Ideal) m ρ c (Proc.devRef .tc main_v2_0) = hidA (X0 m c) (W1' m c) :=
  (W4_of m ρ c main_v2_0 (by decide)).trans ((W3_of m ρ c main_v2_0 (by decide)).trans ((W2_arr m ρ c 2).trans (hid_eq m ρ c)))
theorem end_dpre : W4 (F := Ideal) m ρ c (Proc.devRef .tc main_v6) = dpreA (D3 m c) (W2' m c) (actA (X0 m c) (W1' m c)) :=
  (W4_arr m ρ c 4).trans (dpre_eq m ρ c)
end arrays

set_option backward.isDefEq.respectTransparency.types false in
/-- The whole run: the two results and the arguments. -/
theorem run_vals : θ_run defs (onTc (τ := τ) (main (F := Ideal))) ⟨m, fun _ => 0, ρ⟩ (fun r => ∀ c : Dev nD,
      r.2.mem ((c.tc : Thread nD τ).loc main_v2_0) = hidA (X0 m c) (W1' m c)
      ∧ r.2.mem ((c.tc : Thread nD τ).loc main_v6) = dpreA (D3 m c) (W2' m c) (actA (X0 m c) (W1' m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v2_0 (by decide))).trans (end_hid m ρ c),
       (h c _ (mem_uc main_v6 (by decide))).trans (end_dpre m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.GateIdeal.Val
end
-- ==== Proof.GateClaim.lean ====
module

public import proofs.«01_k».proof.Defs
public import proofs.«01_k».proof.Proof.GateRun
public import proofs.«01_k».proof.Proof.Gen.GateRefIdeal.Read
public import proofs.«01_k».proof.Proof.Gen.Gate.Frame
public import Idealize.ShloMosaic.Lib.Claim

/-! # The squared relu and its gradient: the claims -/

@[expose] public section

set_option maxRecDepth 16384

noncomputable section

namespace Cert.GateClaim

open Idealize.ShloMosaic Idealize.ShloMosaic.TcCoe Idealize.SL.Sem Cert.GateRefIdeal.Read

theorem ref_frame : Cert.quiescent_GateRefIdeal := by
  intro m g _
  exact (θ_run _ _ _).mono (fun r h => ⟨fun c => (h c).2.2, sem_eq_zero_of_no_sems (by decide) _⟩)
    (Cert.GateRefIdeal.Value.run m g)

section ref
open Cert.GateRefIdeal

theorem nil : Ideal.ofBits .f32 0x00000000#32 = 0 := by
  simp [Ideal.ofBits, Ideal.ieee, -EReal.coe_mul]

variable (x0 : Vec Ideal S4096x2048 .f32) (x1 : Vec Ideal S2048x8192 .f32) (x2 : Vec Ideal S8192x2048 .f32) (x3 : Vec Ideal S4096x2048 .f32)

/-- The product before the relu. -/
def pre (s : Fin 4096) (f : Fin 8192) : EReal := ∑ i : Fin 2048, x0 (ix2 s i) * x1 (ix2 i f)

theorem r0 (s : Fin 4096) (f : Fin 8192) : val_main_v0 (F := Ideal) x0 x1 (ix2 s f) = pre x0 x1 s f := by
  pointwise [val_main_v0, pre]

theorem r15 (s : Fin 4096) (f : Fin 8192) :
    val_main_v15 (F := Ideal) x0 x1 (ix2 s f) = max (pre x0 x1 s f) 0 * max (pre x0 x1 s f) 0 := by
  pointwise [val_main_v15, val_main_v2, val_main_v1, val_main_call0_v0, val_main_call0_cst, r0, nil]

theorem r9 (s : Fin 4096) (f : Fin 8192) :
    val_main_v9 (F := Ideal) x0 x1 (ix2 s f) = Ideal.ofBits .f32 0x40000000#32 * max (pre x0 x1 s f) 0 := by
  pointwise [val_main_v9, val_main_v8, val_main_cst_1, val_main_v3, val_main_call1_v0, val_main_call1_cst, r0, nil]

theorem r11 (s : Fin 4096) (f : Fin 8192) :
    val_main_v11 (F := Ideal) x2 x3 (ix2 s f) = ∑ i : Fin 2048, x3 (ix2 s i) * x2 (ix2 f i) := by
  pointwise [val_main_v11]

theorem r16 (s : Fin 4096) (f : Fin 8192) :
    val_main_v16 (F := Ideal) x0 x1 x2 x3 (ix2 s f)
      = if 0 < pre x0 x1 s f then
          (∑ i : Fin 2048, x3 (ix2 s i) * x2 (ix2 f i)) * (Ideal.ofBits .f32 0x40000000#32 * max (pre x0 x1 s f) 0)
        else 0 := by
  pointwise [val_main_v16, val_main_v14, val_main_v5, val_main_v4, val_main_cst, val_main_v12, r11, r9, r0, val_main_v13, val_main_cst_2, nil]

/-- Where the product is not positive its relu is zero, and so is the gradient. -/
theorem r16' (s : Fin 4096) (f : Fin 8192) :
    val_main_v16 (F := Ideal) x0 x1 x2 x3 (ix2 s f)
      = (∑ i : Fin 2048, x3 (ix2 s i) * x2 (ix2 f i)) * (Ideal.ofBits .f32 0x40000000#32 * max (pre x0 x1 s f) 0) := by
  rw [r16]
  split
  · rfl
  · rename_i h
    rw [max_eq_right (not_lt.mp h), mul_zero, mul_zero]

theorem hid_val : val_main_v15 (F := Ideal) x0 x1 = Cert.GateIdeal.Val.hidA x0 x1 := by
  funext y
  idx_vars y
  rw [r15]
  unfold Cert.GateIdeal.Val.hidA Cert.GateIdeal.Val.reluA
  rw [nil]
  rfl

theorem dpre_val : val_main_v16 (F := Ideal) x0 x1 x2 x3
    = Cert.GateIdeal.Val.dpreA x3 x2 (Cert.GateIdeal.Val.actA x0 x1) := by
  funext y
  idx_vars y
  rw [r16']
  unfold Cert.GateIdeal.Val.dpreA Cert.GateIdeal.Val.actA Cert.GateIdeal.Val.reluA
  rw [nil]
  rfl

end ref

theorem algebraic : Cert.algebraic_GateIdeal_GateRefIdeal := by
  intro m g m' g' _ hagree
  refine ⟨fun c => _, fun c => _, Cert.GateIdeal.Val.run_vals m g,
    (θ_run _ _ _).mono (fun r h c => ?_) (Cert.GateRefIdeal.Value.run m' g')⟩
  obtain ⟨h0, h1, h2, h3⟩ := hagree c
  refine ⟨((h c).1.trans ((val_main_v15_eq _ _).trans (hid_val _ _))).trans ?_,
    ((h c).2.1.trans ((val_main_v16_eq _ _ _ _).trans (dpre_val _ _ _ _))).trans ?_, (h c).2.2⟩
  · rw [h0, h1]
  · rw [h0, h1, h2, h3]

end Cert.GateClaim
end
-- ==== Proof.PoolFill.lean ====
module

public import proofs.«01_k».proof.Proof.PoolRows

/-! # Eight blocks of 512 rows stored one under the other, from any row on -/

@[expose] public section

noncomputable section

namespace Cert.PoolRows

open Idealize.ShloMosaic

/-- `T` rows of a matrix held as one slab, from row `o` on. -/
def rows3 {α : Type} (T o : ℕ) (x : (⟨3, ![1, 4096, 256]⟩ : Shape).Idx → α) : (⟨3, ![1, T, 256]⟩ : Shape).Idx → α :=
  fun z => x (ix3 (0 : Fin 1) (Fin.ofNat 4096 (o + (z (1 : Fin 3)).val)) (z (2 : Fin 3)))

variable {sig : RefSig} {κ : Kind} {sp : Space} {R : ℕ} [NeZero R] {e : EltTy} {Val : EltTy → Type}

/-- A load of `T` rows of the slab from row `o` on reads those rows. -/
theorem readAt_rows3 (v : View sig κ sp ⟨3, ![1, 4096, 256]⟩ e) {off : Fin 3 → ℕ} (T o : ℕ) (hoff : off = ![0, o, 0])
    (inb : ∀ a : Fin 3, off a + (![1, T, 256] : Fin 3 → ℕ) a ≤ (![1, 4096, 256] : Fin 3 → ℕ) a) (f : v.ty.Contents Val) :
    v.readAt Val (Rect.unit (s := ⟨3, ![1, 4096, 256]⟩) off ![1, T, 256] inb).toLoadRect f = rows3 T o (v.read Val f) := by
  subst hoff
  funext z
  show v.read Val f _ = v.read Val f _
  have h0 : o + T ≤ 4096 := inb 1
  have hz : (z (1 : Fin 3)).val < T := (z (1 : Fin 3)).isLt
  have hz0 : (z (0 : Fin 3)).val < 1 := (z (0 : Fin 3)).isLt
  congr 1
  funext a
  refine Fin.ext ?_
  match a with
  | ⟨0, _⟩ =>
    show 0 + 1 * (z (0 : Fin 3)).val = 0
    omega
  | ⟨1, _⟩ =>
    show o + 1 * (z (1 : Fin 3)).val = (o + (z (1 : Fin 3)).val) % 4096
    rw [Nat.mod_eq_of_lt (by omega)]; omega
  | ⟨2, _⟩ =>
    show 0 + 1 * (z (2 : Fin 3)).val = (z (2 : Fin 3)).val
    omega

/-- The blocks of 512 rows `p 0, p 1, …` one under the other, from row `s` on: what row `y` holds. -/
def rowsFrom {α : Type} (s : ℕ) (p : Fin 8 → (⟨2, ![512, 256]⟩ : Shape).Idx → α) (y : (⟨2, ![R, 256]⟩ : Shape).Idx) : α :=
  p (Fin.ofNat 8 (((y (0 : Fin 2)).val - s) / 512)) (loc ((y (0 : Fin 2)).val - s) y)

/-- The first `k` blocks from row `s` on, the rest as before. -/
def fill8 {α : Type} (s : ℕ) (p : Fin 8 → (⟨2, ![512, 256]⟩ : Shape).Idx → α) (b : (⟨2, ![R, 256]⟩ : Shape).Idx → α) :
    ℕ → (⟨2, ![R, 256]⟩ : Shape).Idx → α
  | 0 => b
  | k + 1 => fun y => if s ≤ (y (0 : Fin 2)).val ∧ (y (0 : Fin 2)).val < s + 512 * (k + 1) then rowsFrom s p y else b y

theorem fill8_apply {α : Type} (s : ℕ) (p : Fin 8 → (⟨2, ![512, 256]⟩ : Shape).Idx → α) (b : (⟨2, ![R, 256]⟩ : Shape).Idx → α)
    (k : ℕ) (y : (⟨2, ![R, 256]⟩ : Shape).Idx) :
    fill8 s p b k y = if s ≤ (y (0 : Fin 2)).val ∧ (y (0 : Fin 2)).val < s + 512 * k then rowsFrom s p y else b y := by
  cases k with
  | zero => rw [if_neg (by omega)]; rfl
  | succ k => rfl

/-- All eight blocks. -/
theorem fill8_all {α : Type} (p : Fin 8 → (⟨2, ![512, 256]⟩ : Shape).Idx → α) (b : (⟨2, ![4096, 256]⟩ : Shape).Idx → α)
    (k : ℕ) (hk : k = 8) : fill8 0 p b k = rowsFrom 0 p := by
  subst hk
  funext y
  have hy : (y (0 : Fin 2)).val < 4096 := (y (0 : Fin 2)).isLt
  rw [fill8_apply, if_pos (by omega)]

/-- One more block. -/
theorem fill8_step (v : View sig κ sp ⟨2, ![R, 256]⟩ e) (s k : ℕ) (hk : k < 8)
    (p : Fin 8 → (⟨2, ![512, 256]⟩ : Shape).Idx → Val e) (g f : v.ty.Contents Val)
    (hf : v.read Val f = fill8 s p (v.read Val g) k)
    {off : Fin 2 → ℕ} (ho : off = ![s + 512 * k, 0])
    (inb : ∀ a : Fin 2, off a + (![512, 256] : Fin 2 → ℕ) a ≤ (![R, 256] : Fin 2 → ℕ) a)
    (w : (⟨2, ![512, 256]⟩ : Shape).Idx → Val e) (hw : w = p ⟨k, hk⟩) :
    v.read Val (v.writes Val f
        [(⟨Rect.unit (s := ⟨2, ![R, 256]⟩) off ![512, 256] inb, w⟩ : View.Piece Val (⟨2, ![R, 256]⟩ : Shape) e)])
      = fill8 s p (v.read Val g) (k + 1) := by
  rw [show (⟨k, hk⟩ : Fin 8) = Fin.ofNat 8 k from Fin.ext (Nat.mod_eq_of_lt hk).symm] at hw
  funext y
  rw [rd v f inb w _ y ho, fill8_apply]
  by_cases h1 : s + 512 * k ≤ (y (0 : Fin 2)).val ∧ (y (0 : Fin 2)).val < s + 512 * k + 512
  · rw [dif_pos h1, if_pos (by omega)]
    unfold rowsFrom
    have hd : ((y (0 : Fin 2)).val - s) / 512 = k := by omega
    rw [hd, hw]
    congr 1
    funext a
    refine Fin.ext ?_
    match a with
    | ⟨0, _⟩ =>
      show (y (0 : Fin 2)).val - (s + 512 * k) = ((y (0 : Fin 2)).val - s) % 512
      omega
    | ⟨1, _⟩ =>
      rfl
  rw [dif_neg h1]
  refine ((congrFun hf y).trans (fill8_apply s p _ k y)).trans ?_
  by_cases h0 : s ≤ (y (0 : Fin 2)).val ∧ (y (0 : Fin 2)).val < s + 512 * k
  · rw [if_pos h0, if_pos (by omega)]
  · rw [if_neg h0, if_neg (by omega)]

end Cert.PoolRows
-- ==== Proof.PoolFwdLoops.lean ====
module

public import proofs.«01_k».proof.Proof.Gen.PoolFwdIdeal.Frame
public import proofs.«01_k».proof.Proof.Gen.PoolFwdIdeal.Skeleton
public import proofs.«01_k».proof.Proof.PoolFill

/-! # The loops of the forward pool, one trip at a time

The first loop copies the block's rows between the two blocks of zeros; the second one, of each window, stores the pooled
differences and their product with the group's matrix. The invariants say what the buffers READ after the trips done so
far. -/

@[expose] public section

set_option maxRecDepth 16384
set_option maxHeartbeats 4000000

noncomputable section

namespace Cert.PoolFwdIdeal.Run

open Cert.PoolRows
open Cert.PoolFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Ownership of a memref's whole buffer, with its contents. -/
abbrev holds {sp : Space} {s : Shape} {e : EltTy} (c : Dev nD) (m : Memref sig .tc sp s e) (f : m.view.ty.Contents (Elt F)) : sProp 𝕄 :=
  iprop(m.view.loc (c : Thread nD τ) ↦[m.view.set]{fullShare} f)

/-- The copied rows' block `k`. -/
def copied (x1 : Vec F S1x4096x256 .f32) (k : Fin 8) : FVec F S512x256 .f32 := k0_pay4 (rows3 512 (512 * k.val) x1)

variable (𝒱 : Variants) (c : Dev nD) (bd : Option 𝒱.V) (E : Set ℕ) (i : grid0.Coords) (arg1 : Memref sig .tc .vmem S1x4096x256 .f32) (harg1 : arg1.IsWhole) (arg2 : Memref sig .tc .vmem S1x256x256 .bf16) (harg2 : arg2.IsWhole) (arg3 : Memref sig .tc .vmem S1x256 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4128x256 .f32) (harg6 : arg6.IsWhole)

set_option warn.classDefReducibility false in
/-- The first loop by its invariant. -/
@[sl_loop] def copyLoop (x1 : Vec F S1x4096x256 .f32) (g6 : arg6.view.ty.Contents (Elt F)) :
    LoopInv (M := 𝕄) Idealize.ShloMosaic.frame (wpE (defs₀ (F := F)) 𝒱 (c : Thread nD τ) bd) E
      k0_t1_loop.lb k0_t1_loop.ub k0_t1_loop.st k0_t1_ok () (k0_t1_body (F := F) i arg1 harg1 arg2 harg2 arg3 harg3 arg4 harg4 arg5 harg5 arg6 harg6) where
  inv := fun k _ => iprop(holds c arg1 (harg1.unread x1)
    ∗ (∃ f, holds c arg6 f ∗ ⌜arg6.view.read (Elt F) f = fill8 (R := 4128) 16 (copied x1) (arg6.view.read (Elt F) g6) k⌝))
  step k _ := by
    have hk : k.val < 8 := Nat.lt_of_lt_of_le k.isLt k0_t1_abs.2.1
    iintro ⟨H1, ⟨%f6, H6, %h6⟩⟩
    unfold k0_t1_body
    sl_exec
    sl_step
    isplitl [H1]; · iexact H1
    iexists _; isplitl [H6]; · iexact H6
    ipureintro
    exact fill8_step (R := 4128) arg6.view 16 k.val hk (copied x1) g6 f6 h6 ((k0_off2_eq k).trans (by rw [Nat.add_comm])) _ _
      ((congrArg k0_pay4 ((readAt_rows3 arg1.view 512 (512 * k.val) (k0_off1_eq k) _ _).trans (congrArg _ (harg1.read_unread x1)))))

/-! ## Window 1 -/

/-- The trip's number. -/
abbrev tr0 (k : Fin 8) : Fin k0_t2_loop.trips := ⟨k.val, lt_of_lt_of_le k.isLt (by decide)⟩

/-- The pooled differences' block `k`. -/
def dB0 (x : Vec F S4128x256 .f32) (k : Fin 8) : FVec F S512x256 .bf16 := k0_pay6 (tr0 k) (rows 544 (512 * k.val) x)

/-- The block `k` of their product with the group's matrix. -/
def yB0 (v8 : Vec F S1x256x256 .bf16) (v10 : Vec F S1x256 .f32) (x : Vec F S4128x256 .f32) (k : Fin 8) : FVec F S512x256 .bf16 :=
  k0_pay7 v8 v10 (tr0 k) (rows 544 (512 * k.val) x)

set_option warn.classDefReducibility false in
/-- The loop by its invariant. -/
@[sl_loop] def loop0 (v8 : Vec F S1x256x256 .bf16) (v10 : Vec F S1x256 .f32) (k0_h : k0_cond1 i = 1#1)
    (g6 : arg6.view.ty.Contents (Elt F)) (g4 : arg4.view.ty.Contents (Elt F)) (g5 : arg5.view.ty.Contents (Elt F)) :
    LoopInv (M := 𝕄) Idealize.ShloMosaic.frame (wpE (defs₀ (F := F)) 𝒱 (c : Thread nD τ) bd) E
      k0_t2_loop.lb k0_t2_loop.ub k0_t2_loop.st (k0_t2_ok i k0_h) () (k0_t2_body (F := F) i arg1 harg1 arg2 harg2 arg3 harg3 arg4 harg4 arg5 harg5 arg6 harg6 v8 v10 k0_h) where
  inv := fun k _ => iprop(holds c arg6 g6
    ∗ (∃ f, holds c arg4 f ∗ ⌜arg4.view.read (Elt F) f = fill8 (R := 4096) 0 (dB0 (arg6.view.read (Elt F) g6)) (arg4.view.read (Elt F) g4) k⌝)
    ∗ (∃ f, holds c arg5 f ∗ ⌜arg5.view.read (Elt F) f = fill8 (R := 4096) 0 (yB0 v8 v10 (arg6.view.read (Elt F) g6)) (arg5.view.read (Elt F) g5) k⌝))
  step k _ := by
    have hk : k.val < 8 := Nat.lt_of_lt_of_le k.isLt k0_t2_abs.2.1
    iintro ⟨H6, ⟨%f4, H4, %h4⟩, ⟨%f5, H5, %h5⟩⟩
    unfold k0_t2_body
    sl_exec
    sl_step
    have e6 := readAt_rows (R := 4128) arg6.view 544 _ (k0_off3_eq k) (k0_off3_inb i k k0_h) g6
    isplitl [H6]; · iexact H6
    isplitl [H4]
    · iexists _; isplitl [H4]; · iexact H4
      ipureintro
      exact fill8_step (R := 4096) arg4.view 0 k.val hk (dB0 (arg6.view.read (Elt F) g6)) g4 f4 h4 ((k0_off4_eq k).trans (by rw [Nat.zero_add])) _ _
        ((congrArg (fun v => k0_pay6 k v) e6))
    · iexists _; isplitl [H5]; · iexact H5
      ipureintro
      exact fill8_step (R := 4096) arg5.view 0 k.val hk (yB0 v8 v10 (arg6.view.read (Elt F) g6)) g5 f5 h5 ((k0_off4_eq k).trans (by rw [Nat.zero_add])) _ _
        ((congrArg (fun v => k0_pay7 v8 v10 k v) e6))

/-! ## Window 2 -/

/-- The trip's number. -/
abbrev tr1 (k : Fin 8) : Fin k0_t3_loop.trips := ⟨k.val, lt_of_lt_of_le k.isLt (by decide)⟩

/-- The pooled differences' block `k`. -/
def dB1 (x : Vec F S4128x256 .f32) (k : Fin 8) : FVec F S512x256 .bf16 := k0_pay8 (tr1 k) (rows 544 (512 * k.val) x)

/-- The block `k` of their product with the group's matrix. -/
def yB1 (v8 : Vec F S1x256x256 .bf16) (v10 : Vec F S1x256 .f32) (x : Vec F S4128x256 .f32) (k : Fin 8) : FVec F S512x256 .bf16 :=
  k0_pay9 v8 v10 (tr1 k) (rows 544 (512 * k.val) x)

set_option warn.classDefReducibility false in
/-- The loop by its invariant. -/
@[sl_loop] def loop1 (v8 : Vec F S1x256x256 .bf16) (v10 : Vec F S1x256 .f32) (k0_h : k0_cond2 i = 1#1)
    (g6 : arg6.view.ty.Contents (Elt F)) (g4 : arg4.view.ty.Contents (Elt F)) (g5 : arg5.view.ty.Contents (Elt F)) :
    LoopInv (M := 𝕄) Idealize.ShloMosaic.frame (wpE (defs₀ (F := F)) 𝒱 (c : Thread nD τ) bd) E
      k0_t3_loop.lb k0_t3_loop.ub k0_t3_loop.st (k0_t3_ok i k0_h) () (k0_t3_body (F := F) i arg1 harg1 arg2 harg2 arg3 harg3 arg4 harg4 arg5 harg5 arg6 harg6 v8 v10 k0_h) where
  inv := fun k _ => iprop(holds c arg6 g6
    ∗ (∃ f, holds c arg4 f ∗ ⌜arg4.view.read (Elt F) f = fill8 (R := 4096) 0 (dB1 (arg6.view.read (Elt F) g6)) (arg4.view.read (Elt F) g4) k⌝)
    ∗ (∃ f, holds c arg5 f ∗ ⌜arg5.view.read (Elt F) f = fill8 (R := 4096) 0 (yB1 v8 v10 (arg6.view.read (Elt F) g6)) (arg5.view.read (Elt F) g5) k⌝))
  step k _ := by
    have hk : k.val < 8 := Nat.lt_of_lt_of_le k.isLt k0_t3_abs.2.1
    iintro ⟨H6, ⟨%f4, H4, %h4⟩, ⟨%f5, H5, %h5⟩⟩
    unfold k0_t3_body
    sl_exec
    sl_step
    have e6 := readAt_rows (R := 4128) arg6.view 544 _ (k0_off5_eq k) (k0_off5_inb i k k0_h) g6
    isplitl [H6]; · iexact H6
    isplitl [H4]
    · iexists _; isplitl [H4]; · iexact H4
      ipureintro
      exact fill8_step (R := 4096) arg4.view 0 k.val hk (dB1 (arg6.view.read (Elt F) g6)) g4 f4 h4 ((k0_off6_eq k).trans (by rw [Nat.zero_add])) _ _
        ((congrArg (fun v => k0_pay8 k v) e6))
    · iexists _; isplitl [H5]; · iexact H5
      ipureintro
      exact fill8_step (R := 4096) arg5.view 0 k.val hk (yB1 v8 v10 (arg6.view.read (Elt F) g6)) g5 f5 h5 ((k0_off6_eq k).trans (by rw [Nat.zero_add])) _ _
        ((congrArg (fun v => k0_pay9 v8 v10 k v) e6))

/-! ## Window 3 -/

/-- The trip's number. -/
abbrev tr2 (k : Fin 8) : Fin k0_t4_loop.trips := ⟨k.val, lt_of_lt_of_le k.isLt (by decide)⟩

/-- The pooled differences' block `k`. -/
def dB2 (x : Vec F S4128x256 .f32) (k : Fin 8) : FVec F S512x256 .bf16 := k0_pay10 (tr2 k) (rows 544 (512 * k.val) x)

/-- The block `k` of their product with the group's matrix. -/
def yB2 (v8 : Vec F S1x256x256 .bf16) (v10 : Vec F S1x256 .f32) (x : Vec F S4128x256 .f32) (k : Fin 8) : FVec F S512x256 .bf16 :=
  k0_pay11 v8 v10 (tr2 k) (rows 544 (512 * k.val) x)

set_option warn.classDefReducibility false in
/-- The loop by its invariant. -/
@[sl_loop] def loop2 (v8 : Vec F S1x256x256 .bf16) (v10 : Vec F S1x256 .f32) (k0_h : k0_cond3 i = 1#1)
    (g6 : arg6.view.ty.Contents (Elt F)) (g4 : arg4.view.ty.Contents (Elt F)) (g5 : arg5.view.ty.Contents (Elt F)) :
    LoopInv (M := 𝕄) Idealize.ShloMosaic.frame (wpE (defs₀ (F := F)) 𝒱 (c : Thread nD τ) bd) E
      k0_t4_loop.lb k0_t4_loop.ub k0_t4_loop.st (k0_t4_ok i k0_h) () (k0_t4_body (F := F) i arg1 harg1 arg2 harg2 arg3 harg3 arg4 harg4 arg5 harg5 arg6 harg6 v8 v10 k0_h) where
  inv := fun k _ => iprop(holds c arg6 g6
    ∗ (∃ f, holds c arg4 f ∗ ⌜arg4.view.read (Elt F) f = fill8 (R := 4096) 0 (dB2 (arg6.view.read (Elt F) g6)) (arg4.view.read (Elt F) g4) k⌝)
    ∗ (∃ f, holds c arg5 f ∗ ⌜arg5.view.read (Elt F) f = fill8 (R := 4096) 0 (yB2 v8 v10 (arg6.view.read (Elt F) g6)) (arg5.view.read (Elt F) g5) k⌝))
  step k _ := by
    have hk : k.val < 8 := Nat.lt_of_lt_of_le k.isLt k0_t4_abs.2.1
    iintro ⟨H6, ⟨%f4, H4, %h4⟩, ⟨%f5, H5, %h5⟩⟩
    unfold k0_t4_body
    sl_exec
    sl_step
    have e6 := readAt_rows (R := 4128) arg6.view 544 _ (k0_off7_eq k) (k0_off7_inb i k k0_h) g6
    isplitl [H6]; · iexact H6
    isplitl [H4]
    · iexists _; isplitl [H4]; · iexact H4
      ipureintro
      exact fill8_step (R := 4096) arg4.view 0 k.val hk (dB2 (arg6.view.read (Elt F) g6)) g4 f4 h4 ((k0_off8_eq k).trans (by rw [Nat.zero_add])) _ _
        ((congrArg (fun v => k0_pay10 k v) e6))
    · iexists _; isplitl [H5]; · iexact H5
      ipureintro
      exact fill8_step (R := 4096) arg5.view 0 k.val hk (yB2 v8 v10 (arg6.view.read (Elt F) g6)) g5 f5 h5 ((k0_off8_eq k).trans (by rw [Nat.zero_add])) _ _
        ((congrArg (fun v => k0_pay11 v8 v10 k v) e6))

/-! ## Window 4 -/

/-- The trip's number. -/
abbrev tr3 (k : Fin 8) : Fin k0_t5_loop.trips := ⟨k.val, lt_of_lt_of_le k.isLt (by decide)⟩

/-- The pooled differences' block `k`. -/
def dB3 (x : Vec F S4128x256 .f32) (k : Fin 8) : FVec F S512x256 .bf16 := k0_pay12 0#32 1#32 (tr3 k) (rows 544 (512 * k.val) x)

/-- The block `k` of their product with the group's matrix. -/
def yB3 (v8 : Vec F S1x256x256 .bf16) (v10 : Vec F S1x256 .f32) (x : Vec F S4128x256 .f32) (k : Fin 8) : FVec F S512x256 .bf16 :=
  k0_pay13 (k0_pay5 v8) v10 0#32 1#32 (tr3 k) (rows 544 (512 * k.val) x)

set_option warn.classDefReducibility false in
/-- The loop by its invariant. -/
@[sl_loop] def loop3 (v8 : Vec F S1x256x256 .bf16) (v10 : Vec F S1x256 .f32) (k0_h : k0_cond4 i = 1#1)
    (g6 : arg6.view.ty.Contents (Elt F)) (g4 : arg4.view.ty.Contents (Elt F)) (g5 : arg5.view.ty.Contents (Elt F)) :
    LoopInv (M := 𝕄) Idealize.ShloMosaic.frame (wpE (defs₀ (F := F)) 𝒱 (c : Thread nD τ) bd) E
      k0_t5_loop.lb k0_t5_loop.ub k0_t5_loop.st (k0_t5_ok i k0_h) () (k0_t5_body (F := F) i arg1 harg1 arg2 harg2 arg3 harg3 arg4 harg4 arg5 harg5 arg6 harg6 v8 v10 k0_h) where
  inv := fun k _ => iprop(holds c arg6 g6
    ∗ (∃ f, holds c arg4 f ∗ ⌜arg4.view.read (Elt F) f = fill8 (R := 4096) 0 (dB3 (arg6.view.read (Elt F) g6)) (arg4.view.read (Elt F) g4) k⌝)
    ∗ (∃ f, holds c arg5 f ∗ ⌜arg5.view.read (Elt F) f = fill8 (R := 4096) 0 (yB3 v8 v10 (arg6.view.read (Elt F) g6)) (arg5.view.read (Elt F) g5) k⌝))
  step k _ := by
    have hk : k.val < 8 := Nat.lt_of_lt_of_le k.isLt k0_t5_abs.2.1
    iintro ⟨H6, ⟨%f4, H4, %h4⟩, ⟨%f5, H5, %h5⟩⟩
    unfold k0_t5_body
    simp only [k0_part1_eq_skeleton]
    unfold k0_part1_skel
    sl_exec
    sl_step
    have e6 := readAt_rows (R := 4128) arg6.view 544 _ (k0_off9_eq k) (k0_off9_inb i k k0_h) g6
    isplitl [H6]; · iexact H6
    isplitl [H4]
    · iexists _; isplitl [H4]; · iexact H4
      ipureintro
      exact fill8_step (R := 4096) arg4.view 0 k.val hk (dB3 (arg6.view.read (Elt F) g6)) g4 f4 h4 ((k0_off10_eq k).trans (by rw [Nat.zero_add])) _ _
        ((congrArg (fun v => k0_pay12 0#32 1#32 k v) e6))
    · iexists _; isplitl [H5]; · iexact H5
      ipureintro
      exact fill8_step (R := 4096) arg5.view 0 k.val hk (yB3 v8 v10 (arg6.view.read (Elt F) g6)) g5 f5 h5 ((k0_off10_eq k).trans (by rw [Nat.zero_add])) _ _
        ((congrArg (fun v => k0_pay13 (k0_pay5 v8) v10 0#32 1#32 k v) e6))

end Cert.PoolFwdIdeal.Run
-- ==== Proof.PoolFwdBody.lean ====
module

public import proofs.«01_k».proof.Proof.PoolFwdLoops

/-! # One grid point of the forward pool

What the body leaves in its two output blocks, per window. -/

@[expose] public section

set_option maxRecDepth 16384
set_option maxHeartbeats 4000000

noncomputable section

namespace Cert.PoolFwdIdeal.Run

open Cert.PoolRows
open Cert.PoolFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The block's rows between two blocks of zeros. -/
def padded (x0 : Vec F S1x4096x256 .f32) : Vec F S4128x256 .f32 :=
  framed (k0_pay2 (F := F)) (k0_pay3 (F := F)) (rowsFrom 16 (copied x0))

/-- A buffer's ownership, by what it reads. -/
theorem reads {c : Dev nD} {sp : Space} {s : Shape} {e : EltTy} {m : Memref sig .tc sp s e} {f : m.view.ty.Contents (Elt F)} {x : s.Idx → Elt F e}
    (h : m.view.read (Elt F) f = x) :
    iprop(m.view.loc (c : Thread nD τ) ↦[m.view.set]{fullShare} f)
      ⊢ (iprop(∃ f, ⌜m.view.read (Elt F) f = x⌝ ∗ m.view.loc (c : Thread nD τ) ↦[m.view.set]{fullShare} f) : sProp 𝕄) := by
  iintro H
  iexists f; isplitr; · ipureintro; exact h
  iexact H

/-- The body runs from the inputs' blocks `x0`, … to those and the results' blocks `o4`, …. -/
abbrev Runs (c : Dev nD) (E : Set ℕ) (i : grid0.Coords) (arg1 : Memref sig .tc .vmem S1x4096x256 .f32) (harg1 : arg1.IsWhole) (arg2 : Memref sig .tc .vmem S1x256x256 .bf16) (harg2 : arg2.IsWhole) (arg3 : Memref sig .tc .vmem S1x256 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4128x256 .f32) (harg6 : arg6.IsWhole)
    (x0 : Vec F S1x4096x256 .f32) (x1 : Vec F S1x256x256 .bf16) (x2 : Vec F S1x256 .f32) (o4 : Vec F S4096x256 .bf16) (o5 : Vec F S4096x256 .bf16) : Prop :=
  ∀ K : PUnit → sProp 𝕄,
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ ((owns (c : Thread nD τ) arg1 fullShare x0 ∗ owns (c : Thread nD τ) arg2 fullShare x1 ∗ owns (c : Thread nD τ) arg3 fullShare x2 ∗ owns (c : Thread nD τ) arg4 fullShare o4 ∗ owns (c : Thread nD τ) arg5 fullShare o5 ∗ (∃ d, owns (c : Thread nD τ) arg6 fullShare d)) -∗ K ⟨⟩))
    ⊢ wp frame (wpE (defs₀ (F := F)) Variants.none (c : Thread nD τ) none) E (cc0_pool_fwd i arg1 harg1 arg2 harg2 arg3 harg3 arg4 harg4 arg5 harg5 arg6 harg6) K

variable (c : Dev nD) (E : Set ℕ) (i : grid0.Coords) (arg1 : Memref sig .tc .vmem S1x4096x256 .f32) (harg1 : arg1.IsWhole) (arg2 : Memref sig .tc .vmem S1x256x256 .bf16) (harg2 : arg2.IsWhole) (arg3 : Memref sig .tc .vmem S1x256 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4128x256 .f32) (harg6 : arg6.IsWhole)

/-- The body at window 1. -/
theorem body0 (hc0 : k0_cond1 i = 1#1) (hc1 : ¬k0_cond2 i = 1#1) (hc2 : ¬k0_cond3 i = 1#1) (hc3 : ¬k0_cond4 i = 1#1)
    (x0 : Vec F S1x4096x256 .f32) (x1 : Vec F S1x256x256 .bf16) (x2 : Vec F S1x256 .f32) :
    Runs c E i arg1 harg1 arg2 harg2 arg3 harg3 arg4 harg4 arg5 harg5 arg6 harg6 x0 x1 x2 (rowsFrom 0 (dB0 (padded x0))) (rowsFrom 0 (yB0 x1 x2 (padded x0))) := by
  intro K
  simp only [cc0_pool_fwd_eq_skeleton]
  unfold cc0_pool_fwd_skel
  unfold owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  obtain rfl := harg1.eq_unread hf0
  obtain rfl := harg2.eq_unread hf1
  obtain rfl := harg3.eq_unread hf2
  sl_exec (disch := first | sl_exact hc0 | sl_exact hc1 | sl_exact hc2 | sl_exact hc3)
  sl_step
  iapply Hk
  have hv8 := readAt_whole harg2 x1 ![0, 0, 0] (by decide) inb_S1x256x256_S1x256x256_0_0_0
  have hv10 := readAt_whole harg3 x2 ![0, 0] (by decide) inb_S1x256_S1x256_0_0
  have r6 : arg6.view.read (Elt F) fL0 = padded x0 :=
    read_framed arg6.view fL0 fs0 _ _ _ _ _ _ (show 16 + 512 * Scf.trips k0_t1_loop.lb k0_t1_loop.ub k0_t1_loop.st = 4112 by decide)
      (fun y => (congrFun hL2 y).trans (fill8_apply (R := 4128) _ _ _ _ y))
  rw [r6] at hL5
  rw [r6, hv8, hv10] at hL7
  isplitl [H0]; · iapply (reads hf0); iexact H0
  isplitl [H1]; · iapply (reads hf1); iexact H1
  isplitl [H2]; · iapply (reads hf2); iexact H2
  isplitl [H3]; · iapply (reads (hL5.trans (fill8_all _ _ _ (by decide)))); iexact H3
  isplitl [H4]; · iapply (reads (hL7.trans (fill8_all _ _ _ (by decide)))); iexact H4
  iexists _; iexists _; isplitr; swap; · iexact HS0
  ipureintro; rfl

/-- The body at window 2. -/
theorem body1 (hc0 : ¬k0_cond1 i = 1#1) (hc1 : k0_cond2 i = 1#1) (hc2 : ¬k0_cond3 i = 1#1) (hc3 : ¬k0_cond4 i = 1#1)
    (x0 : Vec F S1x4096x256 .f32) (x1 : Vec F S1x256x256 .bf16) (x2 : Vec F S1x256 .f32) :
    Runs c E i arg1 harg1 arg2 harg2 arg3 harg3 arg4 harg4 arg5 harg5 arg6 harg6 x0 x1 x2 (rowsFrom 0 (dB1 (padded x0))) (rowsFrom 0 (yB1 x1 x2 (padded x0))) := by
  intro K
  simp only [cc0_pool_fwd_eq_skeleton]
  unfold cc0_pool_fwd_skel
  unfold owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  obtain rfl := harg1.eq_unread hf0
  obtain rfl := harg2.eq_unread hf1
  obtain rfl := harg3.eq_unread hf2
  sl_exec (disch := first | sl_exact hc0 | sl_exact hc1 | sl_exact hc2 | sl_exact hc3)
  sl_step
  iapply Hk
  have hv8 := readAt_whole harg2 x1 ![0, 0, 0] (by decide) inb_S1x256x256_S1x256x256_0_0_0
  have hv10 := readAt_whole harg3 x2 ![0, 0] (by decide) inb_S1x256_S1x256_0_0
  have r6 : arg6.view.read (Elt F) fL0 = padded x0 :=
    read_framed arg6.view fL0 fs0 _ _ _ _ _ _ (show 16 + 512 * Scf.trips k0_t1_loop.lb k0_t1_loop.ub k0_t1_loop.st = 4112 by decide)
      (fun y => (congrFun hL2 y).trans (fill8_apply (R := 4128) _ _ _ _ y))
  rw [r6] at hL5
  rw [r6, hv8, hv10] at hL7
  isplitl [H0]; · iapply (reads hf0); iexact H0
  isplitl [H1]; · iapply (reads hf1); iexact H1
  isplitl [H2]; · iapply (reads hf2); iexact H2
  isplitl [H3]; · iapply (reads (hL5.trans (fill8_all _ _ _ (by decide)))); iexact H3
  isplitl [H4]; · iapply (reads (hL7.trans (fill8_all _ _ _ (by decide)))); iexact H4
  iexists _; iexists _; isplitr; swap; · iexact HS0
  ipureintro; rfl

/-- The body at window 3. -/
theorem body2 (hc0 : ¬k0_cond1 i = 1#1) (hc1 : ¬k0_cond2 i = 1#1) (hc2 : k0_cond3 i = 1#1) (hc3 : ¬k0_cond4 i = 1#1)
    (x0 : Vec F S1x4096x256 .f32) (x1 : Vec F S1x256x256 .bf16) (x2 : Vec F S1x256 .f32) :
    Runs c E i arg1 harg1 arg2 harg2 arg3 harg3 arg4 harg4 arg5 harg5 arg6 harg6 x0 x1 x2 (rowsFrom 0 (dB2 (padded x0))) (rowsFrom 0 (yB2 x1 x2 (padded x0))) := by
  intro K
  simp only [cc0_pool_fwd_eq_skeleton]
  unfold cc0_pool_fwd_skel
  unfold owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  obtain rfl := harg1.eq_unread hf0
  obtain rfl := harg2.eq_unread hf1
  obtain rfl := harg3.eq_unread hf2
  sl_exec (disch := first | sl_exact hc0 | sl_exact hc1 | sl_exact hc2 | sl_exact hc3)
  sl_step
  iapply Hk
  have hv8 := readAt_whole harg2 x1 ![0, 0, 0] (by decide) inb_S1x256x256_S1x256x256_0_0_0
  have hv10 := readAt_whole harg3 x2 ![0, 0] (by decide) inb_S1x256_S1x256_0_0
  have r6 : arg6.view.read (Elt F) fL0 = padded x0 :=
    read_framed arg6.view fL0 fs0 _ _ _ _ _ _ (show 16 + 512 * Scf.trips k0_t1_loop.lb k0_t1_loop.ub k0_t1_loop.st = 4112 by decide)
      (fun y => (congrFun hL2 y).trans (fill8_apply (R := 4128) _ _ _ _ y))
  rw [r6] at hL5
  rw [r6, hv8, hv10] at hL7
  isplitl [H0]; · iapply (reads hf0); iexact H0
  isplitl [H1]; · iapply (reads hf1); iexact H1
  isplitl [H2]; · iapply (reads hf2); iexact H2
  isplitl [H3]; · iapply (reads (hL5.trans (fill8_all _ _ _ (by decide)))); iexact H3
  isplitl [H4]; · iapply (reads (hL7.trans (fill8_all _ _ _ (by decide)))); iexact H4
  iexists _; iexists _; isplitr; swap; · iexact HS0
  ipureintro; rfl

/-- The body at window 4. -/
theorem body3 (hc0 : ¬k0_cond1 i = 1#1) (hc1 : ¬k0_cond2 i = 1#1) (hc2 : ¬k0_cond3 i = 1#1) (hc3 : k0_cond4 i = 1#1)
    (x0 : Vec F S1x4096x256 .f32) (x1 : Vec F S1x256x256 .bf16) (x2 : Vec F S1x256 .f32) :
    Runs c E i arg1 harg1 arg2 harg2 arg3 harg3 arg4 harg4 arg5 harg5 arg6 harg6 x0 x1 x2 (rowsFrom 0 (dB3 (padded x0))) (rowsFrom 0 (yB3 x1 x2 (padded x0))) := by
  intro K
  simp only [cc0_pool_fwd_eq_skeleton]
  unfold cc0_pool_fwd_skel
  unfold owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  obtain rfl := harg1.eq_unread hf0
  obtain rfl := harg2.eq_unread hf1
  obtain rfl := harg3.eq_unread hf2
  sl_exec (disch := first | sl_exact hc0 | sl_exact hc1 | sl_exact hc2 | sl_exact hc3)
  sl_step
  iapply Hk
  have hv8 := readAt_whole harg2 x1 ![0, 0, 0] (by decide) inb_S1x256x256_S1x256x256_0_0_0
  have hv10 := readAt_whole harg3 x2 ![0, 0] (by decide) inb_S1x256_S1x256_0_0
  have r6 : arg6.view.read (Elt F) fL0 = padded x0 :=
    read_framed arg6.view fL0 fs0 _ _ _ _ _ _ (show 16 + 512 * Scf.trips k0_t1_loop.lb k0_t1_loop.ub k0_t1_loop.st = 4112 by decide)
      (fun y => (congrFun hL2 y).trans (fill8_apply (R := 4128) _ _ _ _ y))
  rw [r6] at hL5
  rw [r6, hv8, hv10] at hL7
  isplitl [H0]; · iapply (reads hf0); iexact H0
  isplitl [H1]; · iapply (reads hf1); iexact H1
  isplitl [H2]; · iapply (reads hf2); iexact H2
  isplitl [H3]; · iapply (reads (hL5.trans (fill8_all _ _ _ (by decide)))); iexact H3
  isplitl [H4]; · iapply (reads (hL7.trans (fill8_all _ _ _ (by decide)))); iexact H4
  iexists _; iexists _; isplitr; swap; · iexact HS0
  ipureintro; rfl

end Cert.PoolFwdIdeal.Run
-- ==== Proof.PoolFwdRun.lean ====
module

public import proofs.«01_k».proof.Proof.PoolFwdBody

/-! # The forward pool's launch

The pipeline's data (what the body leaves at each of its four points), the body's triple there, the run of @main and
the frame. -/

@[expose] public section

set_option maxRecDepth 16384

noncomputable section

namespace Cert.PoolFwdIdeal.Run

open Cert.PoolRows
open Cert.PoolFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave -/

/-- The pooled differences at point `n`. -/
def dAt (n : ℕ) (x : Vec F S1x4096x256 .f32) : Vec F S4096x256 .bf16 :=
  match n with
  | 0 => rowsFrom 0 (dB0 (padded x))
  | 1 => rowsFrom 0 (dB1 (padded x))
  | 2 => rowsFrom 0 (dB2 (padded x))
  | _ => rowsFrom 0 (dB3 (padded x))

/-- Their product at point `n`. -/
def yAt (n : ℕ) (x : Vec F S1x4096x256 .f32) (w : Vec F S1x256x256 .bf16) (s : Vec F S1x256 .f32) : Vec F S4096x256 .bf16 :=
  match n with
  | 0 => rowsFrom 0 (yB0 w s (padded x))
  | 1 => rowsFrom 0 (yB1 w s (padded x))
  | 2 => rowsFrom 0 (yB2 w s (padded x))
  | _ => rowsFrom 0 (yB3 w s (padded x))

/-- The pipeline's data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => dAt t.val (iblk m c 0 t)
    | ⟨4, _⟩ => yAt t.val (iblk m c 0 t) (iblk m c 1 t) (iblk m c 2 t)
  Φ _ := Pipeline.ΦA spec0 c
  q _ := fullShare
  owed _ := 0

theorem dats_A (c : Dev nD) (w : Fin cfg0.W) : (dats m 0 c).A w = V m c (Pipeline.arrRef spec0 w) := by
  dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = dAt t.val (iblk m c 0 t) := by dsimp only [dats]
theorem left4 (c : Dev nD) (t : Fin cfg0.N) : (dats m 0 c).after 4 t = yAt t.val (iblk m c 0 t) (iblk m c 1 t) (iblk m c 2 t) := by dsimp only [dats]
theorem found0 (c : Dev nD) (t : Fin cfg0.N) (d) : (dats m 0 c).before 0 t d = iblk m c 0 t :=
  before0_0_of m (dats m 0 c) (dats_A m c 0) (left0 m c) t d
theorem found1 (c : Dev nD) (t : Fin cfg0.N) (d) : (dats m 0 c).before 1 t d = iblk m c 1 t :=
  before0_1_of m (dats m 0 c) (dats_A m c 1) (left1 m c) t d
theorem found2 (c : Dev nD) (t : Fin cfg0.N) (d) : (dats m 0 c).before 2 t d = iblk m c 2 t :=
  before0_2_of m (dats m 0 c) (dats_A m c 2) (left2 m c) t d

/-! ## The body's triple at a point -/

abbrev st0 (t : Fin cfg0.N) : Memref sig .tc .vmem S1x4096x256 .f32 := win0_0.stage (cfg0.slots t 0)
abbrev st1 (t : Fin cfg0.N) : Memref sig .tc .vmem S1x256x256 .bf16 := win0_1.stage (cfg0.slots t 1)
abbrev st2 (t : Fin cfg0.N) : Memref sig .tc .vmem S1x256 .f32 := win0_2.stage (cfg0.slots t 2)
abbrev st3 (t : Fin cfg0.N) : Memref sig .tc .vmem S4096x256 .bf16 := win0_3.stage (cfg0.slots t 3)
abbrev st4 (t : Fin cfg0.N) : Memref sig .tc .vmem S4096x256 .bf16 := win0_4.stage (cfg0.slots t 4)

theorem keeps (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact
  rw [(by decide +kernel : ∀ (w : Fin cfg0.W) (t : Fin cfg0.N), cfg0.idle w (grid0.coords t) = false) w t]

theorem invariant_eq (c : Dev nD) : (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- The windows' buffers as the body finds them at a point. -/
def given (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d)))

/-- And as it leaves them. -/
def returned (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem returned_eq (c : Dev nD) (t : Fin cfg0.N) : returned m c t =
  iprop(iprop((∃ d, owns (c : Thread nD τ) (Memref.whole cc0_scratch0) fullShare d) ∗ (∃ r, prngReg c r)) ∗ (dats m 0 c).owesAt () t.castSucc
    ∗ owns (c : Thread nD τ) (st0 t) fullShare (iblk m c 0 t)
    ∗ owns (c : Thread nD τ) (st1 t) fullShare (iblk m c 1 t)
    ∗ owns (c : Thread nD τ) (st2 t) fullShare (iblk m c 2 t)
    ∗ owns (c : Thread nD τ) (st3 t) fullShare (dAt t.val (iblk m c 0 t))
    ∗ owns (c : Thread nD τ) (st4 t) fullShare (yAt t.val (iblk m c 0 t) (iblk m c 1 t) (iblk m c 2 t))) := by
  unfold returned
  rw [show (dats m 0 c).Φ t.succ = Pipeline.ΦA spec0 c from rfl,
    show (dats m 0 c).owesAt () t.succ = (dats m 0 c).owesAt () t.castSucc from rfl, invariant_eq]
  rw [keeps, keeps, keeps, keeps, keeps]
  rw [left0, left1, left2, left3, left4]

set_option maxHeartbeats 1600000 in
/-- A point, from the body's triple there. -/
theorem point (c : Dev nD) (t : Fin cfg0.N)
    (h : Runs c Set.univ (grid0.coords t) (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) (st4 t) (hstage0_4 ((cfg0.slots t 4).cast nbuf0_4)) (Memref.whole cc0_scratch0) (Memref.isWhole_whole _)
      (iblk m c 0 t) (iblk m c 1 t) (iblk m c 2 t) (dAt t.val (iblk m c 0 t)) (yAt t.val (iblk m c 0 t) (iblk m c 1 t) (iblk m c 2 t))) :
    given m c t ⊢ wp frame (wpE (defs₀ (F := F)) Variants.none c none) Set.univ (bodyAt0 t) (fun _ => returned m c t) := by
  simp only [returned_eq]
  unfold given bodyAt0
  simp only [found0, found1, found2]
  rw [show (dats m 0 c).Φ (Fin.castSucc t) = Pipeline.ΦA spec0 c from rfl, invariant_eq]
  iintro ⟨⟨HS0, Hg⟩, Ho, ⟨%d0, H0⟩, ⟨%d1, H1⟩, ⟨%d2, H2⟩, ⟨%d3, H3⟩, ⟨%d4, H4⟩⟩
  iapply (h _)
  isplitl [H0]; · iexact H0
  isplitl [H1]; · iexact H1
  isplitl [H2]; · iexact H2
  isplitl [H3]; · iexists _; iexact H3
  isplitl [H4]; · iexists _; iexact H4
  isplitl [HS0]; · iexact HS0
  iintro ⟨H0, H1, H2, H3, H4, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  iexact H4

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  refine triple_restated (?_ : given m c t ⊢ wp frame (wpE (defs₀ (F := F)) Variants.none c none) Set.univ (bodyAt0 t) (fun _ => returned m c t)) rfl .rfl fun _ => .rfl
  obtain ⟨n, h⟩ := t
  match n, h with
  | 0, h => exact point m c ⟨0, h⟩ (body0 c Set.univ (grid0.coords ⟨0, h⟩) _ _ _ _ _ _ _ _ _ _ _ _ (by decide +kernel +revert) (by decide +kernel +revert) (by decide +kernel +revert) (by decide +kernel +revert) _ _ _)
  | 1, h => exact point m c ⟨1, h⟩ (body1 c Set.univ (grid0.coords ⟨1, h⟩) _ _ _ _ _ _ _ _ _ _ _ _ (by decide +kernel +revert) (by decide +kernel +revert) (by decide +kernel +revert) (by decide +kernel +revert) _ _ _)
  | 2, h => exact point m c ⟨2, h⟩ (body2 c Set.univ (grid0.coords ⟨2, h⟩) _ _ _ _ _ _ _ _ _ _ _ _ (by decide +kernel +revert) (by decide +kernel +revert) (by decide +kernel +revert) (by decide +kernel +revert) _ _ _)
  | 3, h => exact point m c ⟨3, h⟩ (body3 c Set.univ (grid0.coords ⟨3, h⟩) _ _ _ _ _ _ _ _ _ _ _ _ (by decide +kernel +revert) (by decide +kernel +revert) (by decide +kernel +revert) (by decide +kernel +revert) _ _ _)
  | k + 4, h => exact absurd (lt_of_lt_of_eq h N_0) (by omega)

/-! ## The run and the frame -/

set_option backward.isDefEq.respectTransparency.types false in
set_option maxHeartbeats 800000 in
/-- Every execution ends, with the arrays as the data say and no semaphore raised. -/
theorem run_sems : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

theorem run_post : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_sems m ρ)

/-- The arguments end as they began, and so do the semaphores. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) (run_post m ρ)) ((θ_run defs _ _).mono (fun _ h => h.2) (run_sems m ρ))

end Cert.PoolFwdIdeal.Run
-- ==== Proof.PoolFwdRef.lean ====
module

public import proofs.«01_k».proof.Proof.Gen.PoolFwdRefIdeal.Read
public import proofs.«01_k».proof.Proof.PoolMath
public import Idealize.ShloMosaic.Lib.Pointwise
public import Idealize.ShloMosaic.Lib.Pointwise.Sums

/-! # The forward pool's reference, stage by stage -/

@[expose] public section

set_option maxRecDepth 16384
set_option maxHeartbeats 2000000

noncomputable section

namespace Cert.PoolMath

open Idealize.ShloMosaic

/-- The mean of the `W` positions that begin `h` before, over `n` of them. -/
def winMean (w : BitVec 32) (W h : ℕ) (u : Fin 4096 → EReal) (t : Fin 4096) : EReal :=
  Ideal.div (∑ n : Fin W, at' h u (t.val + n.val)) (num (cnt w (BitVec.ofNat 32 t.val)))

/-- The pooled difference of window `g`. -/
def poolDiff (g : Fin 4) (u : Fin 4096 → EReal) (t : Fin 4096) : EReal :=
  (match g with
    | 0 => winMean 1#32 2 1 u t
    | 1 => winMean 2#32 4 2 u t
    | 2 => winMean 4#32 8 4 u t
    | 3 => winMean 8#32 16 8 u t) - u t

/-- A sum over windows of a family that is zero outside its positions. -/
theorem window_pad {w lo hi : ℕ} (x : Vec Ideal (⟨2, ![4096, 256]⟩ : Shape) .f32) (v : Vec Ideal (⟨0, ![]⟩ : Shape) .f32)
    (h : (⟨2, ![4096, 256]⟩ : Shape).ReduceWindows ![w, 1] ![1, 1] ![lo, 0] ![hi, 0] ⟨2, ![4096, 256]⟩) (hu : 0 < (⟨0, ![]⟩ : Shape).numel)
    (hv : v (Shape.Idx.first hu) = 0) (t : Fin 4096) (i : Fin 256) :
    Host.reduceWindowAdd (F := Ideal) (φ := .f32) ![w, 1] ![1, 1] ![lo, 0] ![hi, 0] x v h hu (ix2 t i)
      = ∑ k : Fin w, at' lo (fun q => x (ix2 q i)) (t.val + k.val) := by
  show Ideal.hostReduceWindowAdd ![w, 1] ![1, 1] ![lo, 0] ![hi, 0] h x (v (Shape.Idx.first hu)) (ix2 t i) = _
  unfold Ideal.hostReduceWindowAdd Host.reduceWindow
  simp only [hv]
  rw [fold_sum, zero_add]
  refine (Equiv.sum_comp ((⟨2, ![w, 1]⟩ : Shape).rowMajor.symm) (fun y : (⟨2, ![w, 1]⟩ : Shape).Idx =>
    if hin : ∀ a : Fin 2, (![lo, 0] : Fin 2 → ℕ) a ≤ ((ix2 t i : (⟨2, ![4096, 256]⟩ : Shape).Idx) a).val * (![1, 1] : Fin 2 → ℕ) a + (y a).val
        ∧ ((ix2 t i : (⟨2, ![4096, 256]⟩ : Shape).Idx) a).val * (![1, 1] : Fin 2 → ℕ) a + (y a).val - (![lo, 0] : Fin 2 → ℕ) a < (⟨2, ![4096, 256]⟩ : Shape).size a
      then x (fun a => ⟨((ix2 t i : (⟨2, ![4096, 256]⟩ : Shape).Idx) a).val * (![1, 1] : Fin 2 → ℕ) a + (y a).val - (![lo, 0] : Fin 2 → ℕ) a, (hin a).2⟩) else 0)).trans ?_
  rw [sum_idx2]
  refine Finset.sum_congr rfl fun k _ => ?_
  rw [Fin.sum_univ_one]
  unfold at'
  by_cases hc : lo ≤ t.val + k.val ∧ t.val + k.val < lo + 4096
  · rw [dif_pos hc, dif_pos]
    · refine congrArg x (funext fun a => ?_)
      match a with
      | ⟨0, _⟩ => exact Fin.ext (by show t.val * 1 + k.val - lo = t.val + k.val - lo; omega)
      | ⟨1, _⟩ => exact Fin.ext (by show i.val * 1 + 0 - 0 = i.val; omega)
    · intro a
      match a with
      | ⟨0, _⟩ => exact ⟨by show lo ≤ t.val * 1 + k.val; omega, by show t.val * 1 + k.val - lo < 4096; omega⟩
      | ⟨1, _⟩ => exact ⟨Nat.zero_le _, by show i.val * 1 + 0 - 0 < 256; omega⟩
  · rw [dif_neg hc, dif_neg]
    intro hall
    have h1 : lo ≤ t.val * 1 + k.val := (hall 0).1
    have h2 : t.val * 1 + k.val - lo < 4096 := (hall 0).2
    omega

end Cert.PoolMath

namespace Cert.PoolFwdRefIdeal.Val

open Cert.PoolMath Cert.PoolFwdRefIdeal Cert.PoolFwdRefIdeal.Gen Cert.PoolFwdRefIdeal.Read
open Idealize.ShloMosaic Idealize.ShloMosaic.TcCoe Idealize.SL.Sem

theorem nil : Ideal.ofBits .f32 0x00000000#32 = 0 := by
  simp [Ideal.ofBits, Ideal.ieee]

variable (x0 : Vec Ideal S3x4096x1024 .f32) (x1 : Vec Ideal S4x256x256 .f32) (x2 : Vec Ideal S1x1024 .f32)

/-- Column `i` of group `g` of the projection the pool reads. -/
def col (g : Fin 4) (i : Fin 256) (t : Fin 4096) : EReal := x0 (ix3 0 t ⟨256 * g.val + i.val, by omega⟩)

theorem split (v : Vec Ideal S4096x1024 .f32) (t : Fin 4096) (g : Fin 4) (o : Fin 256) :
    shapeCast S4096x4x256 v shapeCasts_S4096x1024_S4096x4x256 (ix3 t g o) = v (ix2 t ⟨256 * g.val + o.val, by omega⟩) := by
  pointwise []
  exact congrArg v (congrArg (ix2 t) (Fin.ext (by show g.val * 256 + o.val = 256 * g.val + o.val; omega)))

theorem join (v : Vec Ideal S4096x4x256 .f32) (t : Fin 4096) (g : Fin 4) (o : Fin 256) :
    shapeCast S4096x1024 v shapeCasts_S4096x4x256_S4096x1024 (ix2 t ⟨256 * g.val + o.val, by omega⟩) = v (ix3 t g o) := by
  pointwise []

theorem r2 (t : Fin 4096) (g : Fin 4) (i : Fin 256) : val_main_v2 (F := Ideal) x0 (ix3 t g i) = col x0 g i t := by
  refine (split _ t g i).trans ?_
  pointwise [val_main_v1, val_main_v0, col]

/-! ## Window 1 -/

theorem a0 (t : Fin 4096) (i : Fin 256) : val_main_v4 (F := Ideal) x0 (ix2 t i) = col x0 0 i t := by
  have e : val_main_v4 (F := Ideal) x0 (ix2 t i) = val_main_v2 (F := Ideal) x0 (ix3 t 0 i) := by
    pointwise [val_main_v4, val_main_v3]
  rw [e, r2]

theorem n0 (t : Fin 4096) (k : Fin 1) : val_main_v19 (F := Ideal) (ix2 t k) = num (cnt 1#32 (BitVec.ofNat 32 t.val)) := by
  pointwise [val_main_c, val_main_c_0, val_main_c_1, val_main_c_2, val_main_v5, val_main_v6, val_main_v7, val_main_v8, val_main_v9, val_main_v10, val_main_v11, val_main_v12, val_main_v13, val_main_v14, val_main_v15, val_main_v18, val_main_v19]
  rfl

theorem m0 (t : Fin 4096) (i : Fin 256) : val_main_v21 (F := Ideal) x0 (ix2 t i) = winMean 1#32 2 1 (col x0 0 i) t := by
  have e : val_main_v17 (F := Ideal) x0 (ix2 t i) = ∑ n : Fin 2, at' 1 (col x0 0 i) (t.val + n.val) := by
    refine (window_pad (w := 2) (lo := 1) (val_main_v4 (F := Ideal) x0) (val_main_v16 (F := Ideal)) _ h_S_ (by pointwise [val_main_v16, val_main_cst, nil]) t i).trans ?_
    exact Finset.sum_congr rfl fun n _ => congrArg (fun f => at' 1 f (t.val + n.val)) (funext fun q => a0 x0 q i)
  pointwise [val_main_v21, val_main_v20, n0, e, winMean]

theorem c0 (t : Fin 4096) (i : Fin 256) : val_main_v84 (F := Ideal) x0 (ix3 t 0 i) = poolDiff 0 (col x0 0 i) t := by
  have e : val_main_v83 (F := Ideal) x0 (ix3 t 0 i) = val_main_v21 (F := Ideal) x0 (ix2 t i) := by
    pointwise [val_main_v83, val_main_v79]
  show val_main_v83 (F := Ideal) x0 (ix3 t 0 i) - val_main_v2 (F := Ideal) x0 (ix3 t 0 i) = _
  rw [e, m0, r2]
  rfl

/-! ## Window 2 -/

theorem a1 (t : Fin 4096) (i : Fin 256) : val_main_v23 (F := Ideal) x0 (ix2 t i) = col x0 1 i t := by
  have e : val_main_v23 (F := Ideal) x0 (ix2 t i) = val_main_v2 (F := Ideal) x0 (ix3 t 1 i) := by
    pointwise [val_main_v23, val_main_v22]
  rw [e, r2]

theorem n1 (t : Fin 4096) (k : Fin 1) : val_main_v38 (F := Ideal) (ix2 t k) = num (cnt 2#32 (BitVec.ofNat 32 t.val)) := by
  pointwise [val_main_c_3, val_main_c_4, val_main_c_5, val_main_c_6, val_main_v24, val_main_v25, val_main_v26, val_main_v27, val_main_v28, val_main_v29, val_main_v30, val_main_v31, val_main_v32, val_main_v33, val_main_v34, val_main_v37, val_main_v38]
  rfl

theorem m1 (t : Fin 4096) (i : Fin 256) : val_main_v40 (F := Ideal) x0 (ix2 t i) = winMean 2#32 4 2 (col x0 1 i) t := by
  have e : val_main_v36 (F := Ideal) x0 (ix2 t i) = ∑ n : Fin 4, at' 2 (col x0 1 i) (t.val + n.val) := by
    refine (window_pad (w := 4) (lo := 2) (val_main_v23 (F := Ideal) x0) (val_main_v35 (F := Ideal)) _ h_S_ (by pointwise [val_main_v35, val_main_cst_7, nil]) t i).trans ?_
    exact Finset.sum_congr rfl fun n _ => congrArg (fun f => at' 2 f (t.val + n.val)) (funext fun q => a1 x0 q i)
  pointwise [val_main_v40, val_main_v39, n1, e, winMean]

theorem c1 (t : Fin 4096) (i : Fin 256) : val_main_v84 (F := Ideal) x0 (ix3 t 1 i) = poolDiff 1 (col x0 1 i) t := by
  have e : val_main_v83 (F := Ideal) x0 (ix3 t 1 i) = val_main_v40 (F := Ideal) x0 (ix2 t i) := by
    pointwise [val_main_v83, val_main_v80]
  show val_main_v83 (F := Ideal) x0 (ix3 t 1 i) - val_main_v2 (F := Ideal) x0 (ix3 t 1 i) = _
  rw [e, m1, r2]
  rfl

/-! ## Window 3 -/

theorem a2 (t : Fin 4096) (i : Fin 256) : val_main_v42 (F := Ideal) x0 (ix2 t i) = col x0 2 i t := by
  have e : val_main_v42 (F := Ideal) x0 (ix2 t i) = val_main_v2 (F := Ideal) x0 (ix3 t 2 i) := by
    pointwise [val_main_v42, val_main_v41]
  rw [e, r2]

theorem n2 (t : Fin 4096) (k : Fin 1) : val_main_v57 (F := Ideal) (ix2 t k) = num (cnt 4#32 (BitVec.ofNat 32 t.val)) := by
  pointwise [val_main_c_8, val_main_c_9, val_main_c_10, val_main_c_11, val_main_v43, val_main_v44, val_main_v45, val_main_v46, val_main_v47, val_main_v48, val_main_v49, val_main_v50, val_main_v51, val_main_v52, val_main_v53, val_main_v56, val_main_v57]
  rfl

theorem m2 (t : Fin 4096) (i : Fin 256) : val_main_v59 (F := Ideal) x0 (ix2 t i) = winMean 4#32 8 4 (col x0 2 i) t := by
  have e : val_main_v55 (F := Ideal) x0 (ix2 t i) = ∑ n : Fin 8, at' 4 (col x0 2 i) (t.val + n.val) := by
    refine (window_pad (w := 8) (lo := 4) (val_main_v42 (F := Ideal) x0) (val_main_v54 (F := Ideal)) _ h_S_ (by pointwise [val_main_v54, val_main_cst_12, nil]) t i).trans ?_
    exact Finset.sum_congr rfl fun n _ => congrArg (fun f => at' 4 f (t.val + n.val)) (funext fun q => a2 x0 q i)
  pointwise [val_main_v59, val_main_v58, n2, e, winMean]

theorem c2 (t : Fin 4096) (i : Fin 256) : val_main_v84 (F := Ideal) x0 (ix3 t 2 i) = poolDiff 2 (col x0 2 i) t := by
  have e : val_main_v83 (F := Ideal) x0 (ix3 t 2 i) = val_main_v59 (F := Ideal) x0 (ix2 t i) := by
    pointwise [val_main_v83, val_main_v81]
  show val_main_v83 (F := Ideal) x0 (ix3 t 2 i) - val_main_v2 (F := Ideal) x0 (ix3 t 2 i) = _
  rw [e, m2, r2]
  rfl

/-! ## Window 4 -/

theorem a3 (t : Fin 4096) (i : Fin 256) : val_main_v61 (F := Ideal) x0 (ix2 t i) = col x0 3 i t := by
  have e : val_main_v61 (F := Ideal) x0 (ix2 t i) = val_main_v2 (F := Ideal) x0 (ix3 t 3 i) := by
    pointwise [val_main_v61, val_main_v60]
  rw [e, r2]

theorem n3 (t : Fin 4096) (k : Fin 1) : val_main_v76 (F := Ideal) (ix2 t k) = num (cnt 8#32 (BitVec.ofNat 32 t.val)) := by
  pointwise [val_main_c_13, val_main_c_14, val_main_c_15, val_main_c_16, val_main_v62, val_main_v63, val_main_v64, val_main_v65, val_main_v66, val_main_v67, val_main_v68, val_main_v69, val_main_v70, val_main_v71, val_main_v72, val_main_v75, val_main_v76]
  rfl

theorem m3 (t : Fin 4096) (i : Fin 256) : val_main_v78 (F := Ideal) x0 (ix2 t i) = winMean 8#32 16 8 (col x0 3 i) t := by
  have e : val_main_v74 (F := Ideal) x0 (ix2 t i) = ∑ n : Fin 16, at' 8 (col x0 3 i) (t.val + n.val) := by
    refine (window_pad (w := 16) (lo := 8) (val_main_v61 (F := Ideal) x0) (val_main_v73 (F := Ideal)) _ h_S_ (by pointwise [val_main_v73, val_main_cst_17, nil]) t i).trans ?_
    exact Finset.sum_congr rfl fun n _ => congrArg (fun f => at' 8 f (t.val + n.val)) (funext fun q => a3 x0 q i)
  pointwise [val_main_v78, val_main_v77, n3, e, winMean]

theorem c3 (t : Fin 4096) (i : Fin 256) : val_main_v84 (F := Ideal) x0 (ix3 t 3 i) = poolDiff 3 (col x0 3 i) t := by
  have e : val_main_v83 (F := Ideal) x0 (ix3 t 3 i) = val_main_v78 (F := Ideal) x0 (ix2 t i) := by
    pointwise [val_main_v83, val_main_v82]
  show val_main_v83 (F := Ideal) x0 (ix3 t 3 i) - val_main_v2 (F := Ideal) x0 (ix3 t 3 i) = _
  rw [e, m3, r2]
  rfl

/-! ## The results -/

theorem r84 (t : Fin 4096) (g : Fin 4) (i : Fin 256) : val_main_v84 (F := Ideal) x0 (ix3 t g i) = poolDiff g (col x0 g i) t := by
  match g with
  | 0 => exact c0 x0 t i
  | 1 => exact c1 x0 t i
  | 2 => exact c2 x0 t i
  | 3 => exact c3 x0 t i

/-- The pooled differences. -/
theorem r86 (t : Fin 4096) (g : Fin 4) (i : Fin 256) :
    val_main_v86 (F := Ideal) x0 (ix2 t ⟨256 * g.val + i.val, by omega⟩) = poolDiff g (col x0 g i) t :=
  (join _ t g i).trans (r84 x0 t g i)

/-- They are the same where the product takes them. -/
theorem again : val_main_v171 (F := Ideal) x0 = val_main_v84 (F := Ideal) x0 := rfl

theorem r172 (g : Fin 4) (o : Fin 256) (t : Fin 4096) :
    val_main_v172 (F := Ideal) x0 x1 (ix3 g o t) = ∑ i : Fin 256, gw x1 g i o * poolDiff g (col x0 g i) t := by
  pointwise [val_main_v172, again, r84, gw]

theorem r173 (t : Fin 4096) (g : Fin 4) (o : Fin 256) :
    val_main_v173 (F := Ideal) x0 x1 (ix3 t g o) = ∑ i : Fin 256, gw x1 g i o * poolDiff g (col x0 g i) t := by
  pointwise [val_main_v173, r172]

/-- The product with the group's matrix, scaled. -/
theorem r177 (t : Fin 4096) (g : Fin 4) (o : Fin 256) :
    val_main_v177 (F := Ideal) x0 x1 x2 (ix2 t ⟨256 * g.val + o.val, by omega⟩)
      = (∑ i : Fin 256, gw x1 g i o * poolDiff g (col x0 g i) t) * gs x2 g o := by
  have e : val_main_v174 (F := Ideal) x0 x1 (ix2 t ⟨256 * g.val + o.val, by omega⟩) = ∑ i : Fin 256, gw x1 g i o * poolDiff g (col x0 g i) t :=
    (join _ t g o).trans (r173 x0 x1 t g o)
  pointwise [val_main_v177, val_main_v176, val_main_v175, e, gs]

end Cert.PoolFwdRefIdeal.Val
-- ==== Proof.PoolFwdVal.lean ====
module

public import proofs.«01_k».proof.Proof.PoolFwdRun
public import proofs.«01_k».proof.Proof.PoolFwdRef
public import proofs.«01_k».proof.Proof.PoolVal

/-! # The forward pool's blocks, read at an index -/

@[expose] public section

set_option maxRecDepth 16384
set_option maxHeartbeats 2000000

noncomputable section

namespace Cert.PoolFwdIdeal.Val

open Cert.PoolRows Cert.PoolMath Cert.PoolFwdIdeal Cert.PoolFwdIdeal.Gen Cert.PoolFwdIdeal.Run
open Cert.PoolBwdIdeal.Val (roll0 roll1 roll2 roll4 roll0_at roll1_at roll2_at roll4_at one ofNat_eq)
open Idealize.ShloMosaic Idealize.ShloMosaic.TcCoe Idealize.SL.Sem

variable (x0 : Vec Ideal S1x4096x256 .f32) (x1 : Vec Ideal S1x256x256 .bf16) (x2 : Vec Ideal S1x256 .f32)

/-- Column `i` of the block. -/
def bc (x0 : Vec Ideal S1x4096x256 .f32) (i : Fin 256) : Fin 4096 → EReal := fun t => x0 (ix3 0 t i)
def bw (x1 : Vec Ideal S1x256x256 .bf16) : Fin 256 → Fin 256 → EReal := fun i o => x1 (ix3 0 i o)
def bs (x2 : Vec Ideal S1x256 .f32) : Fin 256 → EReal := fun o => x2 (ix2 0 o)

theorem zero_top (r : Fin 16) (i : Fin 256) : k0_pay2 (F := Ideal) (ix2 r i) = 0 := by pointwise [k0_pay2, k0_pay1]
theorem zero_bot (r : Fin 16) (i : Fin 256) : k0_pay3 (F := Ideal) (ix2 r i) = 0 := by pointwise [k0_pay3, k0_pay1]

/-- The blocks one under the other are the family their entries come from. -/
theorem rowsFrom_at {R : ℕ} [NeZero R] (s : ℕ) (p : Fin 8 → (⟨2, ![512, 256]⟩ : Shape).Idx → EReal) (f : Fin 4096 → EReal) (i : Fin 256)
    (h : ∀ (k : Fin 8) (z : Fin 512), p k (ix2 z i) = f (Fin.ofNat 4096 (512 * k.val + z.val)))
    (r : Fin R) (t : Fin 4096) (hr : r.val = t.val + s) : rowsFrom (R := R) s p (ix2 r i) = f t := by
  have ht : t.val < 4096 := t.isLt
  have e : r.val - s = t.val := by omega
  have h8 : (Fin.ofNat 8 (t.val / 512)).val = t.val / 512 := Nat.mod_eq_of_lt (by omega)
  have h5 : (Fin.ofNat 512 t.val).val = t.val % 512 := rfl
  unfold rowsFrom
  show p (Fin.ofNat 8 ((r.val - s) / 512)) (ix2 (Fin.ofNat 512 (r.val - s)) i) = _
  rw [e, h]
  exact congrArg f (ofNat_eq t _ (by rw [h8, h5]; omega))

theorem copied_at (k : Fin 8) (z : Fin 512) (i : Fin 256) : copied x0 k (ix2 z i) = bc x0 i (Fin.ofNat 4096 (512 * k.val + z.val)) := by
  pointwise [copied, k0_pay4]
  rfl

theorem padded_at (r : Fin 4128) (i : Fin 256) : padded x0 (ix2 r i) = at' 16 (bc x0 i) r.val := by
  unfold padded framed at'
  show (if 16 ≤ r.val ∧ r.val < 4112 then rowsFrom (R := 4128) 16 (copied x0) (ix2 r i)
    else if r.val < 16 then k0_pay2 (F := Ideal) (ix2 (Fin.ofNat 16 r.val) i) else k0_pay3 (F := Ideal) (ix2 (Fin.ofNat 16 (r.val - 4112)) i)) = _
  by_cases h : 16 ≤ r.val ∧ r.val < 4112
  · rw [if_pos h, dif_pos (by omega)]
    exact rowsFrom_at 16 _ _ i (fun k z => copied_at x0 k z i) r ⟨r.val - 16, by omega⟩ (by show r.val = r.val - 16 + 16; omega)
  · rw [if_neg h, dif_neg (by omega)]
    split
    · exact zero_top _ _
    · exact zero_bot _ _

/-- The rows a trip loads. -/
abbrev win (k : Fin 8) : FVec Ideal S544x256 .f32 := rows (R := 4128) 544 (512 * k.val) (padded x0)

theorem win_at (k : Fin 8) (i : Fin 256) (m : ℕ) (hm : m < 544) : win x0 k (ix2 ⟨m, hm⟩ i) = at' 16 (bc x0 i) (512 * k.val + m) := by
  have hv : (Fin.ofNat 4128 (512 * k.val + m)).val = 512 * k.val + m := Nat.mod_eq_of_lt (by omega)
  show padded x0 (ix2 (Fin.ofNat 4128 (512 * k.val + m)) i) = _
  rw [padded_at, hv]

theorem pos (k z : ℕ) (hk : k < 8) : IntOp.addi (Scalar.muli (Scf.iv 0#32 1#32 k) 512#32) (BitVec.ofNat 32 z) = BitVec.ofNat 32 (512 * k + z) := by
  have h : Scalar.muli (Scf.iv 0#32 1#32 k) 512#32 = BitVec.ofNat 32 (512 * k) := by
    revert k; decide +kernel
  rw [h, BitVec.ofNat_add]; rfl

/-- A sum of rows over the count, less the row itself, is the pooled difference. -/
theorem pooled (w : BitVec 32) (W h : ℕ) (hh : h ≤ 16) (u : Fin 4096 → EReal) (k : Fin 8) (z : Fin 512)
    (hn : ∀ p : Fin 4096, cnt w (BitVec.ofNat 32 p.val) ≠ 0#32) :
    (∑ n : Fin W, at' 16 u (512 * k.val + (z.val + (16 - h) + n.val))) * Ideal.div 1 (num (cnt w (BitVec.ofNat 32 (512 * k.val + z.val))))
        - at' 16 u (512 * k.val + (16 + z.val))
      = winMean w W h u (Fin.ofNat 4096 (512 * k.val + z.val)) - u (Fin.ofNat 4096 (512 * k.val + z.val)) := by
  have hv : (Fin.ofNat 4096 (512 * k.val + z.val)).val = 512 * k.val + z.val := Nat.mod_eq_of_lt (by omega)
  have e1 : at' 16 u (512 * k.val + (16 + z.val)) = u (Fin.ofNat 4096 (512 * k.val + z.val)) := by
    unfold at'
    rw [dif_pos (by omega)]
    exact congrArg u (Fin.ext (by rw [hv]; show 512 * k.val + (16 + z.val) - 16 = _; omega))
  have e2 : (∑ n : Fin W, at' 16 u (512 * k.val + (z.val + (16 - h) + n.val))) = ∑ n : Fin W, at' h u (512 * k.val + z.val + n.val) :=
    Finset.sum_congr rfl fun n _ => at'_shift _ _ _ _ _ (by omega)
  unfold winMean
  rw [e1, e2, hv]
  exact congrArg (fun a : EReal => a - u (Fin.ofNat 4096 (512 * k.val + z.val)))
    (Ideal.mul_one_div (num_ne _ (hv ▸ hn (Fin.ofNat 4096 (512 * k.val + z.val)))))

/-- The last lines of a trip: the windows' sums `s` over the counts, less the rows themselves. -/
def ends (s v : FVec Ideal S544x256 .f32) (w a : BitVec 32) : FVec Ideal S512x256 .bf16 :=
  have p : IVec S512x1 32 := addi (broadcast S512x1 a) (iota .tc S512x1 32 [0] iota_S512x1_d0_w32)
  have n : IVec S512x1 32 := subi (minsi (addi p (broadcast S512x1 w)) (broadcast S512x1 4096#32)) (maxsi (subi p (broadcast S512x1 w)) (broadcast S512x1 0#32))
  have q : FVec Ideal S512x1 .f32 := divf (broadcast S512x1 (Scalar.ofBits .f32 0x3F800000#32)) (sitofp .f32 n)
  truncf .bf16 (subf (mulf (extractStridedSlice S512x256 ![16, 0] s slices_S544x256_o16_0_S512x256) (broadcastTo S512x256 q broadcasts_S512x1_S512x256))
    (extractStridedSlice S512x256 ![16, 0] v slices_S544x256_o16_0_S512x256)) bitsLt_bf16_f32

theorem ends_at (s v : FVec Ideal S544x256 .f32) (w : BitVec 32) (k : Fin 8) (z : Fin 512) (i : Fin 256) :
    ends s v w (Scalar.muli (Scf.iv 0#32 1#32 k.val) 512#32) (ix2 z i)
      = s (ix2 ⟨16 + z.val, by omega⟩ i) * Ideal.div 1 (num (cnt w (BitVec.ofNat 32 (512 * k.val + z.val)))) - v (ix2 ⟨16 + z.val, by omega⟩ i) := by
  pointwise [ends, one, pos _ _ k.isLt]
  rfl

/-- The product's last lines. -/
def prod (d : FVec Ideal S512x256 .bf16) (w : FVec Ideal S256x256 .bf16) (s : Vec Ideal S1x256 .f32) : FVec Ideal S512x256 .bf16 :=
  truncf .bf16 (mulf (matmul dot_S512x256_S256x256_S512x256_1_0_0_1_n_n none d w (constant S512x256 .f32 0x00000000#32))
    (broadcastTo S512x256 s broadcasts_S1x256_S512x256)) bitsLt_bf16_f32

theorem prod_at (d : FVec Ideal S512x256 .bf16) (z : Fin 512) (o : Fin 256) :
    prod d (k0_pay5 x1) x2 (ix2 z o) = (∑ i : Fin 256, d (ix2 z i) * bw x1 i o) * bs x2 o := by
  pointwise [prod, k0_pay5, bw, bs]

/-! ## The window of 2 positions -/

theorem sum0 (k : Fin 8) (z : Fin 512) (i : Fin 256) :
    roll0 (win x0 k) (ix2 ⟨16 + z.val, by omega⟩ i) = ∑ n : Fin 2, at' 16 (bc x0 i) (512 * k.val + (z.val + (16 - 1) + n.val)) := by
  have hz : z.val < 512 := z.isLt
  generalize hf : (fun m : ℕ => at' 16 (bc x0 i) (512 * k.val + m)) = f
  have e : ∀ m : ℕ, at' 16 (bc x0 i) (512 * k.val + m) = f m := fun m => congrFun hf m
  have r : ∀ (m : ℕ) (hm : m < 544), win x0 k (ix2 ⟨m, hm⟩ i) = f m := fun m hm => (win_at x0 k i m hm).trans (e m)
  have r0 := roll0_at _ i f r
  rw [r0 _ _ (by omega)]
  simp only [e]
  rw [Fin.sum_univ_eq_sum_range (fun n => f (z.val + (16 - 1) + n)) 2]
  simp only [Finset.sum_range_succ, Finset.sum_range_zero, zero_add, Nat.add_comm 16 z.val]
  simp (disch := omega) only [Nat.add_assoc, Nat.add_sub_assoc]
  simp only [Nat.reduceAdd, Nat.reduceSub, Nat.add_zero]
  abel

theorem e0 (k : Fin 8) (v : FVec Ideal S544x256 .f32) : k0_pay6 (tr0 k) v = ends (roll0 v) v 1#32 (Scalar.muli (Scf.iv 0#32 1#32 k.val) 512#32) := rfl

theorem dB0_at (k : Fin 8) (z : Fin 512) (i : Fin 256) :
    dB0 (padded x0) k (ix2 z i) = poolDiff 0 (bc x0 i) (Fin.ofNat 4096 (512 * k.val + z.val)) := by
  have hr : dB0 (padded x0) k (ix2 z i) = roll0 (win x0 k) (ix2 ⟨16 + z.val, by omega⟩ i) * Ideal.div 1 (num (cnt 1#32 (BitVec.ofNat 32 (512 * k.val + z.val))))
      - win x0 k (ix2 ⟨16 + z.val, by omega⟩ i) :=
    (congrFun (e0 k (win x0 k)) _).trans (ends_at _ _ 1#32 k z i)
  rw [hr, sum0, win_at]
  exact pooled 1#32 2 1 (by omega) (bc x0 i) k z cnt1

theorem d0_at (t : Fin 4096) (i : Fin 256) : rowsFrom (R := 4096) 0 (dB0 (padded x0)) (ix2 t i) = poolDiff 0 (bc x0 i) t :=
  rowsFrom_at 0 _ _ i (fun k z => dB0_at x0 k z i) t t rfl

theorem y0_at (t : Fin 4096) (o : Fin 256) :
    rowsFrom (R := 4096) 0 (yB0 x1 x2 (padded x0)) (ix2 t o) = (∑ i : Fin 256, bw x1 i o * poolDiff 0 (bc x0 i) t) * bs x2 o := by
  refine rowsFrom_at 0 _ (fun t => (∑ i : Fin 256, bw x1 i o * poolDiff 0 (bc x0 i) t) * bs x2 o) o (fun k z => ?_) t t rfl
  have hy : yB0 x1 x2 (padded x0) k (ix2 z o) = (∑ i : Fin 256, dB0 (padded x0) k (ix2 z i) * bw x1 i o) * bs x2 o :=
    prod_at x1 x2 (dB0 (padded x0) k) z o
  rw [hy]
  exact congrArg (fun a : EReal => a * bs x2 o) (Finset.sum_congr rfl fun i _ => (mul_comm _ _).trans (congrArg _ (dB0_at x0 k z i)))

/-! ## The window of 4 positions -/

theorem sum1 (k : Fin 8) (z : Fin 512) (i : Fin 256) :
    roll1 (roll0 (win x0 k)) (ix2 ⟨16 + z.val, by omega⟩ i) = ∑ n : Fin 4, at' 16 (bc x0 i) (512 * k.val + (z.val + (16 - 2) + n.val)) := by
  have hz : z.val < 512 := z.isLt
  generalize hf : (fun m : ℕ => at' 16 (bc x0 i) (512 * k.val + m)) = f
  have e : ∀ m : ℕ, at' 16 (bc x0 i) (512 * k.val + m) = f m := fun m => congrFun hf m
  have r : ∀ (m : ℕ) (hm : m < 544), win x0 k (ix2 ⟨m, hm⟩ i) = f m := fun m hm => (win_at x0 k i m hm).trans (e m)
  have r0 := roll0_at _ i f r
  have r1 := roll1_at _ i (fun m => f m + f (m - 1)) 1 544 (fun m hm h _ => r0 m hm h) (by omega)
  rw [r1 _ _ (by omega) (by omega)]
  simp only [e]
  rw [Fin.sum_univ_eq_sum_range (fun n => f (z.val + (16 - 2) + n)) 4]
  simp only [Finset.sum_range_succ, Finset.sum_range_zero, zero_add, Nat.add_comm 16 z.val]
  simp (disch := omega) only [Nat.add_assoc, Nat.add_sub_assoc]
  simp only [Nat.reduceAdd, Nat.reduceSub, Nat.add_zero]
  abel

theorem e1 (k : Fin 8) (v : FVec Ideal S544x256 .f32) : k0_pay8 (tr1 k) v = ends (roll1 (roll0 v)) v 2#32 (Scalar.muli (Scf.iv 0#32 1#32 k.val) 512#32) := rfl

theorem dB1_at (k : Fin 8) (z : Fin 512) (i : Fin 256) :
    dB1 (padded x0) k (ix2 z i) = poolDiff 1 (bc x0 i) (Fin.ofNat 4096 (512 * k.val + z.val)) := by
  have hr : dB1 (padded x0) k (ix2 z i) = roll1 (roll0 (win x0 k)) (ix2 ⟨16 + z.val, by omega⟩ i) * Ideal.div 1 (num (cnt 2#32 (BitVec.ofNat 32 (512 * k.val + z.val))))
      - win x0 k (ix2 ⟨16 + z.val, by omega⟩ i) :=
    (congrFun (e1 k (win x0 k)) _).trans (ends_at _ _ 2#32 k z i)
  rw [hr, sum1, win_at]
  exact pooled 2#32 4 2 (by omega) (bc x0 i) k z cnt2

theorem d1_at (t : Fin 4096) (i : Fin 256) : rowsFrom (R := 4096) 0 (dB1 (padded x0)) (ix2 t i) = poolDiff 1 (bc x0 i) t :=
  rowsFrom_at 0 _ _ i (fun k z => dB1_at x0 k z i) t t rfl

theorem y1_at (t : Fin 4096) (o : Fin 256) :
    rowsFrom (R := 4096) 0 (yB1 x1 x2 (padded x0)) (ix2 t o) = (∑ i : Fin 256, bw x1 i o * poolDiff 1 (bc x0 i) t) * bs x2 o := by
  refine rowsFrom_at 0 _ (fun t => (∑ i : Fin 256, bw x1 i o * poolDiff 1 (bc x0 i) t) * bs x2 o) o (fun k z => ?_) t t rfl
  have hy : yB1 x1 x2 (padded x0) k (ix2 z o) = (∑ i : Fin 256, dB1 (padded x0) k (ix2 z i) * bw x1 i o) * bs x2 o :=
    prod_at x1 x2 (dB1 (padded x0) k) z o
  rw [hy]
  exact congrArg (fun a : EReal => a * bs x2 o) (Finset.sum_congr rfl fun i _ => (mul_comm _ _).trans (congrArg _ (dB1_at x0 k z i)))

/-! ## The window of 8 positions -/

theorem sum2 (k : Fin 8) (z : Fin 512) (i : Fin 256) :
    roll2 (roll1 (roll0 (win x0 k))) (ix2 ⟨16 + z.val, by omega⟩ i) = ∑ n : Fin 8, at' 16 (bc x0 i) (512 * k.val + (z.val + (16 - 4) + n.val)) := by
  have hz : z.val < 512 := z.isLt
  generalize hf : (fun m : ℕ => at' 16 (bc x0 i) (512 * k.val + m)) = f
  have e : ∀ m : ℕ, at' 16 (bc x0 i) (512 * k.val + m) = f m := fun m => congrFun hf m
  have r : ∀ (m : ℕ) (hm : m < 544), win x0 k (ix2 ⟨m, hm⟩ i) = f m := fun m hm => (win_at x0 k i m hm).trans (e m)
  have r0 := roll0_at _ i f r
  have r1 := roll1_at _ i (fun m => f m + f (m - 1)) 1 544 (fun m hm h _ => r0 m hm h) (by omega)
  have r2 := roll2_at _ i (fun m => (fun m => f m + f (m - 1)) (m - 1) + (fun m => f m + f (m - 1)) (m + 1)) 2 543 (fun m hm h h2 => r1 m hm (by omega) (by omega)) (by omega)
  rw [r2 _ _ (by omega) (by omega)]
  simp only [e]
  rw [Fin.sum_univ_eq_sum_range (fun n => f (z.val + (16 - 4) + n)) 8]
  simp only [Finset.sum_range_succ, Finset.sum_range_zero, zero_add, Nat.add_comm 16 z.val]
  simp (disch := omega) only [Nat.add_assoc, Nat.add_sub_assoc]
  simp only [Nat.reduceAdd, Nat.reduceSub, Nat.add_zero]
  abel

theorem e2 (k : Fin 8) (v : FVec Ideal S544x256 .f32) : k0_pay10 (tr2 k) v = ends (roll2 (roll1 (roll0 v))) v 4#32 (Scalar.muli (Scf.iv 0#32 1#32 k.val) 512#32) := rfl

theorem dB2_at (k : Fin 8) (z : Fin 512) (i : Fin 256) :
    dB2 (padded x0) k (ix2 z i) = poolDiff 2 (bc x0 i) (Fin.ofNat 4096 (512 * k.val + z.val)) := by
  have hr : dB2 (padded x0) k (ix2 z i) = roll2 (roll1 (roll0 (win x0 k))) (ix2 ⟨16 + z.val, by omega⟩ i) * Ideal.div 1 (num (cnt 4#32 (BitVec.ofNat 32 (512 * k.val + z.val))))
      - win x0 k (ix2 ⟨16 + z.val, by omega⟩ i) :=
    (congrFun (e2 k (win x0 k)) _).trans (ends_at _ _ 4#32 k z i)
  rw [hr, sum2, win_at]
  exact pooled 4#32 8 4 (by omega) (bc x0 i) k z cnt4

theorem d2_at (t : Fin 4096) (i : Fin 256) : rowsFrom (R := 4096) 0 (dB2 (padded x0)) (ix2 t i) = poolDiff 2 (bc x0 i) t :=
  rowsFrom_at 0 _ _ i (fun k z => dB2_at x0 k z i) t t rfl

theorem y2_at (t : Fin 4096) (o : Fin 256) :
    rowsFrom (R := 4096) 0 (yB2 x1 x2 (padded x0)) (ix2 t o) = (∑ i : Fin 256, bw x1 i o * poolDiff 2 (bc x0 i) t) * bs x2 o := by
  refine rowsFrom_at 0 _ (fun t => (∑ i : Fin 256, bw x1 i o * poolDiff 2 (bc x0 i) t) * bs x2 o) o (fun k z => ?_) t t rfl
  have hy : yB2 x1 x2 (padded x0) k (ix2 z o) = (∑ i : Fin 256, dB2 (padded x0) k (ix2 z i) * bw x1 i o) * bs x2 o :=
    prod_at x1 x2 (dB2 (padded x0) k) z o
  rw [hy]
  exact congrArg (fun a : EReal => a * bs x2 o) (Finset.sum_congr rfl fun i _ => (mul_comm _ _).trans (congrArg _ (dB2_at x0 k z i)))

/-! ## The window of 16 positions -/

theorem sum3 (k : Fin 8) (z : Fin 512) (i : Fin 256) :
    roll4 (roll2 (roll1 (roll0 (win x0 k)))) (ix2 ⟨16 + z.val, by omega⟩ i) = ∑ n : Fin 16, at' 16 (bc x0 i) (512 * k.val + (z.val + (16 - 8) + n.val)) := by
  have hz : z.val < 512 := z.isLt
  generalize hf : (fun m : ℕ => at' 16 (bc x0 i) (512 * k.val + m)) = f
  have e : ∀ m : ℕ, at' 16 (bc x0 i) (512 * k.val + m) = f m := fun m => congrFun hf m
  have r : ∀ (m : ℕ) (hm : m < 544), win x0 k (ix2 ⟨m, hm⟩ i) = f m := fun m hm => (win_at x0 k i m hm).trans (e m)
  have r0 := roll0_at _ i f r
  have r1 := roll1_at _ i (fun m => f m + f (m - 1)) 1 544 (fun m hm h _ => r0 m hm h) (by omega)
  have r2 := roll2_at _ i (fun m => (fun m => f m + f (m - 1)) (m - 1) + (fun m => f m + f (m - 1)) (m + 1)) 2 543 (fun m hm h h2 => r1 m hm (by omega) (by omega)) (by omega)
  have r4 := roll4_at _ i (fun m => (fun m => (fun m => f m + f (m - 1)) (m - 1) + (fun m => f m + f (m - 1)) (m + 1)) (m - 2) + (fun m => (fun m => f m + f (m - 1)) (m - 1) + (fun m => f m + f (m - 1)) (m + 1)) (m + 2)) 4 541 (fun m hm h h2 => r2 m hm (by omega) (by omega)) (by omega)
  rw [r4 _ _ (by omega) (by omega)]
  simp only [e]
  rw [Fin.sum_univ_eq_sum_range (fun n => f (z.val + (16 - 8) + n)) 16]
  simp only [Finset.sum_range_succ, Finset.sum_range_zero, zero_add, Nat.add_comm 16 z.val]
  simp (disch := omega) only [Nat.add_assoc, Nat.add_sub_assoc]
  simp only [Nat.reduceAdd, Nat.reduceSub, Nat.add_zero]
  abel

theorem e3 (k : Fin 8) (v : FVec Ideal S544x256 .f32) : k0_pay12 0#32 1#32 (tr3 k) v = ends (roll4 (roll2 (roll1 (roll0 v)))) v 8#32 (Scalar.muli (Scf.iv 0#32 1#32 k.val) 512#32) := rfl

theorem dB3_at (k : Fin 8) (z : Fin 512) (i : Fin 256) :
    dB3 (padded x0) k (ix2 z i) = poolDiff 3 (bc x0 i) (Fin.ofNat 4096 (512 * k.val + z.val)) := by
  have hr : dB3 (padded x0) k (ix2 z i) = roll4 (roll2 (roll1 (roll0 (win x0 k)))) (ix2 ⟨16 + z.val, by omega⟩ i) * Ideal.div 1 (num (cnt 8#32 (BitVec.ofNat 32 (512 * k.val + z.val))))
      - win x0 k (ix2 ⟨16 + z.val, by omega⟩ i) :=
    (congrFun (e3 k (win x0 k)) _).trans (ends_at _ _ 8#32 k z i)
  rw [hr, sum3, win_at]
  exact pooled 8#32 16 8 (by omega) (bc x0 i) k z cnt8

theorem d3_at (t : Fin 4096) (i : Fin 256) : rowsFrom (R := 4096) 0 (dB3 (padded x0)) (ix2 t i) = poolDiff 3 (bc x0 i) t :=
  rowsFrom_at 0 _ _ i (fun k z => dB3_at x0 k z i) t t rfl

theorem y3_at (t : Fin 4096) (o : Fin 256) :
    rowsFrom (R := 4096) 0 (yB3 x1 x2 (padded x0)) (ix2 t o) = (∑ i : Fin 256, bw x1 i o * poolDiff 3 (bc x0 i) t) * bs x2 o := by
  refine rowsFrom_at 0 _ (fun t => (∑ i : Fin 256, bw x1 i o * poolDiff 3 (bc x0 i) t) * bs x2 o) o (fun k z => ?_) t t rfl
  have hy : yB3 x1 x2 (padded x0) k (ix2 z o) = (∑ i : Fin 256, dB3 (padded x0) k (ix2 z i) * bw x1 i o) * bs x2 o :=
    prod_at x1 x2 (dB3 (padded x0) k) z o
  rw [hy]
  exact congrArg (fun a : EReal => a * bs x2 o) (Finset.sum_congr rfl fun i _ => (mul_comm _ _).trans (congrArg _ (dB3_at x0 k z i)))

end Cert.PoolFwdIdeal.Val
-- ==== Proof.PoolFwdArr.lean ====
module

public import proofs.«01_k».proof.Proof.PoolFwdVal
public import Idealize.ShloMosaic.Lib.StableHlo.RunRead

/-! # The forward pool's result arrays -/

@[expose] public section

set_option maxRecDepth 16384
set_option maxHeartbeats 2000000

noncomputable section

namespace Cert.PoolFwdIdeal.Val

open Cert.PoolFwdIdeal Cert.PoolFwdIdeal.Gen Cert.PoolFwdIdeal.Run Cert.PoolMath
open Idealize.ShloMosaic Idealize.ShloMosaic.TcCoe Idealize.SL.Sem
open Idealize.ShloMosaic.Pipeline (Dat)
open Cert.PoolFwdRefIdeal.Read (val_main_v86 val_main_v177)
open Cert.PoolFwdRefIdeal.Val (col r86 r177)

variable (m : (ℓ : Loc nD τ sig) → Buf (Elt Ideal) ℓ) (c : Dev nD)

/-- The arguments. -/
abbrev ap : Vec Ideal S3x4096x1024 .f32 := m ((c : Thread nD τ).loc main_arg0)
abbrev aw : Vec Ideal S4x256x256 .f32 := m ((c : Thread nD τ).loc main_arg1)
abbrev ac : Vec Ideal S1x1024 .f32 := m ((c : Thread nD τ).loc main_arg2)

abbrev gp (t : Fin cfg0.N) : Fin 4 := ⟨t.val, lt_of_lt_of_eq t.isLt N_0⟩
abbrev colA (t : Fin cfg0.N) (k : Fin 256) : Fin 1024 := ⟨256 * (gp t).val + k.val, by have := (gp t).isLt; omega⟩
abbrev colB (t : Fin cfg0.N) (k : Fin 256) : Fin 2048 := ⟨256 * (gp t).val + k.val, by have := (gp t).isLt; omega⟩

theorem idx : ∀ t : Fin cfg0.N, win0_0.index t = ![0, 0, t.val] ∧ win0_1.index t = ![t.val, 0, 0] ∧ win0_2.index t = ![0, t.val]
    ∧ win0_3.index t = ![0, t.val] ∧ win0_4.index t = ![0, t.val] :=
  (by decide +kernel : ∀ t : Fin grid0.N, _)

/-- The matrices come narrowed. -/
theorem host_w : V m c main_v0 = truncf (F := Ideal) (φ := .f32) .bf16 (aw m c) (by decide) := by
  unfold V V0
  after_reads_simp
  try rfl

/-! ## The blocks a point reads -/

theorem b0 (t : Fin cfg0.N) (z : Fin 1) (r : Fin 4096) (k : Fin 256) : iblk m c 0 t (ix3 z r k) = V m c main_arg0 (ix3 0 r (colA t k)) := by
  blk_point [iblk, idx t]

theorem b1 (t : Fin cfg0.N) (z : Fin 1) (r k : Fin 256) : iblk m c 1 t (ix3 z r k) = V m c main_v0 (ix3 (gp t) r k) := by
  blk_point [iblk, idx t]

theorem b2 (t : Fin cfg0.N) (z : Fin 1) (k : Fin 256) : iblk m c 2 t (ix2 z k) = V m c main_arg2 (ix2 0 (colA t k)) := by
  blk_point [iblk, idx t]

theorem bc_eq (t : Fin cfg0.N) (i : Fin 256) : bc (iblk m c 0 t) i = col (ap m c) (gp t) i := by
  funext r
  show iblk m c 0 t (ix3 0 r i) = _
  rw [b0, V_main_arg0]
  rfl

theorem bw_eq (t : Fin cfg0.N) : bw (iblk m c 1 t) = gw (aw m c) (gp t) := by
  funext r k
  show iblk m c 1 t (ix3 0 r k) = _
  rw [b1, host_w]
  rfl

theorem bs_eq (t : Fin cfg0.N) : bs (iblk m c 2 t) = gs (ac m c) (gp t) := by
  funext k
  show iblk m c 2 t (ix2 0 k) = _
  rw [b2, V_main_arg2]
  rfl

/-! ## What a point leaves, against the reference's arrays -/

/-- The padded array the second result is cut from. -/
def wide : Vec Ideal S4096x2048 .bf16 := fun j =>
  if h : (j 1).val < 1024 then val_main_v177 (F := Ideal) (ap m c) (aw m c) (ac m c) (ix2 (j 0) ⟨(j 1).val, h⟩) else 0

theorem dAt_at (t : Fin cfg0.N) (x : Vec Ideal S1x4096x256 .f32) (r : Fin 4096) (i : Fin 256) :
    (dAt t.val x : Vec Ideal S4096x256 .bf16) (ix2 r i) = poolDiff (gp t) (bc x i) r := by
  obtain ⟨t, ht⟩ := t
  match t, ht with
  | 0, _ => exact d0_at x r i
  | 1, _ => exact d1_at x r i
  | 2, _ => exact d2_at x r i
  | 3, _ => exact d3_at x r i
  | n + 4, ht => exact absurd (lt_of_lt_of_eq ht N_0) (by omega)

theorem yAt_at (t : Fin cfg0.N) (x : Vec Ideal S1x4096x256 .f32) (w : Vec Ideal S1x256x256 .bf16) (s : Vec Ideal S1x256 .f32) (r : Fin 4096) (o : Fin 256) :
    (yAt t.val x w s : Vec Ideal S4096x256 .bf16) (ix2 r o) = (∑ i : Fin 256, bw w i o * poolDiff (gp t) (bc x i) r) * bs s o := by
  obtain ⟨t, ht⟩ := t
  match t, ht with
  | 0, _ => exact y0_at x w s r o
  | 1, _ => exact y1_at x w s r o
  | 2, _ => exact y2_at x w s r o
  | 3, _ => exact y3_at x w s r o
  | n + 4, ht => exact absurd (lt_of_lt_of_eq ht N_0) (by omega)

theorem point3 (t : Fin cfg0.N) (r : Fin 4096) (k : Fin 256) :
    (dAt t.val (iblk m c 0 t) : Vec Ideal S4096x256 .bf16) (ix2 r k) = val_main_v86 (F := Ideal) (ap m c) (ix2 r (colA t k)) := by
  rw [dAt_at, bc_eq]
  exact (r86 (ap m c) r (gp t) k).symm

theorem point4 (t : Fin cfg0.N) (r : Fin 4096) (k : Fin 256) :
    (yAt t.val (iblk m c 0 t) (iblk m c 1 t) (iblk m c 2 t) : Vec Ideal S4096x256 .bf16) (ix2 r k) = wide m c (ix2 r (colB t k)) := by
  have hw : wide m c (ix2 r (colB t k)) = val_main_v177 (F := Ideal) (ap m c) (aw m c) (ac m c) (ix2 r (colA t k)) :=
    dif_pos (show 256 * (gp t).val + k.val < 1024 from (colA t k).isLt)
  rw [hw, yAt_at]
  simp only [bc_eq, bw_eq, bs_eq]
  exact (r177 (ap m c) (aw m c) (ac m c) r (gp t) k).symm

/-! ## The result arrays -/

theorem emb3 (W : Vec Ideal S4096x1024 .bf16) (t : Fin cfg0.N) (r : Fin 4096) (k : Fin 256) :
    W (((View.whole main_v1_0).slice (win0_3.rect t)).emb (ix2 r k)) = W (ix2 r (colA t k)) := by
  blk_point [idx t]

theorem emb4 (W : Vec Ideal S4096x2048 .bf16) (t : Fin cfg0.N) (r : Fin 4096) (k : Fin 256) :
    W (((View.whole main_v1_1).slice (win0_4.rect t)).emb (ix2 r k)) = W (ix2 r (colB t k)) := by
  blk_point [idx t]

theorem final3 : (dats m 0 c).arrAt 3 cfg0.N = val_main_v86 (F := Ideal) (ap m c) := by
  refine (dats m 0 c).arrAt_eq_of_covers 3 (val_main_v86 (F := Ideal) (ap m c)) (by decide +kernel) fun t hf y => ?_
  blk_simp
  rw [left3]
  idx_vars y
  exact (point3 m c t y0 y1).trans (emb3 (val_main_v86 (F := Ideal) (ap m c)) t y0 y1).symm

theorem final4 (r : Fin 4096) (k : Fin 1024) : (dats m 0 c).arrAt 4 cfg0.N (ix2 r ⟨k.val, by omega⟩ : S4096x2048.Idx)
    = val_main_v177 (F := Ideal) (ap m c) (aw m c) (ac m c) (ix2 r k) := by
  have e := (dats m 0 c).arrAt_eq_of_coversWhere 4 (wide m c) (P := fun i => (i (1 : Fin 2)).val < 1024) (fun β => β (1 : Fin 2) < 4)
    (by decide +kernel) (fun t hf y => by
      blk_simp
      rw [left4]
      idx_vars y
      exact (point4 m c t y0 y1).trans (emb4 (wide m c) t y0 y1).symm) (fun j => by blk_simp [Pipeline.Window.cell_apply]; omega)
  rw [e]
  have hk : ((ix2 r ⟨k.val, by omega⟩ : S4096x2048.Idx) 1).val < 1024 := k.isLt
  exact (if_pos hk).trans (dif_pos hk)

/-- The second result, cut from the padded array by the host. -/
theorem final2 : Pipeline.afterTail₀ cfgs (dats m) 0 (V0 m) [hostOps1] c main_v2
    = val_main_v177 (F := Ideal) (ap m c) (aw m c) (ac m c) := by
  have e : Pipeline.afterTail₀ cfgs (dats m) 0 (V0 m) [hostOps1] c main_v2
      = extractStridedSlice S4096x1024 ![0, 0] ((dats m 0 c).arrAt 4 cfg0.N : Vec Ideal S4096x2048 .bf16) slices_S4096x2048_S4096x1024_0_0 := by
    unfold Pipeline.afterTail₀
    after_reads_simp
    exact congrArg (fun v : Vec Ideal S4096x2048 .bf16 => extractStridedSlice S4096x1024 ![0, 0] v slices_S4096x2048_S4096x1024_0_0)
      (Pipeline.withArrays_arr spec0 (by decide +kernel) c (V0 m c) (fun w => (dats m 0 c).arrAt w cfg0.N) 4)
  rw [e]
  funext j
  idx_vars j
  refine Eq.trans ?_ (final4 m c j0 j1)
  pointwise []

/-- The run, its results the reference's values. -/
theorem run_vals (ρ : Dev nD → PrngReg) :
    θ_run defs (onTc (τ := τ) (main (F := Ideal))) ⟨m, fun _ => 0, ρ⟩ fun r => ∀ c : Dev nD,
      r.2.mem ((c.tc : Thread nD τ).loc main_v1_0) = val_main_v86 (F := Ideal) (ap m c)
      ∧ r.2.mem ((c.tc : Thread nD τ).loc main_v2) = val_main_v177 (F := Ideal) (ap m c) (aw m c) (ac m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h.1 c).1 3).trans (final3 m c),
      ((h.1 c).2 main_v2 (Pipeline.mem_restRefs_of main_v2 (by decide) (by decide))).trans (final2 m c), h.2.1 c⟩) (θ_run_and (run_post m ρ) (frame m ρ))

end Cert.PoolFwdIdeal.Val
-- ==== Proof.PoolFwdClaim.lean ====
module

public import proofs.«01_k».proof.Defs
public import proofs.«01_k».proof.Proof.PoolFwdArr
public import proofs.«01_k».proof.Proof.PoolFwdRun
public import proofs.«01_k».proof.Proof.Gen.PoolFwd
public import Idealize.ShloMosaic.Lib.Claim

/-! # The forward pool call against its lines -/

@[expose] public section

set_option maxRecDepth 16384

noncomputable section

namespace Cert.PoolFwdClaim

open Idealize.ShloMosaic Idealize.ShloMosaic.TcCoe Idealize.SL.Sem Cert.PoolFwdRefIdeal.Read

/-- The kernel's frame over words, stated of the text that is read over the reals: it is the same text. -/
def frameStated : Prop :=
  ∀ (m : (ℓ : Loc PoolFwdIdeal.nD PoolFwdIdeal.τ PoolFwdIdeal.sig) → Buf (Elt Bits) ℓ) (g : Dev PoolFwdIdeal.nD → PrngReg), True →
    θ_run (PoolFwdIdeal.defs (F := Bits)) (onTc (τ := PoolFwdIdeal.τ) (PoolFwdIdeal.main (F := Bits))) ⟨m, fun _ => 0, g⟩ (fun r => (∀ c : Dev PoolFwdIdeal.nD,
      r.2.mem ((c.tc : Thread PoolFwdIdeal.nD PoolFwdIdeal.τ).loc PoolFwdIdeal.main_arg0) = m ((c.tc : Thread PoolFwdIdeal.nD PoolFwdIdeal.τ).loc PoolFwdIdeal.main_arg0)
      ∧ r.2.mem ((c.tc : Thread PoolFwdIdeal.nD PoolFwdIdeal.τ).loc PoolFwdIdeal.main_arg1) = m ((c.tc : Thread PoolFwdIdeal.nD PoolFwdIdeal.τ).loc PoolFwdIdeal.main_arg1)
      ∧ r.2.mem ((c.tc : Thread PoolFwdIdeal.nD PoolFwdIdeal.τ).loc PoolFwdIdeal.main_arg2) = m ((c.tc : Thread PoolFwdIdeal.nD PoolFwdIdeal.τ).loc PoolFwdIdeal.main_arg2))
      ∧ r.2.sem = fun _ => 0)

theorem frameStated_eq : frameStated = Cert.quiescent_PoolFwd := by sl_kernel_rfl

theorem frame_bits : Cert.quiescent_PoolFwd := frameStated_eq ▸ (fun m ρ _ => Cert.PoolFwdIdeal.Run.frame (F := Bits) m ρ : frameStated)

theorem frame_ideal : Cert.quiescent_PoolFwdIdeal := fun m ρ _ => Cert.PoolFwdIdeal.Run.frame m ρ

theorem ref_frame : Cert.quiescent_PoolFwdRefIdeal := by
  intro m g _
  exact (θ_run _ _ _).mono (fun r h => ⟨fun c => (h c).2.2, sem_eq_zero_of_no_sems (by decide) _⟩)
    (Cert.PoolFwdRefIdeal.Value.run m g)

section run
open Cert.PoolFwdRefIdeal

/-- The reference's run with its results as the stages. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v86) = val_main_v86 (F := Ideal) (m ((c.tc : Thread nD τ).loc main_arg0))
      ∧ r.2.mem ((c.tc : Thread nD τ).loc main_v177) = val_main_v177 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v86_eq _), (h c).2.1.trans (val_main_v177_eq _), (h c).2.2⟩) (Cert.PoolFwdRefIdeal.Value.run m ρ)
end run

theorem algebraic : Cert.algebraic_PoolFwdIdeal_PoolFwdRefIdeal := by
  intro m g m' g' _ hagree
  refine ⟨fun c => _, fun c => _, Cert.PoolFwdIdeal.Val.run_vals m g, (θ_run _ _ _).mono (fun r h c => ?_) (ref_run m' g')⟩
  obtain ⟨h0, h1, h2⟩ := hagree c
  refine ⟨(h c).1.trans ?_, (h c).2.1.trans ?_, (h c).2.2⟩
  · rw [h0]
  · rw [h0, h1, h2]

end Cert.PoolFwdClaim
-- ==== Proof.MixVal.lean ====
module

public import proofs.«01_k».proof.Proof.Gen.MixBwdIdeal.Value
public import proofs.«01_k».proof.Proof.LnMath
public import Idealize.ShloMosaic.Lib.StableHlo.RunRead

/-! # The mixer's norm gradient beside the product: its five result arrays at an index -/

@[expose] public section

set_option maxRecDepth 16384

noncomputable section

namespace Cert.MixBwdIdeal.Val

open Cert.MixBwdIdeal Cert.MixBwdIdeal.Gen Cert.LnMath
open Idealize.ShloMosaic Idealize.ShloMosaic.TcCoe Idealize.SL.Sem
open Idealize.ShloMosaic.Pipeline (Dat)

/-! ## The payloads at an index -/

section pay
variable (z u a : Vec Ideal S128x2048 .f32) (g : Vec Ideal S1x2048 .f32)

/-- A row of the block the norm was taken of. -/
def zt (r : Fin 128) (k : Fin 2048) : EReal := z (ix2 r k)

/-- A row of the cotangent of the normalised block. -/
def ct (r : Fin 128) (k : Fin 2048) : EReal := Ideal.ofBits .f32 0x3F9837F0#32 * u (ix2 r k) + a (ix2 r k)

theorem p2 (r : Fin 128) (k : Fin 2048) : k0_pay2 (F := Ideal) z (ix2 r k) = xc (zt z r) k := by
  pointwise [k0_pay2, xc, zt]
theorem p3 (r : Fin 128) (k : Fin 1) : k0_pay3 (F := Ideal) z (ix2 r k) = rs (zt z r) := by
  pointwise [k0_pay3, p2, rs, ve]
theorem p4 (r : Fin 128) (k : Fin 2048) : k0_pay4 (F := Ideal) z (ix2 r k) = xh (zt z r) k := by
  pointwise [k0_pay4, p2, p3, xh]
theorem p5 (r : Fin 128) (k : Fin 2048) : k0_pay5 (F := Ideal) u a (ix2 r k) = ct u a r k := by
  pointwise [k0_pay5, ct]
theorem p6 (r : Fin 128) (k : Fin 2048) : k0_pay6 (F := Ideal) g u a (ix2 r k) = ct u a r k * g (ix2 0 k) := by
  pointwise [k0_pay6, p5]
theorem p7 (r : Fin 128) (k : Fin 1) : k0_pay7 (F := Ideal) g z u a (ix2 r k)
    = Ideal.div (∑ k, ct u a r k * g (ix2 0 k) * xh (zt z r) k) (Ideal.ofBits .f32 0x45000000#32) := by
  pointwise [k0_pay7, p6, p4]
theorem p8 (r : Fin 128) (k : Fin 2048) : k0_pay8 (F := Ideal) g u a (ix2 r k)
    = Ideal.div (∑ k, ct u a r k * g (ix2 0 k)) (Ideal.ofBits .f32 0x45000000#32) := by
  pointwise [k0_pay8, p6]
theorem p9 (r : Fin 128) (k : Fin 2048) :
    k0_pay9 (F := Ideal) (k0_pay3 z) (k0_pay4 z) (k0_pay6 g u a) (k0_pay7 g z u a) (k0_pay8 g u a) (ix2 r k)
      = dzK (zt z r) (fun k => ct u a r k * g (ix2 0 k)) k := by
  pointwise [k0_pay9, p3, p4, p6, p7, p8, dzK]
theorem p12 (r : Fin 128) (k : Fin 2048) :
    k0_pay12 (F := Ideal) (k0_pay3 z) (k0_pay4 z) (k0_pay6 g u a) (k0_pay7 g z u a) (k0_pay8 g u a) (ix2 r k)
      = dzK (zt z r) (fun k => ct u a r k * g (ix2 0 k)) k := by
  pointwise [k0_pay12, p9]
theorem p10 (r : Fin 1) (k : Fin 2048) :
    k0_pay10 (F := Ideal) (k0_pay4 z) (k0_pay5 u a) (ix2 r k) = ∑ r : Fin 128, ct u a r k * xh (zt z r) k := by
  pointwise [k0_pay10, p4, p5]
theorem p11 (r : Fin 1) (k : Fin 2048) :
    k0_pay11 (F := Ideal) (k0_pay5 u a) (ix2 r k) = ∑ r : Fin 128, ct u a r k := by
  pointwise [k0_pay11, p5]
theorem p13 (r : Fin 1) (k : Fin 2048) (v : Vec Ideal S1x2048 .f32) :
    k0_pay13 (F := Ideal) (k0_pay4 z) (k0_pay5 u a) v (ix2 r k) = v (ix2 r k) + ∑ r : Fin 128, ct u a r k * xh (zt z r) k := by
  pointwise [k0_pay13, p10]
theorem p14 (r : Fin 1) (k : Fin 2048) (v : Vec Ideal S1x2048 .f32) :
    k0_pay14 (F := Ideal) (k0_pay5 u a) v (ix2 r k) = v (ix2 r k) + ∑ r : Fin 128, ct u a r k := by
  pointwise [k0_pay14, p11]
theorem p15 (x : Vec Ideal S4096x512 .bf16) (d : Vec Ideal S4096x1024 .bf16) (r : Fin 512) (k : Fin 1024) :
    k0_pay15 (F := Ideal) x d (ix2 r k) = ∑ s : Fin 4096, x (ix2 s r) * d (ix2 s k) := by
  pointwise [k0_pay15]
theorem p1 (x : Vec Ideal S4096x512 .bf16) (d : Vec Ideal S4096x1024 .bf16) (i : Fin 1) (r : Fin 512) (k : Fin 1024) :
    k0_pay1 (F := Ideal) (k0_pay15 x d) (ix3 i r k) = ∑ s : Fin 4096, x (ix2 s r) * d (ix2 s k) := by
  pointwise [k0_pay1, p15]
end pay

/-! ## The blocks -/

variable (m : (ℓ : Loc nD τ sig) → Buf (Elt Ideal) ℓ)

theorem idx : ∀ t : Fin cfg0.N, win0_0.index t = ![0, t.val % 4] ∧ win0_1.index t = ![0, t.val / 4]
    ∧ win0_2.index t = ![t.val, 0] ∧ win0_3.index t = ![t.val, 0] ∧ win0_4.index t = ![t.val, 0]
    ∧ win0_5.index t = ![0, 0] ∧ win0_7.index t = ![t.val / 4, t.val % 4, 0]
    ∧ win0_8.index t = ![t.val, 0] ∧ win0_9.index t = ![t.val, 0] :=
  (by decide +kernel : ∀ t : Fin grid0.N, _)

theorem lt (t : Fin cfg0.N) : t.val < 32 := lt_of_lt_of_eq t.isLt N_0

/-- The last grid point. -/
abbrev tlast : Fin cfg0.N := ⟨31, lt_of_lt_of_eq (by decide) N_0.symm⟩

/-- The row of the array that row `r` of block `t` is. -/
abbrev row (t : Fin cfg0.N) (r : Fin 128) : Fin 4096 := ⟨t.val * 128 + r.val, by have := lt t; omega⟩
/-- The column of the normalised array that column `r` of its block at point `t` is. -/
abbrev inp (t : Fin cfg0.N) (r : Fin 512) : Fin 2048 := ⟨t.val % 4 * 512 + r.val, by omega⟩
/-- The group of columns a block at point `t` holds. -/
abbrev grp (t : Fin cfg0.N) : Fin 8 := ⟨t.val / 4, by have := lt t; omega⟩
/-- The column that column `k` of group `j` is. -/
abbrev col (j : Fin 8) (k : Fin 1024) : Fin 8192 := ⟨j.val * 1024 + k.val, by omega⟩

section blocks
variable (c : Dev nD)

abbrev XS : Vec Ideal S4096x2048 .f32 := m ((c.tc : Thread nD τ).loc main_arg0)
abbrev MX : Vec Ideal S4096x2048 .f32 := m ((c.tc : Thread nD τ).loc main_arg1)
abbrev G2 : Vec Ideal S1x2048 .f32 := m ((c.tc : Thread nD τ).loc main_arg2)
abbrev B3 : Vec Ideal S1x2048 .f32 := m ((c.tc : Thread nD τ).loc main_arg3)
abbrev DP : Vec Ideal S4096x8192 .f32 := m ((c.tc : Thread nD τ).loc main_arg4)
abbrev DX : Vec Ideal S4096x2048 .f32 := m ((c.tc : Thread nD τ).loc main_arg5)
abbrev D2 : Vec Ideal S4096x2048 .f32 := m ((c.tc : Thread nD τ).loc main_arg6)

/-! ### The host lines -/

theorem hz (i : Fin 4096) (k : Fin 2048) :
    (V m c main_v2 : Vec Ideal S4096x2048 .f32) (ix2 i k) = zrow (MX m c) (XS m c) i k := by
  have h : (V m c main_v2 : Vec Ideal S4096x2048 .f32) = addf (mulf (broadcastInDim S4096x2048 ![] bcast_S_S4096x2048
      (constant (F := Ideal) S_ .f32 0x3F9837F0#32)) (XS m c)) (MX m c) := by
    after_reads_simp
  rw [h]
  pointwise [zrow]

/-- The host's centred rows. -/
def cent (z : FVec Ideal S4096x2048 .f32) : FVec Ideal S4096x2048 .f32 :=
  subf z (broadcastInDim S4096x2048 ![0, 1] bcast_S4096x1_S4096x2048_0_1
    (Host.divf (broadcastInDim S4096x1 ![0] bcast_S4096_S4096x1_0
        (Host.reduceAdd z (constant (F := Ideal) S_ .f32 0x00000000#32) reducesTo_S4096x2048_S4096_d1 h_S_))
      (broadcastInDim S4096x1 ![] bcast_S_S4096x1 (constant (F := Ideal) S_ .f32 0x45000000#32))))

/-- The host's inverse deviations. -/
def invd (z : FVec Ideal S4096x2048 .f32) : FVec Ideal S4096x1 .f32 :=
  Host.rsqrt (addf (Host.divf (broadcastInDim S4096x1 ![0] bcast_S4096_S4096x1_0
        (Host.reduceAdd (mulf (cent z) (cent z)) (constant (F := Ideal) S_ .f32 0x00000000#32) reducesTo_S4096x2048_S4096_d1 h_S_))
      (broadcastInDim S4096x1 ![] bcast_S_S4096x1 (constant (F := Ideal) S_ .f32 0x45000000#32)))
    (broadcastInDim S4096x1 ![] bcast_S_S4096x1 (constant (F := Ideal) S_ .f32 0x3727C5AC#32)))

theorem cent_at (z : FVec Ideal S4096x2048 .f32) (i : Fin 4096) (k : Fin 2048) :
    cent z (ix2 i k) = xc (fun k => z (ix2 i k)) k := by
  pointwise [cent, xc]

theorem invd_at (z : FVec Ideal S4096x2048 .f32) (i : Fin 4096) (k : Fin 1) :
    invd z (ix2 i k) = rs (fun k => z (ix2 i k)) := by
  pointwise [invd, cent_at, rs, ve]

theorem hx (i : Fin 4096) (k : Fin 2048) : (V m c main_v25 : Vec Ideal S4096x2048 .bf16) (ix2 i k)
    = xh (zrow (MX m c) (XS m c) i) k * G2 m c (ix2 0 k) + B3 m c (ix2 0 k) := by
  have h : (V m c main_v25 : Vec Ideal S4096x2048 .bf16) = truncf .bf16 (addf (mulf (mulf (cent (V m c main_v2))
      (broadcastInDim S4096x2048 ![0, 1] bcast_S4096x1_S4096x2048_0_1 (invd (V m c main_v2))))
      (broadcastInDim S4096x2048 ![0, 1] bcast_S1x2048_S4096x2048_0_1 (G2 m c)))
      (broadcastInDim S4096x2048 ![0, 1] bcast_S1x2048_S4096x2048_0_1 (B3 m c))) bitsLt_bf16_f32 := by
    after_reads_simp
    rfl
  have hr : (fun k => (V m c main_v2 : Vec Ideal S4096x2048 .f32) (ix2 i k)) = zrow (MX m c) (XS m c) i :=
    funext fun k => hz m c i k
  rw [h, ← hr]
  generalize (V m c main_v2 : Vec Ideal S4096x2048 .f32) = z
  pointwise [cent_at, invd_at, xh]

theorem hd (i : Fin 4096) (k : Fin 8192) :
    (V m c main_v26 : Vec Ideal S4096x8192 .bf16) (ix2 i k) = DP m c (ix2 i k) := by
  after_reads_simp
  try rfl

/-! ### The blocks of the seven inputs -/

theorem b0 (t : Fin cfg0.N) (s : Fin 4096) (r : Fin 512) : iblk m c 0 t (ix2 s r)
    = (V m c main_v25 : Vec Ideal S4096x2048 .bf16) (ix2 s (inp t r)) := by
  blk_point [iblk, idx t]
theorem b1 (t : Fin cfg0.N) (s : Fin 4096) (k : Fin 1024) : iblk m c 1 t (ix2 s k)
    = (V m c main_v26 : Vec Ideal S4096x8192 .bf16) (ix2 s (col (grp t) k)) := by
  blk_point [iblk, idx t]
theorem b2 (t : Fin cfg0.N) (r : Fin 128) (k : Fin 2048) : iblk m c 2 t (ix2 r k) = DX m c (ix2 (row t r) k) := by
  have h : (V m c main_arg5 : Vec Ideal S4096x2048 .f32) = DX m c := by after_reads_simp
  rw [← h]
  blk_point [iblk, idx t]
theorem b3 (t : Fin cfg0.N) (r : Fin 128) (k : Fin 2048) : iblk m c 3 t (ix2 r k) = D2 m c (ix2 (row t r) k) := by
  have h : (V m c main_arg6 : Vec Ideal S4096x2048 .f32) = D2 m c := by after_reads_simp
  rw [← h]
  blk_point [iblk, idx t]
theorem b4 (t : Fin cfg0.N) (r : Fin 128) (k : Fin 2048) : iblk m c 4 t (ix2 r k)
    = (V m c main_v2 : Vec Ideal S4096x2048 .f32) (ix2 (row t r) k) := by
  blk_point [iblk, idx t]
theorem b5 (t : Fin cfg0.N) (r : Fin 1) (k : Fin 2048) : iblk m c 5 t (ix2 r k) = G2 m c (ix2 r k) := by
  have h : (V m c main_arg2 : Vec Ideal S1x2048 .f32) = G2 m c := by after_reads_simp
  rw [← h]
  blk_point [iblk, idx t]

theorem ztb (t : Fin cfg0.N) (r : Fin 128) : zt (iblk m c 4 t) r = zrow (MX m c) (XS m c) (row t r) := by
  funext k
  unfold zt
  rw [b4, hz]

theorem ctb (t : Fin cfg0.N) (r : Fin 128) (k : Fin 2048) :
    ct (iblk m c 3 t) (iblk m c 2 t) r k = zrow (DX m c) (D2 m c) (row t r) k := by
  unfold ct zrow
  rw [b3, b2]

/-! ### The five results -/

/-- The gradient of the weights of the product after the norm. -/
def dwA : Vec Ideal S8x2048x1024 .bf16 := fun j =>
  ∑ s : Fin 4096, (xh (zrow (MX m c) (XS m c) s) (j 1) * G2 m c (ix2 0 (j 1)) + B3 m c (ix2 0 (j 1))) * DP m c (ix2 s (col (j 0) (j 2)))

/-- The gradient of the sum under the norm. -/
def dzA : Vec Ideal S4096x2048 .f32 := fun j =>
  dzK (zrow (MX m c) (XS m c) (j 0)) (fun k => zrow (DX m c) (D2 m c) (j 0) k * G2 m c (ix2 0 k)) (j 1)
/-- The same, stored in the narrow format. -/
def dzB : Vec Ideal S4096x2048 .bf16 := fun j => dzA m c j
/-- The gradient of the gain. -/
def dgA : Vec Ideal S1x2048 .f32 := fun j => ∑ i : Fin 4096, zrow (DX m c) (D2 m c) i (j 1) * xh (zrow (MX m c) (XS m c) i) (j 1)
/-- The gradient of the shift. -/
def dbA : Vec Ideal S1x2048 .f32 := fun j => ∑ i : Fin 4096, zrow (DX m c) (D2 m c) i (j 1)

theorem emb7 (W : Vec Ideal S8x2048x1024 .bf16) (t : Fin cfg0.N) (i : Fin 1) (r : Fin 512) (k : Fin 1024) :
    W (((View.whole main_v27_0).slice (win0_7.rect t)).emb (ix3 i r k)) = W (ix3 (grp t) (inp t r) k) := by
  blk_point [idx t]
theorem emb8 (W : Vec Ideal S4096x2048 .f32) (t : Fin cfg0.N) (r : Fin 128) (k : Fin 2048) :
    W (((View.whole main_v27_1).slice (win0_8.rect t)).emb (ix2 r k)) = W (ix2 (row t r) k) := by
  blk_point [idx t]
theorem emb9 (W : Vec Ideal S4096x2048 .bf16) (t : Fin cfg0.N) (r : Fin 128) (k : Fin 2048) :
    W (((View.whole main_v27_2).slice (win0_9.rect t)).emb (ix2 r k)) = W (ix2 (row t r) k) := by
  blk_point [idx t]

theorem pt7 (t : Fin cfg0.N) (i : Fin 1) (r : Fin 512) (k : Fin 1024) :
    k0_pay1 (F := Ideal) (k0_pay15 (iblk m c 0 t) (iblk m c 1 t)) (ix3 i r k) = dwA m c (ix3 (grp t) (inp t r) k) := by
  refine (p1 _ _ i r k).trans (Finset.sum_congr rfl fun s _ => ?_)
  rw [b0, b1, hx, hd]
  rfl

theorem pt8 (t : Fin cfg0.N) (r : Fin 128) (k : Fin 2048) :
    k0_pay9 (F := Ideal) (k0_pay3 (iblk m c 4 t)) (k0_pay4 (iblk m c 4 t)) (k0_pay6 (iblk m c 5 t) (iblk m c 3 t) (iblk m c 2 t))
      (k0_pay7 (iblk m c 5 t) (iblk m c 4 t) (iblk m c 3 t) (iblk m c 2 t)) (k0_pay8 (iblk m c 5 t) (iblk m c 3 t) (iblk m c 2 t))
      (ix2 r k) = dzA m c (ix2 (row t r) k) := by
  rw [p9]
  simp only [ztb, ctb, b5]
  rfl

theorem pt9 (t : Fin cfg0.N) (r : Fin 128) (k : Fin 2048) :
    k0_pay12 (F := Ideal) (k0_pay3 (iblk m c 4 t)) (k0_pay4 (iblk m c 4 t)) (k0_pay6 (iblk m c 5 t) (iblk m c 3 t) (iblk m c 2 t))
      (k0_pay7 (iblk m c 5 t) (iblk m c 4 t) (iblk m c 3 t) (iblk m c 2 t)) (k0_pay8 (iblk m c 5 t) (iblk m c 3 t) (iblk m c 2 t))
      (ix2 r k) = dzB m c (ix2 (row t r) k) := by
  rw [p12]
  simp only [ztb, ctb, b5]
  rfl

theorem final7 : (dats m 0 c).arrAt 7 cfg0.N = dwA m c := by
  refine (dats m 0 c).arrAt_eq_of_covers 7 (dwA m c) (by decide +kernel) fun t hf y => ?_
  blk_simp
  rw [after0_7]
  have ht := lt t
  by_cases h : t.val % 32 = 0
  · rw [outsAt0_A m c t h (by omega) h (by omega)]
    frame_out
    idx_vars y
    exact (pt7 m c t y0 y1 y2).trans (emb7 (dwA m c) t y0 y1 y2).symm
  · rw [outsAt0_B m c t h (by omega) h (by omega)]
    frame_out
    idx_vars y
    exact (pt7 m c t y0 y1 y2).trans (emb7 (dwA m c) t y0 y1 y2).symm

theorem final8 : (dats m 0 c).arrAt 8 cfg0.N = dzA m c := by
  refine (dats m 0 c).arrAt_eq_of_covers 8 (dzA m c) (by decide +kernel) fun t hf y => ?_
  blk_simp
  rw [after0_8]
  have ht := lt t
  by_cases h : t.val % 32 = 0
  · rw [outsAt0_A m c t h (by omega) h (by omega)]
    frame_out
    idx_vars y
    exact (pt8 m c t y0 y1).trans (emb8 (dzA m c) t y0 y1).symm
  · rw [outsAt0_B m c t h (by omega) h (by omega)]
    frame_out
    idx_vars y
    exact (pt8 m c t y0 y1).trans (emb8 (dzA m c) t y0 y1).symm

theorem final9 : (dats m 0 c).arrAt 9 cfg0.N = dzB m c := by
  refine (dats m 0 c).arrAt_eq_of_covers 9 (dzB m c) (by decide +kernel) fun t hf y => ?_
  blk_simp
  rw [after0_9]
  have ht := lt t
  by_cases h : t.val % 32 = 0
  · rw [outsAt0_A m c t h (by omega) h (by omega)]
    frame_out
    idx_vars y
    exact (pt9 m c t y0 y1).trans (emb9 (dzB m c) t y0 y1).symm
  · rw [outsAt0_B m c t h (by omega) h (by omega)]
    frame_out
    idx_vars y
    exact (pt9 m c t y0 y1).trans (emb9 (dzB m c) t y0 y1).symm

theorem sum_rows (f : Fin 4096 → EReal) : ∑ p : Fin cfg0.N, ∑ r : Fin 128, f (row p r) = ∑ i, f i :=
  (Finset.sum_equiv (finCongr N_0) (by simp) fun p _ => rfl).trans (Fin.sum_mul_add_fin 32 128 f rfl)

theorem final10 : (dats m 0 c).arrAt 10 cfg0.N = dgA m c := by
  refine (dats m 0 c).arrAt_eq_of_after_last 10 tlast (by decide +kernel) _ fun j => ?_
  blk_simp
  rw [after0_10, Pipeline.eq_sum_fin_of_reset_step_apply_last (fun n h => (outsAt0 m c n h).2.2.2.1) 32 (fun _ => 0)
    (fun t j => ∑ r : Fin 128, zrow (DX m c) (D2 m c) (row t r) (j 1) * xh (zrow (MX m c) (XS m c) (row t r)) (j 1))
    (fun t h j => ?_) (fun t h j => ?_) (le_of_eq N_0) tlast rfl j]
  · rw [zero_add]
    exact sum_rows fun i => zrow (DX m c) (D2 m c) i (j 1) * xh (zrow (MX m c) (XS m c) i) (j 1)
  · have ht := lt t
    rw [outsAt0_A m c t h (by omega) h (by omega)]
    frame_out
    idx_vars j
    rw [zero_add]
    rw [p10]
    simp only [ztb, ctb]
  · have ht := lt t
    rw [outsAt0_B m c t h (by omega) h (by omega)]
    frame_out
    idx_vars j
    rw [p13]
    simp only [ztb, ctb]

theorem final11 : (dats m 0 c).arrAt 11 cfg0.N = dbA m c := by
  refine (dats m 0 c).arrAt_eq_of_after_last 11 tlast (by decide +kernel) _ fun j => ?_
  blk_simp
  rw [after0_11, Pipeline.eq_sum_fin_of_reset_step_apply_last (fun n h => (outsAt0 m c n h).2.2.2.2) 32 (fun _ => 0)
    (fun t j => ∑ r : Fin 128, zrow (DX m c) (D2 m c) (row t r) (j 1))
    (fun t h j => ?_) (fun t h j => ?_) (le_of_eq N_0) tlast rfl j]
  · rw [zero_add]
    exact sum_rows fun i => zrow (DX m c) (D2 m c) i (j 1)
  · have ht := lt t
    rw [outsAt0_A m c t h (by omega) h (by omega)]
    frame_out
    idx_vars j
    rw [zero_add]
    rw [p11]
    simp only [ctb]
  · have ht := lt t
    rw [outsAt0_B m c t h (by omega) h (by omega)]
    frame_out
    idx_vars j
    rw [p14]
    simp only [ctb]

end blocks

end Cert.MixBwdIdeal.Val
-- ==== Proof.MixRef.lean ====
module

public import proofs.«01_k».proof.Proof.Gen.MixBwdRefIdeal.Read
public import proofs.«01_k».proof.Proof.LnMath

/-! # The reference's values of the mixer's norm gradient, at an index -/

@[expose] public section

set_option maxRecDepth 16384

noncomputable section

namespace Cert.MixBwdRefIdeal.Val

open Cert.MixBwdRefIdeal Cert.MixBwdRefIdeal.Gen Cert.MixBwdRefIdeal.Read Cert.LnMath
open Idealize.ShloMosaic Idealize.ShloMosaic.TcCoe Idealize.SL.Sem

variable (x f : Vec Ideal S4096x2048 .f32) (g b : Vec Ideal S1x2048 .f32) (dp : Vec Ideal S4096x8192 .f32) (a u : Vec Ideal S4096x2048 .f32)

/-- The cotangent of the normalised row. -/
def ctR (i : Fin 4096) (k : Fin 2048) : EReal := a (ix2 i k) + Ideal.ofBits .f32 0x3F9837F0#32 * u (ix2 i k)

theorem r8 (i : Fin 4096) (k : Fin 2048) : val_main_v8 (F := Ideal) x f (ix2 i k) = xc (zrow f x i) k := by
  pointwise [val_main_v8, val_main_v7, val_main_v6, val_main_v5, val_main_v4, val_main_v3, val_main_v2, val_main_v1, val_main_v0, val_main_cst, val_main_cst_0, val_main_cst_1, xc, zrow]

theorem r17 (i : Fin 4096) (k : Fin 2048) : val_main_v17 (F := Ideal) x f (ix2 i k) = xc (zrow f x i) k := by
  pointwise [val_main_v17, val_main_v16, val_main_v6, val_main_v5, val_main_v4, val_main_v3, val_main_v2, val_main_v1, val_main_v0, val_main_cst, val_main_cst_0, val_main_cst_1, xc, zrow]

theorem r19 (i : Fin 4096) (k : Fin 1) : val_main_v19 (F := Ideal) x f (ix2 i k) = ve (zrow f x i) := by
  pointwise [val_main_v19, val_main_v18, val_main_v15, val_main_v14, val_main_v13, val_main_v12, val_main_v9, val_main_cst_3, val_main_cst_4, val_main_cst_5, r8, ve]

theorem r20 (i : Fin 4096) (k : Fin 1) : val_main_v20 (F := Ideal) x f (ix2 i k) = rs (zrow f x i) := by
  pointwise [val_main_v20, r19, rs]

theorem r23 (i : Fin 4096) (k : Fin 1) : val_main_v23 (F := Ideal) x f (ix2 i k)
    = Ideal.ofBits .f32 0xBF000000#32 * Ideal.div (rs (zrow f x i)) (ve (zrow f x i)) := by
  pointwise [val_main_v23, val_main_v22, val_main_v21, val_main_cst_6, r19, r20]

theorem r25 (i : Fin 4096) (k : Fin 2048) : val_main_v25 (F := Ideal) x f (ix2 i k) = xh (zrow f x i) k := by
  pointwise [val_main_v25, val_main_v24, r20, r17, xh]

/-- The normalised row. -/
theorem r29 (i : Fin 4096) (k : Fin 2048) : val_main_v29 (F := Ideal) x f g b (ix2 i k)
    = xh (zrow f x i) k * g (ix2 0 k) + b (ix2 0 k) := by
  pointwise [val_main_v29, val_main_v28, val_main_v27, val_main_v26, r25]

theorem r32 (i : Fin 4096) (k : Fin 2048) : val_main_v32 (F := Ideal) a u (ix2 i k) = ctR a u i k := by
  pointwise [val_main_v32, val_main_v31, val_main_v30, val_main_cst_7, ctR]

/-- The gradient of the shift. -/
theorem r34 (k : Fin 1) (j : Fin 2048) : val_main_v34 (F := Ideal) a u (ix2 k j) = ∑ i : Fin 4096, ctR a u i j := by
  pointwise [val_main_v34, val_main_v33, val_main_cst_8, r32]

/-- The gradient of the gain. -/
theorem r37 (k : Fin 1) (j : Fin 2048) : val_main_v37 (F := Ideal) x f a u (ix2 k j)
    = ∑ i : Fin 4096, xh (zrow f x i) j * ctR a u i j := by
  pointwise [val_main_v37, val_main_v36, val_main_cst_9, val_main_v35, r25, r32]

theorem r39 (i : Fin 4096) (k : Fin 2048) : val_main_v39 (F := Ideal) g a u (ix2 i k) = ctR a u i k * g (ix2 0 k) := by
  pointwise [val_main_v39, val_main_v38, r32]

theorem r44 (i : Fin 4096) (k : Fin 2048) : val_main_v44 (F := Ideal) x f g a u (ix2 i k)
    = ctR a u i k * g (ix2 0 k) * rs (zrow f x i) := by
  pointwise [val_main_v44, val_main_v43, r39, r20]

theorem r50 (i : Fin 4096) (k : Fin 1) : val_main_v50 (F := Ideal) x f g a u (ix2 i k)
    = Ideal.div ((∑ k, xc (zrow f x i) k * (ctR a u i k * g (ix2 0 k)))
        * (Ideal.ofBits .f32 0xBF000000#32 * Ideal.div (rs (zrow f x i)) (ve (zrow f x i)))) (Ideal.ofBits .f32 0x45000000#32) := by
  pointwise [val_main_v50, val_main_v49, val_main_cst_12, val_main_v45, val_main_v42, val_main_v41, val_main_cst_10, val_main_v40, r23, r39, r17]

theorem r53 (i : Fin 4096) (k : Fin 2048) : val_main_v53 (F := Ideal) x f g a u (ix2 i k)
    = tv (zrow f x i) (fun k => ctR a u i k * g (ix2 0 k)) k := by
  pointwise [val_main_v53, val_main_v52, val_main_v51, val_main_cst_13, val_main_v11, val_main_v10, val_main_cst_2, r50, r8, tv]
  simp only [Fin.sum_univ_one]

/-- The gradient of the sum. -/
theorem r63 (i : Fin 4096) (k : Fin 2048) : val_main_v63 (F := Ideal) x f g a u (ix2 i k)
    = dzR (zrow f x i) (fun k => ctR a u i k * g (ix2 0 k)) k := by
  pointwise [val_main_v63, val_main_v62, val_main_v61, val_main_v60, val_main_v59, val_main_v58, val_main_v57, val_main_v56, val_main_v55, val_main_v54, val_main_v48, val_main_v47, val_main_v46, val_main_cst_11, val_main_cst_14, val_main_cst_15, val_main_cst_16, r44, r53, dzR]
  simp only [Fin.sum_univ_one]

theorem r67 (i : Fin 2048) (k : Fin 8192) : val_main_v67 (F := Ideal) x f g b dp (ix2 i k)
    = ∑ s : Fin 4096, dp (ix2 s k) * (xh (zrow f x s) i * g (ix2 0 i) + b (ix2 0 i)) := by
  pointwise [val_main_v67, val_main_v66, r29]

/-- The gradient of the weights of the product. -/
theorem r70 (j : Fin 8) (i : Fin 2048) (k : Fin 1024) : val_main_v70 (F := Ideal) x f g b dp (ix3 j i k)
    = ∑ s : Fin 4096, dp (ix2 s ⟨j.val * 1024 + k.val, by omega⟩) * (xh (zrow f x s) i * g (ix2 0 i) + b (ix2 0 i)) := by
  refine Eq.trans ?_ (r67 x f g b dp i ⟨j.val * 1024 + k.val, by omega⟩)
  pointwise [val_main_v70, val_main_v69, val_main_v68]
  try exact congrArg (val_main_v67 (F := Ideal) x f g b dp) (congrArg (ix2 i) (Fin.ext (by show _ = _; omega)))

end Cert.MixBwdRefIdeal.Val
-- ==== Proof.MixClaim.lean ====
module

public import proofs.«01_k».proof.Defs
public import proofs.«01_k».proof.Proof.Gen.MixBwd.Frame
public import proofs.«01_k».proof.Proof.Gen.Pre_mix_norm_finite
public import proofs.«01_k».proof.Proof.MixVal
public import proofs.«01_k».proof.Proof.MixRef
public import proofs.«01_k».proof.Proof.FinArg
public import Idealize.ShloMosaic.Lib.Claim

/-! # The mixer's norm gradient beside the product, against the derivative of the forward lines -/

@[expose] public section

set_option maxRecDepth 16384

noncomputable section

namespace Cert.MixClaim

open Idealize.ShloMosaic Idealize.ShloMosaic.TcCoe Idealize.SL.Sem Cert.LnMath Cert.MixBwdRefIdeal.Read Cert.MixBwdRefIdeal.Val

section values
variable {x f : Vec Ideal (⟨2, ![4096, 2048]⟩ : Shape) .f32} {g b : Vec Ideal (⟨2, ![1, 2048]⟩ : Shape) .f32}
  {dp : Vec Ideal (⟨2, ![4096, 8192]⟩ : Shape) .f32} {a u : Vec Ideal (⟨2, ![4096, 2048]⟩ : Shape) .f32}

/-- The two spellings of the cotangent. -/
theorem cot (i : Fin 4096) (k : Fin 2048) : Cert.MixBwdRefIdeal.Val.ctR a u i k = zrow a u i k := add_comm _ _

theorem v34 (j : Cert.MixBwdRefIdeal.S1x2048.Idx) : val_main_v34 (F := Ideal) a u j = ∑ i : Fin 4096, zrow a u i (j 1) := by
  idx_vars j
  exact (r34 a u j0 j1).trans (Finset.sum_congr rfl fun i _ => cot i j1)

theorem v37 (j : Cert.MixBwdRefIdeal.S1x2048.Idx) : val_main_v37 (F := Ideal) x f a u j
    = ∑ i : Fin 4096, zrow a u i (j 1) * xh (zrow f x i) (j 1) := by
  idx_vars j
  exact (r37 x f a u j0 j1).trans (Finset.sum_congr rfl fun i _ => (mul_comm _ _).trans (congrArg (· * _) (cot i j1)))

theorem v70 (j : Cert.MixBwdRefIdeal.S8x2048x1024.Idx) : val_main_v70 (F := Ideal) x f g b dp j
    = ∑ s : Fin 4096, (xh (zrow f x s) (j 1) * g (ix2 0 (j 1)) + b (ix2 0 (j 1)))
        * dp (ix2 s (Cert.MixBwdIdeal.Val.col (j 0) (j 2))) := by
  idx_vars j
  exact (r70 x f g b dp j0 j1 j2).trans (Finset.sum_congr rfl fun s _ => mul_comm _ _)

variable (hx : ∀ i, ∃ r : ℝ, x i = (r : EReal)) (hf : ∀ i, ∃ r : ℝ, f i = (r : EReal)) (hg : ∀ i, ∃ r : ℝ, g i = (r : EReal))
    (ha : ∀ i, ∃ r : ℝ, a i = (r : EReal)) (hu : ∀ i, ∃ r : ℝ, u i = (r : EReal))
include hx hf hg ha hu

theorem v63 (j : Cert.MixBwdRefIdeal.S4096x2048.Idx) : val_main_v63 (F := Ideal) x f g a u j
    = dzK (zrow f x (j 0)) (fun k => zrow a u (j 0) k * g (ix2 0 k)) (j 1) := by
  idx_vars j
  refine (r63 x f g a u j0 j1).trans ?_
  show dzR _ _ j1 = dzK (zrow f x j0) (fun k => zrow a u j0 k * g (ix2 0 k)) j1
  obtain ⟨z, hz⟩ := zrow_coe hf hx j0
  obtain ⟨e, he⟩ := zrow_coe ha hu j0
  choose g' hg using hg
  have h : (fun k => zrow a u j0 k * g (ix2 0 k)) = fun k => ((e k * g' (ix2 0 k) : ℝ) : EReal) := by
    funext k
    rw [he, hg, ← EReal.coe_mul]
  simp only [cot]
  rw [h, hz]
  exact (dz_eq z _ j1).symm
end values

theorem ref_frame : Cert.quiescent_MixBwdRefIdeal := by
  intro m g _
  exact (θ_run _ _ _).mono (fun r h => ⟨fun c => (h c).2.2.2.2.2, sem_eq_zero_of_no_sems (by decide) _⟩)
    (Cert.MixBwdRefIdeal.Value.run m g)

theorem ref_frame_pre : Cert.quiescent_MixBwdRefIdeal_pre_mix_norm_finite := fun m g _ => ref_frame m g trivial

theorem frame_pre : Cert.quiescent_MixBwdIdeal_pre_mix_norm_finite := fun m g _ => Cert.MixBwdIdeal.Gen.frame m g

theorem algebraic : Cert.algebraic_MixBwdIdeal_MixBwdRefIdeal_pre_mix_norm_finite := by
  intro m g m' g' hpre hagree
  refine ⟨fun c => _, fun c => _, fun c => _, fun c => _, fun c => _, Cert.MixBwdIdeal.Value.run_blocks m g,
    (θ_run _ _ _).mono (fun r h c => ?_) (Cert.MixBwdRefIdeal.Value.run m' g')⟩
  obtain ⟨h0, h1, h2, h3, h4, h5, h6⟩ := hagree c
  obtain ⟨p0, p1, p2, p3, p4⟩ := hpre c
  have hx := Cert.FinArg.real_of_fin _ _ p0
  have hf := Cert.FinArg.real_of_fin _ _ p1
  have hg := Cert.FinArg.real_of_fin _ _ p2
  have ha := Cert.FinArg.real_of_fin _ _ p3
  have hu := Cert.FinArg.real_of_fin _ _ p4
  refine ⟨((h c).1.trans (val_main_v70_eq _ _ _ _ _)).trans ?_,
    ((h c).2.1.trans (val_main_v63_eq m' c)).trans ?_,
    ((h c).2.2.1.trans (val_main_v71_eq m' c)).trans ?_,
    ((h c).2.2.2.1.trans (val_main_v37_eq _ _ _ _)).trans ?_,
    ((h c).2.2.2.2.1.trans (val_main_v34_eq _ _)).trans ?_, (h c).2.2.2.2.2⟩
  · rw [h0, h1, h2, h3, h4]; exact (funext fun j => v70 j).trans (Cert.MixBwdIdeal.Val.final7 m c).symm
  · rw [h0, h1, h2, h5, h6]; exact (funext fun j => v63 hx hf hg ha hu j).trans (Cert.MixBwdIdeal.Val.final8 m c).symm
  · rw [h0, h1, h2, h5, h6]; exact (funext fun j => v63 hx hf hg ha hu j).trans (Cert.MixBwdIdeal.Val.final9 m c).symm
  · rw [h0, h1, h5, h6]; exact (funext fun j => v37 j).trans (Cert.MixBwdIdeal.Val.final10 m c).symm
  · rw [h5, h6]; exact (funext fun j => v34 j).trans (Cert.MixBwdIdeal.Val.final11 m c).symm

end Cert.MixClaim
-- ==== Proof.LruRows.lean ====
module

public import Idealize.ShloMosaic.Lib.WritesUnit
public import Idealize.ShloMosaic.Lib.WholeRead
public import Idealize.ShloMosaic.Lib.Pipeline.ValueKit

/-! # Blocks of rows of 128 columns, read and written

What a load of whole rows of a matrix, or of a plane of a stack, reads, and what a buffer reads after one more store of a
loop that fills it block by block, from either end. -/

@[expose] public section

noncomputable section

namespace Cert.LruRows

open Idealize.ShloMosaic

variable {sig : RefSig} {κ : Kind} {sp : Space} {D R : ℕ} [NeZero D] [NeZero R] {e : EltTy} {Val : EltTy → Type} {α : Type}

/-- `T` rows of `x` from row `o` on. -/
def rows (T o : ℕ) (x : (⟨2, ![R, 128]⟩ : Shape).Idx → α) : (⟨2, ![T, 128]⟩ : Shape).Idx → α :=
  fun z => x (ix2 (Fin.ofNat R (o + (z (0 : Fin 2)).val)) (z (1 : Fin 2)))

/-- `T` rows of plane `d` of `x` from row `o` on. -/
def slab (T d o : ℕ) (x : (⟨3, ![D, R, 128]⟩ : Shape).Idx → α) : (⟨3, ![1, T, 128]⟩ : Shape).Idx → α :=
  fun z => x (ix3 (Fin.ofNat D d) (Fin.ofNat R (o + (z (1 : Fin 3)).val)) (z (2 : Fin 3)))

theorem readAt_rows (v : View sig κ sp ⟨2, ![R, 128]⟩ e) {off : Fin 2 → ℕ} (T o : ℕ) (hoff : off = ![o, 0])
    (inb : ∀ a : Fin 2, off a + (![T, 128] : Fin 2 → ℕ) a ≤ (![R, 128] : Fin 2 → ℕ) a) (f : v.ty.Contents Val) :
    v.readAt Val (Rect.unit (s := ⟨2, ![R, 128]⟩) off ![T, 128] inb).toLoadRect f = rows T o (v.read Val f) := by
  subst hoff
  funext z
  show v.read Val f _ = v.read Val f _
  have h0 : o + T ≤ R := inb 0
  have hz : (z (0 : Fin 2)).val < T := (z (0 : Fin 2)).isLt
  congr 1
  funext a
  refine Fin.ext ?_
  match a with
  | ⟨0, _⟩ =>
    show o + 1 * (z (0 : Fin 2)).val = (o + (z (0 : Fin 2)).val) % R
    rw [Nat.mod_eq_of_lt (by omega)]; omega
  | ⟨1, _⟩ =>
    show 0 + 1 * (z (1 : Fin 2)).val = (z (1 : Fin 2)).val
    omega

theorem readAt_slab (v : View sig κ sp ⟨3, ![D, R, 128]⟩ e) {off : Fin 3 → ℕ} (T d o : ℕ) (hoff : off = ![d, o, 0])
    (inb : ∀ a : Fin 3, off a + (![1, T, 128] : Fin 3 → ℕ) a ≤ (![D, R, 128] : Fin 3 → ℕ) a) (f : v.ty.Contents Val) :
    v.readAt Val (Rect.unit (s := ⟨3, ![D, R, 128]⟩) off ![1, T, 128] inb).toLoadRect f = slab T d o (v.read Val f) := by
  subst hoff
  funext z
  show v.read Val f _ = v.read Val f _
  have hd : d + 1 ≤ D := inb 0
  have h0 : o + T ≤ R := inb 1
  have hz : (z (1 : Fin 3)).val < T := (z (1 : Fin 3)).isLt
  have hz0 : (z (0 : Fin 3)).val < 1 := (z (0 : Fin 3)).isLt
  congr 1
  funext a
  refine Fin.ext ?_
  match a with
  | ⟨0, _⟩ =>
    show d + 1 * (z (0 : Fin 3)).val = d % D
    rw [Nat.mod_eq_of_lt (by omega)]; omega
  | ⟨1, _⟩ =>
    show o + 1 * (z (1 : Fin 3)).val = (o + (z (1 : Fin 3)).val) % R
    rw [Nat.mod_eq_of_lt (by omega)]; omega
  | ⟨2, _⟩ =>
    show 0 + 1 * (z (2 : Fin 3)).val = (z (2 : Fin 3)).val
    omega

/-- The rows from `lo` to before `hi` as in `p`, the others as in `b`. -/
def upTo (lo hi : ℕ) (p b : (⟨2, ![R, 128]⟩ : Shape).Idx → α) : (⟨2, ![R, 128]⟩ : Shape).Idx → α :=
  fun y => if lo ≤ (y (0 : Fin 2)).val ∧ (y (0 : Fin 2)).val < hi then p y else b y

/-- Blocks of `T` rows `p 0, p 1, …` one under the other from row `s` on. -/
def stack (T : ℕ) [NeZero T] (s : ℕ) (p : ℕ → (⟨2, ![T, 128]⟩ : Shape).Idx → α) (y : (⟨2, ![R, 128]⟩ : Shape).Idx) : α :=
  p (((y (0 : Fin 2)).val - s) / T) (ix2 (Fin.ofNat T ((y (0 : Fin 2)).val - s)) (y (1 : Fin 2)))

/-- No rows. -/
theorem upTo_none (lo : ℕ) (p b : (⟨2, ![R, 128]⟩ : Shape).Idx → α) : upTo lo lo p b = b :=
  funext fun y => if_neg (by omega)

/-- One more block of `T` rows, at either end. -/
theorem upTo_cons (v : View sig κ sp ⟨2, ![R, 128]⟩ e) (f : v.ty.Contents Val) (T : ℕ) [NeZero T] (s k : ℕ) {lo hi lo' hi' o : ℕ}
    (p : ℕ → (⟨2, ![T, 128]⟩ : Shape).Idx → Val e) (b : (⟨2, ![R, 128]⟩ : Shape).Idx → Val e)
    (L : List (View.Piece Val (⟨2, ![R, 128]⟩ : Shape) e))
    (hL : v.read Val (v.writes Val f L) = upTo lo hi (stack T s p) b)
    {off : Fin 2 → ℕ} (hoff : off = ![o, 0]) (ho : o = s + T * k)
    (inb : ∀ a : Fin 2, off a + (![T, 128] : Fin 2 → ℕ) a ≤ (![R, 128] : Fin 2 → ℕ) a)
    (w : (⟨2, ![T, 128]⟩ : Shape).Idx → Val e) (hw : w = p k)
    (hr : (hi = o ∧ lo' = lo ∧ hi' = o + T ∧ lo ≤ hi) ∨ (lo = o + T ∧ lo' = o ∧ hi' = hi ∧ lo ≤ hi)) :
    v.read Val (v.writes Val f
        ((⟨Rect.unit (s := ⟨2, ![R, 128]⟩) off ![T, 128] inb, w⟩ : View.Piece Val (⟨2, ![R, 128]⟩ : Shape) e) :: L))
      = upTo lo' hi' (stack T s p) b := by
  funext y
  have hT : 0 < T := Nat.pos_of_ne_zero (NeZero.ne T)
  by_cases h : o ≤ (y (0 : Fin 2)).val ∧ (y (0 : Fin 2)).val < o + T
  · refine (View.read_writes_cons_rows_of_mem v f inb w L y (ix2 ⟨(y (0 : Fin 2)).val - o, by omega⟩ (y (1 : Fin 2))) hoff
      (show (y (0 : Fin 2)).val = o + ((y (0 : Fin 2)).val - o) by omega) rfl).trans ?_
    unfold upTo
    rw [if_pos (by omega)]
    unfold stack
    have e0 : (y (0 : Fin 2)).val - s = ((y (0 : Fin 2)).val - o) + T * k := by omega
    rw [hw]
    have hd : ((y (0 : Fin 2)).val - s) / T = k := by
      rw [e0, Nat.add_mul_div_left _ _ hT, Nat.div_eq_of_lt (by omega), Nat.zero_add]
    rw [hd]
    congr 1
    funext a
    refine Fin.ext ?_
    match a with
    | ⟨0, _⟩ =>
      show (y (0 : Fin 2)).val - o = ((y (0 : Fin 2)).val - s) % T
      rw [e0, Nat.add_mul_mod_self_left, Nat.mod_eq_of_lt (by omega)]
    | ⟨1, _⟩ => rfl
  · refine (View.read_writes_cons_rows_of_not_mem v f (W := T) inb w L y hoff rfl (by omega)).trans ?_
    rw [hL]
    unfold upTo
    by_cases h0 : lo ≤ (y (0 : Fin 2)).val ∧ (y (0 : Fin 2)).val < hi
    · rw [if_pos h0, if_pos (by omega)]
    · rw [if_neg h0, if_neg (by omega)]

/-- All the rows. -/
theorem upTo_all (hi : ℕ) (p b : (⟨2, ![R, 128]⟩ : Shape).Idx → α) (h : hi = R) : upTo 0 hi p b = p := by
  subst h
  exact funext fun y => if_pos ⟨Nat.zero_le _, (y (0 : Fin 2)).isLt⟩

/-- Blocks of 256 rows of the two planes. -/
def planes (p : ℕ → ℕ → (⟨3, ![1, 256, 128]⟩ : Shape).Idx → α) (y : (⟨3, ![2, 4096, 128]⟩ : Shape).Idx) : α :=
  p (y (0 : Fin 3)).val ((y (1 : Fin 3)).val / 256) (ix3 (0 : Fin 1) (Fin.ofNat 256 (y (1 : Fin 3)).val) (y (2 : Fin 3)))

/-- The first `n` rows of both planes as in `p`, the others as in `b`. -/
def both (n : ℕ) (p b : (⟨3, ![2, 4096, 128]⟩ : Shape).Idx → α) : (⟨3, ![2, 4096, 128]⟩ : Shape).Idx → α :=
  fun y => if (y (1 : Fin 3)).val < n then p y else b y

theorem both_none (p b : (⟨3, ![2, 4096, 128]⟩ : Shape).Idx → α) : both 0 p b = b :=
  funext fun y => if_neg (by omega)

theorem both_all (n : ℕ) (p b : (⟨3, ![2, 4096, 128]⟩ : Shape).Idx → α) (h : n = 4096) : both n p b = p := by
  subst h
  exact funext fun y => if_pos (y (1 : Fin 3)).isLt

/-- One block of 256 rows of plane `d`: newest wins. -/
theorem plane_cons (v : View sig κ sp ⟨3, ![2, 4096, 128]⟩ e) (f : v.ty.Contents Val) (d k : ℕ)
    (p : ℕ → ℕ → (⟨3, ![1, 256, 128]⟩ : Shape).Idx → Val e)
    (L : List (View.Piece Val (⟨3, ![2, 4096, 128]⟩ : Shape) e))
    {off : Fin 3 → ℕ} (hoff : off = ![d, 256 * k, 0])
    (inb : ∀ a : Fin 3, off a + (![1, 256, 128] : Fin 3 → ℕ) a ≤ (![2, 4096, 128] : Fin 3 → ℕ) a)
    (w : (⟨3, ![1, 256, 128]⟩ : Shape).Idx → Val e) (hw : w = p d k) (y : (⟨3, ![2, 4096, 128]⟩ : Shape).Idx) :
    v.read Val (v.writes Val f
        ((⟨Rect.unit (s := ⟨3, ![2, 4096, 128]⟩) off ![1, 256, 128] inb, w⟩ : View.Piece Val (⟨3, ![2, 4096, 128]⟩ : Shape) e) :: L)) y
      = if (y (0 : Fin 3)).val = d ∧ 256 * k ≤ (y (1 : Fin 3)).val ∧ (y (1 : Fin 3)).val < 256 * k + 256 then planes p y
        else v.read Val (v.writes Val f L) y := by
  by_cases h : (y (0 : Fin 3)).val = d ∧ 256 * k ≤ (y (1 : Fin 3)).val ∧ (y (1 : Fin 3)).val < 256 * k + 256
  · rw [if_pos h]
    refine (View.read_writes_cons_unit_of_mem v f inb w L y
      (ix3 (0 : Fin 1) ⟨(y (1 : Fin 3)).val - 256 * k, by omega⟩ (y (2 : Fin 3))) hoff (fun a => ?_)).trans ?_
    · match a with
      | ⟨0, _⟩ => show (y (0 : Fin 3)).val = d + 0; omega
      | ⟨1, _⟩ => show (y (1 : Fin 3)).val = 256 * k + ((y (1 : Fin 3)).val - 256 * k); omega
      | ⟨2, _⟩ => show (y (2 : Fin 3)).val = 0 + (y (2 : Fin 3)).val; omega
    · unfold planes
      rw [hw, h.1, show (y (1 : Fin 3)).val / 256 = k by omega]
      congr 1
      funext a
      refine Fin.ext ?_
      match a with
      | ⟨0, _⟩ => rfl
      | ⟨1, _⟩ => show (y (1 : Fin 3)).val - 256 * k = (y (1 : Fin 3)).val % 256; omega
      | ⟨2, _⟩ => rfl
  · rw [if_neg h]
    by_cases h1 : (y (0 : Fin 3)).val = d
    · exact View.read_writes_cons_unit_of_not_mem v f inb w L y hoff (1 : Fin 3)
        (show (y (1 : Fin 3)).val < 256 * k ∨ 256 * k + 256 ≤ (y (1 : Fin 3)).val by omega)
    · exact View.read_writes_cons_unit_of_not_mem v f inb w L y hoff (0 : Fin 3)
        (show (y (0 : Fin 3)).val < d ∨ d + 1 ≤ (y (0 : Fin 3)).val by omega)

/-- One more trip: a block of each plane. -/
theorem both_step (v : View sig κ sp ⟨3, ![2, 4096, 128]⟩ e) (f : v.ty.Contents Val) (k : ℕ)
    (p : ℕ → ℕ → (⟨3, ![1, 256, 128]⟩ : Shape).Idx → Val e) (b : (⟨3, ![2, 4096, 128]⟩ : Shape).Idx → Val e)
    (hf : v.read Val f = both (256 * k) (planes p) b)
    {off off' : Fin 3 → ℕ} (hoff : off = ![0, 256 * k, 0]) (hoff' : off' = ![1, 256 * k, 0])
    (inb : ∀ a : Fin 3, off a + (![1, 256, 128] : Fin 3 → ℕ) a ≤ (![2, 4096, 128] : Fin 3 → ℕ) a)
    (inb' : ∀ a : Fin 3, off' a + (![1, 256, 128] : Fin 3 → ℕ) a ≤ (![2, 4096, 128] : Fin 3 → ℕ) a)
    (w w' : (⟨3, ![1, 256, 128]⟩ : Shape).Idx → Val e) (hw : w = p 0 k) (hw' : w' = p 1 k) :
    v.read Val (v.writes Val f
        [(⟨Rect.unit (s := ⟨3, ![2, 4096, 128]⟩) off' ![1, 256, 128] inb', w'⟩ : View.Piece Val (⟨3, ![2, 4096, 128]⟩ : Shape) e),
         (⟨Rect.unit (s := ⟨3, ![2, 4096, 128]⟩) off ![1, 256, 128] inb, w⟩ : View.Piece Val (⟨3, ![2, 4096, 128]⟩ : Shape) e)])
      = both (256 * (k + 1)) (planes p) b := by
  funext y
  have hy : (y (0 : Fin 3)).val < 2 := (y (0 : Fin 3)).isLt
  rw [plane_cons v f 1 k p _ hoff' inb' w' hw' y, plane_cons v f 0 k p _ hoff inb w hw y]
  have hf' : v.read Val (v.writes Val f []) y = both (256 * k) (planes p) b y := congrFun hf y
  rw [hf']
  unfold both
  by_cases h : 256 * k ≤ (y (1 : Fin 3)).val ∧ (y (1 : Fin 3)).val < 256 * k + 256
  · rw [if_pos (show (y (1 : Fin 3)).val < 256 * (k + 1) by omega)]
    by_cases h1 : (y (0 : Fin 3)).val = 1
    · rw [if_pos ⟨h1, h⟩]
    · rw [if_neg (fun q => h1 q.1), if_pos ⟨by omega, h⟩]
  · rw [if_neg (fun q => h q.2), if_neg (fun q => h q.2)]
    by_cases h0 : (y (1 : Fin 3)).val < 256 * k
    · rw [if_pos h0, if_pos (by omega)]
    · rw [if_neg h0, if_neg (by omega)]

/-- A load of a whole memref held at the contents that read `X` reads `X`. -/
theorem readAt_whole {s : Shape} {m : Memref sig κ sp s e} (h : m.IsWhole) (X : s.Idx → Val e) (off : Fin s.rank → ℕ)
    (hoff : ∀ a, off a = 0) (inb : ∀ a, off a + s.size a ≤ s.size a) :
    m.view.readAt Val (Rect.unit (s := s) off s.size inb).toLoadRect (h.unread X) = X :=
  funext fun x => (h.readAt_unread X _ x).trans (congrArg X (funext fun a => Fin.ext (by
    show off a + 1 * (x a).val = (x a).val
    rw [hoff a]; omega)))

/-- A matrix of 4096 rows between two blocks of 8: what row `y` holds. -/
def framed (top bot : (⟨2, ![8, 128]⟩ : Shape).Idx → α) (mid : (⟨2, ![4112, 128]⟩ : Shape).Idx → α)
    (y : (⟨2, ![4112, 128]⟩ : Shape).Idx) : α :=
  if 8 ≤ (y (0 : Fin 2)).val ∧ (y (0 : Fin 2)).val < 4104 then mid y
  else if (y (0 : Fin 2)).val < 8 then top (ix2 (Fin.ofNat 8 (y (0 : Fin 2)).val) (y (1 : Fin 2)))
  else bot (ix2 (Fin.ofNat 8 ((y (0 : Fin 2)).val - 4104)) (y (1 : Fin 2)))

/-- The buffer with the two blocks of 8 rows stored, then filled between them. -/
theorem read_framed (v : View sig κ sp ⟨2, ![4112, 128]⟩ e) (f g : v.ty.Contents Val)
    (top bot : (⟨2, ![8, 128]⟩ : Shape).Idx → Val e) (mid : (⟨2, ![4112, 128]⟩ : Shape).Idx → Val e)
    (inb : ∀ a : Fin 2, (![0, 0] : Fin 2 → ℕ) a + (![8, 128] : Fin 2 → ℕ) a ≤ (![4112, 128] : Fin 2 → ℕ) a)
    (inb' : ∀ a : Fin 2, (![4104, 0] : Fin 2 → ℕ) a + (![8, 128] : Fin 2 → ℕ) a ≤ (![4112, 128] : Fin 2 → ℕ) a)
    (lo hi : ℕ) (hlo : lo = 8) (hhi : hi = 4104)
    (hf : v.read Val f = upTo lo hi mid (v.read Val (v.writes Val g
        [(⟨Rect.unit (s := ⟨2, ![4112, 128]⟩) ![4104, 0] ![8, 128] inb', bot⟩ : View.Piece Val (⟨2, ![4112, 128]⟩ : Shape) e),
         (⟨Rect.unit (s := ⟨2, ![4112, 128]⟩) ![0, 0] ![8, 128] inb, top⟩ : View.Piece Val (⟨2, ![4112, 128]⟩ : Shape) e)]))) :
    v.read Val f = framed top bot mid := by
  subst hlo hhi
  funext y
  rw [hf]
  unfold framed upTo
  have hy : (y (0 : Fin 2)).val < 4112 := (y (0 : Fin 2)).isLt
  by_cases h : 8 ≤ (y (0 : Fin 2)).val ∧ (y (0 : Fin 2)).val < 4104
  · rw [if_pos h, if_pos h]
  rw [if_neg h, if_neg h]
  by_cases h0 : (y (0 : Fin 2)).val < 8
  · rw [if_pos h0]
    refine (View.read_writes_cons_rows_of_not_mem v g (o := 4104) (W := 8) inb' bot _ y rfl rfl (Or.inl (by omega))).trans ?_
    exact View.read_writes_cons_rows_of_mem v g (o := 0) inb top _ y (ix2 (Fin.ofNat 8 (y (0 : Fin 2)).val) (y (1 : Fin 2))) rfl
      (show (y (0 : Fin 2)).val = 0 + (y (0 : Fin 2)).val % 8 by omega) rfl
  · rw [if_neg h0]
    exact View.read_writes_cons_rows_of_mem v g (o := 4104) inb' bot _ y (ix2 (Fin.ofNat 8 ((y (0 : Fin 2)).val - 4104)) (y (1 : Fin 2))) rfl
      (show (y (0 : Fin 2)).val = 4104 + ((y (0 : Fin 2)).val - 4104) % 8 by omega) rfl

/-- `q` of the trips done, and `b` before the first. -/
def start {β : Sort*} (b : β) (q : ℕ → β) : ℕ → β
  | 0 => b
  | k + 1 => q (k + 1)

theorem start_eq {β : Sort*} (b : β) (q : ℕ → β) (h : q 0 = b) : ∀ k, start b q k = q k
  | 0 => h.symm
  | _ + 1 => rfl

end Cert.LruRows
-- ==== Proof.LruData.lean ====
module

public import proofs.«01_k».proof.Proof.Gen.LruFwdIdeal.Frame
public import proofs.«01_k».proof.Proof.Gen.LruFwdIdeal.Skeleton
public import proofs.«01_k».proof.Proof.LruRows

/-! # The contents of the recurrence's buffers

What the loops store, block by block, as functions of what they read: the copied rows, the chunks' gate values, the
scanned tiles with the state carried between them, and the chunks of the result -/

@[expose] public section

set_option maxRecDepth 16384
set_option maxHeartbeats 4000000

noncomputable section

namespace Cert.LruFwdIdeal.Run

open Cert.LruRows
open Cert.LruFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The copied rows' block `k`. -/
def copied (x1 : Vec F S1x4096x128 .f32) (k : ℕ) : FVec F S256x128 .f32 := k0_pay206 (slab (D := 1) 256 0 (256 * k) x1)

/-- Row `j` of the pack. -/
def pk (x3 : Vec F S1x16x128 .f32) (j : ℕ) : Vec F S1x1x128 .f32 := slab (D := 1) 1 0 j x3

section
variable (v13 : FVec F S1x128 .f32) (v38 v63 : FVec F S1x128 .f32) (x3 : Vec F S1x16x128 .f32) (x5 : Vec F S1x128x512 .bf16) (u : Vec F S4112x128 .f32)

/-- The chunk's products with the four gate matrices. -/
def pre (k : ℕ) : FVec F S256x512 .f32 :=
  k0_pay6 v13 (rows 272 (256 * k) u) (pk x3 1) (pk x3 0) (pk x3 2) (pk x3 3) x5

/-- The chunk's convolved rows. -/
def conv (k : ℕ) : FVec F S256x128 .f32 :=
  k0_pay5 v13 (rows 272 (256 * k) u) (pk x3 1) (pk x3 0) (pk x3 2) (pk x3 3)

/-- The first block of columns of the products. -/
def pre0 (k : ℕ) : FVec F S256x128 .f32 :=
  k0_pay7 v13 (rows 272 (256 * k) u) (pk x3 1) (pk x3 0) (pk x3 2) (pk x3 3) x5

/-- The decays, direction `d`, chunk `k`. -/
def aChunk (d k : ℕ) : FVec F S1x256x128 .f32 := match d with
  | 0 => k0_pay16 (k0_pay10 v38 (pre0 v13 x3 x5 u k) (pk x3 4))
  | _ => k0_pay215 (k0_pay19 v63 (pre v13 x3 x5 u k) (pk x3 5))

/-- The inputs, direction `d`, chunk `k`. -/
def bChunk (d k : ℕ) : FVec F S1x256x128 .f32 := match d with
  | 0 => k0_pay17 (conv v13 x3 u k) (k0_pay8 (pre v13 x3 x5 u k) (pk x3 6)) (k0_pay12 v38 (pre0 v13 x3 x5 u k) (pk x3 4))
      (k0_pay13 v38 (pre0 v13 x3 x5 u k) (pk x3 4)) (k0_pay14 v38 (pre0 v13 x3 x5 u k) (pk x3 4)) (k0_pay15 (F := F))
  | _ => k0_pay216 (conv v13 x3 u k) (k0_pay18 (pre v13 x3 x5 u k) (pk x3 7)) (k0_pay19 v63 (pre v13 x3 x5 u k) (pk x3 5))
end

section
variable (v65 : IVec S8x128 32)

/-- A tile's own composite decays, from the top. -/
def tileA0 (a : Vec F S1x8x128 .f32) : FVec F S8x128 .f32 := k0_pay30 v65 (k0_pay20 a) (k0_pay23 v65 a)
/-- And its own states. -/
def tileB0 (a b : Vec F S1x8x128 .f32) : FVec F S8x128 .f32 :=
  k0_pay29 v65 (k0_pay20 a) (k0_pay21 b) (k0_pay23 v65 a) (k0_pay24 v65 a b)
/-- A tile's own composite decays, from the bottom. -/
def tileA1 (a : Vec F S1x8x128 .f32) : FVec F S8x128 .f32 :=
  k0_pay126 v65 (k0_pay119 v65 a) (k0_pay121 v65 a)
/-- And its own states. -/
def tileB1 (a b : Vec F S1x8x128 .f32) : FVec F S8x128 .f32 :=
  k0_pay125 v65 (k0_pay118 v65 a b) (k0_pay119 v65 a) (k0_pay120 v65) (k0_pay121 v65 a) (k0_pay122 v65 a b)

/-- The last row of a tile in each of its rows. -/
def last8 (h : FVec F S8x128 .f32) : FVec F S8x128 .f32 :=
  broadcastTo S8x128 (shapeCast S1x128 (extractStridedSlice S1x128 ![7, 0] h slices_S8x128_o7_0_S1x128) shapeCasts_S1x128_S1x128) broadcasts_S1x128_S8x128
/-- The first row of a tile in each of its rows. -/
def first8 (h : FVec F S8x128 .f32) : FVec F S8x128 .f32 :=
  broadcastTo S8x128 (shapeCast S1x128 (extractStridedSlice S1x128 ![0, 0] h slices_S8x128_o0_0_S1x128) shapeCasts_S1x128_S1x128) broadcasts_S1x128_S8x128

variable (ga gb : Vec F S2x4096x128 .f32)

/-- What the state carried into tile `k` from the top is. -/
def carry0 : ℕ → FVec F S8x128 .f32
  | 0 => k0_pay1 (F := F)
  | k + 1 => last8 (addf (tileB0 v65 (slab (D := 2) 8 0 (8 * k) ga) (slab (D := 2) 8 0 (8 * k) gb)) (mulf (tileA0 v65 (slab (D := 2) 8 0 (8 * k) ga)) (carry0 k)))

/-- The states of tile `k` from the top. -/
def tile0 (k : ℕ) : FVec F S8x128 .f32 :=
  addf (tileB0 v65 (slab (D := 2) 8 0 (8 * k) ga) (slab (D := 2) 8 0 (8 * k) gb)) (mulf (tileA0 v65 (slab (D := 2) 8 0 (8 * k) ga)) (carry0 v65 ga gb k))

/-- What the state carried into tile `k` from the bottom is. -/
def carry1 : ℕ → FVec F S8x128 .f32
  | 0 => k0_pay1 (F := F)
  | k + 1 => first8 (addf (tileB1 v65 (slab (D := 2) 8 1 (4088 - 8 * k) ga) (slab (D := 2) 8 1 (4088 - 8 * k) gb)) (mulf (tileA1 v65 (slab (D := 2) 8 1 (4088 - 8 * k) ga)) (carry1 k)))

/-- The states of tile `k` from the bottom. -/
def tile1 (k : ℕ) : FVec F S8x128 .f32 :=
  addf (tileB1 v65 (slab (D := 2) 8 1 (4088 - 8 * k) ga) (slab (D := 2) 8 1 (4088 - 8 * k) gb)) (mulf (tileA1 v65 (slab (D := 2) 8 1 (4088 - 8 * k) ga)) (carry1 v65 ga gb k))

end

/-- The chunk `k` of the result. -/
def out (x2 : Vec F S1x4096x128 .f32) (h0 h1 : Vec F S4112x128 .f32) (k : ℕ) : FVec F S256x128 .bf16 :=
  k0_pay4 (rows 256 (256 * k + 8) h0) (rows 256 (256 * k + 8) h1) (slab (D := 1) 256 0 (256 * k) x2)

end Cert.LruFwdIdeal.Run
-- ==== Proof.LruLoops.lean ====
module

public import proofs.«01_k».proof.Proof.Gen.LruFwdIdeal.Frame
public import proofs.«01_k».proof.Proof.Gen.LruFwdIdeal.Skeleton
public import proofs.«01_k».proof.Proof.LruData

/-! # The recurrence's loops over chunks, one trip at a time

The first loop copies the block's rows between the two blocks of zeros, the second stores each chunk's decays and inputs,
the last one the chunks of the result. The invariants say what the buffers READ after the trips done so far. -/

@[expose] public section

set_option maxRecDepth 16384
set_option maxHeartbeats 4000000

noncomputable section

namespace Cert.LruFwdIdeal.Run

open Cert.LruRows
open Cert.LruFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Ownership of a memref's whole buffer, with its contents. -/
abbrev holds {sp : Space} {s : Shape} {e : EltTy} (c : Dev nD) (m : Memref sig .tc sp s e) (f : m.view.ty.Contents (Elt F)) : sProp 𝕄 :=
  iprop(m.view.loc (c : Thread nD τ) ↦[m.view.set]{fullShare} f)

variable (𝒱 : Variants) (c : Dev nD) (bd : Option 𝒱.V) (E : Set ℕ) (i : grid0.Coords) (arg1 : Memref sig .tc .vmem S1x4096x128 .f32) (harg1 : arg1.IsWhole) (arg2 : Memref sig .tc .vmem S1x4096x128 .f32) (harg2 : arg2.IsWhole) (arg3 : Memref sig .tc .vmem S1x16x128 .f32) (harg3 : arg3.IsWhole) (arg4 : Memref sig .tc .vmem S1x128 .f32) (harg4 : arg4.IsWhole) (arg5 : Memref sig .tc .vmem S1x128x512 .bf16) (harg5 : arg5.IsWhole) (arg6 : Memref sig .tc .hbm S4096x2048 .bf16) (harg6 : arg6.IsWhole) (arg7 : Memref sig .tc .vmem S8x128 .f32) (harg7 : arg7.IsWhole) (arg8 : Memref sig .tc .vmem S4096x128 .bf16) (harg8 : arg8.IsWhole) (arg9 : Memref sig .tc .vmem S4112x128 .f32) (harg9 : arg9.IsWhole) (arg10 : Memref sig .tc .vmem S4112x128 .f32) (harg10 : arg10.IsWhole) (arg11 : Memref sig .tc .vmem S4112x128 .f32) (harg11 : arg11.IsWhole) (arg12 : Memref sig .tc .vmem S2x4096x128 .f32) (harg12 : arg12.IsWhole) (arg13 : Memref sig .tc .vmem S2x4096x128 .f32) (harg13 : arg13.IsWhole)

set_option warn.classDefReducibility false in
/-- The first loop by its invariant. -/
@[sl_loop] def copyLoop (x1 : Vec F S1x4096x128 .f32) (g11 : arg11.view.ty.Contents (Elt F)) :
    LoopInv (M := 𝕄) Idealize.ShloMosaic.frame (wpE (defs₀ (F := F)) 𝒱 (c : Thread nD τ) bd) E
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12 arg13 harg13) where
  inv := fun k _ => iprop(holds c arg1 (harg1.unread x1)
    ∗ (∃ f, holds c arg11 f ∗ ⌜arg11.view.read (Elt F) f = start (arg11.view.read (Elt F) g11) (fun k => upTo (R := 4112) 8 (8 + 256 * k) (stack 256 8 (copied x1)) (arg11.view.read (Elt F) g11)) k⌝))
  step k _ := by
    iintro ⟨H1, ⟨%f, H, %h⟩⟩
    replace h := h.trans (start_eq _ _ (upTo_none _ _ _) _)
    unfold k0_t1_body
    sl_exec
    sl_step
    isplitl [H1]; · iexact H1
    iexists _; isplitl [H]; · iexact H
    ipureintro
    exact upTo_cons (R := 4112) arg11.view f 256 8 k.val (copied x1) _ [] h (k0_off2_eq k) (Nat.add_comm _ _) _ _
      (congrArg k0_pay206 ((readAt_slab (D := 1) (R := 4096) arg1.view 256 0 (256 * k.val) (k0_off1_eq k) _ _).trans (congrArg _ (harg1.read_unread x1))))
      (by omega)

set_option warn.classDefReducibility false in
/-- The chunks' loop by its invariant. -/
@[sl_loop] def chunkLoop (x3 : Vec F S1x16x128 .f32) (x5 : Vec F S1x128x512 .bf16) (v13 v17 v21 v23 : FVec F S1x128 .f32) (v25 : IVec S1x128 1) (v39 : Vec F S1x1x128 .f32)
    (g11 : arg11.view.ty.Contents (Elt F)) (g12 : arg12.view.ty.Contents (Elt F)) (g13 : arg13.view.ty.Contents (Elt F)) :
    LoopInv (M := 𝕄) Idealize.ShloMosaic.frame (wpE (defs₀ (F := F)) 𝒱 (c : Thread nD τ) bd) E
      k0_t2_loop.lb k0_t2_loop.ub k0_t2_loop.st k0_t2_ok () (k0_t2_body (F := F) i arg1 harg1 arg2 harg2 arg3 harg3 arg4 harg4 arg5 harg5 arg6 harg6 arg7 harg7 arg8 harg8 arg9 harg9 arg10 harg10 arg11 harg11 arg12 harg12 arg13 harg13 v13 v17 v21 v23 v25 v39) where
  inv := fun k _ => iprop(holds c arg3 (harg3.unread x3) ∗ holds c arg5 (harg5.unread x5) ∗ holds c arg11 g11
    ∗ (∃ f, holds c arg12 f ∗ ⌜arg12.view.read (Elt F) f = start (arg12.view.read (Elt F) g12) (fun k => both (256 * k) (planes (aChunk v13 (k0_pay212 v17 v21 v23 v25) (k0_pay213 v39) x3 x5 (arg11.view.read (Elt F) g11))) (arg12.view.read (Elt F) g12)) k⌝)
    ∗ (∃ f, holds c arg13 f ∗ ⌜arg13.view.read (Elt F) f = start (arg13.view.read (Elt F) g13) (fun k => both (256 * k) (planes (bChunk v13 (k0_pay212 v17 v21 v23 v25) (k0_pay213 v39) x3 x5 (arg11.view.read (Elt F) g11))) (arg13.view.read (Elt F) g13)) k⌝))
  step k _ := by
    iintro ⟨H3, H5, H11, ⟨%f12, H12, %h12⟩, ⟨%f13, H13, %h13⟩⟩
    replace h12 := h12.trans (start_eq _ _ (both_none _ _) _)
    replace h13 := h13.trans (start_eq _ _ (both_none _ _) _)
    unfold k0_t2_body
    simp only [k0_part1_eq_skeleton, k0_part2_eq_skeleton, k0_part3_eq_skeleton]
    unfold k0_part1_skel k0_part2_skel k0_part3_skel
    sl_exec
    sl_step
    have e11 : arg11.view.readAt (Elt F) (Rect.unit (s := S4112x128) (k0_off3 k) S272x128.size (k0_off3_inb k)).toLoadRect g11 = rows 272 (256 * k.val) (arg11.view.read (Elt F) g11) :=
      readAt_rows (R := 4112) arg11.view 272 (256 * k.val) (k0_off3_eq k) _ _
    have e5 : arg5.view.readAt (Elt F) (Rect.unit (s := S1x128x512) ![0, 0, 0] S1x128x512.size inb_S1x128x512_S1x128x512_0_0_0).toLoadRect (harg5.unread x5) = x5 :=
      readAt_whole harg5 x5 _ (by decide) _
    have e3 : ∀ (j : ℕ) (inb), arg3.view.readAt (Elt F) (Rect.unit (s := S1x16x128) ![0, j, 0] S1x1x128.size inb).toLoadRect (harg3.unread x3) = pk x3 j :=
      fun j inb => (readAt_slab (D := 1) (R := 16) arg3.view 1 0 j rfl inb _).trans (congrArg _ (harg3.read_unread x3))
    simp only [e11, e5, e3]
    isplitl [H3]; · iexact H3
    isplitl [H5]; · iexact H5
    isplitl [H11]; · iexact H11
    isplitl [H12]
    · iexists _; isplitl [H12]; · iexact H12
      ipureintro
      exact both_step arg12.view f12 k.val _ _ h12 (k0_off4_eq k) (k0_off5_eq k) _ _ _ _ rfl rfl
    · iexists _; isplitl [H13]; · iexact H13
      ipureintro
      exact both_step arg13.view f13 k.val _ _ h13 (k0_off4_eq k) (k0_off5_eq k) _ _ _ _ rfl rfl

set_option warn.classDefReducibility false in
/-- The last loop by its invariant. -/
@[sl_loop] def outLoop (x2 : Vec F S1x4096x128 .f32) (g8 : arg8.view.ty.Contents (Elt F)) (g9 : arg9.view.ty.Contents (Elt F)) (g10 : arg10.view.ty.Contents (Elt F)) :
    LoopInv (M := 𝕄) Idealize.ShloMosaic.frame (wpE (defs₀ (F := F)) 𝒱 (c : Thread nD τ) bd) E
      k0_t4_loop.lb k0_t4_loop.ub k0_t4_loop.st k0_t4_ok () (k0_t4_body (F := F) i arg1 harg1 arg2 harg2 arg3 harg3 arg4 harg4 arg5 harg5 arg6 harg6 arg7 harg7 arg8 harg8 arg9 harg9 arg10 harg10 arg11 harg11 arg12 harg12 arg13 harg13) where
  inv := fun k _ => iprop(holds c arg2 (harg2.unread x2) ∗ holds c arg9 g9 ∗ holds c arg10 g10
    ∗ (∃ f, holds c arg8 f ∗ ⌜arg8.view.read (Elt F) f = start (arg8.view.read (Elt F) g8) (fun k => upTo (R := 4096) 0 (256 * k) (stack 256 0 (out x2 (arg9.view.read (Elt F) g9) (arg10.view.read (Elt F) g10))) (arg8.view.read (Elt F) g8)) k⌝))
  step k _ := by
    iintro ⟨H2, H9, H10, ⟨%f, H, %h⟩⟩
    replace h := h.trans (start_eq _ _ (upTo_none _ _ _) _)
    unfold k0_t4_body
    sl_exec
    sl_step
    have e9 : arg9.view.readAt (Elt F) (Rect.unit (s := S4112x128) (k0_off10 k) S256x128.size (k0_off10_inb k)).toLoadRect g9 = rows 256 (256 * k.val + 8) (arg9.view.read (Elt F) g9) :=
      readAt_rows (R := 4112) arg9.view 256 (256 * k.val + 8) (k0_off10_eq k) _ _
    have e10 : arg10.view.readAt (Elt F) (Rect.unit (s := S4112x128) (k0_off10 k) S256x128.size (k0_off10_inb k)).toLoadRect g10 = rows 256 (256 * k.val + 8) (arg10.view.read (Elt F) g10) :=
      readAt_rows (R := 4112) arg10.view 256 (256 * k.val + 8) (k0_off10_eq k) _ _
    have e2 : arg2.view.readAt (Elt F) (Rect.unit (s := S1x4096x128) (k0_off11 k) S1x256x128.size (k0_off11_inb k)).toLoadRect (harg2.unread x2) = slab (D := 1) 256 0 (256 * k.val) x2 :=
      (readAt_slab (D := 1) (R := 4096) arg2.view 256 0 (256 * k.val) (k0_off11_eq k) _ _).trans (congrArg _ (harg2.read_unread x2))
    simp only [e9, e10, e2]
    isplitl [H2]; · iexact H2
    isplitl [H9]; · iexact H9
    isplitl [H10]; · iexact H10
    iexists _; isplitl [H]; · iexact H
    ipureintro
    exact upTo_cons (R := 4096) arg8.view f 256 0 k.val _ _ [] h (k0_off12_eq k) (Nat.zero_add _).symm _ _ rfl (by omega)

end Cert.LruFwdIdeal.Run
-- ==== Proof.LruTiles.lean ====
module

public import proofs.«01_k».proof.Proof.Gen.LruFwdIdeal.Frame
public import proofs.«01_k».proof.Proof.Gen.LruFwdIdeal.Skeleton
public import proofs.«01_k».proof.Proof.LruLoops

/-! # One tile of the recurrence is as any other

The eight tiles of a trip are scanned by the same operations, so the unrolled text's values are those of the one tile; and
what joins a tile to the state carried into it is one multiplication and one addition. -/

@[expose] public section

set_option maxRecDepth 16384
set_option maxHeartbeats 4000000

noncomputable section

namespace Cert.LruFwdIdeal.Run

open Cert.LruRows
open Cert.LruFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (v65 : IVec S8x128 32) (a b : Vec F S1x8x128 .f32)

theorem stB0_1 : k0_pay40 v65 (k0_pay31 a) (k0_pay32 b) (k0_pay34 v65 a) (k0_pay35 v65 b) = tileB0 v65 a b := rfl
theorem stA0_1 : k0_pay41 v65 (k0_pay31 a) (k0_pay34 v65 a) = tileA0 v65 a := rfl
theorem stB0_2 : k0_pay52 v65 (k0_pay42 a) (k0_pay43 b) (k0_pay44 v65) (k0_pay45 v65 a) (k0_pay46 b) (k0_pay47 (F := F)) = tileB0 v65 a b := rfl
theorem stA0_2 : k0_pay53 v65 (k0_pay42 a) (k0_pay45 v65 a) = tileA0 v65 a := rfl
theorem stB0_3 : k0_pay63 v65 (k0_pay54 a) (k0_pay55 b) (k0_pay56 v65) (k0_pay57 v65 a) (k0_pay58 b) (Scalar.ofBits .f32 0x00000000#32) = tileB0 v65 a b := rfl
theorem stA0_3 : k0_pay64 v65 (k0_pay54 a) (k0_pay57 v65 a) = tileA0 v65 a := rfl
theorem stB0_4 : k0_pay74 v65 (k0_pay65 a) (k0_pay66 b) (k0_pay67 v65) (k0_pay68 v65 a) (k0_pay69 b) = tileB0 v65 a b := rfl
theorem stA0_4 : k0_pay75 v65 (k0_pay65 a) (k0_pay68 v65 a) = tileA0 v65 a := rfl
theorem stB0_5 : k0_pay84 v65 (k0_pay76 a) (k0_pay77 b) (k0_pay78 v65) (k0_pay79 v65 a) 1#32 = tileB0 v65 a b := rfl
theorem stA0_5 : k0_pay85 v65 (k0_pay76 a) (k0_pay79 v65 a) = tileA0 v65 a := rfl
theorem stB0_6 : k0_pay94 v65 (k0_pay86 a) (k0_pay87 b) (k0_pay88 v65) (k0_pay89 v65 a) = tileB0 v65 a b := rfl
theorem stA0_6 : k0_pay95 v65 (k0_pay86 a) (k0_pay89 v65 a) = tileA0 v65 a := rfl
theorem stB0_7 : k0_pay105 v65 (k0_pay96 a) (k0_pay97 b) (k0_pay98 v65) (k0_pay99 a) (k0_pay100 (F := F)) = tileB0 v65 a b := rfl
theorem stA0_7 : k0_pay106 v65 (k0_pay96 a) (k0_pay98 v65) (k0_pay99 a) (k0_pay100 (F := F)) = tileA0 v65 a := rfl
theorem stB1_1 : k0_pay135 v65 (k0_pay129 v65 a b) (k0_pay130 v65 a) (k0_pay131 v65) (k0_pay132 v65 a) 6#32 = tileB1 v65 a b := rfl
theorem stA1_1 : k0_pay136 v65 (k0_pay130 v65 a) (k0_pay132 v65 a) = tileA1 v65 a := rfl
theorem stB1_2 : k0_pay145 v65 (k0_pay139 v65 a b) (k0_pay140 v65 a) (k0_pay141 v65) (k0_pay142 v65 a) = tileB1 v65 a b := rfl
theorem stA1_2 : k0_pay146 v65 (k0_pay140 v65 a) (k0_pay142 v65 a) = tileA1 v65 a := rfl
theorem stB1_3 : k0_pay156 v65 (k0_pay149 v65 a b) (k0_pay150 v65 a) (k0_pay151 v65) (k0_pay152 v65 a) (k0_pay153 (F := F)) = tileB1 v65 a b := rfl
theorem stA1_3 : k0_pay157 v65 (k0_pay150 v65 a) (k0_pay151 v65) (k0_pay152 v65 a) (k0_pay153 (F := F)) = tileA1 v65 a := rfl
theorem stB1_4 : k0_pay166 v65 (k0_pay160 v65 a b) (k0_pay161 v65 a) (k0_pay162 v65) (k0_pay163 v65 a) (Scalar.ofBits .f32 0x3F800000#32) = tileB1 v65 a b := rfl
theorem stA1_4 : k0_pay167 v65 (k0_pay161 v65 a) (k0_pay162 v65) (k0_pay163 v65 a) (Scalar.ofBits .f32 0x3F800000#32) = tileA1 v65 a := rfl
theorem stB1_5 : k0_pay176 v65 (k0_pay170 v65 a b) (k0_pay171 v65 a) (k0_pay172 v65) (k0_pay173 v65 a) = tileB1 v65 a b := rfl
theorem stA1_5 : k0_pay177 v65 (k0_pay171 v65 a) (k0_pay172 v65) (k0_pay173 v65 a) = tileA1 v65 a := rfl
theorem stB1_6 : k0_pay185 v65 (k0_pay180 v65 a b) (k0_pay181 v65 a) (k0_pay182 v65) 6#32 = tileB1 v65 a b := rfl
theorem stA1_6 : k0_pay186 v65 (k0_pay181 v65 a) (k0_pay182 v65) 6#32 = tileA1 v65 a := rfl
theorem stB1_7 : k0_pay194 v65 (k0_pay189 v65 a b) (k0_pay190 v65 a) (k0_pay191 v65) = tileB1 v65 a b := rfl
theorem stA1_7 : k0_pay195 v65 (k0_pay190 v65 a) (k0_pay191 v65) = tileA1 v65 a := rfl
end

section
variable (h b0 a0 b1 a1 b2 a2 b3 a3 b4 a4 b5 a5 b6 a6 b7 a7 : FVec F S8x128 .f32)

theorem ch107 : k0_pay107 h b0 a0 = (addf b0 (mulf a0 h)) := rfl
theorem ch108 : k0_pay108 h b0 a0 b1 a1 = (addf b1 (mulf a1 (last8 (addf b0 (mulf a0 h))))) := rfl
theorem ch109 : k0_pay109 b2 a2 h = (addf b2 (mulf a2 (last8 h))) := rfl
theorem ch110 : k0_pay110 b2 a2 b3 a3 h = (addf b3 (mulf a3 (last8 (addf b2 (mulf a2 (last8 h)))))) := rfl
theorem ch111 : k0_pay111 b2 a2 b3 a3 b4 a4 h = (addf b4 (mulf a4 (last8 (addf b3 (mulf a3 (last8 (addf b2 (mulf a2 (last8 h))))))))) := rfl
theorem ch112 : k0_pay112 b2 a2 b3 a3 b4 a4 b5 a5 h = (addf b5 (mulf a5 (last8 (addf b4 (mulf a4 (last8 (addf b3 (mulf a3 (last8 (addf b2 (mulf a2 (last8 h)))))))))))) := rfl
theorem ch113 : k0_pay113 b6 a6 h = (addf b6 (mulf a6 (last8 h))) := rfl
theorem ch114 : k0_pay114 b6 a6 b7 a7 h = (addf b7 (mulf a7 (last8 (addf b6 (mulf a6 (last8 h)))))) := rfl
theorem ch115 : k0_pay115 b6 a6 b7 a7 h = last8 (addf b7 (mulf a7 (last8 (addf b6 (mulf a6 (last8 h)))))) := rfl
theorem ch196 : k0_pay196 h b0 a0 = (addf b0 (mulf a0 h)) := rfl
theorem ch197 : k0_pay197 h b0 a0 b1 a1 = (addf b1 (mulf a1 (first8 (addf b0 (mulf a0 h))))) := rfl
theorem ch198 : k0_pay198 h b0 a0 b1 a1 b2 a2 = (addf b2 (mulf a2 (first8 (addf b1 (mulf a1 (first8 (addf b0 (mulf a0 h)))))))) := rfl
theorem ch199 : k0_pay199 b3 a3 h = (addf b3 (mulf a3 (first8 h))) := rfl
theorem ch200 : k0_pay200 b3 a3 b4 a4 h = (addf b4 (mulf a4 (first8 (addf b3 (mulf a3 (first8 h)))))) := rfl
theorem ch201 : k0_pay201 b3 a3 b4 a4 b5 a5 h = (addf b5 (mulf a5 (first8 (addf b4 (mulf a4 (first8 (addf b3 (mulf a3 (first8 h))))))))) := rfl
theorem ch202 : k0_pay202 b3 a3 b4 a4 b5 a5 b6 a6 h = (addf b6 (mulf a6 (first8 (addf b5 (mulf a5 (first8 (addf b4 (mulf a4 (first8 (addf b3 (mulf a3 (first8 h)))))))))))) := rfl
theorem ch2 : k0_pay2 b7 a7 h = (addf b7 (mulf a7 (first8 h))) := rfl
theorem ch3 : k0_pay3 b7 a7 h = first8 (addf b7 (mulf a7 (first8 h))) := rfl
end

end Cert.LruFwdIdeal.Run
-- ==== Proof.LruScan.lean ====
module

public import proofs.«01_k».proof.Proof.Gen.LruFwdIdeal.Frame
public import proofs.«01_k».proof.Proof.Gen.LruFwdIdeal.Skeleton
public import proofs.«01_k».proof.Proof.LruTiles

/-! # The recurrence's loop over tiles, one trip at a time

Eight tiles from the top and eight from the bottom per trip, each scanned on its own and joined to the state carried
into it. -/

@[expose] public section

set_option maxRecDepth 16384
set_option maxHeartbeats 8000000

noncomputable section

namespace Cert.LruFwdIdeal.Run

open Cert.LruRows
open Cert.LruFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ
variable (𝒱 : Variants) (c : Dev nD) (bd : Option 𝒱.V) (E : Set ℕ) (i : grid0.Coords) (arg1 : Memref sig .tc .vmem S1x4096x128 .f32) (harg1 : arg1.IsWhole) (arg2 : Memref sig .tc .vmem S1x4096x128 .f32) (harg2 : arg2.IsWhole) (arg3 : Memref sig .tc .vmem S1x16x128 .f32) (harg3 : arg3.IsWhole) (arg4 : Memref sig .tc .vmem S1x128 .f32) (harg4 : arg4.IsWhole) (arg5 : Memref sig .tc .vmem S1x128x512 .bf16) (harg5 : arg5.IsWhole) (arg6 : Memref sig .tc .hbm S4096x2048 .bf16) (harg6 : arg6.IsWhole) (arg7 : Memref sig .tc .vmem S8x128 .f32) (harg7 : arg7.IsWhole) (arg8 : Memref sig .tc .vmem S4096x128 .bf16) (harg8 : arg8.IsWhole) (arg9 : Memref sig .tc .vmem S4112x128 .f32) (harg9 : arg9.IsWhole) (arg10 : Memref sig .tc .vmem S4112x128 .f32) (harg10 : arg10.IsWhole) (arg11 : Memref sig .tc .vmem S4112x128 .f32) (harg11 : arg11.IsWhole) (arg12 : Memref sig .tc .vmem S2x4096x128 .f32) (harg12 : arg12.IsWhole) (arg13 : Memref sig .tc .vmem S2x4096x128 .f32) (harg13 : arg13.IsWhole)

set_option warn.classDefReducibility false in
/-- The tiles' loop by its invariant. -/
@[sl_loop] def tileLoop (v65 : IVec S8x128 32)
    (g9 : arg9.view.ty.Contents (Elt F)) (g10 : arg10.view.ty.Contents (Elt F)) (g12 : arg12.view.ty.Contents (Elt F)) (g13 : arg13.view.ty.Contents (Elt F)) :
    LoopInv (M := 𝕄) Idealize.ShloMosaic.frame (wpE (defs₀ (F := F)) 𝒱 (c : Thread nD τ) bd) E
      k0_t3_loop.lb k0_t3_loop.ub k0_t3_loop.st k0_t3_ok (k0_pay1 (F := F), k0_pay1 (F := F)) (k0_t3_body (F := F) i arg1 harg1 arg2 harg2 arg3 harg3 arg4 harg4 arg5 harg5 arg6 harg6 arg7 harg7 arg8 harg8 arg9 harg9 arg10 harg10 arg11 harg11 arg12 harg12 arg13 harg13 v65) where
  inv := fun k x => iprop(holds c arg12 g12 ∗ holds c arg13 g13
    ∗ ⌜x = (carry0 v65 (arg12.view.read (Elt F) g12) (arg13.view.read (Elt F) g13) (8 * k), carry1 v65 (arg12.view.read (Elt F) g12) (arg13.view.read (Elt F) g13) (8 * k))⌝
    ∗ (∃ f, holds c arg9 f ∗ ⌜arg9.view.read (Elt F) f = start (arg9.view.read (Elt F) g9) (fun k => upTo (R := 4112) 8 (8 + 64 * k) (stack 8 8 (tile0 v65 (arg12.view.read (Elt F) g12) (arg13.view.read (Elt F) g13))) (arg9.view.read (Elt F) g9)) k⌝)
    ∗ (∃ f, holds c arg10 f ∗ ⌜arg10.view.read (Elt F) f = start (arg10.view.read (Elt F) g10) (fun k => upTo (R := 4112) (4104 - 64 * k) 4104 (stack 8 8 (fun q => tile1 v65 (arg12.view.read (Elt F) g12) (arg13.view.read (Elt F) g13) (511 - q))) (arg10.view.read (Elt F) g10)) k⌝))
  step k x := by
    have hk : k.val < 64 := Nat.lt_of_lt_of_le k.isLt k0_t3_abs.2.1
    iintro ⟨H12, H13, %hx, ⟨%f9, H9, %h9⟩, ⟨%f10, H10, %h10⟩⟩
    subst hx
    replace h9 := h9.trans (start_eq _ _ (upTo_none _ _ _) _)
    replace h10 := h10.trans (start_eq _ _ (upTo_none _ _ _) _)
    unfold k0_t3_body
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel
    sl_exec
    sl_step
    have r120 : ∀ r : Fin 8, arg12.view.readAt (Elt F) (Rect.unit (s := S2x4096x128) (k0_off6 k (BitVec.ofNat 32 r.val)) S1x8x128.size (k0_off6_inb k r)).toLoadRect g12 = slab (D := 2) 8 0 (8 * (8 * k.val + r.val)) (arg12.view.read (Elt F) g12) :=
      fun r => readAt_slab (D := 2) (R := 4096) arg12.view 8 0 _ ((k0_off6_eq k r).trans (by rw [show 64 * k.val + 8 * r.val = 8 * (8 * k.val + r.val) by omega])) _ _
    have r121 : ∀ r : Fin 8, arg12.view.readAt (Elt F) (Rect.unit (s := S2x4096x128) (k0_off8 k (BitVec.ofNat 32 r.val)) S1x8x128.size (k0_off8_inb k r)).toLoadRect g12 = slab (D := 2) 8 1 (4088 - 8 * (8 * k.val + r.val)) (arg12.view.read (Elt F) g12) :=
      fun r => readAt_slab (D := 2) (R := 4096) arg12.view 8 1 _ ((k0_off8_eq k r).trans (by rw [show 64 * k.val + 8 * r.val = 8 * (8 * k.val + r.val) by omega])) _ _
    have r130 : ∀ r : Fin 8, arg13.view.readAt (Elt F) (Rect.unit (s := S2x4096x128) (k0_off6 k (BitVec.ofNat 32 r.val)) S1x8x128.size (k0_off6_inb k r)).toLoadRect g13 = slab (D := 2) 8 0 (8 * (8 * k.val + r.val)) (arg13.view.read (Elt F) g13) :=
      fun r => readAt_slab (D := 2) (R := 4096) arg13.view 8 0 _ ((k0_off6_eq k r).trans (by rw [show 64 * k.val + 8 * r.val = 8 * (8 * k.val + r.val) by omega])) _ _
    have r131 : ∀ r : Fin 8, arg13.view.readAt (Elt F) (Rect.unit (s := S2x4096x128) (k0_off8 k (BitVec.ofNat 32 r.val)) S1x8x128.size (k0_off8_inb k r)).toLoadRect g13 = slab (D := 2) 8 1 (4088 - 8 * (8 * k.val + r.val)) (arg13.view.read (Elt F) g13) :=
      fun r => readAt_slab (D := 2) (R := 4096) arg13.view 8 1 _ ((k0_off8_eq k r).trans (by rw [show 64 * k.val + 8 * r.val = 8 * (8 * k.val + r.val) by omega])) _ _
    have q1200 : arg12.view.readAt (Elt F) (Rect.unit (s := S2x4096x128) (k0_off6 k 0#32) S1x8x128.size (k0_off6_inb k 0)).toLoadRect g12 = slab (D := 2) 8 0 (8 * (8 * k.val)) (arg12.view.read (Elt F) g12) := r120 0
    have q1210 : arg12.view.readAt (Elt F) (Rect.unit (s := S2x4096x128) (k0_off8 k 0#32) S1x8x128.size (k0_off8_inb k 0)).toLoadRect g12 = slab (D := 2) 8 1 (4088 - 8 * (8 * k.val)) (arg12.view.read (Elt F) g12) := r121 0
    have q1201 : arg12.view.readAt (Elt F) (Rect.unit (s := S2x4096x128) (k0_off6 k 1#32) S1x8x128.size (k0_off6_inb k 1)).toLoadRect g12 = slab (D := 2) 8 0 (8 * (8 * k.val + 1)) (arg12.view.read (Elt F) g12) := r120 1
    have q1211 : arg12.view.readAt (Elt F) (Rect.unit (s := S2x4096x128) (k0_off8 k 1#32) S1x8x128.size (k0_off8_inb k 1)).toLoadRect g12 = slab (D := 2) 8 1 (4088 - 8 * (8 * k.val + 1)) (arg12.view.read (Elt F) g12) := r121 1
    have q1202 : arg12.view.readAt (Elt F) (Rect.unit (s := S2x4096x128) (k0_off6 k 2#32) S1x8x128.size (k0_off6_inb k 2)).toLoadRect g12 = slab (D := 2) 8 0 (8 * (8 * k.val + 2)) (arg12.view.read (Elt F) g12) := r120 2
    have q1212 : arg12.view.readAt (Elt F) (Rect.unit (s := S2x4096x128) (k0_off8 k 2#32) S1x8x128.size (k0_off8_inb k 2)).toLoadRect g12 = slab (D := 2) 8 1 (4088 - 8 * (8 * k.val + 2)) (arg12.view.read (Elt F) g12) := r121 2
    have q1203 : arg12.view.readAt (Elt F) (Rect.unit (s := S2x4096x128) (k0_off6 k 3#32) S1x8x128.size (k0_off6_inb k 3)).toLoadRect g12 = slab (D := 2) 8 0 (8 * (8 * k.val + 3)) (arg12.view.read (Elt F) g12) := r120 3
    have q1213 : arg12.view.readAt (Elt F) (Rect.unit (s := S2x4096x128) (k0_off8 k 3#32) S1x8x128.size (k0_off8_inb k 3)).toLoadRect g12 = slab (D := 2) 8 1 (4088 - 8 * (8 * k.val + 3)) (arg12.view.read (Elt F) g12) := r121 3
    have q1204 : arg12.view.readAt (Elt F) (Rect.unit (s := S2x4096x128) (k0_off6 k 4#32) S1x8x128.size (k0_off6_inb k 4)).toLoadRect g12 = slab (D := 2) 8 0 (8 * (8 * k.val + 4)) (arg12.view.read (Elt F) g12) := r120 4
    have q1214 : arg12.view.readAt (Elt F) (Rect.unit (s := S2x4096x128) (k0_off8 k 4#32) S1x8x128.size (k0_off8_inb k 4)).toLoadRect g12 = slab (D := 2) 8 1 (4088 - 8 * (8 * k.val + 4)) (arg12.view.read (Elt F) g12) := r121 4
    have q1205 : arg12.view.readAt (Elt F) (Rect.unit (s := S2x4096x128) (k0_off6 k 5#32) S1x8x128.size (k0_off6_inb k 5)).toLoadRect g12 = slab (D := 2) 8 0 (8 * (8 * k.val + 5)) (arg12.view.read (Elt F) g12) := r120 5
    have q1215 : arg12.view.readAt (Elt F) (Rect.unit (s := S2x4096x128) (k0_off8 k 5#32) S1x8x128.size (k0_off8_inb k 5)).toLoadRect g12 = slab (D := 2) 8 1 (4088 - 8 * (8 * k.val + 5)) (arg12.view.read (Elt F) g12) := r121 5
    have q1206 : arg12.view.readAt (Elt F) (Rect.unit (s := S2x4096x128) (k0_off6 k 6#32) S1x8x128.size (k0_off6_inb k 6)).toLoadRect g12 = slab (D := 2) 8 0 (8 * (8 * k.val + 6)) (arg12.view.read (Elt F) g12) := r120 6
    have q1216 : arg12.view.readAt (Elt F) (Rect.unit (s := S2x4096x128) (k0_off8 k 6#32) S1x8x128.size (k0_off8_inb k 6)).toLoadRect g12 = slab (D := 2) 8 1 (4088 - 8 * (8 * k.val + 6)) (arg12.view.read (Elt F) g12) := r121 6
    have q1207 : arg12.view.readAt (Elt F) (Rect.unit (s := S2x4096x128) (k0_off6 k 7#32) S1x8x128.size (k0_off6_inb k 7)).toLoadRect g12 = slab (D := 2) 8 0 (8 * (8 * k.val + 7)) (arg12.view.read (Elt F) g12) := r120 7
    have q1217 : arg12.view.readAt (Elt F) (Rect.unit (s := S2x4096x128) (k0_off8 k 7#32) S1x8x128.size (k0_off8_inb k 7)).toLoadRect g12 = slab (D := 2) 8 1 (4088 - 8 * (8 * k.val + 7)) (arg12.view.read (Elt F) g12) := r121 7
    have q1300 : arg13.view.readAt (Elt F) (Rect.unit (s := S2x4096x128) (k0_off6 k 0#32) S1x8x128.size (k0_off6_inb k 0)).toLoadRect g13 = slab (D := 2) 8 0 (8 * (8 * k.val)) (arg13.view.read (Elt F) g13) := r130 0
    have q1310 : arg13.view.readAt (Elt F) (Rect.unit (s := S2x4096x128) (k0_off8 k 0#32) S1x8x128.size (k0_off8_inb k 0)).toLoadRect g13 = slab (D := 2) 8 1 (4088 - 8 * (8 * k.val)) (arg13.view.read (Elt F) g13) := r131 0
    have q1301 : arg13.view.readAt (Elt F) (Rect.unit (s := S2x4096x128) (k0_off6 k 1#32) S1x8x128.size (k0_off6_inb k 1)).toLoadRect g13 = slab (D := 2) 8 0 (8 * (8 * k.val + 1)) (arg13.view.read (Elt F) g13) := r130 1
    have q1311 : arg13.view.readAt (Elt F) (Rect.unit (s := S2x4096x128) (k0_off8 k 1#32) S1x8x128.size (k0_off8_inb k 1)).toLoadRect g13 = slab (D := 2) 8 1 (4088 - 8 * (8 * k.val + 1)) (arg13.view.read (Elt F) g13) := r131 1
    have q1302 : arg13.view.readAt (Elt F) (Rect.unit (s := S2x4096x128) (k0_off6 k 2#32) S1x8x128.size (k0_off6_inb k 2)).toLoadRect g13 = slab (D := 2) 8 0 (8 * (8 * k.val + 2)) (arg13.view.read (Elt F) g13) := r130 2
    have q1312 : arg13.view.readAt (Elt F) (Rect.unit (s := S2x4096x128) (k0_off8 k 2#32) S1x8x128.size (k0_off8_inb k 2)).toLoadRect g13 = slab (D := 2) 8 1 (4088 - 8 * (8 * k.val + 2)) (arg13.view.read (Elt F) g13) := r131 2
    have q1303 : arg13.view.readAt (Elt F) (Rect.unit (s := S2x4096x128) (k0_off6 k 3#32) S1x8x128.size (k0_off6_inb k 3)).toLoadRect g13 = slab (D := 2) 8 0 (8 * (8 * k.val + 3)) (arg13.view.read (Elt F) g13) := r130 3
    have q1313 : arg13.view.readAt (Elt F) (Rect.unit (s := S2x4096x128) (k0_off8 k 3#32) S1x8x128.size (k0_off8_inb k 3)).toLoadRect g13 = slab (D := 2) 8 1 (4088 - 8 * (8 * k.val + 3)) (arg13.view.read (Elt F) g13) := r131 3
    have q1304 : arg13.view.readAt (Elt F) (Rect.unit (s := S2x4096x128) (k0_off6 k 4#32) S1x8x128.size (k0_off6_inb k 4)).toLoadRect g13 = slab (D := 2) 8 0 (8 * (8 * k.val + 4)) (arg13.view.read (Elt F) g13) := r130 4
    have q1314 : arg13.view.readAt (Elt F) (Rect.unit (s := S2x4096x128) (k0_off8 k 4#32) S1x8x128.size (k0_off8_inb k 4)).toLoadRect g13 = slab (D := 2) 8 1 (4088 - 8 * (8 * k.val + 4)) (arg13.view.read (Elt F) g13) := r131 4
    have q1305 : arg13.view.readAt (Elt F) (Rect.unit (s := S2x4096x128) (k0_off6 k 5#32) S1x8x128.size (k0_off6_inb k 5)).toLoadRect g13 = slab (D := 2) 8 0 (8 * (8 * k.val + 5)) (arg13.view.read (Elt F) g13) := r130 5
    have q1315 : arg13.view.readAt (Elt F) (Rect.unit (s := S2x4096x128) (k0_off8 k 5#32) S1x8x128.size (k0_off8_inb k 5)).toLoadRect g13 = slab (D := 2) 8 1 (4088 - 8 * (8 * k.val + 5)) (arg13.view.read (Elt F) g13) := r131 5
    have q1306 : arg13.view.readAt (Elt F) (Rect.unit (s := S2x4096x128) (k0_off6 k 6#32) S1x8x128.size (k0_off6_inb k 6)).toLoadRect g13 = slab (D := 2) 8 0 (8 * (8 * k.val + 6)) (arg13.view.read (Elt F) g13) := r130 6
    have q1316 : arg13.view.readAt (Elt F) (Rect.unit (s := S2x4096x128) (k0_off8 k 6#32) S1x8x128.size (k0_off8_inb k 6)).toLoadRect g13 = slab (D := 2) 8 1 (4088 - 8 * (8 * k.val + 6)) (arg13.view.read (Elt F) g13) := r131 6
    have q1307 : arg13.view.readAt (Elt F) (Rect.unit (s := S2x4096x128) (k0_off6 k 7#32) S1x8x128.size (k0_off6_inb k 7)).toLoadRect g13 = slab (D := 2) 8 0 (8 * (8 * k.val + 7)) (arg13.view.read (Elt F) g13) := r130 7
    have q1317 : arg13.view.readAt (Elt F) (Rect.unit (s := S2x4096x128) (k0_off8 k 7#32) S1x8x128.size (k0_off8_inb k 7)).toLoadRect g13 = slab (D := 2) 8 1 (4088 - 8 * (8 * k.val + 7)) (arg13.view.read (Elt F) g13) := r131 7
    have o7 : ∀ r : Fin 8, k0_off7 k (BitVec.ofNat 32 r.val) = ![8 + 8 * (8 * k.val + r.val), 0] :=
      fun r => (k0_off7_eq k r).trans (by rw [show 64 * k.val + 8 * r.val + 8 = 8 + 8 * (8 * k.val + r.val) by omega])
    have o9 : ∀ r : Fin 8, k0_off9 k (BitVec.ofNat 32 r.val) = ![4096 - 8 * (8 * k.val + r.val), 0] :=
      fun r => (k0_off9_eq k r).trans (by rw [show 64 * k.val + 8 * r.val = 8 * (8 * k.val + r.val) by omega])
    simp only [q1200, q1210, q1201, q1211, q1202, q1212, q1203, q1213, q1204, q1214, q1205, q1215, q1206, q1216, q1207, q1217, q1300, q1310, q1301, q1311, q1302, q1312, q1303, q1313, q1304, q1314, q1305, q1315, q1306, q1316, q1307, q1317]
    simp only [stA0_1, stA0_2, stA0_3, stA0_4, stA0_5, stA0_6, stA0_7, stA1_1, stA1_2, stA1_3, stA1_4, stA1_5, stA1_6, stA1_7, stB0_1, stB0_2, stB0_3, stB0_4, stB0_5, stB0_6, stB0_7, stB1_1, stB1_2, stB1_3, stB1_4, stB1_5, stB1_6, stB1_7]
    simp only [ch107, ch108, ch109, ch110, ch111, ch112, ch113, ch114, ch115, ch196, ch197, ch198, ch199, ch200, ch201, ch202, ch2, ch3]
    isplitl [H12]; · iexact H12
    isplitl [H13]; · iexact H13
    isplitr
    · ipureintro; exact Prod.ext rfl rfl
    isplitl [H9]
    · iexists _; isplitl [H9]; · iexact H9
      ipureintro
      exact upTo_cons (R := 4112) (lo := 8) (hi := 8 + 8 * (8 * k.val + 7)) (lo' := 8) (hi' := 8 + 64 * (k.val + 1)) (o := 8 + 8 * (8 * k.val + 7)) arg9.view f9 8 8 (8 * k.val + 7) (tile0 v65 (arg12.view.read (Elt F) g12) (arg13.view.read (Elt F) g13)) _ _
        (upTo_cons (R := 4112) (lo := 8) (hi := 8 + 8 * (8 * k.val + 6)) (lo' := 8) (hi' := 8 + 8 * (8 * k.val + 7)) (o := 8 + 8 * (8 * k.val + 6)) arg9.view f9 8 8 (8 * k.val + 6) (tile0 v65 (arg12.view.read (Elt F) g12) (arg13.view.read (Elt F) g13)) _ _
        (upTo_cons (R := 4112) (lo := 8) (hi := 8 + 8 * (8 * k.val + 5)) (lo' := 8) (hi' := 8 + 8 * (8 * k.val + 6)) (o := 8 + 8 * (8 * k.val + 5)) arg9.view f9 8 8 (8 * k.val + 5) (tile0 v65 (arg12.view.read (Elt F) g12) (arg13.view.read (Elt F) g13)) _ _
        (upTo_cons (R := 4112) (lo := 8) (hi := 8 + 8 * (8 * k.val + 4)) (lo' := 8) (hi' := 8 + 8 * (8 * k.val + 5)) (o := 8 + 8 * (8 * k.val + 4)) arg9.view f9 8 8 (8 * k.val + 4) (tile0 v65 (arg12.view.read (Elt F) g12) (arg13.view.read (Elt F) g13)) _ _
        (upTo_cons (R := 4112) (lo := 8) (hi := 8 + 8 * (8 * k.val + 3)) (lo' := 8) (hi' := 8 + 8 * (8 * k.val + 4)) (o := 8 + 8 * (8 * k.val + 3)) arg9.view f9 8 8 (8 * k.val + 3) (tile0 v65 (arg12.view.read (Elt F) g12) (arg13.view.read (Elt F) g13)) _ _
        (upTo_cons (R := 4112) (lo := 8) (hi := 8 + 8 * (8 * k.val + 2)) (lo' := 8) (hi' := 8 + 8 * (8 * k.val + 3)) (o := 8 + 8 * (8 * k.val + 2)) arg9.view f9 8 8 (8 * k.val + 2) (tile0 v65 (arg12.view.read (Elt F) g12) (arg13.view.read (Elt F) g13)) _ _
        (upTo_cons (R := 4112) (lo := 8) (hi := 8 + 8 * (8 * k.val + 1)) (lo' := 8) (hi' := 8 + 8 * (8 * k.val + 2)) (o := 8 + 8 * (8 * k.val + 1)) arg9.view f9 8 8 (8 * k.val + 1) (tile0 v65 (arg12.view.read (Elt F) g12) (arg13.view.read (Elt F) g13)) _ _
        (upTo_cons (R := 4112) (lo := 8) (hi := 8 + 64 * k.val) (lo' := 8) (hi' := 8 + 8 * (8 * k.val + 1)) (o := 8 + 8 * (8 * k.val)) arg9.view f9 8 8 (8 * k.val) (tile0 v65 (arg12.view.read (Elt F) g12) (arg13.view.read (Elt F) g13)) _ []
        h9 (o7 0) rfl _ _ rfl (by omega)) (o7 1) rfl _ _ rfl (by omega)) (o7 2) rfl _ _ rfl (by omega)) (o7 3) rfl _ _ rfl (by omega)) (o7 4) rfl _ _ rfl (by omega)) (o7 5) rfl _ _ rfl (by omega)) (o7 6) rfl _ _ rfl (by omega)) (o7 7) rfl _ _ rfl (by omega)
    · iexists _; isplitl [H10]; · iexact H10
      ipureintro
      exact upTo_cons (R := 4112) (lo := 4104 - 8 * (8 * k.val + 7)) (hi := 4104) (lo' := 4104 - 64 * (k.val + 1)) (hi' := 4104) (o := 4096 - 8 * (8 * k.val + 7)) arg10.view f10 8 8 (511 - (8 * k.val + 7)) (fun q => tile1 v65 (arg12.view.read (Elt F) g12) (arg13.view.read (Elt F) g13) (511 - q)) _ _
        (upTo_cons (R := 4112) (lo := 4104 - 8 * (8 * k.val + 6)) (hi := 4104) (lo' := 4104 - 8 * (8 * k.val + 7)) (hi' := 4104) (o := 4096 - 8 * (8 * k.val + 6)) arg10.view f10 8 8 (511 - (8 * k.val + 6)) (fun q => tile1 v65 (arg12.view.read (Elt F) g12) (arg13.view.read (Elt F) g13) (511 - q)) _ _
        (upTo_cons (R := 4112) (lo := 4104 - 8 * (8 * k.val + 5)) (hi := 4104) (lo' := 4104 - 8 * (8 * k.val + 6)) (hi' := 4104) (o := 4096 - 8 * (8 * k.val + 5)) arg10.view f10 8 8 (511 - (8 * k.val + 5)) (fun q => tile1 v65 (arg12.view.read (Elt F) g12) (arg13.view.read (Elt F) g13) (511 - q)) _ _
        (upTo_cons (R := 4112) (lo := 4104 - 8 * (8 * k.val + 4)) (hi := 4104) (lo' := 4104 - 8 * (8 * k.val + 5)) (hi' := 4104) (o := 4096 - 8 * (8 * k.val + 4)) arg10.view f10 8 8 (511 - (8 * k.val + 4)) (fun q => tile1 v65 (arg12.view.read (Elt F) g12) (arg13.view.read (Elt F) g13) (511 - q)) _ _
        (upTo_cons (R := 4112) (lo := 4104 - 8 * (8 * k.val + 3)) (hi := 4104) (lo' := 4104 - 8 * (8 * k.val + 4)) (hi' := 4104) (o := 4096 - 8 * (8 * k.val + 3)) arg10.view f10 8 8 (511 - (8 * k.val + 3)) (fun q => tile1 v65 (arg12.view.read (Elt F) g12) (arg13.view.read (Elt F) g13) (511 - q)) _ _
        (upTo_cons (R := 4112) (lo := 4104 - 8 * (8 * k.val + 2)) (hi := 4104) (lo' := 4104 - 8 * (8 * k.val + 3)) (hi' := 4104) (o := 4096 - 8 * (8 * k.val + 2)) arg10.view f10 8 8 (511 - (8 * k.val + 2)) (fun q => tile1 v65 (arg12.view.read (Elt F) g12) (arg13.view.read (Elt F) g13) (511 - q)) _ _
        (upTo_cons (R := 4112) (lo := 4104 - 8 * (8 * k.val + 1)) (hi := 4104) (lo' := 4104 - 8 * (8 * k.val + 2)) (hi' := 4104) (o := 4096 - 8 * (8 * k.val + 1)) arg10.view f10 8 8 (511 - (8 * k.val + 1)) (fun q => tile1 v65 (arg12.view.read (Elt F) g12) (arg13.view.read (Elt F) g13) (511 - q)) _ _
        (upTo_cons (R := 4112) (lo := 4104 - 64 * k.val) (hi := 4104) (lo' := 4104 - 8 * (8 * k.val + 1)) (hi' := 4104) (o := 4096 - 8 * (8 * k.val)) arg10.view f10 8 8 (511 - (8 * k.val)) (fun q => tile1 v65 (arg12.view.read (Elt F) g12) (arg13.view.read (Elt F) g13) (511 - q)) _ []
        h10 (o9 0) (by omega) _ _ (congrArg (tile1 v65 (arg12.view.read (Elt F) g12) (arg13.view.read (Elt F) g13)) (show 8 * k.val = 511 - (511 - (8 * k.val)) by omega)) (by omega)) (o9 1) (by omega) _ _ (congrArg (tile1 v65 (arg12.view.read (Elt F) g12) (arg13.view.read (Elt F) g13)) (show 8 * k.val + 1 = 511 - (511 - (8 * k.val + 1)) by omega)) (by omega)) (o9 2) (by omega) _ _ (congrArg (tile1 v65 (arg12.view.read (Elt F) g12) (arg13.view.read (Elt F) g13)) (show 8 * k.val + 2 = 511 - (511 - (8 * k.val + 2)) by omega)) (by omega)) (o9 3) (by omega) _ _ (congrArg (tile1 v65 (arg12.view.read (Elt F) g12) (arg13.view.read (Elt F) g13)) (show 8 * k.val + 3 = 511 - (511 - (8 * k.val + 3)) by omega)) (by omega)) (o9 4) (by omega) _ _ (congrArg (tile1 v65 (arg12.view.read (Elt F) g12) (arg13.view.read (Elt F) g13)) (show 8 * k.val + 4 = 511 - (511 - (8 * k.val + 4)) by omega)) (by omega)) (o9 5) (by omega) _ _ (congrArg (tile1 v65 (arg12.view.read (Elt F) g12) (arg13.view.read (Elt F) g13)) (show 8 * k.val + 5 = 511 - (511 - (8 * k.val + 5)) by omega)) (by omega)) (o9 6) (by omega) _ _ (congrArg (tile1 v65 (arg12.view.read (Elt F) g12) (arg13.view.read (Elt F) g13)) (show 8 * k.val + 6 = 511 - (511 - (8 * k.val + 6)) by omega)) (by omega)) (o9 7) (by omega) _ _ (congrArg (tile1 v65 (arg12.view.read (Elt F) g12) (arg13.view.read (Elt F) g13)) (show 8 * k.val + 7 = 511 - (511 - (8 * k.val + 7)) by omega)) (by omega)

end Cert.LruFwdIdeal.Run
-- ==== Proof.LruBody.lean ====
module

public import proofs.«01_k».proof.Proof.Gen.LruFwdIdeal.Frame
public import proofs.«01_k».proof.Proof.Gen.LruFwdIdeal.Skeleton
public import proofs.«01_k».proof.Proof.LruLoops
public import proofs.«01_k».proof.Proof.LruScan

/-! # One grid point of the recurrence

What the body leaves in its three output blocks. -/

@[expose] public section

set_option maxRecDepth 16384
set_option maxHeartbeats 8000000

noncomputable section

namespace Cert.LruFwdIdeal.Run

open Cert.LruRows
open Cert.LruFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (x1 : Vec F S1x4096x128 .f32) (x2 : Vec F S1x4096x128 .f32) (x3 : Vec F S1x16x128 .f32) (x4 : Vec F S1x128 .f32) (x5 : Vec F S1x128x512 .bf16)

/-- The block's rows between two blocks of zeros. -/
def padded : Vec F S4112x128 .f32 := framed (k0_pay204 (F := F)) (k0_pay205 (F := F)) (stack 256 8 (copied x1))

/-- The decays of both directions, before the scan. -/
def decays : Vec F S2x4096x128 .f32 :=
  planes (aChunk (k0_pay207 x4) (k0_pay212 (k0_pay208 (pk x3 8)) (k0_pay209 (pk x3 8)) (k0_pay210 (pk x3 8)) (k0_pay211 (pk x3 8))) (k0_pay213 (pk x3 9)) x3 x5 (padded x1))

/-- The inputs of both directions, before the scan. -/
def inputs : Vec F S2x4096x128 .f32 :=
  planes (bChunk (k0_pay207 x4) (k0_pay212 (k0_pay208 (pk x3 8)) (k0_pay209 (pk x3 8)) (k0_pay210 (pk x3 8)) (k0_pay211 (pk x3 8))) (k0_pay213 (pk x3 9)) x3 x5 (padded x1))

/-- The row numbers of a tile. -/
def tileRows : IVec S8x128 32 := iota .tc S8x128 32 [0] iota_S8x128_d0_w32

/-- The states from the top between two blocks of zeros. -/
def states0 : Vec F S4112x128 .f32 :=
  framed (k0_pay203 (F := F)) (k0_pay203 (F := F)) (stack 8 8 (tile0 tileRows (decays x1 x3 x4 x5) (inputs x1 x3 x4 x5)))

/-- The states from the bottom between two blocks of zeros. -/
def states1 : Vec F S4112x128 .f32 :=
  framed (k0_pay203 (F := F)) (k0_pay203 (F := F)) (stack 8 8 (fun q => tile1 tileRows (decays x1 x3 x4 x5) (inputs x1 x3 x4 x5) (511 - q)))

/-- The block of the result. -/
def gated : Vec F S4096x128 .bf16 := stack 256 0 (out x2 (states0 x1 x3 x4 x5) (states1 x1 x3 x4 x5))
end

variable (c : Dev nD) (E : Set ℕ) (i : grid0.Coords) (arg1 : Memref sig .tc .vmem S1x4096x128 .f32) (harg1 : arg1.IsWhole) (arg2 : Memref sig .tc .vmem S1x4096x128 .f32) (harg2 : arg2.IsWhole) (arg3 : Memref sig .tc .vmem S1x16x128 .f32) (harg3 : arg3.IsWhole) (arg4 : Memref sig .tc .vmem S1x128 .f32) (harg4 : arg4.IsWhole) (arg5 : Memref sig .tc .vmem S1x128x512 .bf16) (harg5 : arg5.IsWhole) (arg6 : Memref sig .tc .hbm S4096x2048 .bf16) (harg6 : arg6.IsWhole) (arg7 : Memref sig .tc .vmem S8x128 .f32) (harg7 : arg7.IsWhole) (arg8 : Memref sig .tc .vmem S4096x128 .bf16) (harg8 : arg8.IsWhole) (arg9 : Memref sig .tc .vmem S4112x128 .f32) (harg9 : arg9.IsWhole) (arg10 : Memref sig .tc .vmem S4112x128 .f32) (harg10 : arg10.IsWhole) (arg11 : Memref sig .tc .vmem S4112x128 .f32) (harg11 : arg11.IsWhole) (arg12 : Memref sig .tc .vmem S2x4096x128 .f32) (harg12 : arg12.IsWhole) (arg13 : Memref sig .tc .vmem S2x4096x128 .f32) (harg13 : arg13.IsWhole)

/-- The body of one grid point. -/
theorem body (x1 : Vec F S1x4096x128 .f32) (x2 : Vec F S1x4096x128 .f32) (x3 : Vec F S1x16x128 .f32) (x4 : Vec F S1x128 .f32) (x5 : Vec F S1x128x512 .bf16) (x7 : Vec F S8x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg7 fullShare x7 ∗ owns (c : Thread nD τ) arg8 fullShare (gated x1 x2 x3 x4 x5) ∗ owns (c : Thread nD τ) arg9 fullShare (states0 x1 x3 x4 x5) ∗ owns (c : Thread nD τ) arg10 fullShare (states1 x1 x3 x4 x5) ∗ (∃ d, owns (c : Thread nD τ) arg11 fullShare d) ∗ (∃ d, owns (c : Thread nD τ) arg12 fullShare d) ∗ (∃ d, owns (c : Thread nD τ) arg13 fullShare d)) -∗ K ⟨⟩))
    ⊢ wp frame (wpE (defs₀ (F := F)) Variants.none (c : Thread nD τ) none) E (cc0_lru_fwd i arg1 harg1 arg2 harg2 arg3 harg3 arg4 harg4 arg5 harg5 arg6 harg6 arg7 harg7 arg8 harg8 arg9 harg9 arg10 harg10 arg11 harg11 arg12 harg12 arg13 harg13) K := by
  simp only [cc0_lru_fwd_eq_skeleton]
  unfold cc0_lru_fwd_skel
  simp only [k0_part25_eq_skeleton, k0_part26_eq_skeleton]
  unfold k0_part25_skel k0_part26_skel
  simp only [bind_assoc, pure_bind]
  unfold owns
  iintro ⟨⟨%f1, %hf1, H1⟩, ⟨%f2, %hf2, H2⟩, ⟨%f3, %hf3, H3⟩, ⟨%f4, %hf4, H4⟩, ⟨%f5, %hf5, H5⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg1.eq_unread hf1
  obtain rfl := harg2.eq_unread hf2
  obtain rfl := harg3.eq_unread hf3
  obtain rfl := harg4.eq_unread hf4
  obtain rfl := harg5.eq_unread hf5
  sl_exec
  sl_step
  iapply Hk
  have e4 : arg4.view.readAt (Elt F) (Rect.unit (s := S1x128) ![0, 0] S1x128.size inb_S1x128_S1x128_0_0).toLoadRect (harg4.unread x4) = x4 :=
    readAt_whole harg4 x4 _ (by decide) _
  have e3 : ∀ (j : ℕ) (inb), arg3.view.readAt (Elt F) (Rect.unit (s := S1x16x128) ![0, j, 0] S1x1x128.size inb).toLoadRect (harg3.unread x3) = pk x3 j :=
    fun j inb => (readAt_slab (D := 1) (R := 16) arg3.view 1 0 j rfl inb _).trans (congrArg _ (harg3.read_unread x3))
  have r11 : arg11.view.read (Elt F) fL0 = padded x1 :=
    read_framed arg11.view fL0 f11 _ _ _ _ _ 8 _ rfl (show 8 + 256 * Scf.trips k0_t1_loop.lb k0_t1_loop.ub k0_t1_loop.st = 4104 by decide)
      (hL2.trans (start_eq _ _ (upTo_none _ _ _) _))
  replace hL7 := hL7.trans ((start_eq _ _ (both_none _ _) _).trans (both_all _ _ _ (by decide)))
  replace hL9 := hL9.trans ((start_eq _ _ (both_none _ _) _).trans (both_all _ _ _ (by decide)))
  rw [e4, e3 8, e3 9, r11] at hL7 hL9
  have r9 : arg9.view.read (Elt F) fL3 = states0 x1 x3 x4 x5 := by
    refine (read_framed arg9.view fL3 f9 _ _ _ _ _ 8 _ rfl (show 8 + 64 * Scf.trips k0_t3_loop.lb k0_t3_loop.ub k0_t3_loop.st = 4104 by decide)
      (hL14.trans (start_eq _ _ (upTo_none _ _ _) _))).trans ?_
    rw [hL7, hL9]; rfl
  have r10 : arg10.view.read (Elt F) fL4 = states1 x1 x3 x4 x5 := by
    refine (read_framed arg10.view fL4 f10 _ _ _ _ _ _ 4104 (show 4104 - 64 * Scf.trips k0_t3_loop.lb k0_t3_loop.ub k0_t3_loop.st = 8 by decide) rfl
      (hL16.trans (start_eq _ _ (upTo_none _ _ _) _))).trans ?_
    rw [hL7, hL9]; rfl
  replace hL21 := hL21.trans ((start_eq _ _ (upTo_none _ _ _) _).trans (upTo_all _ _ _ (by decide)))
  rw [r9, r10] at hL21
  isplitl [H1]; · iexists _; isplitr; · ipureintro; exact hf1
                  · iexact H1
  isplitl [H2]; · iexists _; isplitr; · ipureintro; exact hf2
                  · iexact H2
  isplitl [H3]; · iexists _; isplitr; · ipureintro; exact hf3
                  · iexact H3
  isplitl [H4]; · iexists _; isplitr; · ipureintro; exact hf4
                  · iexact H4
  isplitl [H5]; · iexists _; isplitr; · ipureintro; exact hf5
                  · iexact H5
  isplitl [H7]; · iexists _; isplitr; · ipureintro; exact hf7
                  · iexact H7
  isplitl [H8]; · iexists _; isplitr; · ipureintro; exact hL21
                  · iexact H8
  isplitl [H9]; · iexists _; isplitr; · ipureintro; exact r9
                  · iexact H9
  isplitl [H10]; · iexists _; isplitr; · ipureintro; exact r10
                   · iexact H10
  isplitl [H11]
  · iexists _; iexists _; isplitr; swap; · iexact H11
    ipureintro; rfl
  isplitl [H12]
  · iexists _; iexists _; isplitr; swap; · iexact H12
    ipureintro; rfl
  iexists _; iexists _; isplitr; swap; · iexact H13
  ipureintro; rfl

end Cert.LruFwdIdeal.Run
-- ==== Proof.LruMath.lean ====
module

public import Idealize.ShloMosaic.Lib.Pipeline.ValueKit

/-! # The recurrence over the extended reals

`h_t = a_t h_{t-1} + b_t` by doubling: the composite of the latest `m` steps at a row, how two composites join, and that the
whole run is the composite of all its steps. Then the gates' functions: the logistic, the softplus, the decays and what
scales the inputs. -/

@[expose] public section

noncomputable section

namespace Cert.LruMath

open Idealize.ShloMosaic

/-- A finite number that is not negative. -/
def Dec (x : EReal) : Prop := ∃ r : ℝ, 0 ≤ r ∧ x = r

theorem Dec.one : Dec 1 := ⟨1, zero_le_one, rfl⟩
theorem Dec.mul {x y : EReal} (hx : Dec x) (hy : Dec y) : Dec (x * y) := by
  obtain ⟨r, hr, rfl⟩ := hx
  obtain ⟨s, hs, rfl⟩ := hy
  exact ⟨r * s, mul_nonneg hr hs, (EReal.coe_mul r s).symm⟩
theorem Dec.distrib {x : EReal} (hx : Dec x) (y z : EReal) : x * (y + z) = x * y + x * z := by
  obtain ⟨r, hr, rfl⟩ := hx
  exact EReal.left_distrib_of_nonneg_of_ne_top (EReal.coe_nonneg.mpr hr) (EReal.coe_ne_top r) y z

/-- The product of the latest `m` decays at row `t`. -/
def wa (a : ℕ → EReal) : ℕ → ℕ → EReal
  | 0, _ => 1
  | m + 1, t => if t < m then wa a m t else wa a m t * a (t - m)

/-- The state the latest `m` steps at row `t` reach from nothing. -/
def wb (a b : ℕ → EReal) : ℕ → ℕ → EReal
  | 0, _ => 0
  | m + 1, t => if t < m then wb a b m t else wb a b m t + wa a m t * b (t - m)

/-- The recurrence from `c`. -/
def run (a b : ℕ → EReal) (c : EReal) : ℕ → EReal
  | 0 => c
  | t + 1 => b t + a t * run a b c t

section
variable (a b : ℕ → EReal)

theorem wa_add (m n t : ℕ) : wa a (m + n) t = wa a m t * (if t < m then 1 else wa a n (t - m)) := by
  induction n with
  | zero => simp only [Nat.add_zero, wa, ite_self, mul_one]
  | succ n ih =>
    rw [← Nat.add_assoc, wa, ih]
    by_cases h : t < m
    · simp only [h, if_true, show t < m + n by omega]
    · simp only [h, if_false, wa]
      by_cases h' : t - m < n
      · simp only [h', if_true, show t < m + n by omega]
      · simp only [h', if_false, show ¬t < m + n by omega, mul_assoc, Nat.sub_sub]

variable {a} (ha : ∀ t, Dec (a t))
include ha

theorem wa_dec (m t : ℕ) : Dec (wa a m t) := by
  induction m with
  | zero => exact Dec.one
  | succ m ih =>
    unfold wa
    split
    · exact ih
    · exact ih.mul (ha _)

theorem wb_add (m n t : ℕ) : wb a b (m + n) t = wb a b m t + wa a m t * (if t < m then 0 else wb a b n (t - m)) := by
  induction n with
  | zero => simp only [Nat.add_zero, wb, ite_self, mul_zero, add_zero]
  | succ n ih =>
    rw [← Nat.add_assoc, wb, ih, wa_add]
    by_cases h : t < m
    · simp only [h, if_true, show t < m + n by omega]
    · simp only [h, if_false, wb]
      by_cases h' : t - m < n
      · simp only [h', if_true, show t < m + n by omega]
      · simp only [h', if_false, show ¬t < m + n by omega, Nat.sub_sub]
        rw [(wa_dec ha m t).distrib, add_assoc, mul_assoc]

/-- The run is the composite of all its steps. -/
theorem run_eq (c : EReal) (t : ℕ) : run a b c (t + 1) = wb a b (t + 1) t + wa a (t + 1) t * c := by
  induction t with
  | zero => simp [run, wb, wa]
  | succ t ih =>
    have e1 : wb a b (1 + (t + 1)) (t + 1) = b (t + 1) + a (t + 1) * wb a b (t + 1) t := by
      rw [wb_add b ha]; simp [wb, wa]
    have e2 : wa a (1 + (t + 1)) (t + 1) = a (t + 1) * wa a (t + 1) t := by
      rw [wa_add]; simp [wa]
    rw [run, ih, (ha _).distrib, show t + 1 + 1 = 1 + (t + 1) by omega, e1, e2, add_assoc, mul_assoc]
omit ha

/-- Past the first row there is nothing left to compose. -/
theorem wa_all (a : ℕ → EReal) (t n : ℕ) : wa a (t + 1 + n) t = wa a (t + 1) t := by
  rw [wa_add]; simp
include ha
theorem wb_all (t n : ℕ) : wb a b (t + 1 + n) t = wb a b (t + 1) t := by
  rw [wb_add b ha]; simp
omit ha

theorem run_shift (a : ℕ → EReal) (c : EReal) (o j : ℕ) : run (fun j => a (o + j)) (fun j => b (o + j)) (run a b c o) j = run a b c (o + j) := by
  induction j with
  | zero => rfl
  | succ j ih => rw [run, ih]; rfl

/-! Rows taken in blocks of `n`: what the last row of block `i` has after its own block, and after all. -/

def dA (a : ℕ → EReal) (n i : ℕ) : EReal := wa a n (n * (i + 1) - 1)
def dB (a b : ℕ → EReal) (n i : ℕ) : EReal := wb a b n (n * (i + 1) - 1)
def upB (a b : ℕ → EReal) (n i : ℕ) : EReal := wb a b (n * (i + 1)) (n * (i + 1) - 1)

/-- The last two blocks: the first is done, the second is the pair. -/
theorem rise_two (n t : ℕ) (ht : t < 2) (E : (t % 2 = 0 ∧ t / 2 < 1) → ¬ t / 2 < 1 → EReal) :
    (if h : t % 2 = 0 ∧ t / 2 < 1 then if h' : t / 2 < 1 then dB a b n (t / 2) else E h h' else 0)
    + (if h : 1 ≤ t ∧ (t - 1) % 2 = 0 ∧ (t - 1) / 2 < 1 then dB a b (2 * n) ((t - 1) / 2) else 0) = upB a b n t := by
  unfold upB dB
  rcases (show t = 0 ∨ t = 1 by omega) with rfl | rfl
  · rw [dif_pos (by decide), dif_pos (by decide), dif_neg (by decide), add_zero, show n * (0 / 2 + 1) = n by simp]
  · rw [dif_neg (by decide), dif_pos (by decide), zero_add, show n * (1 + 1) = 2 * n by ring, show 2 * n * ((1 - 1) / 2 + 1) = 2 * n by simp]

/-- Two neighbours make a block of twice the rows. -/
theorem fall_a (a : ℕ → EReal) (n i : ℕ) (hn : 0 < n) : dA a n (2 * i) * dA a n (1 + 2 * i) = dA a (2 * n) i := by
  have e1 : n * (2 * i + 1) = 2 * (n * i) + n := by ring
  have e2 : n * (1 + 2 * i + 1) = 2 * (n * i) + 2 * n := by ring
  have e3 : 2 * n * (i + 1) = 2 * (n * i) + 2 * n := by ring
  unfold dA
  rw [e1, e2, e3, two_mul n, wa_add, if_neg (by omega), mul_comm]
  congr 2
  omega
include ha
theorem fall_b (n i : ℕ) (hn : 0 < n) : dA a n (1 + 2 * i) * dB a b n (2 * i) + dB a b n (1 + 2 * i) = dB a b (2 * n) i := by
  have e1 : n * (2 * i + 1) = 2 * (n * i) + n := by ring
  have e2 : n * (1 + 2 * i + 1) = 2 * (n * i) + 2 * n := by ring
  have e3 : 2 * n * (i + 1) = 2 * (n * i) + 2 * n := by ring
  unfold dA dB
  rw [e1, e2, e3, two_mul n, wb_add b ha, if_neg (by omega), add_comm]
  congr 3
  omega

/-- The even rows from the pairs' rows before them, the odd rows those of the pairs. -/
theorem rise (n t L : ℕ) (hn : 0 < n) (ht : t < 2 * L) :
    (if h : t % 2 = 0 ∧ t / 2 < L then
      if h : t / 2 < 1 then dB a b n (t / 2)
      else dA a n (2 + 2 * (t / 2 - 1)) * upB a b (2 * n) (t / 2 - 1) + dB a b n (2 + 2 * (t / 2 - 1))
     else 0)
    + (if h : 1 ≤ t ∧ (t - 1) % 2 = 0 ∧ (t - 1) / 2 < L then upB a b (2 * n) ((t - 1) / 2) else 0) = upB a b n t := by
  rcases Nat.even_or_odd' t with ⟨j, rfl | rfl⟩
  · rw [dif_pos (by omega), dif_neg (by omega : ¬ (1 ≤ 2 * j ∧ (2 * j - 1) % 2 = 0 ∧ (2 * j - 1) / 2 < L)), add_zero, Nat.mul_div_cancel_left j (by decide : 0 < 2)]
    cases j with
    | zero =>
      rw [dif_pos (by decide)]
      unfold dB upB
      rw [show n * (2 * 0 + 1) = n by ring]
    | succ j =>
      have e1 : n * (2 + 2 * j + 1) = 2 * (n * j) + 3 * n := by ring
      have e2 : 2 * n * (j + 1) = 2 * (n * j) + 2 * n := by ring
      have e3 : n * (2 * (j + 1) + 1) = n + (2 * (n * j) + 2 * n) := by ring
      rw [dif_neg (by omega), Nat.add_sub_cancel]
      unfold dA dB upB
      rw [e1, e2, e3, wb_add b ha n (2 * (n * j) + 2 * n), if_neg (by omega), add_comm, show n + (2 * (n * j) + 2 * n) - 1 = 2 * (n * j) + 3 * n - 1 by omega,
        show 2 * (n * j) + 3 * n - 1 - n = 2 * (n * j) + 2 * n - 1 by omega]
  · rw [dif_neg (by omega), dif_pos (by omega), zero_add, show (2 * j + 1 - 1) / 2 = j by omega]
    unfold upB
    rw [show 2 * n * (j + 1) = n * (2 * j + 1 + 1) by ring]
omit ha

end

/-! ## The gates -/

theorem nil : Ideal.ofBits .f32 0x00000000#32 = 0 := by
  simp [Ideal.ofBits, Ideal.ieee]
theorem unit : Ideal.ofBits .f32 0x3F800000#32 = 1 := by
  simp [Ideal.ofBits, Ideal.ieee, -EReal.coe_mul]; norm_num
theorem half : Ideal.ofBits .f32 0x3F000000#32 = ((1 / 2 : ℝ) : EReal) := by
  simp [Ideal.ofBits, Ideal.ieee]; norm_num; rw [← EReal.coe_mul]; norm_num

theorem eight : Ideal.ofBits .f32 0xC1000000#32 = -8 := by
  simp [Ideal.ofBits, Ideal.ieee]; norm_num; rw [← EReal.coe_mul]; norm_num; rfl
theorem two : Ideal.ofBits .f32 0x40000000#32 = 2 := by
  simp [Ideal.ofBits, Ideal.ieee]; norm_num; rw [← EReal.coe_mul]; norm_num; rfl

/-- The logistic through a hyperbolic tangent. -/
theorem logistic_tanh (x : EReal) :
    ((1 / 2 : ℝ) : EReal) * Ideal.tanh (((1 / 2 : ℝ) : EReal) * x) + ((1 / 2 : ℝ) : EReal) = Ideal.div 1 (1 + Ideal.exp (-x)) := by
  rw [← Ideal.logistic]
  induction x with
  | bot =>
    rw [EReal.coe_mul_bot_of_pos (by norm_num), Ideal.tanh_bot, Ideal.logistic_bot]
    rw [show (-1 : EReal) = ((-1 : ℝ) : EReal) by norm_num, ← EReal.coe_mul, ← EReal.coe_add]; norm_num
  | top =>
    rw [EReal.coe_mul_top_of_pos (by norm_num), Ideal.tanh_top, Ideal.logistic_top]
    rw [show (1 : EReal) = ((1 : ℝ) : EReal) by norm_num, ← EReal.coe_mul, ← EReal.coe_add]; norm_num
  | coe r =>
    rw [← EReal.coe_mul, Ideal.tanh_coe, Ideal.logistic_coe, ← EReal.coe_mul, ← EReal.coe_add]
    congr 1
    have h : Real.exp (-r) = Real.exp (-(1 / 2 * r)) * Real.exp (-(1 / 2 * r)) := by rw [← Real.exp_add]; congr 1; ring
    have h2 : Real.exp (1 / 2 * r) * Real.exp (-(1 / 2 * r)) = 1 := by rw [← Real.exp_add]; simp
    rw [Real.tanh_eq_sinh_div_cosh, Real.sinh_eq, Real.cosh_eq, h]
    set p := Real.exp (1 / 2 * r)
    set q := Real.exp (-(1 / 2 * r))
    have hp : 0 < p := Real.exp_pos _
    have hq : 0 < q := Real.exp_pos _
    have e : p = q⁻¹ := eq_inv_of_mul_eq_one_left h2
    rw [e]; field_simp; ring

theorem logistic_dec (x : EReal) : Dec (Ideal.div 1 (1 + Ideal.exp (-x))) := by
  rw [← Ideal.logistic]
  induction x with
  | bot => exact ⟨0, le_rfl, by rw [Ideal.logistic_bot]; rfl⟩
  | top => exact ⟨1, zero_le_one, by rw [Ideal.logistic_top]; rfl⟩
  | coe r => exact ⟨_, inv_nonneg.mpr (by positivity), Ideal.logistic_coe r⟩

/-- The exponential of minus a magnitude is finite and not negative. -/
theorem exp_abs_dec (z : EReal) : Dec (Ideal.exp (-(max z (-z)))) := by
  induction z with
  | bot => exact ⟨0, le_rfl, by simp⟩
  | top => exact ⟨0, le_rfl, by simp⟩
  | coe r => exact ⟨Real.exp (-(max r (-r))), (Real.exp_pos _).le, by
      rw [← EReal.coe_neg, ← (EReal.coe_strictMono.monotone.map_max : ((max r (-r) : ℝ) : EReal) = _), ← EReal.coe_neg, Ideal.exp_coe]⟩

/-- The logarithm of one more by way of a quotient that is one. -/
theorem log1p_quot (e : EReal) (he : Dec e) :
    (if 1 + e = 1 then e else Ideal.log (1 + e) * Ideal.div e (if 1 + e = 1 then 1 else 1 + e - 1)) = Ideal.log1p e := by
  obtain ⟨r, hr, rfl⟩ := he
  have h1 : (1 : EReal) + (r : EReal) = ((1 + r : ℝ) : EReal) := by rw [EReal.coe_add]; rfl
  have h2 : ((1 + r : ℝ) : EReal) - 1 = (r : EReal) := by
    rw [show (1 : EReal) = ((1 : ℝ) : EReal) by norm_num, ← EReal.coe_sub]; congr 1; ring
  unfold Ideal.log1p
  rw [h1, h2]
  by_cases h : r = 0
  · subst h
    rw [if_pos (by norm_num)]
    show ((0 : ℝ) : EReal) = if (1 + 0 : ℝ) ≤ 0 then ⊥ else ((Real.log (1 + 0) : ℝ) : EReal)
    rw [if_neg (by norm_num)]; norm_num
  · have hne : ¬((1 + r : ℝ) : EReal) = 1 := fun hh => h (by
      have : (1 + r : ℝ) = 1 := by exact_mod_cast hh
      linarith)
    have hr0 : ¬(r : EReal) = 0 := by exact_mod_cast h
    rw [if_neg hne, if_neg hne, Ideal.div, if_neg hr0, ← EReal.coe_inv, ← EReal.coe_mul, mul_inv_cancel₀ h]
    simp

theorem log1p_nonneg (e : EReal) (he : Dec e) : 0 ≤ Ideal.log1p e := by
  obtain ⟨r, hr, rfl⟩ := he
  have h1 : (1 : EReal) + (r : EReal) = ((1 + r : ℝ) : EReal) := by rw [EReal.coe_add]; rfl
  unfold Ideal.log1p
  rw [h1]
  show (0 : EReal) ≤ Ideal.log ((1 + r : ℝ) : EReal)
  unfold Ideal.log
  show (0 : EReal) ≤ if (1 + r : ℝ) ≤ 0 then ⊥ else ((Real.log (1 + r) : ℝ) : EReal)
  rw [if_neg (by linarith)]
  exact EReal.coe_nonneg.mpr (Real.log_nonneg (by linarith))

/-- What is left of one after the square of a decay. -/
theorem one_sub_sq (l : EReal) : 1 - Ideal.exp l * Ideal.exp l = -(Ideal.exp (2 * l) - 1) := by
  induction l with
  | bot =>
    rw [show (2 : EReal) * ⊥ = ⊥ from EReal.coe_mul_bot_of_pos (x := 2) (by norm_num), Ideal.exp_bot]
    norm_num
  | top =>
    rw [show (2 : EReal) * ⊤ = ⊤ from EReal.coe_mul_top_of_pos (x := 2) (by norm_num), Ideal.exp_top]
    rw [EReal.top_mul_top]
    rfl
  | coe r =>
    rw [show (2 : EReal) * (r : EReal) = ((2 * r : ℝ) : EReal) from (EReal.coe_mul 2 r).symm, Ideal.exp_coe, Ideal.exp_coe, ← EReal.coe_mul,
      show (1 : EReal) = ((1 : ℝ) : EReal) by norm_num, ← EReal.coe_sub, ← EReal.coe_sub, ← EReal.coe_neg, ← Real.exp_add]
    congr 1
    rw [show r + r = 2 * r by ring]; ring

/-- A decay is finite and not negative. -/
theorem exp_dec (r s : EReal) (hr : Dec r) (hs : 0 ≤ s) : Dec (Ideal.exp ((-8 : EReal) * r * s)) := by
  obtain ⟨q, hq, rfl⟩ := hr
  have h : (-8 : EReal) * (q : EReal) * s ≤ 0 := by
    rw [show (-8 : EReal) * (q : EReal) = ((-(8 * q) : ℝ) : EReal) by
      rw [show (-8 : EReal) = ((-8 : ℝ) : EReal) from rfl, ← EReal.coe_mul]; congr 1; ring]
    rw [EReal.coe_neg, neg_mul]
    exact EReal.neg_le_zero.mpr (mul_nonneg (EReal.coe_nonneg.mpr (by positivity)) hs)
  generalize (-8 : EReal) * (q : EReal) * s = l at h
  induction l with
  | bot => exact ⟨0, le_rfl, by simp⟩
  | top => exact absurd h (by simp)
  | coe r => exact ⟨Real.exp r, (Real.exp_pos r).le, Ideal.exp_coe r⟩

/-! ## The call -/

/-- One row of zeros before and two after. -/
def padRow (u : Fin 4096 → EReal) (p : ℕ) : EReal := if h : 1 ≤ p ∧ p < 4097 then u ⟨p - 1, by omega⟩ else 0

/-- The convolution over four neighbours. -/
def conv (w : Fin 4 → EReal) (b : EReal) (u : Fin 4096 → EReal) (t : ℕ) : EReal :=
  w 0 * padRow u t + w 1 * padRow u (t + 1) + w 2 * padRow u (t + 2) + w 3 * padRow u (t + 3) + b

def logi (x : EReal) : EReal := Ideal.div 1 (1 + Ideal.exp (-x))
def soft (l : EReal) : EReal := max (-l) 0 + Ideal.log1p (Ideal.exp (-(max (-l) (- -l))))
def gelu (x : EReal) : EReal :=
  x * (((1 / 2 : ℝ) : EReal) * (1 + Ideal.tanh (Ideal.ofBits .f32 0x3F4C422A#32 * (x + Ideal.ofBits .f32 0x3D372713#32 * (x * x * x)))))

abbrev B3 := Vec Ideal (⟨3, ![3, 4096, 1024]⟩ : Shape) .f32
abbrev B2 (n : ℕ) := Vec Ideal (⟨2, ![n, 1024]⟩ : Shape) .f32
abbrev B1 := Vec Ideal (⟨1, ![1024]⟩ : Shape) .f32
abbrev B4 := Vec Ideal (⟨4, ![2, 8, 128, 128]⟩ : Shape) .f32

/-- Column `k` of the head of column `c`. -/
def mate (c : Fin 1024) (k : Fin 128) : Fin 1024 := ⟨c.val / 128 * 128 + k.val, by omega⟩

section
variable (x0 : B3) (x1 : B2 4) (x2 : B1) (x3 : B4) (x4 : B2 2) (x5 : B4) (x6 x7 : B2 2)

def xcol (t : Fin 4096) (c : Fin 1024) : EReal := conv (fun k => x1 (ix2 k c)) (x2 (ix1 c)) (fun t => x0 (ix3 1 t c)) t.val

/-- A gate before its logistic. -/
def pre (w : B4) (b : B2 2) (d : Fin 2) (t : Fin 4096) (c : Fin 1024) : EReal :=
  (∑ k : Fin 128, w (ix4 d (⟨c.val / 128, by omega⟩ : Fin 8) k (⟨c.val % 128, Nat.mod_lt _ (by norm_num)⟩ : Fin 128)) * xcol x0 x1 x2 t (mate c k))
    + b (ix2 d c)

def logA (d : Fin 2) (t : Fin 4096) (c : Fin 1024) : EReal :=
  Ideal.ofBits .f32 0xC1000000#32 * logi (pre x0 x1 x2 x3 x4 d t c) * soft (x7 (ix2 d c))

def gateB (d : Fin 2) (t : Fin 4096) (c : Fin 1024) : EReal :=
  Ideal.sqrt (-(Ideal.exp (Ideal.ofBits .f32 0x40000000#32 * logA x0 x1 x2 x3 x4 x7 d t c) - 1)) * logi (pre x0 x1 x2 x5 x6 d t c) * xcol x0 x1 x2 t c

/-- Row `n` in the order of direction `d`. -/
def row (d : Fin 2) (n : ℕ) : Fin 4096 := if d = 0 then Fin.ofNat 4096 n else Fin.ofNat 4096 (4095 - n)

def seqA (d : Fin 2) (c : Fin 1024) (n : ℕ) : EReal := Ideal.exp (logA x0 x1 x2 x3 x4 x7 d (row d n) c)
def seqB (d : Fin 2) (c : Fin 1024) (n : ℕ) : EReal := gateB x0 x1 x2 x3 x4 x5 x6 x7 d (row d n) c

theorem soft_nonneg (l : EReal) : 0 ≤ soft l :=
  add_nonneg (le_max_right _ _) (log1p_nonneg _ (exp_abs_dec _))
theorem dec_at (d : Fin 2) (c : Fin 1024) (n : ℕ) : Dec (seqA x0 x1 x2 x3 x4 x7 d c n) := by
  unfold seqA logA
  rw [eight]
  exact exp_dec _ _ (logistic_dec _) (soft_nonneg _)

/-- The states of direction `d`, in its own order. -/
def state (d : Fin 2) (c : Fin 1024) (n : ℕ) : EReal :=
  run (seqA x0 x1 x2 x3 x4 x7 d c) (seqB x0 x1 x2 x3 x4 x5 x6 x7 d c) 0 n

def yAt (t : Fin 4096) (c : Fin 1024) : EReal :=
  (state x0 x1 x2 x3 x4 x5 x6 x7 0 c (t.val + 1) + state x0 x1 x2 x3 x4 x5 x6 x7 1 c (4096 - t.val)) * gelu (x0 (ix3 2 t c))
end

/-- A state between its rows of zeros. -/
def edged (f : ℕ → EReal) (r : ℕ) : EReal := if r < 8 then 0 else if r - 8 < 4096 then f (r - 8) else 0

end Cert.LruMath
-- ==== Proof.LruVal.lean ====
module

public import proofs.«01_k».proof.Proof.Gen.LruFwdIdeal.Skeleton
public import proofs.«01_k».proof.Proof.LruBody
public import proofs.«01_k».proof.Proof.LruMath
public import Idealize.ShloMosaic.Lib.Pointwise
public import Idealize.ShloMosaic.Lib.Pointwise.Sums

/-! # What the recurrence's blocks hold, point by point -/

@[expose] public section

set_option maxRecDepth 16384
set_option maxHeartbeats 2000000

noncomputable section

namespace Cert.LruFwdIdeal.Val

open Cert.LruMath Cert.LruRows Cert.LruFwdIdeal Cert.LruFwdIdeal.Gen Cert.LruFwdIdeal.Run
open Idealize.ShloMosaic Idealize.ShloMosaic.TcCoe Idealize.SL.Sem

/-! ## A tile by doubling -/

/-- One doubling downwards: the decays. -/
def upA (n : BitVec 32) (A : FVec Ideal S8x128 .f32) : FVec Ideal S8x128 .f32 :=
  mulf A (select (cmpi .sge tileRows (broadcast S8x128 n)) (dynamicRotate 0 n none A rotates_S8x128_d0) (broadcast S8x128 (Scalar.ofBits .f32 0x3F800000#32)))
/-- One doubling downwards: the states. -/
def upB (n : BitVec 32) (A B : FVec Ideal S8x128 .f32) : FVec Ideal S8x128 .f32 :=
  addf (mulf A (select (cmpi .sge tileRows (broadcast S8x128 n)) (dynamicRotate 0 n none B rotates_S8x128_d0) (broadcast S8x128 (Scalar.ofBits .f32 0x00000000#32)))) B
/-- One doubling upwards, by `8 - n` rows around: the decays. -/
def dnA (n : BitVec 32) (A : FVec Ideal S8x128 .f32) : FVec Ideal S8x128 .f32 :=
  mulf A (select (cmpi .slt tileRows (broadcast S8x128 n)) (dynamicRotate 0 n none A rotates_S8x128_d0) (broadcast S8x128 (Scalar.ofBits .f32 0x3F800000#32)))
/-- One doubling upwards: the states. -/
def dnB (n : BitVec 32) (A B : FVec Ideal S8x128 .f32) : FVec Ideal S8x128 .f32 :=
  addf (mulf A (select (cmpi .slt tileRows (broadcast S8x128 n)) (dynamicRotate 0 n none B rotates_S8x128_d0) (broadcast S8x128 (Scalar.ofBits .f32 0x00000000#32)))) B

theorem tileA0_eq (a : Vec Ideal S1x8x128 .f32) : tileA0 tileRows a = upA 4#32 (upA 2#32 (upA 1#32 (k0_pay20 a))) := rfl
theorem tileB0_eq (a b : Vec Ideal S1x8x128 .f32) : tileB0 tileRows a b
    = upB 4#32 (upA 2#32 (upA 1#32 (k0_pay20 a))) (upB 2#32 (upA 1#32 (k0_pay20 a)) (upB 1#32 (k0_pay20 a) (k0_pay21 b))) := rfl
theorem tileA1_eq (a : Vec Ideal S1x8x128 .f32) : tileA1 tileRows a = dnA 4#32 (dnA 6#32 (dnA 7#32 (k0_pay20 a))) := rfl
theorem tileB1_eq (a b : Vec Ideal S1x8x128 .f32) : tileB1 tileRows a b
    = dnB 4#32 (dnA 6#32 (dnA 7#32 (k0_pay20 a))) (dnB 6#32 (dnA 7#32 (k0_pay20 a)) (dnB 7#32 (k0_pay20 a) (k0_pay21 b))) := rfl

/-- The mask of a doubling downwards. -/
theorem past {n : BitVec 32} (hn : n = 1#32 ∨ n = 2#32 ∨ n = 4#32) (i : Fin 8) (x y : EReal) :
    Scalar.select (IntOp.cmpi .sge (BitVec.ofNat 32 i.val) n) x y = if i.val < n.toNat then y else x := by
  rcases hn with rfl | rfl | rfl <;> fin_cases i <;> rfl
/-- The mask of a doubling upwards. -/
theorem short {n : BitVec 32} (hn : n = 7#32 ∨ n = 6#32 ∨ n = 4#32) (i : Fin 8) (x y : EReal) :
    Scalar.select (IntOp.cmpi .slt (BitVec.ofNat 32 i.val) n) x y = if 7 - i.val < 8 - n.toNat then y else x := by
  rcases hn with rfl | rfl | rfl <;> fin_cases i <;> rfl

section
variable (A B : FVec Ideal S8x128 .f32) (a b : ℕ → EReal) (i : Fin 8) (j : Fin 128)

theorem upA_eq {n : BitVec 32} (hn : n = 1#32 ∨ n = 2#32 ∨ n = 4#32) : upA n A (ix2 i j)
    = A (ix2 i j) * (if i.val < n.toNat then 1 else A (ix2 ⟨(i.val + 8 - n.toNat) % 8, Nat.mod_lt _ (by norm_num)⟩ j)) := by
  rcases hn with rfl | rfl | rfl <;> (pointwise [upA, tileRows, unit]; rw [past (by decide)]; rfl)
theorem upB_eq {n : BitVec 32} (hn : n = 1#32 ∨ n = 2#32 ∨ n = 4#32) : upB n A B (ix2 i j)
    = A (ix2 i j) * (if i.val < n.toNat then 0 else B (ix2 ⟨(i.val + 8 - n.toNat) % 8, Nat.mod_lt _ (by norm_num)⟩ j)) + B (ix2 i j) := by
  rcases hn with rfl | rfl | rfl <;> (pointwise [upB, tileRows, nil]; rw [past (by decide)]; simp only [mul_ite, mul_zero]; rfl)
theorem dnA_eq {n : BitVec 32} (hn : n = 7#32 ∨ n = 6#32 ∨ n = 4#32) : dnA n A (ix2 i j)
    = A (ix2 i j) * (if 7 - i.val < 8 - n.toNat then 1 else A (ix2 ⟨(i.val + 8 - n.toNat) % 8, Nat.mod_lt _ (by norm_num)⟩ j)) := by
  rcases hn with rfl | rfl | rfl <;> (pointwise [dnA, tileRows, unit]; rw [short (by decide)]; rfl)
theorem dnB_eq {n : BitVec 32} (hn : n = 7#32 ∨ n = 6#32 ∨ n = 4#32) : dnB n A B (ix2 i j)
    = A (ix2 i j) * (if 7 - i.val < 8 - n.toNat then 0 else B (ix2 ⟨(i.val + 8 - n.toNat) % 8, Nat.mod_lt _ (by norm_num)⟩ j)) + B (ix2 i j) := by
  rcases hn with rfl | rfl | rfl <;> (pointwise [dnB, tileRows, nil]; rw [short (by decide)]; simp only [mul_ite, mul_zero]; rfl)

theorem less {n : BitVec 32} (hn : n = 1#32 ∨ n = 2#32 ∨ n = 4#32) (h : ¬i.val < n.toNat) : (i.val + 8 - n.toNat) % 8 = i.val - n.toNat := by
  have := i.isLt
  rcases hn with rfl | rfl | rfl <;> simp only [BitVec.toNat_ofNat] at h ⊢ <;> omega
theorem more {n : BitVec 32} (hn : n = 7#32 ∨ n = 6#32 ∨ n = 4#32) (h : ¬7 - i.val < 8 - n.toNat) :
    7 - (i.val + 8 - n.toNat) % 8 = 7 - i.val - (8 - n.toNat) := by
  have := i.isLt
  rcases hn with rfl | rfl | rfl <;> simp only [BitVec.toNat_ofNat] at h ⊢ <;> omega

variable {A B a b j}

theorem upA_at {n : BitVec 32} (hn : n = 1#32 ∨ n = 2#32 ∨ n = 4#32) {m m' : ℕ} (hm : m = n.toNat) (hm' : m' = m + m)
    (hA : ∀ i : Fin 8, A (ix2 i j) = wa a m i.val) : upA n A (ix2 i j) = wa a m' i.val := by
  subst hm hm'
  rw [upA_eq A i j hn, wa_add, hA]
  by_cases h : i.val < n.toNat
  · rw [if_pos h, if_pos h]
  · rw [if_neg h, if_neg h, hA]; simp only [less i hn h]
theorem upB_at (ha : ∀ t, Dec (a t)) {n : BitVec 32} (hn : n = 1#32 ∨ n = 2#32 ∨ n = 4#32) {m m' : ℕ} (hm : m = n.toNat) (hm' : m' = m + m)
    (hA : ∀ i : Fin 8, A (ix2 i j) = wa a m i.val) (hB : ∀ i : Fin 8, B (ix2 i j) = wb a b m i.val) : upB n A B (ix2 i j) = wb a b m' i.val := by
  subst hm hm'
  rw [upB_eq A B i j hn, wb_add b ha, hA, hB i, add_comm]
  by_cases h : i.val < n.toNat
  · rw [if_pos h, if_pos h]
  · rw [if_neg h, if_neg h, hB]; simp only [less i hn h]
theorem dnA_at {n : BitVec 32} (hn : n = 7#32 ∨ n = 6#32 ∨ n = 4#32) {m m' : ℕ} (hm : m = 8 - n.toNat) (hm' : m' = m + m)
    (hA : ∀ i : Fin 8, A (ix2 i j) = wa a m (7 - i.val)) : dnA n A (ix2 i j) = wa a m' (7 - i.val) := by
  subst hm hm'
  rw [dnA_eq A i j hn, wa_add, hA]
  by_cases h : 7 - i.val < 8 - n.toNat
  · rw [if_pos h, if_pos h]
  · rw [if_neg h, if_neg h, hA]; simp only [more i hn h]
theorem dnB_at (ha : ∀ t, Dec (a t)) {n : BitVec 32} (hn : n = 7#32 ∨ n = 6#32 ∨ n = 4#32) {m m' : ℕ} (hm : m = 8 - n.toNat) (hm' : m' = m + m)
    (hA : ∀ i : Fin 8, A (ix2 i j) = wa a m (7 - i.val)) (hB : ∀ i : Fin 8, B (ix2 i j) = wb a b m (7 - i.val)) :
    dnB n A B (ix2 i j) = wb a b m' (7 - i.val) := by
  subst hm hm'
  rw [dnB_eq A B i j hn, wb_add b ha, hA, hB i, add_comm]
  by_cases h : 7 - i.val < 8 - n.toNat
  · rw [if_pos h, if_pos h]
  · rw [if_neg h, if_neg h, hB]; simp only [more i hn h]
end

section
variable {a b : Vec Ideal S1x8x128 .f32} {α β : ℕ → EReal} (hd : ∀ t, Dec (α t)) (j : Fin 128)

theorem first_at (h : ∀ i : Fin 8, a (ix3 0 i j) = α i.val) (i : Fin 8) : k0_pay20 (F := Ideal) a (ix2 i j) = wa α 1 i.val := by
  pointwise [k0_pay20]
  simp only [wa, Nat.not_lt_zero, if_false, one_mul, Nat.sub_zero, h]
theorem firstB_at (h : ∀ i : Fin 8, b (ix3 0 i j) = β i.val) (i : Fin 8) : k0_pay21 (F := Ideal) b (ix2 i j) = wb α β 1 i.val := by
  pointwise [k0_pay21]
  simp only [wa, wb, Nat.not_lt_zero, if_false, one_mul, Nat.sub_zero, zero_add, h]
theorem last_at (h : ∀ i : Fin 8, a (ix3 0 i j) = α (7 - i.val)) (i : Fin 8) : k0_pay20 (F := Ideal) a (ix2 i j) = wa α 1 (7 - i.val) := by
  pointwise [k0_pay20]
  simp only [wa, Nat.not_lt_zero, if_false, one_mul, Nat.sub_zero, h]
theorem lastB_at (h : ∀ i : Fin 8, b (ix3 0 i j) = β (7 - i.val)) (i : Fin 8) : k0_pay21 (F := Ideal) b (ix2 i j) = wb α β 1 (7 - i.val) := by
  pointwise [k0_pay21]
  simp only [wa, wb, Nat.not_lt_zero, if_false, one_mul, Nat.sub_zero, zero_add, h]

include hd

theorem whole (c : EReal) {t : ℕ} (ht : t < 8) : wb α β 8 t + wa α 8 t * c = run α β c (t + 1) := by
  rw [run_eq _ hd, show 8 = t + 1 + (7 - t) by omega, wb_all _ hd, wa_all]

/-- A tile's states from what is carried into it. -/
theorem down (ha : ∀ i : Fin 8, a (ix3 0 i j) = α i.val) (hb : ∀ i : Fin 8, b (ix3 0 i j) = β i.val) (c : FVec Ideal S8x128 .f32) (i : Fin 8) :
    addf (tileB0 tileRows a b) (mulf (tileA0 tileRows a) c) (ix2 i j) = run α β (c (ix2 i j)) (i.val + 1) := by
  have a1 := first_at j ha
  have a2 := fun i => upA_at i (n := 1#32) (by decide) (m' := 2) rfl rfl a1
  have a4 := fun i => upA_at i (n := 2#32) (by decide) (m' := 4) rfl rfl a2
  have a8 := upA_at i (n := 4#32) (by decide) (m' := 8) rfl rfl a4
  have b1 := firstB_at (α := α) j hb
  have b2 := fun i => upB_at i hd (n := 1#32) (by decide) (m' := 2) rfl rfl a1 b1
  have b4 := fun i => upB_at i hd (n := 2#32) (by decide) (m' := 4) rfl rfl a2 b2
  have b8 := upB_at i hd (n := 4#32) (by decide) (m' := 8) rfl rfl a4 b4
  refine Eq.trans ?_ (whole hd (c (ix2 i j)) i.isLt)
  rw [← a8, ← b8, tileA0_eq, tileB0_eq]
  rfl
theorem up (ha : ∀ i : Fin 8, a (ix3 0 i j) = α (7 - i.val)) (hb : ∀ i : Fin 8, b (ix3 0 i j) = β (7 - i.val)) (c : FVec Ideal S8x128 .f32) (i : Fin 8) :
    addf (tileB1 tileRows a b) (mulf (tileA1 tileRows a) c) (ix2 i j) = run α β (c (ix2 i j)) (7 - i.val + 1) := by
  have a1 := last_at j ha
  have a2 := fun i => dnA_at i (n := 7#32) (by decide) (m' := 2) rfl rfl a1
  have a4 := fun i => dnA_at i (n := 6#32) (by decide) (m' := 4) rfl rfl a2
  have a8 := dnA_at i (n := 4#32) (by decide) (m' := 8) rfl rfl a4
  have b1 := lastB_at (α := α) j hb
  have b2 := fun i => dnB_at i hd (n := 7#32) (by decide) (m' := 2) rfl rfl a1 b1
  have b4 := fun i => dnB_at i hd (n := 6#32) (by decide) (m' := 4) rfl rfl a2 b2
  have b8 := dnB_at i hd (n := 4#32) (by decide) (m' := 8) rfl rfl a4 b4
  refine Eq.trans ?_ (whole hd (c (ix2 i j)) (show 7 - i.val < 8 by omega))
  rw [← a8, ← b8, tileA1_eq, tileB1_eq]
  rfl
end

/-! ## The tiles one after another -/

section
variable {ga gb : Vec Ideal S2x4096x128 .f32} (α β : Fin 2 → ℕ → EReal) (hd : ∀ d t, Dec (α d t)) (j : Fin 128)
  (ha : ∀ (d : Fin 2) (n : ℕ), ga (ix3 d (row d n) j) = α d n) (hb : ∀ (d : Fin 2) (n : ℕ), gb (ix3 d (row d n) j) = β d n)

theorem none_at (i : Fin 8) : k0_pay1 (F := Ideal) (ix2 i j) = 0 := by
  pointwise [k0_pay1, nil]
theorem last8_at (h : FVec Ideal S8x128 .f32) (i : Fin 8) : last8 h (ix2 i j) = h (ix2 7 j) := by
  pointwise [last8]
theorem first8_at (h : FVec Ideal S8x128 .f32) (i : Fin 8) : first8 h (ix2 i j) = h (ix2 0 j) := by
  pointwise [first8]

theorem slab_down (g : Vec Ideal S2x4096x128 .f32) (f : Fin 2 → ℕ → EReal) (hg : ∀ (d : Fin 2) (n : ℕ), g (ix3 d (row d n) j) = f d n) (k : ℕ) (i : Fin 8) :
    slab (D := 2) 8 0 (8 * k) g (ix3 0 i j) = f 0 (8 * k + i.val) := hg 0 _
theorem slab_up (g : Vec Ideal S2x4096x128 .f32) (f : Fin 2 → ℕ → EReal) (hg : ∀ (d : Fin 2) (n : ℕ), g (ix3 d (row d n) j) = f d n) (k : ℕ) (hk : k < 512)
    (i : Fin 8) : slab (D := 2) 8 1 (4088 - 8 * k) g (ix3 0 i j) = f 1 (8 * k + (7 - i.val)) := by
  rw [← hg 1]
  have e : 4088 - 8 * k + i.val = 4095 - (8 * k + (7 - i.val)) := by omega
  show g (ix3 1 (Fin.ofNat 4096 (4088 - 8 * k + i.val)) j) = g (ix3 1 (Fin.ofNat 4096 (4095 - (8 * k + (7 - i.val)))) j)
  rw [e]

include hd ha hb

theorem carry0_at (k : ℕ) : ∀ i : Fin 8, carry0 tileRows ga gb k (ix2 i j) = run (α 0) (β 0) 0 (8 * k) := by
  induction k with
  | zero => exact fun i => none_at j i
  | succ k ih =>
    intro i
    refine (last8_at j _ i).trans ((down (α := fun n => α 0 (8 * k + n)) (β := fun n => β 0 (8 * k + n)) (fun t => hd 0 _) j (slab_down j ga α ha k)
      (slab_down j gb β hb k) _ 7).trans ?_)
    rw [ih, run_shift]; rfl
theorem tile0_at (k : ℕ) (i : Fin 8) : tile0 tileRows ga gb k (ix2 i j) = run (α 0) (β 0) 0 (8 * k + i.val + 1) := by
  refine (down (α := fun n => α 0 (8 * k + n)) (β := fun n => β 0 (8 * k + n)) (fun t => hd 0 _) j (slab_down j ga α ha k) (slab_down j gb β hb k) _ i).trans ?_
  rw [carry0_at α β hd j ha hb, run_shift]; rfl
theorem carry1_at (k : ℕ) (hk : k ≤ 512) : ∀ i : Fin 8, carry1 tileRows ga gb k (ix2 i j) = run (α 1) (β 1) 0 (8 * k) := by
  induction k with
  | zero => exact fun i => none_at j i
  | succ k ih =>
    intro i
    refine (first8_at j _ i).trans ((up (α := fun n => α 1 (8 * k + n)) (β := fun n => β 1 (8 * k + n)) (fun t => hd 1 _) j (slab_up j ga α ha k (by omega))
      (slab_up j gb β hb k (by omega)) _ 0).trans ?_)
    rw [ih (by omega), run_shift]; rfl
theorem tile1_at (k : ℕ) (hk : k < 512) (i : Fin 8) : tile1 tileRows ga gb k (ix2 i j) = run (α 1) (β 1) 0 (8 * k + (7 - i.val) + 1) := by
  refine (up (α := fun n => α 1 (8 * k + n)) (β := fun n => β 1 (8 * k + n)) (fun t => hd 1 _) j (slab_up j ga α ha k hk) (slab_up j gb β hb k hk) _ i).trans ?_
  rw [carry1_at α β hd j ha hb k (by omega), run_shift]; rfl
end

end Cert.LruFwdIdeal.Val
-- ==== Proof.LruGates.lean ====
module

public import proofs.«01_k».proof.Proof.Gen.LruFwdIdeal.Skeleton
public import proofs.«01_k».proof.Proof.LruVal

/-! # One head's gates, states and result

The blocks of a grid point, given what they hold of the call's arrays, against the recurrence of the head's columns. -/

@[expose] public section

set_option maxRecDepth 16384
set_option maxHeartbeats 2000000

noncomputable section

namespace Cert.LruFwdIdeal.Val

open Cert.LruMath Cert.LruRows Cert.LruFwdIdeal Cert.LruFwdIdeal.Gen Cert.LruFwdIdeal.Run
open Idealize.ShloMosaic Idealize.ShloMosaic.TcCoe Idealize.SL.Sem

/-- Column `j` of head `h`. -/
def col (h : Fin 8) (j : Fin 128) : Fin 1024 := ⟨128 * h.val + j.val, by omega⟩

theorem mate_col (h : Fin 8) (j k : Fin 128) : mate (col h j) k = col h k :=
  Fin.ext (show (128 * h.val + j.val) / 128 * 128 + k.val = 128 * h.val + k.val by omega)

/-- What the blocks of head `h` hold. -/
structure Head (h : Fin 8) (X0 : B3) (X1 : B2 4) (X2 : B1) (X3 : B4) (X4 : B2 2) (X5 : B4) (X6 X7 : B2 2)
    (x1 x2 : Vec Ideal S1x4096x128 .f32) (x3 : Vec Ideal S1x16x128 .f32) (x4 : Vec Ideal S1x128 .f32) (x5 : Vec Ideal S1x128x512 .bf16) : Prop where
  recur : ∀ (t : Fin 4096) (j : Fin 128), x1 (ix3 0 t j) = X0 (ix3 1 t (col h j))
  gate : ∀ (t : Fin 4096) (j : Fin 128), x2 (ix3 0 t j) = X0 (ix3 2 t (col h j))
  taps : ∀ (k : Fin 4) (j : Fin 128), x3 (ix3 0 (Fin.ofNat 16 k.val) j) = X1 (ix2 k (col h j))
  biasA : ∀ (d : Fin 2) (j : Fin 128), x3 (ix3 0 (Fin.ofNat 16 (4 + d.val)) j) = X4 (ix2 d (col h j))
  biasI : ∀ (d : Fin 2) (j : Fin 128), x3 (ix3 0 (Fin.ofNat 16 (6 + d.val)) j) = X6 (ix2 d (col h j))
  lam : ∀ (d : Fin 2) (j : Fin 128), x3 (ix3 0 (Fin.ofNat 16 (8 + d.val)) j) = X7 (ix2 d (col h j))
  biasC : ∀ j : Fin 128, x4 (ix2 0 j) = X2 (ix1 (col h j))
  matA : ∀ (d : Fin 2) (k j : Fin 128), x5 (ix3 0 k (Fin.ofNat 512 (256 * d.val + j.val))) = X3 (ix4 d h k j)
  matI : ∀ (d : Fin 2) (k j : Fin 128), x5 (ix3 0 k (Fin.ofNat 512 (256 * d.val + 128 + j.val))) = X5 (ix4 d h k j)

section
variable {h : Fin 8} {X0 : B3} {X1 : B2 4} {X2 : B1} {X3 : B4} {X4 : B2 2} {X5 : B4} {X6 X7 : B2 2}
  {x1 x2 : Vec Ideal S1x4096x128 .f32} {x3 : Vec Ideal S1x16x128 .f32} {x4 : Vec Ideal S1x128 .f32} {x5 : Vec Ideal S1x128x512 .bf16}
  (H : Head h X0 X1 X2 X3 X4 X5 X6 X7 x1 x2 x3 x4 x5)

theorem pk_at (x3 : Vec Ideal S1x16x128 .f32) (n : ℕ) (j : Fin 128) : pk x3 n (ix3 0 0 j) = x3 (ix3 0 (Fin.ofNat 16 n) j) := rfl
theorem copied_at (x1 : Vec Ideal S1x4096x128 .f32) (k : ℕ) (z : Fin 256) (j : Fin 128) : copied x1 k (ix2 z j) = x1 (ix3 0 (Fin.ofNat 4096 (256 * k + z.val)) j) := by
  pointwise [copied, k0_pay206]
  rfl
theorem edge_at (i : Fin 8) (j : Fin 128) : k0_pay203 (F := Ideal) (ix2 i j) = 0 := by
  pointwise [k0_pay203, nil]
theorem edge_top (i : Fin 8) (j : Fin 128) : k0_pay204 (F := Ideal) (ix2 i j) = 0 := by
  pointwise [k0_pay204, k0_pay203, nil]
theorem edge_bot (i : Fin 8) (j : Fin 128) : k0_pay205 (F := Ideal) (ix2 i j) = 0 := by
  pointwise [k0_pay205, k0_pay203, nil]

theorem small {R : ℕ} [NeZero R] {n : ℕ} (h : n < R) : (Fin.ofNat R n).val = n := Nat.mod_eq_of_lt h

include H

/-- The rows between zeros. -/
theorem padded_at (q : ℕ) (hq : q + 7 < 4112) (r : Fin 4112) (hr : r.val = q + 7) (j : Fin 128) :
    padded x1 (ix2 r j) = padRow (fun t => X0 (ix3 1 t (col h j))) q := by
  unfold padded framed padRow
  show (if 8 ≤ r.val ∧ r.val < 4104 then stack 256 8 (copied x1) (ix2 r j) else if r.val < 8 then k0_pay204 (F := Ideal) (ix2 _ j) else k0_pay205 (F := Ideal) (ix2 _ j)) = _
  rw [edge_top, edge_bot, ite_self]
  by_cases hc : 1 ≤ q ∧ q < 4097
  · rw [if_pos (by omega), dif_pos hc]
    show copied x1 ((r.val - 8) / 256) (ix2 (Fin.ofNat 256 (r.val - 8)) j) = _
    rw [copied_at, H.recur]
    have e : 256 * ((r.val - 8) / 256) + (r.val - 8) % 256 = q - 1 := by omega
    have e2 : Fin.ofNat 4096 (256 * ((r.val - 8) / 256) + (Fin.ofNat 256 (r.val - 8)).val) = ⟨q - 1, by omega⟩ := by
      refine Fin.ext ?_
      show (256 * ((r.val - 8) / 256) + (r.val - 8) % 256) % 4096 = q - 1
      rw [e]; omega
    rw [e2]
  · rw [if_neg (by omega), dif_neg hc]

/-- The convolved rows. -/
theorem conv_at (k : ℕ) (z : Fin 256) (t : Fin 4096) (ht : t.val = 256 * k + z.val) (j : Fin 128) :
    Run.conv (k0_pay207 x4) x3 (padded x1) k (ix2 z j) = xcol X0 X1 X2 t (col h j) := by
  have hz := z.isLt
  have htl := t.isLt
  have q : ∀ (p n : ℕ) (hp : p < 272), p = n + 7 + z.val → n ≤ 3 →
      rows 272 (256 * k) (padded x1) (ix2 ⟨p, hp⟩ j) = padRow (fun t => X0 (ix3 1 t (col h j))) (t.val + n) := fun p n hp e hn => by
    refine padded_at H (t.val + n) (by omega) _ ?_ j
    show (256 * k + p) % 4112 = _
    omega
  pointwise [Run.conv, k0_pay5, k0_pay207]
  rw [q _ 1 _ (by omega) (by omega), q _ 0 _ (by omega) (by omega), q _ 2 _ (by omega) (by omega), q _ 3 _ (by omega) (by omega)]
  simp only [pk_at]
  unfold xcol LruMath.conv
  rw [show x3 (ix3 0 (Fin.ofNat 16 0) j) = _ from H.taps 0 j, show x3 (ix3 0 (Fin.ofNat 16 1) j) = _ from H.taps 1 j,
    show x3 (ix3 0 (Fin.ofNat 16 2) j) = _ from H.taps 2 j, show x3 (ix3 0 (Fin.ofNat 16 3) j) = _ from H.taps 3 j, H.biasC,
    add_comm (_ * padRow _ (t.val + 1)) (_ * padRow _ (t.val + 0))]
  rfl

/-- The four products. -/
theorem pre_at (k : ℕ) (z : Fin 256) (t : Fin 4096) (ht : t.val = 256 * k + z.val) (c : Fin 512) :
    Run.pre (k0_pay207 x4) x3 x5 (padded x1) k (ix2 z c) = ∑ i : Fin 128, x5 (ix3 0 i c) * xcol X0 X1 X2 t (col h i) := by
  pointwise [Run.pre, k0_pay6]
  refine Finset.sum_congr rfl fun i _ => ?_
  rw [← conv_at H k z t ht i, mul_comm]
  rfl

theorem preA_at (k : ℕ) (z : Fin 256) (t : Fin 4096) (ht : t.val = 256 * k + z.val) (d : Fin 2) (j : Fin 128) (c : Fin 512) (hc : c.val = 256 * d.val + j.val)
    (n : ℕ) (hn : n = 4 + d.val) :
    Run.pre (k0_pay207 x4) x3 x5 (padded x1) k (ix2 z c) + pk x3 n (ix3 0 0 j) = LruMath.pre X0 X1 X2 X3 X4 d t (col h j) := by
  subst hn
  rw [pre_at H k z t ht, pk_at, H.biasA]
  have hj := j.isLt
  have e : c = Fin.ofNat 512 (256 * d.val + j.val) := Fin.ext (by rw [hc]; exact (small (by omega)).symm)
  subst e
  simp only [H.matA]
  unfold LruMath.pre
  have e1 : (⟨(col h j).val / 128, by have := (col h j).isLt; omega⟩ : Fin 8) = h := Fin.ext (show (128 * h.val + j.val) / 128 = h.val by omega)
  have e2 : (⟨(col h j).val % 128, Nat.mod_lt _ (by norm_num)⟩ : Fin 128) = j := Fin.ext (show (128 * h.val + j.val) % 128 = j.val by omega)
  simp only [mate_col, e1, e2]
theorem preI_at (k : ℕ) (z : Fin 256) (t : Fin 4096) (ht : t.val = 256 * k + z.val) (d : Fin 2) (j : Fin 128) (c : Fin 512) (hc : c.val = 256 * d.val + 128 + j.val)
    (n : ℕ) (hn : n = 6 + d.val) :
    Run.pre (k0_pay207 x4) x3 x5 (padded x1) k (ix2 z c) + pk x3 n (ix3 0 0 j) = LruMath.pre X0 X1 X2 X5 X6 d t (col h j) := by
  subst hn
  rw [pre_at H k z t ht, pk_at, H.biasI]
  have hj := j.isLt
  have e : c = Fin.ofNat 512 (256 * d.val + 128 + j.val) := Fin.ext (by rw [hc]; exact (small (by omega)).symm)
  subst e
  simp only [H.matI]
  unfold LruMath.pre
  have e1 : (⟨(col h j).val / 128, by have := (col h j).isLt; omega⟩ : Fin 8) = h := Fin.ext (show (128 * h.val + j.val) / 128 = h.val by omega)
  have e2 : (⟨(col h j).val % 128, Nat.mod_lt _ (by norm_num)⟩ : Fin 128) = j := Fin.ext (show (128 * h.val + j.val) % 128 = j.val by omega)
  simp only [mate_col, e1, e2]
omit H

/-- The softplus as the kernel writes it. -/
theorem soft_form (l : EReal) : (max (0 - l) 0 + if 1 + Ideal.exp (0 - max (0 - l) (-(0 - l))) = 1 then Ideal.exp (0 - max (0 - l) (-(0 - l)))
    else Ideal.log (1 + Ideal.exp (0 - max (0 - l) (-(0 - l)))) * Ideal.div (Ideal.exp (0 - max (0 - l) (-(0 - l))))
      (if 1 + Ideal.exp (0 - max (0 - l) (-(0 - l))) = 1 then 1 else 1 + Ideal.exp (0 - max (0 - l) (-(0 - l))) - 1)) = soft l := by
  simp only [zero_sub]
  rw [log1p_quot _ (exp_abs_dec _)]
  rfl
theorem soft0_at (a : Vec Ideal S1x1x128 .f32) (j : Fin 128) :
    k0_pay212 (F := Ideal) (k0_pay208 a) (k0_pay209 a) (k0_pay210 a) (k0_pay211 a) (ix2 0 j) = soft (a (ix3 0 0 j)) := by
  pointwise [k0_pay212, k0_pay208, k0_pay209, k0_pay210, k0_pay211, nil, unit]
  exact soft_form _
theorem soft1_at (a : Vec Ideal S1x1x128 .f32) (j : Fin 128) : k0_pay213 (F := Ideal) a (ix2 0 j) = soft (a (ix3 0 0 j)) := by
  pointwise [k0_pay213, nil, unit]
  exact soft_form _

theorem logi_form (x : EReal) : Ideal.ofBits .f32 0x3F000000#32 * Ideal.tanh (Ideal.ofBits .f32 0x3F000000#32 * x) + Ideal.ofBits .f32 0x3F000000#32 = logi x := by
  rw [half]; exact logistic_tanh x

/-- What scales an input: the series is never taken. -/
theorem scale_form (l s : EReal) : Ideal.sqrt (if Named.named (F := Ideal) κ "series_from" (φ := .f32) 0xBC23D70A#32 < Ideal.ofBits .f32 0x40000000#32 * l then s
    else 1 - Ideal.exp l * Ideal.exp l) = Ideal.sqrt (-(Ideal.exp (Ideal.ofBits .f32 0x40000000#32 * l) - 1)) := by
  have e : Named.named (F := Ideal) κ "series_from" (φ := .f32) 0xBC23D70A#32 = (⊤ : EReal) := rfl
  rw [e, if_neg not_top_lt, one_sub_sq, two]

include H
theorem decays_at (d : Fin 2) (t : Fin 4096) (j : Fin 128) : decays x1 x3 x4 x5 (ix3 d t j) = Ideal.exp (logA X0 X1 X2 X3 X4 X7 d t (col h j)) := by
  have ht : t.val = 256 * (t.val / 256) + (Fin.ofNat 256 t.val).val := by show t.val = 256 * (t.val / 256) + t.val % 256; omega
  unfold logA
  match d with
  | ⟨0, _⟩ =>
    show k0_pay16 (k0_pay10 _ (Run.pre0 (k0_pay207 x4) x3 x5 (padded x1) (t.val / 256)) (pk x3 4)) (ix3 0 (Fin.ofNat 256 t.val) j) = _
    pointwise [k0_pay16, k0_pay10, k0_pay9, Run.pre0, k0_pay7, soft0_at]
    rw [logi_form, ← preA_at H (t.val / 256) _ t ht 0 j ⟨j.val, by omega⟩ (by show j.val = 256 * 0 + j.val; omega) 4 rfl, ← H.lam 0]
    rfl
  | ⟨1, _⟩ =>
    show k0_pay215 (k0_pay19 _ (Run.pre (k0_pay207 x4) x3 x5 (padded x1) (t.val / 256)) (pk x3 5)) (ix3 0 (Fin.ofNat 256 t.val) j) = _
    pointwise [k0_pay215, k0_pay214, k0_pay19, soft1_at]
    rw [logi_form, ← preA_at H (t.val / 256) _ t ht 1 j ⟨256 + j.val, by omega⟩ rfl 5 rfl, ← H.lam 1]
    rfl
theorem inputs_at (d : Fin 2) (t : Fin 4096) (j : Fin 128) : inputs x1 x3 x4 x5 (ix3 d t j) = gateB X0 X1 X2 X3 X4 X5 X6 X7 d t (col h j) := by
  have ht : t.val = 256 * (t.val / 256) + (Fin.ofNat 256 t.val).val := by show t.val = 256 * (t.val / 256) + t.val % 256; omega
  unfold gateB logA
  rw [← conv_at H (t.val / 256) _ t ht j]
  match d with
  | ⟨0, _⟩ =>
    show k0_pay17 (Run.conv (k0_pay207 x4) x3 (padded x1) (t.val / 256)) (k0_pay8 (Run.pre (k0_pay207 x4) x3 x5 (padded x1) (t.val / 256)) (pk x3 6))
      (k0_pay12 _ (Run.pre0 (k0_pay207 x4) x3 x5 (padded x1) (t.val / 256)) (pk x3 4)) (k0_pay13 _ _ _) (k0_pay14 _ _ _) k0_pay15 (ix3 0 (Fin.ofNat 256 t.val) j) = _
    pointwise [k0_pay17, k0_pay12, k0_pay15, k0_pay14, k0_pay11, k0_pay10, k0_pay8, unit]
    rw [scale_form]
    pointwise [k0_pay9, Run.pre0, k0_pay7, soft0_at]
    rw [logi_form, logi_form, ← preA_at H (t.val / 256) _ t ht 0 j ⟨j.val, by omega⟩ (by show j.val = 256 * 0 + j.val; omega) 4 rfl, ← H.lam 0,
      ← preI_at H (t.val / 256) _ t ht 0 j ⟨128 + j.val, by omega⟩ (by show 128 + j.val = 256 * 0 + 128 + j.val; omega) 6 rfl]
    rfl
  | ⟨1, _⟩ =>
    show k0_pay216 (Run.conv (k0_pay207 x4) x3 (padded x1) (t.val / 256)) (k0_pay18 (Run.pre (k0_pay207 x4) x3 x5 (padded x1) (t.val / 256)) (pk x3 7))
      (k0_pay19 _ (Run.pre (k0_pay207 x4) x3 x5 (padded x1) (t.val / 256)) (pk x3 5)) (ix3 0 (Fin.ofNat 256 t.val) j) = _
    pointwise [k0_pay216, k0_pay214, k0_pay18, unit]
    rw [scale_form]
    pointwise [k0_pay19, soft1_at]
    rw [logi_form, logi_form, ← preA_at H (t.val / 256) _ t ht 1 j ⟨256 + j.val, by omega⟩ rfl 5 rfl, ← H.lam 1,
      ← preI_at H (t.val / 256) _ t ht 1 j ⟨384 + j.val, by omega⟩ rfl 7 rfl]
    rfl

/-- The states of both directions at row `r` of the saved arrays. -/
theorem states0_at (r : Fin 4112) (j : Fin 128) : states0 x1 x3 x4 x5 (ix2 r j)
    = edged (fun t => state X0 X1 X2 X3 X4 X5 X6 X7 0 (col h j) (t + 1)) r.val := by
  have hr := r.isLt
  unfold states0 framed edged
  show (if 8 ≤ r.val ∧ r.val < 4104 then stack 8 8 _ (ix2 r j) else if r.val < 8 then k0_pay203 (F := Ideal) (ix2 _ j) else k0_pay203 (F := Ideal) (ix2 _ j)) = _
  rw [edge_at, edge_at, ite_self]
  by_cases hc : 8 ≤ r.val ∧ r.val < 4104
  · rw [if_pos hc, if_neg (by omega), if_pos (by omega)]
    refine (tile0_at (fun d => seqA X0 X1 X2 X3 X4 X7 d (col h j)) (fun d => seqB X0 X1 X2 X3 X4 X5 X6 X7 d (col h j)) (fun d => dec_at _ _ _ _ _ _ d _) j
      (fun d n => decays_at H d _ j) (fun d n => inputs_at H d _ j) ((r.val - 8) / 8) (Fin.ofNat 8 (r.val - 8))).trans ?_
    unfold state
    congr 1
    show 8 * ((r.val - 8) / 8) + (r.val - 8) % 8 + 1 = r.val - 8 + 1
    omega
  · rw [if_neg hc]
    split
    · rfl
    · rw [if_neg (by omega)]
theorem states1_at (r : Fin 4112) (j : Fin 128) : states1 x1 x3 x4 x5 (ix2 r j)
    = edged (fun t => state X0 X1 X2 X3 X4 X5 X6 X7 1 (col h j) (4096 - t)) r.val := by
  have hr := r.isLt
  unfold states1 framed edged
  show (if 8 ≤ r.val ∧ r.val < 4104 then stack 8 8 _ (ix2 r j) else if r.val < 8 then k0_pay203 (F := Ideal) (ix2 _ j) else k0_pay203 (F := Ideal) (ix2 _ j)) = _
  rw [edge_at, edge_at, ite_self]
  by_cases hc : 8 ≤ r.val ∧ r.val < 4104
  · rw [if_pos hc, if_neg (by omega), if_pos (by omega)]
    refine (tile1_at (fun d => seqA X0 X1 X2 X3 X4 X7 d (col h j)) (fun d => seqB X0 X1 X2 X3 X4 X5 X6 X7 d (col h j)) (fun d => dec_at _ _ _ _ _ _ d _) j
      (fun d n => decays_at H d _ j) (fun d n => inputs_at H d _ j) (511 - (r.val - 8) / 8) (by omega) (Fin.ofNat 8 (r.val - 8))).trans ?_
    unfold state
    congr 1
    show 8 * (511 - (r.val - 8) / 8) + (7 - (r.val - 8) % 8) + 1 = 4096 - (r.val - 8)
    omega
  · rw [if_neg hc]
    split
    · rfl
    · rw [if_neg (by omega)]

theorem edged_mid (f : ℕ → EReal) (t : Fin 4096) (r : ℕ) (hr : r = t.val + 8) : edged f r = f t.val := by
  have := t.isLt
  subst hr
  unfold edged
  rw [if_neg (by omega), if_pos (by omega), Nat.add_sub_cancel]

theorem gated_at (t : Fin 4096) (j : Fin 128) : gated x1 x2 x3 x4 x5 (ix2 t j) = yAt X0 X1 X2 X3 X4 X5 X6 X7 t (col h j) := by
  have hz : t.val = 256 * (t.val / 256) + t.val % 256 := by omega
  have htl := t.isLt
  have e : Fin.ofNat 4096 (256 * (t.val / 256) + (Fin.ofNat 256 t.val).val) = t :=
    Fin.ext (by show (256 * (t.val / 256) + t.val % 256) % 4096 = t.val; omega)
  have q (S : Vec Ideal S4112x128 .f32) (f : ℕ → EReal) (hS : ∀ r : Fin 4112, S (ix2 r j) = edged f r.val) :
      rows 256 (256 * (t.val / 256) + 8) S (ix2 (Fin.ofNat 256 t.val) j) = f t.val := by
    refine (hS _).trans (edged_mid H f t _ ?_)
    show (256 * (t.val / 256) + 8 + t.val % 256) % 4112 = t.val + 8
    omega
  have s : slab (D := 1) 256 0 (256 * (t.val / 256)) x2 (ix3 0 (Fin.ofNat 256 t.val) j) = X0 (ix3 2 t (col h j)) := by
    refine Eq.trans ?_ (H.gate t j)
    show x2 (ix3 (Fin.ofNat 1 0) (Fin.ofNat 4096 (256 * (t.val / 256) + (Fin.ofNat 256 t.val).val)) j) = x2 (ix3 0 t j)
    rw [e]; rfl
  show Run.out x2 (states0 x1 x3 x4 x5) (states1 x1 x3 x4 x5) ((t.val - 0) / 256) (ix2 (Fin.ofNat 256 (t.val - 0)) j) = _
  rw [Nat.sub_zero]
  pointwise [Run.out, k0_pay4, half, unit]
  rw [q _ _ fun r => states0_at H r j, q _ _ fun r => states1_at H r j, s]
  unfold yAt gelu
  generalize X0 (ix3 2 t (col h j)) = x
  have e1 : ∀ k : EReal, k * x * (x * x) = k * (x * x * x) := fun k => by rw [mul_assoc k, mul_assoc x]
  rw [e1]
  congr 1
  rw [mul_assoc]
  exact mul_left_comm _ _ _
end

end Cert.LruFwdIdeal.Val
-- ==== Proof.LruRun.lean ====
module

public import proofs.«01_k».proof.Proof.LruBody

/-! # The recurrence's launch

The pipeline's data (what the body leaves at each of its points), the body's triple there, the run of @main and
the frame. -/

@[expose] public section

set_option maxRecDepth 16384

noncomputable section

namespace Cert.LruFwdIdeal.Run

open Cert.LruRows
open Cert.LruFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the points leave -/

/-- The pipeline's data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => gated (iblk m c 0 t) (iblk m c 1 t) (iblk m c 2 t) (iblk m c 3 t) (iblk m c 4 t)
    | ⟨7, _⟩ => states0 (iblk m c 0 t) (iblk m c 2 t) (iblk m c 3 t) (iblk m c 4 t)
    | ⟨8, _⟩ => states1 (iblk m c 0 t) (iblk m c 2 t) (iblk m c 3 t) (iblk m c 4 t)
  Φ _ := Pipeline.ΦA spec0 c
  q w := Pipeline.shareOf spec0 w
  owed _ := 0

theorem dats_A (c : Dev nD) (w : Fin cfg0.W) : (dats m 0 c).A w = V m c (Pipeline.arrRef spec0 w) := by
  dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = iblk m c 5 t := by dsimp only [dats]
theorem left6 (c : Dev nD) (t : Fin cfg0.N) : (dats m 0 c).after 6 t = gated (iblk m c 0 t) (iblk m c 1 t) (iblk m c 2 t) (iblk m c 3 t) (iblk m c 4 t) := by dsimp only [dats]
theorem left7 (c : Dev nD) (t : Fin cfg0.N) : (dats m 0 c).after 7 t = states0 (iblk m c 0 t) (iblk m c 2 t) (iblk m c 3 t) (iblk m c 4 t) := by dsimp only [dats]
theorem left8 (c : Dev nD) (t : Fin cfg0.N) : (dats m 0 c).after 8 t = states1 (iblk m c 0 t) (iblk m c 2 t) (iblk m c 3 t) (iblk m c 4 t) := by dsimp only [dats]
theorem found0 (c : Dev nD) (t : Fin cfg0.N) (d) : (dats m 0 c).before 0 t d = iblk m c 0 t :=
  before0_0_of m (dats m 0 c) (dats_A m c 0) (left0 m c) t d
theorem found1 (c : Dev nD) (t : Fin cfg0.N) (d) : (dats m 0 c).before 1 t d = iblk m c 1 t :=
  before0_1_of m (dats m 0 c) (dats_A m c 1) (left1 m c) t d
theorem found2 (c : Dev nD) (t : Fin cfg0.N) (d) : (dats m 0 c).before 2 t d = iblk m c 2 t :=
  before0_2_of m (dats m 0 c) (dats_A m c 2) (left2 m c) t d
theorem found3 (c : Dev nD) (t : Fin cfg0.N) (d) : (dats m 0 c).before 3 t d = iblk m c 3 t :=
  before0_3_of m (dats m 0 c) (dats_A m c 3) (left3 m c) t d
theorem found4 (c : Dev nD) (t : Fin cfg0.N) (d) : (dats m 0 c).before 4 t d = iblk m c 4 t :=
  before0_4_of m (dats m 0 c) (dats_A m c 4) (left4 m c) t d
theorem found5 (c : Dev nD) (t : Fin cfg0.N) (d) : (dats m 0 c).before 5 t d = iblk m c 5 t :=
  before0_5_of m (dats m 0 c) (dats_A m c 5) (left5 m c) t d

/-! ## The body's triple at a point -/

theorem keeps (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact
  rw [(by decide +kernel : ∀ (w : Fin cfg0.W) (t : Fin cfg0.N), cfg0.idle w (grid0.coords t) = false) w t]

theorem invariant_eq (c : Dev nD) : (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- The windows' buffers as the body finds them at a point. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- And as it leaves them. -/
def returned (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem returned_eq (c : Dev nD) (t : Fin cfg0.N) : returned m c t =
  iprop(iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (gated (iblk m c 0 t) (iblk m c 1 t) (iblk m c 2 t) (iblk m c 3 t) (iblk m c 4 t))
    ∗ owns (c : Thread nD τ) (st0_7 t) fullShare (states0 (iblk m c 0 t) (iblk m c 2 t) (iblk m c 3 t) (iblk m c 4 t))
    ∗ owns (c : Thread nD τ) (st0_8 t) fullShare (states1 (iblk m c 0 t) (iblk m c 2 t) (iblk m c 3 t) (iblk m c 4 t))) := by
  unfold returned
  rw [show (dats m 0 c).Φ t.succ = Pipeline.ΦA spec0 c from rfl,
    show (dats m 0 c).owesAt () t.succ = (dats m 0 c).owesAt () t.castSucc from rfl, invariant_eq]
  rw [keeps, keeps, keeps, keeps, keeps, keeps, keeps, keeps, keeps]
  rw [left0, left1, left2, left3, left4, left5, left6, left7, left8]

set_option maxHeartbeats 1600000 in
theorem point (c : Dev nD) (t : Fin cfg0.N) :
    given m c t ⊢ wp frame (wpE (defs₀ (F := F)) Variants.none c none) Set.univ (bodyAt0 t) (fun _ => returned m c t) := by
  simp only [returned_eq]
  unfold given bodyAt0
  simp only [found0, found1, found2, found3, found4, found5]
  rw [show (dats m 0 c).Φ (Fin.castSucc t) = Pipeline.ΦA spec0 c from rfl, invariant_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body c Set.univ (grid0.coords t) _ _ _ _ _ _ _ _ _ _ _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  refine triple_restated (?_ : given m c t ⊢ wp frame (wpE (defs₀ (F := F)) Variants.none c none) Set.univ (bodyAt0 t) (fun _ => returned m c t)) rfl .rfl fun _ => .rfl
  exact point m c t

/-! ## The run and the frame -/

set_option backward.isDefEq.respectTransparency.types false in
set_option maxHeartbeats 800000 in
/-- Every execution ends, with the arrays as the data say and no semaphore raised. -/
theorem run_sems : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

theorem run_post : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_sems m ρ)

/-- The arguments end as they began, and so do the semaphores. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (dats_A m) (run_post m ρ)) ((θ_run defs _ _).mono (fun _ h => h.2) (run_sems m ρ))

end Cert.LruFwdIdeal.Run
-- ==== Proof.LruRef.lean ====
module

public import proofs.«01_k».proof.Proof.Gen.LruFwdRefIdeal.Read
public import proofs.«01_k».proof.Proof.LruMath
public import Idealize.ShloMosaic.Lib.Pointwise
public import Idealize.ShloMosaic.Lib.Pointwise.Sums

/-! # The reference of the forward recurrence, stage by stage -/

@[expose] public section

set_option maxRecDepth 16384
set_option maxHeartbeats 2000000

noncomputable section

namespace Cert.LruFwdRefIdeal.Val

open Cert.LruMath Cert.LruFwdRefIdeal Cert.LruFwdRefIdeal.Gen Cert.LruFwdRefIdeal.Read
open Idealize.ShloMosaic Idealize.ShloMosaic.TcCoe Idealize.SL.Sem

variable (x0 : Vec Ideal S3x4096x1024 .f32) (x1 : Vec Ideal S4x1024 .f32) (x2 : Vec Ideal S1024 .f32) (x3 : Vec Ideal S2x8x128x128 .f32)
  (x4 : Vec Ideal S2x1024 .f32) (x5 : Vec Ideal S2x8x128x128 .f32) (x6 : Vec Ideal S2x1024 .f32) (x7 : Vec Ideal S2x1024 .f32)

theorem rec_at (t : Fin 4096) (c : Fin 1024) : val_main_v1 x0 (ix2 t c) = x0 (ix3 1 t c) := by
  pointwise [val_main_v1, val_main_v0]

theorem padded_at (t : Fin 4099) (c : Fin 1024) : val_main_v4 x0 (ix2 t c) = padRow (fun t => x0 (ix3 1 t c)) t.val := by
  pointwise [val_main_v4, val_main_v2, val_main_v3, val_main_cst, val_main_cst_0, rec_at x0, nil]
  unfold padRow
  by_cases h1 : t.val < 1
  · rw [dif_pos h1, dif_neg (by omega)]
  · by_cases h2 : t.val - 1 < 4096
    · rw [dif_neg h1, dif_pos h2, dif_pos (by omega)]
    · rw [dif_neg h1, dif_neg h2, dif_neg (by omega)]

/-- The convolution. -/
theorem conv_at (t : Fin 4096) (c : Fin 1024) : val_main_v34 x0 x1 x2 (ix2 t c) = xcol x0 x1 x2 t c := by
  pointwise [val_main_v34, val_main_v33, val_main_v32, val_main_v31, val_main_v30, val_main_v29, val_main_v28, val_main_v27, val_main_v26, val_main_v25,
    val_main_v24, val_main_v23, val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, padded_at x0]
  all_goals (unfold xcol conv; simp only [Nat.add_comm])

/-- The two gates before their logistics. -/
theorem pre_r (d : Fin 2) (t : Fin 4096) (c : Fin 1024) : val_main_v44 x0 x1 x2 x3 x4 (ix3 d t c) = pre x0 x1 x2 x3 x4 d t c := by
  pointwise [val_main_v44, val_main_v43, val_main_v42, val_main_v38, val_main_v37, val_main_v36, val_main_v35, conv_at x0 x1 x2]
  all_goals rfl
theorem pre_i (d : Fin 2) (t : Fin 4096) (c : Fin 1024) : val_main_v53 x0 x1 x2 x5 x6 (ix3 d t c) = pre x0 x1 x2 x5 x6 d t c := by
  pointwise [val_main_v53, val_main_v52, val_main_v51, val_main_v41, val_main_v40, val_main_v39, val_main_v35, conv_at x0 x1 x2]
  all_goals rfl
theorem gate_r (d : Fin 2) (t : Fin 4096) (c : Fin 1024) : val_main_v50 x0 x1 x2 x3 x4 (ix3 d t c) = logi (pre x0 x1 x2 x3 x4 d t c) := by
  pointwise [val_main_v50, val_main_v49, val_main_v48, val_main_v47, val_main_v46, val_main_v45, val_main_cst_1, val_main_cst_2, unit, pre_r x0 x1 x2 x3 x4]
  all_goals rfl
theorem gate_i (d : Fin 2) (t : Fin 4096) (c : Fin 1024) : val_main_v59 x0 x1 x2 x5 x6 (ix3 d t c) = logi (pre x0 x1 x2 x5 x6 d t c) := by
  pointwise [val_main_v59, val_main_v58, val_main_v57, val_main_v56, val_main_v55, val_main_v54, val_main_cst_3, val_main_cst_4, unit, pre_i x0 x1 x2 x5 x6]
  all_goals rfl

theorem soft_at (d : Fin 2) (c : Fin 1024) : val_main_v63 x7 (ix2 d c) = soft (x7 (ix2 d c)) := by
  pointwise [val_main_v63, val_main_v62, val_main_call0_v4, val_main_call0_v11, val_main_call0_v6, val_main_call0_v1, val_main_call0_v3, val_main_call0_v2, val_main_call0_v5,
    val_main_call0_v0, val_main_call0_cst, val_main_call0_v7, val_main_call0_v8, val_main_call0_v9, val_main_call0_v10, nil]
  rw [if_neg (fun h => h rfl)]
  rfl

theorem log_at (d : Fin 2) (t : Fin 4096) (c : Fin 1024) : val_main_v66 x0 x1 x2 x3 x4 x7 (ix3 d t c) = logA x0 x1 x2 x3 x4 x7 d t c := by
  pointwise [val_main_v66, val_main_v65, val_main_v64, val_main_v61, val_main_v60, val_main_cst_5, gate_r x0 x1 x2 x3 x4, soft_at x7]
  all_goals rfl
theorem a_at (d : Fin 2) (t : Fin 4096) (c : Fin 1024) : val_main_v67 x0 x1 x2 x3 x4 x7 (ix3 d t c) = Ideal.exp (logA x0 x1 x2 x3 x4 x7 d t c) := by
  pointwise [val_main_v67, log_at x0 x1 x2 x3 x4 x7]
theorem b_at (d : Fin 2) (t : Fin 4096) (c : Fin 1024) : val_main_v76 x0 x1 x2 x3 x4 x5 x6 x7 (ix3 d t c) = gateB x0 x1 x2 x3 x4 x5 x6 x7 d t c := by
  pointwise [val_main_v76, val_main_v75, val_main_v74, val_main_v73, val_main_v72, val_main_v71, val_main_v70, val_main_v69, val_main_v68, val_main_cst_6,
    log_at x0 x1 x2 x3 x4 x7, gate_i x0 x1 x2 x5 x6, conv_at x0 x1 x2]
  all_goals rfl

/-! ## Both directions in their own order -/

theorem own (d : Fin 2) (t : Fin 4096) (f : Fin 2 → Fin 4096 → EReal) :
    (if h : d.val < 1 then f 0 t else f 1 t.rev) = f d (row d t.val) := by
  have ht : t.val < 4096 := t.isLt
  unfold row
  match d with
  | ⟨0, _⟩ => exact congrArg (f 0) (Fin.ext (Nat.mod_eq_of_lt ht).symm)
  | ⟨1, _⟩ => exact congrArg (f 1) (Fin.ext ((Fin.val_rev t).trans ((by omega : 4096 - (t.val + 1) = 4095 - t.val).trans (Nat.mod_eq_of_lt (show 4095 - t.val < 4096 by omega)).symm)))

theorem a_own (d : Fin 2) (t : Fin 4096) (c : Fin 1024) : val_main_v84 x0 x1 x2 x3 x4 x7 (ix3 d t c) = wa (seqA x0 x1 x2 x3 x4 x7 d c) 1 t.val := by
  pointwise [val_main_v84, val_main_v83, val_main_v82, val_main_v81, val_main_v80, val_main_v79, val_main_v78, val_main_v77, a_at x0 x1 x2 x3 x4 x7]
  simp only [wa, Nat.not_lt_zero, if_false, one_mul, Nat.sub_zero]
  exact own d t fun d t => Ideal.exp (logA x0 x1 x2 x3 x4 x7 d t c)
theorem b_own (d : Fin 2) (t : Fin 4096) (c : Fin 1024) : val_main_v92 x0 x1 x2 x3 x4 x5 x6 x7 (ix3 d t c)
    = wb (seqA x0 x1 x2 x3 x4 x7 d c) (seqB x0 x1 x2 x3 x4 x5 x6 x7 d c) 1 t.val := by
  pointwise [val_main_v92, val_main_v91, val_main_v90, val_main_v89, val_main_v88, val_main_v87, val_main_v86, val_main_v85, b_at x0 x1 x2 x3 x4 x5 x6 x7]
  simp only [wb, wa, Nat.not_lt_zero, if_false, one_mul, Nat.sub_zero, zero_add]
  exact own d t fun d t => gateB x0 x1 x2 x3 x4 x5 x6 x7 d t c

/-! ## By pairs -/

section
variable (d : Fin 2) (c : Fin 1024)
local notation "seA" => seqA x0 x1 x2 x3 x4 x7 d c
local notation "seB" => seqB x0 x1 x2 x3 x4 x5 x6 x7 d c

theorem a1_at (i : Fin 4096) : val_main_v84 x0 x1 x2 x3 x4 x7 (ix3 d i c) = dA seA 1 i.val := by
  rw [a_own]; unfold dA; rw [one_mul, Nat.add_sub_cancel]
theorem b1_at (i : Fin 4096) : val_main_v92 x0 x1 x2 x3 x4 x5 x6 x7 (ix3 d i c) = dB seA seB 1 i.val := by
  rw [b_own]; unfold dB; rw [one_mul, Nat.add_sub_cancel]
theorem a2_at (i : Fin 2048) : val_main_v97 x0 x1 x2 x3 x4 x7 (ix3 d i c) = dA seA 2 i.val := by
  pointwise [val_main_v97, val_main_v93, val_main_v95, a1_at x0 x1 x2 x3 x4 x7]
  exact fall_a seA 1 i (by decide)
theorem b2_at (i : Fin 2048) : val_main_v99 x0 x1 x2 x3 x4 x5 x6 x7 (ix3 d i c) = dB seA seB 2 i.val := by
  pointwise [val_main_v99, val_main_v98, val_main_v94, val_main_v95, val_main_v96, a1_at x0 x1 x2 x3 x4 x7, b1_at x0 x1 x2 x3 x4 x5 x6 x7]
  exact fall_b seB (dec_at x0 x1 x2 x3 x4 x7 d c) 1 i (by decide)
theorem a4_at (i : Fin 1024) : val_main_v104 x0 x1 x2 x3 x4 x7 (ix3 d i c) = dA seA 4 i.val := by
  pointwise [val_main_v104, val_main_v100, val_main_v102, a2_at x0 x1 x2 x3 x4 x7]
  exact fall_a seA 2 i (by decide)
theorem b4_at (i : Fin 1024) : val_main_v106 x0 x1 x2 x3 x4 x5 x6 x7 (ix3 d i c) = dB seA seB 4 i.val := by
  pointwise [val_main_v106, val_main_v105, val_main_v101, val_main_v102, val_main_v103, a2_at x0 x1 x2 x3 x4 x7, b2_at x0 x1 x2 x3 x4 x5 x6 x7]
  exact fall_b seB (dec_at x0 x1 x2 x3 x4 x7 d c) 2 i (by decide)
theorem a8_at (i : Fin 512) : val_main_v111 x0 x1 x2 x3 x4 x7 (ix3 d i c) = dA seA 8 i.val := by
  pointwise [val_main_v111, val_main_v107, val_main_v109, a4_at x0 x1 x2 x3 x4 x7]
  exact fall_a seA 4 i (by decide)
theorem b8_at (i : Fin 512) : val_main_v113 x0 x1 x2 x3 x4 x5 x6 x7 (ix3 d i c) = dB seA seB 8 i.val := by
  pointwise [val_main_v113, val_main_v112, val_main_v108, val_main_v109, val_main_v110, a4_at x0 x1 x2 x3 x4 x7, b4_at x0 x1 x2 x3 x4 x5 x6 x7]
  exact fall_b seB (dec_at x0 x1 x2 x3 x4 x7 d c) 4 i (by decide)
theorem a16_at (i : Fin 256) : val_main_v118 x0 x1 x2 x3 x4 x7 (ix3 d i c) = dA seA 16 i.val := by
  pointwise [val_main_v118, val_main_v114, val_main_v116, a8_at x0 x1 x2 x3 x4 x7]
  exact fall_a seA 8 i (by decide)
theorem b16_at (i : Fin 256) : val_main_v120 x0 x1 x2 x3 x4 x5 x6 x7 (ix3 d i c) = dB seA seB 16 i.val := by
  pointwise [val_main_v120, val_main_v119, val_main_v115, val_main_v116, val_main_v117, a8_at x0 x1 x2 x3 x4 x7, b8_at x0 x1 x2 x3 x4 x5 x6 x7]
  exact fall_b seB (dec_at x0 x1 x2 x3 x4 x7 d c) 8 i (by decide)
theorem a32_at (i : Fin 128) : val_main_v125 x0 x1 x2 x3 x4 x7 (ix3 d i c) = dA seA 32 i.val := by
  pointwise [val_main_v125, val_main_v121, val_main_v123, a16_at x0 x1 x2 x3 x4 x7]
  exact fall_a seA 16 i (by decide)
theorem b32_at (i : Fin 128) : val_main_v127 x0 x1 x2 x3 x4 x5 x6 x7 (ix3 d i c) = dB seA seB 32 i.val := by
  pointwise [val_main_v127, val_main_v126, val_main_v122, val_main_v123, val_main_v124, a16_at x0 x1 x2 x3 x4 x7, b16_at x0 x1 x2 x3 x4 x5 x6 x7]
  exact fall_b seB (dec_at x0 x1 x2 x3 x4 x7 d c) 16 i (by decide)
theorem a64_at (i : Fin 64) : val_main_v132 x0 x1 x2 x3 x4 x7 (ix3 d i c) = dA seA 64 i.val := by
  pointwise [val_main_v132, val_main_v128, val_main_v130, a32_at x0 x1 x2 x3 x4 x7]
  exact fall_a seA 32 i (by decide)
theorem b64_at (i : Fin 64) : val_main_v134 x0 x1 x2 x3 x4 x5 x6 x7 (ix3 d i c) = dB seA seB 64 i.val := by
  pointwise [val_main_v134, val_main_v133, val_main_v129, val_main_v130, val_main_v131, a32_at x0 x1 x2 x3 x4 x7, b32_at x0 x1 x2 x3 x4 x5 x6 x7]
  exact fall_b seB (dec_at x0 x1 x2 x3 x4 x7 d c) 32 i (by decide)
theorem a128_at (i : Fin 32) : val_main_v139 x0 x1 x2 x3 x4 x7 (ix3 d i c) = dA seA 128 i.val := by
  pointwise [val_main_v139, val_main_v135, val_main_v137, a64_at x0 x1 x2 x3 x4 x7]
  exact fall_a seA 64 i (by decide)
theorem b128_at (i : Fin 32) : val_main_v141 x0 x1 x2 x3 x4 x5 x6 x7 (ix3 d i c) = dB seA seB 128 i.val := by
  pointwise [val_main_v141, val_main_v140, val_main_v136, val_main_v137, val_main_v138, a64_at x0 x1 x2 x3 x4 x7, b64_at x0 x1 x2 x3 x4 x5 x6 x7]
  exact fall_b seB (dec_at x0 x1 x2 x3 x4 x7 d c) 64 i (by decide)
theorem a256_at (i : Fin 16) : val_main_v146 x0 x1 x2 x3 x4 x7 (ix3 d i c) = dA seA 256 i.val := by
  pointwise [val_main_v146, val_main_v142, val_main_v144, a128_at x0 x1 x2 x3 x4 x7]
  exact fall_a seA 128 i (by decide)
theorem b256_at (i : Fin 16) : val_main_v148 x0 x1 x2 x3 x4 x5 x6 x7 (ix3 d i c) = dB seA seB 256 i.val := by
  pointwise [val_main_v148, val_main_v147, val_main_v143, val_main_v144, val_main_v145, a128_at x0 x1 x2 x3 x4 x7, b128_at x0 x1 x2 x3 x4 x5 x6 x7]
  exact fall_b seB (dec_at x0 x1 x2 x3 x4 x7 d c) 128 i (by decide)
theorem a512_at (i : Fin 8) : val_main_v153 x0 x1 x2 x3 x4 x7 (ix3 d i c) = dA seA 512 i.val := by
  pointwise [val_main_v153, val_main_v149, val_main_v151, a256_at x0 x1 x2 x3 x4 x7]
  exact fall_a seA 256 i (by decide)
theorem b512_at (i : Fin 8) : val_main_v155 x0 x1 x2 x3 x4 x5 x6 x7 (ix3 d i c) = dB seA seB 512 i.val := by
  pointwise [val_main_v155, val_main_v154, val_main_v150, val_main_v151, val_main_v152, a256_at x0 x1 x2 x3 x4 x7, b256_at x0 x1 x2 x3 x4 x5 x6 x7]
  exact fall_b seB (dec_at x0 x1 x2 x3 x4 x7 d c) 256 i (by decide)
theorem a1024_at (i : Fin 4) : val_main_v160 x0 x1 x2 x3 x4 x7 (ix3 d i c) = dA seA 1024 i.val := by
  pointwise [val_main_v160, val_main_v156, val_main_v158, a512_at x0 x1 x2 x3 x4 x7]
  exact fall_a seA 512 i (by decide)
theorem b1024_at (i : Fin 4) : val_main_v162 x0 x1 x2 x3 x4 x5 x6 x7 (ix3 d i c) = dB seA seB 1024 i.val := by
  pointwise [val_main_v162, val_main_v161, val_main_v157, val_main_v158, val_main_v159, a512_at x0 x1 x2 x3 x4 x7, b512_at x0 x1 x2 x3 x4 x5 x6 x7]
  exact fall_b seB (dec_at x0 x1 x2 x3 x4 x7 d c) 512 i (by decide)
theorem a2048_at (i : Fin 2) : val_main_v167 x0 x1 x2 x3 x4 x7 (ix3 d i c) = dA seA 2048 i.val := by
  pointwise [val_main_v167, val_main_v163, val_main_v165, a1024_at x0 x1 x2 x3 x4 x7]
  exact fall_a seA 1024 i (by decide)
theorem b2048_at (i : Fin 2) : val_main_v169 x0 x1 x2 x3 x4 x5 x6 x7 (ix3 d i c) = dB seA seB 2048 i.val := by
  pointwise [val_main_v169, val_main_v168, val_main_v164, val_main_v165, val_main_v166, a1024_at x0 x1 x2 x3 x4 x7, b1024_at x0 x1 x2 x3 x4 x5 x6 x7]
  exact fall_b seB (dec_at x0 x1 x2 x3 x4 x7 d c) 1024 i (by decide)
theorem b4096_at (i : Fin 1) : val_main_v176 x0 x1 x2 x3 x4 x5 x6 x7 (ix3 d i c) = dB seA seB 4096 i.val := by
  pointwise [val_main_v176, val_main_v175, val_main_v171, val_main_v172, val_main_v173, a2048_at x0 x1 x2 x3 x4 x7, b2048_at x0 x1 x2 x3 x4 x5 x6 x7]
  exact fall_b seB (dec_at x0 x1 x2 x3 x4 x7 d c) 2048 0 (by decide)

theorem s2048_at (t : Fin 2) : val_main_v193 x0 x1 x2 x3 x4 x5 x6 x7 (ix3 d t c) = upB seA seB 2048 t.val := by
  pointwise [val_main_v193, val_main_v192, val_main_v191, val_main_v187, val_main_v186, val_main_v183, val_main_cst_9, val_main_cst_10, nil, b2048_at x0 x1 x2 x3 x4 x5 x6 x7, b4096_at x0 x1 x2 x3 x4 x5 x6 x7]
  exact rise_two seB 2048 t t.isLt _
theorem s1024_at (t : Fin 4) : val_main_v210 x0 x1 x2 x3 x4 x5 x6 x7 (ix3 d t c) = upB seA seB 1024 t.val := by
  pointwise [val_main_v210, val_main_v209, val_main_v208, val_main_v204, val_main_v203, val_main_v200, val_main_v199, val_main_v197, val_main_v196, val_main_v195,
    val_main_cst_13, val_main_cst_14, nil, a1024_at x0 x1 x2 x3 x4 x7, b1024_at x0 x1 x2 x3 x4 x5 x6 x7, s2048_at x0 x1 x2 x3 x4 x5 x6 x7]
  exact rise seB (dec_at x0 x1 x2 x3 x4 x7 d c) 1024 t 2 (by decide) t.isLt
theorem s512_at (t : Fin 8) : val_main_v227 x0 x1 x2 x3 x4 x5 x6 x7 (ix3 d t c) = upB seA seB 512 t.val := by
  pointwise [val_main_v227, val_main_v226, val_main_v225, val_main_v221, val_main_v220, val_main_v217, val_main_v216, val_main_v214, val_main_v213, val_main_v212,
    val_main_cst_17, val_main_cst_18, nil, a512_at x0 x1 x2 x3 x4 x7, b512_at x0 x1 x2 x3 x4 x5 x6 x7, s1024_at x0 x1 x2 x3 x4 x5 x6 x7]
  exact rise seB (dec_at x0 x1 x2 x3 x4 x7 d c) 512 t 4 (by decide) t.isLt
theorem s256_at (t : Fin 16) : val_main_v244 x0 x1 x2 x3 x4 x5 x6 x7 (ix3 d t c) = upB seA seB 256 t.val := by
  pointwise [val_main_v244, val_main_v243, val_main_v242, val_main_v238, val_main_v237, val_main_v234, val_main_v233, val_main_v231, val_main_v230, val_main_v229,
    val_main_cst_21, val_main_cst_22, nil, a256_at x0 x1 x2 x3 x4 x7, b256_at x0 x1 x2 x3 x4 x5 x6 x7, s512_at x0 x1 x2 x3 x4 x5 x6 x7]
  exact rise seB (dec_at x0 x1 x2 x3 x4 x7 d c) 256 t 8 (by decide) t.isLt
theorem s128_at (t : Fin 32) : val_main_v261 x0 x1 x2 x3 x4 x5 x6 x7 (ix3 d t c) = upB seA seB 128 t.val := by
  pointwise [val_main_v261, val_main_v260, val_main_v259, val_main_v255, val_main_v254, val_main_v251, val_main_v250, val_main_v248, val_main_v247, val_main_v246,
    val_main_cst_25, val_main_cst_26, nil, a128_at x0 x1 x2 x3 x4 x7, b128_at x0 x1 x2 x3 x4 x5 x6 x7, s256_at x0 x1 x2 x3 x4 x5 x6 x7]
  exact rise seB (dec_at x0 x1 x2 x3 x4 x7 d c) 128 t 16 (by decide) t.isLt
theorem s64_at (t : Fin 64) : val_main_v278 x0 x1 x2 x3 x4 x5 x6 x7 (ix3 d t c) = upB seA seB 64 t.val := by
  pointwise [val_main_v278, val_main_v277, val_main_v276, val_main_v272, val_main_v271, val_main_v268, val_main_v267, val_main_v265, val_main_v264, val_main_v263,
    val_main_cst_29, val_main_cst_30, nil, a64_at x0 x1 x2 x3 x4 x7, b64_at x0 x1 x2 x3 x4 x5 x6 x7, s128_at x0 x1 x2 x3 x4 x5 x6 x7]
  exact rise seB (dec_at x0 x1 x2 x3 x4 x7 d c) 64 t 32 (by decide) t.isLt
theorem s32_at (t : Fin 128) : val_main_v295 x0 x1 x2 x3 x4 x5 x6 x7 (ix3 d t c) = upB seA seB 32 t.val := by
  pointwise [val_main_v295, val_main_v294, val_main_v293, val_main_v289, val_main_v288, val_main_v285, val_main_v284, val_main_v282, val_main_v281, val_main_v280,
    val_main_cst_33, val_main_cst_34, nil, a32_at x0 x1 x2 x3 x4 x7, b32_at x0 x1 x2 x3 x4 x5 x6 x7, s64_at x0 x1 x2 x3 x4 x5 x6 x7]
  exact rise seB (dec_at x0 x1 x2 x3 x4 x7 d c) 32 t 64 (by decide) t.isLt
theorem s16_at (t : Fin 256) : val_main_v312 x0 x1 x2 x3 x4 x5 x6 x7 (ix3 d t c) = upB seA seB 16 t.val := by
  pointwise [val_main_v312, val_main_v311, val_main_v310, val_main_v306, val_main_v305, val_main_v302, val_main_v301, val_main_v299, val_main_v298, val_main_v297,
    val_main_cst_37, val_main_cst_38, nil, a16_at x0 x1 x2 x3 x4 x7, b16_at x0 x1 x2 x3 x4 x5 x6 x7, s32_at x0 x1 x2 x3 x4 x5 x6 x7]
  exact rise seB (dec_at x0 x1 x2 x3 x4 x7 d c) 16 t 128 (by decide) t.isLt
theorem s8_at (t : Fin 512) : val_main_v329 x0 x1 x2 x3 x4 x5 x6 x7 (ix3 d t c) = upB seA seB 8 t.val := by
  pointwise [val_main_v329, val_main_v328, val_main_v327, val_main_v323, val_main_v322, val_main_v319, val_main_v318, val_main_v316, val_main_v315, val_main_v314,
    val_main_cst_41, val_main_cst_42, nil, a8_at x0 x1 x2 x3 x4 x7, b8_at x0 x1 x2 x3 x4 x5 x6 x7, s16_at x0 x1 x2 x3 x4 x5 x6 x7]
  exact rise seB (dec_at x0 x1 x2 x3 x4 x7 d c) 8 t 256 (by decide) t.isLt
theorem s4_at (t : Fin 1024) : val_main_v346 x0 x1 x2 x3 x4 x5 x6 x7 (ix3 d t c) = upB seA seB 4 t.val := by
  pointwise [val_main_v346, val_main_v345, val_main_v344, val_main_v340, val_main_v339, val_main_v336, val_main_v335, val_main_v333, val_main_v332, val_main_v331,
    val_main_cst_45, val_main_cst_46, nil, a4_at x0 x1 x2 x3 x4 x7, b4_at x0 x1 x2 x3 x4 x5 x6 x7, s8_at x0 x1 x2 x3 x4 x5 x6 x7]
  exact rise seB (dec_at x0 x1 x2 x3 x4 x7 d c) 4 t 512 (by decide) t.isLt
theorem s2_at (t : Fin 2048) : val_main_v363 x0 x1 x2 x3 x4 x5 x6 x7 (ix3 d t c) = upB seA seB 2 t.val := by
  pointwise [val_main_v363, val_main_v362, val_main_v361, val_main_v357, val_main_v356, val_main_v353, val_main_v352, val_main_v350, val_main_v349, val_main_v348,
    val_main_cst_49, val_main_cst_50, nil, a2_at x0 x1 x2 x3 x4 x7, b2_at x0 x1 x2 x3 x4 x5 x6 x7, s4_at x0 x1 x2 x3 x4 x5 x6 x7]
  exact rise seB (dec_at x0 x1 x2 x3 x4 x7 d c) 2 t 1024 (by decide) t.isLt
theorem s1_at (t : Fin 4096) : val_main_v380 x0 x1 x2 x3 x4 x5 x6 x7 (ix3 d t c) = upB seA seB 1 t.val := by
  pointwise [val_main_v380, val_main_v379, val_main_v378, val_main_v374, val_main_v373, val_main_v370, val_main_v369, val_main_v367, val_main_v366, val_main_v365,
    val_main_cst_53, val_main_cst_54, nil, a1_at x0 x1 x2 x3 x4 x7, b1_at x0 x1 x2 x3 x4 x5 x6 x7, s2_at x0 x1 x2 x3 x4 x5 x6 x7]
  exact rise seB (dec_at x0 x1 x2 x3 x4 x7 d c) 1 t 2048 (by decide) t.isLt

/-- All rows of a column's states. -/
theorem states_at (t : Fin 4096) : val_main_v380 x0 x1 x2 x3 x4 x5 x6 x7 (ix3 d t c) = state x0 x1 x2 x3 x4 x5 x6 x7 d c (t.val + 1) := by
  rw [s1_at, state, run_eq _ (dec_at x0 x1 x2 x3 x4 x7 d c), mul_zero, add_zero, upB, one_mul, Nat.add_sub_cancel]
end

theorem h0_at (t : Fin 4096) (c : Fin 1024) : val_main_v382 x0 x1 x2 x3 x4 x5 x6 x7 (ix2 t c) = state x0 x1 x2 x3 x4 x5 x6 x7 0 c (t.val + 1) := by
  pointwise [val_main_v382, val_main_v381, states_at x0 x1 x2 x3 x4 x5 x6 x7]
theorem h1_at (t : Fin 4096) (c : Fin 1024) : val_main_v385 x0 x1 x2 x3 x4 x5 x6 x7 (ix2 t c) = state x0 x1 x2 x3 x4 x5 x6 x7 1 c (4096 - t.val) := by
  pointwise [val_main_v385, val_main_v384, val_main_v383, states_at x0 x1 x2 x3 x4 x5 x6 x7]
  show state x0 x1 x2 x3 x4 x5 x6 x7 1 c (t.rev.val + 1) = _
  rw [Fin.val_rev]
  congr 1
  omega

theorem y_at (t : Fin 4096) (c : Fin 1024) : val_main_v404 x0 x1 x2 x3 x4 x5 x6 x7 (ix2 t c) = yAt x0 x1 x2 x3 x4 x5 x6 x7 t c := by
  pointwise [val_main_v404, val_main_v402, val_main_v401, val_main_v400, val_main_v399, val_main_v398, val_main_v397, val_main_v396, val_main_v395,
    val_main_v394, val_main_v393, val_main_v392, val_main_v391, val_main_v390, val_main_v389, val_main_v388, val_main_v387, val_main_v386,
    val_main_cst_55, val_main_cst_56, val_main_cst_57, val_main_cst_58, unit, half, h0_at x0 x1 x2 x3 x4 x5 x6 x7, h1_at x0 x1 x2 x3 x4 x5 x6 x7]
  all_goals rfl

theorem saved0_at (r : Fin 4112) (c : Fin 1024) : val_main_v405 x0 x1 x2 x3 x4 x5 x6 x7 (ix2 r c)
    = edged (fun t => state x0 x1 x2 x3 x4 x5 x6 x7 0 c (t + 1)) r.val := by
  pointwise [val_main_v405, val_main_v403, val_main_cst_59, nil, h0_at x0 x1 x2 x3 x4 x5 x6 x7]
  rfl
theorem saved1_at (r : Fin 4112) (c : Fin 1024) : val_main_v406 x0 x1 x2 x3 x4 x5 x6 x7 (ix2 r c)
    = edged (fun t => state x0 x1 x2 x3 x4 x5 x6 x7 1 c (4096 - t)) r.val := by
  pointwise [val_main_v406, val_main_v403, val_main_cst_59, nil, h1_at x0 x1 x2 x3 x4 x5 x6 x7]
  rfl

end Cert.LruFwdRefIdeal.Val
-- ==== Proof.LruArr.lean ====
module

public import proofs.«01_k».proof.Proof.LruGates
public import proofs.«01_k».proof.Proof.LruRun
public import proofs.«01_k».proof.Proof.LruRef
public import Idealize.ShloMosaic.Lib.StableHlo.RunRead

/-! # The recurrence's result arrays -/

@[expose] public section

set_option maxRecDepth 16384
set_option maxHeartbeats 2000000

noncomputable section

namespace Cert.LruFwdIdeal.Val

open Cert.LruMath Cert.LruRows Cert.LruFwdIdeal Cert.LruFwdIdeal.Gen Cert.LruFwdIdeal.Run
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev X0 : Vec Ideal S3x4096x1024 .f32 := m ((c : Thread nD τ).loc main_arg0)
abbrev X1 : Vec Ideal S4x1024 .f32 := m ((c : Thread nD τ).loc main_arg1)
abbrev X2 : Vec Ideal S1024 .f32 := m ((c : Thread nD τ).loc main_arg2)
abbrev X3 : Vec Ideal S2x8x128x128 .f32 := m ((c : Thread nD τ).loc main_arg3)
abbrev X4 : Vec Ideal S2x1024 .f32 := m ((c : Thread nD τ).loc main_arg4)
abbrev X5 : Vec Ideal S2x8x128x128 .f32 := m ((c : Thread nD τ).loc main_arg5)
abbrev X6 : Vec Ideal S2x1024 .f32 := m ((c : Thread nD τ).loc main_arg6)
abbrev X7 : Vec Ideal S2x1024 .f32 := m ((c : Thread nD τ).loc main_arg7)

abbrev hd (t : Fin cfg0.N) : Fin 8 := ⟨t.val, lt_of_lt_of_eq t.isLt N_0⟩

abbrev colT (t : Fin cfg0.N) (k : Fin 128) : Fin 1024 := ⟨128 * (hd t).val + k.val, by have := (hd t).isLt; omega⟩

theorem idx : ∀ t : Fin cfg0.N, win0_0.index t = ![1, 0, t.val] ∧ win0_1.index t = ![2, 0, t.val] ∧ win0_2.index t = ![t.val, 0, 0]
    ∧ win0_3.index t = ![0, t.val] ∧ win0_4.index t = ![t.val, 0, 0] ∧ win0_6.index t = ![0, 8 + t.val] ∧ win0_7.index t = ![0, t.val]
    ∧ win0_8.index t = ![0, t.val] :=
  (by decide +kernel : ∀ t : Fin grid0.N, _)

/-- Row `r` of the pack: the taps, the biases of both gates, the decays' parameters, and nothing. -/
def packed (X1 : B2 4) (X4 X6 X7 : B2 2) (n : EReal) (r : Fin 16) (q : Fin 1024) : EReal :=
  if h : r.val < 4 then X1 (ix2 ⟨r.val, h⟩ q) else if h : r.val - 4 < 2 then X4 (ix2 ⟨r.val - 4, h⟩ q)
  else if h : r.val - 4 - 2 < 2 then X6 (ix2 ⟨r.val - 4 - 2, h⟩ q) else if h : r.val - 4 - 2 - 2 < 2 then X7 (ix2 ⟨r.val - 4 - 2 - 2, h⟩ q) else n

/-- The gates' matrices side by side. -/
def sided (X3 X5 : B4) (h : Fin 8) (k : Fin 128) (q : Fin 512) : EReal :=
  if h1 : q.val < 128 then X3 (ix4 0 h k ⟨q.val, h1⟩) else if h2 : q.val - 128 < 128 then X5 (ix4 0 h k ⟨q.val - 128, h2⟩)
  else if h3 : q.val - 128 - 128 < 128 then X3 (ix4 1 h k ⟨q.val - 128 - 128, h3⟩) else X5 (ix4 1 h k ⟨q.val - 128 - 128 - 128, by omega⟩)

theorem sided_at (X3 X5 : B4) (h : Fin 8) (k j : Fin 128) (d : Fin 2) :
    sided X3 X5 h k (Fin.ofNat 512 (256 * d.val + j.val)) = X3 (ix4 d h k j) ∧ sided X3 X5 h k (Fin.ofNat 512 (256 * d.val + 128 + j.val)) = X5 (ix4 d h k j) := by
  have hj := j.isLt
  fin_cases d
  · have e : (Fin.ofNat 512 (256 * 0 + j.val)).val = j.val := by simp only [Fin.ofNat]; omega
    have e' : (Fin.ofNat 512 (256 * 0 + 128 + j.val)).val = 128 + j.val := by simp only [Fin.ofNat]; omega
    refine ⟨(dif_pos (by show (Fin.ofNat 512 (256 * 0 + j.val)).val < 128; omega)).trans (congrArg (fun q => X3 (ix4 0 h k q)) (Fin.ext e)),
      (dif_neg (by show ¬ (Fin.ofNat 512 (256 * 0 + 128 + j.val)).val < 128; omega)).trans
        ((dif_pos (by show (Fin.ofNat 512 (256 * 0 + 128 + j.val)).val - 128 < 128; omega)).trans (congrArg (fun q => X5 (ix4 0 h k q)) (Fin.ext ?_)))⟩
    show (Fin.ofNat 512 (256 * 0 + 128 + j.val)).val - 128 = j.val
    omega
  · have e : (Fin.ofNat 512 (256 * 1 + j.val)).val = 256 + j.val := by simp only [Fin.ofNat]; omega
    have e' : (Fin.ofNat 512 (256 * 1 + 128 + j.val)).val = 384 + j.val := by simp only [Fin.ofNat]; omega
    refine ⟨(dif_neg (by show ¬ (Fin.ofNat 512 (256 * 1 + j.val)).val < 128; omega)).trans
        ((dif_neg (by show ¬ (Fin.ofNat 512 (256 * 1 + j.val)).val - 128 < 128; omega)).trans
        ((dif_pos (by show (Fin.ofNat 512 (256 * 1 + j.val)).val - 128 - 128 < 128; omega)).trans (congrArg (fun q => X3 (ix4 1 h k q)) (Fin.ext ?_)))),
      (dif_neg (by show ¬ (Fin.ofNat 512 (256 * 1 + 128 + j.val)).val < 128; omega)).trans
        ((dif_neg (by show ¬ (Fin.ofNat 512 (256 * 1 + 128 + j.val)).val - 128 < 128; omega)).trans
        ((dif_neg (by show ¬ (Fin.ofNat 512 (256 * 1 + 128 + j.val)).val - 128 - 128 < 128; omega)).trans (congrArg (fun q => X5 (ix4 1 h k q)) (Fin.ext ?_))))⟩
    · show (Fin.ofNat 512 (256 * 1 + j.val)).val - 128 - 128 = j.val
      omega
    · show (Fin.ofNat 512 (256 * 1 + 128 + j.val)).val - 128 - 128 - 128 = j.val
      omega

theorem pack_at (h : Fin 8) (r : Fin 16) (j : Fin 128) : V m c main_v3 (ix3 h r j) = packed (X1 m c) (X4 m c) (X6 m c) (X7 m c) 0 r (col h j) := by
  have e : (⟨h.val * 128 + j.val, by omega⟩ : Fin 1024) = col h j := Fin.ext (by show h.val * 128 + j.val = 128 * h.val + j.val; omega)
  unfold V V0
  after_reads_simp
  pointwise []
  after_reads_simp
  pointwise [nil]
  simp only [e]
  rfl

theorem mats_at (h : Fin 8) (k : Fin 128) (q : Fin 512) : V m c main_v13 (ix3 h k q) = sided (X3 m c) (X5 m c) h k q := by
  unfold V V0
  after_reads_simp
  pointwise []
  after_reads_simp
  pointwise []
  rfl

theorem bias_at (q : Fin 1024) : V m c main_v15 (ix2 0 q) = X2 m c (ix1 q) := by
  unfold V V0
  after_reads_simp
  pointwise []

theorem b0 (t : Fin cfg0.N) (z : Fin 1) (r : Fin 4096) (k : Fin 128) : iblk m c 0 t (ix3 z r k) = V m c main_arg0 (ix3 1 r (colT t k)) := by
  blk_point [iblk, idx t]
theorem b1 (t : Fin cfg0.N) (z : Fin 1) (r : Fin 4096) (k : Fin 128) : iblk m c 1 t (ix3 z r k) = V m c main_arg0 (ix3 2 r (colT t k)) := by
  blk_point [iblk, idx t]
theorem b2 (t : Fin cfg0.N) (z : Fin 1) (r : Fin 16) (k : Fin 128) : iblk m c 2 t (ix3 z r k) = V m c main_v3 (ix3 (hd t) r k) := by
  blk_point [iblk, idx t]
theorem b3 (t : Fin cfg0.N) (z : Fin 1) (k : Fin 128) : iblk m c 3 t (ix2 z k) = V m c main_v15 (ix2 0 (colT t k)) := by
  blk_point [iblk, idx t]
theorem b4 (t : Fin cfg0.N) (z : Fin 1) (r : Fin 128) (k : Fin 512) : iblk m c 4 t (ix3 z r k) = V m c main_v13 (ix3 (hd t) r k) := by
  blk_point [iblk, idx t]

theorem head (t : Fin cfg0.N) : Head (hd t) (X0 m c) (X1 m c) (X2 m c) (X3 m c) (X4 m c) (X5 m c) (X6 m c) (X7 m c)
    (iblk m c 0 t) (iblk m c 1 t) (iblk m c 2 t) (iblk m c 3 t) (iblk m c 4 t) where
  recur r k := by rw [b0, V_main_arg0]; rfl
  gate r k := by rw [b1, V_main_arg0]; rfl
  taps n k := by rw [b2, pack_at]; fin_cases n <;> rfl
  biasA d k := by rw [b2, pack_at]; fin_cases d <;> rfl
  biasI d k := by rw [b2, pack_at]; fin_cases d <;> rfl
  lam d k := by rw [b2, pack_at]; fin_cases d <;> rfl
  biasC k := by rw [b3, bias_at]; rfl
  matA d k j := by rw [b4, mats_at]; exact (sided_at (X3 m c) (X5 m c) (hd t) k j d).1
  matI d k j := by rw [b4, mats_at]; exact (sided_at (X3 m c) (X5 m c) (hd t) k j d).2

/-! ## The result arrays -/

abbrev colY (t : Fin cfg0.N) (k : Fin 128) : Fin 2048 := ⟨1024 + (128 * (hd t).val + k.val), by have := (hd t).isLt; omega⟩

/-- The wide array whose right half is the result. -/
def wide : Vec Ideal S4096x2048 .bf16 := fun i =>
  if h : 1024 ≤ (i 1).val then yAt (X0 m c) (X1 m c) (X2 m c) (X3 m c) (X4 m c) (X5 m c) (X6 m c) (X7 m c) (i 0) ⟨(i 1).val - 1024, by have : (i 1).val < 2048 := (i 1).isLt; omega⟩ else 0
/-- The saved states. -/
def kept0 : Vec Ideal S4112x1024 .f32 := fun i =>
  edged (fun t => state (X0 m c) (X1 m c) (X2 m c) (X3 m c) (X4 m c) (X5 m c) (X6 m c) (X7 m c) 0 (i 1) (t + 1)) (i 0).val
def kept1 : Vec Ideal S4112x1024 .f32 := fun i =>
  edged (fun t => state (X0 m c) (X1 m c) (X2 m c) (X3 m c) (X4 m c) (X5 m c) (X6 m c) (X7 m c) 1 (i 1) (4096 - t)) (i 0).val

theorem emb6 (W : Vec Ideal S4096x2048 .bf16) (t : Fin cfg0.N) (r : Fin 4096) (k : Fin 128) :
    W (((View.whole main_v17_0).slice (win0_6.rect t)).emb (ix2 r k)) = W (ix2 r (colY t k)) := by
  blk_point [idx t]
theorem emb7 (W : Vec Ideal S4112x1024 .f32) (t : Fin cfg0.N) (r : Fin 4112) (k : Fin 128) :
    W (((View.whole main_v17_1).slice (win0_7.rect t)).emb (ix2 r k)) = W (ix2 r (colT t k)) := by
  blk_point [idx t]
theorem emb8 (W : Vec Ideal S4112x1024 .f32) (t : Fin cfg0.N) (r : Fin 4112) (k : Fin 128) :
    W (((View.whole main_v17_2).slice (win0_8.rect t)).emb (ix2 r k)) = W (ix2 r (colT t k)) := by
  blk_point [idx t]

theorem final7 : (dats m 0 c).arrAt 7 cfg0.N = kept0 m c := by
  refine (dats m 0 c).arrAt_eq_of_covers 7 (kept0 m c) (by decide +kernel) fun t hf y => ?_
  blk_simp
  rw [left7]
  idx_vars y
  exact (states0_at (head m c t) y0 y1).trans (emb7 (kept0 m c) t y0 y1).symm
theorem final8 : (dats m 0 c).arrAt 8 cfg0.N = kept1 m c := by
  refine (dats m 0 c).arrAt_eq_of_covers 8 (kept1 m c) (by decide +kernel) fun t hf y => ?_
  blk_simp
  rw [left8]
  idx_vars y
  exact (states1_at (head m c t) y0 y1).trans (emb8 (kept1 m c) t y0 y1).symm

theorem point6 (t : Fin cfg0.N) (r : Fin 4096) (k : Fin 128) :
    (gated (iblk m c 0 t) (iblk m c 1 t) (iblk m c 2 t) (iblk m c 3 t) (iblk m c 4 t) : Vec Ideal S4096x128 .bf16) (ix2 r k) = wide m c (ix2 r (colY t k)) := by
  refine (gated_at (head m c t) r k).trans (Eq.trans ?_ (dif_pos (show 1024 ≤ 1024 + (128 * (hd t).val + k.val) by omega)).symm)
  exact congrArg (yAt _ _ _ _ _ _ _ _ r) (Fin.ext (show 128 * (hd t).val + k.val = 1024 + (128 * (hd t).val + k.val) - 1024 by omega))

theorem final6 (r : Fin 4096) (k : Fin 1024) : (dats m 0 c).arrAt 6 cfg0.N (ix2 r ⟨1024 + k.val, by omega⟩ : S4096x2048.Idx)
    = yAt (X0 m c) (X1 m c) (X2 m c) (X3 m c) (X4 m c) (X5 m c) (X6 m c) (X7 m c) r k := by
  have e := (dats m 0 c).arrAt_eq_of_coversWhere 6 (wide m c) (P := fun i => 1024 ≤ (i (1 : Fin 2)).val) (fun β => 8 ≤ β (1 : Fin 2))
    (by decide +kernel) (fun t hf y => by
      blk_simp
      rw [left6]
      idx_vars y
      exact (point6 m c t y0 y1).trans (emb6 (wide m c) t y0 y1).symm) (fun j => by blk_simp [Pipeline.Window.cell_apply]; omega)
  rw [e]
  have hk : 1024 ≤ ((ix2 r ⟨1024 + k.val, by omega⟩ : S4096x2048.Idx) 1).val := Nat.le_add_right _ _
  refine (if_pos hk).trans ((dif_pos hk).trans ?_)
  exact congrArg (yAt _ _ _ _ _ _ _ _ r) (Fin.ext (Nat.add_sub_cancel_left 1024 k.val))

/-- The result cut out of the wide array. -/
def gatedAll : Vec Ideal S4096x1024 .bf16 := fun i =>
  yAt (X0 m c) (X1 m c) (X2 m c) (X3 m c) (X4 m c) (X5 m c) (X6 m c) (X7 m c) (i 0) (i 1)

theorem final18 : Pipeline.afterTail₀ cfgs (dats m) 0 (V0 m) [hostOps1] c main_v18 = gatedAll m c := by
  unfold Pipeline.afterTail₀
  after_reads_simp
  refine (congrArg (fun v : Vec Ideal S4096x2048 .bf16 => extractStridedSlice S4096x1024 ![0, 1024] v)
    (Pipeline.withArrays_arr_shared spec0 c (V0 m c) (fun w => (dats m 0 c).arrAt w cfg0.N) ((dats m 0 c).arrAt_sharedIn launch₀0.sharedIn (V0 m c) (dats_A m c) cfg0.N) 6)).trans ?_
  funext j
  idx_vars j
  refine Eq.trans ?_ (final6 m c j0 j1)
  pointwise []

/-- The run, its results the functions of the arguments. -/
theorem run_vals (ρ : Dev nD → PrngReg) :
    θ_run defs (onTc (τ := τ) (main (F := Ideal))) ⟨m, fun _ => 0, ρ⟩ fun r => ∀ c : Dev nD,
      r.2.mem ((c.tc : Thread nD τ).loc main_v18) = gatedAll m c
      ∧ r.2.mem ((c.tc : Thread nD τ).loc main_v17_1) = kept0 m c
      ∧ r.2.mem ((c.tc : Thread nD τ).loc main_v17_2) = kept1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
    ⟨((h.1 c).2 main_v18 (Pipeline.mem_restRefs_of main_v18 (by decide) (by decide))).trans (final18 m c),
      ((h.1 c).1 7).trans (final7 m c), ((h.1 c).1 8).trans (final8 m c), h.2.1 c⟩) (θ_run_and (run_post m ρ) (frame m ρ))

end Cert.LruFwdIdeal.Val
-- ==== Proof.LruClaim.lean ====
module

public import proofs.«01_k».proof.Defs
public import proofs.«01_k».proof.Proof.LruArr
public import proofs.«01_k».proof.Proof.LruRef
public import proofs.«01_k».proof.Proof.LruRun
public import proofs.«01_k».proof.Proof.Gen.LruFwd
public import Idealize.ShloMosaic.Lib.Claim

/-! # The forward recurrence against its lines -/

@[expose] public section

set_option maxRecDepth 16384

noncomputable section

namespace Cert.LruFwdClaim

open Idealize.ShloMosaic Idealize.ShloMosaic.TcCoe Idealize.SL.Sem Cert.LruFwdRefIdeal.Read Cert.LruMath

/-- Over words a constant with a name is its word. -/
local instance : Named Bits where
  named _ _ _ b := FloatOps.ofBits _ b

/-- The kernel's frame over words, stated of the text that is read over the reals, a named constant read as its word. -/
def frameStated : Prop :=
  ∀ (m : (ℓ : Loc LruFwdIdeal.nD LruFwdIdeal.τ LruFwdIdeal.sig) → Buf (Elt Bits) ℓ) (g : Dev LruFwdIdeal.nD → PrngReg), True →
    θ_run (LruFwdIdeal.defs (F := Bits)) (onTc (τ := LruFwdIdeal.τ) (LruFwdIdeal.main (F := Bits))) ⟨m, fun _ => 0, g⟩ (fun r => (∀ c : Dev LruFwdIdeal.nD,
      r.2.mem ((c.tc : Thread LruFwdIdeal.nD LruFwdIdeal.τ).loc LruFwdIdeal.main_arg0) = m ((c.tc : Thread LruFwdIdeal.nD LruFwdIdeal.τ).loc LruFwdIdeal.main_arg0)
      ∧ r.2.mem ((c.tc : Thread LruFwdIdeal.nD LruFwdIdeal.τ).loc LruFwdIdeal.main_arg1) = m ((c.tc : Thread LruFwdIdeal.nD LruFwdIdeal.τ).loc LruFwdIdeal.main_arg1)
      ∧ r.2.mem ((c.tc : Thread LruFwdIdeal.nD LruFwdIdeal.τ).loc LruFwdIdeal.main_arg2) = m ((c.tc : Thread LruFwdIdeal.nD LruFwdIdeal.τ).loc LruFwdIdeal.main_arg2)
      ∧ r.2.mem ((c.tc : Thread LruFwdIdeal.nD LruFwdIdeal.τ).loc LruFwdIdeal.main_arg3) = m ((c.tc : Thread LruFwdIdeal.nD LruFwdIdeal.τ).loc LruFwdIdeal.main_arg3)
      ∧ r.2.mem ((c.tc : Thread LruFwdIdeal.nD LruFwdIdeal.τ).loc LruFwdIdeal.main_arg4) = m ((c.tc : Thread LruFwdIdeal.nD LruFwdIdeal.τ).loc LruFwdIdeal.main_arg4)
      ∧ r.2.mem ((c.tc : Thread LruFwdIdeal.nD LruFwdIdeal.τ).loc LruFwdIdeal.main_arg5) = m ((c.tc : Thread LruFwdIdeal.nD LruFwdIdeal.τ).loc LruFwdIdeal.main_arg5)
      ∧ r.2.mem ((c.tc : Thread LruFwdIdeal.nD LruFwdIdeal.τ).loc LruFwdIdeal.main_arg6) = m ((c.tc : Thread LruFwdIdeal.nD LruFwdIdeal.τ).loc LruFwdIdeal.main_arg6)
      ∧ r.2.mem ((c.tc : Thread LruFwdIdeal.nD LruFwdIdeal.τ).loc LruFwdIdeal.main_arg7) = m ((c.tc : Thread LruFwdIdeal.nD LruFwdIdeal.τ).loc LruFwdIdeal.main_arg7))
      ∧ r.2.sem = fun _ => 0)

theorem frameStated_eq : frameStated = Cert.quiescent_LruFwd := by sl_kernel_rfl

theorem frame_bits : Cert.quiescent_LruFwd := frameStated_eq ▸ (fun m ρ _ => Cert.LruFwdIdeal.Run.frame (F := Bits) m ρ : frameStated)

theorem frame_ideal : Cert.quiescent_LruFwdIdeal := fun m ρ _ => Cert.LruFwdIdeal.Run.frame m ρ

/-- The threshold's name and value are the table's. -/
theorem preserves : Cert.preserves_LruFwd_LruFwdIdeal :=
  IdealRules.named_const.statement Cert.LruFwdIdeal.κ "series_from" .f32 0xBC23D70A#32 ⊤ rfl

theorem ref_frame : Cert.quiescent_LruFwdRefIdeal := by
  intro m g _
  exact (θ_run _ _ _).mono (fun r h => ⟨fun c => (h c).2.2.2, sem_eq_zero_of_no_sems (by decide) _⟩)
    (Cert.LruFwdRefIdeal.Value.run m g)

section run
open Cert.LruFwdRefIdeal

variable (m : (ℓ : Loc nD τ sig) → Buf (Elt Ideal) ℓ) (c : Dev nD)
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)

/-- The reference's run with its results as the stages. -/
theorem ref_run (ρ : Dev nD → PrngReg) :
    θ_run defs (onTc (τ := τ) (main (F := Ideal))) ⟨m, fun _ => 0, ρ⟩ fun r => ∀ c : Dev nD,
      r.2.mem ((c.tc : Thread nD τ).loc main_v404) = val_main_v404 (F := Ideal) (a0 m c) (a1 m c) (a2 m c) (a3 m c) (a4 m c) (a5 m c) (a6 m c) (a7 m c)
      ∧ r.2.mem ((c.tc : Thread nD τ).loc main_v405) = val_main_v405 (F := Ideal) (a0 m c) (a1 m c) (a2 m c) (a3 m c) (a4 m c) (a5 m c) (a6 m c) (a7 m c)
      ∧ r.2.mem ((c.tc : Thread nD τ).loc main_v406) = val_main_v406 (F := Ideal) (a0 m c) (a1 m c) (a2 m c) (a3 m c) (a4 m c) (a5 m c) (a6 m c) (a7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (val_main_v404_eq _), (h c).2.1.trans (val_main_v405_eq _),
    (h c).2.2.1.trans (val_main_v406_eq _), (h c).2.2.2⟩) (Cert.LruFwdRefIdeal.Value.run m ρ)
end run

theorem algebraic : Cert.algebraic_LruFwdIdeal_LruFwdRefIdeal := by
  intro m g m' g' _ hagree
  refine ⟨fun c => _, fun c => _, fun c => _, Cert.LruFwdIdeal.Val.run_vals m g, (θ_run _ _ _).mono (fun r h c => ?_) (ref_run m' g')⟩
  obtain ⟨h0, h1, h2, h3, h4, h5, h6, h7⟩ := hagree c
  refine ⟨(h c).1.trans ?_, (h c).2.1.trans ?_, (h c).2.2.1.trans ?_, (h c).2.2.2⟩
  · simp only [a0, a1, a2, a3, a4, a5, a6, a7, h0, h1, h2, h3, h4, h5, h6, h7]
    funext j
    idx_vars j
    exact Cert.LruFwdRefIdeal.Val.y_at _ _ _ _ _ _ _ _ j0 j1
  · simp only [a0, a1, a2, a3, a4, a5, a6, a7, h0, h1, h2, h3, h4, h5, h6, h7]
    funext j
    idx_vars j
    exact Cert.LruFwdRefIdeal.Val.saved0_at _ _ _ _ _ _ _ _ j0 j1
  · simp only [a0, a1, a2, a3, a4, a5, a6, a7, h0, h1, h2, h3, h4, h5, h6, h7]
    funext j
    idx_vars j
    exact Cert.LruFwdRefIdeal.Val.saved1_at _ _ _ _ _ _ _ _ j0 j1

end Cert.LruFwdClaim
-- ==== Proof.OutVal.lean ====
module

public import proofs.«01_k».proof.Proof.Gen.MixOutIdeal.Value
public import proofs.«01_k».proof.Proof.LnMath
public import Idealize.ShloMosaic.Lib.StableHlo.RunRead

/-! # The product with the mixer's layer norm: its three result arrays at an index -/

@[expose] public section

set_option maxRecDepth 16384

noncomputable section

namespace Cert.MixOutIdeal.Val

open Cert.MixOutIdeal Cert.MixOutIdeal.Gen Cert.LnMath
open Idealize.ShloMosaic Idealize.ShloMosaic.TcCoe Idealize.SL.Sem
open Idealize.ShloMosaic.Pipeline (Dat)

/-! ## The payloads at an index -/

section pay

/-- Row `r` of the weighted residual plus a block that starts at row `o` of the product. -/
def half (o : Nat) (h : o + 256 ≤ 512) (q : Vec Ideal S512x2048 .f32) (x : Vec Ideal S256x2048 .f32) (r : Fin 256) (k : Fin 2048) : EReal :=
  Ideal.ofBits .f32 0x3F9837F0#32 * x (ix2 r k) + q (ix2 ⟨o + r.val, by omega⟩ k)

/-- The layer norm of a row. -/
def ln (z g b : Fin 2048 → EReal) (k : Fin 2048) : EReal := xh z k * g k + b k

variable (q : Vec Ideal S512x2048 .f32) (a : Vec Ideal S512x2048 .bf16) (w : Vec Ideal S2048x2048 .bf16)
  (x : Vec Ideal S256x2048 .f32) (g b : Vec Ideal S1x2048 .f32)

theorem p2 (r : Fin 256) (k : Fin 2048) : k0_pay2 (F := Ideal) q x (ix2 r k) = half 256 (by decide) q x r k := by
  pointwise [k0_pay2, half]
theorem p5 (r : Fin 512) (k : Fin 2048) : k0_pay5 (F := Ideal) a w (ix2 r k) = ∑ i : Fin 2048, a (ix2 r i) * w (ix2 i k) := by
  pointwise [k0_pay5]
theorem p6 (r : Fin 256) (k : Fin 2048) : k0_pay6 (F := Ideal) a w x (ix2 r k) = half 0 (by decide) (k0_pay5 a w) x r k := by
  pointwise [k0_pay6, half]
theorem p3 (r : Fin 256) (k : Fin 2048) : k0_pay3 (F := Ideal) q x g b (ix2 r k)
    = ln (half 256 (by decide) q x r) (fun k => g (ix2 0 k)) (fun k => b (ix2 0 k)) k := by
  pointwise [k0_pay3, p2, ln, xh, rs, ve, xc]
theorem p7 (r : Fin 256) (k : Fin 2048) : k0_pay7 (F := Ideal) a w x g b (ix2 r k)
    = ln (half 0 (by decide) (k0_pay5 a w) x r) (fun k => g (ix2 0 k)) (fun k => b (ix2 0 k)) k := by
  pointwise [k0_pay7, p6, ln, xh, rs, ve, xc]
theorem p4 (r : Fin 256) (k : Fin 2048) : k0_pay4 (F := Ideal) q x g b (ix2 r k)
    = ln (half 256 (by decide) q x r) (fun k => g (ix2 0 k)) (fun k => b (ix2 0 k)) k := by
  pointwise [k0_pay4, p3]
theorem p1 (r : Fin 256) (k : Fin 2048) : k0_pay1 (F := Ideal) (k0_pay7 a w x g b) (ix2 r k)
    = ln (half 0 (by decide) (k0_pay5 a w) x r) (fun k => g (ix2 0 k)) (fun k => b (ix2 0 k)) k := by
  pointwise [k0_pay1, p7]
end pay

/-! ## The blocks the body leaves -/

section blk
variable (a : Vec Ideal S512x2048 .bf16) (w : Vec Ideal S2048x2048 .bf16) (x : Vec Ideal S512x2048 .f32) (g b : Vec Ideal S1x2048 .f32)

/-- A row of the weighted residual plus the product, of whole blocks. -/
def zb (r : Fin 512) (k : Fin 2048) : EReal :=
  Ideal.ofBits .f32 0x3F9837F0#32 * x (ix2 r k) + ∑ i : Fin 2048, a (ix2 r i) * w (ix2 i k)

theorem ld_vec (v : Vec Ideal S1x2048 .f32) (k : Fin 2048) : View.ld v r0_3 (ix2 0 k) = v (ix2 0 k) := by
  refine View.ld_unit_apply_of (S := S1x2048) v ![0, 0] S1x2048.size inb_S1x2048_S1x2048_0_0 (ix2 0 k) (ix2 0 k) ?_
  intro a
  match a with
  | 0 => simp
  | 1 => simp

theorem half_ld (o : Nat) (ho : o + 256 ≤ 512) (h) (r : Fin 256) (k : Fin 2048) (r' : Fin 512) (k' : Fin 2048)
    (hr : r'.val = o + r.val) (hk : k'.val = k.val) :
    half o ho (k0_pay5 (View.ld a r0_0) (View.ld w r0_1)) (View.ld x (Rect.unit (s := S512x2048) ![o, 0] S256x2048.size h)) r k
      = zb a w x r' k' := by
  obtain rfl : k' = k := Fin.ext hk
  unfold half zb
  rw [p5]
  refine congrArg₂ (fun a b : EReal => a + b) (congrArg (fun a : EReal => _ * a) ?_) (Finset.sum_congr rfl fun i _ => congrArg₂ (fun a b : EReal => a * b) ?_ ?_)
  · refine View.ld_unit_apply_of (S := S512x2048) x ![o, 0] S256x2048.size h (ix2 r k') (ix2 r' k') ?_
    intro a
    match a with
    | 0 => simpa using hr
    | 1 => simp
  · refine View.ld_unit_apply_of (S := S512x2048) a ![0, 0] S512x2048.size inb_S512x2048_S512x2048_0_0 (ix2 ⟨o + r.val, by omega⟩ i) (ix2 r' i) ?_
    intro a
    match a with
    | 0 => simpa using hr
    | 1 => simp
  · refine View.ld_unit_apply_of (S := S2048x2048) w ![0, 0] S2048x2048.size inb_S2048x2048_S2048x2048_0_0 (ix2 i k') (ix2 i k') ?_
    intro a
    match a with
    | 0 => simp
    | 1 => simp

theorem ln_ld (o : Nat) (ho : o + 256 ≤ 512) (h) (r : Fin 256) (k : Fin 2048) (r' : Fin 512) (k' : Fin 2048)
    (hr : r'.val = o + r.val) (hk : k'.val = k.val) :
    ln (half o ho (k0_pay5 (View.ld a r0_0) (View.ld w r0_1)) (View.ld x (Rect.unit (s := S512x2048) ![o, 0] S256x2048.size h)) r)
        (fun k => View.ld g r0_3 (ix2 0 k)) (fun k => View.ld b r0_3 (ix2 0 k)) k
      = ln (zb a w x r') (fun k => g (ix2 0 k)) (fun k => b (ix2 0 k)) k' := by
  obtain rfl : k' = k := Fin.ext hk
  have h1 := funext fun j => half_ld a w x o ho h r j r' j hr rfl
  have h2 := funext fun j => ld_vec g j
  have h3 := funext fun j => ld_vec b j
  rw [h2, h3]
  exact congrArg (fun z => ln z _ _ k') h1

theorem sum_blk (r : Fin 512) (k : Fin 2048) : out0_5 (F := Ideal) a w x g b (ix2 r k) = zb a w x r k := by
  unfold_out out0_5
  canon_tiles y h
  all_goals idx_vars y
  · exact (p2 _ _ y0 y1).trans (half_ld a w x 256 _ _ y0 y1 r k h0 h1)
  · exact (p6 _ _ _ y0 y1).trans (half_ld a w x 0 _ _ y0 y1 r k (h0.trans (Nat.zero_add _).symm) h1)

theorem nrm_blk (r : Fin 512) (k : Fin 2048) : out0_6 (F := Ideal) a w x g b (ix2 r k)
    = ln (zb a w x r) (fun k => g (ix2 0 k)) (fun k => b (ix2 0 k)) k := by
  unfold_out out0_6
  canon_tiles y h
  all_goals idx_vars y
  · exact (p3 _ _ _ _ y0 y1).trans (ln_ld a w x g b 256 _ _ y0 y1 r k h0 h1)
  · exact (p7 _ _ _ _ _ y0 y1).trans (ln_ld a w x g b 0 _ _ y0 y1 r k (h0.trans (Nat.zero_add _).symm) h1)

theorem nrb_blk (r : Fin 512) (k : Fin 2048) : out0_7 (F := Ideal) a w x g b (ix2 r k)
    = ln (zb a w x r) (fun k => g (ix2 0 k)) (fun k => b (ix2 0 k)) k := by
  unfold_out out0_7
  canon_tiles y h
  all_goals idx_vars y
  · exact (p4 _ _ _ _ y0 y1).trans (ln_ld a w x g b 256 _ _ y0 y1 r k h0 h1)
  · exact (p1 _ _ _ _ _ y0 y1).trans (ln_ld a w x g b 0 _ _ y0 y1 r k (h0.trans (Nat.zero_add _).symm) h1)
end blk

/-! ## The arrays -/

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

theorem lt (t : Fin cfg0.N) : t.val < 8 := lt_of_lt_of_eq t.isLt N_0

/-- The row of the array that row `r` of block `t` is. -/
abbrev row (t : Fin cfg0.N) (r : Fin 512) : Fin 4096 := ⟨t.val * 512 + r.val, by have := lt t; omega⟩

/-- A row of the weighted residual plus the product. -/
def zA (x y : Vec Ideal S4096x2048 .f32) (w : Vec Ideal S2048x2048 .f32) (i : Fin 4096) (k : Fin 2048) : EReal :=
  Ideal.ofBits .f32 0x3F9837F0#32 * x (ix2 i k) + ∑ l : Fin 2048, y (ix2 i l) * w (ix2 l k)

/-- The sum the norm is taken of. -/
def sumA (x y : Vec Ideal S4096x2048 .f32) (w : Vec Ideal S2048x2048 .f32) : Vec Ideal S4096x2048 .f32 :=
  fun j => zA x y w (j 0) (j 1)
/-- Its layer norm. -/
def nrmA (x y : Vec Ideal S4096x2048 .f32) (w : Vec Ideal S2048x2048 .f32) (g b : Vec Ideal S1x2048 .f32) : Vec Ideal S4096x2048 .f32 :=
  fun j => ln (zA x y w (j 0)) (fun k => g (ix2 0 k)) (fun k => b (ix2 0 k)) (j 1)
/-- The same, stored in the narrow format. -/
def nrbA (x y : Vec Ideal S4096x2048 .f32) (w : Vec Ideal S2048x2048 .f32) (g b : Vec Ideal S1x2048 .f32) : Vec Ideal S4096x2048 .bf16 :=
  fun j => nrmA x y w g b j

section arrays
variable (c : Dev nD)

abbrev XS : Vec Ideal S4096x2048 .f32 := m ((c.tc : Thread nD τ).loc main_arg0)
abbrev YS : Vec Ideal S4096x2048 .f32 := m ((c.tc : Thread nD τ).loc main_arg1)
abbrev WO : Vec Ideal S2048x2048 .f32 := m ((c.tc : Thread nD τ).loc main_arg2)
abbrev G3 : Vec Ideal S1x2048 .f32 := m ((c.tc : Thread nD τ).loc main_arg3)
abbrev B4 : Vec Ideal S1x2048 .f32 := m ((c.tc : Thread nD τ).loc main_arg4)

theorem hy (i : Fin 4096) (k : Fin 2048) : (V m c main_v0 : Vec Ideal S4096x2048 .bf16) (ix2 i k) = YS m c (ix2 i k) := by
  after_reads_simp
  try rfl
theorem hw (i k : Fin 2048) : (V m c main_v1 : Vec Ideal S2048x2048 .bf16) (ix2 i k) = WO m c (ix2 i k) := by
  after_reads_simp
  try rfl

theorem b0 (t : Fin cfg0.N) (r : Fin 512) (k : Fin 2048) : iblk m c 0 t (ix2 r k)
    = (V m c main_v0 : Vec Ideal S4096x2048 .bf16) (ix2 (row t r) k) := by
  blk_point [iblk, idx t]
theorem b1 (t : Fin cfg0.N) (r k : Fin 2048) : iblk m c 1 t (ix2 r k)
    = (V m c main_v1 : Vec Ideal S2048x2048 .bf16) (ix2 r k) := by
  blk_point [iblk, idx t]
theorem b2 (t : Fin cfg0.N) (r : Fin 512) (k : Fin 2048) : iblk m c 2 t (ix2 r k) = XS m c (ix2 (row t r) k) := by
  have h : (V m c main_arg0 : Vec Ideal S4096x2048 .f32) = XS m c := by after_reads_simp
  rw [← h]
  blk_point [iblk, idx t]
theorem b3 (t : Fin cfg0.N) (r : Fin 1) (k : Fin 2048) : iblk m c 3 t (ix2 r k) = G3 m c (ix2 r k) := by
  have h : (V m c main_arg3 : Vec Ideal S1x2048 .f32) = G3 m c := by after_reads_simp
  rw [← h]
  blk_point [iblk, idx t]
theorem b4 (t : Fin cfg0.N) (r : Fin 1) (k : Fin 2048) : iblk m c 4 t (ix2 r k) = B4 m c (ix2 r k) := by
  have h : (V m c main_arg4 : Vec Ideal S1x2048 .f32) = B4 m c := by after_reads_simp
  rw [← h]
  blk_point [iblk, idx t]

theorem zbb (t : Fin cfg0.N) (r : Fin 512) :
    zb (iblk m c 0 t) (iblk m c 1 t) (iblk m c 2 t) r = zA (XS m c) (YS m c) (WO m c) (row t r) := by
  funext k
  unfold zb zA
  refine congrArg₂ (fun a b : EReal => a + b) (by rw [b2]) (Finset.sum_congr rfl fun i _ => ?_)
  rw [b0, b1, hy, hw]

theorem emb5 (W : Vec Ideal S4096x2048 .f32) (t : Fin cfg0.N) (r : Fin 512) (k : Fin 2048) :
    W (((View.whole main_v2_0).slice (win0_5.rect t)).emb (ix2 r k)) = W (ix2 (row t r) k) := by
  blk_point [idx t]
theorem emb6 (W : Vec Ideal S4096x2048 .f32) (t : Fin cfg0.N) (r : Fin 512) (k : Fin 2048) :
    W (((View.whole main_v2_1).slice (win0_6.rect t)).emb (ix2 r k)) = W (ix2 (row t r) k) := by
  blk_point [idx t]
theorem emb7 (W : Vec Ideal S4096x2048 .bf16) (t : Fin cfg0.N) (r : Fin 512) (k : Fin 2048) :
    W (((View.whole main_v2_2).slice (win0_7.rect t)).emb (ix2 r k)) = W (ix2 (row t r) k) := by
  blk_point [idx t]

theorem final5 : (dats m 0 c).arrAt 5 cfg0.N = sumA (XS m c) (YS m c) (WO m c) := by
  refine (dats m 0 c).arrAt_eq_of_covers 5 (sumA (XS m c) (YS m c) (WO m c)) (by decide +kernel) fun t hf y => ?_
  blk_simp
  rw [after0_5]
  idx_vars y
  exact ((sum_blk _ _ _ _ _ y0 y1).trans (by rw [zbb]; rfl)).trans (emb5 _ t y0 y1).symm

theorem final6 : (dats m 0 c).arrAt 6 cfg0.N = nrmA (XS m c) (YS m c) (WO m c) (G3 m c) (B4 m c) := by
  refine (dats m 0 c).arrAt_eq_of_covers 6 (nrmA (XS m c) (YS m c) (WO m c) (G3 m c) (B4 m c)) (by decide +kernel) fun t hf y => ?_
  blk_simp
  rw [after0_6]
  idx_vars y
  exact ((nrm_blk _ _ _ _ _ y0 y1).trans (by simp only [zbb, b3, b4]; rfl)).trans (emb6 _ t y0 y1).symm

theorem final7 : (dats m 0 c).arrAt 7 cfg0.N = nrbA (XS m c) (YS m c) (WO m c) (G3 m c) (B4 m c) := by
  refine (dats m 0 c).arrAt_eq_of_covers 7 (nrbA (XS m c) (YS m c) (WO m c) (G3 m c) (B4 m c)) (by decide +kernel) fun t hf y => ?_
  blk_simp
  rw [after0_7]
  idx_vars y
  exact ((nrb_blk _ _ _ _ _ y0 y1).trans (by simp only [zbb, b3, b4]; rfl)).trans (emb7 _ t y0 y1).symm
end arrays

end Cert.MixOutIdeal.Val
-- ==== Proof.OutClaim.lean ====
module

public import proofs.«01_k».proof.Defs
public import proofs.«01_k».proof.Proof.Gen.MixOut.Frame
public import proofs.«01_k».proof.Proof.Gen.MixOutRefIdeal.Read
public import proofs.«01_k».proof.Proof.OutVal
public import Idealize.ShloMosaic.Lib.Claim

/-! # The product with the mixer's layer norm: the claims -/

@[expose] public section

set_option maxRecDepth 16384

noncomputable section

namespace Cert.OutClaim

open Idealize.ShloMosaic Idealize.ShloMosaic.TcCoe Idealize.SL.Sem Cert.LnMath Cert.MixOutRefIdeal.Read
open Cert.MixOutIdeal.Val (ln zA sumA nrmA nrbA)

theorem ref_frame : Cert.quiescent_MixOutRefIdeal := by
  intro m g _
  exact (θ_run _ _ _).mono (fun r h => ⟨fun c => (h c).2.2.2, sem_eq_zero_of_no_sems (by decide) _⟩)
    (Cert.MixOutRefIdeal.Value.run m g)

section ref
open Cert.MixOutRefIdeal

variable (x y : Vec Ideal S4096x2048 .f32) (w : Vec Ideal S2048x2048 .f32) (g b : Vec Ideal S1x2048 .f32)

theorem r3 (i : Fin 4096) (k : Fin 2048) : val_main_v3 (F := Ideal) x y w (ix2 i k) = zA x y w i k := by
  pointwise [val_main_v3, val_main_v2, val_main_v1, val_main_v0, val_main_cst, zA]

theorem r9 (i : Fin 4096) (k : Fin 2048) : val_main_v9 (F := Ideal) x y w (ix2 i k) = xc (zA x y w i) k := by
  pointwise [val_main_v9, val_main_v8, val_main_v7, val_main_v6, val_main_v5, val_main_v4, val_main_cst_0, val_main_cst_1, r3, xc]

theorem r16 (i : Fin 4096) (k : Fin 2048) : val_main_v16 (F := Ideal) x y w (ix2 i k) = xc (zA x y w i) k := by
  pointwise [val_main_v16, val_main_v15, val_main_v7, val_main_v6, val_main_v5, val_main_v4, val_main_cst_0, val_main_cst_1, r3, xc]

theorem r19 (i : Fin 4096) (k : Fin 1) : val_main_v19 (F := Ideal) x y w (ix2 i k) = rs (zA x y w i) := by
  pointwise [val_main_v19, val_main_v18, val_main_v17, val_main_v14, val_main_v13, val_main_v12, val_main_v11, val_main_v10, val_main_cst_2, val_main_cst_3, val_main_cst_4, r9, rs, ve]

theorem r25 (i : Fin 4096) (k : Fin 2048) : val_main_v25 (F := Ideal) x y w g b (ix2 i k)
    = ln (zA x y w i) (fun k => g (ix2 0 k)) (fun k => b (ix2 0 k)) k := by
  pointwise [val_main_v25, val_main_v24, val_main_v23, val_main_v22, val_main_v21, val_main_v20, r19, r16, ln, xh]

theorem v3 : val_main_v3 (F := Ideal) x y w = sumA x y w := by
  funext j
  idx_vars j
  exact r3 x y w j0 j1
theorem v25 : val_main_v25 (F := Ideal) x y w g b = nrmA x y w g b := by
  funext j
  idx_vars j
  exact r25 x y w g b j0 j1
theorem v26 : val_main_v26 (F := Ideal) x y w g b = nrbA x y w g b := by
  funext j
  exact congrFun (v25 x y w g b) j

end ref

theorem algebraic : Cert.algebraic_MixOutIdeal_MixOutRefIdeal := by
  intro m g m' g' _ hagree
  refine ⟨fun c => _, fun c => _, fun c => _, Cert.MixOutIdeal.Value.run_blocks m g,
    (θ_run _ _ _).mono (fun r h c => ?_) (Cert.MixOutRefIdeal.Value.run m' g')⟩
  obtain ⟨h0, h1, h2, h3, h4⟩ := hagree c
  refine ⟨((h c).1.trans ((val_main_v3_eq _ _ _).trans (v3 _ _ _))).trans ?_,
    ((h c).2.1.trans ((val_main_v25_eq _ _ _ _ _).trans (v25 _ _ _ _ _))).trans ?_,
    ((h c).2.2.1.trans ((val_main_v26_eq _ _ _ _ _).trans (v26 _ _ _ _ _))).trans ?_, (h c).2.2.2⟩
  · rw [h0, h1, h2]; exact (Cert.MixOutIdeal.Val.final5 m c).symm
  · rw [h0, h1, h2, h3, h4]; exact (Cert.MixOutIdeal.Val.final6 m c).symm
  · rw [h0, h1, h2, h3, h4]; exact (Cert.MixOutIdeal.Val.final7 m c).symm

end Cert.OutClaim
end
-- ==== Proof.MlpVal.lean ====
module

public import proofs.«01_k».proof.Proof.Gen.MlpOutIdeal.Value
public import Idealize.ShloMosaic.Lib.Pipeline.ValueKit
public import Idealize.ShloMosaic.PureOps.Ideal.Laws
public import Idealize.ShloMosaic.Lib.IdealHost
public import Idealize.ShloMosaic.Lib.StableHlo.RunRead

/-! # The product accumulated over four steps: its result array at an index -/

@[expose] public section

set_option maxRecDepth 16384

noncomputable section

namespace Cert.MlpOutIdeal.Val

open Cert.MlpOutIdeal Cert.MlpOutIdeal.Gen
open Idealize.ShloMosaic Idealize.ShloMosaic.TcCoe Idealize.SL.Sem
open Idealize.ShloMosaic.Pipeline (Dat)

/-- An entry of the product of two blocks. -/
def bp (x : Vec Ideal S1024x2048 .bf16) (w : Vec Ideal S2048x2048 .bf16) (r : Fin 1024) (k : Fin 2048) : EReal :=
  ∑ i : Fin 2048, x (ix2 r i) * w (ix2 i k)

theorem p1 (x : Vec Ideal S1024x2048 .bf16) (w : Vec Ideal S2048x2048 .bf16) (r : Fin 1024) (k : Fin 2048) :
    k0_pay1 (F := Ideal) x w (ix2 r k) = bp x w r k := by
  pointwise [k0_pay1, bp]
theorem p2 (x : Vec Ideal S1024x2048 .bf16) (w : Vec Ideal S2048x2048 .bf16) (v : Vec Ideal S1024x2048 .f32) (r : Fin 1024) (k : Fin 2048) :
    k0_pay2 (F := Ideal) x w v (ix2 r k) = v (ix2 r k) + bp x w r k := by
  pointwise [k0_pay2, p1]

variable (m : (ℓ : Loc nD τ sig) → Buf (Elt Ideal) ℓ)

theorem idx : ∀ t : Fin cfg0.N, win0_0.index t = ![t.val / 4, t.val % 4] ∧ win0_1.index t = ![t.val % 4, 0]
    ∧ win0_2.index t = ![t.val / 4, 0] :=
  (by decide +kernel : ∀ t : Fin grid0.N, _)

theorem lt (t : Fin cfg0.N) : t.val < 16 := lt_of_lt_of_eq t.isLt N_0

/-- The row of the array that row `r` of the block at point `t` is. -/
abbrev row (t : Fin cfg0.N) (r : Fin 1024) : Fin 4096 := ⟨t.val / 4 * 1024 + r.val, by have := lt t; omega⟩
/-- The inner index that index `l` of the block at point `t` is. -/
abbrev inn (t : Fin cfg0.N) (l : Fin 2048) : Fin 8192 := ⟨t.val % 4 * 2048 + l.val, by omega⟩

/-- The product. -/
def prodA (h : Vec Ideal S4096x8192 .f32) (w : Vec Ideal S8192x2048 .f32) : Vec Ideal S4096x2048 .f32 :=
  fun j => ∑ l : Fin 8192, h (ix2 (j 0) l) * w (ix2 l (j 1))

section arrays
variable (c : Dev nD)

abbrev HS : Vec Ideal S4096x8192 .f32 := m ((c.tc : Thread nD τ).loc main_arg0)
abbrev W2 : Vec Ideal S8192x2048 .f32 := m ((c.tc : Thread nD τ).loc main_arg1)

theorem hh (i : Fin 4096) (k : Fin 8192) : (V m c main_v0 : Vec Ideal S4096x8192 .bf16) (ix2 i k) = HS m c (ix2 i k) := by
  after_reads_simp
  try rfl
theorem hw (i : Fin 8192) (k : Fin 2048) : (V m c main_v1 : Vec Ideal S8192x2048 .bf16) (ix2 i k) = W2 m c (ix2 i k) := by
  after_reads_simp
  try rfl

theorem b0 (t : Fin cfg0.N) (r : Fin 1024) (k : Fin 2048) : iblk m c 0 t (ix2 r k)
    = (V m c main_v0 : Vec Ideal S4096x8192 .bf16) (ix2 (row t r) (inn t k)) := by
  blk_point [iblk, idx t]
theorem b1 (t : Fin cfg0.N) (r k : Fin 2048) : iblk m c 1 t (ix2 r k)
    = (V m c main_v1 : Vec Ideal S8192x2048 .bf16) (ix2 (inn t r) k) := by
  blk_point [iblk, idx t]

/-- What point `t` adds to its block. -/
def term (h : Vec Ideal S4096x8192 .f32) (w : Vec Ideal S8192x2048 .f32) (t : Fin cfg0.N) (r : Fin 1024) (k : Fin 2048) : EReal :=
  ∑ l : Fin 2048, h (ix2 (row t r) (inn t l)) * w (ix2 (inn t l) k)

theorem part (t : Fin cfg0.N) (r : Fin 1024) (k : Fin 2048) :
    bp (iblk m c 0 t) (iblk m c 1 t) r k = term (HS m c) (W2 m c) t r k := by
  unfold bp term
  refine Finset.sum_congr rfl fun i _ => ?_
  rw [b0, b1, hh, hw]

theorem emb2 (W : Vec Ideal S4096x2048 .f32) (t : Fin cfg0.N) (r : Fin 1024) (k : Fin 2048) :
    W (((View.whole main_v2).slice (win0_2.rect t)).emb (ix2 r k)) = W (ix2 (row t r) k) := by
  blk_point [idx t]

/-- The four steps of a block add up to the whole product. -/
theorem steps (h : Vec Ideal S4096x8192 .f32) (w : Vec Ideal S8192x2048 .f32) (t : Fin cfg0.N) (p : Fin 4 → Fin cfg0.N)
    (hp : ∀ s, (p s).val = 4 * (t.val / 4) + s.val) (r : Fin 1024) (k : Fin 2048) :
    ∑ s : Fin 4, term h w (p s) r k = prodA h w (ix2 (row t r) k) := by
  refine Eq.trans ?_ (Fin.sum_mul_add_fin 4 2048 (fun l : Fin 8192 => h (ix2 (row t r) l) * w (ix2 l k)) rfl)
  refine Finset.sum_congr rfl fun s _ => Finset.sum_congr rfl fun l _ => ?_
  have e1 : row (p s) r = row t r := Fin.ext (by have := hp s; simp only [this]; omega)
  have e2 : inn (p s) l = ⟨s.val * 2048 + l.val, by omega⟩ := Fin.ext (by have := hp s; simp only [this]; omega)
  rw [e1, e2]

theorem final2 : (dats m 0 c).arrAt 2 cfg0.N = prodA (HS m c) (W2 m c) := by
  refine (dats m 0 c).arrAt_eq_of_covers 2 (prodA (HS m c) (W2 m c)) (by decide +kernel) fun t hf y => ?_
  blk_simp
  rw [after0_2, Pipeline.eq_sum_fin_of_reset_step_apply_of_flush (fun n h => outsAt0 m c n h) 4 (fun _ => 0)
    (fun t j => term (HS m c) (W2 m c) t (j 0) (j 1)) (fun t h j => ?_) (fun t h j => ?_) t ((flush0_2 t).mp hf) y, zero_add]
  · idx_vars y
    exact (steps _ _ t _ (fun s => rfl) y0 y1).trans (emb2 _ t y0 y1).symm
  · rw [outsAt0_A m c t h (by omega)]
    frame_out
    idx_vars j
    rw [zero_add, p1, part]
  · rw [outsAt0_B m c t h (by omega)]
    frame_out
    idx_vars j
    rw [p2, part]
end arrays

end Cert.MlpOutIdeal.Val
-- ==== Proof.MlpClaim.lean ====
module

public import proofs.«01_k».proof.Defs
public import proofs.«01_k».proof.Proof.Gen.MlpOut.Frame
public import proofs.«01_k».proof.Proof.Gen.MlpOutRefIdeal.Read
public import proofs.«01_k».proof.Proof.MlpVal
public import Idealize.ShloMosaic.Lib.Claim

/-! # The product accumulated over four steps: the claims -/

@[expose] public section

set_option maxRecDepth 16384

noncomputable section

namespace Cert.MlpClaim

open Idealize.ShloMosaic Idealize.ShloMosaic.TcCoe Idealize.SL.Sem Cert.MlpOutRefIdeal.Read
open Cert.MlpOutIdeal.Val (prodA)

theorem ref_frame : Cert.quiescent_MlpOutRefIdeal := by
  intro m g _
  exact (θ_run _ _ _).mono (fun r h => ⟨fun c => (h c).2, sem_eq_zero_of_no_sems (by decide) _⟩)
    (Cert.MlpOutRefIdeal.Value.run m g)

section ref
open Cert.MlpOutRefIdeal

theorem v0 (h : Vec Ideal S4096x8192 .f32) (w : Vec Ideal S8192x2048 .f32) : val_main_v0 (F := Ideal) h w = prodA h w := by
  funext j
  idx_vars j
  pointwise [val_main_v0, prodA]

/-- The reference's run with its result as the array the kernel leaves. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = prodA (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v0_eq _ _).trans (v0 _ _)), (h c).2⟩) (Cert.MlpOutRefIdeal.Value.run m ρ)
end ref

theorem algebraic : Cert.algebraic_MlpOutIdeal_MlpOutRefIdeal := by
  pair_intro
  · run_from Cert.MlpOutIdeal.Value.run_blocks m g
  · run_from ref_run m' g'
    · rw [Cert.MlpOutIdeal.Val.final2 m c]

end Cert.MlpClaim
end
-- ==== Proof.AdamMath.lean ====
module

public import Idealize.ShloMosaic.Lib.Pipeline.ValueKit
public import Idealize.ShloMosaic.PureOps.Ideal.Laws
public import Idealize.ShloMosaic.Lib.IdealHost

/-! # One entry of the optimiser's update -/

@[expose] public section

noncomputable section

namespace Cert.AdamMath

open Idealize.ShloMosaic

/-- The gradient: what the device holds of it plus the three parts received. -/
def grad (o p0 p1 p2 : EReal) : EReal := o + p0 + p1 + p2
/-- The first moment. -/
def mom (m g : EReal) : EReal := Ideal.ofBits .f32 0x3F666666#32 * m + Ideal.ofBits .f32 0x3DCCCCCD#32 * g
/-- The second moment. -/
def vel (v g : EReal) : EReal := Ideal.ofBits .f32 0x3F7FBE77#32 * v + Ideal.ofBits .f32 0x3A83126F#32 * (g * g)
/-- The step, from the new moments. -/
def step (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32)
    + Ideal.ofBits .f32 0x3C23D70A#32 * w)

theorem nil : Ideal.ofBits .f32 0x00000000#32 = 0 := by
  simp [Ideal.ofBits, Ideal.ieee, -EReal.coe_mul]

/-- The sum over the parts first, from zero, is the same gradient. -/
theorem grad_sum (o : EReal) (p : Fin 3 → EReal) : o + (Ideal.ofBits .f32 0x00000000#32 + ∑ k, p k) = grad o (p 0) (p 1) (p 2) := by
  rw [nil, zero_add, Fin.sum_univ_three]
  unfold grad
  simp only [add_assoc]

theorem sum8 {a b c d e g h i : EReal} (f : Fin 8 → EReal) (h0 : a = f 0) (h1 : b = f 1) (h2 : c = f 2) (h3 : d = f 3) (h4 : e = f 4)
    (h5 : g = f 5) (h6 : h = f 6) (h7 : i = f 7) : a + b + c + d + e + g + h + i = ∑ n, f n := by
  rw [Fin.sum_univ_eight, h0, h1, h2, h3, h4, h5, h6, h7]

end Cert.AdamMath
-- ==== Proof.AdamClaim.lean ====
module

public import proofs.«01_k».proof.Defs
public import proofs.«01_k».proof.Proof.Gen.Adam.Frame
public import proofs.«01_k».proof.Proof.Gen.AdamRefIdeal.Read
public import proofs.«01_k».proof.Proof.Gen.AdamIdeal.Value
public import proofs.«01_k».proof.Proof.AdamMath
public import Idealize.ShloMosaic.Lib.StableHlo.RunRead
public import Idealize.ShloMosaic.Lib.Claim

/-! # The sum of the gradient's parts and the optimiser's update: the claims -/

@[expose] public section

set_option maxRecDepth 16384

noncomputable section

namespace Cert.AdamClaim

open Cert.AdamIdeal Cert.AdamIdeal.Gen Cert.AdamMath Cert.AdamRefIdeal.Read
open Idealize.ShloMosaic Idealize.ShloMosaic.TcCoe Idealize.SL.Sem
open Idealize.ShloMosaic.Pipeline (Dat)

theorem ref_frame : Cert.quiescent_AdamRefIdeal := by
  intro m g _
  exact (θ_run _ _ _).mono (fun r h => ⟨fun c => (h c).2.2.2.2, sem_eq_zero_of_no_sems (by decide) _⟩)
    (Cert.AdamRefIdeal.Value.run m g)

section pay
variable (o w u v : Vec Ideal S512x1024 .f32) (a b d : Vec Ideal S1x512x1024 .bf16) (r : Fin 512) (k : Fin 1024)

/-- The gradient at an entry, from the three loads of the parts. -/
def gp : EReal := grad (o (ix2 r k)) (a (ix3 0 r k)) (b (ix3 0 r k)) (d (ix3 0 r k))

theorem p2 : k0_pay2 (F := Ideal) o a b d (ix2 r k) = gp o a b d r k := by
  pointwise [k0_pay2, gp, grad]
theorem p3 : k0_pay3 (F := Ideal) o a b d u (ix2 r k) = mom (u (ix2 r k)) (gp o a b d r k) := by
  pointwise [k0_pay3, p2, mom]
theorem p4 : k0_pay4 (F := Ideal) o a b d v (ix2 r k) = vel (v (ix2 r k)) (gp o a b d r k) := by
  pointwise [k0_pay4, p2, vel]
theorem p1 : k0_pay1 (F := Ideal) w (k0_pay5 o a b d u v) (ix2 r k)
    = step (w (ix2 r k)) (mom (u (ix2 r k)) (gp o a b d r k)) (vel (v (ix2 r k)) (gp o a b d r k)) := by
  pointwise [k0_pay1, k0_pay5, p3, p4, step]
end pay

section blk
variable (o w u v : Vec Ideal S512x1024 .f32) (x : Vec Ideal S3x512x1024 .bf16) (r : Fin 512) (k : Fin 1024)

/-- The gradient at an entry of whole blocks. -/
def gb : EReal := grad (o (ix2 r k)) (x (ix3 0 r k)) (x (ix3 1 r k)) (x (ix3 2 r k))

theorem ld (y : Vec Ideal S512x1024 .f32) : View.ld y r0_0 (ix2 r k) = y (ix2 r k) :=
  congrFun (View.ld_unit_zero (by funext a; fin_cases a <;> rfl) _ y) _

theorem ld3 (n : Fin 3) (h) :
    View.ld x (Rect.unit (s := S3x512x1024) ![n.val, 0, 0] S1x512x1024.size h) (ix3 0 r k) = x (ix3 n r k) := by
  refine View.ld_unit_apply_of (S := S3x512x1024) x _ _ h (ix3 0 r k) (ix3 n r k) ?_
  intro a
  match a with
  | 0 => simp
  | 1 => simp
  | 2 => simp

theorem gp_ld :
    gp (View.ld o r0_0) (View.ld x r0_1) (View.ld x r0_2) (View.ld x r0_3) r k = gb o x r k := by
  unfold gp gb
  rw [ld]
  exact congr (congrArg₂ _ (ld3 x r k 0 _) (ld3 x r k 1 _)) (ld3 x r k 2 _)

theorem g_blk : out0_5 (F := Ideal) o x w u v (ix2 r k) = gb o x r k := by
  unfold out0_5
  rw [View.canon_unit_zero (by funext a; fin_cases a <;> rfl)]
  exact (p2 _ _ _ _ r k).trans (gp_ld o x r k)
theorem d_blk : out0_6 (F := Ideal) o x w u v (ix2 r k)
    = step (w (ix2 r k)) (mom (u (ix2 r k)) (gb o x r k)) (vel (v (ix2 r k)) (gb o x r k)) := by
  unfold out0_6
  rw [View.canon_unit_zero (by funext a; fin_cases a <;> rfl)]
  refine (p1 _ _ _ _ _ _ _ r k).trans ?_
  rw [gp_ld, ld, ld, ld]
theorem m_blk : out0_7 (F := Ideal) o x w u v (ix2 r k) = mom (u (ix2 r k)) (gb o x r k) := by
  unfold out0_7
  rw [View.canon_unit_zero (by funext a; fin_cases a <;> rfl)]
  refine (p3 _ _ _ _ _ r k).trans ?_
  rw [gp_ld, ld]
theorem v_blk : out0_8 (F := Ideal) o x w u v (ix2 r k) = vel (v (ix2 r k)) (gb o x r k) := by
  unfold out0_8
  rw [View.canon_unit_zero (by funext a; fin_cases a <;> rfl)]
  refine (p4 _ _ _ _ _ r k).trans ?_
  rw [gp_ld, ld]
end blk

/-! ## The arrays -/

variable (m : (ℓ : Loc nD τ sig) → Buf (Elt Ideal) ℓ)

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The row of the array that row `r` of block `t` is. -/
abbrev row (t : Fin cfg0.N) (r : Fin 512) : Fin 2048 := ⟨t.val * 512 + r.val, by have : t.val < 4 := lt_of_lt_of_eq t.isLt N_0; omega⟩

/-- The gradient of whole arrays. -/
def gA (o : Vec Ideal S2048x1024 .f32) (x : Vec Ideal S3x2048x1024 .f32) (i : Fin 2048) (k : Fin 1024) : EReal :=
  grad (o (ix2 i k)) (x (ix3 0 i k)) (x (ix3 1 i k)) (x (ix3 2 i k))

section arrays
variable (c : Dev nD) (t : Fin cfg0.N) (r : Fin 512) (k : Fin 1024)

abbrev A0 : Vec Ideal S2048x1024 .f32 := m ((c.tc : Thread nD τ).loc main_arg0)
abbrev A1 : Vec Ideal S3x2048x1024 .f32 := m ((c.tc : Thread nD τ).loc main_arg1)
abbrev A2 : Vec Ideal S2048x1024 .f32 := m ((c.tc : Thread nD τ).loc main_arg2)
abbrev A3 : Vec Ideal S2048x1024 .f32 := m ((c.tc : Thread nD τ).loc main_arg3)
abbrev A4 : Vec Ideal S2048x1024 .f32 := m ((c.tc : Thread nD τ).loc main_arg4)

theorem hx (n : Fin 3) (i : Fin 2048) (k : Fin 1024) : (V m c main_v0 : Vec Ideal S3x2048x1024 .bf16) (ix3 n i k) = A1 m c (ix3 n i k) := by
  after_reads_simp
  try rfl

theorem b0 : iblk m c 0 t (ix2 r k) = A0 m c (ix2 (row t r) k) := by
  have h : (V m c main_arg0 : Vec Ideal S2048x1024 .f32) = A0 m c := by after_reads_simp
  rw [← h]
  blk_point [iblk, idx t]
theorem b1 (n : Fin 3) : iblk m c 1 t (ix3 n r k) = A1 m c (ix3 n (row t r) k) := by
  rw [← hx]
  blk_point [iblk, idx t]
theorem b2 : iblk m c 2 t (ix2 r k) = A2 m c (ix2 (row t r) k) := by
  have h : (V m c main_arg2 : Vec Ideal S2048x1024 .f32) = A2 m c := by after_reads_simp
  rw [← h]
  blk_point [iblk, idx t]
theorem b3 : iblk m c 3 t (ix2 r k) = A3 m c (ix2 (row t r) k) := by
  have h : (V m c main_arg3 : Vec Ideal S2048x1024 .f32) = A3 m c := by after_reads_simp
  rw [← h]
  blk_point [iblk, idx t]
theorem b4 : iblk m c 4 t (ix2 r k) = A4 m c (ix2 (row t r) k) := by
  have h : (V m c main_arg4 : Vec Ideal S2048x1024 .f32) = A4 m c := by after_reads_simp
  rw [← h]
  blk_point [iblk, idx t]

theorem gbb : gb (iblk m c 0 t) (iblk m c 1 t) r k = gA (A0 m c) (A1 m c) (row t r) k := by
  unfold gb
  rw [b0, b1, b1, b1]
  rfl

variable (W : Vec Ideal S2048x1024 .f32)
theorem emb5 : W (((View.whole main_v1_0).slice (win0_5.rect t)).emb (ix2 r k)) = W (ix2 (row t r) k) := by
  blk_point [idx t]
theorem emb6 : W (((View.whole main_v1_1).slice (win0_6.rect t)).emb (ix2 r k)) = W (ix2 (row t r) k) := by
  blk_point [idx t]
theorem emb7 : W (((View.whole main_v1_2).slice (win0_7.rect t)).emb (ix2 r k)) = W (ix2 (row t r) k) := by
  blk_point [idx t]
theorem emb8 : W (((View.whole main_v1_3).slice (win0_8.rect t)).emb (ix2 r k)) = W (ix2 (row t r) k) := by
  blk_point [idx t]

section ref
variable (o : Vec Ideal S2048x1024 .f32) (x : Vec Ideal S3x2048x1024 .f32) (w u v : Vec Ideal S2048x1024 .f32) (i : Fin 2048)

theorem rg : val_main_v1 (F := Ideal) o x (ix2 i k) = gA o x i k := by
  refine Eq.trans ?_ (grad_sum (o (ix2 i k)) (fun n => x (ix3 n i k)))
  pointwise [val_main_v1, val_main_v0, val_main_cst]
theorem rm : val_main_v6 (F := Ideal) o x u (ix2 i k) = mom (u (ix2 i k)) (gA o x i k) := by
  pointwise [val_main_v6, val_main_v5, val_main_v4, val_main_v3, val_main_v2, val_main_cst_0, val_main_cst_1, rg, mom]
theorem rv : val_main_v12 (F := Ideal) o x v (ix2 i k) = vel (v (ix2 i k)) (gA o x i k) := by
  pointwise [val_main_v12, val_main_v11, val_main_v10, val_main_v9, val_main_v8, val_main_v7, val_main_cst_2, val_main_cst_3, rg, vel]
theorem rd : val_main_v25 (F := Ideal) o x w u v (ix2 i k) = step (w (ix2 i k)) (mom (u (ix2 i k)) (gA o x i k)) (vel (v (ix2 i k)) (gA o x i k)) := by
  pointwise [val_main_v25, val_main_v24, val_main_v23, val_main_v22, val_main_v21, val_main_v20, val_main_v19, val_main_v18, val_main_v17, val_main_v16, val_main_v15, val_main_v14, val_main_v13, val_main_cst_4, val_main_cst_5, val_main_cst_6, val_main_cst_7, val_main_cst_8, rm, rv, step]
end ref

theorem final5 : (dats m 0 c).arrAt 5 cfg0.N = val_main_v1 (F := Ideal) (A0 m c) (A1 m c) := by
  refine (dats m 0 c).arrAt_eq_of_covers 5 _ (by decide +kernel) fun t hf y => ?_
  blk_simp
  rw [after0_5]
  idx_vars y
  exact ((g_blk _ _ _ _ _ y0 y1).trans (gbb m c t y0 y1)).trans ((emb5 t y0 y1 _).trans (rg _ _ _ _)).symm
theorem final6 : (dats m 0 c).arrAt 6 cfg0.N = val_main_v25 (F := Ideal) (A0 m c) (A1 m c) (A2 m c) (A3 m c) (A4 m c) := by
  refine (dats m 0 c).arrAt_eq_of_covers 6 _ (by decide +kernel) fun t hf y => ?_
  blk_simp
  rw [after0_6]
  idx_vars y
  exact ((d_blk _ _ _ _ _ y0 y1).trans (by rw [gbb, b2, b3, b4])).trans ((emb6 t y0 y1 _).trans (rd _ _ _ _ _ _ _)).symm
theorem final7 : (dats m 0 c).arrAt 7 cfg0.N = val_main_v6 (F := Ideal) (A0 m c) (A1 m c) (A3 m c) := by
  refine (dats m 0 c).arrAt_eq_of_covers 7 _ (by decide +kernel) fun t hf y => ?_
  blk_simp
  rw [after0_7]
  idx_vars y
  exact ((m_blk _ _ _ _ _ y0 y1).trans (by rw [gbb, b3])).trans ((emb7 t y0 y1 _).trans (rm _ _ _ _ _)).symm
theorem final8 : (dats m 0 c).arrAt 8 cfg0.N = val_main_v12 (F := Ideal) (A0 m c) (A1 m c) (A4 m c) := by
  refine (dats m 0 c).arrAt_eq_of_covers 8 _ (by decide +kernel) fun t hf y => ?_
  blk_simp
  rw [after0_8]
  idx_vars y
  exact ((v_blk _ _ _ _ _ y0 y1).trans (by rw [gbb, b4])).trans ((emb8 t y0 y1 _).trans (rv _ _ _ _ _)).symm
end arrays

theorem algebraic : Cert.algebraic_AdamIdeal_AdamRefIdeal := by
  intro m g m' g' _ hagree
  refine ⟨fun c => _, fun c => _, fun c => _, fun c => _, Cert.AdamIdeal.Value.run_blocks m g,
    (θ_run _ _ _).mono (fun r h c => ?_) (Cert.AdamRefIdeal.Value.run m' g')⟩
  obtain ⟨h0, h1, h2, h3, h4⟩ := hagree c
  refine ⟨((h c).1.trans (val_main_v1_eq _ _)).trans ?_, ((h c).2.1.trans (val_main_v25_eq _ _ _ _ _)).trans ?_,
    ((h c).2.2.1.trans (val_main_v6_eq _ _ _)).trans ?_, ((h c).2.2.2.1.trans (val_main_v12_eq _ _ _)).trans ?_, (h c).2.2.2.2⟩
  · rw [h0, h1]; exact (final5 m c).symm
  · rw [h0, h1, h2, h3, h4]; exact (final6 m c).symm
  · rw [h0, h1, h3]; exact (final7 m c).symm
  · rw [h0, h1, h4]; exact (final8 m c).symm

end Cert.AdamClaim
-- ==== Proof.GradXClaim.lean ====
module

public import proofs.«01_k».proof.Defs
public import proofs.«01_k».proof.Proof.Gen.GradX.Frame
public import proofs.«01_k».proof.Proof.Gen.GradXRefIdeal.Read
public import proofs.«01_k».proof.Proof.Gen.GradXIdeal.Value
public import proofs.«01_k».proof.Proof.AdamMath
public import Idealize.ShloMosaic.Lib.StableHlo.RunRead
public import Idealize.ShloMosaic.Lib.Claim

/-! # The input's gradient with the optimiser's update beside it: the five result arrays at an index -/

@[expose] public section

set_option maxRecDepth 16384

noncomputable section

namespace Cert.GradXClaim

open Cert.GradXIdeal Cert.GradXIdeal.Gen Cert.AdamMath Cert.GradXRefIdeal.Read
open Idealize.ShloMosaic Idealize.ShloMosaic.TcCoe Idealize.SL.Sem
open Idealize.ShloMosaic.Pipeline (Dat)

section pay
variable (o w u v : Vec Ideal S32x2048 .f32) (a b d : Vec Ideal S1x32x2048 .bf16)

/-- The gradient at an entry, from the three loads of the parts. -/
def gp (r : Fin 32) (k : Fin 2048) : EReal := grad (o (ix2 r k)) (a (ix3 0 r k)) (b (ix3 0 r k)) (d (ix3 0 r k))

theorem p2 (r : Fin 32) (k : Fin 2048) : k0_pay3 (F := Ideal) o a b d (ix2 r k) = gp o a b d r k := by
  pointwise [k0_pay3, gp, grad]
theorem p3 (r : Fin 32) (k : Fin 2048) : k0_pay4 (F := Ideal) o a b d u (ix2 r k) = mom (u (ix2 r k)) (gp o a b d r k) := by
  pointwise [k0_pay4, p2, mom]
theorem p4 (r : Fin 32) (k : Fin 2048) : k0_pay5 (F := Ideal) o a b d v (ix2 r k) = vel (v (ix2 r k)) (gp o a b d r k) := by
  pointwise [k0_pay5, p2, vel]
theorem p1 (r : Fin 32) (k : Fin 2048) : k0_pay1 (F := Ideal) w (k0_pay6 o a b d u) (k0_pay7 o a b d v) (k0_pay8 (F := Ideal)) (ix2 r k)
    = step (w (ix2 r k)) (mom (u (ix2 r k)) (gp o a b d r k)) (vel (v (ix2 r k)) (gp o a b d r k)) := by
  pointwise [k0_pay1, k0_pay6, k0_pay7, k0_pay8, p3, p4, step]

theorem p0 (x : Vec Ideal S512x3072 .bf16) (y : Vec Ideal S2048x3072 .bf16) (z : Vec Ideal S512x2048 .f32) (r : Fin 512) (k : Fin 2048) :
    k0_pay2 (F := Ideal) x y z (ix2 r k) = Ideal.ofBits .f32 0x3F9837F0#32 * z (ix2 r k) + ∑ i : Fin 3072, x (ix2 r i) * y (ix2 k i) := by
  pointwise [k0_pay2]
end pay

section blk
variable (p : Vec Ideal S512x3072 .bf16) (q : Vec Ideal S2048x3072 .bf16) (z : Vec Ideal S512x2048 .f32) (e : Vec Ideal S8x128 .f32)
variable (o w u v : Vec Ideal S32x2048 .f32) (x : Vec Ideal S3x32x2048 .bf16)

/-- The gradient at an entry of whole blocks. -/
def gb (r : Fin 32) (k : Fin 2048) : EReal := grad (o (ix2 r k)) (x (ix3 0 r k)) (x (ix3 1 r k)) (x (ix3 2 r k))

theorem ld (y : Vec Ideal S32x2048 .f32) (r : Fin 32) (k : Fin 2048) : View.ld y r0_0 (ix2 r k) = y (ix2 r k) := by
  refine View.ld_unit_apply_of (S := S32x2048) y ![0, 0] S32x2048.size inb_S32x2048_S32x2048_0_0 (ix2 r k) (ix2 r k) ?_
  intro a
  match a with
  | 0 => simp
  | 1 => simp

theorem ld3 (n : Fin 3) (h) (r : Fin 32) (k : Fin 2048) :
    View.ld x (Rect.unit (s := S3x32x2048) ![n.val, 0, 0] S1x32x2048.size h) (ix3 0 r k) = x (ix3 n r k) := by
  refine View.ld_unit_apply_of (S := S3x32x2048) x ![n.val, 0, 0] S1x32x2048.size h (ix3 0 r k) (ix3 n r k) ?_
  intro a
  match a with
  | 0 => simp
  | 1 => simp
  | 2 => simp

theorem gp_ld (r : Fin 32) (k : Fin 2048) :
    gp (View.ld o r0_0) (View.ld x r0_1) (View.ld x r0_2) (View.ld x r0_3) r k = gb o x r k := by
  unfold gp gb
  rw [ld]
  exact congr (congrArg₂ _ (ld3 x 0 _ r k) (ld3 x 1 _ r k)) (ld3 x 2 _ r k)

theorem g_blk (r : Fin 32) (k : Fin 2048) : out0_10 (F := Ideal) p q z e o x w u v (ix2 r k) = gb o x r k := by
  unfold out0_10
  rw [View.canon_unit_zero (by funext a; fin_cases a <;> rfl)]
  exact (p2 _ _ _ _ r k).trans (gp_ld o x r k)
theorem d_blk (r : Fin 32) (k : Fin 2048) : out0_11 (F := Ideal) p q z e o x w u v (ix2 r k)
    = step (w (ix2 r k)) (mom (u (ix2 r k)) (gb o x r k)) (vel (v (ix2 r k)) (gb o x r k)) := by
  unfold out0_11
  rw [View.canon_unit_zero (by funext a; fin_cases a <;> rfl)]
  refine (p1 _ _ _ _ _ _ _ r k).trans ?_
  rw [gp_ld, ld, ld, ld]
theorem m_blk (r : Fin 32) (k : Fin 2048) : out0_12 (F := Ideal) p q z e o x w u v (ix2 r k) = mom (u (ix2 r k)) (gb o x r k) := by
  unfold out0_12
  rw [View.canon_unit_zero (by funext a; fin_cases a <;> rfl)]
  refine (p3 _ _ _ _ _ r k).trans ?_
  rw [gp_ld, ld]
theorem v_blk (r : Fin 32) (k : Fin 2048) : out0_13 (F := Ideal) p q z e o x w u v (ix2 r k) = vel (v (ix2 r k)) (gb o x r k) := by
  unfold out0_13
  rw [View.canon_unit_zero (by funext a; fin_cases a <;> rfl)]
  refine (p4 _ _ _ _ _ r k).trans ?_
  rw [gp_ld, ld]

/-- An entry of the weighted residual plus the product with the transposed weights, of whole blocks. -/
def xb (r : Fin 512) (k : Fin 2048) : EReal :=
  Ideal.ofBits .f32 0x3F9837F0#32 * z (ix2 r k) + ∑ i : Fin 3072, p (ix2 r i) * q (ix2 k i)

theorem x_blk (r : Fin 512) (k : Fin 2048) : out0_9 (F := Ideal) p q z e o x w u v (ix2 r k) = xb p q z r k := by
  unfold out0_9
  rw [View.canon_unit_zero (by funext a; fin_cases a <;> rfl)]
  refine (p0 _ _ _ r k).trans ?_
  unfold xb
  rw [View.ld_unit_zero (by funext a; fin_cases a <;> rfl), View.ld_unit_zero (by funext a; fin_cases a <;> rfl), View.ld_unit_zero (by funext a; fin_cases a <;> rfl)]
end blk

/-!  The arrays -/

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_9.index t = ![t.val, 0] ∧ win0_4.index t = ![t.val, 0] ∧ win0_5.index t = ![0, t.val, 0] ∧ win0_6.index t = ![t.val, 0]
    ∧ win0_7.index t = ![t.val, 0] ∧ win0_8.index t = ![t.val, 0] ∧ win0_10.index t = ![t.val, 0] ∧ win0_11.index t = ![t.val, 0]
    ∧ win0_12.index t = ![t.val, 0] ∧ win0_13.index t = ![t.val, 0] :=
  (by decide +kernel : ∀ t : Fin grid0.N, _)

theorem lt (t : Fin cfg0.N) : t.val < 8 := lt_of_lt_of_eq t.isLt N_0

/-- The row of the array that row `r` of block `t` is. -/
abbrev sid (t : Fin cfg0.N) (r : Fin 32) : Fin 256 := ⟨t.val * 32 + r.val, by have := lt t; omega⟩

/-- The row of the gradient that row `r` of block `t` is. -/
abbrev row (t : Fin cfg0.N) (r : Fin 512) : Fin 4096 := ⟨t.val * 512 + r.val, by have := lt t; omega⟩

/-- The gradient of the layer's input: the weighted residual plus the product with the transposed weights. -/
def xA (z : Vec Ideal S4096x2048 .f32) (d : Vec Ideal S4096x3072 .f32) (w : Vec Ideal S2048x3072 .f32) : Vec Ideal S4096x2048 .f32 :=
  fun j => Ideal.ofBits .f32 0x3F9837F0#32 * z j + ∑ i : Fin 3072, d (ix2 (j 0) i) * w (ix2 (j 1) i)

/-- The gradient of whole arrays. -/
def gA (o : Vec Ideal S256x2048 .f32) (x : Vec Ideal S3x256x2048 .f32) (i : Fin 256) (k : Fin 2048) : EReal :=
  grad (o (ix2 i k)) (x (ix3 0 i k)) (x (ix3 1 i k)) (x (ix3 2 i k))

section arrays
variable (c : Dev nD) (t : Fin cfg0.N) (r : Fin 32) (k : Fin 2048)

abbrev A0 : Vec Ideal S4096x2048 .f32 := m ((c.tc : Thread nD τ).loc main_arg0)
abbrev A1 : Vec Ideal S4096x3072 .f32 := m ((c.tc : Thread nD τ).loc main_arg1)
abbrev A2 : Vec Ideal S2048x3072 .f32 := m ((c.tc : Thread nD τ).loc main_arg2)
abbrev A3 : Vec Ideal S256x2048 .f32 := m ((c.tc : Thread nD τ).loc main_arg3)
abbrev A4 : Vec Ideal S3x256x2048 .f32 := m ((c.tc : Thread nD τ).loc main_arg4)
abbrev A5 : Vec Ideal S256x2048 .f32 := m ((c.tc : Thread nD τ).loc main_arg5)
abbrev A6 : Vec Ideal S256x2048 .f32 := m ((c.tc : Thread nD τ).loc main_arg6)
abbrev A7 : Vec Ideal S256x2048 .f32 := m ((c.tc : Thread nD τ).loc main_arg7)

theorem hx (n : Fin 3) (i : Fin 256) (k : Fin 2048) : (V m c main_v3 : Vec Ideal S3x256x2048 .bf16) (ix3 n i k) = A4 m c (ix3 n i k) := by
  after_reads_simp
  try rfl

theorem b4 : iblk m c 4 t (ix2 r k) = A3 m c (ix2 (sid t r) k) := by
  have h : (V m c main_arg3 : Vec Ideal S256x2048 .f32) = A3 m c := by after_reads_simp
  rw [← h]
  blk_point [iblk, idx t]
theorem b5 (n : Fin 3) : iblk m c 5 t (ix3 n r k) = A4 m c (ix3 n (sid t r) k) := by
  rw [← hx]
  blk_point [iblk, idx t]
theorem b6 : iblk m c 6 t (ix2 r k) = A5 m c (ix2 (sid t r) k) := by
  have h : (V m c main_arg5 : Vec Ideal S256x2048 .f32) = A5 m c := by after_reads_simp
  rw [← h]
  blk_point [iblk, idx t]
theorem b7 : iblk m c 7 t (ix2 r k) = A6 m c (ix2 (sid t r) k) := by
  have h : (V m c main_arg6 : Vec Ideal S256x2048 .f32) = A6 m c := by after_reads_simp
  rw [← h]
  blk_point [iblk, idx t]
theorem b8 : iblk m c 8 t (ix2 r k) = A7 m c (ix2 (sid t r) k) := by
  have h : (V m c main_arg7 : Vec Ideal S256x2048 .f32) = A7 m c := by after_reads_simp
  rw [← h]
  blk_point [iblk, idx t]

theorem gbb : gb (iblk m c 4 t) (iblk m c 5 t) r k = gA (A3 m c) (A4 m c) (sid t r) k := by
  unfold gb
  rw [b4, b5, b5, b5]
  rfl

theorem hd (i : Fin 4096) (k : Fin 3072) : (V m c main_v0 : Vec Ideal S4096x3072 .bf16) (ix2 i k) = A1 m c (ix2 i k) := by
  after_reads_simp
  try rfl
theorem hw (i : Fin 2048) (k : Fin 3072) : (V m c main_v1 : Vec Ideal S2048x3072 .bf16) (ix2 i k) = A2 m c (ix2 i k) := by
  after_reads_simp
  try rfl
theorem b0 (t : Fin cfg0.N) (r : Fin 512) (k : Fin 3072) : iblk m c 0 t (ix2 r k) = A1 m c (ix2 (row t r) k) := by
  rw [← hd]
  blk_point [iblk, idx t]
theorem b1 (t : Fin cfg0.N) (r : Fin 2048) (k : Fin 3072) : iblk m c 1 t (ix2 r k) = A2 m c (ix2 r k) := by
  rw [← hw]
  blk_point [iblk, idx t]
theorem b2 (t : Fin cfg0.N) (r : Fin 512) (k : Fin 2048) : iblk m c 2 t (ix2 r k) = A0 m c (ix2 (row t r) k) := by
  have h : (V m c main_arg0 : Vec Ideal S4096x2048 .f32) = A0 m c := by after_reads_simp
  rw [← h]
  blk_point [iblk, idx t]
theorem xbb (t : Fin cfg0.N) (r : Fin 512) (k : Fin 2048) :
    xb (iblk m c 0 t) (iblk m c 1 t) (iblk m c 2 t) r k = xA (A0 m c) (A1 m c) (A2 m c) (ix2 (row t r) k) := by
  unfold xb
  refine congrArg₂ (fun a b : EReal => a + b) (by rw [b2]) (Finset.sum_congr rfl fun i _ => ?_)
  rw [b0, b1]
  rfl

theorem emb9 (W : Vec Ideal S4096x2048 .f32) (t : Fin cfg0.N) (r : Fin 512) (k : Fin 2048) :
    W (((View.whole main_v4_0).slice (win0_9.rect t)).emb (ix2 r k)) = W (ix2 (row t r) k) := by
  blk_point [idx t]
theorem final9 : (dats m 0 c).arrAt 9 cfg0.N = xA (A0 m c) (A1 m c) (A2 m c) := by
  refine (dats m 0 c).arrAt_eq_of_covers 9 (xA (A0 m c) (A1 m c) (A2 m c)) (by decide +kernel) fun t hf y => ?_
  blk_simp
  rw [after0_9]
  idx_vars y
  exact ((x_blk _ _ _ _ _ _ _ _ _ y0 y1).trans (xbb m c t y0 y1)).trans (emb9 _ t y0 y1).symm
variable (W : Vec Ideal S256x2048 .f32)
theorem emb10 : W (((View.whole main_v4_1).slice (win0_10.rect t)).emb (ix2 r k)) = W (ix2 (sid t r) k) := by
  blk_point [idx t]
theorem emb11 : W (((View.whole main_v4_2).slice (win0_11.rect t)).emb (ix2 r k)) = W (ix2 (sid t r) k) := by
  blk_point [idx t]
theorem emb12 : W (((View.whole main_v4_3).slice (win0_12.rect t)).emb (ix2 r k)) = W (ix2 (sid t r) k) := by
  blk_point [idx t]
theorem emb13 : W (((View.whole main_v4_4).slice (win0_13.rect t)).emb (ix2 r k)) = W (ix2 (sid t r) k) := by
  blk_point [idx t]

section ref
variable (o : Vec Ideal S256x2048 .f32) (x : Vec Ideal S3x256x2048 .f32) (w u v : Vec Ideal S256x2048 .f32) (i : Fin 256)

theorem rg : val_main_v9 (F := Ideal) o x (ix2 i k) = gA o x i k := by
  refine Eq.trans ?_ (grad_sum (o (ix2 i k)) (fun n => x (ix3 n i k)))
  pointwise [val_main_v9, val_main_v8, val_main_cst_2]
theorem rm : val_main_v14 (F := Ideal) o x u (ix2 i k) = mom (u (ix2 i k)) (gA o x i k) := by
  pointwise [val_main_v14, val_main_v13, val_main_v12, val_main_v11, val_main_v10, val_main_cst_3, val_main_cst_4, rg, mom]
theorem rv : val_main_v20 (F := Ideal) o x v (ix2 i k) = vel (v (ix2 i k)) (gA o x i k) := by
  pointwise [val_main_v20, val_main_v19, val_main_v18, val_main_v17, val_main_v16, val_main_v15, val_main_cst_5, val_main_cst_6, rg, vel]
theorem rd : val_main_v33 (F := Ideal) o x w u v (ix2 i k) = step (w (ix2 i k)) (mom (u (ix2 i k)) (gA o x i k)) (vel (v (ix2 i k)) (gA o x i k)) := by
  pointwise [val_main_v33, val_main_v32, val_main_v31, val_main_v30, val_main_v29, val_main_v28, val_main_v27, val_main_v26, val_main_v25, val_main_v24, val_main_v23, val_main_v22, val_main_v21, val_main_cst_7, val_main_cst_8, val_main_cst_9, val_main_cst_10, val_main_cst_11, rm, rv, step]
end ref

theorem final10 : (dats m 0 c).arrAt 10 cfg0.N = val_main_v9 (F := Ideal) (A3 m c) (A4 m c) := by
  refine (dats m 0 c).arrAt_eq_of_covers 10 _ (by decide +kernel) fun t hf y => ?_
  blk_simp
  rw [after0_10]
  idx_vars y
  exact ((g_blk _ _ _ _ _ _ _ _ _ y0 y1).trans (gbb m c t y0 y1)).trans ((emb10 t y0 y1 _).trans (rg _ _ _ _)).symm
theorem final11 : (dats m 0 c).arrAt 11 cfg0.N = val_main_v33 (F := Ideal) (A3 m c) (A4 m c) (A5 m c) (A6 m c) (A7 m c) := by
  refine (dats m 0 c).arrAt_eq_of_covers 11 _ (by decide +kernel) fun t hf y => ?_
  blk_simp
  rw [after0_11]
  idx_vars y
  exact ((d_blk _ _ _ _ _ _ _ _ _ y0 y1).trans (by rw [gbb, b6, b7, b8])).trans ((emb11 t y0 y1 _).trans (rd _ _ _ _ _ _ _)).symm
theorem final12 : (dats m 0 c).arrAt 12 cfg0.N = val_main_v14 (F := Ideal) (A3 m c) (A4 m c) (A6 m c) := by
  refine (dats m 0 c).arrAt_eq_of_covers 12 _ (by decide +kernel) fun t hf y => ?_
  blk_simp
  rw [after0_12]
  idx_vars y
  exact ((m_blk _ _ _ _ _ _ _ _ _ y0 y1).trans (by rw [gbb, b7])).trans ((emb12 t y0 y1 _).trans (rm _ _ _ _ _)).symm
theorem final13 : (dats m 0 c).arrAt 13 cfg0.N = val_main_v20 (F := Ideal) (A3 m c) (A4 m c) (A7 m c) := by
  refine (dats m 0 c).arrAt_eq_of_covers 13 _ (by decide +kernel) fun t hf y => ?_
  blk_simp
  rw [after0_13]
  idx_vars y
  exact ((v_blk _ _ _ _ _ _ _ _ _ y0 y1).trans (by rw [gbb, b8])).trans ((emb13 t y0 y1 _).trans (rv _ _ _ _ _)).symm
end arrays

theorem ref_frame : Cert.quiescent_GradXRefIdeal := by
  intro m g _
  exact (θ_run _ _ _).mono (fun r h => ⟨fun c => (h c).2.2.2.2.2, sem_eq_zero_of_no_sems (by decide) _⟩)
    (Cert.GradXRefIdeal.Value.run m g)

theorem ex (z : Vec Ideal S4096x2048 .f32) (d : Vec Ideal S4096x3072 .f32) (q : Vec Ideal S2048x3072 .f32) :
    val_main_v7 (F := Ideal) z d q = xA z d q := by
  funext j
  idx_vars j
  refine Eq.trans ?_ (add_comm (∑ i : Fin 3072, d (ix2 j0 i) * q (ix2 j1 i)) _)
  pointwise [val_main_v7, val_main_v6, val_main_v5, val_main_v4, val_main_cst_1]

theorem algebraic : Cert.algebraic_GradXIdeal_GradXRefIdeal := by
  intro m g m' g' _ hagree
  refine ⟨fun c => _, fun c => _, fun c => _, fun c => _, fun c => _, Cert.GradXIdeal.Value.run_blocks m g,
    (θ_run _ _ _).mono (fun r h c => ?_) (Cert.GradXRefIdeal.Value.run m' g')⟩
  obtain ⟨h0, h1, h2, h3, h4, h5, h6, h7⟩ := hagree c
  refine ⟨((h c).1.trans ((val_main_v7_eq _ _ _).trans (ex _ _ _))).trans ?_,
    ((h c).2.1.trans (val_main_v9_eq _ _)).trans ?_,
    ((h c).2.2.1.trans (val_main_v33_eq _ _ _ _ _)).trans ?_,
    ((h c).2.2.2.1.trans (val_main_v14_eq _ _ _)).trans ?_,
    ((h c).2.2.2.2.1.trans (val_main_v20_eq _ _ _)).trans ?_, (h c).2.2.2.2.2⟩
  · rw [h0, h1, h2]; exact (final9 m c).symm
  · rw [h3, h4]; exact (final10 m c).symm
  · rw [h3, h4, h5, h6, h7]; exact (final11 m c).symm
  · rw [h3, h4, h6]; exact (final12 m c).symm
  · rw [h3, h4, h7]; exact (final13 m c).symm

end Cert.GradXClaim
-- ==== Proof.LossSumClaim.lean ====
module

public import proofs.«01_k».proof.Defs
public import proofs.«01_k».proof.Proof.Gen.LossSum.Frame
public import proofs.«01_k».proof.Proof.Gen.LossSumIdeal.Value
public import proofs.«01_k».proof.Proof.Gen.LossSumRefIdeal.Read
public import Idealize.ShloMosaic.Lib.Pipeline.ValueKit
public import Idealize.ShloMosaic.PureOps.Ideal.Laws
public import Idealize.ShloMosaic.Lib.IdealHost
public import Idealize.ShloMosaic.Lib.Claim

/-! # The sum of the loss over the devices: the claims -/

@[expose] public section

set_option maxRecDepth 16384

noncomputable section

namespace Cert.LossSumClaim

open Idealize.ShloMosaic Idealize.ShloMosaic.TcCoe Idealize.SL.Sem Cert.LossSumRefIdeal.Read

theorem ref_frame : Cert.quiescent_LossSumRefIdeal := by
  intro m g _
  exact (θ_run _ _ _).mono (fun r h => ⟨fun c => (h c).2, sem_eq_zero_of_no_sems (by decide) _⟩)
    (Cert.LossSumRefIdeal.Value.run m g)

section ref
open Cert.LossSumRefIdeal
open Cert.LossSumIdeal (S1x8x128)
open Cert.LossSumIdeal.Gen (k0_pay1)
open Cert.LossSumIdeal.Value (G1)

theorem nil : Ideal.ofBits .f32 0x00000000#32 = 0 := by
  simp [Ideal.ofBits, Ideal.ieee, -EReal.coe_mul]

theorem ld (x : Vec Ideal S8x8x128 .f32) (n : Fin 8) (h) (r : Fin 8) (k : Fin 128) :
    View.ld x (Rect.unit (s := S8x8x128) ![n.val, 0, 0] S1x8x128.size h) (ix3 0 r k) = x (ix3 n r k) := by
  refine View.ld_unit_apply_of (S := S8x8x128) x ![n.val, 0, 0] S1x8x128.size h (ix3 0 r k) (ix3 n r k) ?_
  intro a
  match a with
  | 0 => simp
  | 1 => simp
  | 2 => simp

theorem p1 (a b c d e f g h : Vec Ideal S1x8x128 .f32) (r : Fin 8) (k : Fin 128) :
    k0_pay1 (F := Ideal) a b c d e f g h (ix2 r k) = a (ix3 0 r k) + b (ix3 0 r k) + c (ix3 0 r k) + d (ix3 0 r k)
      + e (ix3 0 r k) + f (ix3 0 r k) + g (ix3 0 r k) + h (ix3 0 r k) := by
  pointwise [k0_pay1]

theorem ex (x : Vec Ideal S8x8x128 .f32) : val_main_v0 (F := Ideal) x = G1 x := by
  funext j
  idx_vars j
  refine Eq.trans (b := Ideal.ofBits .f32 0x00000000#32 + ∑ n : Fin 8, x (ix3 n j0 j1)) ?_ ?_
  · pointwise [val_main_v0, val_main_cst]
  · rw [nil, zero_add, Fin.sum_univ_eight]
    refine Eq.trans ?_ (p1 _ _ _ _ _ _ _ _ j0 j1).symm
    exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (ld x 0 _ j0 j1).symm (ld x 1 _ j0 j1).symm) (ld x 2 _ j0 j1).symm) (ld x 3 _ j0 j1).symm) (ld x 4 _ j0 j1).symm) (ld x 5 _ j0 j1).symm) (ld x 6 _ j0 j1).symm) (ld x 7 _ j0 j1).symm)

/-- The reference's run with its result as the array the kernel leaves. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = G1 (m ((c.tc : Thread nD τ).loc main_arg0))
      ∧ r.2.mem ((c.tc : Thread nD τ).loc main_arg0) = m ((c.tc : Thread nD τ).loc main_arg0) :=
  (θ_run defs _ _).mono (fun _ h c => ⟨(h c).1.trans ((val_main_v0_eq _).trans (ex _)), (h c).2⟩)
    (Cert.LossSumRefIdeal.Value.run m ρ)
end ref

theorem algebraic : Cert.algebraic_LossSumIdeal_LossSumRefIdeal := by
  pair_intro
  · run_from Cert.LossSumIdeal.Value.run_blocks m g
  · run_from ref_run m' g'
    · rw [Cert.LossSumIdeal.Value.final1 m c]

end Cert.LossSumClaim
end
-- ==== Proof.CastXClaim.lean ====
module

public import proofs.«01_k».proof.Defs
public import proofs.«01_k».proof.Proof.Gen.CastX.Frame
public import proofs.«01_k».proof.Proof.Gen.CastX.Value
public import proofs.«01_k».proof.Proof.Gen.CastXIdeal.Value
public import proofs.«01_k».proof.Proof.Gen.CastXRef.Read
public import proofs.«01_k».proof.Proof.Gen.CastXRefIdeal.Read
public import Idealize.ShloMosaic.Lib.Pipeline.ValueKit
public import Idealize.ShloMosaic.PureOps.Ideal.Laws
public import Idealize.ShloMosaic.Lib.IdealHost
public import Idealize.ShloMosaic.Lib.Claim

/-! # The cast of the rows: the claims -/

@[expose] public section

set_option maxRecDepth 16384

noncomputable section

namespace Cert.CastXClaim

open Idealize.ShloMosaic Idealize.ShloMosaic.TcCoe Idealize.SL.Sem Cert.CastXRefIdeal.Read

theorem ref_frame : Cert.quiescent_CastXRefIdeal := by
  intro m g _
  exact (θ_run _ _ _).mono (fun r h => ⟨fun c => (h c).2, sem_eq_zero_of_no_sems (by decide) _⟩)
    (Cert.CastXRefIdeal.Value.run m g)

section ref
open Cert.CastXRefIdeal
open Cert.CastXIdeal.Value (G2)

theorem ex (x : Vec Ideal S4096x2048 .f32) : val_main_v0 (F := Ideal) x = G2 x := by
  funext j
  rfl

/-- The reference's run with its result as the array the kernel leaves. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = G2 (m ((c.tc : Thread nD τ).loc main_arg0))
      ∧ r.2.mem ((c.tc : Thread nD τ).loc main_arg0) = m ((c.tc : Thread nD τ).loc main_arg0) :=
  (θ_run defs _ _).mono (fun _ h c => ⟨(h c).1.trans ((val_main_v0_eq _).trans (ex _)), (h c).2⟩)
    (Cert.CastXRefIdeal.Value.run m ρ)
end ref

theorem algebraic : Cert.algebraic_CastXIdeal_CastXRefIdeal := by
  pair_intro
  · run_from Cert.CastXIdeal.Value.run_blocks m g
  · run_from ref_run m' g'
    · rw [Cert.CastXIdeal.Value.final2 m c]

/-! ## At the bits: both sides round every entry the same way -/

theorem ref_frame_bits : Cert.quiescent_CastXRef := by
  intro m g _
  exact (θ_run _ _ _).mono (fun r h => ⟨fun c => (h c).2, sem_eq_zero_of_no_sems (by decide) _⟩)
    (Cert.CastXRef.Value.run m g)

section bits
open Cert.CastXRef
open Cert.CastX.Value (G2)

theorem ref_run_bits (m : (ℓ : Loc nD τ sig) → Buf (Elt Bits) ℓ) (ρ : Dev nD → PrngReg) :
    θ_run defs (onTc (τ := τ) (main (F := Bits))) ⟨m, fun _ => 0, ρ⟩ fun r => ∀ c : Dev nD,
      r.2.mem ((c.tc : Thread nD τ).loc main_v0) = G2 (m ((c.tc : Thread nD τ).loc main_arg0))
      ∧ r.2.mem ((c.tc : Thread nD τ).loc main_arg0) = m ((c.tc : Thread nD τ).loc main_arg0) :=
  (θ_run defs _ _).mono (fun _ h c => ⟨(h c).1.trans ((Cert.CastXRef.Read.val_main_v0_eq _).trans (by funext j; rfl)), (h c).2⟩)
    (Cert.CastXRef.Value.run m ρ)
end bits

theorem bitexact : Cert.bitexact_CastX_CastXRef := by
  pair_intro
  · run_from Cert.CastX.Value.run_blocks m g
  · run_from ref_run_bits m' g'
    · rw [Cert.CastX.Value.final2 m c]

end Cert.CastXClaim
end
-- ==== Proof.PairSumRun.lean ====
module

public import proofs.«01_k».proof.Proof.Gen.PairSumIdeal.Launch
public import proofs.«01_k».proof.Proof.Gen.PairSumIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim
public import proofs.«01_k».proof.Proof.PoolRows

/-! # The pair sum's launch

The kernel stores the bf16 sum at every point and the f32 sum only at the point whose second coordinate is the
second table word; its pipeline's data, its body's triple, and the frame. -/

@[expose] public section

set_option maxRecDepth 16384

noncomputable section

namespace Cert.PairSumIdeal.Sum

open Cert.PairSumIdeal.Gen Cert.PoolRows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

abbrev tab : Memref sig .tc .smem S2 .i32 := Memref.whole main_arg2
abbrev tabAt (c : Dev nD) (f : Buf (Elt F) (tab.view.loc (c : Thread nD τ))) : sProp 𝕄 :=
  tab.view.loc (c : Thread nD τ) ↦{fullShare.right} f

/-- Word `n` of the table. -/
def word (f : S2.Idx → BitVec 32) (n : Fin 2) : BitVec 32 := f fun a => ⟨n.val, lt_of_lt_of_eq n.isLt (by fin_cases a; rfl)⟩

section
variable (c : Dev nD) (E : Set ℕ) (i : grid0.Coords) (arg3 : Memref sig .tc .vmem S1x1x1024x1024 .bf16) (harg3 : arg3.IsWhole)
  (arg4 : Memref sig .tc .vmem S1x1x1024x1024 .bf16) (harg4 : arg4.IsWhole) (arg5 : Memref sig .tc .vmem S1024x1024 .f32)
  (harg5 : arg5.IsWhole) (arg6 : Memref sig .tc .vmem S1x1024x1024 .bf16) (harg6 : arg6.IsWhole)
  (x0 x1 : Vec F S1x1x1024x1024 .bf16) (d2 : Vec F S1024x1024 .f32) (xt : Buf (Elt F) (tab.view.loc (c : Thread nD τ)))

set_option maxHeartbeats 1000000 in
/-- The body stores the bf16 sum, and the f32 sum where its branch is taken. -/
theorem body (K : PUnit → sProp 𝕄) :
    iprop(owns (c : Thread nD τ) arg3 fullShare x0 ∗ owns (c : Thread nD τ) arg4 fullShare x1 ∗ owns (c : Thread nD τ) arg5 fullShare d2
        ∗ (∃ d, owns (c : Thread nD τ) arg6 fullShare d) ∗ tabAt c xt
        ∗ (iprop(owns (c : Thread nD τ) arg3 fullShare x0 ∗ owns (c : Thread nD τ) arg4 fullShare x1
          ∗ owns (c : Thread nD τ) arg5 fullShare (if k0_cond1 i (word xt 1) = 1#1 then k0_pay1 x0 x1 else d2)
          ∗ owns (c : Thread nD τ) arg6 fullShare (k0_pay2 x0 x1) ∗ tabAt c xt) -∗ K ⟨⟩))
      ⊢ wp frame (wpE (defs₀ (F := F)) Variants.none c none) E
          (cc0_scatter_w_mlp_in_sum0 i tab (Memref.isWhole_whole _) arg3 harg3 arg4 harg4 arg5 harg5 arg6 harg6) K := by
  simp only [cc0_scatter_w_mlp_in_sum0_eq_skeleton]; unfold cc0_scatter_w_mlp_in_sum0_skel
  unfold owns
  iintro ⟨⟨%f0, %hf0, H0⟩, ⟨%f1, %hf1, H1⟩, ⟨%f2, %hf2, H2⟩, ⟨%d3, %f3, -, H3⟩, HT, Hk⟩
  obtain rfl := harg3.eq_unread hf0; obtain rfl := harg4.eq_unread hf1
  sl_exec
  sl_step
  iapply Hk
  have h0 : arg3.view.readAt (Elt F) (Rect.unit (s := S1x1x1024x1024) ![0, 0, 0, 0] S1x1x1024x1024.size inb_S1x1x1024x1024_S1x1x1024x1024_0_0_0_0).toLoadRect (harg3.unread x0) = x0 :=
    readAt_whole harg3 x0 _ (by decide) _
  have h1 : arg4.view.readAt (Elt F) (Rect.unit (s := S1x1x1024x1024) ![0, 0, 0, 0] S1x1x1024x1024.size inb_S1x1x1024x1024_S1x1x1024x1024_0_0_0_0).toLoadRect (harg4.unread x1) = x1 :=
    readAt_whole harg4 x1 _ (by decide) _
  have hw : body.sl.r c xt = word xt 1 := by
    unfold body.sl.r
    exact congrArg xt (funext fun a => Fin.ext (by fin_cases a; rfl))
  isplitl [H0]; · iexists _; isplitr; · ipureintro; exact hf0
                  · iexact H0
  isplitl [H1]; · iexists _; isplitr; · ipureintro; exact hf1
                  · iexact H1
  isplitl [H2]
  · iexists _; isplitr; swap; · iexact H2
    ipureintro
    rw [hw]
    split
    · refine (read_whole (s := S1024x1024) arg5.view _ ![0, 0] (by decide) _ _ _).trans ?_
      rw [h0, h1]
    · exact hf2
  isplitl [H3]
  · iexists _; isplitr; swap; · iexact H3
    ipureintro
    unfold body.sl.H3_1
    refine (read_whole (s := S1x1024x1024) arg6.view _ ![0, 0, 0] (by decide) _ _ _).trans ?_
    rw [h0, h1]
  iexact HT
end

/-! ## The launch memory -/

abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The table's contents (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The second table word: which of the four sums the device keeps. -/
abbrev qn : ℕ := (word (tbl m 0) 1).toNat
/-- What the launch needs of the table. -/
structure Good : Prop where
  ok : ok0 (F := F) (tbl m)
  lt : qn m < 4

variable (hO : Good m)

abbrev cfgM : Pipeline.Cfg sig Λ₀ := cfg0 (F := F) ⟨tbl m, hO.ok⟩

theorem table_eq (c : Dev nD) : (Pipeline.ΦT pre0 (tbl m) c : sProp 𝕄) = tabAt c (tbl m 0) := by
  unfold Pipeline.ΦT Pipeline.prefHeld
  rw [show (Finset.univ : Finset (Fin 1)) = {(0 : Fin 1)} from by decide, bigSep_singleton]
  rfl

/-- Window `w`'s block at point `t`. -/
def iblk (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The point of `t`'s row that stores the f32 sum. -/
def at' (t : Fin (cfgM m hO).N) : Fin (cfgM m hO).N :=
  ⟨4 * (t.val / 4) + qn m, by have := hO.lt; have h := lt_of_lt_of_eq t.isLt N_0; exact lt_of_lt_of_eq (by omega : _ < 8) N_0.symm⟩

/-- The pipeline's data on core `c`. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => k0_pay1 (iblk m hO c 0 (at' m hO t)) (iblk m hO c 1 (at' m hO t))
    | ⟨3, _⟩ => k0_pay2 (iblk m hO c 0 t) (iblk m hO c 1 t)
  Φ _ := iprop(Pipeline.ΦA spec0 c ∗ Pipeline.ΦT pre0 (tbl m) c)
  q _ := fullShare
  owed _ := 0

theorem dats_A (c : Dev nD) (w : Fin (cfgM m hO).W) : (dats m hO 0 c).A w = V m c (Pipeline.arrRef spec0 w) := by
  dsimp only [dats]
variable (c : Dev nD) (t : Fin (cfgM m hO).N)
theorem left0 : (dats m hO 0 c).after 0 t = iblk m hO c 0 t := by dsimp only [dats]; try rfl
theorem left1 : (dats m hO 0 c).after 1 t = iblk m hO c 1 t := by dsimp only [dats]; try rfl
theorem left2 : (dats m hO 0 c).after 2 t = k0_pay1 (iblk m hO c 0 (at' m hO t)) (iblk m hO c 1 (at' m hO t)) := by dsimp only [dats]; try rfl
theorem left3 : (dats m hO 0 c).after 3 t = k0_pay2 (iblk m hO c 0 t) (iblk m hO c 1 t) := by dsimp only [dats]; try rfl
theorem found0 (d) : (dats m hO 0 c).before 0 t d = iblk m hO c 0 t :=
  ((dats m hO 0 c).before_in_eq_fetched 0 rfl (fun _ => rfl) (fun _ _ _ => rfl) (fun t => by rw [left0]; unfold Dat.blockOf iblk; rw [dats_A]; try rfl) t d).trans
    (by unfold Dat.fetched Dat.blockOf iblk; rw [dats_A]; try rfl)
theorem found1 (d) : (dats m hO 0 c).before 1 t d = iblk m hO c 1 t :=
  ((dats m hO 0 c).before_in_eq_fetched 1 rfl (fun _ => rfl) (fun _ _ _ => rfl) (fun t => by rw [left1]; unfold Dat.blockOf iblk; rw [dats_A]; try rfl) t d).trans
    (by unfold Dat.fetched Dat.blockOf iblk; rw [dats_A]; try rfl)

/-! ## The schedule of the f32 sum -/

theorem flush2 : ((cfgM m hO).win 2).flush t = true ↔ t.val % 4 = 3 :=
  (fun t => Pipeline.Window.flushOf_reads cc0_transform_2 reads0_2 hreads0_2 0 (by decide) (by decide) (Pipeline.Window.sep_of_coord cc0_transform_2 0 0 (fun _ => rfl) (by decide)) (P := 4) (m := 3) (by decide) rfl t : ∀ t : Fin grid0.N, Pipeline.Window.flushOf grid0 true cc0_transform_2 t = true ↔ t.val % 4 = 3) t
theorem flush3 : ((cfgM m hO).win 3).flush t = true :=
  (fun t => (Pipeline.Window.flushOf_reads cc0_transform_3 reads0_3 hreads0_3 1 (by decide) (by decide) (Pipeline.Window.sep_of_coord cc0_transform_3 1 0 (fun _ => rfl) (by decide)) (P := 1) (m := 0) (by decide) rfl t).mpr (Nat.mod_one _) : ∀ t : Fin grid0.N, Pipeline.Window.flushOf grid0 true cc0_transform_3 t = true) t

theorem cond_iff : ∀ t : Fin grid0.N, ∀ q : Fin 4, k0_cond1 (grid0.coords t) (BitVec.ofNat 32 q.val) = 1#1 ↔ t.val % 4 = q.val := by
  decide +kernel
include hO in
theorem taken (t : Fin grid0.N) : k0_cond1 (grid0.coords t) (word (tbl m 0) 1) = 1#1 ↔ t.val % 4 = qn m := by
  have h := cond_iff t ⟨qn m, hO.lt⟩
  rwa [show BitVec.ofNat 32 (qn m) = word (tbl m 0) 1 by unfold qn; rw [BitVec.ofNat_toNat, BitVec.setWidth_eq]] at h
theorem idle2 : (cfgM m hO).idle 2 (grid0.coords t) = !decide (t.val % 4 = qn m) := by
  have h : (cfgM m hO).idle 2 (grid0.coords t) = !(k0_cond1 (grid0.coords t) (word (tbl m 0) 1) == 1#1) := by
    show (!(k0_cond1 (grid0.coords t) ((tbl m).atD 0 ![1]) == 1#1)) = _
    unfold Pipeline.Prefetch.Contents.atD
    rw [dif_pos (by decide)]
    exact congrArg (fun x => !(k0_cond1 (grid0.coords t) (tbl m 0 x) == 1#1)) (funext fun a => Fin.ext (by fin_cases a; rfl))
  rw [h]
  congr 1
  rw [Bool.eq_iff_iff, beq_iff_eq, decide_eq_true_eq]
  exact taken m hO t

theorem fresh2 : (cfgM m hO).fresh 2 t.val = decide (t.val % 4 ≤ qn m) :=
  Pipeline.Cfg.fresh_tab (cfgM m hO) 2 (fun n => decide (n % 4 ≤ qn m)) (by simp) (fun t => by
    rw [show (cfgM m hO).grid.coords t = grid0.coords t from rfl, idle2]
    have hq := hO.lt
    rw [Bool.eq_iff_iff, Bool.or_eq_true, flush2]
    simp only [Bool.and_eq_true, Bool.not_eq_true', decide_eq_true_eq, decide_eq_false_iff_not]
    omega) t.val t.isLt.le

theorem before2 (d) : (dats m hO 0 c).before 2 t d = if t.val % 4 ≤ qn m then d else (dats m hO 0 c).after 2 t := by
  rw [(dats m hO 0 c).before_out_traj 2 rfl (fun _ _ => rfl) (fun t _ _ hf => by
    rw [fresh2] at hf
    have := of_decide_eq_false hf
    rw [left2, left2, show at' m hO ⟨t.val - 1, by omega⟩ = at' m hO t from Fin.ext (by simp only [at']; omega)]) t.val t rfl d, fresh2]
  by_cases h : t.val % 4 ≤ qn m
  · rw [if_pos (decide_eq_true h), if_pos h]
  · rw [if_neg (by simpa using h), if_neg h, left2, left2,
      show at' m hO ⟨t.val - 1, by omega⟩ = at' m hO t from Fin.ext (by simp only [at']; omega)]

/-! ## The body's triple at a point -/

abbrev st0 : Memref sig .tc .vmem S1x1x1024x1024 .bf16 := spec0_0.stage ((cfgM m hO).slots t 0)
abbrev st1 : Memref sig .tc .vmem S1x1x1024x1024 .bf16 := spec0_1.stage ((cfgM m hO).slots t 1)
abbrev st2 : Memref sig .tc .vmem S1024x1024 .f32 := spec0_2.stage ((cfgM m hO).slots t 2)
abbrev st3 : Memref sig .tc .vmem S1x1024x1024 .bf16 := spec0_3.stage ((cfgM m hO).slots t 3)

/-- The body as the pipeline calls it. -/
abbrev bodyAt : Prog (TpuEff nD τ sig (Elt F) Λ₀ .tc) PUnit :=
  cc0_scatter_w_mlp_in_sum0 (grid0.coords t) tab (Memref.isWhole_whole _) (st0 m hO t) (hstage0_0 (((cfgM m hO).slots t 0).cast nbuf0_0))
    (st1 m hO t) (hstage0_1 (((cfgM m hO).slots t 1).cast nbuf0_1)) (st2 m hO t) (hstage0_2 (((cfgM m hO).slots t 2).cast nbuf0_2))
    (st3 m hO t) (hstage0_3 (((cfgM m hO).slots t 3).cast nbuf0_3))

/-- The windows' buffers as the body finds them at a point. -/
def given : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d)))
/-- And as it leaves them. -/
def returned : sProp 𝕄 :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ (dats m hO 0 c).leavesExact 2 t
    ∗ owns (c : Thread nD τ) (st3 m hO t) fullShare ((dats m hO 0 c).after 3 t))

/-- What the f32 sum's buffer must hold after the point is what the body left there. -/
theorem own_left (d X) (hp : t.val % 4 = qn m → X = k0_pay1 (iblk m hO c 0 t) (iblk m hO c 1 t))
    (hn : t.val % 4 ≠ qn m → X = (dats m hO 0 c).before 2 t d) :
    owns (c : Thread nD τ) (st2 m hO t) fullShare X ⊢ ((dats m hO 0 c).leavesExact 2 t : sProp 𝕄) := by
  have hi := idle2 m hO t
  unfold Dat.leavesExact
  rw [show (cfgM m hO).grid.coords t = grid0.coords t from rfl]
  by_cases h : t.val % 4 = qn m
  · rw [decide_eq_true h, Bool.not_true] at hi
    rw [hi, hp h]
    dsimp only
    rw [left2, show at' m hO t = t from Fin.ext (by simp only [at']; omega)]
    exact .rfl
  · rw [decide_eq_false h, Bool.not_false] at hi
    rw [hi, hn h]
    cases hf : ((cfgM m hO).win 2).flush t
    · dsimp only
      iintro H; iexists d; iexact H
    · dsimp only
      have h3 := (flush2 m hO t).mp hf
      have hq := hO.lt
      rw [before2, if_neg (by omega)]
      exact .rfl

theorem point : given m hO c t ⊢ wp frame (wpE (defs₀ (F := F)) Variants.none c none) Set.univ (bodyAt m hO t) (fun _ => returned m hO c t) := by
  unfold given returned bodyAt
  simp only [found0, found1]
  rw [show (dats m hO 0 c).Φ t.succ = (dats m hO 0 c).Φ t.castSucc from rfl,
    show (dats m hO 0 c).owesAt () t.succ = (dats m hO 0 c).owesAt () t.castSucc from rfl, left0, left1, left3,
    show (dats m hO 0 c).Φ t.castSucc = iprop(Pipeline.ΦA spec0 c ∗ Pipeline.ΦT pre0 (tbl m) c) from rfl, table_eq]
  iintro ⟨⟨HΦ, HT⟩, Ho, ⟨%d0, H0⟩, ⟨%d1, H1⟩, ⟨%d2, H2⟩, ⟨%d3, H3⟩⟩
  iapply (body c Set.univ (grid0.coords t) _ _ _ _ _ _ _ _ (iblk m hO c 0 t) (iblk m hO c 1 t) ((dats m hO 0 c).before 2 t d2) (tbl m 0) _)
  isplitl [H0]; · iexact H0
  isplitl [H1]; · iexact H1
  isplitl [H2]; · iexact H2
  isplitl [H3]; · iexists _; iexact H3
  isplitl [HT]; · iexact HT
  iintro ⟨H0, H1, H2, H3, HT⟩
  isplitl [HΦ HT]
  · isplitl [HΦ]; · iexact HΦ
    iexact HT
  isplitl [Ho]; · iexact Ho
  isplitl [H0]; · iexact H0
  isplitl [H1]; · iexact H1
  isplitl [H2]; · iapply (own_left m hO c t d2 _ (fun h => if_pos ((taken m hO t).mpr h)) (fun h => if_neg fun h' => h ((taken m hO t).mp h'))); iexact H2
  iexact H3

theorem obligation (c : Dev nD) : BodyObligation (dats (F := F) m hO 0 c) (defs₀ (F := F)) Variants.none () Set.univ := fun t => by
  rw [bigSep_W0, bigSep_W0, show defs₀ (F := F) .tc (cfgM m hO).body ((cfgM m hO).bodyArgs t ((cfgM m hO).slots t)) = bodyAt m hO t from by
    unfold defs₀; rw [Defs.onTc_tc]]
  exact triple_restated (point m hO c t) rfl .rfl fun _ => .rfl

/-! ## The run and the frame -/

set_option backward.isDefEq.respectTransparency.types false in
/-- Every execution ends, with the arrays as the data say and no semaphore raised. -/
theorem run_sems : θ_run defs (onTc (τ := τ) (main (F := F))) (s₀ m ρ) (fun r => (Pipeline.FramePost (Pipeline.pin pcfgs fun _ => ⟨tbl m, hO.ok⟩) (dats m hO) 0 (V m)) r ∧ r.2.sem = fun _ => 0) :=
  Pipeline.θ_run_frameP (Q' := _) pcfgs (fun _ => ⟨tbl m, hO.ok⟩) (dats m hO) (0 : Fin 1) launch0 defs₀ Variants.none m ρ main
    (hbody := fun c => (obligation m hO c).loose) (hshare := fun c => (dats m hO 0 c).share_full fun _ => rfl)
    (howed := fun _ _ => rfl) (V := V m) (hmain := hmain m Variants.none) (hA := dats_A m hO) (hpf := V_pre m)
    (hΦ := fun _ _ => rfl)

/-- Every execution ends with the results the data say, the arguments as they began, and the semaphores too. -/
theorem run_arrays : θ_run defs (onTc (τ := τ) (main (F := F))) ⟨m, fun _ => 0, ρ⟩ (fun r => (∀ c : Dev nD,
      r.2.mem ((c.tc : Thread nD τ).loc main_v0_0) = (dats m hO 0 c).arrAt 2 (cfgM m hO).N
      ∧ r.2.mem ((c.tc : Thread nD τ).loc main_v0_1) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 2, (h.1 c).1 3,
      ((h.1 c).1 0).trans (((dats m hO 0 c).arrAt_in 0 rfl _).trans (dats_A m hO c 0)),
      ((h.1 c).1 1).trans (((dats m hO 0 c).arrAt_in 1 rfl _).trans (dats_A m hO c 1)),
      (h.1 c).2 main_arg2 (by decide : main_arg2 ∈ Pipeline.restRefs sig spec0)⟩, h.2⟩) (run_sems m ρ hO)

include hO in
/-- The arguments end as they began, and so do the semaphores. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2.2, h.2⟩) (run_arrays m ρ hO)

end Cert.PairSumIdeal.Sum
-- ==== Proof.PairSumVal.lean ====
module

public import proofs.«01_k».proof.Defs
public import proofs.«01_k».proof.Proof.PairSumRun
public import proofs.«01_k».proof.Proof.Gen.Pre_device_ids
public import proofs.«01_k».proof.Proof.Gen.PairSumRefIdeal.Read
public import Idealize.ShloMosaic.Lib.Pipeline.ValueKit
public import Idealize.ShloMosaic.Lib.Pipeline.Covers
public import Idealize.ShloMosaic.PureOps.Ideal.Laws
public import Idealize.ShloMosaic.Lib.IdealHost

/-! # The pair sum: its table, and its result arrays -/

@[expose] public section

set_option maxRecDepth 16384

noncomputable section

namespace Cert.PairSumIdeal.Val

open Cert.PairSumIdeal Cert.PairSumIdeal.Gen Cert.PairSumIdeal.Sum
open Idealize.ShloMosaic Idealize.ShloMosaic.TcCoe Idealize.SL.Sem
open Idealize.ShloMosaic.Pipeline (Dat)

variable {F : FTy → Type} [FloatOps F]

/-- The f32 sum of two bf16 entries. -/
def add2 (x y : Elt F .bf16) : Elt F .f32 := FloatOps.addf (φ := .f32) (FloatOps.extf .f32 bitsLt_bf16_f32 x) (FloatOps.extf .f32 bitsLt_bf16_f32 y)

/-! ## The table's words -/

/-- A word of the table, sliced and reshaped to a scalar. -/
theorem scalar (x : IVec S2 32) (n : Fin 2) (h : S2.Slices ![n.val] Cert.PairSumRefIdeal.S1) (h' : Cert.PairSumRefIdeal.S1.ShapeCasts Cert.PairSumRefIdeal.S_) (i) :
    shapeCast Cert.PairSumRefIdeal.S_ (extractStridedSlice Cert.PairSumRefIdeal.S1 ![n.val] x h) h' i = word x n := by
  refine (shapeCast_apply _ h' i (fun a => ⟨0, by fin_cases a; decide⟩) ?_).trans
    (extractStridedSlice_apply ![n.val] x h _ (fun a => ⟨n.val, lt_of_lt_of_eq n.isLt (by fin_cases a; rfl)⟩) (fun a => by fin_cases a; rfl))
  exact congrArg Fin.val (Subsingleton.elim (α := Fin 1) _ _)

theorem words_of_pre (a : FVec F S4x2x2048x1024 .bf16) (b : FVec F S4x1x2048x1024 .bf16) (x : IVec S2 32)
    (h : Cert.Pre_device_ids.fn (F := F) a b x = fun _ => 1#1) : (word x 0).toNat < 2 ∧ (word x 1).toNat < 4 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h fun a => a.elim0
  have s0 := scalar x 0 Cert.Pre_device_ids.Gen.slices_S2_S1_0 Cert.Pre_device_ids.Gen.shapeCasts_S1_S_ fun a => a.elim0
  have s1 := scalar x 1 Cert.Pre_device_ids.Gen.slices_S2_S1_1 Cert.Pre_device_ids.Gen.shapeCasts_S1_S_ fun a => a.elim0
  have k : IntOp.andi (IntOp.andi (IntOp.andi (IntOp.cmpi .sge (word x 0) 0#32) (IntOp.cmpi .slt (word x 0) 2#32)) (IntOp.cmpi .sge (word x 1) 0#32))
      (IntOp.cmpi .slt (word x 1) 4#32) = 1#1 := by
    rw [← s0, ← s1]; exact e
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at k
  omega

/-- The first window's block of the array, from the table's first word. -/
theorem idx0 (m : (ℓ : Loc nD τ sig) → Buf (Elt F) ℓ) (i : grid0.Coords) :
    cc0_transform_0 inb_S2_S1_0 numel1_S1 (tbl m) i = ![(i 1).val, (word (tbl m 0) 0).toNat, (i 0).val, 0] := by
  have h1 : (i 1).val < 4 := (i 1).isLt
  have h0 : (i 0).val < 2 := (i 0).isLt
  have hw : (tbl m).at 0 (Rect.unit (s := S2) ![0] S1.size inb_S2_S1_0) numel1_S1 = word (tbl m 0) 0 :=
    congrArg (tbl m 0) (funext fun a => Fin.ext (by fin_cases a; rfl))
  unfold cc0_transform_0
  rw [hw]
  simp only [BitVec.toNat_ofNat]
  rw [Nat.mod_eq_of_lt (by omega), Nat.mod_eq_of_lt (by omega)]

theorem good (m : (ℓ : Loc nD τ sig) → Buf (Elt F) ℓ) (h : (word (tbl m 0) 0).toNat < 2 ∧ (word (tbl m 0) 1).toNat < 4) : Good m :=
  ⟨fun i => ⟨fun a => by
      rw [idx0]
      have h1 : (i 1).val < 4 := (i 1).isLt
      have h0 : (i 0).val < 2 := (i 0).isLt
      have := h.1
      match a with
      | 0 => show ((i 1).val + 1) * 1 ≤ 4; omega
      | 1 => show ((word (tbl m 0) 0).toNat + 1) * 1 ≤ 2; omega
      | 2 => show ((i 0).val + 1) * 1024 ≤ 2048; omega
      | 3 => show (0 + 1) * 1024 ≤ 1024; omega,
    .inr (Affine.block_words_dvd (of_decide_eq_true rfl) (by decide))⟩, h.2⟩

/-! ## The blocks -/

variable (m : (ℓ : Loc nD τ sig) → Buf (Elt F) ℓ) (hO : Good m) (c : Dev nD)

/-- The arguments. -/
abbrev ag : Vec F S4x2x2048x1024 .bf16 := m ((c : Thread nD τ).loc main_arg0)
abbrev al : Vec F S4x1x2048x1024 .bf16 := m ((c : Thread nD τ).loc main_arg1)
include hO in
theorem lt0 : (word (tbl m 0) 0).toNat < 2 := by
  obtain ⟨h, -⟩ := hO.ok (grid0.coords ⟨0, by decide⟩)
  have h := h 1
  rw [idx0] at h
  have : ((word (tbl m 0) 0).toNat + 1) * 1 ≤ 2 := h
  omega
/-- The half read, and the sum kept. -/
def e0 : Fin 2 := ⟨(word (tbl m 0) 0).toNat, lt0 m hO⟩
def e1 : Fin 4 := ⟨qn m, hO.lt⟩

variable (t : Fin (cfgM m hO).N)
abbrev pq : Fin 4 := ⟨t.val % 4, Nat.mod_lt _ (by decide)⟩
abbrev row (r : Fin 1024) : Fin 2048 := ⟨1024 * (t.val / 4) + r.val, by have h : t.val < 8 := lt_of_lt_of_eq t.isLt N_0; omega⟩

theorem co : ∀ t : Fin grid0.N, (grid0.coords t 0).val = t.val / 4 ∧ (grid0.coords t 1).val = t.val % 4 := by decide +kernel
theorem i0 : ((cfgM m hO).win 0).index t = ![t.val % 4, (e0 m hO).val, t.val / 4, 0] := by
  refine (idx0 m (grid0.coords t)).trans ?_
  rw [(co t).1, (co t).2]; rfl
theorem i1 : ((cfgM m hO).win 1).index t = ![t.val % 4, 0, t.val / 4, 0] :=
  (by decide +kernel : ∀ t : Fin grid0.N, cc0_transform_1 (grid0.coords t) = ![t.val % 4, 0, t.val / 4, 0]) t
theorem i2 : ((cfgM m hO).win 2).index t = ![t.val / 4, 0] :=
  (by decide +kernel : ∀ t : Fin grid0.N, cc0_transform_2 (grid0.coords t) = ![t.val / 4, 0]) t
theorem i3 : ((cfgM m hO).win 3).index t = ![t.val % 4, t.val / 4, 0] :=
  (by decide +kernel : ∀ t : Fin grid0.N, cc0_transform_3 (grid0.coords t) = ![t.val % 4, t.val / 4, 0]) t

theorem b0 (r k : Fin 1024) : iblk m hO c 0 t (ix4 0 0 r k) = ag m c (ix4 (pq m hO t) (e0 m hO) (row m hO t r) k) := by
  blk_point [iblk, i0 m hO t]
theorem b1 (r k : Fin 1024) : iblk m hO c 1 t (ix4 0 0 r k) = al m c (ix4 (pq m hO t) 0 (row m hO t r) k) := by
  blk_point [iblk, i1 m hO t]

section pay
variable (x y : Vec F S1x1x1024x1024 .bf16) (r k : Fin 1024)
theorem p1 : k0_pay1 x y (ix2 r k) = add2 (x (ix4 0 0 r k)) (y (ix4 0 0 r k)) := by
  pointwise [k0_pay1, add2]
theorem p2 : k0_pay2 x y (ix3 0 r k) = FloatOps.truncf .bf16 bitsLt_bf16_f32 (add2 (x (ix4 0 0 r k)) (y (ix4 0 0 r k))) := by
  pointwise [k0_pay2, p1]
end pay

/-! ## The result arrays -/

/-- The sums, and the one kept. -/
def sums : Vec F S4x2048x1024 .bf16 := fun i =>
  FloatOps.truncf .bf16 bitsLt_bf16_f32 (add2 (ag m c (ix4 (i 0) (e0 m hO) (i 1) (i 2))) (al m c (ix4 (i 0) 0 (i 1) (i 2))))
def own : Vec F S2048x1024 .f32 := fun i => add2 (ag m c (ix4 (e1 m hO) (e0 m hO) (i 0) (i 1))) (al m c (ix4 (e1 m hO) 0 (i 0) (i 1)))

theorem cov3 : ((cfgM m hO).win 3).Covers :=
  Pipeline.Window.covers_of_index_surj _ rfl (by decide : ∀ a : Fin 3, 0 < S1x1024x1024.size a) fun β => by
    have h0 : (β (0 : Fin 3)).val < 4 := (β (0 : Fin 3)).isLt.trans_eq (show (4 + 1 - 1) / 1 = 4 from rfl)
    have h1 : (β (1 : Fin 3)).val < 2 := (β (1 : Fin 3)).isLt.trans_eq (show (2048 + 1024 - 1) / 1024 = 2 from rfl)
    have h2 : (β (2 : Fin 3)).val < 1 := (β (2 : Fin 3)).isLt.trans_eq (show (1024 + 1024 - 1) / 1024 = 1 from rfl)
    refine ⟨⟨4 * (β (1 : Fin 3)).val + (β (0 : Fin 3)).val, lt_of_lt_of_eq (by omega : _ < 8) N_0.symm⟩, ?_⟩
    rw [i3]
    show ∀ a : Fin 3, _
    intro a
    match a with
    | 0 => show (4 * (β (1 : Fin 3)).val + (β (0 : Fin 3)).val) % 4 = (β (0 : Fin 3)).val; omega
    | 1 => show (4 * (β (1 : Fin 3)).val + (β (0 : Fin 3)).val) / 4 = (β (1 : Fin 3)).val; omega
    | 2 => show 0 = (β (2 : Fin 3)).val; omega
theorem cov2 : ((cfgM m hO).win 2).Covers :=
  Pipeline.Window.covers_of_index_surj _ rfl (by decide : ∀ a : Fin 2, 0 < S1024x1024.size a) fun β => by
    have h0 : (β (0 : Fin 2)).val < 2 := (β (0 : Fin 2)).isLt.trans_eq (show (2048 + 1024 - 1) / 1024 = 2 from rfl)
    have h1 : (β (1 : Fin 2)).val < 1 := (β (1 : Fin 2)).isLt.trans_eq (show (1024 + 1024 - 1) / 1024 = 1 from rfl)
    refine ⟨⟨4 * (β (0 : Fin 2)).val, lt_of_lt_of_eq (by omega : _ < 8) N_0.symm⟩, ?_⟩
    rw [i2]
    show ∀ a : Fin 2, _
    intro a
    match a with
    | 0 => show (4 * (β (0 : Fin 2)).val) / 4 = (β (0 : Fin 2)).val; omega
    | 1 => show 0 = (β (1 : Fin 2)).val; omega

theorem emb3 (W : Vec F S4x2048x1024 .bf16) (z : Fin 1) (r k : Fin 1024) :
    W (((View.whole main_v0_1).slice (((cfgM m hO).win 3).rect t)).emb (ix3 z r k)) = W (ix3 (pq m hO t) (row m hO t r) k) := by
  blk_point [i3 m hO t]
theorem emb2 (W : Vec F S2048x1024 .f32) (r k : Fin 1024) :
    W (((View.whole main_v0_0).slice (((cfgM m hO).win 2).rect t)).emb (ix2 r k)) = W (ix2 (row m hO t r) k) := by
  blk_point [i2 m hO t]

theorem final3 : (dats m hO 0 c).arrAt 3 (cfgM m hO).N = sums m hO c := by
  refine (dats m hO 0 c).arrAt_eq_of_covers 3 (sums m hO c) (cov3 m hO) fun t hf (y : S1x1024x1024.Idx) => ?_
  blk_simp
  rw [left3]
  idx_vars y
  obtain rfl : y0 = 0 := Subsingleton.elim _ _
  refine ((p2 _ _ y1 y2).trans ?_).trans (emb3 m hO t (sums m hO c) 0 y1 y2).symm
  rw [b0, b1]
  rfl

theorem final2 : (dats m hO 0 c).arrAt 2 (cfgM m hO).N = own m hO c := by
  refine (dats m hO 0 c).arrAt_eq_of_covers 2 (own m hO c) (cov2 m hO) fun t hf (y : S1024x1024.Idx) => ?_
  blk_simp
  rw [left2]
  idx_vars y
  refine ((p1 _ _ y0 y1).trans ?_).trans (emb2 m hO t (own m hO c) y0 y1).symm
  rw [b0, b1, show pq m hO (at' m hO t) = e1 m hO from Fin.ext (by have := hO.lt; show (4 * (t.val / 4) + qn m) % 4 = qn m; omega),
    show row m hO (at' m hO t) y0 = row m hO t y0 from Fin.ext (by have := hO.lt; show 1024 * ((4 * (t.val / 4) + qn m) / 4) + y0.val = 1024 * (t.val / 4) + y0.val; omega)]
  rfl

end Cert.PairSumIdeal.Val
-- ==== Proof.PairSumClaim.lean ====
module

public import proofs.«01_k».proof.Defs
public import proofs.«01_k».proof.Proof.PairSumVal
public import proofs.«01_k».proof.Proof.Gen.PairSum
public import proofs.«01_k».proof.Proof.Gen.PairSumRef.Read
public import Idealize.ShloMosaic.Lib.Claim

/-! # The pair sum against its lines -/

@[expose] public section

set_option maxRecDepth 16384

noncomputable section

namespace Cert.PairSumClaim

open Idealize.ShloMosaic Idealize.ShloMosaic.TcCoe Idealize.SL.Sem Cert.PairSumRefIdeal Cert.PairSumRefIdeal.Read
open Cert.PairSumIdeal.Sum (word)
open Cert.PairSumIdeal.Val (scalar add2)

variable {F : FTy → Type} [FloatOps F]

/-! ## The reference's arrays -/

section ref
variable (x0 : Vec F S4x2x2048x1024 .bf16) (x1 : Vec F S4x1x2048x1024 .bf16) (x2 : IVec S2 32) (e : Fin 2) (f : Fin 4)
  (he : word x2 0 = BitVec.ofNat 32 e.val) (hf : word x2 1 = BitVec.ofNat 32 f.val) (q : Fin 4) (r : Fin 2048) (k : Fin 1024)

theorem r2 (j) : val_main_v2 (F := F) x2 j = IntOp.cmpi .eq (word x2 0) 0#32 :=
  congrArg (IntOp.cmpi .eq · 0#32) (scalar x2 0 _ _ j)
theorem r14 (j) : val_main_v14 (F := F) x2 j = IntOp.cmpi .eq (word x2 1) 0#32 :=
  congrArg (IntOp.cmpi .eq · 0#32) (scalar x2 1 _ _ j)
theorem r19 (j) : val_main_v19 (F := F) x2 j = IntOp.cmpi .eq (word x2 1) 1#32 :=
  congrArg (IntOp.cmpi .eq · 1#32) (scalar x2 1 _ _ j)
theorem r24 (j) : val_main_v24 (F := F) x2 j = IntOp.cmpi .eq (word x2 1) 2#32 :=
  congrArg (IntOp.cmpi .eq · 2#32) (scalar x2 1 _ _ j)

theorem at4 : idx_main_v4 (ix3 q r k) = ix4 q 0 r k := by
  funext a
  apply Fin.ext
  match a with
  | 0 => show ((q.val * 2048 + r.val) * 1024 + k.val) / 2097152 = q.val; omega
  | 1 => rfl
  | 2 => show ((q.val * 2048 + r.val) * 1024 + k.val) / 1024 % 2048 = r.val; omega
  | 3 => show ((q.val * 2048 + r.val) * 1024 + k.val) % 1024 = k.val; omega
theorem r4 : val_main_v4 (F := F) x0 (ix3 q r k) = x0 (ix4 q 0 r k) := by
  rw [val_main_v4_apply, val_main_v3_apply, at4]
  exact congrArg x0 (funext fun a => by fin_cases a <;> rfl)
theorem r6 : val_main_v6 (F := F) x0 (ix3 q r k) = x0 (ix4 q 1 r k) := by
  rw [val_main_v6_apply, val_main_v5_apply, show idx_main_v6 (ix3 q r k) = _ from at4 q r k]
  exact congrArg x0 (funext fun a => by fin_cases a <;> rfl)
theorem r9 : val_main_v9 (F := F) x1 (ix3 q r k) = x1 (ix4 q 0 r k) :=
  (val_main_v9_apply x1 _).trans (congrArg x1 (at4 q r k))

include he in
theorem r7 : val_main_v7 (F := F) x0 x2 (ix3 q r k) = x0 (ix4 q e r k) := by
  have h : val_main_v7 (F := F) x0 x2 (ix3 q r k)
      = if IntOp.cmpi .eq (word x2 0) 0#32 = 1#1 then x0 (ix4 q 0 r k) else x0 (ix4 q 1 r k) := by
    rw [← r4 x0, ← r6 x0, ← r2 (F := F) x2 fun a => a.elim0]
    rfl
  rw [h, he]
  match e with
  | 0 => exact if_pos (by decide)
  | 1 => exact if_neg (by decide)

include he in
theorem r11 : val_main_v11 (F := F) x0 x1 x2 (ix3 q r k) = add2 (x0 (ix4 q e r k)) (x1 (ix4 q 0 r k)) := by
  rw [← r7 x0 x2 e he, ← r9 x1]; rfl

theorem at16 : idx_main_v16 (ix2 r k) = ix3 0 r k := by
  funext a
  apply Fin.ext
  match a with
  | 0 => rfl
  | 1 => show (r.val * 1024 + k.val) / 1024 % 2048 = r.val; omega
  | 2 => show (r.val * 1024 + k.val) % 1024 = k.val; omega
theorem r16 : val_main_v16 (F := F) x0 x1 x2 (ix2 r k) = val_main_v11 (F := F) x0 x1 x2 (ix3 0 r k) := by
  rw [val_main_v16_apply, val_main_v15_apply, show idx_main_v16 (ix2 r k) = _ from at16 r k]
  exact congrArg _ (funext fun a => by fin_cases a <;> rfl)
theorem r21 : val_main_v21 (F := F) x0 x1 x2 (ix2 r k) = val_main_v11 (F := F) x0 x1 x2 (ix3 1 r k) := by
  rw [val_main_v21_apply, val_main_v20_apply, show idx_main_v21 (ix2 r k) = _ from at16 r k]
  exact congrArg _ (funext fun a => by fin_cases a <;> rfl)
theorem r26 : val_main_v26 (F := F) x0 x1 x2 (ix2 r k) = val_main_v11 (F := F) x0 x1 x2 (ix3 2 r k) := by
  rw [val_main_v26_apply, val_main_v25_apply, show idx_main_v26 (ix2 r k) = _ from at16 r k]
  exact congrArg _ (funext fun a => by fin_cases a <;> rfl)
theorem r28 : val_main_v28 (F := F) x0 x1 x2 (ix2 r k) = val_main_v11 (F := F) x0 x1 x2 (ix3 3 r k) := by
  rw [val_main_v28_apply, val_main_v27_apply, show idx_main_v28 (ix2 r k) = _ from at16 r k]
  exact congrArg _ (funext fun a => by fin_cases a <;> rfl)

include hf in
theorem r31 : val_main_v31 (F := F) x0 x1 x2 (ix2 r k) = val_main_v11 (F := F) x0 x1 x2 (ix3 f r k) := by
  have h : val_main_v31 (F := F) x0 x1 x2 (ix2 r k)
      = if IntOp.cmpi .eq (word x2 1) 0#32 = 1#1 then val_main_v11 (F := F) x0 x1 x2 (ix3 0 r k)
        else if IntOp.cmpi .eq (word x2 1) 1#32 = 1#1 then val_main_v11 (F := F) x0 x1 x2 (ix3 1 r k)
        else if IntOp.cmpi .eq (word x2 1) 2#32 = 1#1 then val_main_v11 (F := F) x0 x1 x2 (ix3 2 r k)
        else val_main_v11 (F := F) x0 x1 x2 (ix3 3 r k) := by
    rw [← r16, ← r21, ← r26, ← r28, ← r14 (F := F) x2 fun a => a.elim0, ← r19 (F := F) x2 fun a => a.elim0, ← r24 (F := F) x2 fun a => a.elim0]
    rfl
  rw [h, hf]
  match f with
  | 0 => exact if_pos (by decide)
  | 1 => exact (if_neg (by decide)).trans (if_pos (by decide))
  | 2 => exact (if_neg (by decide)).trans ((if_neg (by decide)).trans (if_pos (by decide)))
  | 3 => exact (if_neg (by decide)).trans ((if_neg (by decide)).trans (if_neg (by decide)))
end ref

/-! ## The frames -/

abbrev KMem (F : FTy → Type) := (ℓ : Loc PairSumIdeal.nD PairSumIdeal.τ PairSumIdeal.sig) → Buf (Elt F) ℓ
abbrev RMem (F : FTy → Type) := (ℓ : Loc nD τ sig) → Buf (Elt F) ℓ
abbrev kl (c : Dev PairSumIdeal.nD) (b : Ref PairSumIdeal.sig .tc) : Loc PairSumIdeal.nD PairSumIdeal.τ PairSumIdeal.sig := (c.tc : Thread PairSumIdeal.nD PairSumIdeal.τ).loc b
abbrev rl (c : Dev nD) (b : Ref sig .tc) : Loc nD τ sig := (c.tc : Thread nD τ).loc b
/-- The precondition on the table. -/
abbrev Pre (m : KMem F) : Prop := ∀ c : Dev PairSumIdeal.nD, Cert.Pre_device_ids.fn (F := F) (m (kl c PairSumIdeal.main_arg0)) (m (kl c PairSumIdeal.main_arg1))
  (m (kl c PairSumIdeal.main_arg2)) = fun _ => 1#1
/-- The kernel's arguments end as they began. -/
abbrev Kept (m n : KMem F) (c : Dev PairSumIdeal.nD) : Prop := n (kl c PairSumIdeal.main_arg0) = m (kl c PairSumIdeal.main_arg0)
  ∧ n (kl c PairSumIdeal.main_arg1) = m (kl c PairSumIdeal.main_arg1) ∧ n (kl c PairSumIdeal.main_arg2) = m (kl c PairSumIdeal.main_arg2)

/-- The kernel's frame over words, stated of the text that is read over the reals: it is the same text. -/
def frameStated : Prop :=
  ∀ (m : KMem Bits) (g : Dev PairSumIdeal.nD → PrngReg), Pre m →
    θ_run (PairSumIdeal.defs (F := Bits)) (onTc (τ := PairSumIdeal.τ) (PairSumIdeal.main (F := Bits))) ⟨m, fun _ => 0, g⟩ (fun r => (∀ c, Kept m r.2.mem c) ∧ r.2.sem = fun _ => 0)

theorem frameStated_eq : frameStated = Cert.quiescent_PairSum := by sl_kernel_rfl

theorem good (m : KMem F) (h : Pre m) : Cert.PairSumIdeal.Sum.Good m :=
  Cert.PairSumIdeal.Val.good m (Cert.PairSumIdeal.Val.words_of_pre _ _ _ (h 0))

theorem frame_bits : Cert.quiescent_PairSum := frameStated_eq ▸ (fun m ρ h => Cert.PairSumIdeal.Sum.frame (F := Bits) m ρ (good m h) : frameStated)

theorem frame_ideal : Cert.quiescent_PairSumIdeal := fun m ρ h => Cert.PairSumIdeal.Sum.frame m ρ (good m h)

theorem ref_frame : Cert.quiescent_PairSumRefIdeal := by
  intro m g _
  exact (θ_run _ _ _).mono (fun r h => ⟨fun c => (h c).2.2, sem_eq_zero_of_no_sems (by decide) _⟩)
    (Cert.PairSumRefIdeal.Value.run m g)
theorem ref_frame_pre : Cert.quiescent_PairSumRefIdeal_pre_device_ids := fun m g _ => ref_frame m g trivial
theorem ref_frame_bits : Cert.quiescent_PairSumRef := by
  intro m g _
  exact (θ_run _ _ _).mono (fun r h => ⟨fun c => (h c).2.2, sem_eq_zero_of_no_sems (by decide) _⟩)
    (Cert.PairSumRef.Value.run m g)
theorem ref_frame_bits_pre : Cert.quiescent_PairSumRef_pre_device_ids := fun m g _ => ref_frame_bits m g trivial

/-! ## The claim -/

section eq
open Cert.PairSumIdeal.Sum (Good)
open Cert.PairSumIdeal.Val (own sums e0 e1)
variable (m : KMem F) (hO : Good m)

/-- The kernel's arguments. -/
abbrev a0 : Vec F S4x2x2048x1024 .bf16 := m (kl 0 PairSumIdeal.main_arg0)
abbrev a1 : Vec F S4x1x2048x1024 .bf16 := m (kl 0 PairSumIdeal.main_arg1)
abbrev a2 : IVec S2 32 := m (kl 0 PairSumIdeal.main_arg2)

theorem w0 : word (a2 m) 0 = BitVec.ofNat 32 (e0 m hO).val :=
  (show BitVec.ofNat 32 (word (a2 m) 0).toNat = _ by rw [BitVec.ofNat_toNat, BitVec.setWidth_eq]).symm
theorem w1 : word (a2 m) 1 = BitVec.ofNat 32 (e1 m hO).val :=
  (show BitVec.ofNat 32 (word (a2 m) 1).toNat = _ by rw [BitVec.ofNat_toNat, BitVec.setWidth_eq]).symm

theorem own_eq : own m hO 0 = val_main_v31 (F := F) (a0 m) (a1 m) (a2 m) := by
  funext i
  idx_vars i
  exact ((r31 (a0 m) (a1 m) (a2 m) _ (w1 m hO) i0 i1).trans (r11 (a0 m) (a1 m) (a2 m) _ (w0 m hO) _ i0 i1)).symm
theorem sums_eq : sums m hO 0 = val_main_v32 (F := F) (a0 m) (a1 m) (a2 m) := by
  funext i
  idx_vars i
  exact congrArg (FloatOps.truncf .bf16 PairSumIdeal.Gen.bitsLt_bf16_f32) (r11 (a0 m) (a1 m) (a2 m) _ (w0 m hO) i0 i1 i2).symm
end eq

/-- The kernel and its lines end with equal results, whatever the entries are. -/
def Equal (F : FTy → Type) [FloatOps F] : Prop :=
  ∀ (m : KMem F) (g : Dev PairSumIdeal.nD → PrngReg) (m' : RMem F) (g' : Dev nD → PrngReg), Pre m →
    (∀ c : Dev PairSumIdeal.nD, m' (rl c main_arg0) = m (kl c PairSumIdeal.main_arg0) ∧ m' (rl c main_arg1) = m (kl c PairSumIdeal.main_arg1)
      ∧ m' (rl c main_arg2) = m (kl c PairSumIdeal.main_arg2)) →
    ∃ (v0 : (c : Dev PairSumIdeal.nD) → Buf (Elt F) (kl c PairSumIdeal.main_v0_0)) (v1 : (c : Dev PairSumIdeal.nD) → Buf (Elt F) (kl c PairSumIdeal.main_v0_1)),
      θ_run (PairSumIdeal.defs (F := F)) (onTc (τ := PairSumIdeal.τ) (PairSumIdeal.main (F := F))) ⟨m, fun _ => 0, g⟩ (fun r => ∀ c : Dev PairSumIdeal.nD,
          r.2.mem (kl c PairSumIdeal.main_v0_0) = v0 c ∧ r.2.mem (kl c PairSumIdeal.main_v0_1) = v1 c ∧ Kept m r.2.mem c)
      ∧ θ_run (defs (F := F)) (onTc (τ := τ) (main (F := F))) ⟨m', fun _ => 0, g'⟩ (fun r => ∀ c : Dev nD,
          r.2.mem (rl c main_v31) = v0 c ∧ r.2.mem (rl c main_v32) = v1 c ∧ r.2.mem (rl c main_arg0) = m' (rl c main_arg0)
          ∧ r.2.mem (rl c main_arg1) = m' (rl c main_arg1) ∧ r.2.mem (rl c main_arg2) = m' (rl c main_arg2))

theorem equal : Equal F := by
  intro m g m' g' hpre hagree
  have hO := good m hpre
  refine ⟨fun c => _, fun c => _, (θ_run _ _ _).mono (fun r h => h.1) (Cert.PairSumIdeal.Sum.run_arrays m g hO),
    (θ_run _ _ _).mono (fun r h c => ?_) (Cert.PairSumRefIdeal.Value.run m' g')⟩
  obtain rfl : c = 0 := Subsingleton.elim _ _
  obtain ⟨h0, h1, h2⟩ := hagree 0
  refine ⟨(h 0).1.trans ((val_main_v31_eq m' 0).trans ?_), (h 0).2.1.trans ((val_main_v32_eq _ _ _).trans ?_), (h 0).2.2⟩
  · rw [h0, h1, h2]
    exact (own_eq m hO).symm.trans (Cert.PairSumIdeal.Val.final2 m hO 0).symm
  · rw [h0, h1, h2]
    exact (sums_eq m hO).symm.trans (Cert.PairSumIdeal.Val.final3 m hO 0).symm

theorem algebraic : Cert.algebraic_PairSumIdeal_PairSumRefIdeal := equal (F := Ideal)

theorem equal_eq : Equal Bits = Cert.bitexact_PairSum_PairSumRef := by sl_kernel_rfl
/-- At the bits both sides extend, add and round alike. -/
theorem bitexact : Cert.bitexact_PairSum_PairSumRef := equal_eq ▸ equal (F := Bits)

end Cert.PairSumClaim
-- ==== Proof.AdamHeadClaim.lean ====
module

public import proofs.«01_k».proof.Defs
public import proofs.«01_k».proof.Proof.Gen.AdamHead.Frame
public import proofs.«01_k».proof.Proof.Gen.AdamHeadIdeal.Value
public import proofs.«01_k».proof.Proof.Gen.AdamHeadRefIdeal.Read
public import proofs.«01_k».proof.Proof.AdamMath
public import Idealize.ShloMosaic.Lib.Claim

/-! # The optimiser's update from the small parts of one head: the claims -/

@[expose] public section

set_option maxRecDepth 16384

noncomputable section

namespace Cert.AdamHeadClaim

open Cert.AdamHeadIdeal Cert.AdamHeadIdeal.Gen Cert.AdamMath Cert.AdamHeadRefIdeal.Read
open Idealize.ShloMosaic Idealize.ShloMosaic.TcCoe Idealize.SL.Sem
open Idealize.ShloMosaic.Pipeline (Dat)

theorem ref_frame : Cert.quiescent_AdamHeadRefIdeal := by
  intro m g _
  exact (θ_run _ _ _).mono (fun r h => ⟨fun c => (h c).2.2.2.2, sem_eq_zero_of_no_sems (by decide) _⟩)
    (Cert.AdamHeadRefIdeal.Value.run m g)

/-! ## A block -/

section blk
variable (x : Vec Ideal S8x16x128 .f32) (w u v : Vec Ideal S16x128 .f32) (r : Fin 16) (k : Fin 128)

theorem ld (y : Vec Ideal S16x128 .f32) : View.ld y r0_8 (ix2 r k) = y (ix2 r k) :=
  congrFun (View.ld_unit_zero (by funext a; fin_cases a <;> rfl) _ y) _

theorem ld3 (n : Fin 8) (h) : View.ld x (Rect.unit (s := S8x16x128) ![n.val, 0, 0] S1x16x128.size h) (ix3 0 r k) = x (ix3 n r k) := by
  refine View.ld_unit_apply_of (S := S8x16x128) x ![n.val, 0, 0] S1x16x128.size h (ix3 0 r k) (ix3 n r k) ?_
  intro a
  match a with
  | 0 => simp
  | 1 => simp
  | 2 => simp

/-- The gradient at an entry: the sum of the devices' parts. -/
def gb : EReal := ∑ n : Fin 8, x (ix3 n r k)

theorem p4 (a b c d e f g h : Vec Ideal S1x16x128 .f32) :
    k0_pay4 (F := Ideal) a b c d e f g h (ix2 r k) = a (ix3 0 r k) + b (ix3 0 r k) + c (ix3 0 r k) + d (ix3 0 r k)
      + e (ix3 0 r k) + f (ix3 0 r k) + g (ix3 0 r k) + h (ix3 0 r k) := by
  pointwise [k0_pay4]
theorem p6 : k0_pay6 (F := Ideal) x w u v (ix2 r k) = gb x r k :=
  (p4 r k _ _ _ _ _ _ _ _).trans (sum8 (fun n => x (ix3 n r k)) (ld3 x r k 0 _) (ld3 x r k 1 _) (ld3 x r k 2 _) (ld3 x r k 3 _)
    (ld3 x r k 4 _) (ld3 x r k 5 _) (ld3 x r k 6 _) (ld3 x r k 7 _))
theorem p1 : k0_pay1 (F := Ideal) w (k0_pay5 u) (ix2 r k) = mom (u (ix2 r k)) (w (ix2 r k)) := by
  pointwise [k0_pay1, k0_pay5, mom]
theorem p2 : k0_pay2 (F := Ideal) w v (ix2 r k) = vel (v (ix2 r k)) (w (ix2 r k)) := by
  pointwise [k0_pay2, vel]
theorem p3 (g : Vec Ideal S16x128 .f32) : k0_pay3 (F := Ideal) g w v (k0_pay5 u) (ix2 r k)
    = step (w (ix2 r k)) (mom (u (ix2 r k)) (g (ix2 r k))) (vel (v (ix2 r k)) (g (ix2 r k))) := by
  pointwise [k0_pay3, p1, p2, step]

theorem g_blk : out0_4 (F := Ideal) x w u v (ix2 r k) = gb x r k := by
  unfold out0_4
  rw [View.canon_unit_zero (by funext a; fin_cases a <;> rfl)]
  exact p6 x w u v r k
theorem d_blk : out0_5 (F := Ideal) x w u v (ix2 r k) = step (w (ix2 r k)) (mom (u (ix2 r k)) (gb x r k)) (vel (v (ix2 r k)) (gb x r k)) := by
  unfold out0_5
  rw [View.canon_unit_zero (by funext a; fin_cases a <;> rfl)]
  refine (p3 _ _ _ r k _).trans ?_
  rw [p6, ld, ld, ld]
theorem m_blk : out0_6 (F := Ideal) x w u v (ix2 r k) = mom (u (ix2 r k)) (gb x r k) := by
  unfold out0_6
  rw [View.canon_unit_zero (by funext a; fin_cases a <;> rfl)]
  refine (p1 _ _ r k).trans ?_
  rw [p6, ld]
theorem v_blk : out0_7 (F := Ideal) x w u v (ix2 r k) = vel (v (ix2 r k)) (gb x r k) := by
  unfold out0_7
  rw [View.canon_unit_zero (by funext a; fin_cases a <;> rfl)]
  refine (p2 _ _ r k).trans ?_
  rw [p6, ld]
end blk

/-! ## The reference's arrays -/

section ref
variable (x : Vec Ideal S8x16x128 .f32) (w u v : Vec Ideal S16x128 .f32) (i : Fin 16) (k : Fin 128)

/-- The gradient of whole arrays. -/
def gA : EReal := ∑ n : Fin 8, x (ix3 n i k)

theorem rg : val_main_v0 (F := Ideal) x (ix2 i k) = gA x i k := by
  refine Eq.trans (b := Ideal.ofBits .f32 0x00000000#32 + ∑ n : Fin 8, x (ix3 n i k)) (by pointwise [val_main_v0, val_main_cst]) ?_
  rw [nil, zero_add]
  rfl
theorem rm : val_main_v5 (F := Ideal) x u (ix2 i k) = mom (u (ix2 i k)) (gA x i k) := by
  pointwise [val_main_v5, val_main_v4, val_main_v3, val_main_v2, val_main_v1, val_main_cst_0, val_main_cst_1, rg, mom]
theorem rv : val_main_v11 (F := Ideal) x v (ix2 i k) = vel (v (ix2 i k)) (gA x i k) := by
  pointwise [val_main_v11, val_main_v10, val_main_v9, val_main_v8, val_main_v7, val_main_v6, val_main_cst_2, val_main_cst_3, rg, vel]
theorem rd : val_main_v24 (F := Ideal) x w u v (ix2 i k) = step (w (ix2 i k)) (mom (u (ix2 i k)) (gA x i k)) (vel (v (ix2 i k)) (gA x i k)) := by
  pointwise [val_main_v24, val_main_v23, val_main_v22, val_main_v21, val_main_v20, val_main_v19, val_main_v18, val_main_v17, val_main_v16, val_main_v15, val_main_v14, val_main_v13, val_main_v12, val_main_cst_4, val_main_cst_5, val_main_cst_6, val_main_cst_7, val_main_cst_8, rm, rv, step]
end ref

/-! ## The kernel's arrays -/

section arrays
variable (m : (ℓ : Loc nD τ sig) → Buf (Elt Ideal) ℓ) (c : Dev nD) (t : Fin cfg0.N) (r : Fin 16) (k : Fin 128)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The row of the array that row `r` of block `t` is. -/
abbrev row : Fin 16 := ⟨t.val * 16 + r.val, by have : t.val < 1 := lt_of_lt_of_eq t.isLt N_0; omega⟩

abbrev A0 : Vec Ideal S8x16x128 .f32 := m ((c.tc : Thread nD τ).loc main_arg0)
abbrev A1 : Vec Ideal S16x128 .f32 := m ((c.tc : Thread nD τ).loc main_arg1)
abbrev A2 : Vec Ideal S16x128 .f32 := m ((c.tc : Thread nD τ).loc main_arg2)
abbrev A3 : Vec Ideal S16x128 .f32 := m ((c.tc : Thread nD τ).loc main_arg3)

theorem b0 (n : Fin 8) : iblk m c 0 t (ix3 n r k) = A0 m c (ix3 n (row t r) k) := by
  blk_point [iblk, idx t]
theorem b1 : iblk m c 1 t (ix2 r k) = A1 m c (ix2 (row t r) k) := by
  blk_point [iblk, idx t]
theorem b2 : iblk m c 2 t (ix2 r k) = A2 m c (ix2 (row t r) k) := by
  blk_point [iblk, idx t]
theorem b3 : iblk m c 3 t (ix2 r k) = A3 m c (ix2 (row t r) k) := by
  blk_point [iblk, idx t]
theorem gbb : gb (iblk m c 0 t) r k = gA (A0 m c) (row t r) k := Finset.sum_congr rfl fun n _ => b0 m c t r k n

variable (W : Vec Ideal S16x128 .f32)
theorem emb4 : W (((View.whole main_v0_0).slice (win0_4.rect t)).emb (ix2 r k)) = W (ix2 (row t r) k) := by
  blk_point [idx t]
theorem emb5 : W (((View.whole main_v0_1).slice (win0_5.rect t)).emb (ix2 r k)) = W (ix2 (row t r) k) := by
  blk_point [idx t]
theorem emb6 : W (((View.whole main_v0_2).slice (win0_6.rect t)).emb (ix2 r k)) = W (ix2 (row t r) k) := by
  blk_point [idx t]
theorem emb7 : W (((View.whole main_v0_3).slice (win0_7.rect t)).emb (ix2 r k)) = W (ix2 (row t r) k) := by
  blk_point [idx t]

theorem final4 : (dats m 0 c).arrAt 4 cfg0.N = val_main_v0 (F := Ideal) (A0 m c) := by
  refine (dats m 0 c).arrAt_eq_of_covers 4 _ (by decide +kernel) fun t hf y => ?_
  blk_simp
  rw [after0_4]
  idx_vars y
  exact ((g_blk _ _ _ _ y0 y1).trans (gbb m c t y0 y1)).trans ((emb4 t y0 y1 _).trans (rg _ _ _)).symm
theorem final5 : (dats m 0 c).arrAt 5 cfg0.N = val_main_v24 (F := Ideal) (A0 m c) (A1 m c) (A2 m c) (A3 m c) := by
  refine (dats m 0 c).arrAt_eq_of_covers 5 _ (by decide +kernel) fun t hf y => ?_
  blk_simp
  rw [after0_5]
  idx_vars y
  exact ((d_blk _ _ _ _ y0 y1).trans (by rw [gbb, b1, b2, b3])).trans ((emb5 t y0 y1 _).trans (rd _ _ _ _ _ _)).symm
theorem final6 : (dats m 0 c).arrAt 6 cfg0.N = val_main_v5 (F := Ideal) (A0 m c) (A2 m c) := by
  refine (dats m 0 c).arrAt_eq_of_covers 6 _ (by decide +kernel) fun t hf y => ?_
  blk_simp
  rw [after0_6]
  idx_vars y
  exact ((m_blk _ _ _ _ y0 y1).trans (by rw [gbb, b2])).trans ((emb6 t y0 y1 _).trans (rm _ _ _ _)).symm
theorem final7 : (dats m 0 c).arrAt 7 cfg0.N = val_main_v11 (F := Ideal) (A0 m c) (A3 m c) := by
  refine (dats m 0 c).arrAt_eq_of_covers 7 _ (by decide +kernel) fun t hf y => ?_
  blk_simp
  rw [after0_7]
  idx_vars y
  exact ((v_blk _ _ _ _ y0 y1).trans (by rw [gbb, b3])).trans ((emb7 t y0 y1 _).trans (rv _ _ _ _)).symm
end arrays

theorem algebraic : Cert.algebraic_AdamHeadIdeal_AdamHeadRefIdeal := by
  intro m g m' g' _ hagree
  refine ⟨fun c => _, fun c => _, fun c => _, fun c => _, Cert.AdamHeadIdeal.Value.run_blocks m g,
    (θ_run _ _ _).mono (fun r h c => ?_) (Cert.AdamHeadRefIdeal.Value.run m' g')⟩
  obtain ⟨h0, h1, h2, h3⟩ := hagree c
  refine ⟨((h c).1.trans (val_main_v0_eq _)).trans ?_, ((h c).2.1.trans (val_main_v24_eq _ _ _ _)).trans ?_,
    ((h c).2.2.1.trans (val_main_v5_eq _ _)).trans ?_, ((h c).2.2.2.1.trans (val_main_v11_eq _ _)).trans ?_, (h c).2.2.2.2⟩
  · rw [h0]; exact (final4 m c).symm
  · rw [h0, h1, h2, h3]; exact (final5 m c).symm
  · rw [h0, h2]; exact (final6 m c).symm
  · rw [h0, h3]; exact (final7 m c).symm

end Cert.AdamHeadClaim
-- ==== Proof.AdamRepClaim.lean ====
module

public import proofs.«01_k».proof.Defs
public import proofs.«01_k».proof.Proof.Gen.AdamRep.Frame
public import proofs.«01_k».proof.Proof.Gen.AdamRepIdeal.Value
public import proofs.«01_k».proof.Proof.Gen.AdamRepRefIdeal.Read
public import proofs.«01_k».proof.Proof.AdamMath
public import Idealize.ShloMosaic.Lib.VecWindow
public import Idealize.ShloMosaic.Lib.Claim

/-! # The optimiser's update of the arrays every device holds: the claims -/

@[expose] public section

set_option maxRecDepth 16384

noncomputable section

namespace Cert.AdamRepClaim

open Cert.AdamRepIdeal Cert.AdamRepIdeal.Gen Cert.AdamMath Cert.AdamRepRefIdeal.Read
open Idealize.ShloMosaic Idealize.ShloMosaic.TcCoe Idealize.SL.Sem
open Idealize.ShloMosaic.Pipeline (Dat)

theorem ref_frame : Cert.quiescent_AdamRepRefIdeal := by
  intro m g _
  exact (θ_run _ _ _).mono (fun r h => ⟨fun c => (h c).2.2.2.2, sem_eq_zero_of_no_sems (by decide) _⟩)
    (Cert.AdamRepRefIdeal.Value.run m g)

/-! ## A block -/

section blk
variable (x : Vec Ideal S8x2088x128 .f32) (w u v : Vec Ideal S2088x128 .f32) (r : Fin 2088) (k : Fin 128)

theorem ld (y : Vec Ideal S2088x128 .f32) (h) : View.ld y (Rect.unit (s := S2088x128) ![0, 0] S2088x128.size h) (ix2 r k) = y (ix2 r k) :=
  congrFun (View.ld_unit_zero (by funext a; fin_cases a <;> rfl) _ y) _

theorem ld3 (n : Fin 8) (h) : View.ld x (Rect.unit (s := S8x2088x128) ![n.val, 0, 0] S1x2088x128.size h) (ix3 0 r k) = x (ix3 n r k) := by
  refine View.ld_unit_apply_of (S := S8x2088x128) x ![n.val, 0, 0] S1x2088x128.size h (ix3 0 r k) (ix3 n r k) ?_
  intro a
  match a with
  | 0 => simp
  | 1 => simp
  | 2 => simp

/-- The gradient at an entry: the sum of the devices' parts. -/
def gb : EReal := ∑ n : Fin 8, x (ix3 n r k)

theorem p4 (a b c d e f g h : Vec Ideal S1x2088x128 .f32) :
    k0_pay4 (F := Ideal) a b c d e f g h (ix2 r k) = a (ix3 0 r k) + b (ix3 0 r k) + c (ix3 0 r k) + d (ix3 0 r k)
      + e (ix3 0 r k) + f (ix3 0 r k) + g (ix3 0 r k) + h (ix3 0 r k) := by
  pointwise [k0_pay4]
theorem p6 (h0 h1 h2 h3 h4 h5 h6 h7) : k0_pay4 (F := Ideal) (View.ld x (Rect.unit (s := S8x2088x128) ![0, 0, 0] S1x2088x128.size h0)) (View.ld x (Rect.unit (s := S8x2088x128) ![1, 0, 0] S1x2088x128.size h1)) (View.ld x (Rect.unit (s := S8x2088x128) ![2, 0, 0] S1x2088x128.size h2)) (View.ld x (Rect.unit (s := S8x2088x128) ![3, 0, 0] S1x2088x128.size h3)) (View.ld x (Rect.unit (s := S8x2088x128) ![4, 0, 0] S1x2088x128.size h4)) (View.ld x (Rect.unit (s := S8x2088x128) ![5, 0, 0] S1x2088x128.size h5)) (View.ld x (Rect.unit (s := S8x2088x128) ![6, 0, 0] S1x2088x128.size h6)) (View.ld x (Rect.unit (s := S8x2088x128) ![7, 0, 0] S1x2088x128.size h7)) (ix2 r k) = gb x r k :=
  (p4 r k _ _ _ _ _ _ _ _).trans (sum8 (fun n => x (ix3 n r k)) (ld3 x r k 0 _) (ld3 x r k 1 _) (ld3 x r k 2 _) (ld3 x r k 3 _)
    (ld3 x r k 4 _) (ld3 x r k 5 _) (ld3 x r k 6 _) (ld3 x r k 7 _))
theorem p1 : k0_pay1 (F := Ideal) w (k0_pay5 u) (ix2 r k) = mom (u (ix2 r k)) (w (ix2 r k)) := by
  pointwise [k0_pay1, k0_pay5, mom]
theorem p2 : k0_pay2 (F := Ideal) w v (ix2 r k) = vel (v (ix2 r k)) (w (ix2 r k)) := by
  pointwise [k0_pay2, vel]
theorem p3 (g : Vec Ideal S2088x128 .f32) : k0_pay3 (F := Ideal) g w v (k0_pay5 u) (ix2 r k)
    = step (w (ix2 r k)) (mom (u (ix2 r k)) (g (ix2 r k))) (vel (v (ix2 r k)) (g (ix2 r k))) := by
  pointwise [k0_pay3, p1, p2, step]

variable {c : Dev nD} {i : grid0.Coords} {a1 : Memref sig .tc .vmem S8x2088x128 .f32} {b1 : a1.IsWhole} {a2 : Memref sig .tc .vmem S2088x128 .f32} {b2 : a2.IsWhole} {a3 : Memref sig .tc .vmem S2088x128 .f32} {b3 : a3.IsWhole} {a4 : Memref sig .tc .vmem S2088x128 .f32} {b4 : a4.IsWhole} {a5 : Memref sig .tc .vmem S2088x128 .f32} {b5 : a5.IsWhole} {a6 : Memref sig .tc .vmem S2088x128 .f32} {b6 : a6.IsWhole} {a7 : Memref sig .tc .vmem S2088x128 .f32} {b7 : a7.IsWhole} {a8 : Memref sig .tc .vmem S2088x128 .f32} {b8 : a8.IsWhole}

theorem r0 : kernelRun0_A.sl.r (F := Ideal) c a1 b1 x (ix2 r k) = gb x r k := by
  unfold kernelRun0_A.sl.r
  simp only [View.readAt_eq_ld, Memref.IsWhole.read_unread]
  exact p6 x r k _ _ _ _ _ _ _ _
theorem ldw (y : Vec Ideal S2088x128 .f32) (h) :
    View.readAt (Elt Ideal) a2.view (Rect.unit (s := S2088x128) ![0, 0] S2088x128.size h).toLoadRect (b2.unread y) (ix2 r k) = y (ix2 r k) := by
  simp only [View.readAt_eq_ld, Memref.IsWhole.read_unread]
  exact ld r k y h
theorem r1 : kernelRun0_A.sl.r_1 (F := Ideal) c a2 b2 w (ix2 r k) = w (ix2 r k) := ldw r k w _
theorem r2 : kernelRun0_A.sl.r_2 (F := Ideal) c a4 b4 v (ix2 r k) = v (ix2 r k) := ldw r k v _
theorem g_blk : out0_A_4 (F := Ideal) c i a1 b1 a2 b2 a3 b3 a4 b4 a5 b5 a6 b6 a7 b7 a8 b8 x w u v (ix2 r k) = gb x r k := by
  unfold out0_A_4
  refine (congrFun (View.read_writes_full _ _ _ _ _) _).trans ?_
  exact r0 x r k
theorem d_blk : out0_A_5 (F := Ideal) c i a1 b1 a2 b2 a3 b3 a4 b4 a5 b5 a6 b6 a7 b7 a8 b8 x w u v (ix2 r k) = step (w (ix2 r k)) (mom (u (ix2 r k)) (gb x r k)) (vel (v (ix2 r k)) (gb x r k)) := by
  unfold out0_A_5
  refine (congrFun (View.read_writes_full _ _ _ _ _) _).trans ?_
  exact (p3 _ _ _ r k _).trans (by rw [r0, r1, r2, ldw])
theorem m_blk : out0_A_6 (F := Ideal) c i a1 b1 a2 b2 a3 b3 a4 b4 a5 b5 a6 b6 a7 b7 a8 b8 x w u v (ix2 r k) = mom (u (ix2 r k)) (gb x r k) := by
  unfold out0_A_6
  refine (congrFun (View.read_writes_full _ _ _ _ _) _).trans ?_
  exact (p1 _ _ r k).trans (by rw [r0, ldw])
theorem v_blk : out0_A_7 (F := Ideal) c i a1 b1 a2 b2 a3 b3 a4 b4 a5 b5 a6 b6 a7 b7 a8 b8 x w u v (ix2 r k) = vel (v (ix2 r k)) (gb x r k) := by
  unfold out0_A_7
  refine (congrFun (View.read_writes_full _ _ _ _ _) _).trans ?_
  exact (p2 _ _ r k).trans (by rw [r0, r2])
end blk

/-! ## The reference's arrays -/

section ref
variable (x : Vec Ideal S8x4312x128 .f32) (w u v : Vec Ideal S4176x128 .f32) (i : Fin 4176) (k : Fin 128)

/-- The gradient of whole arrays. -/
def gA : EReal := ∑ n : Fin 8, x (ix3 n ⟨i.val, by omega⟩ k)

theorem rg : val_main_v1 (F := Ideal) x (ix2 i k) = gA x i k := by
  refine Eq.trans (b := Ideal.ofBits .f32 0x00000000#32 + ∑ n : Fin 8, val_main_v0 (F := Ideal) x (ix3 n i k)) (by pointwise [val_main_v1, val_main_cst]) ?_
  rw [nil, zero_add]
  refine Finset.sum_congr rfl fun n _ => (val_main_v0_apply x _).trans (congrArg x (funext fun a => Fin.ext ?_))
  match a with
  | 0 => rfl
  | 1 => rfl
  | 2 => rfl
theorem rm : val_main_v6 (F := Ideal) x u (ix2 i k) = mom (u (ix2 i k)) (gA x i k) := by
  pointwise [val_main_v6, val_main_v5, val_main_v4, val_main_v3, val_main_v2, val_main_cst_0, val_main_cst_1, rg, mom]
theorem rv : val_main_v12 (F := Ideal) x v (ix2 i k) = vel (v (ix2 i k)) (gA x i k) := by
  pointwise [val_main_v12, val_main_v11, val_main_v10, val_main_v9, val_main_v8, val_main_v7, val_main_cst_2, val_main_cst_3, rg, vel]
theorem rd : val_main_v25 (F := Ideal) x w u v (ix2 i k) = step (w (ix2 i k)) (mom (u (ix2 i k)) (gA x i k)) (vel (v (ix2 i k)) (gA x i k)) := by
  pointwise [val_main_v25, val_main_v24, val_main_v23, val_main_v22, val_main_v21, val_main_v20, val_main_v19, val_main_v18, val_main_v17, val_main_v16, val_main_v15, val_main_v14, val_main_v13, val_main_cst_4, val_main_cst_5, val_main_cst_6, val_main_cst_7, val_main_cst_8, rm, rv, step]
end ref

/-! ## The kernel's arrays -/

section arrays
variable (m : (ℓ : Loc nD τ sig) → Buf (Elt Ideal) ℓ) (c : Dev nD) (t : Fin cfg0.N) (r : Fin 2088) (k : Fin 128)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The row of the array that row `r` of block `t` is. -/
abbrev row : Fin 4176 := ⟨t.val * 2088 + r.val, by have : t.val < 2 := lt_of_lt_of_eq t.isLt N_0; omega⟩

abbrev A0 : Vec Ideal S8x4312x128 .f32 := m ((c.tc : Thread nD τ).loc main_arg0)
abbrev A1 : Vec Ideal S4176x128 .f32 := m ((c.tc : Thread nD τ).loc main_arg1)
abbrev A2 : Vec Ideal S4176x128 .f32 := m ((c.tc : Thread nD τ).loc main_arg2)
abbrev A3 : Vec Ideal S4176x128 .f32 := m ((c.tc : Thread nD τ).loc main_arg3)

theorem b0 (n : Fin 8) : X0_0 m c t (ix3 n r k) = A0 m c (ix3 n ⟨(row t r).val, by omega⟩ k) := by
  unfold X0_0 Pipeline.Window.fill
  rw [dif_pos (moved0_0 t _)]
  blk_point [iblk, idx t]
theorem b1 : iblk m c 1 t (ix2 r k) = A1 m c (ix2 (row t r) k) := by
  blk_point [iblk, idx t]
theorem b2 : iblk m c 2 t (ix2 r k) = A2 m c (ix2 (row t r) k) := by
  blk_point [iblk, idx t]
theorem b3 : iblk m c 3 t (ix2 r k) = A3 m c (ix2 (row t r) k) := by
  blk_point [iblk, idx t]
theorem gbb : gb (X0_0 m c t) r k = gA (A0 m c) (row t r) k := Finset.sum_congr rfl fun n _ => b0 m c t r k n

variable (W : Vec Ideal S4176x128 .f32)
theorem emb4 : W (((View.whole main_v0_0).slice (win0_4.rect t)).emb (ix2 r k)) = W (ix2 (row t r) k) := by
  blk_point [idx t]
theorem emb5 : W (((View.whole main_v0_1).slice (win0_5.rect t)).emb (ix2 r k)) = W (ix2 (row t r) k) := by
  blk_point [idx t]
theorem emb6 : W (((View.whole main_v0_2).slice (win0_6.rect t)).emb (ix2 r k)) = W (ix2 (row t r) k) := by
  blk_point [idx t]
theorem emb7 : W (((View.whole main_v0_3).slice (win0_7.rect t)).emb (ix2 r k)) = W (ix2 (row t r) k) := by
  blk_point [idx t]

theorem final4 : (dats m 0 c).arrAt 4 cfg0.N = val_main_v1 (F := Ideal) (A0 m c) := by
  refine (dats m 0 c).arrAt_eq_of_covers 4 _ (by decide +kernel) fun t hf y => ?_
  blk_simp
  rw [after0_4]
  unfold outsAt0
  idx_vars y
  exact ((g_blk _ _ _ _ y0 y1).trans (gbb m c t y0 y1)).trans ((emb4 t y0 y1 _).trans (rg _ _ _)).symm
theorem final5 : (dats m 0 c).arrAt 5 cfg0.N = val_main_v25 (F := Ideal) (A0 m c) (A1 m c) (A2 m c) (A3 m c) := by
  refine (dats m 0 c).arrAt_eq_of_covers 5 _ (by decide +kernel) fun t hf y => ?_
  blk_simp
  rw [after0_5]
  unfold outsAt0
  idx_vars y
  exact ((d_blk _ _ _ _ y0 y1).trans (by rw [gbb, b1, b2, b3])).trans ((emb5 t y0 y1 _).trans (rd _ _ _ _ _ _)).symm
theorem final6 : (dats m 0 c).arrAt 6 cfg0.N = val_main_v6 (F := Ideal) (A0 m c) (A2 m c) := by
  refine (dats m 0 c).arrAt_eq_of_covers 6 _ (by decide +kernel) fun t hf y => ?_
  blk_simp
  rw [after0_6]
  unfold outsAt0
  idx_vars y
  exact ((m_blk _ _ _ _ y0 y1).trans (by rw [gbb, b2])).trans ((emb6 t y0 y1 _).trans (rm _ _ _ _)).symm
theorem final7 : (dats m 0 c).arrAt 7 cfg0.N = val_main_v12 (F := Ideal) (A0 m c) (A3 m c) := by
  refine (dats m 0 c).arrAt_eq_of_covers 7 _ (by decide +kernel) fun t hf y => ?_
  blk_simp
  rw [after0_7]
  unfold outsAt0
  idx_vars y
  exact ((v_blk _ _ _ _ y0 y1).trans (by rw [gbb, b3])).trans ((emb7 t y0 y1 _).trans (rv _ _ _ _)).symm
end arrays

theorem algebraic : Cert.algebraic_AdamRepIdeal_AdamRepRefIdeal := by
  intro m g m' g' _ hagree
  refine ⟨fun c => _, fun c => _, fun c => _, fun c => _, Cert.AdamRepIdeal.Value.run_blocks m g,
    (θ_run _ _ _).mono (fun r h c => ?_) (Cert.AdamRepRefIdeal.Value.run m' g')⟩
  obtain ⟨h0, h1, h2, h3⟩ := hagree c
  refine ⟨((h c).1.trans (val_main_v1_eq _)).trans ?_, ((h c).2.1.trans (val_main_v25_eq _ _ _ _)).trans ?_,
    ((h c).2.2.1.trans (val_main_v6_eq _ _)).trans ?_, ((h c).2.2.2.1.trans (val_main_v12_eq _ _)).trans ?_, (h c).2.2.2.2⟩
  · rw [h0]; exact (final4 m c).symm
  · rw [h0, h1, h2, h3]; exact (final5 m c).symm
  · rw [h0, h2]; exact (final6 m c).symm
  · rw [h0, h3]; exact (final7 m c).symm

end Cert.AdamRepClaim
-- ==== Proof.lean ====
module

public import proofs.«01_k».proof.Defs
public import proofs.«01_k».proof.Proof.Gen.Pre_ln_loss_finite
public import proofs.«01_k».proof.Proof.LnLossClaim
public import proofs.«01_k».proof.Proof.PoolClaim
public import proofs.«01_k».proof.Proof.GateClaim
public import proofs.«01_k».proof.Proof.Gen.Pre_mix_norm_finite
public import proofs.«01_k».proof.Proof.PoolFwdClaim
public import proofs.«01_k».proof.Proof.MixClaim
public import proofs.«01_k».proof.Proof.LruClaim
public import proofs.«01_k».proof.Proof.OutClaim
public import proofs.«01_k».proof.Proof.MlpClaim
public import proofs.«01_k».proof.Proof.AdamClaim
public import proofs.«01_k».proof.Proof.GradXClaim
public import proofs.«01_k».proof.Proof.LossSumClaim
public import proofs.«01_k».proof.Proof.CastXClaim
public import proofs.«01_k».proof.Proof.PairSumClaim
public import proofs.«01_k».proof.Proof.AdamHeadClaim
public import proofs.«01_k».proof.Proof.AdamRepClaim
public import Idealize.ShloMosaic.Lib.Claim
public import Idealize.ShloMosaic.Adequacy
public import Idealize.ShloMosaic.Init

@[expose] public section

noncomputable section

namespace Cert.Proof

open Idealize.ShloMosaic Idealize.SL.Sem

theorem claim : Cert.Claim := ⟨Cert.LnLoss.Gen.facts, Cert.LnLossIdeal.Gen.facts, Cert.LnLossRefIdeal.Gen.facts,
  Cert.PoolBwd.Gen.facts, Cert.PoolBwdIdeal.Gen.facts, Cert.PoolBwdRefIdeal.Gen.facts,
  Cert.Gate.Gen.facts, Cert.GateIdeal.Gen.facts, Cert.GateRefIdeal.Gen.facts,
  Cert.MixBwd.Gen.facts, Cert.MixBwdIdeal.Gen.facts, Cert.MixBwdRefIdeal.Gen.facts,
  Cert.PoolFwd.Gen.facts, Cert.PoolFwdIdeal.Gen.facts, Cert.PoolFwdRefIdeal.Gen.facts,
  Cert.LruFwd.Gen.facts, Cert.LruFwdIdeal.Gen.facts, Cert.LruFwdRefIdeal.Gen.facts,
  Cert.MixOut.Gen.facts, Cert.MixOutIdeal.Gen.facts, Cert.MixOutRefIdeal.Gen.facts,
  Cert.MlpOut.Gen.facts, Cert.MlpOutIdeal.Gen.facts, Cert.MlpOutRefIdeal.Gen.facts,
  Cert.Adam.Gen.facts, Cert.AdamIdeal.Gen.facts, Cert.AdamRefIdeal.Gen.facts,
  Cert.GradX.Gen.facts, Cert.GradXIdeal.Gen.facts, Cert.GradXRefIdeal.Gen.facts,
  Cert.LossSum.Gen.facts, Cert.LossSumIdeal.Gen.facts, Cert.LossSumRefIdeal.Gen.facts,
  Cert.CastX.Gen.facts, Cert.CastXIdeal.Gen.facts, Cert.CastXRefIdeal.Gen.facts, Cert.CastXRef.Gen.facts,
  Cert.PairSum.Gen.facts, Cert.PairSumIdeal.Gen.facts, Cert.PairSumRefIdeal.Gen.facts, Cert.PairSumRef.Gen.facts,
  Cert.AdamHead.Gen.facts, Cert.AdamHeadIdeal.Gen.facts, Cert.AdamHeadRefIdeal.Gen.facts,
  Cert.AdamRep.Gen.facts, Cert.AdamRepIdeal.Gen.facts, Cert.AdamRepRefIdeal.Gen.facts,
  Cert.Pre_ln_loss_finite.Gen.facts, Cert.Pre_mix_norm_finite.Gen.facts, Cert.Pre_device_ids.Gen.facts,
  fun m ρ _ => Cert.LnLoss.Gen.frame m ρ, fun m ρ _ => Cert.LnLossIdeal.Gen.frame m ρ, Cert.LnLossClaim.frame_pre, Cert.LnLossClaim.ref_frame, Cert.LnLossClaim.ref_frame_pre,
  Cert.PoolClaim.frame_bits, Cert.PoolClaim.frame_ideal, Cert.PoolClaim.ref_frame,
  fun m ρ _ => Cert.Gate.Gen.frame m ρ, fun m ρ _ => Cert.GateIdeal.Gen.frame m ρ, Cert.GateClaim.ref_frame,
  fun m ρ _ => Cert.MixBwd.Gen.frame m ρ, fun m ρ _ => Cert.MixBwdIdeal.Gen.frame m ρ, Cert.MixClaim.frame_pre, Cert.MixClaim.ref_frame, Cert.MixClaim.ref_frame_pre,
  Cert.PoolFwdClaim.frame_bits, Cert.PoolFwdClaim.frame_ideal, Cert.PoolFwdClaim.ref_frame,
  Cert.LruFwdClaim.frame_bits, Cert.LruFwdClaim.frame_ideal, Cert.LruFwdClaim.ref_frame,
  fun m ρ _ => Cert.MixOut.Gen.frame m ρ, fun m ρ _ => Cert.MixOutIdeal.Gen.frame m ρ, Cert.OutClaim.ref_frame,
  fun m ρ _ => Cert.MlpOut.Gen.frame m ρ, fun m ρ _ => Cert.MlpOutIdeal.Gen.frame m ρ, Cert.MlpClaim.ref_frame,
  fun m ρ _ => Cert.Adam.Gen.frame m ρ, fun m ρ _ => Cert.AdamIdeal.Gen.frame m ρ, Cert.AdamClaim.ref_frame,
  fun m ρ _ => Cert.GradX.Gen.frame m ρ, fun m ρ _ => Cert.GradXIdeal.Gen.frame m ρ, Cert.GradXClaim.ref_frame,
  fun m ρ _ => Cert.LossSum.Gen.frame m ρ, fun m ρ _ => Cert.LossSumIdeal.Gen.frame m ρ, Cert.LossSumClaim.ref_frame,
  fun m ρ _ => Cert.CastX.Gen.frame m ρ, fun m ρ _ => Cert.CastXIdeal.Gen.frame m ρ, Cert.CastXClaim.ref_frame, Cert.CastXClaim.ref_frame_bits,
  Cert.PairSumClaim.frame_bits, Cert.PairSumClaim.frame_ideal, Cert.PairSumClaim.ref_frame, Cert.PairSumClaim.ref_frame_pre,
  Cert.PairSumClaim.ref_frame_bits, Cert.PairSumClaim.ref_frame_bits_pre,
  fun m ρ _ => Cert.AdamHead.Gen.frame m ρ, fun m ρ _ => Cert.AdamHeadIdeal.Gen.frame m ρ, Cert.AdamHeadClaim.ref_frame,
  fun m ρ _ => Cert.AdamRep.Gen.frame m ρ, fun m ρ _ => Cert.AdamRepIdeal.Gen.frame m ρ, Cert.AdamRepClaim.ref_frame,
  trivial, Cert.LnLossClaim.algebraic, trivial, Cert.PoolClaim.algebraic, trivial, Cert.GateClaim.algebraic, trivial, Cert.MixClaim.algebraic,
  trivial, Cert.PoolFwdClaim.algebraic, Cert.LruFwdClaim.preserves, Cert.LruFwdClaim.algebraic,
  trivial, Cert.OutClaim.algebraic, trivial, Cert.MlpClaim.algebraic, trivial, Cert.AdamClaim.algebraic,
  trivial, Cert.GradXClaim.algebraic, trivial, Cert.LossSumClaim.algebraic, trivial, Cert.CastXClaim.algebraic,
  Cert.CastXClaim.bitexact, trivial, Cert.PairSumClaim.algebraic, Cert.PairSumClaim.bitexact,
  trivial, Cert.AdamHeadClaim.algebraic,
  trivial, Cert.AdamRepClaim.algebraic⟩

end Cert.Proof

end
